-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_ffn_finite [hPre_ffn_finite : Cert.Pre_ffn_finite.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).1 = (fun _ => 1#1)
    ∧ (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).2.1 = (fun _ => 1#1)
    ∧ (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).2.2.1 = (fun _ => 1#1)
    ∧ (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).2.2.2.1 = (fun _ => 1#1)
    ∧ (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).2.2.2.2 = (fun _ => 1#1)

def Pre_FfnBwdRefIdeal (m : (ℓ : Loc Cert.FfnBwdRefIdeal.nD Cert.FfnBwdRefIdeal.τ Cert.FfnBwdRefIdeal.sig) → Buf (Elt Ideal) ℓ) : Prop :=
  True

def Pre_FfnBwdRefIdeal_ffn_finite [hPre_ffn_finite : Cert.Pre_ffn_finite.Facts] (m : (ℓ : Loc Cert.FfnBwdRefIdeal.nD Cert.FfnBwdRefIdeal.τ Cert.FfnBwdRefIdeal.sig) → Buf (Elt Ideal) ℓ) : Prop :=
  ∀ c : Dev Cert.FfnBwdRefIdeal.nD,
    (Cert.Pre_ffn_finite.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4))).1 = (fun _ => 1#1)
    ∧ (Cert.Pre_ffn_finite.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4))).2.1 = (fun _ => 1#1)
    ∧ (Cert.Pre_ffn_finite.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4))).2.2.1 = (fun _ => 1#1)
    ∧ (Cert.Pre_ffn_finite.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4))).2.2.2.1 = (fun _ => 1#1)
    ∧ (Cert.Pre_ffn_finite.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4))).2.2.2.2 = (fun _ => 1#1)

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_FfnLoss (m : (ℓ : Loc Cert.FfnLoss.nD Cert.FfnLoss.τ Cert.FfnLoss.sig) → Buf (Elt Bits) ℓ) : Prop :=
  True

def Pre_FfnLossIdeal (m : (ℓ : Loc Cert.FfnLossIdeal.nD Cert.FfnLossIdeal.τ Cert.FfnLossIdeal.sig) → Buf (Elt Ideal) ℓ) : Prop :=
  True

def Pre_FfnLossRefIdeal (m : (ℓ : Loc Cert.FfnLossRefIdeal.nD Cert.FfnLossRefIdeal.τ Cert.FfnLossRefIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdIdeal_in_finite [hPre_in_finite : Cert.Pre_in_finite.Facts] (m : (ℓ : Loc Cert.InBwdIdeal.nD Cert.InBwdIdeal.τ Cert.InBwdIdeal.sig) → Buf (Elt Ideal) ℓ) : Prop :=
  ∀ c : Dev Cert.InBwdIdeal.nD,
    (Cert.Pre_in_finite.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4))).1 = (fun _ => 1#1)
    ∧ (Cert.Pre_in_finite.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4))).2.1 = (fun _ => 1#1)
    ∧ (Cert.Pre_in_finite.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4))).2.2.1 = (fun _ => 1#1)
    ∧ (Cert.Pre_in_finite.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4))).2.2.2 = (fun _ => 1#1)

def Pre_InBwdRefIdeal (m : (ℓ : Loc Cert.InBwdRefIdeal.nD Cert.InBwdRefIdeal.τ Cert.InBwdRefIdeal.sig) → Buf (Elt Ideal) ℓ) : Prop :=
  True

def Pre_InBwdRefIdeal_in_finite [hPre_in_finite : Cert.Pre_in_finite.Facts] (m : (ℓ : Loc Cert.InBwdRefIdeal.nD Cert.InBwdRefIdeal.τ Cert.InBwdRefIdeal.sig) → Buf (Elt Ideal) ℓ) : Prop :=
  ∀ c : Dev Cert.InBwdRefIdeal.nD,
    (Cert.Pre_in_finite.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4))).1 = (fun _ => 1#1)
    ∧ (Cert.Pre_in_finite.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4))).2.1 = (fun _ => 1#1)
    ∧ (Cert.Pre_in_finite.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4))).2.2.1 = (fun _ => 1#1)
    ∧ (Cert.Pre_in_finite.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4))).2.2.2 = (fun _ => 1#1)

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_DwFf1 (m : (ℓ : Loc Cert.DwFf1.nD Cert.DwFf1.τ Cert.DwFf1.sig) → Buf (Elt Bits) ℓ) : Prop :=
  True

def Pre_DwFf1Ideal (m : (ℓ : Loc Cert.DwFf1Ideal.nD Cert.DwFf1Ideal.τ Cert.DwFf1Ideal.sig) → Buf (Elt Ideal) ℓ) : Prop :=
  True

def Pre_DwFf1RefIdeal (m : (ℓ : Loc Cert.DwFf1RefIdeal.nD Cert.DwFf1RefIdeal.τ Cert.DwFf1RefIdeal.sig) → Buf (Elt Ideal) ℓ) : Prop :=
  True

def Pre_DwFf2 (m : (ℓ : Loc Cert.DwFf2.nD Cert.DwFf2.τ Cert.DwFf2.sig) → Buf (Elt Bits) ℓ) : Prop :=
  True

def Pre_DwFf2Ideal (m : (ℓ : Loc Cert.DwFf2Ideal.nD Cert.DwFf2Ideal.τ Cert.DwFf2Ideal.sig) → Buf (Elt Ideal) ℓ) : Prop :=
  True

def Pre_DwFf2RefIdeal (m : (ℓ : Loc Cert.DwFf2RefIdeal.nD Cert.DwFf2RefIdeal.τ Cert.DwFf2RefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdRefIdeal (m : (ℓ : Loc Cert.OutBwdRefIdeal.nD Cert.OutBwdRefIdeal.τ Cert.OutBwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_SgFwd (m : (ℓ : Loc Cert.SgFwd.nD Cert.SgFwd.τ Cert.SgFwd.sig) → Buf (Elt Bits) ℓ) : Prop :=
  True

def Pre_SgFwdIdeal (m : (ℓ : Loc Cert.SgFwdIdeal.nD Cert.SgFwdIdeal.τ Cert.SgFwdIdeal.sig) → Buf (Elt Ideal) ℓ) : Prop :=
  True

def Pre_SgFwdIdeal_v_finite [hPre_v_finite : Cert.Pre_v_finite.Facts] (m : (ℓ : Loc Cert.SgFwdIdeal.nD Cert.SgFwdIdeal.τ Cert.SgFwdIdeal.sig) → Buf (Elt Ideal) ℓ) : Prop :=
  ∀ c : Dev Cert.SgFwdIdeal.nD,
    (Cert.Pre_v_finite.fn (F := Ideal) (m ((c.tc : Thread Cert.SgFwdIdeal.nD Cert.SgFwdIdeal.τ).loc Cert.SgFwdIdeal.main_arg0)) (m ((c.tc : Thread Cert.SgFwdIdeal.nD Cert.SgFwdIdeal.τ).loc Cert.SgFwdIdeal.main_arg1)) (m ((c.tc : Thread Cert.SgFwdIdeal.nD Cert.SgFwdIdeal.τ).loc Cert.SgFwdIdeal.main_arg2)) (m ((c.tc : Thread Cert.SgFwdIdeal.nD Cert.SgFwdIdeal.τ).loc Cert.SgFwdIdeal.main_arg3)) (m ((c.tc : Thread Cert.SgFwdIdeal.nD Cert.SgFwdIdeal.τ).loc Cert.SgFwdIdeal.main_arg4))) = (fun _ => 1#1)

def Pre_SgFwdRefIdeal (m : (ℓ : Loc Cert.SgFwdRefIdeal.nD Cert.SgFwdRefIdeal.τ Cert.SgFwdRefIdeal.sig) → Buf (Elt Ideal) ℓ) : Prop :=
  True

def Pre_SgFwdRefIdeal_v_finite [hPre_v_finite : Cert.Pre_v_finite.Facts] (m : (ℓ : Loc Cert.SgFwdRefIdeal.nD Cert.SgFwdRefIdeal.τ Cert.SgFwdRefIdeal.sig) → Buf (Elt Ideal) ℓ) : Prop :=
  ∀ c : Dev Cert.SgFwdRefIdeal.nD,
    (Cert.Pre_v_finite.fn (F := Ideal) (m ((c.tc : Thread Cert.SgFwdRefIdeal.nD Cert.SgFwdRefIdeal.τ).loc Cert.SgFwdRefIdeal.main_arg0)) (m ((c.tc : Thread Cert.SgFwdRefIdeal.nD Cert.SgFwdRefIdeal.τ).loc Cert.SgFwdRefIdeal.main_arg1)) (m ((c.tc : Thread Cert.SgFwdRefIdeal.nD Cert.SgFwdRefIdeal.τ).loc Cert.SgFwdRefIdeal.main_arg2)) (m ((c.tc : Thread Cert.SgFwdRefIdeal.nD Cert.SgFwdRefIdeal.τ).loc Cert.SgFwdRefIdeal.main_arg3)) (m ((c.tc : Thread Cert.SgFwdRefIdeal.nD Cert.SgFwdRefIdeal.τ).loc Cert.SgFwdRefIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ r.2.sem = fun _ => 0)

def quiescent_FfnBwdIdeal_pre_ffn_finite [hFfnBwdIdeal : Cert.FfnBwdIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_ffn_finite m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ r.2.sem = fun _ => 0)

def quiescent_FfnBwdRefIdeal [hFfnBwdRefIdeal : Cert.FfnBwdRefIdeal.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4))
      ∧ r.2.sem = fun _ => 0)

def quiescent_FfnBwdRefIdeal_pre_ffn_finite [hFfnBwdRefIdeal : Cert.FfnBwdRefIdeal.Facts] [hPre_ffn_finite : Cert.Pre_ffn_finite.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal_ffn_finite m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3))
      ∧ r.2.sem = fun _ => 0)

def quiescent_FfnLoss [hFfnLoss : Cert.FfnLoss.Facts] : Prop :=
  ∀ (m : (ℓ : Loc Cert.FfnLoss.nD Cert.FfnLoss.τ Cert.FfnLoss.sig) → Buf (Elt Bits) ℓ) (g : Dev Cert.FfnLoss.nD → PrngReg), Pre_FfnLoss m →
    θ_run (Cert.FfnLoss.defs (F := Bits)) (onTc (τ := Cert.FfnLoss.τ) (Cert.FfnLoss.main (F := Bits))) ⟨m, fun _ => 0, g⟩ (fun r => (∀ c : Dev Cert.FfnLoss.nD,
      r.2.mem ((c.tc : Thread Cert.FfnLoss.nD Cert.FfnLoss.τ).loc Cert.FfnLoss.main_arg0) = m ((c.tc : Thread Cert.FfnLoss.nD Cert.FfnLoss.τ).loc Cert.FfnLoss.main_arg0)
      ∧ r.2.mem ((c.tc : Thread Cert.FfnLoss.nD Cert.FfnLoss.τ).loc Cert.FfnLoss.main_arg1) = m ((c.tc : Thread Cert.FfnLoss.nD Cert.FfnLoss.τ).loc Cert.FfnLoss.main_arg1)
      ∧ r.2.mem ((c.tc : Thread Cert.FfnLoss.nD Cert.FfnLoss.τ).loc Cert.FfnLoss.main_arg2) = m ((c.tc : Thread Cert.FfnLoss.nD Cert.FfnLoss.τ).loc Cert.FfnLoss.main_arg2)
      ∧ r.2.mem ((c.tc : Thread Cert.FfnLoss.nD Cert.FfnLoss.τ).loc Cert.FfnLoss.main_arg3) = m ((c.tc : Thread Cert.FfnLoss.nD Cert.FfnLoss.τ).loc Cert.FfnLoss.main_arg3)
      ∧ r.2.mem ((c.tc : Thread Cert.FfnLoss.nD Cert.FfnLoss.τ).loc Cert.FfnLoss.main_arg4) = m ((c.tc : Thread Cert.FfnLoss.nD Cert.FfnLoss.τ).loc Cert.FfnLoss.main_arg4))
      ∧ r.2.sem = fun _ => 0)

def quiescent_FfnLossIdeal [hFfnLossIdeal : Cert.FfnLossIdeal.Facts] : Prop :=
  ∀ (m : (ℓ : Loc Cert.FfnLossIdeal.nD Cert.FfnLossIdeal.τ Cert.FfnLossIdeal.sig) → Buf (Elt Ideal) ℓ) (g : Dev Cert.FfnLossIdeal.nD → PrngReg), Pre_FfnLossIdeal m →
    θ_run (Cert.FfnLossIdeal.defs (F := Ideal)) (onTc (τ := Cert.FfnLossIdeal.τ) (Cert.FfnLossIdeal.main (F := Ideal))) ⟨m, fun _ => 0, g⟩ (fun r => (∀ c : Dev Cert.FfnLossIdeal.nD,
      r.2.mem ((c.tc : Thread Cert.FfnLossIdeal.nD Cert.FfnLossIdeal.τ).loc Cert.FfnLossIdeal.main_arg0) = m ((c.tc : Thread Cert.FfnLossIdeal.nD Cert.FfnLossIdeal.τ).loc Cert.FfnLossIdeal.main_arg0)
      ∧ r.2.mem ((c.tc : Thread Cert.FfnLossIdeal.nD Cert.FfnLossIdeal.τ).loc Cert.FfnLossIdeal.main_arg1) = m ((c.tc : Thread Cert.FfnLossIdeal.nD Cert.FfnLossIdeal.τ).loc Cert.FfnLossIdeal.main_arg1)
      ∧ r.2.mem ((c.tc : Thread Cert.FfnLossIdeal.nD Cert.FfnLossIdeal.τ).loc Cert.FfnLossIdeal.main_arg2) = m ((c.tc : Thread Cert.FfnLossIdeal.nD Cert.FfnLossIdeal.τ).loc Cert.FfnLossIdeal.main_arg2)
      ∧ r.2.mem ((c.tc : Thread Cert.FfnLossIdeal.nD Cert.FfnLossIdeal.τ).loc Cert.FfnLossIdeal.main_arg3) = m ((c.tc : Thread Cert.FfnLossIdeal.nD Cert.FfnLossIdeal.τ).loc Cert.FfnLossIdeal.main_arg3)
      ∧ r.2.mem ((c.tc : Thread Cert.FfnLossIdeal.nD Cert.FfnLossIdeal.τ).loc Cert.FfnLossIdeal.main_arg4) = m ((c.tc : Thread Cert.FfnLossIdeal.nD Cert.FfnLossIdeal.τ).loc Cert.FfnLossIdeal.main_arg4))
      ∧ r.2.sem = fun _ => 0)

def quiescent_FfnLossRefIdeal [hFfnLossRefIdeal : Cert.FfnLossRefIdeal.Facts] : Prop :=
  ∀ (m : (ℓ : Loc Cert.FfnLossRefIdeal.nD Cert.FfnLossRefIdeal.τ Cert.FfnLossRefIdeal.sig) → Buf (Elt Ideal) ℓ) (g : Dev Cert.FfnLossRefIdeal.nD → PrngReg), Pre_FfnLossRefIdeal m →
    θ_run (Cert.FfnLossRefIdeal.defs (F := Ideal)) (onTc (τ := Cert.FfnLossRefIdeal.τ) (Cert.FfnLossRefIdeal.main (F := Ideal))) ⟨m, fun _ => 0, g⟩ (fun r => (∀ c : Dev Cert.FfnLossRefIdeal.nD,
      r.2.mem ((c.tc : Thread Cert.FfnLossRefIdeal.nD Cert.FfnLossRefIdeal.τ).loc Cert.FfnLossRefIdeal.main_arg0) = m ((c.tc : Thread Cert.FfnLossRefIdeal.nD Cert.FfnLossRefIdeal.τ).loc Cert.FfnLossRefIdeal.main_arg0)
      ∧ r.2.mem ((c.tc : Thread Cert.FfnLossRefIdeal.nD Cert.FfnLossRefIdeal.τ).loc Cert.FfnLossRefIdeal.main_arg1) = m ((c.tc : Thread Cert.FfnLossRefIdeal.nD Cert.FfnLossRefIdeal.τ).loc Cert.FfnLossRefIdeal.main_arg1)
      ∧ r.2.mem ((c.tc : Thread Cert.FfnLossRefIdeal.nD Cert.FfnLossRefIdeal.τ).loc Cert.FfnLossRefIdeal.main_arg2) = m ((c.tc : Thread Cert.FfnLossRefIdeal.nD Cert.FfnLossRefIdeal.τ).loc Cert.FfnLossRefIdeal.main_arg2)
      ∧ r.2.mem ((c.tc : Thread Cert.FfnLossRefIdeal.nD Cert.FfnLossRefIdeal.τ).loc Cert.FfnLossRefIdeal.main_arg3) = m ((c.tc : Thread Cert.FfnLossRefIdeal.nD Cert.FfnLossRefIdeal.τ).loc Cert.FfnLossRefIdeal.main_arg3)
      ∧ r.2.mem ((c.tc : Thread Cert.FfnLossRefIdeal.nD Cert.FfnLossRefIdeal.τ).loc Cert.FfnLossRefIdeal.main_arg4) = m ((c.tc : Thread Cert.FfnLossRefIdeal.nD Cert.FfnLossRefIdeal.τ).loc Cert.FfnLossRefIdeal.main_arg4))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ r.2.sem = fun _ => 0)

def quiescent_InBwdIdeal_pre_in_finite [hInBwdIdeal : Cert.InBwdIdeal.Facts] [hPre_in_finite : Cert.Pre_in_finite.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal_in_finite m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4))
      ∧ r.2.sem = fun _ => 0)

def quiescent_InBwdRefIdeal_pre_in_finite [hInBwdRefIdeal : Cert.InBwdRefIdeal.Facts] [hPre_in_finite : Cert.Pre_in_finite.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal_in_finite m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1)
      ∧ r.2.mem ((c.tc : Thread Cert.InFwdRefIdeal.nD Cert.InFwdRefIdeal.τ).loc Cert.InFwdRefIdeal.main_arg2) = m ((c.tc : Thread Cert.InFwdRefIdeal.nD Cert.InFwdRefIdeal.τ).loc Cert.InFwdRefIdeal.main_arg2))
      ∧ r.2.sem = fun _ => 0)

def quiescent_DwFf1 [hDwFf1 : Cert.DwFf1.Facts] : Prop :=
  ∀ (m : (ℓ : Loc Cert.DwFf1.nD Cert.DwFf1.τ Cert.DwFf1.sig) → Buf (Elt Bits) ℓ) (g : Dev Cert.DwFf1.nD → PrngReg), Pre_DwFf1 m →
    θ_run (Cert.DwFf1.defs (F := Bits)) (onTc (τ := Cert.DwFf1.τ) (Cert.DwFf1.main (F := Bits))) ⟨m, fun _ => 0, g⟩ (fun r => (∀ c : Dev Cert.DwFf1.nD,
      r.2.mem ((c.tc : Thread Cert.DwFf1.nD Cert.DwFf1.τ).loc Cert.DwFf1.main_arg0) = m ((c.tc : Thread Cert.DwFf1.nD Cert.DwFf1.τ).loc Cert.DwFf1.main_arg0)
      ∧ r.2.mem ((c.tc : Thread Cert.DwFf1.nD Cert.DwFf1.τ).loc Cert.DwFf1.main_arg1) = m ((c.tc : Thread Cert.DwFf1.nD Cert.DwFf1.τ).loc Cert.DwFf1.main_arg1)
      ∧ r.2.mem ((c.tc : Thread Cert.DwFf1.nD Cert.DwFf1.τ).loc Cert.DwFf1.main_arg2) = m ((c.tc : Thread Cert.DwFf1.nD Cert.DwFf1.τ).loc Cert.DwFf1.main_arg2))
      ∧ r.2.sem = fun _ => 0)

def quiescent_DwFf1Ideal [hDwFf1Ideal : Cert.DwFf1Ideal.Facts] : Prop :=
  ∀ (m : (ℓ : Loc Cert.DwFf1Ideal.nD Cert.DwFf1Ideal.τ Cert.DwFf1Ideal.sig) → Buf (Elt Ideal) ℓ) (g : Dev Cert.DwFf1Ideal.nD → PrngReg), Pre_DwFf1Ideal m →
    θ_run (Cert.DwFf1Ideal.defs (F := Ideal)) (onTc (τ := Cert.DwFf1Ideal.τ) (Cert.DwFf1Ideal.main (F := Ideal))) ⟨m, fun _ => 0, g⟩ (fun r => (∀ c : Dev Cert.DwFf1Ideal.nD,
      r.2.mem ((c.tc : Thread Cert.DwFf1Ideal.nD Cert.DwFf1Ideal.τ).loc Cert.DwFf1Ideal.main_arg0) = m ((c.tc : Thread Cert.DwFf1Ideal.nD Cert.DwFf1Ideal.τ).loc Cert.DwFf1Ideal.main_arg0)
      ∧ r.2.mem ((c.tc : Thread Cert.DwFf1Ideal.nD Cert.DwFf1Ideal.τ).loc Cert.DwFf1Ideal.main_arg1) = m ((c.tc : Thread Cert.DwFf1Ideal.nD Cert.DwFf1Ideal.τ).loc Cert.DwFf1Ideal.main_arg1)
      ∧ r.2.mem ((c.tc : Thread Cert.DwFf1Ideal.nD Cert.DwFf1Ideal.τ).loc Cert.DwFf1Ideal.main_arg2) = m ((c.tc : Thread Cert.DwFf1Ideal.nD Cert.DwFf1Ideal.τ).loc Cert.DwFf1Ideal.main_arg2))
      ∧ r.2.sem = fun _ => 0)

def quiescent_DwFf1RefIdeal [hDwFf1RefIdeal : Cert.DwFf1RefIdeal.Facts] : Prop :=
  ∀ (m : (ℓ : Loc Cert.DwFf1RefIdeal.nD Cert.DwFf1RefIdeal.τ Cert.DwFf1RefIdeal.sig) → Buf (Elt Ideal) ℓ) (g : Dev Cert.DwFf1RefIdeal.nD → PrngReg), Pre_DwFf1RefIdeal m →
    θ_run (Cert.DwFf1RefIdeal.defs (F := Ideal)) (onTc (τ := Cert.DwFf1RefIdeal.τ) (Cert.DwFf1RefIdeal.main (F := Ideal))) ⟨m, fun _ => 0, g⟩ (fun r => (∀ c : Dev Cert.DwFf1RefIdeal.nD,
      r.2.mem ((c.tc : Thread Cert.DwFf1RefIdeal.nD Cert.DwFf1RefIdeal.τ).loc Cert.DwFf1RefIdeal.main_arg0) = m ((c.tc : Thread Cert.DwFf1RefIdeal.nD Cert.DwFf1RefIdeal.τ).loc Cert.DwFf1RefIdeal.main_arg0)
      ∧ r.2.mem ((c.tc : Thread Cert.DwFf1RefIdeal.nD Cert.DwFf1RefIdeal.τ).loc Cert.DwFf1RefIdeal.main_arg1) = m ((c.tc : Thread Cert.DwFf1RefIdeal.nD Cert.DwFf1RefIdeal.τ).loc Cert.DwFf1RefIdeal.main_arg1)
      ∧ r.2.mem ((c.tc : Thread Cert.DwFf1RefIdeal.nD Cert.DwFf1RefIdeal.τ).loc Cert.DwFf1RefIdeal.main_arg2) = m ((c.tc : Thread Cert.DwFf1RefIdeal.nD Cert.DwFf1RefIdeal.τ).loc Cert.DwFf1RefIdeal.main_arg2))
      ∧ r.2.sem = fun _ => 0)

def quiescent_DwFf2 [hDwFf2 : Cert.DwFf2.Facts] : Prop :=
  ∀ (m : (ℓ : Loc Cert.DwFf2.nD Cert.DwFf2.τ Cert.DwFf2.sig) → Buf (Elt Bits) ℓ) (g : Dev Cert.DwFf2.nD → PrngReg), Pre_DwFf2 m →
    θ_run (Cert.DwFf2.defs (F := Bits)) (onTc (τ := Cert.DwFf2.τ) (Cert.DwFf2.main (F := Bits))) ⟨m, fun _ => 0, g⟩ (fun r => (∀ c : Dev Cert.DwFf2.nD,
      r.2.mem ((c.tc : Thread Cert.DwFf2.nD Cert.DwFf2.τ).loc Cert.DwFf2.main_arg0) = m ((c.tc : Thread Cert.DwFf2.nD Cert.DwFf2.τ).loc Cert.DwFf2.main_arg0)
      ∧ r.2.mem ((c.tc : Thread Cert.DwFf2.nD Cert.DwFf2.τ).loc Cert.DwFf2.main_arg1) = m ((c.tc : Thread Cert.DwFf2.nD Cert.DwFf2.τ).loc Cert.DwFf2.main_arg1)
      ∧ r.2.mem ((c.tc : Thread Cert.DwFf2.nD Cert.DwFf2.τ).loc Cert.DwFf2.main_arg2) = m ((c.tc : Thread Cert.DwFf2.nD Cert.DwFf2.τ).loc Cert.DwFf2.main_arg2))
      ∧ r.2.sem = fun _ => 0)

def quiescent_DwFf2Ideal [hDwFf2Ideal : Cert.DwFf2Ideal.Facts] : Prop :=
  ∀ (m : (ℓ : Loc Cert.DwFf2Ideal.nD Cert.DwFf2Ideal.τ Cert.DwFf2Ideal.sig) → Buf (Elt Ideal) ℓ) (g : Dev Cert.DwFf2Ideal.nD → PrngReg), Pre_DwFf2Ideal m →
    θ_run (Cert.DwFf2Ideal.defs (F := Ideal)) (onTc (τ := Cert.DwFf2Ideal.τ) (Cert.DwFf2Ideal.main (F := Ideal))) ⟨m, fun _ => 0, g⟩ (fun r => (∀ c : Dev Cert.DwFf2Ideal.nD,
      r.2.mem ((c.tc : Thread Cert.DwFf2Ideal.nD Cert.DwFf2Ideal.τ).loc Cert.DwFf2Ideal.main_arg0) = m ((c.tc : Thread Cert.DwFf2Ideal.nD Cert.DwFf2Ideal.τ).loc Cert.DwFf2Ideal.main_arg0)
      ∧ r.2.mem ((c.tc : Thread Cert.DwFf2Ideal.nD Cert.DwFf2Ideal.τ).loc Cert.DwFf2Ideal.main_arg1) = m ((c.tc : Thread Cert.DwFf2Ideal.nD Cert.DwFf2Ideal.τ).loc Cert.DwFf2Ideal.main_arg1)
      ∧ r.2.mem ((c.tc : Thread Cert.DwFf2Ideal.nD Cert.DwFf2Ideal.τ).loc Cert.DwFf2Ideal.main_arg2) = m ((c.tc : Thread Cert.DwFf2Ideal.nD Cert.DwFf2Ideal.τ).loc Cert.DwFf2Ideal.main_arg2))
      ∧ r.2.sem = fun _ => 0)

def quiescent_DwFf2RefIdeal [hDwFf2RefIdeal : Cert.DwFf2RefIdeal.Facts] : Prop :=
  ∀ (m : (ℓ : Loc Cert.DwFf2RefIdeal.nD Cert.DwFf2RefIdeal.τ Cert.DwFf2RefIdeal.sig) → Buf (Elt Ideal) ℓ) (g : Dev Cert.DwFf2RefIdeal.nD → PrngReg), Pre_DwFf2RefIdeal m →
    θ_run (Cert.DwFf2RefIdeal.defs (F := Ideal)) (onTc (τ := Cert.DwFf2RefIdeal.τ) (Cert.DwFf2RefIdeal.main (F := Ideal))) ⟨m, fun _ => 0, g⟩ (fun r => (∀ c : Dev Cert.DwFf2RefIdeal.nD,
      r.2.mem ((c.tc : Thread Cert.DwFf2RefIdeal.nD Cert.DwFf2RefIdeal.τ).loc Cert.DwFf2RefIdeal.main_arg0) = m ((c.tc : Thread Cert.DwFf2RefIdeal.nD Cert.DwFf2RefIdeal.τ).loc Cert.DwFf2RefIdeal.main_arg0)
      ∧ r.2.mem ((c.tc : Thread Cert.DwFf2RefIdeal.nD Cert.DwFf2RefIdeal.τ).loc Cert.DwFf2RefIdeal.main_arg1) = m ((c.tc : Thread Cert.DwFf2RefIdeal.nD Cert.DwFf2RefIdeal.τ).loc Cert.DwFf2RefIdeal.main_arg1)
      ∧ r.2.mem ((c.tc : Thread Cert.DwFf2RefIdeal.nD Cert.DwFf2RefIdeal.τ).loc Cert.DwFf2RefIdeal.main_arg2) = m ((c.tc : Thread Cert.DwFf2RefIdeal.nD Cert.DwFf2RefIdeal.τ).loc Cert.DwFf2RefIdeal.main_arg2))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1)
      ∧ r.2.mem ((c.tc : Thread Cert.DwIn.nD Cert.DwIn.τ).loc Cert.DwIn.main_arg2) = m ((c.tc : Thread Cert.DwIn.nD Cert.DwIn.τ).loc Cert.DwIn.main_arg2))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1)
      ∧ r.2.mem ((c.tc : Thread Cert.DwInRefIdeal.nD Cert.DwInRefIdeal.τ).loc Cert.DwInRefIdeal.main_arg2) = m ((c.tc : Thread Cert.DwInRefIdeal.nD Cert.DwInRefIdeal.τ).loc Cert.DwInRefIdeal.main_arg2))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1)
      ∧ r.2.mem ((c.tc : Thread Cert.DwOut.nD Cert.DwOut.τ).loc Cert.DwOut.main_arg2) = m ((c.tc : Thread Cert.DwOut.nD Cert.DwOut.τ).loc Cert.DwOut.main_arg2))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
      ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1)
      ∧ r.2.mem ((c.tc : Thread Cert.DwOutRefIdeal.nD Cert.DwOutRefIdeal.τ).loc Cert.DwOutRefIdeal.main_arg2) = m ((c.tc : Thread Cert.DwOutRefIdeal.nD Cert.DwOutRefIdeal.τ).loc Cert.DwOutRefIdeal.main_arg2))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1)
      ∧ r.2.mem ((c.tc : Thread Cert.OutBwd.nD Cert.OutBwd.τ).loc Cert.OutBwd.main_arg2) = m ((c.tc : Thread Cert.OutBwd.nD Cert.OutBwd.τ).loc Cert.OutBwd.main_arg2))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1)
      ∧ r.2.mem ((c.tc : Thread Cert.OutBwdRefIdeal.nD Cert.OutBwdRefIdeal.τ).loc Cert.OutBwdRefIdeal.main_arg2) = m ((c.tc : Thread Cert.OutBwdRefIdeal.nD Cert.OutBwdRefIdeal.τ).loc Cert.OutBwdRefIdeal.main_arg2))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2))
      ∧ r.2.sem = fun _ => 0)

def quiescent_SgFwd [hSgFwd : Cert.SgFwd.Facts] : Prop :=
  ∀ (m : (ℓ : Loc Cert.SgFwd.nD Cert.SgFwd.τ Cert.SgFwd.sig) → Buf (Elt Bits) ℓ) (g : Dev Cert.SgFwd.nD → PrngReg), Pre_SgFwd m →
    θ_run (Cert.SgFwd.defs (F := Bits)) (onTc (τ := Cert.SgFwd.τ) (Cert.SgFwd.main (F := Bits))) ⟨m, fun _ => 0, g⟩ (fun r => (∀ c : Dev Cert.SgFwd.nD,
      r.2.mem ((c.tc : Thread Cert.SgFwd.nD Cert.SgFwd.τ).loc Cert.SgFwd.main_arg0) = m ((c.tc : Thread Cert.SgFwd.nD Cert.SgFwd.τ).loc Cert.SgFwd.main_arg0)
      ∧ r.2.mem ((c.tc : Thread Cert.SgFwd.nD Cert.SgFwd.τ).loc Cert.SgFwd.main_arg1) = m ((c.tc : Thread Cert.SgFwd.nD Cert.SgFwd.τ).loc Cert.SgFwd.main_arg1)
      ∧ r.2.mem ((c.tc : Thread Cert.SgFwd.nD Cert.SgFwd.τ).loc Cert.SgFwd.main_arg2) = m ((c.tc : Thread Cert.SgFwd.nD Cert.SgFwd.τ).loc Cert.SgFwd.main_arg2)
      ∧ r.2.mem ((c.tc : Thread Cert.SgFwd.nD Cert.SgFwd.τ).loc Cert.SgFwd.main_arg3) = m ((c.tc : Thread Cert.SgFwd.nD Cert.SgFwd.τ).loc Cert.SgFwd.main_arg3)
      ∧ r.2.mem ((c.tc : Thread Cert.SgFwd.nD Cert.SgFwd.τ).loc Cert.SgFwd.main_arg4) = m ((c.tc : Thread Cert.SgFwd.nD Cert.SgFwd.τ).loc Cert.SgFwd.main_arg4))
      ∧ r.2.sem = fun _ => 0)

def quiescent_SgFwdIdeal [hSgFwdIdeal : Cert.SgFwdIdeal.Facts] : Prop :=
  ∀ (m : (ℓ : Loc Cert.SgFwdIdeal.nD Cert.SgFwdIdeal.τ Cert.SgFwdIdeal.sig) → Buf (Elt Ideal) ℓ) (g : Dev Cert.SgFwdIdeal.nD → PrngReg), Pre_SgFwdIdeal m →
    θ_run (Cert.SgFwdIdeal.defs (F := Ideal)) (onTc (τ := Cert.SgFwdIdeal.τ) (Cert.SgFwdIdeal.main (F := Ideal))) ⟨m, fun _ => 0, g⟩ (fun r => (∀ c : Dev Cert.SgFwdIdeal.nD,
      r.2.mem ((c.tc : Thread Cert.SgFwdIdeal.nD Cert.SgFwdIdeal.τ).loc Cert.SgFwdIdeal.main_arg0) = m ((c.tc : Thread Cert.SgFwdIdeal.nD Cert.SgFwdIdeal.τ).loc Cert.SgFwdIdeal.main_arg0)
      ∧ r.2.mem ((c.tc : Thread Cert.SgFwdIdeal.nD Cert.SgFwdIdeal.τ).loc Cert.SgFwdIdeal.main_arg1) = m ((c.tc : Thread Cert.SgFwdIdeal.nD Cert.SgFwdIdeal.τ).loc Cert.SgFwdIdeal.main_arg1)
      ∧ r.2.mem ((c.tc : Thread Cert.SgFwdIdeal.nD Cert.SgFwdIdeal.τ).loc Cert.SgFwdIdeal.main_arg2) = m ((c.tc : Thread Cert.SgFwdIdeal.nD Cert.SgFwdIdeal.τ).loc Cert.SgFwdIdeal.main_arg2)
      ∧ r.2.mem ((c.tc : Thread Cert.SgFwdIdeal.nD Cert.SgFwdIdeal.τ).loc Cert.SgFwdIdeal.main_arg3) = m ((c.tc : Thread Cert.SgFwdIdeal.nD Cert.SgFwdIdeal.τ).loc Cert.SgFwdIdeal.main_arg3)
      ∧ r.2.mem ((c.tc : Thread Cert.SgFwdIdeal.nD Cert.SgFwdIdeal.τ).loc Cert.SgFwdIdeal.main_arg4) = m ((c.tc : Thread Cert.SgFwdIdeal.nD Cert.SgFwdIdeal.τ).loc Cert.SgFwdIdeal.main_arg4))
      ∧ r.2.sem = fun _ => 0)

def quiescent_SgFwdIdeal_pre_v_finite [hSgFwdIdeal : Cert.SgFwdIdeal.Facts] [hPre_v_finite : Cert.Pre_v_finite.Facts] : Prop :=
  ∀ (m : (ℓ : Loc Cert.SgFwdIdeal.nD Cert.SgFwdIdeal.τ Cert.SgFwdIdeal.sig) → Buf (Elt Ideal) ℓ) (g : Dev Cert.SgFwdIdeal.nD → PrngReg), Pre_SgFwdIdeal_v_finite m →
    θ_run (Cert.SgFwdIdeal.defs (F := Ideal)) (onTc (τ := Cert.SgFwdIdeal.τ) (Cert.SgFwdIdeal.main (F := Ideal))) ⟨m, fun _ => 0, g⟩ (fun r => (∀ c : Dev Cert.SgFwdIdeal.nD,
      r.2.mem ((c.tc : Thread Cert.SgFwdIdeal.nD Cert.SgFwdIdeal.τ).loc Cert.SgFwdIdeal.main_arg0) = m ((c.tc : Thread Cert.SgFwdIdeal.nD Cert.SgFwdIdeal.τ).loc Cert.SgFwdIdeal.main_arg0)
      ∧ r.2.mem ((c.tc : Thread Cert.SgFwdIdeal.nD Cert.SgFwdIdeal.τ).loc Cert.SgFwdIdeal.main_arg1) = m ((c.tc : Thread Cert.SgFwdIdeal.nD Cert.SgFwdIdeal.τ).loc Cert.SgFwdIdeal.main_arg1)
      ∧ r.2.mem ((c.tc : Thread Cert.SgFwdIdeal.nD Cert.SgFwdIdeal.τ).loc Cert.SgFwdIdeal.main_arg2) = m ((c.tc : Thread Cert.SgFwdIdeal.nD Cert.SgFwdIdeal.τ).loc Cert.SgFwdIdeal.main_arg2)
      ∧ r.2.mem ((c.tc : Thread Cert.SgFwdIdeal.nD Cert.SgFwdIdeal.τ).loc Cert.SgFwdIdeal.main_arg3) = m ((c.tc : Thread Cert.SgFwdIdeal.nD Cert.SgFwdIdeal.τ).loc Cert.SgFwdIdeal.main_arg3)
      ∧ r.2.mem ((c.tc : Thread Cert.SgFwdIdeal.nD Cert.SgFwdIdeal.τ).loc Cert.SgFwdIdeal.main_arg4) = m ((c.tc : Thread Cert.SgFwdIdeal.nD Cert.SgFwdIdeal.τ).loc Cert.SgFwdIdeal.main_arg4))
      ∧ r.2.sem = fun _ => 0)

def quiescent_SgFwdRefIdeal [hSgFwdRefIdeal : Cert.SgFwdRefIdeal.Facts] : Prop :=
  ∀ (m : (ℓ : Loc Cert.SgFwdRefIdeal.nD Cert.SgFwdRefIdeal.τ Cert.SgFwdRefIdeal.sig) → Buf (Elt Ideal) ℓ) (g : Dev Cert.SgFwdRefIdeal.nD → PrngReg), Pre_SgFwdRefIdeal m →
    θ_run (Cert.SgFwdRefIdeal.defs (F := Ideal)) (onTc (τ := Cert.SgFwdRefIdeal.τ) (Cert.SgFwdRefIdeal.main (F := Ideal))) ⟨m, fun _ => 0, g⟩ (fun r => (∀ c : Dev Cert.SgFwdRefIdeal.nD,
      r.2.mem ((c.tc : Thread Cert.SgFwdRefIdeal.nD Cert.SgFwdRefIdeal.τ).loc Cert.SgFwdRefIdeal.main_arg0) = m ((c.tc : Thread Cert.SgFwdRefIdeal.nD Cert.SgFwdRefIdeal.τ).loc Cert.SgFwdRefIdeal.main_arg0)
      ∧ r.2.mem ((c.tc : Thread Cert.SgFwdRefIdeal.nD Cert.SgFwdRefIdeal.τ).loc Cert.SgFwdRefIdeal.main_arg1) = m ((c.tc : Thread Cert.SgFwdRefIdeal.nD Cert.SgFwdRefIdeal.τ).loc Cert.SgFwdRefIdeal.main_arg1)
      ∧ r.2.mem ((c.tc : Thread Cert.SgFwdRefIdeal.nD Cert.SgFwdRefIdeal.τ).loc Cert.SgFwdRefIdeal.main_arg2) = m ((c.tc : Thread Cert.SgFwdRefIdeal.nD Cert.SgFwdRefIdeal.τ).loc Cert.SgFwdRefIdeal.main_arg2)
      ∧ r.2.mem ((c.tc : Thread Cert.SgFwdRefIdeal.nD Cert.SgFwdRefIdeal.τ).loc Cert.SgFwdRefIdeal.main_arg3) = m ((c.tc : Thread Cert.SgFwdRefIdeal.nD Cert.SgFwdRefIdeal.τ).loc Cert.SgFwdRefIdeal.main_arg3)
      ∧ r.2.mem ((c.tc : Thread Cert.SgFwdRefIdeal.nD Cert.SgFwdRefIdeal.τ).loc Cert.SgFwdRefIdeal.main_arg4) = m ((c.tc : Thread Cert.SgFwdRefIdeal.nD Cert.SgFwdRefIdeal.τ).loc Cert.SgFwdRefIdeal.main_arg4))
      ∧ r.2.sem = fun _ => 0)

def quiescent_SgFwdRefIdeal_pre_v_finite [hSgFwdRefIdeal : Cert.SgFwdRefIdeal.Facts] [hPre_v_finite : Cert.Pre_v_finite.Facts] : Prop :=
  ∀ (m : (ℓ : Loc Cert.SgFwdRefIdeal.nD Cert.SgFwdRefIdeal.τ Cert.SgFwdRefIdeal.sig) → Buf (Elt Ideal) ℓ) (g : Dev Cert.SgFwdRefIdeal.nD → PrngReg), Pre_SgFwdRefIdeal_v_finite m →
    θ_run (Cert.SgFwdRefIdeal.defs (F := Ideal)) (onTc (τ := Cert.SgFwdRefIdeal.τ) (Cert.SgFwdRefIdeal.main (F := Ideal))) ⟨m, fun _ => 0, g⟩ (fun r => (∀ c : Dev Cert.SgFwdRefIdeal.nD,
      r.2.mem ((c.tc : Thread Cert.SgFwdRefIdeal.nD Cert.SgFwdRefIdeal.τ).loc Cert.SgFwdRefIdeal.main_arg0) = m ((c.tc : Thread Cert.SgFwdRefIdeal.nD Cert.SgFwdRefIdeal.τ).loc Cert.SgFwdRefIdeal.main_arg0)
      ∧ r.2.mem ((c.tc : Thread Cert.SgFwdRefIdeal.nD Cert.SgFwdRefIdeal.τ).loc Cert.SgFwdRefIdeal.main_arg1) = m ((c.tc : Thread Cert.SgFwdRefIdeal.nD Cert.SgFwdRefIdeal.τ).loc Cert.SgFwdRefIdeal.main_arg1)
      ∧ r.2.mem ((c.tc : Thread Cert.SgFwdRefIdeal.nD Cert.SgFwdRefIdeal.τ).loc Cert.SgFwdRefIdeal.main_arg2) = m ((c.tc : Thread Cert.SgFwdRefIdeal.nD Cert.SgFwdRefIdeal.τ).loc Cert.SgFwdRefIdeal.main_arg2)
      ∧ r.2.mem ((c.tc : Thread Cert.SgFwdRefIdeal.nD Cert.SgFwdRefIdeal.τ).loc Cert.SgFwdRefIdeal.main_arg3) = m ((c.tc : Thread Cert.SgFwdRefIdeal.nD Cert.SgFwdRefIdeal.τ).loc Cert.SgFwdRefIdeal.main_arg3)
      ∧ r.2.mem ((c.tc : Thread Cert.SgFwdRefIdeal.nD Cert.SgFwdRefIdeal.τ).loc Cert.SgFwdRefIdeal.main_arg4) = m ((c.tc : Thread Cert.SgFwdRefIdeal.nD Cert.SgFwdRefIdeal.τ).loc Cert.SgFwdRefIdeal.main_arg4))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_v138) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_v140) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_FfnBwd_FfnBwdIdeal : Prop :=
  True

def algebraic_FfnBwdIdeal_FfnBwdRefIdeal_pre_ffn_finite [hFfnBwdIdeal : Cert.FfnBwdIdeal.Facts] [hFfnBwdRefIdeal : Cert.FfnBwdRefIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdRefIdeal.nD Cert.FfnBwdRefIdeal.τ Cert.FfnBwdRefIdeal.sig) → Buf (Elt Ideal) ℓ) (g' : Dev Cert.FfnBwdRefIdeal.nD → PrngReg), Pre_FfnBwdIdeal_ffn_finite m →
    (∀ c : Dev Cert.FfnBwdIdeal.nD,
      m' ((c.tc : Thread Cert.FfnBwdRefIdeal.nD Cert.FfnBwdRefIdeal.τ).loc Cert.FfnBwdRefIdeal.main_arg0) = m ((c.tc : Thread Cert.FfnBwdIdeal.nD Cert.FfnBwdIdeal.τ).loc Cert.FfnBwdIdeal.main_arg0)
      ∧ m' ((c.tc : Thread Cert.FfnBwdRefIdeal.nD Cert.FfnBwdRefIdeal.τ).loc Cert.FfnBwdRefIdeal.main_arg1) = m ((c.tc : Thread Cert.FfnBwdIdeal.nD Cert.FfnBwdIdeal.τ).loc Cert.FfnBwdIdeal.main_arg1)
      ∧ m' ((c.tc : Thread Cert.FfnBwdRefIdeal.nD Cert.FfnBwdRefIdeal.τ).loc Cert.FfnBwdRefIdeal.main_arg2) = m ((c.tc : Thread Cert.FfnBwdIdeal.nD Cert.FfnBwdIdeal.τ).loc Cert.FfnBwdIdeal.main_arg2)
      ∧ m' ((c.tc : Thread Cert.FfnBwdRefIdeal.nD Cert.FfnBwdRefIdeal.τ).loc Cert.FfnBwdRefIdeal.main_arg3) = m ((c.tc : Thread Cert.FfnBwdIdeal.nD Cert.FfnBwdIdeal.τ).loc Cert.FfnBwdIdeal.main_arg3)
      ∧ m' ((c.tc : Thread Cert.FfnBwdRefIdeal.nD Cert.FfnBwdRefIdeal.τ).loc Cert.FfnBwdRefIdeal.main_arg4) = m ((c.tc : Thread Cert.FfnBwdIdeal.nD Cert.FfnBwdIdeal.τ).loc Cert.FfnBwdIdeal.main_arg4)) →
    ∃ (v0 : (c : Dev Cert.FfnBwdIdeal.nD) → Buf (Elt Ideal) ((c.tc : Thread Cert.FfnBwdIdeal.nD Cert.FfnBwdIdeal.τ).loc Cert.FfnBwdIdeal.main_v21_0)) (v1 : (c : Dev Cert.FfnBwdIdeal.nD) → Buf (Elt Ideal) ((c.tc : Thread Cert.FfnBwdIdeal.nD Cert.FfnBwdIdeal.τ).loc Cert.FfnBwdIdeal.main_v21_1)) (v2 : (c : Dev Cert.FfnBwdIdeal.nD) → Buf (Elt Ideal) ((c.tc : Thread Cert.FfnBwdIdeal.nD Cert.FfnBwdIdeal.τ).loc Cert.FfnBwdIdeal.main_v21_2)) (v3 : (c : Dev Cert.FfnBwdIdeal.nD) → Buf (Elt Ideal) ((c.tc : Thread Cert.FfnBwdIdeal.nD Cert.FfnBwdIdeal.τ).loc Cert.FfnBwdIdeal.main_v21_3)) (v4 : (c : Dev Cert.FfnBwdIdeal.nD) → Buf (Elt Ideal) ((c.tc : Thread Cert.FfnBwdIdeal.nD Cert.FfnBwdIdeal.τ).loc Cert.FfnBwdIdeal.main_v21_4)) (v5 : (c : Dev Cert.FfnBwdIdeal.nD) → Buf (Elt Ideal) ((c.tc : Thread Cert.FfnBwdIdeal.nD Cert.FfnBwdIdeal.τ).loc Cert.FfnBwdIdeal.main_v21_5)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v21_0) = v0 c
          ∧ r.2.mem ((c.tc : Thread Cert.FfnBwdIdeal.nD Cert.FfnBwdIdeal.τ).loc Cert.FfnBwdIdeal.main_v21_1) = v1 c
          ∧ r.2.mem ((c.tc : Thread Cert.FfnBwdIdeal.nD Cert.FfnBwdIdeal.τ).loc Cert.FfnBwdIdeal.main_v21_2) = v2 c
          ∧ r.2.mem ((c.tc : Thread Cert.FfnBwdIdeal.nD Cert.FfnBwdIdeal.τ).loc Cert.FfnBwdIdeal.main_v21_3) = v3 c
          ∧ r.2.mem ((c.tc : Thread Cert.FfnBwdIdeal.nD Cert.FfnBwdIdeal.τ).loc Cert.FfnBwdIdeal.main_v21_4) = v4 c
          ∧ r.2.mem ((c.tc : Thread Cert.FfnBwdIdeal.nD Cert.FfnBwdIdeal.τ).loc Cert.FfnBwdIdeal.main_v21_5) = v5 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ θ_run (Cert.FfnBwdRefIdeal.defs (F := Ideal)) (onTc (τ := Cert.FfnBwdRefIdeal.τ) (Cert.FfnBwdRefIdeal.main (F := Ideal))) ⟨m', fun _ => 0, g'⟩ (fun r => ∀ c : Dev Cert.FfnBwdRefIdeal.nD,
          r.2.mem ((c.tc : Thread Cert.FfnBwdRefIdeal.nD Cert.FfnBwdRefIdeal.τ).loc Cert.FfnBwdRefIdeal.main_v52) = v0 c
          ∧ r.2.mem ((c.tc : Thread Cert.FfnBwdRefIdeal.nD Cert.FfnBwdRefIdeal.τ).loc Cert.FfnBwdRefIdeal.main_v79) = v1 c
          ∧ r.2.mem ((c.tc : Thread Cert.FfnBwdRefIdeal.nD Cert.FfnBwdRefIdeal.τ).loc Cert.FfnBwdRefIdeal.main_v80) = v2 c
          ∧ r.2.mem ((c.tc : Thread Cert.FfnBwdRefIdeal.nD Cert.FfnBwdRefIdeal.τ).loc Cert.FfnBwdRefIdeal.main_v83) = v3 c
          ∧ r.2.mem ((c.tc : Thread Cert.FfnBwdRefIdeal.nD Cert.FfnBwdRefIdeal.τ).loc Cert.FfnBwdRefIdeal.main_v84) = v4 c
          ∧ r.2.mem ((c.tc : Thread Cert.FfnBwdRefIdeal.nD Cert.FfnBwdRefIdeal.τ).loc Cert.FfnBwdRefIdeal.main_v85) = v5 c
          ∧ r.2.mem ((c.tc : Thread Cert.FfnBwdRefIdeal.nD Cert.FfnBwdRefIdeal.τ).loc Cert.FfnBwdRefIdeal.main_arg0) = m' ((c.tc : Thread Cert.FfnBwdRefIdeal.nD Cert.FfnBwdRefIdeal.τ).loc Cert.FfnBwdRefIdeal.main_arg0)
          ∧ r.2.mem ((c.tc : Thread Cert.FfnBwdRefIdeal.nD Cert.FfnBwdRefIdeal.τ).loc Cert.FfnBwdRefIdeal.main_arg1) = m' ((c.tc : Thread Cert.FfnBwdRefIdeal.nD Cert.FfnBwdRefIdeal.τ).loc Cert.FfnBwdRefIdeal.main_arg1)
          ∧ r.2.mem ((c.tc : Thread Cert.FfnBwdRefIdeal.nD Cert.FfnBwdRefIdeal.τ).loc Cert.FfnBwdRefIdeal.main_arg2) = m' ((c.tc : Thread Cert.FfnBwdRefIdeal.nD Cert.FfnBwdRefIdeal.τ).loc Cert.FfnBwdRefIdeal.main_arg2)
          ∧ r.2.mem ((c.tc : Thread Cert.FfnBwdRefIdeal.nD Cert.FfnBwdRefIdeal.τ).loc Cert.FfnBwdRefIdeal.main_arg3) = m' ((c.tc : Thread Cert.FfnBwdRefIdeal.nD Cert.FfnBwdRefIdeal.τ).loc Cert.FfnBwdRefIdeal.main_arg3)
          ∧ r.2.mem ((c.tc : Thread Cert.FfnBwdRefIdeal.nD Cert.FfnBwdRefIdeal.τ).loc Cert.FfnBwdRefIdeal.main_arg4) = m' ((c.tc : Thread Cert.FfnBwdRefIdeal.nD Cert.FfnBwdRefIdeal.τ).loc Cert.FfnBwdRefIdeal.main_arg4))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)) →
    ∃ (v0 : (c : Dev Cert.FfnFwdIdeal.nD) → Buf (Elt Ideal) ((c.tc : Thread Cert.FfnFwdIdeal.nD Cert.FfnFwdIdeal.τ).loc Cert.FfnFwdIdeal.main_v5_0)) (v1 : (c : Dev Cert.FfnFwdIdeal.nD) → Buf (Elt Ideal) ((c.tc : Thread Cert.FfnFwdIdeal.nD Cert.FfnFwdIdeal.τ).loc Cert.FfnFwdIdeal.main_v5_1)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v5_0) = v0 c
          ∧ r.2.mem ((c.tc : Thread Cert.FfnFwdIdeal.nD Cert.FfnFwdIdeal.τ).loc Cert.FfnFwdIdeal.main_v5_1) = v1 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v17) = v0 c
          ∧ r.2.mem ((c.tc : Thread Cert.FfnFwdRefIdeal.nD Cert.FfnFwdRefIdeal.τ).loc Cert.FfnFwdRefIdeal.main_v33) = v1 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3))

def preserves_FfnLoss_FfnLossIdeal : Prop :=
  True

def algebraic_FfnLossIdeal_FfnLossRefIdeal [hFfnLossIdeal : Cert.FfnLossIdeal.Facts] [hFfnLossRefIdeal : Cert.FfnLossRefIdeal.Facts] : Prop :=
  ∀ (m : (ℓ : Loc Cert.FfnLossIdeal.nD Cert.FfnLossIdeal.τ Cert.FfnLossIdeal.sig) → Buf (Elt Ideal) ℓ) (g : Dev Cert.FfnLossIdeal.nD → PrngReg)
    (m' : (ℓ : Loc Cert.FfnLossRefIdeal.nD Cert.FfnLossRefIdeal.τ Cert.FfnLossRefIdeal.sig) → Buf (Elt Ideal) ℓ) (g' : Dev Cert.FfnLossRefIdeal.nD → PrngReg), Pre_FfnLossIdeal m →
    (∀ c : Dev Cert.FfnLossIdeal.nD,
      m' ((c.tc : Thread Cert.FfnLossRefIdeal.nD Cert.FfnLossRefIdeal.τ).loc Cert.FfnLossRefIdeal.main_arg0) = m ((c.tc : Thread Cert.FfnLossIdeal.nD Cert.FfnLossIdeal.τ).loc Cert.FfnLossIdeal.main_arg0)
      ∧ m' ((c.tc : Thread Cert.FfnLossRefIdeal.nD Cert.FfnLossRefIdeal.τ).loc Cert.FfnLossRefIdeal.main_arg1) = m ((c.tc : Thread Cert.FfnLossIdeal.nD Cert.FfnLossIdeal.τ).loc Cert.FfnLossIdeal.main_arg1)
      ∧ m' ((c.tc : Thread Cert.FfnLossRefIdeal.nD Cert.FfnLossRefIdeal.τ).loc Cert.FfnLossRefIdeal.main_arg2) = m ((c.tc : Thread Cert.FfnLossIdeal.nD Cert.FfnLossIdeal.τ).loc Cert.FfnLossIdeal.main_arg2)
      ∧ m' ((c.tc : Thread Cert.FfnLossRefIdeal.nD Cert.FfnLossRefIdeal.τ).loc Cert.FfnLossRefIdeal.main_arg3) = m ((c.tc : Thread Cert.FfnLossIdeal.nD Cert.FfnLossIdeal.τ).loc Cert.FfnLossIdeal.main_arg3)
      ∧ m' ((c.tc : Thread Cert.FfnLossRefIdeal.nD Cert.FfnLossRefIdeal.τ).loc Cert.FfnLossRefIdeal.main_arg4) = m ((c.tc : Thread Cert.FfnLossIdeal.nD Cert.FfnLossIdeal.τ).loc Cert.FfnLossIdeal.main_arg4)) →
    ∃ (v0 : (c : Dev Cert.FfnLossIdeal.nD) → Buf (Elt Ideal) ((c.tc : Thread Cert.FfnLossIdeal.nD Cert.FfnLossIdeal.τ).loc Cert.FfnLossIdeal.main_v5_0)) (v1 : (c : Dev Cert.FfnLossIdeal.nD) → Buf (Elt Ideal) ((c.tc : Thread Cert.FfnLossIdeal.nD Cert.FfnLossIdeal.τ).loc Cert.FfnLossIdeal.main_v5_1)) (v2 : (c : Dev Cert.FfnLossIdeal.nD) → Buf (Elt Ideal) ((c.tc : Thread Cert.FfnLossIdeal.nD Cert.FfnLossIdeal.τ).loc Cert.FfnLossIdeal.main_v5_2)),
      θ_run (Cert.FfnLossIdeal.defs (F := Ideal)) (onTc (τ := Cert.FfnLossIdeal.τ) (Cert.FfnLossIdeal.main (F := Ideal))) ⟨m, fun _ => 0, g⟩ (fun r => ∀ c : Dev Cert.FfnLossIdeal.nD,
          r.2.mem ((c.tc : Thread Cert.FfnLossIdeal.nD Cert.FfnLossIdeal.τ).loc Cert.FfnLossIdeal.main_v5_0) = v0 c
          ∧ r.2.mem ((c.tc : Thread Cert.FfnLossIdeal.nD Cert.FfnLossIdeal.τ).loc Cert.FfnLossIdeal.main_v5_1) = v1 c
          ∧ r.2.mem ((c.tc : Thread Cert.FfnLossIdeal.nD Cert.FfnLossIdeal.τ).loc Cert.FfnLossIdeal.main_v5_2) = v2 c
          ∧ r.2.mem ((c.tc : Thread Cert.FfnLossIdeal.nD Cert.FfnLossIdeal.τ).loc Cert.FfnLossIdeal.main_arg0) = m ((c.tc : Thread Cert.FfnLossIdeal.nD Cert.FfnLossIdeal.τ).loc Cert.FfnLossIdeal.main_arg0)
          ∧ r.2.mem ((c.tc : Thread Cert.FfnLossIdeal.nD Cert.FfnLossIdeal.τ).loc Cert.FfnLossIdeal.main_arg1) = m ((c.tc : Thread Cert.FfnLossIdeal.nD Cert.FfnLossIdeal.τ).loc Cert.FfnLossIdeal.main_arg1)
          ∧ r.2.mem ((c.tc : Thread Cert.FfnLossIdeal.nD Cert.FfnLossIdeal.τ).loc Cert.FfnLossIdeal.main_arg2) = m ((c.tc : Thread Cert.FfnLossIdeal.nD Cert.FfnLossIdeal.τ).loc Cert.FfnLossIdeal.main_arg2)
          ∧ r.2.mem ((c.tc : Thread Cert.FfnLossIdeal.nD Cert.FfnLossIdeal.τ).loc Cert.FfnLossIdeal.main_arg3) = m ((c.tc : Thread Cert.FfnLossIdeal.nD Cert.FfnLossIdeal.τ).loc Cert.FfnLossIdeal.main_arg3)
          ∧ r.2.mem ((c.tc : Thread Cert.FfnLossIdeal.nD Cert.FfnLossIdeal.τ).loc Cert.FfnLossIdeal.main_arg4) = m ((c.tc : Thread Cert.FfnLossIdeal.nD Cert.FfnLossIdeal.τ).loc Cert.FfnLossIdeal.main_arg4))
      ∧ θ_run (Cert.FfnLossRefIdeal.defs (F := Ideal)) (onTc (τ := Cert.FfnLossRefIdeal.τ) (Cert.FfnLossRefIdeal.main (F := Ideal))) ⟨m', fun _ => 0, g'⟩ (fun r => ∀ c : Dev Cert.FfnLossRefIdeal.nD,
          r.2.mem ((c.tc : Thread Cert.FfnLossRefIdeal.nD Cert.FfnLossRefIdeal.τ).loc Cert.FfnLossRefIdeal.main_v40) = v0 c
          ∧ r.2.mem ((c.tc : Thread Cert.FfnLossRefIdeal.nD Cert.FfnLossRefIdeal.τ).loc Cert.FfnLossRefIdeal.main_v56) = v1 c
          ∧ r.2.mem ((c.tc : Thread Cert.FfnLossRefIdeal.nD Cert.FfnLossRefIdeal.τ).loc Cert.FfnLossRefIdeal.main_v25) = v2 c
          ∧ r.2.mem ((c.tc : Thread Cert.FfnLossRefIdeal.nD Cert.FfnLossRefIdeal.τ).loc Cert.FfnLossRefIdeal.main_arg0) = m' ((c.tc : Thread Cert.FfnLossRefIdeal.nD Cert.FfnLossRefIdeal.τ).loc Cert.FfnLossRefIdeal.main_arg0)
          ∧ r.2.mem ((c.tc : Thread Cert.FfnLossRefIdeal.nD Cert.FfnLossRefIdeal.τ).loc Cert.FfnLossRefIdeal.main_arg1) = m' ((c.tc : Thread Cert.FfnLossRefIdeal.nD Cert.FfnLossRefIdeal.τ).loc Cert.FfnLossRefIdeal.main_arg1)
          ∧ r.2.mem ((c.tc : Thread Cert.FfnLossRefIdeal.nD Cert.FfnLossRefIdeal.τ).loc Cert.FfnLossRefIdeal.main_arg2) = m' ((c.tc : Thread Cert.FfnLossRefIdeal.nD Cert.FfnLossRefIdeal.τ).loc Cert.FfnLossRefIdeal.main_arg2)
          ∧ r.2.mem ((c.tc : Thread Cert.FfnLossRefIdeal.nD Cert.FfnLossRefIdeal.τ).loc Cert.FfnLossRefIdeal.main_arg3) = m' ((c.tc : Thread Cert.FfnLossRefIdeal.nD Cert.FfnLossRefIdeal.τ).loc Cert.FfnLossRefIdeal.main_arg3)
          ∧ r.2.mem ((c.tc : Thread Cert.FfnLossRefIdeal.nD Cert.FfnLossRefIdeal.τ).loc Cert.FfnLossRefIdeal.main_arg4) = m' ((c.tc : Thread Cert.FfnLossRefIdeal.nD Cert.FfnLossRefIdeal.τ).loc Cert.FfnLossRefIdeal.main_arg4))

def preserves_InBwd_InBwdIdeal : Prop :=
  True

def algebraic_InBwdIdeal_InBwdRefIdeal_pre_in_finite [hInBwdIdeal : Cert.InBwdIdeal.Facts] [hInBwdRefIdeal : Cert.InBwdRefIdeal.Facts] [hPre_in_finite : Cert.Pre_in_finite.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal_in_finite m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)
      ∧ m' ((c.tc : Thread Cert.InBwdRefIdeal.nD Cert.InBwdRefIdeal.τ).loc Cert.InBwdRefIdeal.main_arg2) = m ((c.tc : Thread Cert.InBwdIdeal.nD Cert.InBwdIdeal.τ).loc Cert.InBwdIdeal.main_arg2)
      ∧ m' ((c.tc : Thread Cert.InBwdRefIdeal.nD Cert.InBwdRefIdeal.τ).loc Cert.InBwdRefIdeal.main_arg3) = m ((c.tc : Thread Cert.InBwdIdeal.nD Cert.InBwdIdeal.τ).loc Cert.InBwdIdeal.main_arg3)
      ∧ m' ((c.tc : Thread Cert.InBwdRefIdeal.nD Cert.InBwdRefIdeal.τ).loc Cert.InBwdRefIdeal.main_arg4) = m ((c.tc : Thread Cert.InBwdIdeal.nD Cert.InBwdIdeal.τ).loc Cert.InBwdIdeal.main_arg4)) →
    ∃ (v0 : (c : Dev Cert.InBwdIdeal.nD) → Buf (Elt Ideal) ((c.tc : Thread Cert.InBwdIdeal.nD Cert.InBwdIdeal.τ).loc Cert.InBwdIdeal.main_v2_0)) (v1 : (c : Dev Cert.InBwdIdeal.nD) → Buf (Elt Ideal) ((c.tc : Thread Cert.InBwdIdeal.nD Cert.InBwdIdeal.τ).loc Cert.InBwdIdeal.main_v2_1)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v2_0) = v0 c
          ∧ r.2.mem ((c.tc : Thread Cert.InBwdIdeal.nD Cert.InBwdIdeal.τ).loc Cert.InBwdIdeal.main_v2_1) = v1 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v39) = v0 c
          ∧ r.2.mem ((c.tc : Thread Cert.InBwdRefIdeal.nD Cert.InBwdRefIdeal.τ).loc Cert.InBwdRefIdeal.main_v40) = v1 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1)
          ∧ r.2.mem ((c.tc : Thread Cert.InBwdRefIdeal.nD Cert.InBwdRefIdeal.τ).loc Cert.InBwdRefIdeal.main_arg2) = m' ((c.tc : Thread Cert.InBwdRefIdeal.nD Cert.InBwdRefIdeal.τ).loc Cert.InBwdRefIdeal.main_arg2)
          ∧ r.2.mem ((c.tc : Thread Cert.InBwdRefIdeal.nD Cert.InBwdRefIdeal.τ).loc Cert.InBwdRefIdeal.main_arg3) = m' ((c.tc : Thread Cert.InBwdRefIdeal.nD Cert.InBwdRefIdeal.τ).loc Cert.InBwdRefIdeal.main_arg3)
          ∧ r.2.mem ((c.tc : Thread Cert.InBwdRefIdeal.nD Cert.InBwdRefIdeal.τ).loc Cert.InBwdRefIdeal.main_arg4) = m' ((c.tc : Thread Cert.InBwdRefIdeal.nD Cert.InBwdRefIdeal.τ).loc Cert.InBwdRefIdeal.main_arg4))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)
      ∧ m' ((c.tc : Thread Cert.InFwdRefIdeal.nD Cert.InFwdRefIdeal.τ).loc Cert.InFwdRefIdeal.main_arg2) = m ((c.tc : Thread Cert.InFwdIdeal.nD Cert.InFwdIdeal.τ).loc Cert.InFwdIdeal.main_arg2)) →
    ∃ (v0 : (c : Dev Cert.InFwdIdeal.nD) → Buf (Elt Ideal) ((c.tc : Thread Cert.InFwdIdeal.nD Cert.InFwdIdeal.τ).loc Cert.InFwdIdeal.main_v2_0)) (v1 : (c : Dev Cert.InFwdIdeal.nD) → Buf (Elt Ideal) ((c.tc : Thread Cert.InFwdIdeal.nD Cert.InFwdIdeal.τ).loc Cert.InFwdIdeal.main_v2_1)) (v2 : (c : Dev Cert.InFwdIdeal.nD) → Buf (Elt Ideal) ((c.tc : Thread Cert.InFwdIdeal.nD Cert.InFwdIdeal.τ).loc Cert.InFwdIdeal.main_v2_2)) (v3 : (c : Dev Cert.InFwdIdeal.nD) → Buf (Elt Ideal) ((c.tc : Thread Cert.InFwdIdeal.nD Cert.InFwdIdeal.τ).loc Cert.InFwdIdeal.main_v2_3)) (v4 : (c : Dev Cert.InFwdIdeal.nD) → Buf (Elt Ideal) ((c.tc : Thread Cert.InFwdIdeal.nD Cert.InFwdIdeal.τ).loc Cert.InFwdIdeal.main_v2_4)) (v5 : (c : Dev Cert.InFwdIdeal.nD) → Buf (Elt Ideal) ((c.tc : Thread Cert.InFwdIdeal.nD Cert.InFwdIdeal.τ).loc Cert.InFwdIdeal.main_v2_5)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v2_0) = v0 c
          ∧ r.2.mem ((c.tc : Thread Cert.InFwdIdeal.nD Cert.InFwdIdeal.τ).loc Cert.InFwdIdeal.main_v2_1) = v1 c
          ∧ r.2.mem ((c.tc : Thread Cert.InFwdIdeal.nD Cert.InFwdIdeal.τ).loc Cert.InFwdIdeal.main_v2_2) = v2 c
          ∧ r.2.mem ((c.tc : Thread Cert.InFwdIdeal.nD Cert.InFwdIdeal.τ).loc Cert.InFwdIdeal.main_v2_3) = v3 c
          ∧ r.2.mem ((c.tc : Thread Cert.InFwdIdeal.nD Cert.InFwdIdeal.τ).loc Cert.InFwdIdeal.main_v2_4) = v4 c
          ∧ r.2.mem ((c.tc : Thread Cert.InFwdIdeal.nD Cert.InFwdIdeal.τ).loc Cert.InFwdIdeal.main_v2_5) = v5 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v14) = v0 c
          ∧ r.2.mem ((c.tc : Thread Cert.InFwdRefIdeal.nD Cert.InFwdRefIdeal.τ).loc Cert.InFwdRefIdeal.main_v15) = v1 c
          ∧ r.2.mem ((c.tc : Thread Cert.InFwdRefIdeal.nD Cert.InFwdRefIdeal.τ).loc Cert.InFwdRefIdeal.main_v16) = v2 c
          ∧ r.2.mem ((c.tc : Thread Cert.InFwdRefIdeal.nD Cert.InFwdRefIdeal.τ).loc Cert.InFwdRefIdeal.main_v18) = v3 c
          ∧ r.2.mem ((c.tc : Thread Cert.InFwdRefIdeal.nD Cert.InFwdRefIdeal.τ).loc Cert.InFwdRefIdeal.main_v20) = v4 c
          ∧ r.2.mem ((c.tc : Thread Cert.InFwdRefIdeal.nD Cert.InFwdRefIdeal.τ).loc Cert.InFwdRefIdeal.main_v21) = v5 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1)
          ∧ r.2.mem ((c.tc : Thread Cert.InFwdRefIdeal.nD Cert.InFwdRefIdeal.τ).loc Cert.InFwdRefIdeal.main_arg2) = m' ((c.tc : Thread Cert.InFwdRefIdeal.nD Cert.InFwdRefIdeal.τ).loc Cert.InFwdRefIdeal.main_arg2))

def preserves_DwFf1_DwFf1Ideal : Prop :=
  True

def algebraic_DwFf1Ideal_DwFf1RefIdeal [hDwFf1Ideal : Cert.DwFf1Ideal.Facts] [hDwFf1RefIdeal : Cert.DwFf1RefIdeal.Facts] : Prop :=
  ∀ (m : (ℓ : Loc Cert.DwFf1Ideal.nD Cert.DwFf1Ideal.τ Cert.DwFf1Ideal.sig) → Buf (Elt Ideal) ℓ) (g : Dev Cert.DwFf1Ideal.nD → PrngReg)
    (m' : (ℓ : Loc Cert.DwFf1RefIdeal.nD Cert.DwFf1RefIdeal.τ Cert.DwFf1RefIdeal.sig) → Buf (Elt Ideal) ℓ) (g' : Dev Cert.DwFf1RefIdeal.nD → PrngReg), Pre_DwFf1Ideal m →
    (∀ c : Dev Cert.DwFf1Ideal.nD,
      m' ((c.tc : Thread Cert.DwFf1RefIdeal.nD Cert.DwFf1RefIdeal.τ).loc Cert.DwFf1RefIdeal.main_arg0) = m ((c.tc : Thread Cert.DwFf1Ideal.nD Cert.DwFf1Ideal.τ).loc Cert.DwFf1Ideal.main_arg0)
      ∧ m' ((c.tc : Thread Cert.DwFf1RefIdeal.nD Cert.DwFf1RefIdeal.τ).loc Cert.DwFf1RefIdeal.main_arg1) = m ((c.tc : Thread Cert.DwFf1Ideal.nD Cert.DwFf1Ideal.τ).loc Cert.DwFf1Ideal.main_arg1)
      ∧ m' ((c.tc : Thread Cert.DwFf1RefIdeal.nD Cert.DwFf1RefIdeal.τ).loc Cert.DwFf1RefIdeal.main_arg2) = m ((c.tc : Thread Cert.DwFf1Ideal.nD Cert.DwFf1Ideal.τ).loc Cert.DwFf1Ideal.main_arg2)) →
    ∃ (v0 : (c : Dev Cert.DwFf1Ideal.nD) → Buf (Elt Ideal) ((c.tc : Thread Cert.DwFf1Ideal.nD Cert.DwFf1Ideal.τ).loc Cert.DwFf1Ideal.main_v0)),
      θ_run (Cert.DwFf1Ideal.defs (F := Ideal)) (onTc (τ := Cert.DwFf1Ideal.τ) (Cert.DwFf1Ideal.main (F := Ideal))) ⟨m, fun _ => 0, g⟩ (fun r => ∀ c : Dev Cert.DwFf1Ideal.nD,
          r.2.mem ((c.tc : Thread Cert.DwFf1Ideal.nD Cert.DwFf1Ideal.τ).loc Cert.DwFf1Ideal.main_v0) = v0 c
          ∧ r.2.mem ((c.tc : Thread Cert.DwFf1Ideal.nD Cert.DwFf1Ideal.τ).loc Cert.DwFf1Ideal.main_arg0) = m ((c.tc : Thread Cert.DwFf1Ideal.nD Cert.DwFf1Ideal.τ).loc Cert.DwFf1Ideal.main_arg0)
          ∧ r.2.mem ((c.tc : Thread Cert.DwFf1Ideal.nD Cert.DwFf1Ideal.τ).loc Cert.DwFf1Ideal.main_arg1) = m ((c.tc : Thread Cert.DwFf1Ideal.nD Cert.DwFf1Ideal.τ).loc Cert.DwFf1Ideal.main_arg1)
          ∧ r.2.mem ((c.tc : Thread Cert.DwFf1Ideal.nD Cert.DwFf1Ideal.τ).loc Cert.DwFf1Ideal.main_arg2) = m ((c.tc : Thread Cert.DwFf1Ideal.nD Cert.DwFf1Ideal.τ).loc Cert.DwFf1Ideal.main_arg2))
      ∧ θ_run (Cert.DwFf1RefIdeal.defs (F := Ideal)) (onTc (τ := Cert.DwFf1RefIdeal.τ) (Cert.DwFf1RefIdeal.main (F := Ideal))) ⟨m', fun _ => 0, g'⟩ (fun r => ∀ c : Dev Cert.DwFf1RefIdeal.nD,
          r.2.mem ((c.tc : Thread Cert.DwFf1RefIdeal.nD Cert.DwFf1RefIdeal.τ).loc Cert.DwFf1RefIdeal.main_v7) = v0 c
          ∧ r.2.mem ((c.tc : Thread Cert.DwFf1RefIdeal.nD Cert.DwFf1RefIdeal.τ).loc Cert.DwFf1RefIdeal.main_arg0) = m' ((c.tc : Thread Cert.DwFf1RefIdeal.nD Cert.DwFf1RefIdeal.τ).loc Cert.DwFf1RefIdeal.main_arg0)
          ∧ r.2.mem ((c.tc : Thread Cert.DwFf1RefIdeal.nD Cert.DwFf1RefIdeal.τ).loc Cert.DwFf1RefIdeal.main_arg1) = m' ((c.tc : Thread Cert.DwFf1RefIdeal.nD Cert.DwFf1RefIdeal.τ).loc Cert.DwFf1RefIdeal.main_arg1)
          ∧ r.2.mem ((c.tc : Thread Cert.DwFf1RefIdeal.nD Cert.DwFf1RefIdeal.τ).loc Cert.DwFf1RefIdeal.main_arg2) = m' ((c.tc : Thread Cert.DwFf1RefIdeal.nD Cert.DwFf1RefIdeal.τ).loc Cert.DwFf1RefIdeal.main_arg2))

def preserves_DwFf2_DwFf2Ideal : Prop :=
  True

def algebraic_DwFf2Ideal_DwFf2RefIdeal [hDwFf2Ideal : Cert.DwFf2Ideal.Facts] [hDwFf2RefIdeal : Cert.DwFf2RefIdeal.Facts] : Prop :=
  ∀ (m : (ℓ : Loc Cert.DwFf2Ideal.nD Cert.DwFf2Ideal.τ Cert.DwFf2Ideal.sig) → Buf (Elt Ideal) ℓ) (g : Dev Cert.DwFf2Ideal.nD → PrngReg)
    (m' : (ℓ : Loc Cert.DwFf2RefIdeal.nD Cert.DwFf2RefIdeal.τ Cert.DwFf2RefIdeal.sig) → Buf (Elt Ideal) ℓ) (g' : Dev Cert.DwFf2RefIdeal.nD → PrngReg), Pre_DwFf2Ideal m →
    (∀ c : Dev Cert.DwFf2Ideal.nD,
      m' ((c.tc : Thread Cert.DwFf2RefIdeal.nD Cert.DwFf2RefIdeal.τ).loc Cert.DwFf2RefIdeal.main_arg0) = m ((c.tc : Thread Cert.DwFf2Ideal.nD Cert.DwFf2Ideal.τ).loc Cert.DwFf2Ideal.main_arg0)
      ∧ m' ((c.tc : Thread Cert.DwFf2RefIdeal.nD Cert.DwFf2RefIdeal.τ).loc Cert.DwFf2RefIdeal.main_arg1) = m ((c.tc : Thread Cert.DwFf2Ideal.nD Cert.DwFf2Ideal.τ).loc Cert.DwFf2Ideal.main_arg1)
      ∧ m' ((c.tc : Thread Cert.DwFf2RefIdeal.nD Cert.DwFf2RefIdeal.τ).loc Cert.DwFf2RefIdeal.main_arg2) = m ((c.tc : Thread Cert.DwFf2Ideal.nD Cert.DwFf2Ideal.τ).loc Cert.DwFf2Ideal.main_arg2)) →
    ∃ (v0 : (c : Dev Cert.DwFf2Ideal.nD) → Buf (Elt Ideal) ((c.tc : Thread Cert.DwFf2Ideal.nD Cert.DwFf2Ideal.τ).loc Cert.DwFf2Ideal.main_v0)),
      θ_run (Cert.DwFf2Ideal.defs (F := Ideal)) (onTc (τ := Cert.DwFf2Ideal.τ) (Cert.DwFf2Ideal.main (F := Ideal))) ⟨m, fun _ => 0, g⟩ (fun r => ∀ c : Dev Cert.DwFf2Ideal.nD,
          r.2.mem ((c.tc : Thread Cert.DwFf2Ideal.nD Cert.DwFf2Ideal.τ).loc Cert.DwFf2Ideal.main_v0) = v0 c
          ∧ r.2.mem ((c.tc : Thread Cert.DwFf2Ideal.nD Cert.DwFf2Ideal.τ).loc Cert.DwFf2Ideal.main_arg0) = m ((c.tc : Thread Cert.DwFf2Ideal.nD Cert.DwFf2Ideal.τ).loc Cert.DwFf2Ideal.main_arg0)
          ∧ r.2.mem ((c.tc : Thread Cert.DwFf2Ideal.nD Cert.DwFf2Ideal.τ).loc Cert.DwFf2Ideal.main_arg1) = m ((c.tc : Thread Cert.DwFf2Ideal.nD Cert.DwFf2Ideal.τ).loc Cert.DwFf2Ideal.main_arg1)
          ∧ r.2.mem ((c.tc : Thread Cert.DwFf2Ideal.nD Cert.DwFf2Ideal.τ).loc Cert.DwFf2Ideal.main_arg2) = m ((c.tc : Thread Cert.DwFf2Ideal.nD Cert.DwFf2Ideal.τ).loc Cert.DwFf2Ideal.main_arg2))
      ∧ θ_run (Cert.DwFf2RefIdeal.defs (F := Ideal)) (onTc (τ := Cert.DwFf2RefIdeal.τ) (Cert.DwFf2RefIdeal.main (F := Ideal))) ⟨m', fun _ => 0, g'⟩ (fun r => ∀ c : Dev Cert.DwFf2RefIdeal.nD,
          r.2.mem ((c.tc : Thread Cert.DwFf2RefIdeal.nD Cert.DwFf2RefIdeal.τ).loc Cert.DwFf2RefIdeal.main_v5) = v0 c
          ∧ r.2.mem ((c.tc : Thread Cert.DwFf2RefIdeal.nD Cert.DwFf2RefIdeal.τ).loc Cert.DwFf2RefIdeal.main_arg0) = m' ((c.tc : Thread Cert.DwFf2RefIdeal.nD Cert.DwFf2RefIdeal.τ).loc Cert.DwFf2RefIdeal.main_arg0)
          ∧ r.2.mem ((c.tc : Thread Cert.DwFf2RefIdeal.nD Cert.DwFf2RefIdeal.τ).loc Cert.DwFf2RefIdeal.main_arg1) = m' ((c.tc : Thread Cert.DwFf2RefIdeal.nD Cert.DwFf2RefIdeal.τ).loc Cert.DwFf2RefIdeal.main_arg1)
          ∧ r.2.mem ((c.tc : Thread Cert.DwFf2RefIdeal.nD Cert.DwFf2RefIdeal.τ).loc Cert.DwFf2RefIdeal.main_arg2) = m' ((c.tc : Thread Cert.DwFf2RefIdeal.nD Cert.DwFf2RefIdeal.τ).loc Cert.DwFf2RefIdeal.main_arg2))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)
      ∧ m' ((c.tc : Thread Cert.DwInRefIdeal.nD Cert.DwInRefIdeal.τ).loc Cert.DwInRefIdeal.main_arg2) = m ((c.tc : Thread Cert.DwInIdeal.nD Cert.DwInIdeal.τ).loc Cert.DwInIdeal.main_arg2)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
          ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v5) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1)
          ∧ r.2.mem ((c.tc : Thread Cert.DwInRefIdeal.nD Cert.DwInRefIdeal.τ).loc Cert.DwInRefIdeal.main_arg2) = m' ((c.tc : Thread Cert.DwInRefIdeal.nD Cert.DwInRefIdeal.τ).loc Cert.DwInRefIdeal.main_arg2))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)
      ∧ m' ((c.tc : Thread Cert.DwOutRefIdeal.nD Cert.DwOutRefIdeal.τ).loc Cert.DwOutRefIdeal.main_arg2) = m ((c.tc : Thread Cert.DwOutIdeal.nD Cert.DwOutIdeal.τ).loc Cert.DwOutIdeal.main_arg2)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
          ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v5) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1)
          ∧ r.2.mem ((c.tc : Thread Cert.DwOutRefIdeal.nD Cert.DwOutRefIdeal.τ).loc Cert.DwOutRefIdeal.main_arg2) = m' ((c.tc : Thread Cert.DwOutRefIdeal.nD Cert.DwOutRefIdeal.τ).loc Cert.DwOutRefIdeal.main_arg2))

def preserves_OutBwd_OutBwdIdeal : Prop :=
  True

def algebraic_OutBwdIdeal_OutBwdRefIdeal [hOutBwdIdeal : Cert.OutBwdIdeal.Facts] [hOutBwdRefIdeal : Cert.OutBwdRefIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)
      ∧ m' ((c.tc : Thread Cert.OutBwdRefIdeal.nD Cert.OutBwdRefIdeal.τ).loc Cert.OutBwdRefIdeal.main_arg2) = m ((c.tc : Thread Cert.OutBwdIdeal.nD Cert.OutBwdIdeal.τ).loc Cert.OutBwdIdeal.main_arg2)) →
    ∃ (v0 : (c : Dev Cert.OutBwdIdeal.nD) → Buf (Elt Ideal) ((c.tc : Thread Cert.OutBwdIdeal.nD Cert.OutBwdIdeal.τ).loc Cert.OutBwdIdeal.main_v1_0)) (v1 : (c : Dev Cert.OutBwdIdeal.nD) → Buf (Elt Ideal) ((c.tc : Thread Cert.OutBwdIdeal.nD Cert.OutBwdIdeal.τ).loc Cert.OutBwdIdeal.main_v1_1)) (v2 : (c : Dev Cert.OutBwdIdeal.nD) → Buf (Elt Ideal) ((c.tc : Thread Cert.OutBwdIdeal.nD Cert.OutBwdIdeal.τ).loc Cert.OutBwdIdeal.main_v1_2)) (v3 : (c : Dev Cert.OutBwdIdeal.nD) → Buf (Elt Ideal) ((c.tc : Thread Cert.OutBwdIdeal.nD Cert.OutBwdIdeal.τ).loc Cert.OutBwdIdeal.main_v1_3)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v1_0) = v0 c
          ∧ r.2.mem ((c.tc : Thread Cert.OutBwdIdeal.nD Cert.OutBwdIdeal.τ).loc Cert.OutBwdIdeal.main_v1_1) = v1 c
          ∧ r.2.mem ((c.tc : Thread Cert.OutBwdIdeal.nD Cert.OutBwdIdeal.τ).loc Cert.OutBwdIdeal.main_v1_2) = v2 c
          ∧ r.2.mem ((c.tc : Thread Cert.OutBwdIdeal.nD Cert.OutBwdIdeal.τ).loc Cert.OutBwdIdeal.main_v1_3) = v3 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
          ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v3) = v0 c
          ∧ r.2.mem ((c.tc : Thread Cert.OutBwdRefIdeal.nD Cert.OutBwdRefIdeal.τ).loc Cert.OutBwdRefIdeal.main_v4) = v1 c
          ∧ r.2.mem ((c.tc : Thread Cert.OutBwdRefIdeal.nD Cert.OutBwdRefIdeal.τ).loc Cert.OutBwdRefIdeal.main_v5) = v2 c
          ∧ r.2.mem ((c.tc : Thread Cert.OutBwdRefIdeal.nD Cert.OutBwdRefIdeal.τ).loc Cert.OutBwdRefIdeal.main_v6) = v3 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1)
          ∧ r.2.mem ((c.tc : Thread Cert.OutBwdRefIdeal.nD Cert.OutBwdRefIdeal.τ).loc Cert.OutBwdRefIdeal.main_arg2) = m' ((c.tc : Thread Cert.OutBwdRefIdeal.nD Cert.OutBwdRefIdeal.τ).loc Cert.OutBwdRefIdeal.main_arg2))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)) →
    ∃ (v0 : (c : Dev Cert.OutFwdIdeal.nD) → Buf (Elt Ideal) ((c.tc : Thread Cert.OutFwdIdeal.nD Cert.OutFwdIdeal.τ).loc Cert.OutFwdIdeal.main_v1)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v1) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v2) = v0 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2))

def preserves_SgFwd_SgFwdIdeal : Prop :=
  True

def algebraic_SgFwdIdeal_SgFwdRefIdeal_pre_v_finite [hSgFwdIdeal : Cert.SgFwdIdeal.Facts] [hSgFwdRefIdeal : Cert.SgFwdRefIdeal.Facts] [hPre_v_finite : Cert.Pre_v_finite.Facts] : Prop :=
  ∀ (m : (ℓ : Loc Cert.SgFwdIdeal.nD Cert.SgFwdIdeal.τ Cert.SgFwdIdeal.sig) → Buf (Elt Ideal) ℓ) (g : Dev Cert.SgFwdIdeal.nD → PrngReg)
    (m' : (ℓ : Loc Cert.SgFwdRefIdeal.nD Cert.SgFwdRefIdeal.τ Cert.SgFwdRefIdeal.sig) → Buf (Elt Ideal) ℓ) (g' : Dev Cert.SgFwdRefIdeal.nD → PrngReg), Pre_SgFwdIdeal_v_finite m →
    (∀ c : Dev Cert.SgFwdIdeal.nD,
      m' ((c.tc : Thread Cert.SgFwdRefIdeal.nD Cert.SgFwdRefIdeal.τ).loc Cert.SgFwdRefIdeal.main_arg0) = m ((c.tc : Thread Cert.SgFwdIdeal.nD Cert.SgFwdIdeal.τ).loc Cert.SgFwdIdeal.main_arg0)
      ∧ m' ((c.tc : Thread Cert.SgFwdRefIdeal.nD Cert.SgFwdRefIdeal.τ).loc Cert.SgFwdRefIdeal.main_arg1) = m ((c.tc : Thread Cert.SgFwdIdeal.nD Cert.SgFwdIdeal.τ).loc Cert.SgFwdIdeal.main_arg1)
      ∧ m' ((c.tc : Thread Cert.SgFwdRefIdeal.nD Cert.SgFwdRefIdeal.τ).loc Cert.SgFwdRefIdeal.main_arg2) = m ((c.tc : Thread Cert.SgFwdIdeal.nD Cert.SgFwdIdeal.τ).loc Cert.SgFwdIdeal.main_arg2)
      ∧ m' ((c.tc : Thread Cert.SgFwdRefIdeal.nD Cert.SgFwdRefIdeal.τ).loc Cert.SgFwdRefIdeal.main_arg3) = m ((c.tc : Thread Cert.SgFwdIdeal.nD Cert.SgFwdIdeal.τ).loc Cert.SgFwdIdeal.main_arg3)
      ∧ m' ((c.tc : Thread Cert.SgFwdRefIdeal.nD Cert.SgFwdRefIdeal.τ).loc Cert.SgFwdRefIdeal.main_arg4) = m ((c.tc : Thread Cert.SgFwdIdeal.nD Cert.SgFwdIdeal.τ).loc Cert.SgFwdIdeal.main_arg4)) →
    ∃ (v0 : (c : Dev Cert.SgFwdIdeal.nD) → Buf (Elt Ideal) ((c.tc : Thread Cert.SgFwdIdeal.nD Cert.SgFwdIdeal.τ).loc Cert.SgFwdIdeal.main_v3)),
      θ_run (Cert.SgFwdIdeal.defs (F := Ideal)) (onTc (τ := Cert.SgFwdIdeal.τ) (Cert.SgFwdIdeal.main (F := Ideal))) ⟨m, fun _ => 0, g⟩ (fun r => ∀ c : Dev Cert.SgFwdIdeal.nD,
          r.2.mem ((c.tc : Thread Cert.SgFwdIdeal.nD Cert.SgFwdIdeal.τ).loc Cert.SgFwdIdeal.main_v3) = v0 c
          ∧ r.2.mem ((c.tc : Thread Cert.SgFwdIdeal.nD Cert.SgFwdIdeal.τ).loc Cert.SgFwdIdeal.main_arg0) = m ((c.tc : Thread Cert.SgFwdIdeal.nD Cert.SgFwdIdeal.τ).loc Cert.SgFwdIdeal.main_arg0)
          ∧ r.2.mem ((c.tc : Thread Cert.SgFwdIdeal.nD Cert.SgFwdIdeal.τ).loc Cert.SgFwdIdeal.main_arg1) = m ((c.tc : Thread Cert.SgFwdIdeal.nD Cert.SgFwdIdeal.τ).loc Cert.SgFwdIdeal.main_arg1)
          ∧ r.2.mem ((c.tc : Thread Cert.SgFwdIdeal.nD Cert.SgFwdIdeal.τ).loc Cert.SgFwdIdeal.main_arg2) = m ((c.tc : Thread Cert.SgFwdIdeal.nD Cert.SgFwdIdeal.τ).loc Cert.SgFwdIdeal.main_arg2)
          ∧ r.2.mem ((c.tc : Thread Cert.SgFwdIdeal.nD Cert.SgFwdIdeal.τ).loc Cert.SgFwdIdeal.main_arg3) = m ((c.tc : Thread Cert.SgFwdIdeal.nD Cert.SgFwdIdeal.τ).loc Cert.SgFwdIdeal.main_arg3)
          ∧ r.2.mem ((c.tc : Thread Cert.SgFwdIdeal.nD Cert.SgFwdIdeal.τ).loc Cert.SgFwdIdeal.main_arg4) = m ((c.tc : Thread Cert.SgFwdIdeal.nD Cert.SgFwdIdeal.τ).loc Cert.SgFwdIdeal.main_arg4))
      ∧ θ_run (Cert.SgFwdRefIdeal.defs (F := Ideal)) (onTc (τ := Cert.SgFwdRefIdeal.τ) (Cert.SgFwdRefIdeal.main (F := Ideal))) ⟨m', fun _ => 0, g'⟩ (fun r => ∀ c : Dev Cert.SgFwdRefIdeal.nD,
          r.2.mem ((c.tc : Thread Cert.SgFwdRefIdeal.nD Cert.SgFwdRefIdeal.τ).loc Cert.SgFwdRefIdeal.main_v58) = v0 c
          ∧ r.2.mem ((c.tc : Thread Cert.SgFwdRefIdeal.nD Cert.SgFwdRefIdeal.τ).loc Cert.SgFwdRefIdeal.main_arg0) = m' ((c.tc : Thread Cert.SgFwdRefIdeal.nD Cert.SgFwdRefIdeal.τ).loc Cert.SgFwdRefIdeal.main_arg0)
          ∧ r.2.mem ((c.tc : Thread Cert.SgFwdRefIdeal.nD Cert.SgFwdRefIdeal.τ).loc Cert.SgFwdRefIdeal.main_arg1) = m' ((c.tc : Thread Cert.SgFwdRefIdeal.nD Cert.SgFwdRefIdeal.τ).loc Cert.SgFwdRefIdeal.main_arg1)
          ∧ r.2.mem ((c.tc : Thread Cert.SgFwdRefIdeal.nD Cert.SgFwdRefIdeal.τ).loc Cert.SgFwdRefIdeal.main_arg2) = m' ((c.tc : Thread Cert.SgFwdRefIdeal.nD Cert.SgFwdRefIdeal.τ).loc Cert.SgFwdRefIdeal.main_arg2)
          ∧ r.2.mem ((c.tc : Thread Cert.SgFwdRefIdeal.nD Cert.SgFwdRefIdeal.τ).loc Cert.SgFwdRefIdeal.main_arg3) = m' ((c.tc : Thread Cert.SgFwdRefIdeal.nD Cert.SgFwdRefIdeal.τ).loc Cert.SgFwdRefIdeal.main_arg3)
          ∧ r.2.mem ((c.tc : Thread Cert.SgFwdRefIdeal.nD Cert.SgFwdRefIdeal.τ).loc Cert.SgFwdRefIdeal.main_arg4) = m' ((c.tc : Thread Cert.SgFwdRefIdeal.nD Cert.SgFwdRefIdeal.τ).loc Cert.SgFwdRefIdeal.main_arg4))

def Claim : Prop :=
  ∃ (hKernel : Cert.Kernel.Facts) (hKernelIdeal : Cert.KernelIdeal.Facts) (hReferenceIdeal : Cert.ReferenceIdeal.Facts) (hFfnBwd : Cert.FfnBwd.Facts) (hFfnBwdIdeal : Cert.FfnBwdIdeal.Facts) (hFfnBwdRefIdeal : Cert.FfnBwdRefIdeal.Facts) (hFfnFwd : Cert.FfnFwd.Facts) (hFfnFwdIdeal : Cert.FfnFwdIdeal.Facts) (hFfnFwdRefIdeal : Cert.FfnFwdRefIdeal.Facts) (hFfnLoss : Cert.FfnLoss.Facts) (hFfnLossIdeal : Cert.FfnLossIdeal.Facts) (hFfnLossRefIdeal : Cert.FfnLossRefIdeal.Facts) (hInBwd : Cert.InBwd.Facts) (hInBwdIdeal : Cert.InBwdIdeal.Facts) (hInBwdRefIdeal : Cert.InBwdRefIdeal.Facts) (hInFwd : Cert.InFwd.Facts) (hInFwdIdeal : Cert.InFwdIdeal.Facts) (hInFwdRefIdeal : Cert.InFwdRefIdeal.Facts) (hDwFf1 : Cert.DwFf1.Facts) (hDwFf1Ideal : Cert.DwFf1Ideal.Facts) (hDwFf1RefIdeal : Cert.DwFf1RefIdeal.Facts) (hDwFf2 : Cert.DwFf2.Facts) (hDwFf2Ideal : Cert.DwFf2Ideal.Facts) (hDwFf2RefIdeal : Cert.DwFf2RefIdeal.Facts) (hDwIn : Cert.DwIn.Facts) (hDwInIdeal : Cert.DwInIdeal.Facts) (hDwInRefIdeal : Cert.DwInRefIdeal.Facts) (hDwOut : Cert.DwOut.Facts) (hDwOutIdeal : Cert.DwOutIdeal.Facts) (hDwOutRefIdeal : Cert.DwOutRefIdeal.Facts) (hOutBwd : Cert.OutBwd.Facts) (hOutBwdIdeal : Cert.OutBwdIdeal.Facts) (hOutBwdRefIdeal : Cert.OutBwdRefIdeal.Facts) (hOutFwd : Cert.OutFwd.Facts) (hOutFwdIdeal : Cert.OutFwdIdeal.Facts) (hOutFwdRefIdeal : Cert.OutFwdRefIdeal.Facts) (hSgFwd : Cert.SgFwd.Facts) (hSgFwdIdeal : Cert.SgFwdIdeal.Facts) (hSgFwdRefIdeal : Cert.SgFwdRefIdeal.Facts) (hPre_all_finite : Cert.Pre_all_finite.Facts) (hPre_ffn_finite : Cert.Pre_ffn_finite.Facts) (hPre_in_finite : Cert.Pre_in_finite.Facts) (hPre_v_finite : Cert.Pre_v_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_FfnBwd (hFfnBwd := hFfnBwd)
    ∧ quiescent_FfnBwdIdeal (hFfnBwdIdeal := hFfnBwdIdeal)
    ∧ quiescent_FfnBwdIdeal_pre_ffn_finite (hFfnBwdIdeal := hFfnBwdIdeal) (hPre_ffn_finite := hPre_ffn_finite)
    ∧ quiescent_FfnBwdRefIdeal (hFfnBwdRefIdeal := hFfnBwdRefIdeal)
    ∧ quiescent_FfnBwdRefIdeal_pre_ffn_finite (hFfnBwdRefIdeal := hFfnBwdRefIdeal) (hPre_ffn_finite := hPre_ffn_finite)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_FfnLoss (hFfnLoss := hFfnLoss)
    ∧ quiescent_FfnLossIdeal (hFfnLossIdeal := hFfnLossIdeal)
    ∧ quiescent_FfnLossRefIdeal (hFfnLossRefIdeal := hFfnLossRefIdeal)
    ∧ quiescent_InBwd (hInBwd := hInBwd)
    ∧ quiescent_InBwdIdeal (hInBwdIdeal := hInBwdIdeal)
    ∧ quiescent_InBwdIdeal_pre_in_finite (hInBwdIdeal := hInBwdIdeal) (hPre_in_finite := hPre_in_finite)
    ∧ quiescent_InBwdRefIdeal (hInBwdRefIdeal := hInBwdRefIdeal)
    ∧ quiescent_InBwdRefIdeal_pre_in_finite (hInBwdRefIdeal := hInBwdRefIdeal) (hPre_in_finite := hPre_in_finite)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_DwFf1 (hDwFf1 := hDwFf1)
    ∧ quiescent_DwFf1Ideal (hDwFf1Ideal := hDwFf1Ideal)
    ∧ quiescent_DwFf1RefIdeal (hDwFf1RefIdeal := hDwFf1RefIdeal)
    ∧ quiescent_DwFf2 (hDwFf2 := hDwFf2)
    ∧ quiescent_DwFf2Ideal (hDwFf2Ideal := hDwFf2Ideal)
    ∧ quiescent_DwFf2RefIdeal (hDwFf2RefIdeal := hDwFf2RefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_OutBwd (hOutBwd := hOutBwd)
    ∧ quiescent_OutBwdIdeal (hOutBwdIdeal := hOutBwdIdeal)
    ∧ quiescent_OutBwdRefIdeal (hOutBwdRefIdeal := hOutBwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_SgFwd (hSgFwd := hSgFwd)
    ∧ quiescent_SgFwdIdeal (hSgFwdIdeal := hSgFwdIdeal)
    ∧ quiescent_SgFwdIdeal_pre_v_finite (hSgFwdIdeal := hSgFwdIdeal) (hPre_v_finite := hPre_v_finite)
    ∧ quiescent_SgFwdRefIdeal (hSgFwdRefIdeal := hSgFwdRefIdeal)
    ∧ quiescent_SgFwdRefIdeal_pre_v_finite (hSgFwdRefIdeal := hSgFwdRefIdeal) (hPre_v_finite := hPre_v_finite)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_FfnBwd_FfnBwdIdeal
    ∧ algebraic_FfnBwdIdeal_FfnBwdRefIdeal_pre_ffn_finite (hFfnBwdIdeal := hFfnBwdIdeal) (hFfnBwdRefIdeal := hFfnBwdRefIdeal) (hPre_ffn_finite := hPre_ffn_finite)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_FfnLoss_FfnLossIdeal
    ∧ algebraic_FfnLossIdeal_FfnLossRefIdeal (hFfnLossIdeal := hFfnLossIdeal) (hFfnLossRefIdeal := hFfnLossRefIdeal)
    ∧ preserves_InBwd_InBwdIdeal
    ∧ algebraic_InBwdIdeal_InBwdRefIdeal_pre_in_finite (hInBwdIdeal := hInBwdIdeal) (hInBwdRefIdeal := hInBwdRefIdeal) (hPre_in_finite := hPre_in_finite)
    ∧ preserves_InFwd_InFwdIdeal
    ∧ algebraic_InFwdIdeal_InFwdRefIdeal (hInFwdIdeal := hInFwdIdeal) (hInFwdRefIdeal := hInFwdRefIdeal)
    ∧ preserves_DwFf1_DwFf1Ideal
    ∧ algebraic_DwFf1Ideal_DwFf1RefIdeal (hDwFf1Ideal := hDwFf1Ideal) (hDwFf1RefIdeal := hDwFf1RefIdeal)
    ∧ preserves_DwFf2_DwFf2Ideal
    ∧ algebraic_DwFf2Ideal_DwFf2RefIdeal (hDwFf2Ideal := hDwFf2Ideal) (hDwFf2RefIdeal := hDwFf2RefIdeal)
    ∧ preserves_DwIn_DwInIdeal
    ∧ algebraic_DwInIdeal_DwInRefIdeal (hDwInIdeal := hDwInIdeal) (hDwInRefIdeal := hDwInRefIdeal)
    ∧ preserves_DwOut_DwOutIdeal
    ∧ algebraic_DwOutIdeal_DwOutRefIdeal (hDwOutIdeal := hDwOutIdeal) (hDwOutRefIdeal := hDwOutRefIdeal)
    ∧ preserves_OutBwd_OutBwdIdeal
    ∧ algebraic_OutBwdIdeal_OutBwdRefIdeal (hOutBwdIdeal := hOutBwdIdeal) (hOutBwdRefIdeal := hOutBwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_SgFwd_SgFwdIdeal
    ∧ algebraic_SgFwdIdeal_SgFwdRefIdeal_pre_v_finite (hSgFwdIdeal := hSgFwdIdeal) (hSgFwdRefIdeal := hSgFwdRefIdeal) (hPre_v_finite := hPre_v_finite)
-- ==== Pre_all_finite.lean ====
abbrev S2x2048x512 : Shape := ⟨3, ![2, 2048, 512]⟩
abbrev S256 : Shape := ⟨1, ![256]⟩
abbrev S4x128x128 : Shape := ⟨3, ![4, 128, 128]⟩
abbrev S4x128 : Shape := ⟨2, ![4, 128]⟩
abbrev S2x2048x256 : Shape := ⟨3, ![2, 2048, 256]⟩
abbrev S2x2048x3584 : Shape := ⟨3, ![2, 2048, 3584]⟩
abbrev S_ : Shape := ⟨0, ![]⟩

class Facts : Prop where
  bitsLt_bf16_f32 : FTy.bits .bf16 < FTy.bits .f32
  bcast_S_S2x2048x512 : S_.BroadcastsInDim S2x2048x512 (![] : Fin 0 → Fin S2x2048x512.rank)
  bcast_S_S256 : S_.BroadcastsInDim S256 (![] : Fin 0 → Fin S256.rank)
  bcast_S_S4x128x128 : S_.BroadcastsInDim S4x128x128 (![] : Fin 0 → Fin S4x128x128.rank)
  bcast_S_S4x128 : S_.BroadcastsInDim S4x128 (![] : Fin 0 → Fin S4x128.rank)
  bcast_S_S2x2048x256 : S_.BroadcastsInDim S2x2048x256 (![] : Fin 0 → Fin S2x2048x256.rank)

variable [Facts]

def fn {F : FTy → Type} [FloatOps F] (main_arg0 : FVec F S2x2048x512 .bf16) (main_arg1 : FVec F S256 .f32) (main_arg2 : FVec F S4x128x128 .f32) (main_arg3 : FVec F S4x128 .f32) (main_arg4 : FVec F S2x2048x256 .f32) (main_arg5 : FVec F S2x2048x3584 .bf16) : IVec S2x2048x512 1 × IVec S256 1 × IVec S4x128x128 1 × IVec S4x128 1 × IVec S2x2048x256 1 :=
  let main_v0 : FVec F S2x2048x512 .f32 := (extf .f32 · bitsLt_bf16_f32) main_arg0
  let main_v1 : FVec F S2x2048x512 .f32 := Host.absf main_v0
  let main_cst : FVec F S_ .f32 := constant S_ .f32 0x7F800000#32
  let main_v2 : FVec F S2x2048x512 .f32 := broadcastInDim S2x2048x512 ![] bcast_S_S2x2048x512 main_cst
  let main_v3 : IVec S2x2048x512 1 := cmpf .olt main_v1 main_v2
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_v7 : FVec F S4x128x128 .f32 := Host.absf main_arg2
  let main_cst_1 : FVec F S_ .f32 := constant S_ .f32 0x7F800000#32
  let main_v8 : FVec F S4x128x128 .f32 := broadcastInDim S4x128x128 ![] bcast_S_S4x128x128 main_cst_1
  let main_v9 : IVec S4x128x128 1 := cmpf .olt main_v7 main_v8
  let main_v10 : FVec F S4x128 .f32 := Host.absf main_arg3
  let main_cst_2 : FVec F S_ .f32 := constant S_ .f32 0x7F800000#32
  let main_v11 : FVec F S4x128 .f32 := broadcastInDim S4x128 ![] bcast_S_S4x128 main_cst_2
  let main_v12 : IVec S4x128 1 := cmpf .olt main_v10 main_v11
  let main_v13 : FVec F S2x2048x256 .f32 := Host.absf main_arg4
  let main_cst_3 : FVec F S_ .f32 := constant S_ .f32 0x7F800000#32
  let main_v14 : FVec F S2x2048x256 .f32 := broadcastInDim S2x2048x256 ![] bcast_S_S2x2048x256 main_cst_3
  let main_v15 : IVec S2x2048x256 1 := cmpf .olt main_v13 main_v14
  (main_v3, main_v6, main_v9, main_v12, main_v15)
-- ==== Pre_ffn_finite.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x4096 : S_.BroadcastsInDim S1024x4096 (![] : Fin 0 → Fin S1024x4096.rank)

variable [Facts]

def fn {F : FTy → Type} [FloatOps F] (main_arg0 : FVec F S4096x1024 .f32) (main_arg1 : FVec F S1024 .f32) (main_arg2 : FVec F S1024x4096 .f32) (main_arg3 : FVec F S4096x1024 .f32) (main_arg4 : FVec F S4096x1024 .f32) : IVec S4096x1024 1 × IVec S1024 1 × IVec S1024x4096 1 × IVec S4096x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x4096 .f32 := Host.absf main_arg2
  let main_cst_1 : FVec F S_ .f32 := constant S_ .f32 0x7F800000#32
  let main_v7 : FVec F S1024x4096 .f32 := broadcastInDim S1024x4096 ![] bcast_S_S1024x4096 main_cst_1
  let main_v8 : IVec S1024x4096 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Pre_in_finite.lean ====
abbrev S4096x1024 : Shape := ⟨2, ![4096, 1024]⟩
abbrev S1024 : Shape := ⟨1, ![1024]⟩
abbrev S1024x3584 : Shape := ⟨2, ![1024, 3584]⟩
abbrev S4096x3584 : Shape := ⟨2, ![4096, 3584]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S1024 : S_.BroadcastsInDim S1024 (![] : Fin 0 → Fin S1024.rank)
  bcast_S_S1024x3584 : S_.BroadcastsInDim S1024x3584 (![] : Fin 0 → Fin S1024x3584.rank)
  bcast_S_S4096x3584 : S_.BroadcastsInDim S4096x3584 (![] : Fin 0 → Fin S4096x3584.rank)

variable [Facts]

def fn {F : FTy → Type} [FloatOps F] (main_arg0 : FVec F S4096x1024 .f32) (main_arg1 : FVec F S1024 .f32) (main_arg2 : FVec F S1024x3584 .f32) (main_arg3 : FVec F S4096x3584 .bf16) (main_arg4 : FVec F S4096x1024 .f32) : IVec S4096x1024 1 × IVec S1024 1 × IVec S1024x3584 1 × IVec S4096x3584 1 :=
  let main_v0 : FVec F S4096x3584 .f32 := (extf .f32 · bitsLt_bf16_f32) main_arg3
  let main_v1 : FVec F S4096x1024 .f32 := Host.absf main_arg0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_v7 : FVec F S1024x3584 .f32 := Host.absf main_arg2
  let main_cst_1 : FVec F S_ .f32 := constant S_ .f32 0x7F800000#32
  let main_v8 : FVec F S1024x3584 .f32 := broadcastInDim S1024x3584 ![] bcast_S_S1024x3584 main_cst_1
  let main_v9 : IVec S1024x3584 1 := cmpf .olt main_v7 main_v8
  let main_v10 : FVec F S4096x3584 .f32 := Host.absf main_v0
  let main_cst_2 : FVec F S_ .f32 := constant S_ .f32 0x7F800000#32
  let main_v11 : FVec F S4096x3584 .f32 := broadcastInDim S4096x3584 ![] bcast_S_S4096x3584 main_cst_2
  let main_v12 : IVec S4096x3584 1 := cmpf .olt main_v10 main_v11
  (main_v3, main_v6, main_v9, main_v12)
-- ==== Pre_v_finite.lean ====
abbrev S2x2048x512 : Shape := ⟨3, ![2, 2048, 512]⟩
abbrev S256 : Shape := ⟨1, ![256]⟩
abbrev S4x128x128 : Shape := ⟨3, ![4, 128, 128]⟩
abbrev S4x128 : Shape := ⟨2, ![4, 128]⟩
abbrev S2x2048x1024 : Shape := ⟨3, ![2, 2048, 1024]⟩
abbrev S2x2048x256 : Shape := ⟨3, ![2, 2048, 256]⟩
abbrev S_ : Shape := ⟨0, ![]⟩

class Facts : Prop where
  bitsLt_bf16_f32 : FTy.bits .bf16 < FTy.bits .f32
  slices_S2x2048x512_S2x2048x256_0_0_0 : S2x2048x512.Slices ![0, 0, 0] S2x2048x256
  slices_S2x2048x512_S2x2048x256_0_0_256 : S2x2048x512.Slices ![0, 0, 256] S2x2048x256
  bcast_S_S2x2048x256 : S_.BroadcastsInDim S2x2048x256 (![] : Fin 0 → Fin S2x2048x256.rank)

variable [Facts]

def fn {F : FTy → Type} [FloatOps F] (main_arg0 : FVec F S2x2048x512 .bf16) (main_arg1 : FVec F S256 .f32) (main_arg2 : FVec F S4x128x128 .f32) (main_arg3 : FVec F S4x128 .f32) (main_arg4 : FVec F S2x2048x1024 .bf16) : IVec S2x2048x256 1 :=
  let main_v0 : FVec F S2x2048x512 .f32 := (extf .f32 · bitsLt_bf16_f32) main_arg0
  let main_v1 : FVec F S2x2048x256 .f32 := (extractStridedSlice S2x2048x256 ![0, 0, 0] · slices_S2x2048x512_S2x2048x256_0_0_0) main_v0
  let main_v2 : FVec F S2x2048x256 .f32 := (extractStridedSlice S2x2048x256 ![0, 0, 256] · slices_S2x2048x512_S2x2048x256_0_0_256) main_v0
  let main_v3 : FVec F S2x2048x256 .f32 := Host.absf main_v2
  let main_cst : FVec F S_ .f32 := constant S_ .f32 0x7F800000#32
  let main_v4 : FVec F S2x2048x256 .f32 := broadcastInDim S2x2048x256 ![] bcast_S_S2x2048x256 main_cst
  let main_v5 : IVec S2x2048x256 1 := cmpf .olt main_v3 main_v4
  main_v5
-- ==== Kernel.lean ====
abbrev S2x2048x512 : Shape := ⟨3, ![2, 2048, 512]⟩
abbrev S256 : Shape := ⟨1, ![256]⟩
abbrev S4x128x128 : Shape := ⟨3, ![4, 128, 128]⟩
abbrev S4x128 : Shape := ⟨2, ![4, 128]⟩
abbrev S2x2048x256 : Shape := ⟨3, ![2, 2048, 256]⟩
abbrev S2x2048x3584 : Shape := ⟨3, ![2, 2048, 3584]⟩
abbrev S1x256 : Shape := ⟨2, ![1, 256]⟩
abbrev S128x4 : Shape := ⟨2, ![128, 4]⟩
abbrev S_ : Shape := ⟨0, ![]⟩
abbrev S128x128 : Shape := ⟨2, ![128, 128]⟩
abbrev S1x512x512 : Shape := ⟨3, ![1, 512, 512]⟩
abbrev S1x512x256 : Shape := ⟨3, ![1, 512, 256]⟩
abbrev S1x128 : Shape := ⟨2, ![1, 128]⟩
abbrev S1x128x128 : Shape := ⟨3, ![1, 128, 128]⟩
abbrev S128x1 : Shape := ⟨2, ![128, 1]⟩
abbrev S128 : Shape := ⟨1, ![128]⟩

abbrev nBuf : Space → Nat
  | .hbm => 15
  | .vmem => 12
  | .smem => 0
  | _ => 0

abbrev bufTy : (tb : Table) → Fin (tcTables nBuf tb) → BufTy
  | .hbm, ⟨0, _⟩ => ⟨S2x2048x512, .bf16⟩
  | .hbm, ⟨1, _⟩ => ⟨S256, .f32⟩
  | .hbm, ⟨2, _⟩ => ⟨S4x128x128, .f32⟩
  | .hbm, ⟨3, _⟩ => ⟨S4x128, .f32⟩
  | .hbm, ⟨4, _⟩ => ⟨S2x2048x256, .f32⟩
  | .hbm, ⟨5, _⟩ => ⟨S2x2048x3584, .bf16⟩
  | .hbm, ⟨6, _⟩ => ⟨S1x256, .f32⟩
  | .hbm, ⟨7, _⟩ => ⟨S128x4, .f32⟩
  | .hbm, ⟨8, _⟩ => ⟨S_, .i32⟩
  | .hbm, ⟨9, _⟩ => ⟨S_, .f32⟩
  | .hbm, ⟨10, _⟩ => ⟨S128x128, .f32⟩
  | .hbm, ⟨11, _⟩ => ⟨S2x2048x3584, .bf16⟩
  | .hbm, ⟨12, _⟩ => ⟨S1x256, .f32⟩
  | .hbm, ⟨13, _⟩ => ⟨S4x128x128, .f32⟩
  | .hbm, ⟨14, _⟩ => ⟨S128x128, .f32⟩
  | .local _ .vmem, ⟨0, _⟩ => ⟨S1x512x512, .bf16⟩
  | .local _ .vmem, ⟨1, _⟩ => ⟨S1x512x512, .bf16⟩
  | .local _ .vmem, ⟨2, _⟩ => ⟨S1x256, .f32⟩
  | .local _ .vmem, ⟨3, _⟩ => ⟨S4x128x128, .f32⟩
  | .local _ .vmem, ⟨4, _⟩ => ⟨S128x128, .f32⟩
  | .local _ .vmem, ⟨5, _⟩ => ⟨S1x512x256, .f32⟩
  | .local _ .vmem, ⟨6, _⟩ => ⟨S1x512x256, .f32⟩
  | .local _ .vmem, ⟨7, _⟩ => ⟨S1x512x512, .bf16⟩
  | .local _ .vmem, ⟨8, _⟩ => ⟨S1x512x512, .bf16⟩
  | .local _ .vmem, ⟨9, _⟩ => ⟨S1x256, .f32⟩
  | .local _ .vmem, ⟨10, _⟩ => ⟨S4x128x128, .f32⟩
  | .local _ .vmem, ⟨11, _⟩ => ⟨S128x128, .f32⟩
  | _, _ => ⟨S2x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== ReferenceIdeal.lean ====
abbrev S2x2048x512 : Shape := ⟨3, ![2, 2048, 512]⟩
abbrev S256 : Shape := ⟨1, ![256]⟩
abbrev S4x128x128 : Shape := ⟨3, ![4, 128, 128]⟩
abbrev S4x128 : Shape := ⟨2, ![4, 128]⟩
abbrev S2x2048x256 : Shape := ⟨3, ![2, 2048, 256]⟩
abbrev S2x2048x3584 : Shape := ⟨3, ![2, 2048, 3584]⟩
abbrev S_ : Shape := ⟨0, ![]⟩
abbrev S2x2048x4x64 : Shape := ⟨4, ![2, 2048, 4, 64]⟩
abbrev S4x64 : Shape := ⟨2, ![4, 64]⟩
abbrev S2x2048x4 : Shape := ⟨3, ![2, 2048, 4]⟩
abbrev S2x2048x4x1 : Shape := ⟨4, ![2, 2048, 4, 1]⟩
abbrev S1x1x4x64 : Shape := ⟨4, ![1, 1, 4, 64]⟩
abbrev S2x16x128x4x64 : Shape := ⟨5, ![2, 16, 128, 4, 64]⟩
abbrev S128x128 : Shape := ⟨2, ![128, 128]⟩
abbrev S4x2x16x64x128 : Shape := ⟨5, ![4, 2, 16, 64, 128]⟩
abbrev S128x4 : Shape := ⟨2, ![128, 4]⟩
abbrev S1x1x128x4x1 : Shape := ⟨5, ![1, 1, 128, 4, 1]⟩
abbrev S2x2048x3072 : Shape := ⟨3, ![2, 2048, 3072]⟩
abbrev S1x256 : Shape := ⟨2, ![1, 256]⟩

abbrev nBuf : Space → Nat
  | .hbm => 197
  | .vmem => 0
  | .smem => 0
  | _ => 0

abbrev hbmTy0_0 (i : Nat) : BufTy := match i % 128 with
  | 0 => ⟨S2x2048x512, .bf16⟩
  | 1 => ⟨S256, .f32⟩
  | 2 => ⟨S4x128x128, .f32⟩
  | 3 => ⟨S4x128, .f32⟩
  | 4 => ⟨S2x2048x256, .f32⟩
  | 5 => ⟨S2x2048x3584, .bf16⟩
  | 6 => ⟨S2x2048x512, .f32⟩
  | 7 => ⟨S2x2048x256, .f32⟩
  | 8 => ⟨S2x2048x256, .f32⟩
  | 9 => ⟨S2x2048x256, .f32⟩
  | 10 => ⟨S2x2048x256, .f32⟩
  | 11 => ⟨S2x2048x256, .f32⟩
  | 12 => ⟨S_, .f32⟩
  | 13 => ⟨S2x2048x256, .f32⟩
  | 14 => ⟨S2x2048x256, .f32⟩
  | 15 => ⟨S_, .f32⟩
  | 16 => ⟨S2x2048x256, .f32⟩
  | 17 => ⟨S2x2048x256, .f32⟩
  | 18 => ⟨S2x2048x256, .f32⟩
  | 19 => ⟨S_, .f32⟩
  | 20 => ⟨S2x2048x256, .f32⟩
  | 21 => ⟨S2x2048x256, .f32⟩
  | 22 => ⟨S2x2048x256, .f32⟩
  | 23 => ⟨S_, .f32⟩
  | 24 => ⟨S2x2048x256, .f32⟩
  | 25 => ⟨S2x2048x256, .f32⟩
  | 26 => ⟨S_, .f32⟩
  | 27 => ⟨S2x2048x256, .f32⟩
  | 28 => ⟨S2x2048x256, .f32⟩
  | 29 => ⟨S2x2048x256, .f32⟩
  | 30 => ⟨S_, .f32⟩
  | 31 => ⟨S2x2048x256, .f32⟩
  | 32 => ⟨S2x2048x256, .f32⟩
  | 33 => ⟨S_, .f32⟩
  | 34 => ⟨S2x2048x256, .f32⟩
  | 35 => ⟨S2x2048x256, .f32⟩
  | 36 => ⟨S2x2048x256, .f32⟩
  | 37 => ⟨S2x2048x256, .f32⟩
  | 38 => ⟨S2x2048x256, .f32⟩
  | 39 => ⟨S2x2048x256, .f32⟩
  | 40 => ⟨S_, .f32⟩
  | 41 => ⟨S2x2048x256, .f32⟩
  | 42 => ⟨S2x2048x256, .f32⟩
  | 43 => ⟨S_, .f32⟩
  | 44 => ⟨S2x2048x256, .f32⟩
  | 45 => ⟨S2x2048x256, .f32⟩
  | 46 => ⟨S2x2048x256, .f32⟩
  | 47 => ⟨S_, .f32⟩
  | 48 => ⟨S2x2048x256, .f32⟩
  | 49 => ⟨S2x2048x256, .f32⟩
  | 50 => ⟨S2x2048x256, .f32⟩
  | 51 => ⟨S_, .f32⟩
  | 52 => ⟨S2x2048x256, .f32⟩
  | 53 => ⟨S2x2048x256, .f32⟩
  | 54 => ⟨S_, .f32⟩
  | 55 => ⟨S2x2048x256, .f32⟩
  | 56 => ⟨S2x2048x256, .f32⟩
  | 57 => ⟨S2x2048x256, .f32⟩
  | 58 => ⟨S_, .f32⟩
  | 59 => ⟨S2x2048x256, .f32⟩
  | 60 => ⟨S2x2048x256, .f32⟩
  | 61 => ⟨S_, .f32⟩
  | 62 => ⟨S2x2048x256, .f32⟩
  | 63 => ⟨S2x2048x256, .f32⟩
  | 64 => ⟨S2x2048x256, .f32⟩
  | 65 => ⟨S2x2048x4x64, .f32⟩
  | 66 => ⟨S4x64, .f32⟩
  | 67 => ⟨S2x2048x4x64, .f32⟩
  | 68 => ⟨S_, .f32⟩
  | 69 => ⟨S2x2048x4, .f32⟩
  | 70 => ⟨S2x2048x4x1, .f32⟩
  | 71 => ⟨S_, .f32⟩
  | 72 => ⟨S2x2048x4x1, .f32⟩
  | 73 => ⟨S2x2048x4x1, .f32⟩
  | 74 => ⟨S_, .f32⟩
  | 75 => ⟨S2x2048x4x1, .f32⟩
  | 76 => ⟨S2x2048x4x1, .f32⟩
  | 77 => ⟨S2x2048x4x1, .f32⟩
  | 78 => ⟨S2x2048x4x1, .f32⟩
  | 79 => ⟨S_, .f32⟩
  | 80 => ⟨S2x2048x4x1, .f32⟩
  | 81 => ⟨S2x2048x4x1, .f32⟩
  | 82 => ⟨S2x2048x4x64, .f32⟩
  | 83 => ⟨S2x2048x4x64, .f32⟩
  | 84 => ⟨S1x1x4x64, .f32⟩
  | 85 => ⟨S2x2048x4x64, .f32⟩
  | 86 => ⟨S2x2048x4x64, .f32⟩
  | 87 => ⟨S2x16x128x4x64, .f32⟩
  | 88 => ⟨S_, .i1⟩
  | 89 => ⟨S128x128, .i1⟩
  | 90 => ⟨S128x128, .i32⟩
  | 91 => ⟨S_, .i32⟩
  | 92 => ⟨S128x128, .i32⟩
  | 93 => ⟨S128x128, .i32⟩
  | 94 => ⟨S128x128, .i32⟩
  | 95 => ⟨S128x128, .i1⟩
  | 96 => ⟨S_, .i1⟩
  | 97 => ⟨S128x128, .i1⟩
  | 98 => ⟨S128x128, .i1⟩
  | 99 => ⟨S_, .f32⟩
  | 100 => ⟨S_, .f32⟩
  | 101 => ⟨S4x128x128, .i1⟩
  | 102 => ⟨S4x128x128, .f32⟩
  | 103 => ⟨S4x128x128, .f32⟩
  | 104 => ⟨S_, .f32⟩
  | 105 => ⟨S4x128x128, .f32⟩
  | 106 => ⟨S4x2x16x64x128, .f32⟩
  | 107 => ⟨S2x16x128x4x64, .f32⟩
  | 108 => ⟨S128x4, .f32⟩
  | 109 => ⟨S1x1x128x4x1, .f32⟩
  | 110 => ⟨S2x16x128x4x64, .f32⟩
  | 111 => ⟨S2x16x128x4x64, .f32⟩
  | 112 => ⟨S2x2048x256, .f32⟩
  | 113 => ⟨S2x2048x256, .f32⟩
  | 114 => ⟨S2x2048x256, .f32⟩
  | 115 => ⟨S2x2048x256, .f32⟩
  | 116 => ⟨S2x16x128x4x64, .f32⟩
  | 117 => ⟨S_, .f32⟩
  | 118 => ⟨S128x4, .f32⟩
  | 119 => ⟨S1x1x128x4x1, .f32⟩
  | 120 => ⟨S_, .f32⟩
  | 121 => ⟨S128x4, .f32⟩
  | 122 => ⟨S4x128, .f32⟩
  | 123 => ⟨S4x2x16x64x128, .f32⟩
  | 124 => ⟨S4x128x128, .f32⟩
  | 125 => ⟨S4x2x16x64x128, .f32⟩
  | 126 => ⟨S2x16x128x4x64, .f32⟩
  | 127 => ⟨S_, .f32⟩
  | _ => ⟨S2x2048x512, .bf16⟩

abbrev hbmTy0_1 (i : Nat) : BufTy := match i % 128 with
  | 0 => ⟨S4x128x128, .f32⟩
  | 1 => ⟨S4x128x128, .f32⟩
  | 2 => ⟨S2x2048x4x64, .f32⟩
  | 3 => ⟨S2x2048x4x64, .f32⟩
  | 4 => ⟨S_, .f32⟩
  | 5 => ⟨S4x64, .f32⟩
  | 6 => ⟨S1x1x4x64, .f32⟩
  | 7 => ⟨S2x2048x4x64, .f32⟩
  | 8 => ⟨S2x2048x4x64, .f32⟩
  | 9 => ⟨S_, .f32⟩
  | 10 => ⟨S4x64, .f32⟩
  | 11 => ⟨S2x2048x4x64, .f32⟩
  | 12 => ⟨S_, .f32⟩
  | 13 => ⟨S2x2048x4, .f32⟩
  | 14 => ⟨S2x2048x4x1, .f32⟩
  | 15 => ⟨S2x2048x4x64, .f32⟩
  | 16 => ⟨S2x2048x4x64, .f32⟩
  | 17 => ⟨S2x2048x4x1, .f32⟩
  | 18 => ⟨S_, .f32⟩
  | 19 => ⟨S2x2048x4x1, .f32⟩
  | 20 => ⟨S2x2048x4x1, .f32⟩
  | 21 => ⟨S_, .f32⟩
  | 22 => ⟨S2x2048x4, .f32⟩
  | 23 => ⟨S2x2048x4x64, .f32⟩
  | 24 => ⟨S2x2048x4x64, .f32⟩
  | 25 => ⟨S2x2048x4x64, .f32⟩
  | 26 => ⟨S2x2048x4x64, .f32⟩
  | 27 => ⟨S2x2048x4x64, .f32⟩
  | 28 => ⟨S256, .f32⟩
  | 29 => ⟨S2x2048x256, .f32⟩
  | 30 => ⟨S2x2048x256, .f32⟩
  | 31 => ⟨S2x2048x256, .f32⟩
  | 32 => ⟨S_, .f32⟩
  | 33 => ⟨S2x2048x256, .f32⟩
  | 34 => ⟨S2x2048x256, .f32⟩
  | 35 => ⟨S2x2048x256, .f32⟩
  | 36 => ⟨S_, .f32⟩
  | 37 => ⟨S2x2048x256, .f32⟩
  | 38 => ⟨S2x2048x256, .f32⟩
  | 39 => ⟨S2x2048x256, .f32⟩
  | 40 => ⟨S_, .f32⟩
  | 41 => ⟨S2x2048x256, .f32⟩
  | 42 => ⟨S2x2048x256, .f32⟩
  | 43 => ⟨S2x2048x256, .f32⟩
  | 44 => ⟨S2x2048x256, .f32⟩
  | 45 => ⟨S2x2048x256, .f32⟩
  | 46 => ⟨S2x2048x256, .f32⟩
  | 47 => ⟨S_, .f32⟩
  | 48 => ⟨S2x2048x256, .f32⟩
  | 49 => ⟨S2x2048x256, .f32⟩
  | 50 => ⟨S2x2048x256, .f32⟩
  | 51 => ⟨S_, .f32⟩
  | 52 => ⟨S2x2048x256, .f32⟩
  | 53 => ⟨S2x2048x256, .f32⟩
  | 54 => ⟨S2x2048x256, .f32⟩
  | 55 => ⟨S_, .f32⟩
  | 56 => ⟨S2x2048x256, .f32⟩
  | 57 => ⟨S2x2048x256, .f32⟩
  | 58 => ⟨S2x2048x256, .f32⟩
  | 59 => ⟨S2x2048x256, .f32⟩
  | 60 => ⟨S2x2048x3072, .bf16⟩
  | 61 => ⟨S2x2048x256, .bf16⟩
  | 62 => ⟨S2x2048x256, .bf16⟩
  | 63 => ⟨S2x2048x3584, .bf16⟩
  | 64 => ⟨S1x256, .f32⟩
  | 65 => ⟨S128x4, .f32⟩
  | 66 => ⟨S_, .i32⟩
  | 67 => ⟨S_, .f32⟩
  | 68 => ⟨S128x128, .f32⟩
  | _ => ⟨S2x2048x512, .bf16⟩

abbrev hbmTy (i : Nat) : BufTy := match i / 128 with
  | 0 => hbmTy0_0 i
  | 1 => hbmTy0_1 i
  | _ => ⟨S2x2048x512, .bf16⟩

abbrev bufTy : (tb : Table) → Fin (tcTables nBuf tb) → BufTy
  | .hbm, ⟨i, _⟩ => hbmTy i
  | _, _ => ⟨S2x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_v36 : Ref sig .tc := ⟨.hbm, 53, rfl⟩
abbrev main_cst_10 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_11 : Ref sig .tc := ⟨.hbm, 58, rfl⟩
abbrev main_v40 : Ref sig .tc := ⟨.hbm, 59, rfl⟩
abbrev main_v41 : Ref sig .tc := ⟨.hbm, 60, rfl⟩
abbrev main_cst_12 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_13 : Ref sig .tc := ⟨.hbm, 68, rfl⟩
abbrev main_v48 : Ref sig .tc := ⟨.hbm, 69, rfl⟩
abbrev main_v49 : Ref sig .tc := ⟨.hbm, 70, rfl⟩
abbrev main_cst_14 : Ref sig .tc := ⟨.hbm, 71, rfl⟩
abbrev main_v50 : Ref sig .tc := ⟨.hbm, 72, rfl⟩
abbrev main_v51 : Ref sig .tc := ⟨.hbm, 73, rfl⟩
abbrev main_cst_15 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_16 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c : Ref sig .tc := ⟨.hbm, 88, rfl⟩
abbrev main_v64 : Ref sig .tc := ⟨.hbm, 89, rfl⟩
abbrev main_call0_v0 : Ref sig .tc := ⟨.hbm, 90, rfl⟩
abbrev main_call0_c : Ref sig .tc := ⟨.hbm, 91, rfl⟩
abbrev main_call0_v1 : Ref sig .tc := ⟨.hbm, 92, rfl⟩
abbrev main_call0_v2 : Ref sig .tc := ⟨.hbm, 93, rfl⟩
abbrev main_call0_v3 : Ref sig .tc := ⟨.hbm, 94, rfl⟩
abbrev main_call0_v4 : Ref sig .tc := ⟨.hbm, 95, rfl⟩
abbrev main_call0_c_0 : Ref sig .tc := ⟨.hbm, 96, rfl⟩
abbrev main_call0_v5 : Ref sig .tc := ⟨.hbm, 97, rfl⟩
abbrev main_v65 : Ref sig .tc := ⟨.hbm, 98, rfl⟩
abbrev main_cst_17 : Ref sig .tc := ⟨.hbm, 99, rfl⟩
abbrev main_call1_v0 : Ref sig .tc := ⟨.hbm, 100, rfl⟩
abbrev main_v66_1 : Ref sig .tc := ⟨.hbm, 101, rfl⟩
abbrev main_call1_v2 : Ref sig .tc := ⟨.hbm, 102, rfl⟩
abbrev main_v66_0 : Ref sig .tc := ⟨.hbm, 103, rfl⟩
abbrev main_call1_cst : Ref sig .tc := ⟨.hbm, 104, rfl⟩
abbrev main_v66_2 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_cst_18 : Ref sig .tc := ⟨.hbm, 117, rfl⟩
abbrev main_v78 : Ref sig .tc := ⟨.hbm, 118, rfl⟩
abbrev main_v79 : Ref sig .tc := ⟨.hbm, 119, rfl⟩
abbrev main_cst_19 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_call2_cst : Ref sig .tc := ⟨.hbm, 127, rfl⟩
abbrev main_call2_v0 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_cst_20 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_cst_21 : Ref sig .tc := ⟨.hbm, 137, rfl⟩
abbrev main_v93 : Ref sig .tc := ⟨.hbm, 138, rfl⟩
abbrev main_v94 : Ref sig .tc := ⟨.hbm, 139, rfl⟩
abbrev main_cst_22 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_cst_23 : Ref sig .tc := ⟨.hbm, 146, rfl⟩
abbrev main_v100 : Ref sig .tc := ⟨.hbm, 147, rfl⟩
abbrev main_v101 : Ref sig .tc := ⟨.hbm, 148, rfl⟩
abbrev main_cst_24 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_cst_25 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_cst_26 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_cst_27 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_cst_28 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_cst_29 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_cst_30 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_c_31 : Ref sig .tc := ⟨.hbm, 194, rfl⟩
abbrev main_call3_v0 : Ref sig .tc := ⟨.hbm, 195, rfl⟩
abbrev main_v140 : Ref sig .tc := ⟨.hbm, 196, rfl⟩

abbrev nD : Nat := 1
abbrev τ : Topo := Topo.v7x

variable {F : FTy → Type} [FloatOps F]
-- ==== FfnBwd.lean ====
abbrev S4096x1024 : Shape := ⟨2, ![4096, 1024]⟩
abbrev S1024 : Shape := ⟨1, ![1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩
abbrev S256x1024 : Shape := ⟨2, ![256, 1024]⟩
abbrev S256x4096 : Shape := ⟨2, ![256, 4096]⟩
abbrev S2 : Shape := ⟨1, ![2]⟩
abbrev S1 : Shape := ⟨1, ![1]⟩
abbrev S256 : Shape := ⟨1, ![256]⟩
abbrev S256x1 : Shape := ⟨2, ![256, 1]⟩
abbrev S1024x1024 : Shape := ⟨2, ![1024, 1024]⟩
abbrev S1x1024x1024 : Shape := ⟨3, ![1, 1024, 1024]⟩

abbrev nBuf : Space → Nat
  | .hbm => 37
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S1024x4096, .bf16⟩
  | .hbm, ⟨6, _⟩ => ⟨S1024x4x1024, .bf16⟩
  | .hbm, ⟨7, _⟩ => ⟨S4x1024x1024, .bf16⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S4096x4096, .bf16⟩
  | .hbm, ⟨29, _⟩ => ⟨S1x1024, .f32⟩
  | .hbm, ⟨30, _⟩ => ⟨S4096x1024, .bf16⟩
  | .hbm, ⟨31, _⟩ => ⟨S4096x1024, .f32⟩
  | .hbm, ⟨32, _⟩ => ⟨S1x1024, .f32⟩
  | .hbm, ⟨33, _⟩ => ⟨S4096x1024, .bf16⟩
  | .hbm, ⟨34, _⟩ => ⟨S4096x4096, .bf16⟩
  | .hbm, ⟨35, _⟩ => ⟨S4096x4096, .bf16⟩
  | .hbm, ⟨36, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x4096, .bf16⟩
  | .local _ .vmem, ⟨4, _⟩ => ⟨S256x4096, .bf16⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S256x1024, .bf16⟩
  | .local _ .vmem, ⟨11, _⟩ => ⟨S256x1024, .bf16⟩
  | .local _ .vmem, ⟨12, _⟩ => ⟨S256x4096, .bf16⟩
  | .local _ .vmem, ⟨13, _⟩ => ⟨S256x4096, .bf16⟩
  | .local _ .vmem, ⟨14, _⟩ => ⟨S256x4096, .bf16⟩
  | .local _ .vmem, ⟨15, _⟩ => ⟨S256x4096, .bf16⟩
  | .local _ .vmem, ⟨16, _⟩ => ⟨S256x1024, .bf16⟩
  | .local _ .vmem, ⟨17, _⟩ => ⟨S256x1024, .bf16⟩
  | .local _ .vmem, ⟨18, _⟩ => ⟨S4x1024x1024, .bf16⟩
  | .local _ .vmem, ⟨19, _⟩ => ⟨S4096x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_cst : Ref sig .tc := ⟨.hbm, 25, rfl⟩
abbrev main_call0_v0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21_0 : Ref sig .tc := ⟨.hbm, 31, rfl⟩
abbrev main_v21_1 : Ref sig .tc := ⟨.hbm, 32, rfl⟩
abbrev main_v21_2 : Ref sig .tc := ⟨.hbm, 33, rfl⟩
abbrev main_v21_3 : Ref sig .tc := ⟨.hbm, 34, rfl⟩
abbrev main_v21_4 : Ref sig .tc := ⟨.hbm, 35, rfl⟩
abbrev main_v21_5 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnBwdRefIdeal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 117
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .i1⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x4096, .f32⟩
  | .hbm, ⟨42, _⟩ => ⟨S4096x4096, .f32⟩
  | .hbm, ⟨43, _⟩ => ⟨S_, .f32⟩
  | .hbm, ⟨44, _⟩ => ⟨S4096x4096, .f32⟩
  | .hbm, ⟨45, _⟩ => ⟨S4096x4096, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S4096, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S_, .f32⟩
  | .hbm, ⟨81, _⟩ => ⟨S4096x1, .f32⟩
  | .hbm, ⟨82, _⟩ => ⟨S4096x1, .f32⟩
  | .hbm, ⟨83, _⟩ => ⟨S4096x1, .f32⟩
  | .hbm, ⟨84, _⟩ => ⟨S4096x1024, .f32⟩
  | .hbm, ⟨85, _⟩ => ⟨S4096x1024, .f32⟩
  | .hbm, ⟨86, _⟩ => ⟨S1x1024, .f32⟩
  | .hbm, ⟨87, _⟩ => ⟨S4096x1024, .f32⟩
  | .hbm, ⟨88, _⟩ => ⟨S4096x1024, .f32⟩
  | .hbm, ⟨89, _⟩ => ⟨S4096x4096, .f32⟩
  | .hbm, ⟨90, _⟩ => ⟨S_, .f32⟩
  | .hbm, ⟨91, _⟩ => ⟨S4096x4096, .f32⟩
  | .hbm, ⟨92, _⟩ => ⟨S4096x4096, .f32⟩
  | .hbm, ⟨93, _⟩ => ⟨S_, .f32⟩
  | .hbm, ⟨94, _⟩ => ⟨S4096x4096, .f32⟩
  | .hbm, ⟨95, _⟩ => ⟨S4096x4096, .i1⟩
  | .hbm, ⟨96, _⟩ => ⟨S_, .f32⟩
  | .hbm, ⟨97, _⟩ => ⟨S4096x4096, .f32⟩
  | .hbm, ⟨98, _⟩ => ⟨S4096x4096, .f32⟩
  | .hbm, ⟨99, _⟩ => ⟨S_, .f32⟩
  | .hbm, ⟨100, _⟩ => ⟨S4096x4096, .f32⟩
  | .hbm, ⟨101, _⟩ => ⟨S4096x4096, .f32⟩
  | .hbm, ⟨102, _⟩ => ⟨S4096x1024, .f32⟩
  | .hbm, ⟨103, _⟩ => ⟨S4096x4096, .f32⟩
  | .hbm, ⟨104, _⟩ => ⟨S4096x4096, .f32⟩
  | .hbm, ⟨105, _⟩ => ⟨S_, .f32⟩
  | .hbm, ⟨106, _⟩ => ⟨S4096x4096, .f32⟩
  | .hbm, ⟨107, _⟩ => ⟨S4096x4096, .f32⟩
  | .hbm, ⟨108, _⟩ => ⟨S1x1024, .f32⟩
  | .hbm, ⟨109, _⟩ => ⟨S4096x1024, .bf16⟩
  | .hbm, ⟨110, _⟩ => ⟨S_, .f32⟩
  | .hbm, ⟨111, _⟩ => ⟨S4096x4096, .f32⟩
  | .hbm, ⟨112, _⟩ => ⟨S4096x4096, .f32⟩
  | .hbm, ⟨113, _⟩ => ⟨S4096x4096, .f32⟩
  | .hbm, ⟨114, _⟩ => ⟨S4096x4096, .bf16⟩
  | .hbm, ⟨115, _⟩ => ⟨S4096x4096, .bf16⟩
  | .hbm, ⟨116, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_12 : Ref sig .tc := ⟨.hbm, 74, rfl⟩
abbrev main_v54 : Ref sig .tc := ⟨.hbm, 75, rfl⟩
abbrev main_v55 : Ref sig .tc := ⟨.hbm, 76, rfl⟩
abbrev main_cst_13 : Ref sig .tc := ⟨.hbm, 77, rfl⟩
abbrev main_v56 : Ref sig .tc := ⟨.hbm, 78, rfl⟩
abbrev main_v57 : Ref sig .tc := ⟨.hbm, 79, rfl⟩
abbrev main_cst_14 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_call1_cst : Ref sig .tc := ⟨.hbm, 90, rfl⟩
abbrev main_call1_v0 : Ref sig .tc := ⟨.hbm, 91, rfl⟩
abbrev main_v67 : Ref sig .tc := ⟨.hbm, 92, rfl⟩
abbrev main_cst_15 : Ref sig .tc := ⟨.hbm, 93, rfl⟩
abbrev main_v68 : Ref sig .tc := ⟨.hbm, 94, rfl⟩
abbrev main_v69 : Ref sig .tc := ⟨.hbm, 95, rfl⟩
abbrev main_cst_16 : Ref sig .tc := ⟨.hbm, 96, rfl⟩
abbrev main_v70 : Ref sig .tc := ⟨.hbm, 97, rfl⟩
abbrev main_v71 : Ref sig .tc := ⟨.hbm, 98, rfl⟩
abbrev main_cst_17 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_18 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_call2_cst : Ref sig .tc := ⟨.hbm, 110, rfl⟩
abbrev main_call2_v0 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩

abbrev nD : Nat := 1
abbrev τ : Topo := Topo.v7x

variable {F : FTy → Type} [FloatOps F]
-- ==== FfnFwd.lean ====
abbrev S4096x1024 : Shape := ⟨2, ![4096, 1024]⟩
abbrev S1024 : Shape := ⟨1, ![1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S1x1024 : Shape := ⟨2, ![1, 1024]⟩
abbrev S4096x4096 : Shape := ⟨2, ![4096, 4096]⟩
abbrev S256x1024 : Shape := ⟨2, ![256, 1024]⟩
abbrev S256x4096 : Shape := ⟨2, ![256, 4096]⟩
abbrev S2 : Shape := ⟨1, ![2]⟩
abbrev S1 : Shape := ⟨1, ![1]⟩
abbrev S_ : Shape := ⟨0, ![]⟩
abbrev S256 : Shape := ⟨1, ![256]⟩
abbrev S256x1 : Shape := ⟨2, ![256, 1]⟩
abbrev S1x1024x1024 : Shape := ⟨3, ![1, 1024, 1024]⟩
abbrev S1024x1024 : Shape := ⟨2, ![1024, 1024]⟩

abbrev nBuf : Space → Nat
  | .hbm => 11
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024x4096, .bf16⟩
  | .hbm, ⟨5, _⟩ => ⟨S1024x4x1024, .bf16⟩
  | .hbm, ⟨6, _⟩ => ⟨S4x1024x1024, .bf16⟩
  | .hbm, ⟨7, _⟩ => ⟨S1x1024, .f32⟩
  | .hbm, ⟨8, _⟩ => ⟨S4096x1024, .bf16⟩
  | .hbm, ⟨9, _⟩ => ⟨S4096x1024, .f32⟩
  | .hbm, ⟨10, _⟩ => ⟨S4096x4096, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x4096, .bf16⟩
  | .local _ .vmem, ⟨6, _⟩ => ⟨S256x4096, .bf16⟩
  | .local _ .vmem, ⟨7, _⟩ => ⟨S4x1024x1024, .bf16⟩
  | .local _ .vmem, ⟨8, _⟩ => ⟨S4096x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnFwdRefIdeal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 48
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x4096, .f32⟩
  | .hbm, ⟨44, _⟩ => ⟨S_, .f32⟩
  | .hbm, ⟨45, _⟩ => ⟨S4096x4096, .f32⟩
  | .hbm, ⟨46, _⟩ => ⟨S4096x4096, .f32⟩
  | .hbm, ⟨47, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_call1_cst : Ref sig .tc := ⟨.hbm, 44, rfl⟩
abbrev main_call1_v0 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== FfnLoss.lean ====
abbrev S4096x1024 : Shape := ⟨2, ![4096, 1024]⟩
abbrev S1024 : Shape := ⟨1, ![1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S1x1024 : Shape := ⟨2, ![1, 1024]⟩
abbrev S4096x4096 : Shape := ⟨2, ![4096, 4096]⟩
abbrev S256x1024 : Shape := ⟨2, ![256, 1024]⟩
abbrev S256x4096 : Shape := ⟨2, ![256, 4096]⟩
abbrev S2 : Shape := ⟨1, ![2]⟩
abbrev S1 : Shape := ⟨1, ![1]⟩
abbrev S_ : Shape := ⟨0, ![]⟩
abbrev S256 : Shape := ⟨1, ![256]⟩
abbrev S256x1 : Shape := ⟨2, ![256, 1]⟩
abbrev S1x1024x1024 : Shape := ⟨3, ![1, 1024, 1024]⟩
abbrev S1024x1024 : Shape := ⟨2, ![1024, 1024]⟩

abbrev nBuf : Space → Nat
  | .hbm => 13
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S1024x4096, .bf16⟩
  | .hbm, ⟨6, _⟩ => ⟨S1024x4x1024, .bf16⟩
  | .hbm, ⟨7, _⟩ => ⟨S4x1024x1024, .bf16⟩
  | .hbm, ⟨8, _⟩ => ⟨S1x1024, .f32⟩
  | .hbm, ⟨9, _⟩ => ⟨S4096x1024, .bf16⟩
  | .hbm, ⟨10, _⟩ => ⟨S4096x1024, .f32⟩
  | .hbm, ⟨11, _⟩ => ⟨S4096x4096, .bf16⟩
  | .hbm, ⟨12, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x4096, .bf16⟩
  | .local _ .vmem, ⟨8, _⟩ => ⟨S256x4096, .bf16⟩
  | .local _ .vmem, ⟨9, _⟩ => ⟨S1x1024, .f32⟩
  | .local _ .vmem, ⟨10, _⟩ => ⟨S4x1024x1024, .bf16⟩
  | .local _ .vmem, ⟨11, _⟩ => ⟨S4096x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== FfnLossRefIdeal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 83
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S_, .f32⟩
  | .hbm, ⟨34, _⟩ => ⟨S1x1024, .f32⟩
  | .hbm, ⟨35, _⟩ => ⟨S1x1024, .f32⟩
  | .hbm, ⟨36, _⟩ => ⟨S_, .f32⟩
  | .hbm, ⟨37, _⟩ => ⟨S1x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S4096, .f32⟩
  | .hbm, ⟨57, _⟩ => ⟨S_, .f32⟩
  | .hbm, ⟨58, _⟩ => ⟨S4096, .f32⟩
  | .hbm, ⟨59, _⟩ => ⟨S4096, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S4096, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096x1, .f32⟩
  | .hbm, ⟨71, _⟩ => ⟨S4096x1, .f32⟩
  | .hbm, ⟨72, _⟩ => ⟨S4096x1, .f32⟩
  | .hbm, ⟨73, _⟩ => ⟨S4096x1024, .f32⟩
  | .hbm, ⟨74, _⟩ => ⟨S4096x1024, .f32⟩
  | .hbm, ⟨75, _⟩ => ⟨S1x1024, .f32⟩
  | .hbm, ⟨76, _⟩ => ⟨S4096x1024, .f32⟩
  | .hbm, ⟨77, _⟩ => ⟨S4096x1024, .f32⟩
  | .hbm, ⟨78, _⟩ => ⟨S4096x4096, .f32⟩
  | .hbm, ⟨79, _⟩ => ⟨S_, .f32⟩
  | .hbm, ⟨80, _⟩ => ⟨S4096x4096, .f32⟩
  | .hbm, ⟨81, _⟩ => ⟨S4096x4096, .f32⟩
  | .hbm, ⟨82, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_cst_9 : Ref sig .tc := ⟨.hbm, 51, rfl⟩
abbrev main_v34 : Ref sig .tc := ⟨.hbm, 52, rfl⟩
abbrev main_cst_10 : Ref sig .tc := ⟨.hbm, 53, rfl⟩
abbrev main_cst_11 : Ref sig .tc := ⟨.hbm, 54, rfl⟩
abbrev main_v35 : Ref sig .tc := ⟨.hbm, 55, rfl⟩
abbrev main_v36 : Ref sig .tc := ⟨.hbm, 56, rfl⟩
abbrev main_cst_12 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_13 : Ref sig .tc := ⟨.hbm, 63, rfl⟩
abbrev main_v42 : Ref sig .tc := ⟨.hbm, 64, rfl⟩
abbrev main_v43 : Ref sig .tc := ⟨.hbm, 65, rfl⟩
abbrev main_cst_14 : Ref sig .tc := ⟨.hbm, 66, rfl⟩
abbrev main_v44 : Ref sig .tc := ⟨.hbm, 67, rfl⟩
abbrev main_v45 : Ref sig .tc := ⟨.hbm, 68, rfl⟩
abbrev main_cst_15 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call1_cst : Ref sig .tc := ⟨.hbm, 79, rfl⟩
abbrev main_call1_v0 : Ref sig .tc := ⟨.hbm, 80, rfl⟩
abbrev main_v55 : Ref sig .tc := ⟨.hbm, 81, rfl⟩
abbrev main_v56 : Ref sig .tc := ⟨.hbm, 82, rfl⟩

abbrev nD : Nat := 1
abbrev τ : Topo := Topo.v7x

variable {F : FTy → Type} [FloatOps F]
-- ==== InBwd.lean ====
abbrev S4096x1024 : Shape := ⟨2, ![4096, 1024]⟩
abbrev S1024 : Shape := ⟨1, ![1024]⟩
abbrev S1024x3584 : Shape := ⟨2, ![1024, 3584]⟩
abbrev S4096x3584 : Shape := ⟨2, ![4096, 3584]⟩
abbrev S1x1024 : Shape := ⟨2, ![1, 1024]⟩
abbrev S256x1024 : Shape := ⟨2, ![256, 1024]⟩
abbrev S256x3584 : Shape := ⟨2, ![256, 3584]⟩
abbrev S256 : Shape := ⟨1, ![256]⟩
abbrev S256x1 : Shape := ⟨2, ![256, 1]⟩

abbrev nBuf : Space → Nat
  | .hbm => 9
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3584, .f32⟩
  | .hbm, ⟨3, _⟩ => ⟨S4096x3584, .bf16⟩
  | .hbm, ⟨4, _⟩ => ⟨S4096x1024, .f32⟩
  | .hbm, ⟨5, _⟩ => ⟨S1x1024, .f32⟩
  | .hbm, ⟨6, _⟩ => ⟨S1024x3584, .bf16⟩
  | .hbm, ⟨7, _⟩ => ⟨S4096x1024, .f32⟩
  | .hbm, ⟨8, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3584, .bf16⟩
  | .local _ .vmem, ⟨4, _⟩ => ⟨S256x3584, .bf16⟩
  | .local _ .vmem, ⟨5, _⟩ => ⟨S256x3584, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3584 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InBwdRefIdeal.lean ====
abbrev S4096x1024 : Shape := ⟨2, ![4096, 1024]⟩
abbrev S1024 : Shape := ⟨1, ![1024]⟩
abbrev S1024x3584 : Shape := ⟨2, ![1024, 3584]⟩
abbrev S4096x3584 : Shape := ⟨2, ![4096, 3584]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3584, .f32⟩
  | .hbm, ⟨3, _⟩ => ⟨S4096x3584, .bf16⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x3584, .f32⟩
  | .hbm, ⟨26, _⟩ => ⟨S4096x3584, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== InFwd.lean ====
abbrev S4096x1024 : Shape := ⟨2, ![4096, 1024]⟩
abbrev S1024 : Shape := ⟨1, ![1024]⟩
abbrev S1024x3584 : Shape := ⟨2, ![1024, 3584]⟩
abbrev S1x1024 : Shape := ⟨2, ![1, 1024]⟩
abbrev S4096x1536 : Shape := ⟨2, ![4096, 1536]⟩
abbrev S4096x512 : Shape := ⟨2, ![4096, 512]⟩
abbrev S4096x128 : Shape := ⟨2, ![4096, 128]⟩
abbrev S4096x768 : Shape := ⟨2, ![4096, 768]⟩
abbrev S256x1024 : Shape := ⟨2, ![256, 1024]⟩
abbrev S256x1536 : Shape := ⟨2, ![256, 1536]⟩
abbrev S256x512 : Shape := ⟨2, ![256, 512]⟩
abbrev S256x128 : Shape := ⟨2, ![256, 128]⟩
abbrev S256x768 : Shape := ⟨2, ![256, 768]⟩
abbrev S256 : Shape := ⟨1, ![256]⟩
abbrev S256x1 : Shape := ⟨2, ![256, 1]⟩
abbrev S1024x1536 : Shape := ⟨2, ![1024, 1536]⟩
abbrev S1024x512 : Shape := ⟨2, ![1024, 512]⟩
abbrev S1024x128 : Shape := ⟨2, ![1024, 128]⟩
abbrev S1024x768 : Shape := ⟨2, ![1024, 768]⟩

abbrev nBuf : Space → Nat
  | .hbm => 11
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3584, .f32⟩
  | .hbm, ⟨3, _⟩ => ⟨S1x1024, .f32⟩
  | .hbm, ⟨4, _⟩ => ⟨S1024x3584, .bf16⟩
  | .hbm, ⟨5, _⟩ => ⟨S4096x1536, .f32⟩
  | .hbm, ⟨6, _⟩ => ⟨S4096x512, .f32⟩
  | .hbm, ⟨7, _⟩ => ⟨S4096x128, .f32⟩
  | .hbm, ⟨8, _⟩ => ⟨S4096x768, .bf16⟩
  | .hbm, ⟨9, _⟩ => ⟨S4096x512, .bf16⟩
  | .hbm, ⟨10, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3584, .bf16⟩
  | .local _ .vmem, ⟨4, _⟩ => ⟨S256x1536, .f32⟩
  | .local _ .vmem, ⟨5, _⟩ => ⟨S256x1536, .f32⟩
  | .local _ .vmem, ⟨6, _⟩ => ⟨S256x512, .f32⟩
  | .local _ .vmem, ⟨7, _⟩ => ⟨S256x512, .f32⟩
  | .local _ .vmem, ⟨8, _⟩ => ⟨S256x128, .f32⟩
  | .local _ .vmem, ⟨9, _⟩ => ⟨S256x128, .f32⟩
  | .local _ .vmem, ⟨10, _⟩ => ⟨S256x768, .bf16⟩
  | .local _ .vmem, ⟨11, _⟩ => ⟨S256x768, .bf16⟩
  | .local _ .vmem, ⟨12, _⟩ => ⟨S256x512, .bf16⟩
  | .local _ .vmem, ⟨13, _⟩ => ⟨S256x512, .bf16⟩
  | .local _ .vmem, ⟨14, _⟩ => ⟨S256x1024, .bf16⟩
  | .local _ .vmem, ⟨15, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InFwdRefIdeal.lean ====
abbrev S4096x1024 : Shape := ⟨2, ![4096, 1024]⟩
abbrev S1024 : Shape := ⟨1, ![1024]⟩
abbrev S1024x3584 : Shape := ⟨2, ![1024, 3584]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x3584 : Shape := ⟨2, ![4096, 3584]⟩
abbrev S4096x1536 : Shape := ⟨2, ![4096, 1536]⟩
abbrev S4096x512 : Shape := ⟨2, ![4096, 512]⟩
abbrev S4096x128 : Shape := ⟨2, ![4096, 128]⟩
abbrev S4096x768 : Shape := ⟨2, ![4096, 768]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3584, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x3584, .f32⟩
  | .hbm, ⟨20, _⟩ => ⟨S4096x1536, .f32⟩
  | .hbm, ⟨21, _⟩ => ⟨S4096x512, .f32⟩
  | .hbm, ⟨22, _⟩ => ⟨S4096x128, .f32⟩
  | .hbm, ⟨23, _⟩ => ⟨S4096x768, .f32⟩
  | .hbm, ⟨24, _⟩ => ⟨S4096x768, .bf16⟩
  | .hbm, ⟨25, _⟩ => ⟨S4096x512, .f32⟩
  | .hbm, ⟨26, _⟩ => ⟨S4096x512, .bf16⟩
  | .hbm, ⟨27, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== DwFf1.lean ====
abbrev S4096x1024 : Shape := ⟨2, ![4096, 1024]⟩
abbrev S1024x4096 : Shape := ⟨2, ![1024, 4096]⟩
abbrev S4096x4096 : Shape := ⟨2, ![4096, 4096]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .f32⟩
  | .hbm, ⟨2, _⟩ => ⟨S4096x4096, .bf16⟩
  | .hbm, ⟨3, _⟩ => ⟨S4x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwFf1RefIdeal.lean ====
abbrev S4096x1024 : Shape := ⟨2, ![4096, 1024]⟩
abbrev S1024x4096 : Shape := ⟨2, ![1024, 4096]⟩
abbrev S4096x4096 : Shape := ⟨2, ![4096, 4096]⟩
abbrev S1024x4x1024 : Shape := ⟨3, ![1024, 4, 1024]⟩
abbrev S4x1024x1024 : Shape := ⟨3, ![4, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .f32⟩
  | .hbm, ⟨2, _⟩ => ⟨S4096x4096, .bf16⟩
  | .hbm, ⟨3, _⟩ => ⟨S4096x1024, .f32⟩
  | .hbm, ⟨4, _⟩ => ⟨S4096x4096, .f32⟩
  | .hbm, ⟨5, _⟩ => ⟨S4096x4096, .f32⟩
  | .hbm, ⟨6, _⟩ => ⟨S4096x1024, .f32⟩
  | .hbm, ⟨7, _⟩ => ⟨S1024x4096, .f32⟩
  | .hbm, ⟨8, _⟩ => ⟨S1024x4x1024, .f32⟩
  | .hbm, ⟨9, _⟩ => ⟨S4x1024x1024, .f32⟩
  | .hbm, ⟨10, _⟩ => ⟨S4x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwFf2.lean ====
abbrev S4096x4096 : Shape := ⟨2, ![4096, 4096]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4096x1024, .bf16⟩
  | .hbm, ⟨3, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwFf2RefIdeal.lean ====
abbrev S4096x4096 : Shape := ⟨2, ![4096, 4096]⟩
abbrev S4096x1024 : Shape := ⟨2, ![4096, 1024]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4096x1024, .bf16⟩
  | .hbm, ⟨3, _⟩ => ⟨S4096x4096, .f32⟩
  | .hbm, ⟨4, _⟩ => ⟨S4096x1024, .f32⟩
  | .hbm, ⟨5, _⟩ => ⟨S4096x1024, .f32⟩
  | .hbm, ⟨6, _⟩ => ⟨S1024x4096, .f32⟩
  | .hbm, ⟨7, _⟩ => ⟨S4096x1024, .f32⟩
  | .hbm, ⟨8, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwIn.lean ====
abbrev S4096x1024 : Shape := ⟨2, ![4096, 1024]⟩
abbrev S1024x3584 : Shape := ⟨2, ![1024, 3584]⟩
abbrev S4096x3584 : Shape := ⟨2, ![4096, 3584]⟩
abbrev S2048x1024 : Shape := ⟨2, ![2048, 1024]⟩
abbrev S2048x896 : Shape := ⟨2, ![2048, 896]⟩
abbrev S1024x896 : Shape := ⟨2, ![1024, 896]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x3584, .f32⟩
  | .hbm, ⟨2, _⟩ => ⟨S4096x3584, .bf16⟩
  | .hbm, ⟨3, _⟩ => ⟨S1024x3584, .bf16⟩
  | .local _ .vmem, ⟨0, _⟩ => ⟨S2048x1024, .bf16⟩
  | .local _ .vmem, ⟨1, _⟩ => ⟨S2048x1024, .bf16⟩
  | .local _ .vmem, ⟨2, _⟩ => ⟨S2048x896, .bf16⟩
  | .local _ .vmem, ⟨3, _⟩ => ⟨S2048x896, .bf16⟩
  | .local _ .vmem, ⟨4, _⟩ => ⟨S1024x896, .bf16⟩
  | .local _ .vmem, ⟨5, _⟩ => ⟨S1024x896, .bf16⟩
  | .local _ .vmem, ⟨6, _⟩ => ⟨S1024x896, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRefIdeal.lean ====
abbrev S4096x1024 : Shape := ⟨2, ![4096, 1024]⟩
abbrev S1024x3584 : Shape := ⟨2, ![1024, 3584]⟩
abbrev S4096x3584 : Shape := ⟨2, ![4096, 3584]⟩
abbrev S3584x1024 : Shape := ⟨2, ![3584, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3584, .f32⟩
  | .hbm, ⟨2, _⟩ => ⟨S4096x3584, .bf16⟩
  | .hbm, ⟨3, _⟩ => ⟨S4096x1024, .f32⟩
  | .hbm, ⟨4, _⟩ => ⟨S4096x3584, .f32⟩
  | .hbm, ⟨5, _⟩ => ⟨S4096x3584, .f32⟩
  | .hbm, ⟨6, _⟩ => ⟨S3584x1024, .f32⟩
  | .hbm, ⟨7, _⟩ => ⟨S1024x3584, .f32⟩
  | .hbm, ⟨8, _⟩ => ⟨S1024x3584, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwOut.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .bf16⟩
  | .hbm, ⟨3, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwOutRefIdeal.lean ====
abbrev S4096x1024 : Shape := ⟨2, ![4096, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutBwd.lean ====
abbrev S4096x1024 : Shape := ⟨2, ![4096, 1024]⟩
abbrev S1024x1024 : Shape := ⟨2, ![1024, 1024]⟩
abbrev S4096x512 : Shape := ⟨2, ![4096, 512]⟩
abbrev S4096x256 : Shape := ⟨2, ![4096, 256]⟩
abbrev S512x1024 : Shape := ⟨2, ![512, 1024]⟩
abbrev S512x512 : Shape := ⟨2, ![512, 512]⟩
abbrev S512x256 : Shape := ⟨2, ![512, 256]⟩

abbrev nBuf : Space → Nat
  | .hbm => 8
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S1024x1024, .bf16⟩
  | .hbm, ⟨4, _⟩ => ⟨S4096x512, .f32⟩
  | .hbm, ⟨5, _⟩ => ⟨S4096x256, .f32⟩
  | .hbm, ⟨6, _⟩ => ⟨S4096x256, .f32⟩
  | .hbm, ⟨7, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x512, .f32⟩
  | .local _ .vmem, ⟨4, _⟩ => ⟨S512x512, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x1024, .bf16⟩
  | .local _ .vmem, ⟨10, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutBwdRefIdeal.lean ====
abbrev S4096x1024 : Shape := ⟨2, ![4096, 1024]⟩
abbrev S1024x1024 : Shape := ⟨2, ![1024, 1024]⟩
abbrev S4096x512 : Shape := ⟨2, ![4096, 512]⟩
abbrev S4096x256 : Shape := ⟨2, ![4096, 256]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x512, .f32⟩
  | .hbm, ⟨7, _⟩ => ⟨S4096x256, .f32⟩
  | .hbm, ⟨8, _⟩ => ⟨S4096x256, .f32⟩
  | .hbm, ⟨9, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutFwd.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .f32⟩
  | .hbm, ⟨3, _⟩ => ⟨S1024x1024, .bf16⟩
  | .hbm, ⟨4, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutFwdRefIdeal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .f32⟩
  | .hbm, ⟨3, _⟩ => ⟨S4096x1024, .f32⟩
  | .hbm, ⟨4, _⟩ => ⟨S4096x1024, .f32⟩
  | .hbm, ⟨5, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== SgFwd.lean ====
abbrev S2x2048x512 : Shape := ⟨3, ![2, 2048, 512]⟩
abbrev S256 : Shape := ⟨1, ![256]⟩
abbrev S4x128x128 : Shape := ⟨3, ![4, 128, 128]⟩
abbrev S4x128 : Shape := ⟨2, ![4, 128]⟩
abbrev S2x2048x1024 : Shape := ⟨3, ![2, 2048, 1024]⟩
abbrev S128x4 : Shape := ⟨2, ![128, 4]⟩
abbrev S_ : Shape := ⟨0, ![]⟩
abbrev S128x128 : Shape := ⟨2, ![128, 128]⟩
abbrev S1x256 : Shape := ⟨2, ![1, 256]⟩
abbrev S1x512x512 : Shape := ⟨3, ![1, 512, 512]⟩
abbrev S1x512x256 : Shape := ⟨3, ![1, 512, 256]⟩
abbrev S1x128x128 : Shape := ⟨3, ![1, 128, 128]⟩
abbrev S1x128 : Shape := ⟨2, ![1, 128]⟩
abbrev S128x1 : Shape := ⟨2, ![128, 1]⟩

abbrev nBuf : Space → Nat
  | .hbm => 11
  | .vmem => 7
  | .smem => 0
  | _ => 0

abbrev bufTy : (tb : Table) → Fin (tcTables nBuf tb) → BufTy
  | .hbm, ⟨0, _⟩ => ⟨S2x2048x512, .bf16⟩
  | .hbm, ⟨1, _⟩ => ⟨S256, .f32⟩
  | .hbm, ⟨2, _⟩ => ⟨S4x128x128, .f32⟩
  | .hbm, ⟨3, _⟩ => ⟨S4x128, .f32⟩
  | .hbm, ⟨4, _⟩ => ⟨S2x2048x1024, .bf16⟩
  | .hbm, ⟨5, _⟩ => ⟨S128x4, .f32⟩
  | .hbm, ⟨6, _⟩ => ⟨S_, .i32⟩
  | .hbm, ⟨7, _⟩ => ⟨S_, .f32⟩
  | .hbm, ⟨8, _⟩ => ⟨S128x128, .f32⟩
  | .hbm, ⟨9, _⟩ => ⟨S1x256, .f32⟩
  | .hbm, ⟨10, _⟩ => ⟨S2x2048x1024, .bf16⟩
  | .local _ .vmem, ⟨0, _⟩ => ⟨S1x512x512, .bf16⟩
  | .local _ .vmem, ⟨1, _⟩ => ⟨S1x512x512, .bf16⟩
  | .local _ .vmem, ⟨2, _⟩ => ⟨S1x256, .f32⟩
  | .local _ .vmem, ⟨3, _⟩ => ⟨S4x128x128, .f32⟩
  | .local _ .vmem, ⟨4, _⟩ => ⟨S128x128, .f32⟩
  | .local _ .vmem, ⟨5, _⟩ => ⟨S1x512x256, .bf16⟩
  | .local _ .vmem, ⟨6, _⟩ => ⟨S1x512x256, .bf16⟩
  | _, _ => ⟨S2x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SgFwdRefIdeal.lean ====
abbrev S2x2048x512 : Shape := ⟨3, ![2, 2048, 512]⟩
abbrev S256 : Shape := ⟨1, ![256]⟩
abbrev S4x128x128 : Shape := ⟨3, ![4, 128, 128]⟩
abbrev S4x128 : Shape := ⟨2, ![4, 128]⟩
abbrev S2x2048x1024 : Shape := ⟨3, ![2, 2048, 1024]⟩
abbrev S2x2048x256 : Shape := ⟨3, ![2, 2048, 256]⟩
abbrev S2x2048x768 : Shape := ⟨3, ![2, 2048, 768]⟩
abbrev S_ : Shape := ⟨0, ![]⟩
abbrev S2x2048x4x64 : Shape := ⟨4, ![2, 2048, 4, 64]⟩
abbrev S4x64 : Shape := ⟨2, ![4, 64]⟩
abbrev S2x2048x4 : Shape := ⟨3, ![2, 2048, 4]⟩
abbrev S2x2048x4x1 : Shape := ⟨4, ![2, 2048, 4, 1]⟩
abbrev S1x1x4x64 : Shape := ⟨4, ![1, 1, 4, 64]⟩
abbrev S2x16x128x4x64 : Shape := ⟨5, ![2, 16, 128, 4, 64]⟩
abbrev S128x128 : Shape := ⟨2, ![128, 128]⟩
abbrev S4x2x16x64x128 : Shape := ⟨5, ![4, 2, 16, 64, 128]⟩
abbrev S128x4 : Shape := ⟨2, ![128, 4]⟩
abbrev S1x1x128x4x1 : Shape := ⟨5, ![1, 1, 128, 4, 1]⟩

abbrev nBuf : Space → Nat
  | .hbm => 88
  | .vmem => 0
  | .smem => 0
  | _ => 0

abbrev bufTy : (tb : Table) → Fin (tcTables nBuf tb) → BufTy
  | .hbm, ⟨0, _⟩ => ⟨S2x2048x512, .bf16⟩
  | .hbm, ⟨1, _⟩ => ⟨S256, .f32⟩
  | .hbm, ⟨2, _⟩ => ⟨S4x128x128, .f32⟩
  | .hbm, ⟨3, _⟩ => ⟨S4x128, .f32⟩
  | .hbm, ⟨4, _⟩ => ⟨S2x2048x1024, .bf16⟩
  | .hbm, ⟨5, _⟩ => ⟨S2x2048x512, .f32⟩
  | .hbm, ⟨6, _⟩ => ⟨S2x2048x256, .f32⟩
  | .hbm, ⟨7, _⟩ => ⟨S2x2048x256, .f32⟩
  | .hbm, ⟨8, _⟩ => ⟨S2x2048x768, .bf16⟩
  | .hbm, ⟨9, _⟩ => ⟨S2x2048x256, .f32⟩
  | .hbm, ⟨10, _⟩ => ⟨S2x2048x256, .f32⟩
  | .hbm, ⟨11, _⟩ => ⟨S_, .f32⟩
  | .hbm, ⟨12, _⟩ => ⟨S2x2048x256, .f32⟩
  | .hbm, ⟨13, _⟩ => ⟨S2x2048x256, .f32⟩
  | .hbm, ⟨14, _⟩ => ⟨S2x2048x256, .f32⟩
  | .hbm, ⟨15, _⟩ => ⟨S_, .f32⟩
  | .hbm, ⟨16, _⟩ => ⟨S2x2048x256, .f32⟩
  | .hbm, ⟨17, _⟩ => ⟨S2x2048x256, .f32⟩
  | .hbm, ⟨18, _⟩ => ⟨S2x2048x256, .f32⟩
  | .hbm, ⟨19, _⟩ => ⟨S_, .f32⟩
  | .hbm, ⟨20, _⟩ => ⟨S2x2048x256, .f32⟩
  | .hbm, ⟨21, _⟩ => ⟨S2x2048x256, .f32⟩
  | .hbm, ⟨22, _⟩ => ⟨S_, .f32⟩
  | .hbm, ⟨23, _⟩ => ⟨S2x2048x256, .f32⟩
  | .hbm, ⟨24, _⟩ => ⟨S2x2048x256, .f32⟩
  | .hbm, ⟨25, _⟩ => ⟨S2x2048x256, .f32⟩
  | .hbm, ⟨26, _⟩ => ⟨S2x2048x256, .f32⟩
  | .hbm, ⟨27, _⟩ => ⟨S2x2048x256, .f32⟩
  | .hbm, ⟨28, _⟩ => ⟨S_, .f32⟩
  | .hbm, ⟨29, _⟩ => ⟨S2x2048x256, .f32⟩
  | .hbm, ⟨30, _⟩ => ⟨S2x2048x256, .f32⟩
  | .hbm, ⟨31, _⟩ => ⟨S2x2048x256, .f32⟩
  | .hbm, ⟨32, _⟩ => ⟨S_, .f32⟩
  | .hbm, ⟨33, _⟩ => ⟨S2x2048x256, .f32⟩
  | .hbm, ⟨34, _⟩ => ⟨S2x2048x256, .f32⟩
  | .hbm, ⟨35, _⟩ => ⟨S2x2048x256, .f32⟩
  | .hbm, ⟨36, _⟩ => ⟨S_, .f32⟩
  | .hbm, ⟨37, _⟩ => ⟨S2x2048x256, .f32⟩
  | .hbm, ⟨38, _⟩ => ⟨S2x2048x256, .f32⟩
  | .hbm, ⟨39, _⟩ => ⟨S_, .f32⟩
  | .hbm, ⟨40, _⟩ => ⟨S2x2048x256, .f32⟩
  | .hbm, ⟨41, _⟩ => ⟨S2x2048x256, .f32⟩
  | .hbm, ⟨42, _⟩ => ⟨S2x2048x256, .f32⟩
  | .hbm, ⟨43, _⟩ => ⟨S2x2048x4x64, .f32⟩
  | .hbm, ⟨44, _⟩ => ⟨S4x64, .f32⟩
  | .hbm, ⟨45, _⟩ => ⟨S2x2048x4x64, .f32⟩
  | .hbm, ⟨46, _⟩ => ⟨S_, .f32⟩
  | .hbm, ⟨47, _⟩ => ⟨S2x2048x4, .f32⟩
  | .hbm, ⟨48, _⟩ => ⟨S2x2048x4x1, .f32⟩
  | .hbm, ⟨49, _⟩ => ⟨S_, .f32⟩
  | .hbm, ⟨50, _⟩ => ⟨S2x2048x4x1, .f32⟩
  | .hbm, ⟨51, _⟩ => ⟨S2x2048x4x1, .f32⟩
  | .hbm, ⟨52, _⟩ => ⟨S_, .f32⟩
  | .hbm, ⟨53, _⟩ => ⟨S2x2048x4x1, .f32⟩
  | .hbm, ⟨54, _⟩ => ⟨S2x2048x4x1, .f32⟩
  | .hbm, ⟨55, _⟩ => ⟨S2x2048x4x1, .f32⟩
  | .hbm, ⟨56, _⟩ => ⟨S2x2048x4x64, .f32⟩
  | .hbm, ⟨57, _⟩ => ⟨S2x2048x4x64, .f32⟩
  | .hbm, ⟨58, _⟩ => ⟨S1x1x4x64, .f32⟩
  | .hbm, ⟨59, _⟩ => ⟨S2x2048x4x64, .f32⟩
  | .hbm, ⟨60, _⟩ => ⟨S2x2048x4x64, .f32⟩
  | .hbm, ⟨61, _⟩ => ⟨S2x16x128x4x64, .f32⟩
  | .hbm, ⟨62, _⟩ => ⟨S_, .i1⟩
  | .hbm, ⟨63, _⟩ => ⟨S128x128, .i1⟩
  | .hbm, ⟨64, _⟩ => ⟨S128x128, .i32⟩
  | .hbm, ⟨65, _⟩ => ⟨S_, .i32⟩
  | .hbm, ⟨66, _⟩ => ⟨S128x128, .i32⟩
  | .hbm, ⟨67, _⟩ => ⟨S128x128, .i32⟩
  | .hbm, ⟨68, _⟩ => ⟨S128x128, .i32⟩
  | .hbm, ⟨69, _⟩ => ⟨S128x128, .i1⟩
  | .hbm, ⟨70, _⟩ => ⟨S_, .i1⟩
  | .hbm, ⟨71, _⟩ => ⟨S128x128, .i1⟩
  | .hbm, ⟨72, _⟩ => ⟨S128x128, .i1⟩
  | .hbm, ⟨73, _⟩ => ⟨S_, .f32⟩
  | .hbm, ⟨74, _⟩ => ⟨S_, .f32⟩
  | .hbm, ⟨75, _⟩ => ⟨S4x128x128, .i1⟩
  | .hbm, ⟨76, _⟩ => ⟨S4x128x128, .f32⟩
  | .hbm, ⟨77, _⟩ => ⟨S4x128x128, .f32⟩
  | .hbm, ⟨78, _⟩ => ⟨S4x2x16x64x128, .f32⟩
  | .hbm, ⟨79, _⟩ => ⟨S2x16x128x4x64, .f32⟩
  | .hbm, ⟨80, _⟩ => ⟨S128x4, .f32⟩
  | .hbm, ⟨81, _⟩ => ⟨S1x1x128x4x1, .f32⟩
  | .hbm, ⟨82, _⟩ => ⟨S2x16x128x4x64, .f32⟩
  | .hbm, ⟨83, _⟩ => ⟨S2x16x128x4x64, .f32⟩
  | .hbm, ⟨84, _⟩ => ⟨S2x2048x256, .f32⟩
  | .hbm, ⟨85, _⟩ => ⟨S2x2048x256, .f32⟩
  | .hbm, ⟨86, _⟩ => ⟨S2x2048x256, .bf16⟩
  | .hbm, ⟨87, _⟩ => ⟨S2x2048x1024, .bf16⟩
  | _, _ => ⟨S2x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c : Ref sig .tc := ⟨.hbm, 62, rfl⟩
abbrev main_v46 : Ref sig .tc := ⟨.hbm, 63, rfl⟩
abbrev main_call0_v0 : Ref sig .tc := ⟨.hbm, 64, rfl⟩
abbrev main_call0_c : Ref sig .tc := ⟨.hbm, 65, rfl⟩
abbrev main_call0_v1 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_call0_c_0 : Ref sig .tc := ⟨.hbm, 70, rfl⟩
abbrev main_call0_v5 : Ref sig .tc := ⟨.hbm, 71, rfl⟩
abbrev main_v47 : Ref sig .tc := ⟨.hbm, 72, rfl⟩
abbrev main_cst_10 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩

abbrev nD : Nat := 1
abbrev τ : Topo := Topo.v7x

variable {F : FTy → Type} [FloatOps F]
-- ==== Proof.Spec.lean ====
/- Hand-written, untrusted: THE GRADIENT OF THE CHUNKED SPATIAL GATING OVER THE REALS, for one group of channels in one
   chunk of rows (`Spec`), the three rounded constants as reals, and the reading of extended reals that are real. -/
module

public import Idealize.ShloMosaic.Lib.Pointwise.Tactic
public import Idealize.ShloMosaic.Lib.IdealHost

@[expose] public section

noncomputable section

namespace Cert.SgBwd

open Idealize.ShloMosaic

/-! Two indices with the same coordinates are one; a coordinate equal by computation need not be mentioned. -/

theorem ext1 {z : Fin 1 → Nat} {i j : (⟨1, z⟩ : Shape).Idx} (h0 : (i 0).val = (j 0).val := by rfl) : i = j :=
  funext fun a => Fin.ext (match a with | 0 => h0)
theorem ext2 {z : Fin 2 → Nat} {i j : (⟨2, z⟩ : Shape).Idx} (h0 : (i 0).val = (j 0).val := by rfl) (h1 : (i 1).val = (j 1).val := by rfl) : i = j :=
  funext fun a => Fin.ext (match a with | 0 => h0 | 1 => h1)
theorem ext3 {z : Fin 3 → Nat} {i j : (⟨3, z⟩ : Shape).Idx} (h0 : (i 0).val = (j 0).val := by rfl) (h1 : (i 1).val = (j 1).val := by rfl) (h2 : (i 2).val = (j 2).val := by rfl) : i = j :=
  funext fun a => Fin.ext (match a with | 0 => h0 | 1 => h1 | 2 => h2)
theorem ext4 {z : Fin 4 → Nat} {i j : (⟨4, z⟩ : Shape).Idx} (h0 : (i 0).val = (j 0).val := by rfl) (h1 : (i 1).val = (j 1).val := by rfl) (h2 : (i 2).val = (j 2).val := by rfl) (h3 : (i 3).val = (j 3).val := by rfl) : i = j :=
  funext fun a => Fin.ext (match a with | 0 => h0 | 1 => h1 | 2 => h2 | 3 => h3)
theorem ext5 {z : Fin 5 → Nat} {i j : (⟨5, z⟩ : Shape).Idx} (h0 : (i 0).val = (j 0).val := by rfl) (h1 : (i 1).val = (j 1).val := by rfl) (h2 : (i 2).val = (j 2).val := by rfl) (h3 : (i 3).val = (j 3).val := by rfl) (h4 : (i 4).val = (j 4).val := by rfl) : i = j :=
  funext fun a => Fin.ext (match a with | 0 => h0 | 1 => h1 | 2 => h2 | 3 => h3 | 4 => h4)

/-! ### Constants -/

/-- The outer constant of the tanh form of gelu, as its f32 word reads. -/
def cA : ℝ := 13386282 * (2 : ℝ) ^ (-24 : Int)
/-- The inner constant of the tanh form of gelu, as its f32 word reads. -/
def cB : ℝ := 12003091 * (2 : ℝ) ^ (-28 : Int)
/-- The norm's epsilon, as its f32 word reads. -/
def cE : ℝ := 8796093 * (2 : ℝ) ^ (-43 : Int)

theorem cE_pos : 0 < cE := by unfold cE; positivity

theorem word_cA : Ideal.ofBits .f32 0x3F4C422A#32 = ((cA : ℝ) : EReal) := by
  simp [Ideal.ofBits, Ideal.ieee, cA, -EReal.coe_mul]
theorem word_cB : Ideal.ofBits .f32 0x3D372713#32 = ((cB : ℝ) : EReal) := by
  simp [Ideal.ofBits, Ideal.ieee, cB, -EReal.coe_mul]
theorem word_cE : Ideal.ofBits .f32 0x358637BD#32 = ((cE : ℝ) : EReal) := by
  simp [Ideal.ofBits, Ideal.ieee, cE, -EReal.coe_mul]
theorem word_half : Ideal.ofBits .f32 0x3F000000#32 = (((1 / 2 : ℝ)) : EReal) := by
  simp [Ideal.ofBits, Ideal.ieee, -EReal.coe_mul]; norm_num
theorem word_neg_half : Ideal.ofBits .f32 0xBF000000#32 = (((-1 / 2 : ℝ)) : EReal) := by
  simp [Ideal.ofBits, Ideal.ieee, -EReal.coe_mul, -EReal.coe_neg]; norm_num
theorem word_one : Ideal.ofBits .f32 0x3F800000#32 = ((1 : ℝ) : EReal) := by
  rw [Ideal.ofBits_one_f32]; rfl
theorem word_zero : Ideal.ofBits .f32 0x00000000#32 = ((0 : ℝ) : EReal) := by
  rw [Ideal.ofBits_zero_f32]; rfl
theorem word_three : Ideal.ofBits .f32 0x40400000#32 = ((3 : ℝ) : EReal) := by
  simp [Ideal.ofBits, Ideal.ieee, -EReal.coe_mul]; norm_num
theorem word_64 : Ideal.ofBits .f32 0x42800000#32 = ((64 : ℝ) : EReal) := by
  simp [Ideal.ofBits, Ideal.ieee, -EReal.coe_mul]; norm_num
theorem word_inv64 : Ideal.ofBits .f32 0x3C800000#32 = (((1 / 64 : ℝ)) : EReal) := by
  simp [Ideal.ofBits, Ideal.ieee, -EReal.coe_mul]; norm_num

/-! ### The operations on real values -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem tanh_coe (x : ℝ) : Ideal.tanh (x : EReal) = ((Real.tanh x : ℝ) : EReal) := rfl

theorem rsqrt_coe {x : ℝ} (h : 0 < x) : Ideal.rsqrt (x : EReal) = (((Real.sqrt x)⁻¹ : ℝ) : EReal) := by
  show (if x < 0 then ⊥ else if x = 0 then ⊤ else (((Real.sqrt x)⁻¹ : ℝ) : EReal)) = _
  rw [if_neg (not_lt.mpr h.le), if_neg h.ne']

theorem div_coe (x : ℝ) {y : ℝ} (h : y ≠ 0) : Ideal.div (x : EReal) (y : EReal) = ((x / y : ℝ) : EReal) := by
  unfold Ideal.div
  rw [if_neg (by simpa using h), ← EReal.coe_inv, ← EReal.coe_mul, div_eq_mul_inv]

theorem ite_coe (p : Prop) [Decidable p] (x y : ℝ) : (if p then (x : EReal) else (y : EReal)) = ((if p then x else y : ℝ) : EReal) := by
  split <;> rfl

/-! ### Sums over lanes -/

/-- A sum over the 128 lanes is the sum over the two halves of 64. -/
theorem sum_lanes (f : Fin 2 → Fin 64 → ℝ) :
    ∑ l : Fin 128, f ⟨l.val / 64, by omega⟩ ⟨l.val % 64, by omega⟩ = ∑ q : Fin 2, ∑ c : Fin 64, f q c := by
  rw [← Fintype.sum_prod_type' (f := f)]
  refine Fintype.sum_equiv ⟨fun l : Fin 128 => ((⟨l.val / 64, by omega⟩ : Fin 2), (⟨l.val % 64, by omega⟩ : Fin 64)),
    fun p => ⟨p.1.val * 64 + p.2.val, by omega⟩, fun l => Fin.ext (by simp only; omega),
    fun p => Prod.ext (Fin.ext (by simp only; omega)) (Fin.ext (by simp only; omega))⟩ _ _ fun l => rfl

/-! ### The gate's gradient for one group in one chunk -/

namespace Spec

/-- The inner tanh of gelu. -/
def th (x : ℝ) : ℝ := Real.tanh (cA * (x + cB * (x * x * x)))
/-- The tanh form of gelu. -/
def gelu (x : ℝ) : ℝ := 1 / 2 * x * (1 + th x)
/-- Its derivative. -/
def geluD (x : ℝ) : ℝ := 1 / 2 * (1 + th x) + 1 / 2 * x * ((1 + th x) * (1 - th x)) * cA * (1 + 3 * cB * (x * x))

variable (u v d : Fin 128 → Fin 64 → ℝ) (g : Fin 64 → ℝ) (w : Fin 128 → Fin 128 → ℝ) (b : Fin 128 → ℝ)

/-- The group's mean square plus epsilon. -/
def ms (t : Fin 128) : ℝ := (∑ c : Fin 64, gelu (v t c) * gelu (v t c)) / 64 + cE
/-- The reciprocal root. -/
def r (t : Fin 128) : ℝ := (Real.sqrt (ms v t))⁻¹
/-- The normalised value before the gain. -/
def xh (t : Fin 128) (c : Fin 64) : ℝ := gelu (v t c) * r v t
/-- The normalised value. -/
def vn (t : Fin 128) (c : Fin 64) : ℝ := xh v t c * g c
/-- The mixing matrix on and below the diagonal. -/
def tri (t s : Fin 128) : ℝ := if s.val ≤ t.val then w t s else 0
/-- The mixed rows. -/
def mix (t : Fin 128) (c : Fin 64) : ℝ := (∑ s : Fin 128, tri w t s * vn v g s c) + b t
/-- The cotangent of the mixed rows. -/
def dm (t : Fin 128) (c : Fin 64) : ℝ := gelu (u t c) * d t c
/-- The gradient of the gate's first half. -/
def du (t : Fin 128) (c : Fin 64) : ℝ := geluD (u t c) * (d t c * mix v g w b t c)
/-- The gradient of the mixing matrix. -/
def dw (t s : Fin 128) : ℝ := if s.val ≤ t.val then ∑ c : Fin 64, dm u d t c * vn v g s c else 0
/-- The gradient of the mixing bias. -/
def db (t : Fin 128) : ℝ := ∑ c : Fin 64, dm u d t c
/-- The cotangent of the normalised value. -/
def dvn (s : Fin 128) (c : Fin 64) : ℝ := ∑ t : Fin 128, tri w t s * dm u d t c
/-- The gradient of the gain. -/
def dg (c : Fin 64) : ℝ := ∑ s : Fin 128, xh v s c * dvn u d w s c
/-- The cotangent of the mean square, at an element. -/
def dms (s : Fin 128) : ℝ :=
  (∑ c : Fin 64, gelu (v s c) * (dvn u d w s c * g c) * (-1 / 2 * (r v s / ms v s))) / 64
/-- The cotangent of the norm's input. -/
def dn (s : Fin 128) (c : Fin 64) : ℝ :=
  dvn u d w s c * g c * r v s + gelu (v s c) * dms u v d g w s + dms u v d g w s * gelu (v s c)
/-- The gradient of the gate's second half. -/
def dv (s : Fin 128) (c : Fin 64) : ℝ := geluD (v s c) * dn u v d g w s c

theorem ms_pos (t : Fin 128) : 0 < ms v t :=
  add_pos_of_nonneg_of_pos (div_nonneg (Finset.sum_nonneg fun _ _ => mul_self_nonneg _) (by norm_num)) cE_pos

end Spec

end Cert.SgBwd

end
-- ==== Proof.Tile.lean ====
/- Hand-written, untrusted: WHAT THE KERNEL COMPUTES FROM ONE TILE (128 rows, two groups of 64 lanes), named piece by
   piece, and the value of each piece on real tiles (`Spec`). -/
module

public import proofs.«01_k».proof.Proof.Spec
public import proofs.«01_k».proof.Proof.Gen.KernelIdeal.Skeleton
public import Idealize.ShloMosaic.Lib.Pointwise

@[expose] public section

set_option maxRecDepth 16384

noncomputable section

namespace Cert.SgBwd

open Cert.KernelIdeal Cert.KernelIdeal.Gen Idealize.ShloMosaic Idealize.ShloMosaic.TcCoe

/-! ### The pieces -/

/-- A tile of 128 rows and 128 lanes. -/
abbrev M := FVec Ideal S128x128 .f32
abbrev Row := FVec Ideal S1x128 .f32
abbrev Col := FVec Ideal S128x1 .f32

/-- The tile with one value everywhere. -/
def kst (w : BitVec 32) : M := broadcast S128x128 (Scalar.ofBits (F := Ideal) .f32 w)

def kTh (x : M) : M := tanh (mulf (kst 0x3F4C422A#32) (addf x (mulf (kst 0x3D372713#32) (mulf (mulf x x) x))))
def kOne (x : M) : M := addf (kst 0x3F800000#32) (kTh x)
def kSech (x : M) : M := mulf (addf (kst 0x3F800000#32) (kTh x)) (subf (kst 0x3F800000#32) (kTh x))
def kHalf (x : M) : M := mulf (kst 0x3F000000#32) x
def kAct (x : M) : M := mulf (kHalf x) (kOne x)
def kBackA (x ct : M) : M := mulf (kst 0x3F4C422A#32) (mulf (mulf (kHalf x) ct) (kSech x))
def kBackB (x ct : M) : M := mulf (kst 0x3D372713#32) (kBackA x ct)
/-- The cotangent of gelu's argument. -/
def kBack (x ct : M) : M :=
  addf (addf (addf (addf (kBackA x ct) (mulf (mulf x x) (kBackB x ct))) (mulf x (mulf (kBackB x ct) x)))
    (mulf (mulf (kBackB x ct) x) x)) (mulf (kst 0x3F000000#32) (mulf ct (kOne x)))

/-- The floor quotient by 64, as the integer lines compute it from an index pattern. -/
def kDiv (v5 : IVec S128x128 32) : IVec S128x128 32 :=
  select
    (andi
      (cmpi .ne
        (subi (extui 32 (cmpi .sgt v5 (broadcast S128x128 0#32)) natLt_1_32)
          (extui 32 (cmpi .slt v5 (broadcast S128x128 0#32)) natLt_1_32))
        (broadcast S128x128
          (Scalar.subi (Scalar.extui (Scalar.cmpi .sgt (64#32 : BitVec 32) 0#32) : BitVec 32)
            (Scalar.extui (Scalar.cmpi .slt (64#32 : BitVec 32) 0#32)))))
      (cmpi .ne (remsi v5 (broadcast S128x128 64#32)) (broadcast S128x128 0#32)))
    (subi (divsi v5 (broadcast S128x128 64#32)) (broadcast S128x128 1#32))
    (divsi v5 (broadcast S128x128 64#32))

/-- The matrix averaging over a group's lanes. -/
def kAvgMat : FVec Ideal S128x128 .bf16 :=
  truncf .bf16
    (select
      (cmpi .eq (kDiv (iota .tc S128x128 32 [0] iota_S128x128_d0_w32)) (kDiv (iota .tc S128x128 32 [1] iota_S128x128_d1_w32)))
      (kst 0x3C800000#32) (kst 0x00000000#32)) bitsLt_bf16_f32

def kZero : M := constant S128x128 .f32 0x00000000#32

def kAvg (x : M) : M :=
  addf (matmul dot_S128x128_S128x128_S128x128_1_0_0_1_n_n none (truncf .bf16 x bitsLt_bf16_f32) kAvgMat kZero)
    (matmul dot_S128x128_S128x128_S128x128_1_0_0_1_n_n none
      (truncf .bf16 (subf x (extf .f32 (truncf .bf16 x bitsLt_bf16_f32) bitsLt_bf16_f32)) bitsLt_bf16_f32) kAvgMat kZero)

def kMs (v : M) : M := addf (kAvg (mulf (kAct v) (kAct v))) (kst 0x358637BD#32)
def kR (v : M) : M := rsqrt (kMs v)
def kXh (v : M) : M := mulf (kAct v) (kR v)
def kGain (g : Row) : M := broadcastTo S128x128 g broadcasts_S1x128_S128x128
def kVn (v : M) (g : Row) : M := mulf (kXh v) (kGain g)
/-- On and below the diagonal. -/
def kTri : IVec S128x128 1 :=
  cmpi .sle (iota .tc S128x128 32 [1] iota_S128x128_d1_w32) (iota .tc S128x128 32 [0] iota_S128x128_d0_w32)
/-- The lanes of the first group. -/
def kLow : IVec S128x128 1 :=
  broadcastTo S128x128
    (shapeCast S1x128 (cmpi .slt (iota .tc S1x128 32 [1] iota_S1x128_d1_w32) (broadcast S1x128 64#32)) shapeCasts_S1x128_S1x128)
    broadcasts_S1x128_S128x128
def kW (w : M) : M := select kTri w (kst 0x00000000#32)
def kLo (x : M) : M := select kLow x (kst 0x00000000#32)
def kHi (x : M) : M := select kLow (kst 0x00000000#32) x

def kBias (b : Col) : M := broadcastTo S128x128 (shapeCast S128x1 b shapeCasts_S128x1_S128x1) broadcasts_S128x1_S128x128

def kMix (v : M) (g : Row) (wa wb : M) (ba bb : Col) : M :=
  addf
    (addf
      (matmul dot_S128x128_S128x128_S128x128_1_0_0_1_n_n none (truncf .bf16 (kW wa) bitsLt_bf16_f32)
        (truncf .bf16 (kLo (kVn v g)) bitsLt_bf16_f32) kZero)
      (matmul dot_S128x128_S128x128_S128x128_1_0_0_1_n_n none (truncf .bf16 (kW wb) bitsLt_bf16_f32)
        (truncf .bf16 (kHi (kVn v g)) bitsLt_bf16_f32) kZero))
    (select kLow (kBias ba) (kBias bb))

/-- The cotangent of the mixed rows. -/
def kDm (u d : M) : M := mulf (kAct u) d
/-- The gradient of the gate's first half. -/
def kDu (u v : M) (g : Row) (wa wb : M) (ba bb : Col) (d : M) : M := kBack u (mulf d (kMix v g wa wb ba bb))

def kRowSum (x : M) : Col :=
  shapeCast S128x1 (multiReduction .add [1] S128 x 0x00000000#32 reduces_S128x128_S128 (.inl rfl) rfl) shapeCasts_S128_S128x1
/-- The gradients of the two groups' biases. -/
def kDba (u d : M) : Col := kRowSum (kLo (kDm u d))
def kDbb (u d : M) : Col := kRowSum (kHi (kDm u d))

def kOuter (x y : M) : M :=
  select kTri
    (matmul dot_S128x128_S128x128_S128x128_1_1_0_0_n_n none (truncf .bf16 x bitsLt_bf16_f32) (truncf .bf16 y bitsLt_bf16_f32) kZero)
    (kst 0x00000000#32)
/-- The gradients of the two groups' mixing matrices. -/
def kDwa (u v : M) (g : Row) (d : M) : M := kOuter (kDm u d) (kLo (kVn v g))
def kDwb (u v : M) (g : Row) (d : M) : M := kOuter (kDm u d) (kHi (kVn v g))

def kPull (w x : M) : M :=
  matmul dot_S128x128_S128x128_S128x128_0_0_1_1_n_n none (truncf .bf16 (kW w) bitsLt_bf16_f32) (truncf .bf16 x bitsLt_bf16_f32) kZero
/-- The cotangent of the normalised value. -/
def kDvn (u wa wb d : M) : M := addf (kHi (kPull wb (kDm u d))) (kLo (kPull wa (kDm u d)))

/-- The gradient of the gain. -/
def kDg (u v : M) (wa wb d : M) : Row :=
  shapeCast S1x128
    (multiReduction .add [0] S128 (mulf (kXh v) (kDvn u wa wb d)) 0x00000000#32 reduces_S128x128_S128_2 (.inl rfl) rfl)
    shapeCasts_S128_S1x128

def kDms (u v : M) (g : Row) (wa wb d : M) : M :=
  kAvg (mulf (mulf (kAct v) (mulf (kDvn u wa wb d) (kGain g))) (mulf (kst 0xBF000000#32) (divf (kR v) (kMs v))))
/-- The cotangent of the norm's input. -/
def kDn (u v : M) (g : Row) (wa wb d : M) : M :=
  addf (addf (mulf (mulf (kDvn u wa wb d) (kGain g)) (kR v)) (mulf (kAct v) (kDms u v g wa wb d)))
    (mulf (kDms u v g wa wb d) (kAct v))
/-- The gradient of the gate's second half. -/
def kDv (u v : M) (g : Row) (wa wb d : M) : M := kBack v (kDn u v g wa wb d)

/-! ### Their values on real tiles -/

/-- A real tile, by row, group and lane within the group. -/
abbrev RT := Fin 128 → Fin 2 → Fin 64 → ℝ

/-- The group of a lane. -/
abbrev grp (l : Fin 128) : Fin 2 := ⟨l.val / 64, by omega⟩
/-- The place of a lane in its group. -/
abbrev lane (l : Fin 128) : Fin 64 := ⟨l.val % 64, by omega⟩

def tile (f : RT) : M := fun i => ((f (i 0) (grp (i 1)) (lane (i 1)) : ℝ) : EReal)
def sq (f : Fin 128 → Fin 128 → ℝ) : M := fun i => ((f (i 0) (i 1) : ℝ) : EReal)
def row (f : Fin 2 → Fin 64 → ℝ) : Row := fun i => ((f (grp (i 1)) (lane (i 1)) : ℝ) : EReal)
def col (f : Fin 128 → ℝ) : Col := fun i => ((f (i 0) : ℝ) : EReal)

theorem kst_apply (w : BitVec 32) (i : S128x128.Idx) : kst w i = Ideal.ofBits .f32 w := rfl
theorem kZero_apply (i : S128x128.Idx) : kZero i = ((0 : ℝ) : EReal) := word_zero
theorem tile_apply (f : RT) (i : S128x128.Idx) : tile f i = ((f (i 0) (grp (i 1)) (lane (i 1)) : ℝ) : EReal) := rfl

theorem kTh_tile (f : RT) : kTh (tile f) = tile fun t q c => Spec.th (f t q c) := by
  funext i
  simp only [kTh, kst_apply, tile, Spec.th, pointwise, word_cA, word_cB, ← EReal.coe_add, ← EReal.coe_mul, tanh_coe]

theorem kOne_tile (f : RT) : kOne (tile f) = tile fun t q c => 1 + Spec.th (f t q c) := by
  funext i
  simp only [kOne, kTh_tile, tile, pointwise, kst_apply, word_one, ← EReal.coe_add]

theorem kSech_tile (f : RT) : kSech (tile f) = tile fun t q c => (1 + Spec.th (f t q c)) * (1 - Spec.th (f t q c)) := by
  funext i
  simp only [kSech, kTh_tile, tile, pointwise, kst_apply, word_one, ← EReal.coe_add, ← EReal.coe_mul, ← EReal.coe_sub]

theorem kHalf_tile (f : RT) : kHalf (tile f) = tile fun t q c => 1 / 2 * f t q c := by
  funext i
  simp only [kHalf, tile, pointwise, kst_apply, word_half, ← EReal.coe_mul]

theorem kAct_tile (f : RT) : kAct (tile f) = tile fun t q c => Spec.gelu (f t q c) := by
  funext i
  simp only [kAct, kHalf_tile, kOne_tile, tile, pointwise, ← EReal.coe_mul, Spec.gelu]

theorem kBackA_tile (f h : RT) : kBackA (tile f) (tile h) =
    tile fun t q c => cA * (1 / 2 * f t q c * h t q c * ((1 + Spec.th (f t q c)) * (1 - Spec.th (f t q c)))) := by
  funext i
  simp only [kBackA, kHalf_tile, kSech_tile, tile, pointwise, kst_apply, word_cA, ← EReal.coe_mul]

theorem kBack_tile (f h : RT) : kBack (tile f) (tile h) = tile fun t q c => Spec.geluD (f t q c) * h t q c := by
  funext i
  simp only [kBack, kBackB, kBackA_tile, kOne_tile, tile, pointwise, kst_apply, word_cB, word_half, ← EReal.coe_mul, ← EReal.coe_add]
  refine congrArg _ ?_
  unfold Spec.geluD
  ring

theorem kDiv_apply (v : IVec S128x128 32) (a : Fin 128) (i : S128x128.Idx) (h : v i = BitVec.ofNat 32 a.val) :
    kDiv v i = BitVec.ofNat 32 (a.val / 64) := by
  have key : ∀ a : Fin 128, (fun x : BitVec 32 =>
      if IntOp.andi (IntOp.cmpi .ne (IntOp.subi ((IntOp.cmpi .sgt x 0#32).setWidth 32) ((IntOp.cmpi .slt x 0#32).setWidth 32))
          (Scalar.subi (Scalar.extui (Scalar.cmpi .sgt (64#32 : BitVec 32) 0#32) : BitVec 32)
            (Scalar.extui (Scalar.cmpi .slt (64#32 : BitVec 32) 0#32))))
          (IntOp.cmpi .ne (IntOp.remsi .vector x 64#32) 0#32) = 1#1
        then IntOp.subi (IntOp.divsi .vector x 64#32) 1#32 else IntOp.divsi .vector x 64#32) (BitVec.ofNat 32 a.val)
      = BitVec.ofNat 32 (a.val / 64) := by decide +kernel
  rw [← key a, ← h]
  rfl

theorem iota_rows (i : S128x128.Idx) :
    iota .tc S128x128 32 [0] iota_S128x128_d0_w32 i = BitVec.ofNat 32 (i 0).val := by
  simp only [pointwise, List.foldl]; simp
theorem iota_lanes (i : S128x128.Idx) :
    iota .tc S128x128 32 [1] iota_S128x128_d1_w32 i = BitVec.ofNat 32 (i 1).val := by
  simp only [pointwise, List.foldl]; simp

theorem eq_small : ∀ a b : Fin 128,
    (IntOp.cmpi .eq (BitVec.ofNat 32 (a.val / 64)) (BitVec.ofNat 32 (b.val / 64)) = 1#1) ↔ a.val / 64 = b.val / 64 := by
  decide +kernel
theorem le_small : ∀ a b : Fin 128,
    (IntOp.cmpi .sle (BitVec.ofNat 32 a.val) (BitVec.ofNat 32 b.val) = 1#1) ↔ a.val ≤ b.val := by
  decide +kernel
theorem lt_small : ∀ a : Fin 128, (IntOp.cmpi .slt (BitVec.ofNat 32 a.val) 64#32 = 1#1) ↔ a.val < 64 := by
  decide +kernel

theorem kAvgMat_apply (i : S128x128.Idx) : kAvgMat i = (((if grp (i 0) = grp (i 1) then 1 / 64 else 0 : ℝ)) : EReal) := by
  have h0 := kDiv_apply (iota .tc S128x128 32 [0] iota_S128x128_d0_w32) (i 0) i (iota_rows i)
  have h1 := kDiv_apply (iota .tc S128x128 32 [1] iota_S128x128_d1_w32) (i 1) i (iota_lanes i)
  have h2 := eq_small (i 0) (i 1)
  simp only [kAvgMat, pointwise, kst_apply, h0, h1, word_inv64, word_zero]
  rw [← ite_coe]
  show (if _ = 1#1 then _ else _) = _
  simp only [h2, Fin.mk.injEq]

theorem kTri_apply (i : S128x128.Idx) : (kTri i = 1#1) ↔ (i 1).val ≤ (i 0).val := by
  rw [← le_small (i 1) (i 0)]
  unfold kTri
  rw [cmpi_apply, iota_rows, iota_lanes]

theorem kLow_apply (i : S128x128.Idx) : (kLow i = 1#1) ↔ grp (i 1) = 0 := by
  have h := lt_small (i 1)
  have e : kLow i = IntOp.cmpi .slt (BitVec.ofNat 32 (i 1).val) 64#32 := by
    unfold kLow
    simp only [pointwise, List.foldl]
    simp
  rw [e, h, Fin.ext_iff]
  show _ ↔ (i 1).val / 64 = 0
  omega

theorem sel_tri (i : S128x128.Idx) (x y : ℝ) :
    Scalar.select (kTri i) (x : EReal) (y : EReal) = ((if (i 1).val ≤ (i 0).val then x else y : ℝ) : EReal) := by
  rw [← ite_coe]; show (if _ = 1#1 then _ else _) = _; simp only [kTri_apply]

theorem sel_low (i : S128x128.Idx) (x y : ℝ) :
    Scalar.select (kLow i) (x : EReal) (y : EReal) = ((if grp (i 1) = 0 then x else y : ℝ) : EReal) := by
  rw [← ite_coe]; show (if _ = 1#1 then _ else _) = _; simp only [kLow_apply]

theorem rsqrt_ms (v : Fin 128 → Fin 64 → ℝ) (t : Fin 128) :
    Ideal.rsqrt ((Spec.ms v t : ℝ) : EReal) = ((Spec.r v t : ℝ) : EReal) := rsqrt_coe (Spec.ms_pos v t)

theorem div_ms (x : ℝ) (v : Fin 128 → Fin 64 → ℝ) (t : Fin 128) :
    Ideal.div (x : EReal) ((Spec.ms v t : ℝ) : EReal) = ((x / Spec.ms v t : ℝ) : EReal) := div_coe x (Spec.ms_pos v t).ne'

/-- A sum over the lanes of a real tile's row. -/
theorem sum_tile (f : Fin 2 → Fin 64 → ℝ) : ∑ l : Fin 128, f (grp l) (lane l) = ∑ q : Fin 2, ∑ c : Fin 64, f q c := sum_lanes f

theorem kAvg_tile (f : RT) : kAvg (tile f) = tile fun t q _ => (∑ c : Fin 64, f t q c) / 64 := by
  funext i
  simp only [kAvg, kZero_apply, tile, pointwise, kAvgMat_apply, ← EReal.coe_mul, ← EReal.coe_add, ← EReal.coe_sub, ← coe_sum, sub_self,
    zero_mul, Finset.sum_const_zero, add_zero, zero_add]
  refine congrArg _ ?_
  show ∑ l : Fin 128, f (i 0) (grp l) (lane l) * (if grp l = grp (i 1) then (1 / 64 : ℝ) else 0) = (∑ c, f (i 0) (grp (i 1)) c) / 64
  simp only [mul_ite, mul_zero]
  rw [sum_tile fun q c => if q = grp (i 1) then f (i 0) q c * (1 / 64) else 0]
  simp only [Finset.sum_ite_irrel, Finset.sum_const_zero, Finset.sum_ite_eq', Finset.mem_univ, if_true, ← Finset.sum_mul]
  ring

theorem kMs_tile (f : RT) : kMs (tile f) = tile fun t q _ => Spec.ms (fun t c => f t q c) t := by
  have h : mulf (kAct (tile f)) (kAct (tile f)) = tile fun t q c => Spec.gelu (f t q c) * Spec.gelu (f t q c) := by
    funext i
    simp only [kAct_tile, tile, pointwise, ← EReal.coe_mul]
  funext i
  simp only [kMs, h, kAvg_tile, tile, pointwise, kst_apply, word_cE, ← EReal.coe_add, Spec.ms]

theorem kR_tile (f : RT) : kR (tile f) = tile fun t q _ => Spec.r (fun t c => f t q c) t := by
  funext i
  simp only [kR, kMs_tile, tile, pointwise]
  exact rsqrt_ms _ (i 0)

theorem kXh_tile (f : RT) : kXh (tile f) = tile fun t q c => Spec.xh (fun t c => f t q c) t c := by
  funext i
  simp only [kXh, kR_tile, kAct_tile, tile, pointwise, ← EReal.coe_mul, Spec.xh]

theorem kGain_row (g : Fin 2 → Fin 64 → ℝ) : kGain (row g) = tile fun _ q c => g q c := by
  funext i
  simp only [kGain, row, tile, pointwise]
  rfl

theorem kVn_tile (f : RT) (g : Fin 2 → Fin 64 → ℝ) :
    kVn (tile f) (row g) = tile fun t q c => Spec.vn (fun t c => f t q c) (g q) t c := by
  funext i
  simp only [kVn, kXh_tile, kGain_row, tile, pointwise, ← EReal.coe_mul, Spec.vn]

theorem kW_sq (w : Fin 128 → Fin 128 → ℝ) : kW (sq w) = sq (Spec.tri w) := by
  funext i
  simp only [kW, sq, pointwise, kst_apply, word_zero, sel_tri, Spec.tri]

theorem kLo_tile (f : RT) : kLo (tile f) = tile fun t q c => if q = 0 then f t q c else 0 := by
  funext i
  simp only [kLo, tile, pointwise, kst_apply, word_zero, sel_low]

theorem kHi_tile (f : RT) : kHi (tile f) = tile fun t q c => if q = 0 then 0 else f t q c := by
  funext i
  simp only [kHi, tile, pointwise, kst_apply, word_zero, sel_low]

theorem kBias_col (b : Fin 128 → ℝ) : kBias (col b) = tile fun t _ _ => b t := by
  funext i
  simp only [kBias, col, tile, pointwise]
  rfl

variable (u v d : RT) (g : Fin 2 → Fin 64 → ℝ) (wa wb : Fin 128 → Fin 128 → ℝ) (ba bb : Fin 128 → ℝ)

theorem kMix_tile : kMix (tile v) (row g) (sq wa) (sq wb) (col ba) (col bb) =
    tile fun t q c => Spec.mix (fun t c => v t q c) (g q) (if q = 0 then wa else wb) (if q = 0 then ba else bb) t c := by
  funext i
  simp only [kMix, kW_sq, kVn_tile, kLo_tile, kHi_tile, kBias_col, kZero_apply, sq, tile, pointwise, sel_low, ← EReal.coe_mul,
    ← EReal.coe_add, ← coe_sum, zero_add]
  refine congrArg _ ?_
  by_cases hq : grp (i 1) = 0 <;> simp only [hq, if_true, if_false, mul_zero, Finset.sum_const_zero, add_zero, zero_add, Spec.mix]

theorem kDm_tile : kDm (tile u) (tile d) = tile fun t q c => Spec.dm (fun t c => u t q c) (fun t c => d t q c) t c := by
  funext i
  simp only [kDm, kAct_tile, tile, pointwise, ← EReal.coe_mul, Spec.dm]

theorem kDu_tile : kDu (tile u) (tile v) (row g) (sq wa) (sq wb) (col ba) (col bb) (tile d) =
    tile fun t q c => Spec.du (fun t c => u t q c) (fun t c => v t q c) (fun t c => d t q c) (g q) (if q = 0 then wa else wb)
      (if q = 0 then ba else bb) t c := by
  have h : mulf (tile d) (kMix (tile v) (row g) (sq wa) (sq wb) (col ba) (col bb)) = tile fun t q c => d t q c *
      Spec.mix (fun t c => v t q c) (g q) (if q = 0 then wa else wb) (if q = 0 then ba else bb) t c := by
    funext i
    simp only [kMix_tile, tile, pointwise, ← EReal.coe_mul]
  rw [kDu, h, kBack_tile]
  rfl

theorem kRowSum_tile (f : RT) : kRowSum (tile f) = col fun t => ∑ q : Fin 2, ∑ c : Fin 64, f t q c := by
  funext i
  simp only [kRowSum, tile, col, pointwise, ← coe_sum, sum_tile]

theorem kDba_tile : kDba (tile u) (tile d) = col (Spec.db (fun t c => u t 0 c) (fun t c => d t 0 c)) := by
  rw [kDba, kDm_tile, kLo_tile, kRowSum_tile]
  refine congrArg col (funext fun t => ?_)
  simp only [Fin.sum_univ_two, if_true, one_ne_zero, if_false, Finset.sum_const_zero, add_zero, Spec.db]

theorem kDbb_tile : kDbb (tile u) (tile d) = col (Spec.db (fun t c => u t 1 c) (fun t c => d t 1 c)) := by
  rw [kDbb, kDm_tile, kHi_tile, kRowSum_tile]
  refine congrArg col (funext fun t => ?_)
  simp only [Fin.sum_univ_two, if_true, one_ne_zero, if_false, Finset.sum_const_zero, zero_add, Spec.db]

theorem kOuter_tile (f h : RT) : kOuter (tile f) (tile h) =
    sq fun t s => if s.val ≤ t.val then ∑ q : Fin 2, ∑ c : Fin 64, f t q c * h s q c else 0 := by
  funext i
  simp only [kOuter, sq, tile, pointwise, sel_tri, kst_apply, kZero_apply, word_zero, ← EReal.coe_mul, ← EReal.coe_add, ← coe_sum, zero_add]
  rw [sum_tile fun q c => f (i 0) q c * h (i 1) q c]

theorem kDwa_tile : kDwa (tile u) (tile v) (row g) (tile d) =
    sq (Spec.dw (fun t c => u t 0 c) (fun t c => v t 0 c) (fun t c => d t 0 c) (g 0)) := by
  rw [kDwa, kDm_tile, kVn_tile, kLo_tile, kOuter_tile]
  refine congrArg sq (funext fun t => funext fun s => ?_)
  simp only [Fin.sum_univ_two, if_true, one_ne_zero, if_false, mul_zero, Finset.sum_const_zero, add_zero, Spec.dw]

theorem kDwb_tile : kDwb (tile u) (tile v) (row g) (tile d) =
    sq (Spec.dw (fun t c => u t 1 c) (fun t c => v t 1 c) (fun t c => d t 1 c) (g 1)) := by
  rw [kDwb, kDm_tile, kVn_tile, kHi_tile, kOuter_tile]
  refine congrArg sq (funext fun t => funext fun s => ?_)
  simp only [Fin.sum_univ_two, if_true, one_ne_zero, if_false, mul_zero, Finset.sum_const_zero, zero_add, Spec.dw]

theorem kPull_tile (w : Fin 128 → Fin 128 → ℝ) (f : RT) : kPull (sq w) (tile f) =
    tile fun s q c => ∑ t : Fin 128, Spec.tri w t s * f t q c := by
  funext i
  simp only [kPull, kW_sq, sq, tile, pointwise, kZero_apply, ← EReal.coe_mul, ← EReal.coe_add, ← coe_sum, zero_add]

theorem kDvn_tile : kDvn (tile u) (sq wa) (sq wb) (tile d) =
    tile fun s q c => Spec.dvn (fun t c => u t q c) (fun t c => d t q c) (if q = 0 then wa else wb) s c := by
  funext i
  simp only [kDvn, kDm_tile, kPull_tile, kLo_tile, kHi_tile, tile, pointwise, ← EReal.coe_add]
  refine congrArg _ ?_
  by_cases hq : grp (i 1) = 0 <;> simp only [hq, if_true, if_false, add_zero, zero_add, Spec.dvn]

theorem kDg_tile : kDg (tile u) (tile v) (sq wa) (sq wb) (tile d) =
    row fun q c => Spec.dg (fun t c => u t q c) (fun t c => v t q c) (fun t c => d t q c) (if q = 0 then wa else wb) c := by
  funext i
  simp only [kDg, kXh_tile, kDvn_tile, row, tile, pointwise, ← EReal.coe_mul, ← coe_sum, Spec.dg]
  rfl

theorem kDms_tile : kDms (tile u) (tile v) (row g) (sq wa) (sq wb) (tile d) =
    tile fun s q _ => Spec.dms (fun t c => u t q c) (fun t c => v t q c) (fun t c => d t q c) (g q) (if q = 0 then wa else wb) s := by
  have h : mulf (mulf (kAct (tile v)) (mulf (kDvn (tile u) (sq wa) (sq wb) (tile d)) (kGain (row g))))
      (mulf (kst 0xBF000000#32) (divf (kR (tile v)) (kMs (tile v)))) =
      tile fun s q c => Spec.gelu (v s q c) *
        (Spec.dvn (fun t c => u t q c) (fun t c => d t q c) (if q = 0 then wa else wb) s c * g q c) *
        (-1 / 2 * (Spec.r (fun t c => v t q c) s / Spec.ms (fun t c => v t q c) s)) := by
    funext i
    simp only [kAct_tile, kDvn_tile, kGain_row, kR_tile, kMs_tile, tile, pointwise, kst_apply, word_neg_half]
    rw [div_ms _ _ (i 0)]
    simp only [← EReal.coe_mul]
  rw [kDms, h, kAvg_tile]
  rfl

theorem kDn_tile : kDn (tile u) (tile v) (row g) (sq wa) (sq wb) (tile d) =
    tile fun s q c => Spec.dn (fun t c => u t q c) (fun t c => v t q c) (fun t c => d t q c) (g q) (if q = 0 then wa else wb) s c := by
  funext i
  simp only [kDn, kDvn_tile, kGain_row, kR_tile, kAct_tile, kDms_tile, tile, pointwise, ← EReal.coe_mul, ← EReal.coe_add, Spec.dn]

theorem kDv_tile : kDv (tile u) (tile v) (row g) (sq wa) (sq wb) (tile d) =
    tile fun s q c => Spec.dv (fun t c => u t q c) (fun t c => v t q c) (fun t c => d t q c) (g q) (if q = 0 then wa else wb) s c := by
  rw [kDv, kDn_tile, kBack_tile]
  rfl

end Cert.SgBwd

end
-- ==== Proof.Point.lean ====
/- Hand-written, untrusted: WHAT ONE GRID POINT LEAVES IN EACH OUTPUT BLOCK, as stores of the tile pieces (Tile.lean) of
   the point's blocks. The eight unrolled tiles of the body are the same pieces at the eight places. -/
module

public import proofs.«01_k».proof.Proof.Gen.KernelIdeal.Value
public import proofs.«01_k».proof.Proof.Tile

@[expose] public section

set_option maxRecDepth 16384

noncomputable section

namespace Cert.SgBwd

open Cert.KernelIdeal Cert.KernelIdeal.Gen Idealize.ShloMosaic Idealize.ShloMosaic.TcCoe Idealize.ShloMosaic.Tactic

/-! ### The tiles of a point's blocks -/

abbrev X0 := Vec Ideal S1x512x512 .bf16
abbrev X1 := Vec Ideal S1x256 .f32
abbrev X2 := Vec Ideal S4x128x128 .f32
abbrev X3 := Vec Ideal S128x128 .f32
abbrev X4 := Vec Ideal S1x512x256 .f32

def tB (x0 : X0) (r l : Nat) (h : ∀ a, ![0, r, l] a + S1x128x128.size a ≤ S1x512x512.size a) : M :=
  extf .f32 (shapeCast S128x128 (View.ld (Val := Elt Ideal) x0 (Rect.unit (s := S1x512x512) ![0, r, l] S1x128x128.size h) : Vec Ideal S1x128x128 .bf16)
    shapeCasts_S1x128x128_S128x128) bitsLt_bf16_f32
def tF (x4 : X4) (r l : Nat) (h : ∀ a, ![0, r, l] a + S1x128x128.size a ≤ S1x512x256.size a) : M :=
  shapeCast S128x128 (View.ld (Val := Elt Ideal) x4 (Rect.unit (s := S1x512x256) ![0, r, l] S1x128x128.size h) : Vec Ideal S1x128x128 .f32)
    shapeCasts_S1x128x128_S128x128
def tG (x1 : X1) (l : Nat) (h : ∀ a, ![0, l] a + S1x128.size a ≤ S1x256.size a) : Row :=
  shapeCast S1x128 (View.ld (Val := Elt Ideal) x1 (Rect.unit (s := S1x256) ![0, l] S1x128.size h) : Vec Ideal S1x128 .f32) shapeCasts_S1x128_S1x128
def tW (x2 : X2) (g : Nat) (h : ∀ a, ![g, 0, 0] a + S1x128x128.size a ≤ S4x128x128.size a) : M :=
  shapeCast S128x128 (View.ld (Val := Elt Ideal) x2 (Rect.unit (s := S4x128x128) ![g, 0, 0] S1x128x128.size h) : Vec Ideal S1x128x128 .f32)
    shapeCasts_S1x128x128_S128x128
def tC (x3 : X3) (g : Nat) (h : ∀ a, ![0, g] a + S128x1.size a ≤ S128x128.size a) : Col :=
  shapeCast S128x1 (View.ld (Val := Elt Ideal) x3 (Rect.unit (s := S128x128) ![0, g] S128x1.size h) : Vec Ideal S128x1 .f32) shapeCasts_S128x1_S128x1

/-- A tile as a block of the half-width output. -/
def st (x : M) : Vec Ideal S1x128x128 .bf16 :=
  shapeCast S1x128x128 (truncf .bf16 x bitsLt_bf16_f32) shapeCasts_S128x128_S1x128x128
/-- A column of the bias gradient placed at lane `n`. -/
def kPut (n : BitVec 32) (x : Col) : M :=
  select (cmpi .eq (iota .tc S128x128 32 [1] iota_S128x128_d1_w32) (broadcast S128x128 n))
    (broadcastTo S128x128 (shapeCast S128x1 x shapeCasts_S128x1_S128x1) broadcasts_S128x1_S128x128) (kst 0x00000000#32)

variable (x0 : X0) (x1 : X1) (x2 : X2) (x3 : X3) (x4 : X4)

/-! ### What a point adds to the accumulated outputs -/

def pG0 : Row :=
  (addf (addf (addf (addf (broadcast S1x128 (Scalar.ofBits (F := Ideal) .f32 0x00000000#32))
    (kDg (tB x0 0 0 inb_S1x512x512_S1x128x128_0_0_0) (tB x0 0 256 inb_S1x512x512_S1x128x128_0_0_256) (tW x2 0 inb_S4x128x128_S1x128x128_0_0_0) (tW x2 1 inb_S4x128x128_S1x128x128_1_0_0) (tF x4 0 0 inb_S1x512x256_S1x128x128_0_0_0)))
    (kDg (tB x0 128 0 inb_S1x512x512_S1x128x128_0_128_0) (tB x0 128 256 inb_S1x512x512_S1x128x128_0_128_256) (tW x2 0 inb_S4x128x128_S1x128x128_0_0_0) (tW x2 1 inb_S4x128x128_S1x128x128_1_0_0) (tF x4 128 0 inb_S1x512x256_S1x128x128_0_128_0)))
    (kDg (tB x0 256 0 inb_S1x512x512_S1x128x128_0_256_0) (tB x0 256 256 inb_S1x512x512_S1x128x128_0_256_256) (tW x2 0 inb_S4x128x128_S1x128x128_0_0_0) (tW x2 1 inb_S4x128x128_S1x128x128_1_0_0) (tF x4 256 0 inb_S1x512x256_S1x128x128_0_256_0)))
    (kDg (tB x0 384 0 inb_S1x512x512_S1x128x128_0_384_0) (tB x0 384 256 inb_S1x512x512_S1x128x128_0_384_256) (tW x2 0 inb_S4x128x128_S1x128x128_0_0_0) (tW x2 1 inb_S4x128x128_S1x128x128_1_0_0) (tF x4 384 0 inb_S1x512x256_S1x128x128_0_384_0)))

def pG1 : Row :=
  (addf (addf (addf (addf (broadcast S1x128 (Scalar.ofBits (F := Ideal) .f32 0x00000000#32))
    (kDg (tB x0 0 128 inb_S1x512x512_S1x128x128_0_0_128) (tB x0 0 384 inb_S1x512x512_S1x128x128_0_0_384) (tW x2 2 inb_S4x128x128_S1x128x128_2_0_0) (tW x2 3 inb_S4x128x128_S1x128x128_3_0_0) (tF x4 0 128 inb_S1x512x256_S1x128x128_0_0_128)))
    (kDg (tB x0 128 128 inb_S1x512x512_S1x128x128_0_128_128) (tB x0 128 384 inb_S1x512x512_S1x128x128_0_128_384) (tW x2 2 inb_S4x128x128_S1x128x128_2_0_0) (tW x2 3 inb_S4x128x128_S1x128x128_3_0_0) (tF x4 128 128 inb_S1x512x256_S1x128x128_0_128_128)))
    (kDg (tB x0 256 128 inb_S1x512x512_S1x128x128_0_256_128) (tB x0 256 384 inb_S1x512x512_S1x128x128_0_256_384) (tW x2 2 inb_S4x128x128_S1x128x128_2_0_0) (tW x2 3 inb_S4x128x128_S1x128x128_3_0_0) (tF x4 256 128 inb_S1x512x256_S1x128x128_0_256_128)))
    (kDg (tB x0 384 128 inb_S1x512x512_S1x128x128_0_384_128) (tB x0 384 384 inb_S1x512x512_S1x128x128_0_384_384) (tW x2 2 inb_S4x128x128_S1x128x128_2_0_0) (tW x2 3 inb_S4x128x128_S1x128x128_3_0_0) (tF x4 384 128 inb_S1x512x256_S1x128x128_0_384_128)))

def pW0 : M :=
  (addf (addf (addf (addf (kst 0x00000000#32)
    (kDwa (tB x0 0 0 inb_S1x512x512_S1x128x128_0_0_0) (tB x0 0 256 inb_S1x512x512_S1x128x128_0_0_256) (tG x1 0 inb_S1x256_S1x128_0_0) (tF x4 0 0 inb_S1x512x256_S1x128x128_0_0_0)))
    (kDwa (tB x0 128 0 inb_S1x512x512_S1x128x128_0_128_0) (tB x0 128 256 inb_S1x512x512_S1x128x128_0_128_256) (tG x1 0 inb_S1x256_S1x128_0_0) (tF x4 128 0 inb_S1x512x256_S1x128x128_0_128_0)))
    (kDwa (tB x0 256 0 inb_S1x512x512_S1x128x128_0_256_0) (tB x0 256 256 inb_S1x512x512_S1x128x128_0_256_256) (tG x1 0 inb_S1x256_S1x128_0_0) (tF x4 256 0 inb_S1x512x256_S1x128x128_0_256_0)))
    (kDwa (tB x0 384 0 inb_S1x512x512_S1x128x128_0_384_0) (tB x0 384 256 inb_S1x512x512_S1x128x128_0_384_256) (tG x1 0 inb_S1x256_S1x128_0_0) (tF x4 384 0 inb_S1x512x256_S1x128x128_0_384_0)))

def pW1 : M :=
  (addf (addf (addf (addf (kst 0x00000000#32)
    (kDwb (tB x0 0 0 inb_S1x512x512_S1x128x128_0_0_0) (tB x0 0 256 inb_S1x512x512_S1x128x128_0_0_256) (tG x1 0 inb_S1x256_S1x128_0_0) (tF x4 0 0 inb_S1x512x256_S1x128x128_0_0_0)))
    (kDwb (tB x0 128 0 inb_S1x512x512_S1x128x128_0_128_0) (tB x0 128 256 inb_S1x512x512_S1x128x128_0_128_256) (tG x1 0 inb_S1x256_S1x128_0_0) (tF x4 128 0 inb_S1x512x256_S1x128x128_0_128_0)))
    (kDwb (tB x0 256 0 inb_S1x512x512_S1x128x128_0_256_0) (tB x0 256 256 inb_S1x512x512_S1x128x128_0_256_256) (tG x1 0 inb_S1x256_S1x128_0_0) (tF x4 256 0 inb_S1x512x256_S1x128x128_0_256_0)))
    (kDwb (tB x0 384 0 inb_S1x512x512_S1x128x128_0_384_0) (tB x0 384 256 inb_S1x512x512_S1x128x128_0_384_256) (tG x1 0 inb_S1x256_S1x128_0_0) (tF x4 384 0 inb_S1x512x256_S1x128x128_0_384_0)))

def pW2 : M :=
  (addf (addf (addf (addf (kst 0x00000000#32)
    (kDwa (tB x0 0 128 inb_S1x512x512_S1x128x128_0_0_128) (tB x0 0 384 inb_S1x512x512_S1x128x128_0_0_384) (tG x1 128 inb_S1x256_S1x128_0_128) (tF x4 0 128 inb_S1x512x256_S1x128x128_0_0_128)))
    (kDwa (tB x0 128 128 inb_S1x512x512_S1x128x128_0_128_128) (tB x0 128 384 inb_S1x512x512_S1x128x128_0_128_384) (tG x1 128 inb_S1x256_S1x128_0_128) (tF x4 128 128 inb_S1x512x256_S1x128x128_0_128_128)))
    (kDwa (tB x0 256 128 inb_S1x512x512_S1x128x128_0_256_128) (tB x0 256 384 inb_S1x512x512_S1x128x128_0_256_384) (tG x1 128 inb_S1x256_S1x128_0_128) (tF x4 256 128 inb_S1x512x256_S1x128x128_0_256_128)))
    (kDwa (tB x0 384 128 inb_S1x512x512_S1x128x128_0_384_128) (tB x0 384 384 inb_S1x512x512_S1x128x128_0_384_384) (tG x1 128 inb_S1x256_S1x128_0_128) (tF x4 384 128 inb_S1x512x256_S1x128x128_0_384_128)))

def pW3 : M :=
  (addf (addf (addf (addf (kst 0x00000000#32)
    (kDwb (tB x0 0 128 inb_S1x512x512_S1x128x128_0_0_128) (tB x0 0 384 inb_S1x512x512_S1x128x128_0_0_384) (tG x1 128 inb_S1x256_S1x128_0_128) (tF x4 0 128 inb_S1x512x256_S1x128x128_0_0_128)))
    (kDwb (tB x0 128 128 inb_S1x512x512_S1x128x128_0_128_128) (tB x0 128 384 inb_S1x512x512_S1x128x128_0_128_384) (tG x1 128 inb_S1x256_S1x128_0_128) (tF x4 128 128 inb_S1x512x256_S1x128x128_0_128_128)))
    (kDwb (tB x0 256 128 inb_S1x512x512_S1x128x128_0_256_128) (tB x0 256 384 inb_S1x512x512_S1x128x128_0_256_384) (tG x1 128 inb_S1x256_S1x128_0_128) (tF x4 256 128 inb_S1x512x256_S1x128x128_0_256_128)))
    (kDwb (tB x0 384 128 inb_S1x512x512_S1x128x128_0_384_128) (tB x0 384 384 inb_S1x512x512_S1x128x128_0_384_384) (tG x1 128 inb_S1x256_S1x128_0_128) (tF x4 384 128 inb_S1x512x256_S1x128x128_0_384_128)))

def pB : M :=
  (addf (addf (addf (addf (addf (addf (addf (addf (addf (addf (addf (addf (addf (addf (addf (addf (kst 0x00000000#32)
    (kPut 0#32 (kDba (tB x0 0 0 inb_S1x512x512_S1x128x128_0_0_0) (tF x4 0 0 inb_S1x512x256_S1x128x128_0_0_0))))
    (kPut 1#32 (kDbb (tB x0 0 0 inb_S1x512x512_S1x128x128_0_0_0) (tF x4 0 0 inb_S1x512x256_S1x128x128_0_0_0))))
    (kPut 2#32 (kDba (tB x0 0 128 inb_S1x512x512_S1x128x128_0_0_128) (tF x4 0 128 inb_S1x512x256_S1x128x128_0_0_128))))
    (kPut 3#32 (kDbb (tB x0 0 128 inb_S1x512x512_S1x128x128_0_0_128) (tF x4 0 128 inb_S1x512x256_S1x128x128_0_0_128))))
    (kPut 0#32 (kDba (tB x0 128 0 inb_S1x512x512_S1x128x128_0_128_0) (tF x4 128 0 inb_S1x512x256_S1x128x128_0_128_0))))
    (kPut 1#32 (kDbb (tB x0 128 0 inb_S1x512x512_S1x128x128_0_128_0) (tF x4 128 0 inb_S1x512x256_S1x128x128_0_128_0))))
    (kPut 2#32 (kDba (tB x0 128 128 inb_S1x512x512_S1x128x128_0_128_128) (tF x4 128 128 inb_S1x512x256_S1x128x128_0_128_128))))
    (kPut 3#32 (kDbb (tB x0 128 128 inb_S1x512x512_S1x128x128_0_128_128) (tF x4 128 128 inb_S1x512x256_S1x128x128_0_128_128))))
    (kPut 0#32 (kDba (tB x0 256 0 inb_S1x512x512_S1x128x128_0_256_0) (tF x4 256 0 inb_S1x512x256_S1x128x128_0_256_0))))
    (kPut 1#32 (kDbb (tB x0 256 0 inb_S1x512x512_S1x128x128_0_256_0) (tF x4 256 0 inb_S1x512x256_S1x128x128_0_256_0))))
    (kPut 2#32 (kDba (tB x0 256 128 inb_S1x512x512_S1x128x128_0_256_128) (tF x4 256 128 inb_S1x512x256_S1x128x128_0_256_128))))
    (kPut 3#32 (kDbb (tB x0 256 128 inb_S1x512x512_S1x128x128_0_256_128) (tF x4 256 128 inb_S1x512x256_S1x128x128_0_256_128))))
    (kPut 0#32 (kDba (tB x0 384 0 inb_S1x512x512_S1x128x128_0_384_0) (tF x4 384 0 inb_S1x512x256_S1x128x128_0_384_0))))
    (kPut 1#32 (kDbb (tB x0 384 0 inb_S1x512x512_S1x128x128_0_384_0) (tF x4 384 0 inb_S1x512x256_S1x128x128_0_384_0))))
    (kPut 2#32 (kDba (tB x0 384 128 inb_S1x512x512_S1x128x128_0_384_128) (tF x4 384 128 inb_S1x512x256_S1x128x128_0_384_128))))
    (kPut 3#32 (kDbb (tB x0 384 128 inb_S1x512x512_S1x128x128_0_384_128) (tF x4 384 128 inb_S1x512x256_S1x128x128_0_384_128))))

/-! ### The pieces -/

/-- The stores into the output's block, last first. -/
def pieces5 : List (View.Piece (Elt Ideal) S1x512x512 .bf16) :=
  [⟨Rect.unit (s := S1x512x512) ![0, 384, 384] S1x128x128.size inb_S1x512x512_S1x128x128_0_384_384, st (kDv (tB x0 384 128 inb_S1x512x512_S1x128x128_0_384_128) (tB x0 384 384 inb_S1x512x512_S1x128x128_0_384_384) (tG x1 128 inb_S1x256_S1x128_0_128) (tW x2 2 inb_S4x128x128_S1x128x128_2_0_0) (tW x2 3 inb_S4x128x128_S1x128x128_3_0_0) (tF x4 384 128 inb_S1x512x256_S1x128x128_0_384_128))⟩,
   ⟨Rect.unit (s := S1x512x512) ![0, 384, 128] S1x128x128.size inb_S1x512x512_S1x128x128_0_384_128, st (kDu (tB x0 384 128 inb_S1x512x512_S1x128x128_0_384_128) (tB x0 384 384 inb_S1x512x512_S1x128x128_0_384_384) (tG x1 128 inb_S1x256_S1x128_0_128) (tW x2 2 inb_S4x128x128_S1x128x128_2_0_0) (tW x2 3 inb_S4x128x128_S1x128x128_3_0_0) (tC x3 2 inb_S128x128_S128x1_0_2) (tC x3 3 inb_S128x128_S128x1_0_3) (tF x4 384 128 inb_S1x512x256_S1x128x128_0_384_128))⟩,
   ⟨Rect.unit (s := S1x512x512) ![0, 384, 256] S1x128x128.size inb_S1x512x512_S1x128x128_0_384_256, st (kDv (tB x0 384 0 inb_S1x512x512_S1x128x128_0_384_0) (tB x0 384 256 inb_S1x512x512_S1x128x128_0_384_256) (tG x1 0 inb_S1x256_S1x128_0_0) (tW x2 0 inb_S4x128x128_S1x128x128_0_0_0) (tW x2 1 inb_S4x128x128_S1x128x128_1_0_0) (tF x4 384 0 inb_S1x512x256_S1x128x128_0_384_0))⟩,
   ⟨Rect.unit (s := S1x512x512) ![0, 384, 0] S1x128x128.size inb_S1x512x512_S1x128x128_0_384_0, st (kDu (tB x0 384 0 inb_S1x512x512_S1x128x128_0_384_0) (tB x0 384 256 inb_S1x512x512_S1x128x128_0_384_256) (tG x1 0 inb_S1x256_S1x128_0_0) (tW x2 0 inb_S4x128x128_S1x128x128_0_0_0) (tW x2 1 inb_S4x128x128_S1x128x128_1_0_0) (tC x3 0 inb_S128x128_S128x1_0_0) (tC x3 1 inb_S128x128_S128x1_0_1) (tF x4 384 0 inb_S1x512x256_S1x128x128_0_384_0))⟩,
   ⟨Rect.unit (s := S1x512x512) ![0, 256, 384] S1x128x128.size inb_S1x512x512_S1x128x128_0_256_384, st (kDv (tB x0 256 128 inb_S1x512x512_S1x128x128_0_256_128) (tB x0 256 384 inb_S1x512x512_S1x128x128_0_256_384) (tG x1 128 inb_S1x256_S1x128_0_128) (tW x2 2 inb_S4x128x128_S1x128x128_2_0_0) (tW x2 3 inb_S4x128x128_S1x128x128_3_0_0) (tF x4 256 128 inb_S1x512x256_S1x128x128_0_256_128))⟩,
   ⟨Rect.unit (s := S1x512x512) ![0, 256, 128] S1x128x128.size inb_S1x512x512_S1x128x128_0_256_128, st (kDu (tB x0 256 128 inb_S1x512x512_S1x128x128_0_256_128) (tB x0 256 384 inb_S1x512x512_S1x128x128_0_256_384) (tG x1 128 inb_S1x256_S1x128_0_128) (tW x2 2 inb_S4x128x128_S1x128x128_2_0_0) (tW x2 3 inb_S4x128x128_S1x128x128_3_0_0) (tC x3 2 inb_S128x128_S128x1_0_2) (tC x3 3 inb_S128x128_S128x1_0_3) (tF x4 256 128 inb_S1x512x256_S1x128x128_0_256_128))⟩,
   ⟨Rect.unit (s := S1x512x512) ![0, 256, 256] S1x128x128.size inb_S1x512x512_S1x128x128_0_256_256, st (kDv (tB x0 256 0 inb_S1x512x512_S1x128x128_0_256_0) (tB x0 256 256 inb_S1x512x512_S1x128x128_0_256_256) (tG x1 0 inb_S1x256_S1x128_0_0) (tW x2 0 inb_S4x128x128_S1x128x128_0_0_0) (tW x2 1 inb_S4x128x128_S1x128x128_1_0_0) (tF x4 256 0 inb_S1x512x256_S1x128x128_0_256_0))⟩,
   ⟨Rect.unit (s := S1x512x512) ![0, 256, 0] S1x128x128.size inb_S1x512x512_S1x128x128_0_256_0, st (kDu (tB x0 256 0 inb_S1x512x512_S1x128x128_0_256_0) (tB x0 256 256 inb_S1x512x512_S1x128x128_0_256_256) (tG x1 0 inb_S1x256_S1x128_0_0) (tW x2 0 inb_S4x128x128_S1x128x128_0_0_0) (tW x2 1 inb_S4x128x128_S1x128x128_1_0_0) (tC x3 0 inb_S128x128_S128x1_0_0) (tC x3 1 inb_S128x128_S128x1_0_1) (tF x4 256 0 inb_S1x512x256_S1x128x128_0_256_0))⟩,
   ⟨Rect.unit (s := S1x512x512) ![0, 128, 384] S1x128x128.size inb_S1x512x512_S1x128x128_0_128_384, st (kDv (tB x0 128 128 inb_S1x512x512_S1x128x128_0_128_128) (tB x0 128 384 inb_S1x512x512_S1x128x128_0_128_384) (tG x1 128 inb_S1x256_S1x128_0_128) (tW x2 2 inb_S4x128x128_S1x128x128_2_0_0) (tW x2 3 inb_S4x128x128_S1x128x128_3_0_0) (tF x4 128 128 inb_S1x512x256_S1x128x128_0_128_128))⟩,
   ⟨Rect.unit (s := S1x512x512) ![0, 128, 128] S1x128x128.size inb_S1x512x512_S1x128x128_0_128_128, st (kDu (tB x0 128 128 inb_S1x512x512_S1x128x128_0_128_128) (tB x0 128 384 inb_S1x512x512_S1x128x128_0_128_384) (tG x1 128 inb_S1x256_S1x128_0_128) (tW x2 2 inb_S4x128x128_S1x128x128_2_0_0) (tW x2 3 inb_S4x128x128_S1x128x128_3_0_0) (tC x3 2 inb_S128x128_S128x1_0_2) (tC x3 3 inb_S128x128_S128x1_0_3) (tF x4 128 128 inb_S1x512x256_S1x128x128_0_128_128))⟩,
   ⟨Rect.unit (s := S1x512x512) ![0, 128, 256] S1x128x128.size inb_S1x512x512_S1x128x128_0_128_256, st (kDv (tB x0 128 0 inb_S1x512x512_S1x128x128_0_128_0) (tB x0 128 256 inb_S1x512x512_S1x128x128_0_128_256) (tG x1 0 inb_S1x256_S1x128_0_0) (tW x2 0 inb_S4x128x128_S1x128x128_0_0_0) (tW x2 1 inb_S4x128x128_S1x128x128_1_0_0) (tF x4 128 0 inb_S1x512x256_S1x128x128_0_128_0))⟩,
   ⟨Rect.unit (s := S1x512x512) ![0, 128, 0] S1x128x128.size inb_S1x512x512_S1x128x128_0_128_0, st (kDu (tB x0 128 0 inb_S1x512x512_S1x128x128_0_128_0) (tB x0 128 256 inb_S1x512x512_S1x128x128_0_128_256) (tG x1 0 inb_S1x256_S1x128_0_0) (tW x2 0 inb_S4x128x128_S1x128x128_0_0_0) (tW x2 1 inb_S4x128x128_S1x128x128_1_0_0) (tC x3 0 inb_S128x128_S128x1_0_0) (tC x3 1 inb_S128x128_S128x1_0_1) (tF x4 128 0 inb_S1x512x256_S1x128x128_0_128_0))⟩,
   ⟨Rect.unit (s := S1x512x512) ![0, 0, 384] S1x128x128.size inb_S1x512x512_S1x128x128_0_0_384, st (kDv (tB x0 0 128 inb_S1x512x512_S1x128x128_0_0_128) (tB x0 0 384 inb_S1x512x512_S1x128x128_0_0_384) (tG x1 128 inb_S1x256_S1x128_0_128) (tW x2 2 inb_S4x128x128_S1x128x128_2_0_0) (tW x2 3 inb_S4x128x128_S1x128x128_3_0_0) (tF x4 0 128 inb_S1x512x256_S1x128x128_0_0_128))⟩,
   ⟨Rect.unit (s := S1x512x512) ![0, 0, 128] S1x128x128.size inb_S1x512x512_S1x128x128_0_0_128, st (kDu (tB x0 0 128 inb_S1x512x512_S1x128x128_0_0_128) (tB x0 0 384 inb_S1x512x512_S1x128x128_0_0_384) (tG x1 128 inb_S1x256_S1x128_0_128) (tW x2 2 inb_S4x128x128_S1x128x128_2_0_0) (tW x2 3 inb_S4x128x128_S1x128x128_3_0_0) (tC x3 2 inb_S128x128_S128x1_0_2) (tC x3 3 inb_S128x128_S128x1_0_3) (tF x4 0 128 inb_S1x512x256_S1x128x128_0_0_128))⟩,
   ⟨Rect.unit (s := S1x512x512) ![0, 0, 256] S1x128x128.size inb_S1x512x512_S1x128x128_0_0_256, st (kDv (tB x0 0 0 inb_S1x512x512_S1x128x128_0_0_0) (tB x0 0 256 inb_S1x512x512_S1x128x128_0_0_256) (tG x1 0 inb_S1x256_S1x128_0_0) (tW x2 0 inb_S4x128x128_S1x128x128_0_0_0) (tW x2 1 inb_S4x128x128_S1x128x128_1_0_0) (tF x4 0 0 inb_S1x512x256_S1x128x128_0_0_0))⟩,
   ⟨Rect.unit (s := S1x512x512) ![0, 0, 0] S1x128x128.size inb_S1x512x512_S1x128x128_0_0_0, st (kDu (tB x0 0 0 inb_S1x512x512_S1x128x128_0_0_0) (tB x0 0 256 inb_S1x512x512_S1x128x128_0_0_256) (tG x1 0 inb_S1x256_S1x128_0_0) (tW x2 0 inb_S4x128x128_S1x128x128_0_0_0) (tW x2 1 inb_S4x128x128_S1x128x128_1_0_0) (tC x3 0 inb_S128x128_S128x1_0_0) (tC x3 1 inb_S128x128_S128x1_0_1) (tF x4 0 0 inb_S1x512x256_S1x128x128_0_0_0))⟩]

/-- The gain gradient's block, given what it held. -/
def pieces6 (xo6 : X1) : List (View.Piece (Elt Ideal) S1x256 .f32) :=
  [⟨Rect.unit (s := S1x256) ![0, 128] S1x128.size inb_S1x256_S1x128_0_128, addf (tG xo6 128 inb_S1x256_S1x128_0_128) (pG1 x0 x2 x4)⟩,
   ⟨Rect.unit (s := S1x256) ![0, 0] S1x128.size inb_S1x256_S1x128_0_0, addf (tG xo6 0 inb_S1x256_S1x128_0_0) (pG0 x0 x2 x4)⟩]

/-- The mixing matrices' gradient's block, given what it held. -/
def pieces7 (xo7 : X2) : List (View.Piece (Elt Ideal) S4x128x128 .f32) :=
  [⟨Rect.unit (s := S4x128x128) ![3, 0, 0] S1x128x128.size inb_S4x128x128_S1x128x128_3_0_0,
     shapeCast S1x128x128 (addf (tW xo7 3 inb_S4x128x128_S1x128x128_3_0_0) (pW3 x0 x1 x4)) shapeCasts_S128x128_S1x128x128⟩,
   ⟨Rect.unit (s := S4x128x128) ![2, 0, 0] S1x128x128.size inb_S4x128x128_S1x128x128_2_0_0,
     shapeCast S1x128x128 (addf (tW xo7 2 inb_S4x128x128_S1x128x128_2_0_0) (pW2 x0 x1 x4)) shapeCasts_S128x128_S1x128x128⟩,
   ⟨Rect.unit (s := S4x128x128) ![1, 0, 0] S1x128x128.size inb_S4x128x128_S1x128x128_1_0_0,
     shapeCast S1x128x128 (addf (tW xo7 1 inb_S4x128x128_S1x128x128_1_0_0) (pW1 x0 x1 x4)) shapeCasts_S128x128_S1x128x128⟩,
   ⟨Rect.unit (s := S4x128x128) ![0, 0, 0] S1x128x128.size inb_S4x128x128_S1x128x128_0_0_0,
     shapeCast S1x128x128 (addf (tW xo7 0 inb_S4x128x128_S1x128x128_0_0_0) (pW0 x0 x1 x4)) shapeCasts_S128x128_S1x128x128⟩]

/-- The bias gradient's block, given what it held. -/
def pieces8 (xo8 : X3) : List (View.Piece (Elt Ideal) S128x128 .f32) :=
  [⟨Rect.unit (s := S128x128) ![0, 0] S128x128.size inb_S128x128_S128x128_0_0,
     addf (shapeCast S128x128 (View.ld (Val := Elt Ideal) xo8 (Rect.unit (s := S128x128) ![0, 0] S128x128.size inb_S128x128_S128x128_0_0) : Vec Ideal S128x128 .f32)
       shapeCasts_S128x128_S128x128) (pB x0 x4)⟩]

set_option maxHeartbeats 16000000 in
theorem out_B_5 (c : Dev nD) (i : grid0.Coords) (arg2 : Memref sig .tc .vmem S1x512x512 .bf16) (harg2 : arg2.IsWhole)
    (arg3 : Memref sig .tc .vmem S1x256 .f32) (harg3 : arg3.IsWhole) (arg4 : Memref sig .tc .vmem S4x128x128 .f32)
    (harg4 : arg4.IsWhole) (arg5 : Memref sig .tc .vmem S128x128 .f32) (harg5 : arg5.IsWhole)
    (arg6 : Memref sig .tc .vmem S1x512x256 .f32) (harg6 : arg6.IsWhole) (arg8 : Memref sig .tc .vmem S1x512x512 .bf16)
    (harg8 : arg8.IsWhole) (arg9 : Memref sig .tc .vmem S1x256 .f32) (harg9 : arg9.IsWhole)
    (arg10 : Memref sig .tc .vmem S4x128x128 .f32) (harg10 : arg10.IsWhole) (arg11 : Memref sig .tc .vmem S128x128 .f32)
    (harg11 : arg11.IsWhole) (hc0) (xo6 : X1) (xo7 : X2) (xo8 : X3) :
    out0_B_5 c i arg2 harg2 arg3 harg3 arg4 harg4 arg5 harg5 arg6 harg6 arg8 harg8 arg9 harg9 arg10 harg10 arg11 harg11 hc0 x0 x1 x2 x3 x4 xo6 xo7 xo8 = View.canon (pieces5 x0 x1 x2 x3 x4) := by
  unfold out0_B_5
  rw [View.read_writes_eq_canon _ _ _ (cover0_B_5 c _ _ _ _ _ _ _ _ _ _ _ _ _ _ _ _ _ _ _ _ _ _ _ _ _ _ _ _)]
  unfold kernelRun0_B
  dsimp only
  sl_unfold_words
  simp only [View.readAt_eq_ld, harg2.read_unread, harg3.read_unread, harg4.read_unread, harg5.read_unread, harg6.read_unread,
    harg9.read_unread, harg10.read_unread, harg11.read_unread]
  rfl

set_option maxHeartbeats 16000000 in
theorem out_B_6 (c : Dev nD) (i : grid0.Coords) (arg2 : Memref sig .tc .vmem S1x512x512 .bf16) (harg2 : arg2.IsWhole)
    (arg3 : Memref sig .tc .vmem S1x256 .f32) (harg3 : arg3.IsWhole) (arg4 : Memref sig .tc .vmem S4x128x128 .f32)
    (harg4 : arg4.IsWhole) (arg5 : Memref sig .tc .vmem S128x128 .f32) (harg5 : arg5.IsWhole)
    (arg6 : Memref sig .tc .vmem S1x512x256 .f32) (harg6 : arg6.IsWhole) (arg8 : Memref sig .tc .vmem S1x512x512 .bf16)
    (harg8 : arg8.IsWhole) (arg9 : Memref sig .tc .vmem S1x256 .f32) (harg9 : arg9.IsWhole)
    (arg10 : Memref sig .tc .vmem S4x128x128 .f32) (harg10 : arg10.IsWhole) (arg11 : Memref sig .tc .vmem S128x128 .f32)
    (harg11 : arg11.IsWhole) (hc0) (xo6 : X1) (xo7 : X2) (xo8 : X3) :
    out0_B_6 c i arg2 harg2 arg3 harg3 arg4 harg4 arg5 harg5 arg6 harg6 arg8 harg8 arg9 harg9 arg10 harg10 arg11 harg11 hc0 x0 x1 x2 x3 x4 xo6 xo7 xo8 = View.canon (pieces6 x0 x2 x4 xo6) := by
  unfold out0_B_6
  rw [View.read_writes_eq_canon _ _ _ (cover0_B_6 c _ _ _ _ _ _ _ _ _ _ _ _ _ _ _ _ _ _ _ _ _ _ _ _ _ _ _ _)]
  unfold kernelRun0_B
  dsimp only
  sl_unfold_words
  simp only [View.readAt_eq_ld, harg2.read_unread, harg3.read_unread, harg4.read_unread, harg5.read_unread, harg6.read_unread,
    harg9.read_unread, harg10.read_unread, harg11.read_unread]
  rfl

set_option maxHeartbeats 16000000 in
theorem out_B_7 (c : Dev nD) (i : grid0.Coords) (arg2 : Memref sig .tc .vmem S1x512x512 .bf16) (harg2 : arg2.IsWhole)
    (arg3 : Memref sig .tc .vmem S1x256 .f32) (harg3 : arg3.IsWhole) (arg4 : Memref sig .tc .vmem S4x128x128 .f32)
    (harg4 : arg4.IsWhole) (arg5 : Memref sig .tc .vmem S128x128 .f32) (harg5 : arg5.IsWhole)
    (arg6 : Memref sig .tc .vmem S1x512x256 .f32) (harg6 : arg6.IsWhole) (arg8 : Memref sig .tc .vmem S1x512x512 .bf16)
    (harg8 : arg8.IsWhole) (arg9 : Memref sig .tc .vmem S1x256 .f32) (harg9 : arg9.IsWhole)
    (arg10 : Memref sig .tc .vmem S4x128x128 .f32) (harg10 : arg10.IsWhole) (arg11 : Memref sig .tc .vmem S128x128 .f32)
    (harg11 : arg11.IsWhole) (hc0) (xo6 : X1) (xo7 : X2) (xo8 : X3) :
    out0_B_7 c i arg2 harg2 arg3 harg3 arg4 harg4 arg5 harg5 arg6 harg6 arg8 harg8 arg9 harg9 arg10 harg10 arg11 harg11 hc0 x0 x1 x2 x3 x4 xo6 xo7 xo8 = View.canon (pieces7 x0 x1 x4 xo7) := by
  unfold out0_B_7
  rw [View.read_writes_eq_canon _ _ _ (cover0_B_7 c _ _ _ _ _ _ _ _ _ _ _ _ _ _ _ _ _ _ _ _ _ _ _ _ _ _ _ _)]
  unfold kernelRun0_B
  dsimp only
  sl_unfold_words
  simp only [View.readAt_eq_ld, harg2.read_unread, harg3.read_unread, harg4.read_unread, harg5.read_unread, harg6.read_unread,
    harg9.read_unread, harg10.read_unread, harg11.read_unread]
  rfl

set_option maxHeartbeats 16000000 in
theorem out_B_8 (c : Dev nD) (i : grid0.Coords) (arg2 : Memref sig .tc .vmem S1x512x512 .bf16) (harg2 : arg2.IsWhole)
    (arg3 : Memref sig .tc .vmem S1x256 .f32) (harg3 : arg3.IsWhole) (arg4 : Memref sig .tc .vmem S4x128x128 .f32)
    (harg4 : arg4.IsWhole) (arg5 : Memref sig .tc .vmem S128x128 .f32) (harg5 : arg5.IsWhole)
    (arg6 : Memref sig .tc .vmem S1x512x256 .f32) (harg6 : arg6.IsWhole) (arg8 : Memref sig .tc .vmem S1x512x512 .bf16)
    (harg8 : arg8.IsWhole) (arg9 : Memref sig .tc .vmem S1x256 .f32) (harg9 : arg9.IsWhole)
    (arg10 : Memref sig .tc .vmem S4x128x128 .f32) (harg10 : arg10.IsWhole) (arg11 : Memref sig .tc .vmem S128x128 .f32)
    (harg11 : arg11.IsWhole) (hc0) (xo6 : X1) (xo7 : X2) (xo8 : X3) :
    out0_B_8 c i arg2 harg2 arg3 harg3 arg4 harg4 arg5 harg5 arg6 harg6 arg8 harg8 arg9 harg9 arg10 harg10 arg11 harg11 hc0 x0 x1 x2 x3 x4 xo6 xo7 xo8 = View.canon (pieces8 x0 x4 xo8) := by
  unfold out0_B_8
  rw [View.read_writes_eq_canon _ _ _ (cover0_B_8 c _ _ _ _ _ _ _ _ _ _ _ _ _ _ _ _ _ _ _ _ _ _ _ _ _ _ _ _)]
  unfold kernelRun0_B
  dsimp only
  sl_unfold_words
  simp only [View.readAt_eq_ld, harg2.read_unread, harg3.read_unread, harg4.read_unread, harg5.read_unread, harg6.read_unread,
    harg9.read_unread, harg10.read_unread, harg11.read_unread]
  rfl

/-! ### The first point clears the accumulated blocks and adds onto the zeros -/

theorem ld_skip {s : Shape} {e : EltTy} (p : View.Piece (Elt Ideal) s e) (L : List (View.Piece (Elt Ideal) s e)) (r : Rect s)
    (h : ∀ j : r.shape.Idx, r.idx j ∉ p.1.set) : View.ld (View.canon (p :: L)) r = View.ld (View.canon L) r :=
  funext fun j => View.canon_cons_of_not_mem p L (h j)

def zArr (s : Shape) : Vec Ideal s .f32 := broadcast s (Scalar.ofBits (F := Ideal) .f32 0x00000000#32)

theorem off2 : (![0, 0] : Fin 2 → Nat) = fun _ => 0 := funext fun a => by fin_cases a <;> rfl
theorem off3 : (![0, 0, 0] : Fin 3 → Nat) = fun _ => 0 := funext fun a => by fin_cases a <;> rfl

abbrev z6 : View.Piece (Elt Ideal) S1x256 .f32 := ⟨Rect.unit (s := S1x256) ![0, 0] S1x256.size inb_S1x256_S1x256_0_0, zArr S1x256⟩
abbrev z7 : View.Piece (Elt Ideal) S4x128x128 .f32 :=
  ⟨Rect.unit (s := S4x128x128) ![0, 0, 0] S4x128x128.size inb_S4x128x128_S4x128x128_0_0_0, zArr S4x128x128⟩
abbrev z8 : View.Piece (Elt Ideal) S128x128 .f32 :=
  ⟨Rect.unit (s := S128x128) ![0, 0] S128x128.size inb_S128x128_S128x128_0_0, zArr S128x128⟩

theorem canon_z6 : View.canon [z6] = zArr S1x256 := View.canon_unit_zero off2 _ _
theorem canon_z7 : View.canon [z7] = zArr S4x128x128 := View.canon_unit_zero off3 _ _
theorem canon_z8 : View.canon [z8] = zArr S128x128 := View.canon_unit_zero off2 _ _

def a6_0 : View.Piece (Elt Ideal) S1x256 .f32 :=
  ⟨(Rect.unit (s := S1x256) ![0, 0] S1x128.size inb_S1x256_S1x128_0_0), addf (tG (View.canon [z6]) 0 inb_S1x256_S1x128_0_0) (pG0 x0 x2 x4)⟩

def a6_1 : View.Piece (Elt Ideal) S1x256 .f32 :=
  ⟨(Rect.unit (s := S1x256) ![0, 128] S1x128.size inb_S1x256_S1x128_0_128), addf (tG (View.canon [a6_0 x0 x2 x4, z6]) 128 inb_S1x256_S1x128_0_128) (pG1 x0 x2 x4)⟩

def a7_0 : View.Piece (Elt Ideal) S4x128x128 .f32 :=
  ⟨(Rect.unit (s := S4x128x128) ![0, 0, 0] S1x128x128.size inb_S4x128x128_S1x128x128_0_0_0), shapeCast S1x128x128 (addf (tW (View.canon [z7]) 0 inb_S4x128x128_S1x128x128_0_0_0) (pW0 x0 x1 x4))
    shapeCasts_S128x128_S1x128x128⟩

def a7_1 : View.Piece (Elt Ideal) S4x128x128 .f32 :=
  ⟨(Rect.unit (s := S4x128x128) ![1, 0, 0] S1x128x128.size inb_S4x128x128_S1x128x128_1_0_0), shapeCast S1x128x128 (addf (tW (View.canon [a7_0 x0 x1 x4, z7]) 1 inb_S4x128x128_S1x128x128_1_0_0) (pW1 x0 x1 x4))
    shapeCasts_S128x128_S1x128x128⟩

def a7_2 : View.Piece (Elt Ideal) S4x128x128 .f32 :=
  ⟨(Rect.unit (s := S4x128x128) ![2, 0, 0] S1x128x128.size inb_S4x128x128_S1x128x128_2_0_0), shapeCast S1x128x128 (addf (tW (View.canon [a7_1 x0 x1 x4, a7_0 x0 x1 x4, z7]) 2 inb_S4x128x128_S1x128x128_2_0_0) (pW2 x0 x1 x4))
    shapeCasts_S128x128_S1x128x128⟩

def a7_3 : View.Piece (Elt Ideal) S4x128x128 .f32 :=
  ⟨(Rect.unit (s := S4x128x128) ![3, 0, 0] S1x128x128.size inb_S4x128x128_S1x128x128_3_0_0), shapeCast S1x128x128 (addf (tW (View.canon [a7_2 x0 x1 x4, a7_1 x0 x1 x4, a7_0 x0 x1 x4, z7]) 3 inb_S4x128x128_S1x128x128_3_0_0) (pW3 x0 x1 x4))
    shapeCasts_S128x128_S1x128x128⟩

theorem idx_not_mem_unit {s : Shape} (off size : Fin s.rank → Nat) (inb : ∀ a, off a + size a ≤ s.size a)
    (off' size' : Fin s.rank → Nat) (inb' : ∀ a, off' a + size' a ≤ s.size a) (a : Fin s.rank) (h : off' a + size' a ≤ off a)
    (j : (Rect.unit off size inb).shape.Idx) : (Rect.unit off size inb).idx j ∉ (Rect.unit off' size' inb').set := fun hj => by
  have h1 := (Rect.mem_set_unit.mp hj a).2
  have h2 : ((Rect.unit off size inb).idx j a : Nat) = off a + (j a : Nat) := by
    show off a + 1 * (j a : Nat) = _
    omega
  omega

theorem a6_1_eq : a6_1 x0 x2 x4 = ⟨(Rect.unit (s := S1x256) ![0, 128] S1x128.size inb_S1x256_S1x128_0_128), addf (tG (zArr S1x256) 128 inb_S1x256_S1x128_0_128) (pG1 x0 x2 x4)⟩ := by
  unfold a6_1 tG
  rw [ld_skip (a6_0 x0 x2 x4) [z6] (Rect.unit (s := S1x256) ![0, 128] S1x128.size inb_S1x256_S1x128_0_128)
    (idx_not_mem_unit (s := S1x256) ![0, 128] S1x128.size inb_S1x256_S1x128_0_128 ![0, 0] S1x128.size inb_S1x256_S1x128_0_0 1 (by decide)), canon_z6]

theorem a7_1_eq : a7_1 x0 x1 x4 = ⟨(Rect.unit (s := S4x128x128) ![1, 0, 0] S1x128x128.size inb_S4x128x128_S1x128x128_1_0_0), shapeCast S1x128x128 (addf (tW (zArr S4x128x128) 1 inb_S4x128x128_S1x128x128_1_0_0) (pW1 x0 x1 x4))
    shapeCasts_S128x128_S1x128x128⟩ := by
  unfold a7_1 tW
  rw [ld_skip (a7_0 x0 x1 x4) [z7] (Rect.unit (s := S4x128x128) ![1, 0, 0] S1x128x128.size inb_S4x128x128_S1x128x128_1_0_0)
      (idx_not_mem_unit (s := S4x128x128) ![1, 0, 0] S1x128x128.size inb_S4x128x128_S1x128x128_1_0_0 ![0, 0, 0] S1x128x128.size inb_S4x128x128_S1x128x128_0_0_0 0 (by decide)),
    canon_z7]

theorem a7_2_eq : a7_2 x0 x1 x4 = ⟨(Rect.unit (s := S4x128x128) ![2, 0, 0] S1x128x128.size inb_S4x128x128_S1x128x128_2_0_0), shapeCast S1x128x128 (addf (tW (zArr S4x128x128) 2 inb_S4x128x128_S1x128x128_2_0_0) (pW2 x0 x1 x4))
    shapeCasts_S128x128_S1x128x128⟩ := by
  unfold a7_2 tW
  rw [ld_skip (a7_1 x0 x1 x4) [a7_0 x0 x1 x4, z7] (Rect.unit (s := S4x128x128) ![2, 0, 0] S1x128x128.size inb_S4x128x128_S1x128x128_2_0_0)
      (idx_not_mem_unit (s := S4x128x128) ![2, 0, 0] S1x128x128.size inb_S4x128x128_S1x128x128_2_0_0 ![1, 0, 0] S1x128x128.size inb_S4x128x128_S1x128x128_1_0_0 0 (by decide)),
    ld_skip (a7_0 x0 x1 x4) [z7] (Rect.unit (s := S4x128x128) ![2, 0, 0] S1x128x128.size inb_S4x128x128_S1x128x128_2_0_0)
      (idx_not_mem_unit (s := S4x128x128) ![2, 0, 0] S1x128x128.size inb_S4x128x128_S1x128x128_2_0_0 ![0, 0, 0] S1x128x128.size inb_S4x128x128_S1x128x128_0_0_0 0 (by decide)),
    canon_z7]

theorem a7_3_eq : a7_3 x0 x1 x4 = ⟨(Rect.unit (s := S4x128x128) ![3, 0, 0] S1x128x128.size inb_S4x128x128_S1x128x128_3_0_0), shapeCast S1x128x128 (addf (tW (zArr S4x128x128) 3 inb_S4x128x128_S1x128x128_3_0_0) (pW3 x0 x1 x4))
    shapeCasts_S128x128_S1x128x128⟩ := by
  unfold a7_3 tW
  rw [ld_skip (a7_2 x0 x1 x4) [a7_1 x0 x1 x4, a7_0 x0 x1 x4, z7] (Rect.unit (s := S4x128x128) ![3, 0, 0] S1x128x128.size inb_S4x128x128_S1x128x128_3_0_0)
      (idx_not_mem_unit (s := S4x128x128) ![3, 0, 0] S1x128x128.size inb_S4x128x128_S1x128x128_3_0_0 ![2, 0, 0] S1x128x128.size inb_S4x128x128_S1x128x128_2_0_0 0 (by decide)),
    ld_skip (a7_1 x0 x1 x4) [a7_0 x0 x1 x4, z7] (Rect.unit (s := S4x128x128) ![3, 0, 0] S1x128x128.size inb_S4x128x128_S1x128x128_3_0_0)
      (idx_not_mem_unit (s := S4x128x128) ![3, 0, 0] S1x128x128.size inb_S4x128x128_S1x128x128_3_0_0 ![1, 0, 0] S1x128x128.size inb_S4x128x128_S1x128x128_1_0_0 0 (by decide)),
    ld_skip (a7_0 x0 x1 x4) [z7] (Rect.unit (s := S4x128x128) ![3, 0, 0] S1x128x128.size inb_S4x128x128_S1x128x128_3_0_0)
      (idx_not_mem_unit (s := S4x128x128) ![3, 0, 0] S1x128x128.size inb_S4x128x128_S1x128x128_3_0_0 ![0, 0, 0] S1x128x128.size inb_S4x128x128_S1x128x128_0_0_0 0 (by decide)),
    canon_z7]

set_option maxHeartbeats 16000000 in
theorem out_A_5 (c : Dev nD) (i : grid0.Coords) (arg2 : Memref sig .tc .vmem S1x512x512 .bf16) (harg2 : arg2.IsWhole)
    (arg3 : Memref sig .tc .vmem S1x256 .f32) (harg3 : arg3.IsWhole) (arg4 : Memref sig .tc .vmem S4x128x128 .f32)
    (harg4 : arg4.IsWhole) (arg5 : Memref sig .tc .vmem S128x128 .f32) (harg5 : arg5.IsWhole)
    (arg6 : Memref sig .tc .vmem S1x512x256 .f32) (harg6 : arg6.IsWhole) (arg8 : Memref sig .tc .vmem S1x512x512 .bf16)
    (harg8 : arg8.IsWhole) (arg9 : Memref sig .tc .vmem S1x256 .f32) (harg9 : arg9.IsWhole)
    (arg10 : Memref sig .tc .vmem S4x128x128 .f32) (harg10 : arg10.IsWhole) (arg11 : Memref sig .tc .vmem S128x128 .f32)
    (harg11 : arg11.IsWhole) (hc0) :
    out0_A_5 c i arg2 harg2 arg3 harg3 arg4 harg4 arg5 harg5 arg6 harg6 arg8 harg8 arg9 harg9 arg10 harg10 arg11 harg11 hc0 x0 x1 x2 x3 x4 = View.canon (pieces5 x0 x1 x2 x3 x4) := by
  unfold out0_A_5
  rw [View.read_writes_eq_canon _ _ _ (cover0_A_5 c _ _ _ _ _ _ _ _ _ _ _ _ _ _ _ _ _ _ _ _ _ _ _ _ _)]
  unfold kernelRun0_A
  dsimp only
  sl_unfold_words
  simp only [View.readAt_eq_ld, harg2.read_unread, harg3.read_unread, harg4.read_unread, harg5.read_unread, harg6.read_unread,
    harg9.read_unread, harg10.read_unread, harg11.read_unread, View.readCov_eq_canon']
  rfl

set_option maxHeartbeats 16000000 in
theorem out_A_6 (c : Dev nD) (i : grid0.Coords) (arg2 : Memref sig .tc .vmem S1x512x512 .bf16) (harg2 : arg2.IsWhole)
    (arg3 : Memref sig .tc .vmem S1x256 .f32) (harg3 : arg3.IsWhole) (arg4 : Memref sig .tc .vmem S4x128x128 .f32)
    (harg4 : arg4.IsWhole) (arg5 : Memref sig .tc .vmem S128x128 .f32) (harg5 : arg5.IsWhole)
    (arg6 : Memref sig .tc .vmem S1x512x256 .f32) (harg6 : arg6.IsWhole) (arg8 : Memref sig .tc .vmem S1x512x512 .bf16)
    (harg8 : arg8.IsWhole) (arg9 : Memref sig .tc .vmem S1x256 .f32) (harg9 : arg9.IsWhole)
    (arg10 : Memref sig .tc .vmem S4x128x128 .f32) (harg10 : arg10.IsWhole) (arg11 : Memref sig .tc .vmem S128x128 .f32)
    (harg11 : arg11.IsWhole) (hc0) :
    out0_A_6 c i arg2 harg2 arg3 harg3 arg4 harg4 arg5 harg5 arg6 harg6 arg8 harg8 arg9 harg9 arg10 harg10 arg11 harg11 hc0 x0 x1 x2 x3 x4 = View.canon (pieces6 x0 x2 x4 (zArr S1x256) ++ [z6]) := by
  have h : out0_A_6 c i arg2 harg2 arg3 harg3 arg4 harg4 arg5 harg5 arg6 harg6 arg8 harg8 arg9 harg9 arg10 harg10 arg11 harg11 hc0 x0 x1 x2 x3 x4 = View.canon [a6_1 x0 x2 x4, a6_0 x0 x2 x4, z6] := by
    unfold out0_A_6
    rw [View.read_writes_eq_canon _ _ _ (cover0_A_6 c _ _ _ _ _ _ _ _ _ _ _ _ _ _ _ _ _ _ _ _ _ _ _ _ _)]
    unfold kernelRun0_A
    dsimp only
    sl_unfold_words
    simp only [View.readAt_eq_ld, harg2.read_unread, harg3.read_unread, harg4.read_unread, harg5.read_unread, harg6.read_unread,
      harg9.read_unread, harg10.read_unread, harg11.read_unread, View.readCov_eq_canon']
    rfl
  rw [h, a6_1_eq, a6_0, canon_z6]
  rfl

set_option maxHeartbeats 16000000 in
theorem out_A_7 (c : Dev nD) (i : grid0.Coords) (arg2 : Memref sig .tc .vmem S1x512x512 .bf16) (harg2 : arg2.IsWhole)
    (arg3 : Memref sig .tc .vmem S1x256 .f32) (harg3 : arg3.IsWhole) (arg4 : Memref sig .tc .vmem S4x128x128 .f32)
    (harg4 : arg4.IsWhole) (arg5 : Memref sig .tc .vmem S128x128 .f32) (harg5 : arg5.IsWhole)
    (arg6 : Memref sig .tc .vmem S1x512x256 .f32) (harg6 : arg6.IsWhole) (arg8 : Memref sig .tc .vmem S1x512x512 .bf16)
    (harg8 : arg8.IsWhole) (arg9 : Memref sig .tc .vmem S1x256 .f32) (harg9 : arg9.IsWhole)
    (arg10 : Memref sig .tc .vmem S4x128x128 .f32) (harg10 : arg10.IsWhole) (arg11 : Memref sig .tc .vmem S128x128 .f32)
    (harg11 : arg11.IsWhole) (hc0) :
    out0_A_7 c i arg2 harg2 arg3 harg3 arg4 harg4 arg5 harg5 arg6 harg6 arg8 harg8 arg9 harg9 arg10 harg10 arg11 harg11 hc0 x0 x1 x2 x3 x4 = View.canon (pieces7 x0 x1 x4 (zArr S4x128x128) ++ [z7]) := by
  have h : out0_A_7 c i arg2 harg2 arg3 harg3 arg4 harg4 arg5 harg5 arg6 harg6 arg8 harg8 arg9 harg9 arg10 harg10 arg11 harg11 hc0 x0 x1 x2 x3 x4 = View.canon [a7_3 x0 x1 x4, a7_2 x0 x1 x4, a7_1 x0 x1 x4, a7_0 x0 x1 x4, z7] := by
    unfold out0_A_7
    rw [View.read_writes_eq_canon _ _ _ (cover0_A_7 c _ _ _ _ _ _ _ _ _ _ _ _ _ _ _ _ _ _ _ _ _ _ _ _ _)]
    unfold kernelRun0_A
    dsimp only
    sl_unfold_words
    simp only [View.readAt_eq_ld, harg2.read_unread, harg3.read_unread, harg4.read_unread, harg5.read_unread, harg6.read_unread,
      harg9.read_unread, harg10.read_unread, harg11.read_unread, View.readCov_eq_canon']
    rfl
  rw [h, a7_1_eq, a7_2_eq, a7_3_eq, a7_0, canon_z7]
  rfl

set_option maxHeartbeats 16000000 in
theorem out_A_8 (c : Dev nD) (i : grid0.Coords) (arg2 : Memref sig .tc .vmem S1x512x512 .bf16) (harg2 : arg2.IsWhole)
    (arg3 : Memref sig .tc .vmem S1x256 .f32) (harg3 : arg3.IsWhole) (arg4 : Memref sig .tc .vmem S4x128x128 .f32)
    (harg4 : arg4.IsWhole) (arg5 : Memref sig .tc .vmem S128x128 .f32) (harg5 : arg5.IsWhole)
    (arg6 : Memref sig .tc .vmem S1x512x256 .f32) (harg6 : arg6.IsWhole) (arg8 : Memref sig .tc .vmem S1x512x512 .bf16)
    (harg8 : arg8.IsWhole) (arg9 : Memref sig .tc .vmem S1x256 .f32) (harg9 : arg9.IsWhole)
    (arg10 : Memref sig .tc .vmem S4x128x128 .f32) (harg10 : arg10.IsWhole) (arg11 : Memref sig .tc .vmem S128x128 .f32)
    (harg11 : arg11.IsWhole) (hc0) :
    out0_A_8 c i arg2 harg2 arg3 harg3 arg4 harg4 arg5 harg5 arg6 harg6 arg8 harg8 arg9 harg9 arg10 harg10 arg11 harg11 hc0 x0 x1 x2 x3 x4 = View.canon (pieces8 x0 x4 (zArr S128x128) ++ [z8]) := by
  have h : out0_A_8 c i arg2 harg2 arg3 harg3 arg4 harg4 arg5 harg5 arg6 harg6 arg8 harg8 arg9 harg9 arg10 harg10 arg11 harg11 hc0 x0 x1 x2 x3 x4 = View.canon [⟨Rect.unit (s := S128x128) ![0, 0] S128x128.size inb_S128x128_S128x128_0_0, addf (shapeCast S128x128 (View.ld (Val := Elt Ideal) (View.canon [z8]) (Rect.unit (s := S128x128) ![0, 0] S128x128.size inb_S128x128_S128x128_0_0) : Vec Ideal S128x128 .f32) shapeCasts_S128x128_S128x128) (pB x0 x4)⟩, z8] := by
    unfold out0_A_8
    rw [View.read_writes_eq_canon _ _ _ (cover0_A_8 c _ _ _ _ _ _ _ _ _ _ _ _ _ _ _ _ _ _ _ _ _ _ _ _ _)]
    unfold kernelRun0_A
    dsimp only
    sl_unfold_words
    simp only [View.readAt_eq_ld, harg2.read_unread, harg3.read_unread, harg4.read_unread, harg5.read_unread, harg6.read_unread,
      harg9.read_unread, harg10.read_unread, harg11.read_unread, View.readCov_eq_canon']
    rfl
  rw [h, canon_z8]
  rfl

end Cert.SgBwd

end
-- ==== Proof.Block.lean ====
/- Hand-written, untrusted: WHAT ONE GRID POINT COMPUTES FROM REAL BLOCKS. The point's blocks hold real numbers; the tiles
   loaded from them are the lifts of Tile.lean, so every store of Point.lean is the lift of the gradient of Spec.lean at
   the chunk and the group the store's place names. -/
module

public import proofs.«01_k».proof.Proof.Point

@[expose] public section

set_option maxRecDepth 16384

noncomputable section

namespace Cert.SgBwd

open Cert.KernelIdeal Cert.KernelIdeal.Gen Idealize.ShloMosaic Idealize.ShloMosaic.TcCoe

/-! ### The real blocks -/

/-- The real numbers a point's blocks hold. -/
structure Real5 where
  B : Fin 512 → Fin 512 → ℝ
  G : Fin 256 → ℝ
  W : Fin 4 → Fin 128 → Fin 128 → ℝ
  S : Fin 4 → Fin 128 → ℝ
  D : Fin 512 → Fin 256 → ℝ

/-- Group `2p + q`: half `q` of lane pair `p`. -/
def hd (p q : Fin 2) : Fin 4 := ⟨2 * p.val + q.val, by omega⟩

namespace Real5
variable (R : Real5)
def U (k h : Fin 4) (t : Fin 128) (c : Fin 64) : ℝ := R.B ⟨128 * k.val + t.val, by omega⟩ ⟨64 * h.val + c.val, by omega⟩
def V (k h : Fin 4) (t : Fin 128) (c : Fin 64) : ℝ := R.B ⟨128 * k.val + t.val, by omega⟩ ⟨256 + 64 * h.val + c.val, by omega⟩
def C (k h : Fin 4) (t : Fin 128) (c : Fin 64) : ℝ := R.D ⟨128 * k.val + t.val, by omega⟩ ⟨64 * h.val + c.val, by omega⟩
def g (h : Fin 4) (c : Fin 64) : ℝ := R.G ⟨64 * h.val + c.val, by omega⟩

def du (k h : Fin 4) : Fin 128 → Fin 64 → ℝ := Spec.du (R.U k h) (R.V k h) (R.C k h) (R.g h) (R.W h) (R.S h)
def dv (k h : Fin 4) : Fin 128 → Fin 64 → ℝ := Spec.dv (R.U k h) (R.V k h) (R.C k h) (R.g h) (R.W h)
def dg (k h : Fin 4) : Fin 64 → ℝ := Spec.dg (R.U k h) (R.V k h) (R.C k h) (R.W h)
def dw (k h : Fin 4) : Fin 128 → Fin 128 → ℝ := Spec.dw (R.U k h) (R.V k h) (R.C k h) (R.g h)
def db (k h : Fin 4) : Fin 128 → ℝ := Spec.db (R.U k h) (R.C k h)

/-- The point's blocks hold these numbers. -/
structure Holds (x0 : X0) (x1 : X1) (x2 : X2) (x3 : X3) (x4 : X4) : Prop where
  b : ∀ r l, x0 (ix3 0 r l) = ((R.B r l : ℝ) : EReal)
  g : ∀ l, x1 (ix2 0 l) = ((R.G l : ℝ) : EReal)
  w : ∀ h t s, x2 (ix3 h t s) = ((R.W h t s : ℝ) : EReal)
  s : ∀ (h : Fin 4) t, x3 (ix2 t ⟨h.val, by omega⟩) = ((R.S h t : ℝ) : EReal)
  d : ∀ r l, x4 (ix3 0 r l) = ((R.D r l : ℝ) : EReal)

end Real5

/-! ### The loads, at an index -/

theorem tB_apply (x0 : X0) (r l : Nat) (h) (i : S128x128.Idx) (r' l' : Fin 512) (hr : r'.val = r + (i 0).val) (hl : l'.val = l + (i 1).val) :
    tB x0 r l h i = x0 (ix3 0 r' l') := by
  simp only [tB, pointwise]
  refine congrArg x0 (funext fun a => Fin.ext ?_)
  match a with
  | ⟨0, _⟩ => rfl
  | ⟨1, _⟩ => show r + 1 * (i 0).val = r'.val; omega
  | ⟨2, _⟩ => show l + 1 * (i 1).val = l'.val; omega

theorem tF_apply (x4 : X4) (r l : Nat) (h) (i : S128x128.Idx) (r' : Fin 512) (l' : Fin 256) (hr : r'.val = r + (i 0).val) (hl : l'.val = l + (i 1).val) :
    tF x4 r l h i = x4 (ix3 0 r' l') := by
  simp only [tF, pointwise]
  refine congrArg x4 (funext fun a => Fin.ext ?_)
  match a with
  | ⟨0, _⟩ => rfl
  | ⟨1, _⟩ => show r + 1 * (i 0).val = r'.val; omega
  | ⟨2, _⟩ => show l + 1 * (i 1).val = l'.val; omega

theorem tG_apply (x1 : X1) (l : Nat) (h) (i : S1x128.Idx) (l' : Fin 256) (hl : l'.val = l + (i 1).val) :
    tG x1 l h i = x1 (ix2 0 l') := by
  simp only [tG, pointwise]
  refine congrArg x1 (funext fun a => Fin.ext ?_)
  match a with
  | ⟨0, _⟩ => rfl
  | ⟨1, _⟩ => show l + 1 * (i 1).val = l'.val; omega

theorem tW_apply (x2 : X2) (g : Nat) (h) (i : S128x128.Idx) (g' : Fin 4) (hg : g'.val = g) :
    tW x2 g h i = x2 (ix3 g' (i 0) (i 1)) := by
  simp only [tW, pointwise]
  refine congrArg x2 (funext fun a => Fin.ext ?_)
  match a with
  | ⟨0, _⟩ => show g + 1 * 0 = g'.val; omega
  | ⟨1, _⟩ => show 0 + 1 * (i 0).val = (i 0).val; omega
  | ⟨2, _⟩ => show 0 + 1 * (i 1).val = (i 1).val; omega

theorem tC_apply (x3 : X3) (g : Nat) (h) (i : S128x1.Idx) (g' : Fin 128) (hg : g'.val = g) :
    tC x3 g h i = x3 (ix2 (i 0) g') := by
  simp only [tC, pointwise]
  refine congrArg x3 (funext fun a => Fin.ext ?_)
  match a with
  | ⟨0, _⟩ => show 0 + 1 * (i 0).val = (i 0).val; omega
  | ⟨1, _⟩ => show g + 1 * 0 = g'.val; omega

/-! ### The loads of real blocks are lifts -/

variable {R : Real5} {x0 : X0} {x1 : X1} {x2 : X2} {x3 : X3} {x4 : X4} (H : R.Holds x0 x1 x2 x3 x4)
include H

theorem tB_U (k : Fin 4) (p : Fin 2) (h) : tB x0 (128 * k.val) (128 * p.val) h = tile fun t q c => R.U k (hd p q) t c := by
  funext i
  have hi : (i 1).val < 128 := (i 1).isLt
  have h0 : (i 0).val < 128 := (i 0).isLt
  refine (tB_apply x0 _ _ h i ⟨128 * k.val + (i 0).val, by omega⟩ ⟨64 * (hd p (grp (i 1))).val + (lane (i 1)).val, by omega⟩ rfl ?_).trans (H.b _ _)
  show 64 * (2 * p.val + (i 1).val / 64) + (i 1).val % 64 = _
  omega

theorem tB_V (k : Fin 4) (p : Fin 2) (h) : tB x0 (128 * k.val) (256 + 128 * p.val) h = tile fun t q c => R.V k (hd p q) t c := by
  funext i
  have hi : (i 1).val < 128 := (i 1).isLt
  have h0 : (i 0).val < 128 := (i 0).isLt
  refine (tB_apply x0 _ _ h i ⟨128 * k.val + (i 0).val, by omega⟩ ⟨256 + 64 * (hd p (grp (i 1))).val + (lane (i 1)).val, by omega⟩ rfl ?_).trans (H.b _ _)
  show 256 + 64 * (2 * p.val + (i 1).val / 64) + (i 1).val % 64 = _
  omega

theorem tF_C (k : Fin 4) (p : Fin 2) (h) : tF x4 (128 * k.val) (128 * p.val) h = tile fun t q c => R.C k (hd p q) t c := by
  funext i
  have hi : (i 1).val < 128 := (i 1).isLt
  have h0 : (i 0).val < 128 := (i 0).isLt
  refine (tF_apply x4 _ _ h i ⟨128 * k.val + (i 0).val, by omega⟩ ⟨64 * (hd p (grp (i 1))).val + (lane (i 1)).val, by omega⟩ rfl ?_).trans (H.d _ _)
  show 64 * (2 * p.val + (i 1).val / 64) + (i 1).val % 64 = _
  omega

theorem tG_g (p : Fin 2) (h) : tG x1 (128 * p.val) h = row fun q c => R.g (hd p q) c := by
  funext i
  have hi : (i 1).val < 128 := (i 1).isLt
  refine (tG_apply x1 _ h i ⟨64 * (hd p (grp (i 1))).val + (lane (i 1)).val, by omega⟩ ?_).trans (H.g _)
  show 64 * (2 * p.val + (i 1).val / 64) + (i 1).val % 64 = _
  omega

theorem tW_W (g : Fin 4) (h) : tW x2 g.val h = sq (R.W g) := by
  funext i
  exact (tW_apply x2 _ h i g rfl).trans (H.w _ _ _)

theorem tC_S (g : Fin 4) (h) : tC x3 g.val h = col (R.S g) := by
  funext i
  exact (tC_apply x3 _ h i ⟨g.val, by omega⟩ rfl).trans (H.s _ _)

/-! ### The pieces of real blocks are lifts -/

theorem du_real (k : Fin 4) (p : Fin 2) (hu hv hg hwa hwb hba hbb hdd) :
    kDu (tB x0 (128 * k.val) (128 * p.val) hu) (tB x0 (128 * k.val) (256 + 128 * p.val) hv) (tG x1 (128 * p.val) hg)
      (tW x2 (hd p 0).val hwa) (tW x2 (hd p 1).val hwb) (tC x3 (hd p 0).val hba) (tC x3 (hd p 1).val hbb)
      (tF x4 (128 * k.val) (128 * p.val) hdd) = tile fun t q c => R.du k (hd p q) t c := by
  rw [tB_U H, tB_V H, tG_g H, tW_W H, tW_W H, tC_S H, tC_S H, tF_C H, kDu_tile]
  refine congrArg tile (funext fun t => funext fun q => funext fun c => ?_)
  fin_cases q <;> rfl

theorem dv_real (k : Fin 4) (p : Fin 2) (hu hv hg hwa hwb hdd) :
    kDv (tB x0 (128 * k.val) (128 * p.val) hu) (tB x0 (128 * k.val) (256 + 128 * p.val) hv) (tG x1 (128 * p.val) hg)
      (tW x2 (hd p 0).val hwa) (tW x2 (hd p 1).val hwb)
      (tF x4 (128 * k.val) (128 * p.val) hdd) = tile fun t q c => R.dv k (hd p q) t c := by
  rw [tB_U H, tB_V H, tG_g H, tW_W H, tW_W H, tF_C H, kDv_tile]
  refine congrArg tile (funext fun t => funext fun q => funext fun c => ?_)
  fin_cases q <;> rfl

theorem dg_real (k : Fin 4) (p : Fin 2) (hu hv hwa hwb hdd) :
    kDg (tB x0 (128 * k.val) (128 * p.val) hu) (tB x0 (128 * k.val) (256 + 128 * p.val) hv)
      (tW x2 (hd p 0).val hwa) (tW x2 (hd p 1).val hwb)
      (tF x4 (128 * k.val) (128 * p.val) hdd) = row fun q c => R.dg k (hd p q) c := by
  rw [tB_U H, tB_V H, tW_W H, tW_W H, tF_C H, kDg_tile]
  refine congrArg row (funext fun q => funext fun c => ?_)
  fin_cases q <;> rfl

theorem dwa_real (k : Fin 4) (p : Fin 2) (hu hv hg hdd) :
    kDwa (tB x0 (128 * k.val) (128 * p.val) hu) (tB x0 (128 * k.val) (256 + 128 * p.val) hv) (tG x1 (128 * p.val) hg)
      (tF x4 (128 * k.val) (128 * p.val) hdd) = sq (R.dw k (hd p 0)) := by
  rw [tB_U H, tB_V H, tG_g H, tF_C H, kDwa_tile]
  rfl

theorem dwb_real (k : Fin 4) (p : Fin 2) (hu hv hg hdd) :
    kDwb (tB x0 (128 * k.val) (128 * p.val) hu) (tB x0 (128 * k.val) (256 + 128 * p.val) hv) (tG x1 (128 * p.val) hg)
      (tF x4 (128 * k.val) (128 * p.val) hdd) = sq (R.dw k (hd p 1)) := by
  rw [tB_U H, tB_V H, tG_g H, tF_C H, kDwb_tile]
  rfl

theorem dba_real (k : Fin 4) (p : Fin 2) (hu hdd) :
    kDba (tB x0 (128 * k.val) (128 * p.val) hu) (tF x4 (128 * k.val) (128 * p.val) hdd) = col (R.db k (hd p 0)) := by
  rw [tB_U H, tF_C H, kDba_tile]
  rfl

theorem dbb_real (k : Fin 4) (p : Fin 2) (hu hdd) :
    kDbb (tB x0 (128 * k.val) (128 * p.val) hu) (tF x4 (128 * k.val) (128 * p.val) hdd) = col (R.db k (hd p 1)) := by
  rw [tB_U H, tF_C H, kDbb_tile]
  rfl

/-! ### What a point adds, in reals -/

theorem du_0_0 : kDu (tB x0 0 0 inb_S1x512x512_S1x128x128_0_0_0) (tB x0 0 256 inb_S1x512x512_S1x128x128_0_0_256) (tG x1 0 inb_S1x256_S1x128_0_0) (tW x2 0 inb_S4x128x128_S1x128x128_0_0_0) (tW x2 1 inb_S4x128x128_S1x128x128_1_0_0) (tC x3 0 inb_S128x128_S128x1_0_0) (tC x3 1 inb_S128x128_S128x1_0_1) (tF x4 0 0 inb_S1x512x256_S1x128x128_0_0_0) =
    tile fun t q c => R.du 0 (hd 0 q) t c := du_real H 0 0 _ _ _ _ _ _ _ _
theorem dv_0_0 : kDv (tB x0 0 0 inb_S1x512x512_S1x128x128_0_0_0) (tB x0 0 256 inb_S1x512x512_S1x128x128_0_0_256) (tG x1 0 inb_S1x256_S1x128_0_0) (tW x2 0 inb_S4x128x128_S1x128x128_0_0_0) (tW x2 1 inb_S4x128x128_S1x128x128_1_0_0) (tF x4 0 0 inb_S1x512x256_S1x128x128_0_0_0) =
    tile fun t q c => R.dv 0 (hd 0 q) t c := dv_real H 0 0 _ _ _ _ _ _
theorem dg_0_0 : kDg (tB x0 0 0 inb_S1x512x512_S1x128x128_0_0_0) (tB x0 0 256 inb_S1x512x512_S1x128x128_0_0_256) (tW x2 0 inb_S4x128x128_S1x128x128_0_0_0) (tW x2 1 inb_S4x128x128_S1x128x128_1_0_0) (tF x4 0 0 inb_S1x512x256_S1x128x128_0_0_0) =
    row fun q c => R.dg 0 (hd 0 q) c := dg_real H 0 0 _ _ _ _ _
theorem dwa_0_0 : kDwa (tB x0 0 0 inb_S1x512x512_S1x128x128_0_0_0) (tB x0 0 256 inb_S1x512x512_S1x128x128_0_0_256) (tG x1 0 inb_S1x256_S1x128_0_0) (tF x4 0 0 inb_S1x512x256_S1x128x128_0_0_0) = sq (R.dw 0 (hd 0 0)) := dwa_real H 0 0 _ _ _ _
theorem dwb_0_0 : kDwb (tB x0 0 0 inb_S1x512x512_S1x128x128_0_0_0) (tB x0 0 256 inb_S1x512x512_S1x128x128_0_0_256) (tG x1 0 inb_S1x256_S1x128_0_0) (tF x4 0 0 inb_S1x512x256_S1x128x128_0_0_0) = sq (R.dw 0 (hd 0 1)) := dwb_real H 0 0 _ _ _ _
theorem dba_0_0 : kDba (tB x0 0 0 inb_S1x512x512_S1x128x128_0_0_0) (tF x4 0 0 inb_S1x512x256_S1x128x128_0_0_0) = col (R.db 0 (hd 0 0)) := dba_real H 0 0 _ _
theorem dbb_0_0 : kDbb (tB x0 0 0 inb_S1x512x512_S1x128x128_0_0_0) (tF x4 0 0 inb_S1x512x256_S1x128x128_0_0_0) = col (R.db 0 (hd 0 1)) := dbb_real H 0 0 _ _
theorem du_0_1 : kDu (tB x0 0 128 inb_S1x512x512_S1x128x128_0_0_128) (tB x0 0 384 inb_S1x512x512_S1x128x128_0_0_384) (tG x1 128 inb_S1x256_S1x128_0_128) (tW x2 2 inb_S4x128x128_S1x128x128_2_0_0) (tW x2 3 inb_S4x128x128_S1x128x128_3_0_0) (tC x3 2 inb_S128x128_S128x1_0_2) (tC x3 3 inb_S128x128_S128x1_0_3) (tF x4 0 128 inb_S1x512x256_S1x128x128_0_0_128) =
    tile fun t q c => R.du 0 (hd 1 q) t c := du_real H 0 1 _ _ _ _ _ _ _ _
theorem dv_0_1 : kDv (tB x0 0 128 inb_S1x512x512_S1x128x128_0_0_128) (tB x0 0 384 inb_S1x512x512_S1x128x128_0_0_384) (tG x1 128 inb_S1x256_S1x128_0_128) (tW x2 2 inb_S4x128x128_S1x128x128_2_0_0) (tW x2 3 inb_S4x128x128_S1x128x128_3_0_0) (tF x4 0 128 inb_S1x512x256_S1x128x128_0_0_128) =
    tile fun t q c => R.dv 0 (hd 1 q) t c := dv_real H 0 1 _ _ _ _ _ _
theorem dg_0_1 : kDg (tB x0 0 128 inb_S1x512x512_S1x128x128_0_0_128) (tB x0 0 384 inb_S1x512x512_S1x128x128_0_0_384) (tW x2 2 inb_S4x128x128_S1x128x128_2_0_0) (tW x2 3 inb_S4x128x128_S1x128x128_3_0_0) (tF x4 0 128 inb_S1x512x256_S1x128x128_0_0_128) =
    row fun q c => R.dg 0 (hd 1 q) c := dg_real H 0 1 _ _ _ _ _
theorem dwa_0_1 : kDwa (tB x0 0 128 inb_S1x512x512_S1x128x128_0_0_128) (tB x0 0 384 inb_S1x512x512_S1x128x128_0_0_384) (tG x1 128 inb_S1x256_S1x128_0_128) (tF x4 0 128 inb_S1x512x256_S1x128x128_0_0_128) = sq (R.dw 0 (hd 1 0)) := dwa_real H 0 1 _ _ _ _
theorem dwb_0_1 : kDwb (tB x0 0 128 inb_S1x512x512_S1x128x128_0_0_128) (tB x0 0 384 inb_S1x512x512_S1x128x128_0_0_384) (tG x1 128 inb_S1x256_S1x128_0_128) (tF x4 0 128 inb_S1x512x256_S1x128x128_0_0_128) = sq (R.dw 0 (hd 1 1)) := dwb_real H 0 1 _ _ _ _
theorem dba_0_1 : kDba (tB x0 0 128 inb_S1x512x512_S1x128x128_0_0_128) (tF x4 0 128 inb_S1x512x256_S1x128x128_0_0_128) = col (R.db 0 (hd 1 0)) := dba_real H 0 1 _ _
theorem dbb_0_1 : kDbb (tB x0 0 128 inb_S1x512x512_S1x128x128_0_0_128) (tF x4 0 128 inb_S1x512x256_S1x128x128_0_0_128) = col (R.db 0 (hd 1 1)) := dbb_real H 0 1 _ _
theorem du_1_0 : kDu (tB x0 128 0 inb_S1x512x512_S1x128x128_0_128_0) (tB x0 128 256 inb_S1x512x512_S1x128x128_0_128_256) (tG x1 0 inb_S1x256_S1x128_0_0) (tW x2 0 inb_S4x128x128_S1x128x128_0_0_0) (tW x2 1 inb_S4x128x128_S1x128x128_1_0_0) (tC x3 0 inb_S128x128_S128x1_0_0) (tC x3 1 inb_S128x128_S128x1_0_1) (tF x4 128 0 inb_S1x512x256_S1x128x128_0_128_0) =
    tile fun t q c => R.du 1 (hd 0 q) t c := du_real H 1 0 _ _ _ _ _ _ _ _
theorem dv_1_0 : kDv (tB x0 128 0 inb_S1x512x512_S1x128x128_0_128_0) (tB x0 128 256 inb_S1x512x512_S1x128x128_0_128_256) (tG x1 0 inb_S1x256_S1x128_0_0) (tW x2 0 inb_S4x128x128_S1x128x128_0_0_0) (tW x2 1 inb_S4x128x128_S1x128x128_1_0_0) (tF x4 128 0 inb_S1x512x256_S1x128x128_0_128_0) =
    tile fun t q c => R.dv 1 (hd 0 q) t c := dv_real H 1 0 _ _ _ _ _ _
theorem dg_1_0 : kDg (tB x0 128 0 inb_S1x512x512_S1x128x128_0_128_0) (tB x0 128 256 inb_S1x512x512_S1x128x128_0_128_256) (tW x2 0 inb_S4x128x128_S1x128x128_0_0_0) (tW x2 1 inb_S4x128x128_S1x128x128_1_0_0) (tF x4 128 0 inb_S1x512x256_S1x128x128_0_128_0) =
    row fun q c => R.dg 1 (hd 0 q) c := dg_real H 1 0 _ _ _ _ _
theorem dwa_1_0 : kDwa (tB x0 128 0 inb_S1x512x512_S1x128x128_0_128_0) (tB x0 128 256 inb_S1x512x512_S1x128x128_0_128_256) (tG x1 0 inb_S1x256_S1x128_0_0) (tF x4 128 0 inb_S1x512x256_S1x128x128_0_128_0) = sq (R.dw 1 (hd 0 0)) := dwa_real H 1 0 _ _ _ _
theorem dwb_1_0 : kDwb (tB x0 128 0 inb_S1x512x512_S1x128x128_0_128_0) (tB x0 128 256 inb_S1x512x512_S1x128x128_0_128_256) (tG x1 0 inb_S1x256_S1x128_0_0) (tF x4 128 0 inb_S1x512x256_S1x128x128_0_128_0) = sq (R.dw 1 (hd 0 1)) := dwb_real H 1 0 _ _ _ _
theorem dba_1_0 : kDba (tB x0 128 0 inb_S1x512x512_S1x128x128_0_128_0) (tF x4 128 0 inb_S1x512x256_S1x128x128_0_128_0) = col (R.db 1 (hd 0 0)) := dba_real H 1 0 _ _
theorem dbb_1_0 : kDbb (tB x0 128 0 inb_S1x512x512_S1x128x128_0_128_0) (tF x4 128 0 inb_S1x512x256_S1x128x128_0_128_0) = col (R.db 1 (hd 0 1)) := dbb_real H 1 0 _ _
theorem du_1_1 : kDu (tB x0 128 128 inb_S1x512x512_S1x128x128_0_128_128) (tB x0 128 384 inb_S1x512x512_S1x128x128_0_128_384) (tG x1 128 inb_S1x256_S1x128_0_128) (tW x2 2 inb_S4x128x128_S1x128x128_2_0_0) (tW x2 3 inb_S4x128x128_S1x128x128_3_0_0) (tC x3 2 inb_S128x128_S128x1_0_2) (tC x3 3 inb_S128x128_S128x1_0_3) (tF x4 128 128 inb_S1x512x256_S1x128x128_0_128_128) =
    tile fun t q c => R.du 1 (hd 1 q) t c := du_real H 1 1 _ _ _ _ _ _ _ _
theorem dv_1_1 : kDv (tB x0 128 128 inb_S1x512x512_S1x128x128_0_128_128) (tB x0 128 384 inb_S1x512x512_S1x128x128_0_128_384) (tG x1 128 inb_S1x256_S1x128_0_128) (tW x2 2 inb_S4x128x128_S1x128x128_2_0_0) (tW x2 3 inb_S4x128x128_S1x128x128_3_0_0) (tF x4 128 128 inb_S1x512x256_S1x128x128_0_128_128) =
    tile fun t q c => R.dv 1 (hd 1 q) t c := dv_real H 1 1 _ _ _ _ _ _
theorem dg_1_1 : kDg (tB x0 128 128 inb_S1x512x512_S1x128x128_0_128_128) (tB x0 128 384 inb_S1x512x512_S1x128x128_0_128_384) (tW x2 2 inb_S4x128x128_S1x128x128_2_0_0) (tW x2 3 inb_S4x128x128_S1x128x128_3_0_0) (tF x4 128 128 inb_S1x512x256_S1x128x128_0_128_128) =
    row fun q c => R.dg 1 (hd 1 q) c := dg_real H 1 1 _ _ _ _ _
theorem dwa_1_1 : kDwa (tB x0 128 128 inb_S1x512x512_S1x128x128_0_128_128) (tB x0 128 384 inb_S1x512x512_S1x128x128_0_128_384) (tG x1 128 inb_S1x256_S1x128_0_128) (tF x4 128 128 inb_S1x512x256_S1x128x128_0_128_128) = sq (R.dw 1 (hd 1 0)) := dwa_real H 1 1 _ _ _ _
theorem dwb_1_1 : kDwb (tB x0 128 128 inb_S1x512x512_S1x128x128_0_128_128) (tB x0 128 384 inb_S1x512x512_S1x128x128_0_128_384) (tG x1 128 inb_S1x256_S1x128_0_128) (tF x4 128 128 inb_S1x512x256_S1x128x128_0_128_128) = sq (R.dw 1 (hd 1 1)) := dwb_real H 1 1 _ _ _ _
theorem dba_1_1 : kDba (tB x0 128 128 inb_S1x512x512_S1x128x128_0_128_128) (tF x4 128 128 inb_S1x512x256_S1x128x128_0_128_128) = col (R.db 1 (hd 1 0)) := dba_real H 1 1 _ _
theorem dbb_1_1 : kDbb (tB x0 128 128 inb_S1x512x512_S1x128x128_0_128_128) (tF x4 128 128 inb_S1x512x256_S1x128x128_0_128_128) = col (R.db 1 (hd 1 1)) := dbb_real H 1 1 _ _
theorem du_2_0 : kDu (tB x0 256 0 inb_S1x512x512_S1x128x128_0_256_0) (tB x0 256 256 inb_S1x512x512_S1x128x128_0_256_256) (tG x1 0 inb_S1x256_S1x128_0_0) (tW x2 0 inb_S4x128x128_S1x128x128_0_0_0) (tW x2 1 inb_S4x128x128_S1x128x128_1_0_0) (tC x3 0 inb_S128x128_S128x1_0_0) (tC x3 1 inb_S128x128_S128x1_0_1) (tF x4 256 0 inb_S1x512x256_S1x128x128_0_256_0) =
    tile fun t q c => R.du 2 (hd 0 q) t c := du_real H 2 0 _ _ _ _ _ _ _ _
theorem dv_2_0 : kDv (tB x0 256 0 inb_S1x512x512_S1x128x128_0_256_0) (tB x0 256 256 inb_S1x512x512_S1x128x128_0_256_256) (tG x1 0 inb_S1x256_S1x128_0_0) (tW x2 0 inb_S4x128x128_S1x128x128_0_0_0) (tW x2 1 inb_S4x128x128_S1x128x128_1_0_0) (tF x4 256 0 inb_S1x512x256_S1x128x128_0_256_0) =
    tile fun t q c => R.dv 2 (hd 0 q) t c := dv_real H 2 0 _ _ _ _ _ _
theorem dg_2_0 : kDg (tB x0 256 0 inb_S1x512x512_S1x128x128_0_256_0) (tB x0 256 256 inb_S1x512x512_S1x128x128_0_256_256) (tW x2 0 inb_S4x128x128_S1x128x128_0_0_0) (tW x2 1 inb_S4x128x128_S1x128x128_1_0_0) (tF x4 256 0 inb_S1x512x256_S1x128x128_0_256_0) =
    row fun q c => R.dg 2 (hd 0 q) c := dg_real H 2 0 _ _ _ _ _
theorem dwa_2_0 : kDwa (tB x0 256 0 inb_S1x512x512_S1x128x128_0_256_0) (tB x0 256 256 inb_S1x512x512_S1x128x128_0_256_256) (tG x1 0 inb_S1x256_S1x128_0_0) (tF x4 256 0 inb_S1x512x256_S1x128x128_0_256_0) = sq (R.dw 2 (hd 0 0)) := dwa_real H 2 0 _ _ _ _
theorem dwb_2_0 : kDwb (tB x0 256 0 inb_S1x512x512_S1x128x128_0_256_0) (tB x0 256 256 inb_S1x512x512_S1x128x128_0_256_256) (tG x1 0 inb_S1x256_S1x128_0_0) (tF x4 256 0 inb_S1x512x256_S1x128x128_0_256_0) = sq (R.dw 2 (hd 0 1)) := dwb_real H 2 0 _ _ _ _
theorem dba_2_0 : kDba (tB x0 256 0 inb_S1x512x512_S1x128x128_0_256_0) (tF x4 256 0 inb_S1x512x256_S1x128x128_0_256_0) = col (R.db 2 (hd 0 0)) := dba_real H 2 0 _ _
theorem dbb_2_0 : kDbb (tB x0 256 0 inb_S1x512x512_S1x128x128_0_256_0) (tF x4 256 0 inb_S1x512x256_S1x128x128_0_256_0) = col (R.db 2 (hd 0 1)) := dbb_real H 2 0 _ _
theorem du_2_1 : kDu (tB x0 256 128 inb_S1x512x512_S1x128x128_0_256_128) (tB x0 256 384 inb_S1x512x512_S1x128x128_0_256_384) (tG x1 128 inb_S1x256_S1x128_0_128) (tW x2 2 inb_S4x128x128_S1x128x128_2_0_0) (tW x2 3 inb_S4x128x128_S1x128x128_3_0_0) (tC x3 2 inb_S128x128_S128x1_0_2) (tC x3 3 inb_S128x128_S128x1_0_3) (tF x4 256 128 inb_S1x512x256_S1x128x128_0_256_128) =
    tile fun t q c => R.du 2 (hd 1 q) t c := du_real H 2 1 _ _ _ _ _ _ _ _
theorem dv_2_1 : kDv (tB x0 256 128 inb_S1x512x512_S1x128x128_0_256_128) (tB x0 256 384 inb_S1x512x512_S1x128x128_0_256_384) (tG x1 128 inb_S1x256_S1x128_0_128) (tW x2 2 inb_S4x128x128_S1x128x128_2_0_0) (tW x2 3 inb_S4x128x128_S1x128x128_3_0_0) (tF x4 256 128 inb_S1x512x256_S1x128x128_0_256_128) =
    tile fun t q c => R.dv 2 (hd 1 q) t c := dv_real H 2 1 _ _ _ _ _ _
theorem dg_2_1 : kDg (tB x0 256 128 inb_S1x512x512_S1x128x128_0_256_128) (tB x0 256 384 inb_S1x512x512_S1x128x128_0_256_384) (tW x2 2 inb_S4x128x128_S1x128x128_2_0_0) (tW x2 3 inb_S4x128x128_S1x128x128_3_0_0) (tF x4 256 128 inb_S1x512x256_S1x128x128_0_256_128) =
    row fun q c => R.dg 2 (hd 1 q) c := dg_real H 2 1 _ _ _ _ _
theorem dwa_2_1 : kDwa (tB x0 256 128 inb_S1x512x512_S1x128x128_0_256_128) (tB x0 256 384 inb_S1x512x512_S1x128x128_0_256_384) (tG x1 128 inb_S1x256_S1x128_0_128) (tF x4 256 128 inb_S1x512x256_S1x128x128_0_256_128) = sq (R.dw 2 (hd 1 0)) := dwa_real H 2 1 _ _ _ _
theorem dwb_2_1 : kDwb (tB x0 256 128 inb_S1x512x512_S1x128x128_0_256_128) (tB x0 256 384 inb_S1x512x512_S1x128x128_0_256_384) (tG x1 128 inb_S1x256_S1x128_0_128) (tF x4 256 128 inb_S1x512x256_S1x128x128_0_256_128) = sq (R.dw 2 (hd 1 1)) := dwb_real H 2 1 _ _ _ _
theorem dba_2_1 : kDba (tB x0 256 128 inb_S1x512x512_S1x128x128_0_256_128) (tF x4 256 128 inb_S1x512x256_S1x128x128_0_256_128) = col (R.db 2 (hd 1 0)) := dba_real H 2 1 _ _
theorem dbb_2_1 : kDbb (tB x0 256 128 inb_S1x512x512_S1x128x128_0_256_128) (tF x4 256 128 inb_S1x512x256_S1x128x128_0_256_128) = col (R.db 2 (hd 1 1)) := dbb_real H 2 1 _ _
theorem du_3_0 : kDu (tB x0 384 0 inb_S1x512x512_S1x128x128_0_384_0) (tB x0 384 256 inb_S1x512x512_S1x128x128_0_384_256) (tG x1 0 inb_S1x256_S1x128_0_0) (tW x2 0 inb_S4x128x128_S1x128x128_0_0_0) (tW x2 1 inb_S4x128x128_S1x128x128_1_0_0) (tC x3 0 inb_S128x128_S128x1_0_0) (tC x3 1 inb_S128x128_S128x1_0_1) (tF x4 384 0 inb_S1x512x256_S1x128x128_0_384_0) =
    tile fun t q c => R.du 3 (hd 0 q) t c := du_real H 3 0 _ _ _ _ _ _ _ _
theorem dv_3_0 : kDv (tB x0 384 0 inb_S1x512x512_S1x128x128_0_384_0) (tB x0 384 256 inb_S1x512x512_S1x128x128_0_384_256) (tG x1 0 inb_S1x256_S1x128_0_0) (tW x2 0 inb_S4x128x128_S1x128x128_0_0_0) (tW x2 1 inb_S4x128x128_S1x128x128_1_0_0) (tF x4 384 0 inb_S1x512x256_S1x128x128_0_384_0) =
    tile fun t q c => R.dv 3 (hd 0 q) t c := dv_real H 3 0 _ _ _ _ _ _
theorem dg_3_0 : kDg (tB x0 384 0 inb_S1x512x512_S1x128x128_0_384_0) (tB x0 384 256 inb_S1x512x512_S1x128x128_0_384_256) (tW x2 0 inb_S4x128x128_S1x128x128_0_0_0) (tW x2 1 inb_S4x128x128_S1x128x128_1_0_0) (tF x4 384 0 inb_S1x512x256_S1x128x128_0_384_0) =
    row fun q c => R.dg 3 (hd 0 q) c := dg_real H 3 0 _ _ _ _ _
theorem dwa_3_0 : kDwa (tB x0 384 0 inb_S1x512x512_S1x128x128_0_384_0) (tB x0 384 256 inb_S1x512x512_S1x128x128_0_384_256) (tG x1 0 inb_S1x256_S1x128_0_0) (tF x4 384 0 inb_S1x512x256_S1x128x128_0_384_0) = sq (R.dw 3 (hd 0 0)) := dwa_real H 3 0 _ _ _ _
theorem dwb_3_0 : kDwb (tB x0 384 0 inb_S1x512x512_S1x128x128_0_384_0) (tB x0 384 256 inb_S1x512x512_S1x128x128_0_384_256) (tG x1 0 inb_S1x256_S1x128_0_0) (tF x4 384 0 inb_S1x512x256_S1x128x128_0_384_0) = sq (R.dw 3 (hd 0 1)) := dwb_real H 3 0 _ _ _ _
theorem dba_3_0 : kDba (tB x0 384 0 inb_S1x512x512_S1x128x128_0_384_0) (tF x4 384 0 inb_S1x512x256_S1x128x128_0_384_0) = col (R.db 3 (hd 0 0)) := dba_real H 3 0 _ _
theorem dbb_3_0 : kDbb (tB x0 384 0 inb_S1x512x512_S1x128x128_0_384_0) (tF x4 384 0 inb_S1x512x256_S1x128x128_0_384_0) = col (R.db 3 (hd 0 1)) := dbb_real H 3 0 _ _
theorem du_3_1 : kDu (tB x0 384 128 inb_S1x512x512_S1x128x128_0_384_128) (tB x0 384 384 inb_S1x512x512_S1x128x128_0_384_384) (tG x1 128 inb_S1x256_S1x128_0_128) (tW x2 2 inb_S4x128x128_S1x128x128_2_0_0) (tW x2 3 inb_S4x128x128_S1x128x128_3_0_0) (tC x3 2 inb_S128x128_S128x1_0_2) (tC x3 3 inb_S128x128_S128x1_0_3) (tF x4 384 128 inb_S1x512x256_S1x128x128_0_384_128) =
    tile fun t q c => R.du 3 (hd 1 q) t c := du_real H 3 1 _ _ _ _ _ _ _ _
theorem dv_3_1 : kDv (tB x0 384 128 inb_S1x512x512_S1x128x128_0_384_128) (tB x0 384 384 inb_S1x512x512_S1x128x128_0_384_384) (tG x1 128 inb_S1x256_S1x128_0_128) (tW x2 2 inb_S4x128x128_S1x128x128_2_0_0) (tW x2 3 inb_S4x128x128_S1x128x128_3_0_0) (tF x4 384 128 inb_S1x512x256_S1x128x128_0_384_128) =
    tile fun t q c => R.dv 3 (hd 1 q) t c := dv_real H 3 1 _ _ _ _ _ _
theorem dg_3_1 : kDg (tB x0 384 128 inb_S1x512x512_S1x128x128_0_384_128) (tB x0 384 384 inb_S1x512x512_S1x128x128_0_384_384) (tW x2 2 inb_S4x128x128_S1x128x128_2_0_0) (tW x2 3 inb_S4x128x128_S1x128x128_3_0_0) (tF x4 384 128 inb_S1x512x256_S1x128x128_0_384_128) =
    row fun q c => R.dg 3 (hd 1 q) c := dg_real H 3 1 _ _ _ _ _
theorem dwa_3_1 : kDwa (tB x0 384 128 inb_S1x512x512_S1x128x128_0_384_128) (tB x0 384 384 inb_S1x512x512_S1x128x128_0_384_384) (tG x1 128 inb_S1x256_S1x128_0_128) (tF x4 384 128 inb_S1x512x256_S1x128x128_0_384_128) = sq (R.dw 3 (hd 1 0)) := dwa_real H 3 1 _ _ _ _
theorem dwb_3_1 : kDwb (tB x0 384 128 inb_S1x512x512_S1x128x128_0_384_128) (tB x0 384 384 inb_S1x512x512_S1x128x128_0_384_384) (tG x1 128 inb_S1x256_S1x128_0_128) (tF x4 384 128 inb_S1x512x256_S1x128x128_0_384_128) = sq (R.dw 3 (hd 1 1)) := dwb_real H 3 1 _ _ _ _
theorem dba_3_1 : kDba (tB x0 384 128 inb_S1x512x512_S1x128x128_0_384_128) (tF x4 384 128 inb_S1x512x256_S1x128x128_0_384_128) = col (R.db 3 (hd 1 0)) := dba_real H 3 1 _ _
theorem dbb_3_1 : kDbb (tB x0 384 128 inb_S1x512x512_S1x128x128_0_384_128) (tF x4 384 128 inb_S1x512x256_S1x128x128_0_384_128) = col (R.db 3 (hd 1 1)) := dbb_real H 3 1 _ _

theorem pG0_real : pG0 x0 x2 x4 = row fun q c => ∑ k : Fin 4, R.dg k (hd 0 q) c := by
  rw [pG0, dg_0_0 H, dg_1_0 H, dg_2_0 H, dg_3_0 H]
  funext i
  simp only [row, pointwise, word_zero, ← EReal.coe_add, Fin.sum_univ_four]
  refine congrArg _ ?_
  ring

theorem pG1_real : pG1 x0 x2 x4 = row fun q c => ∑ k : Fin 4, R.dg k (hd 1 q) c := by
  rw [pG1, dg_0_1 H, dg_1_1 H, dg_2_1 H, dg_3_1 H]
  funext i
  simp only [row, pointwise, word_zero, ← EReal.coe_add, Fin.sum_univ_four]
  refine congrArg _ ?_
  ring

theorem pW0_real : pW0 x0 x1 x4 = sq fun t s => ∑ k : Fin 4, R.dw k (hd 0 0) t s := by
  rw [pW0, dwa_0_0 H, dwa_1_0 H, dwa_2_0 H, dwa_3_0 H]
  funext i
  simp only [sq, pointwise, kst_apply, word_zero, ← EReal.coe_add, Fin.sum_univ_four]
  refine congrArg _ ?_
  ring

theorem pW1_real : pW1 x0 x1 x4 = sq fun t s => ∑ k : Fin 4, R.dw k (hd 0 1) t s := by
  rw [pW1, dwb_0_0 H, dwb_1_0 H, dwb_2_0 H, dwb_3_0 H]
  funext i
  simp only [sq, pointwise, kst_apply, word_zero, ← EReal.coe_add, Fin.sum_univ_four]
  refine congrArg _ ?_
  ring

theorem pW2_real : pW2 x0 x1 x4 = sq fun t s => ∑ k : Fin 4, R.dw k (hd 1 0) t s := by
  rw [pW2, dwa_0_1 H, dwa_1_1 H, dwa_2_1 H, dwa_3_1 H]
  funext i
  simp only [sq, pointwise, kst_apply, word_zero, ← EReal.coe_add, Fin.sum_univ_four]
  refine congrArg _ ?_
  ring

theorem pW3_real : pW3 x0 x1 x4 = sq fun t s => ∑ k : Fin 4, R.dw k (hd 1 1) t s := by
  rw [pW3, dwb_0_1 H, dwb_1_1 H, dwb_2_1 H, dwb_3_1 H]
  funext i
  simp only [sq, pointwise, kst_apply, word_zero, ← EReal.coe_add, Fin.sum_univ_four]
  refine congrArg _ ?_
  ring

omit H in
theorem eq_lane : ∀ (a : Fin 128) (n : Fin 4), (IntOp.cmpi .eq (BitVec.ofNat 32 a.val) (BitVec.ofNat 32 n.val) = 1#1) ↔ a.val = n.val := by
  decide +kernel

omit H in
theorem kPut_col (n : Fin 4) (f : Fin 128 → ℝ) (i : S128x128.Idx) :
    kPut (BitVec.ofNat 32 n.val) (col f) i = ((if (i 1).val = n.val then f (i 0) else 0 : ℝ) : EReal) := by
  simp only [kPut, col, pointwise, kst_apply, word_zero]
  rw [← ite_coe]
  have e : 0 * 128 + (i 1).val = (i 1).val := by omega
  show (if IntOp.cmpi .eq (BitVec.ofNat 32 (0 * 128 + (i 1).val)) (BitVec.ofNat 32 n.val) = 1#1 then ((f (i 0) : ℝ) : EReal) else ((0 : ℝ) : EReal)) = _
  rw [e]
  exact if_congr (eq_lane (i 1) n) rfl rfl

theorem pB_real (i : S128x128.Idx) : pB x0 x4 i =
    ((∑ g : Fin 4, (if (i 1).val = g.val then ∑ k : Fin 4, R.db k g (i 0) else 0) : ℝ) : EReal) := by
  have e0 (f) : kPut 0#32 (col f) i = _ := kPut_col 0 f i
  have e1 (f) : kPut 1#32 (col f) i = _ := kPut_col 1 f i
  have e2 (f) : kPut 2#32 (col f) i = _ := kPut_col 2 f i
  have e3 (f) : kPut 3#32 (col f) i = _ := kPut_col 3 f i
  rw [pB, dba_0_0 H, dbb_0_0 H, dba_0_1 H, dbb_0_1 H, dba_1_0 H, dbb_1_0 H, dba_1_1 H, dbb_1_1 H, dba_2_0 H, dbb_2_0 H, dba_2_1 H, dbb_2_1 H, dba_3_0 H, dbb_3_0 H, dba_3_1 H, dbb_3_1 H]
  simp only [pointwise, e0, e1, e2, e3, kst_apply, word_zero, ← EReal.coe_add, Fin.sum_univ_four]
  refine congrArg _ ?_
  simp only [show hd 0 0 = 0 from rfl, show hd 0 1 = 1 from rfl, show hd 1 0 = 2 from rfl, show hd 1 1 = 3 from rfl]
  split_ifs <;> ring

end Cert.SgBwd

end
-- ==== Proof.Out.lean ====
/- Hand-written, untrusted: THE BLOCKS A POINT LEAVES, IN REALS. Point.lean's stores tile each output block, and Block.lean
   says what number each store holds at each place; so the whole block is one function of its index. -/
module

public import proofs.«01_k».proof.Proof.Block
public import Idealize.ShloMosaic.Lib.Pipeline.CanonAppend

@[expose] public section

set_option maxRecDepth 16384

noncomputable section

namespace Cert.SgBwd

open Cert.KernelIdeal Cert.KernelIdeal.Gen Idealize.ShloMosaic Idealize.ShloMosaic.TcCoe Idealize.ShloMosaic.Tactic

/-- The numbers of the wide output block. -/
def Real5.at5 (R : Real5) (r l : Nat) (hr : r < 512) (hl : l < 512) : ℝ :=
  if h : l < 256 then R.du ⟨r / 128, by omega⟩ ⟨l / 64, by omega⟩ ⟨r % 128, by omega⟩ ⟨l % 64, by omega⟩
  else R.dv ⟨r / 128, by omega⟩ ⟨(l - 256) / 64, by omega⟩ ⟨r % 128, by omega⟩ ⟨(l - 256) % 64, by omega⟩

theorem at5_lo (R : Real5) (k h : Fin 4) (t : Fin 128) (c : Fin 64) (r l : Nat) (hr hl) (er : r = 128 * k.val + t.val) (el : l = 64 * h.val + c.val) :
    R.at5 r l hr hl = R.du k h t c := by
  subst er el
  unfold Real5.at5
  rw [dif_pos (by omega)]
  congr 1 <;> first | (apply Fin.ext; simp only; omega) | omega

theorem at5_hi (R : Real5) (k h : Fin 4) (t : Fin 128) (c : Fin 64) (r l : Nat) (hr hl) (er : r = 128 * k.val + t.val) (el : l = 256 + 64 * h.val + c.val) :
    R.at5 r l hr hl = R.dv k h t c := by
  subst er el
  unfold Real5.at5
  rw [dif_neg (by omega)]
  congr 1 <;> first | (apply Fin.ext; simp only; omega) | omega

def Real5.G5 (R : Real5) : Vec Ideal S1x512x512 .bf16 := fun y => ((R.at5 (y 1).val (y 2).val (y 1).isLt (y 2).isLt : ℝ) : EReal)

theorem st_tile (f : RT) (x : S1x128x128.Idx) : st (tile f) x = ((f (x 1) (grp (x 2)) (lane (x 2)) : ℝ) : EReal) := by
  simp only [st, tile, pointwise]

theorem st_lo (R : Real5) (k : Fin 4) (p : Fin 2) (h) (x : S1x128x128.Idx) :
    st (tile fun t q c => R.du k (hd p q) t c) x =
      R.G5 ((Rect.unit (s := S1x512x512) ![0, 128 * k.val, 128 * p.val] S1x128x128.size h).emb x) := by
  have hx : (x 2).val < 128 := (x 2).isLt
  rw [st_tile]
  refine congrArg _ (at5_lo R k (hd p (grp (x 2))) (x 1) (lane (x 2)) _ _ _ _ ?_ ?_).symm
  · show 128 * k.val + 1 * (x 1).val = _
    omega
  · show 128 * p.val + 1 * (x 2).val = 64 * (2 * p.val + (x 2).val / 64) + (x 2).val % 64
    omega

theorem st_hi (R : Real5) (k : Fin 4) (p : Fin 2) (h) (x : S1x128x128.Idx) :
    st (tile fun t q c => R.dv k (hd p q) t c) x =
      R.G5 ((Rect.unit (s := S1x512x512) ![0, 128 * k.val, 256 + 128 * p.val] S1x128x128.size h).emb x) := by
  have hx : (x 2).val < 128 := (x 2).isLt
  rw [st_tile]
  refine congrArg _ (at5_hi R k (hd p (grp (x 2))) (x 1) (lane (x 2)) _ _ _ _ ?_ ?_).symm
  · show 128 * k.val + 1 * (x 1).val = _
    omega
  · show 256 + 128 * p.val + 1 * (x 2).val = 256 + 64 * (2 * p.val + (x 2).val / 64) + (x 2).val % 64
    omega

variable {R : Real5} {x0 : X0} {x1 : X1} {x2 : X2} {x3 : X3} {x4 : X4} (H : R.Holds x0 x1 x2 x3 x4)

theorem cover5 (y : S1x512x512.Idx) : ∃ p ∈ pieces5 x0 x1 x2 x3 x4, y ∈ p.1.set :=
  View.cover_of_tiledL (pieces5 x0 x1 x2 x3 x4) S1x128x128.size (by sl_kernel_rfl) y

include H

theorem canon5 (y : S1x512x512.Idx) : View.canon (pieces5 x0 x1 x2 x3 x4) y = R.G5 y := by
  refine View.canon_apply_of_pieces R.G5 _ (fun p hp x => ?_) y (cover5 y)
  simp only [pieces5, List.mem_cons, List.not_mem_nil, or_false] at hp
  rcases hp with rfl | rfl | rfl | rfl | rfl | rfl | rfl | rfl | rfl | rfl | rfl | rfl | rfl | rfl | rfl | rfl
  · exact (congrFun (congrArg st (dv_3_1 H)) x).trans (st_hi R 3 1 inb_S1x512x512_S1x128x128_0_384_384 x)
  · exact (congrFun (congrArg st (du_3_1 H)) x).trans (st_lo R 3 1 inb_S1x512x512_S1x128x128_0_384_128 x)
  · exact (congrFun (congrArg st (dv_3_0 H)) x).trans (st_hi R 3 0 inb_S1x512x512_S1x128x128_0_384_256 x)
  · exact (congrFun (congrArg st (du_3_0 H)) x).trans (st_lo R 3 0 inb_S1x512x512_S1x128x128_0_384_0 x)
  · exact (congrFun (congrArg st (dv_2_1 H)) x).trans (st_hi R 2 1 inb_S1x512x512_S1x128x128_0_256_384 x)
  · exact (congrFun (congrArg st (du_2_1 H)) x).trans (st_lo R 2 1 inb_S1x512x512_S1x128x128_0_256_128 x)
  · exact (congrFun (congrArg st (dv_2_0 H)) x).trans (st_hi R 2 0 inb_S1x512x512_S1x128x128_0_256_256 x)
  · exact (congrFun (congrArg st (du_2_0 H)) x).trans (st_lo R 2 0 inb_S1x512x512_S1x128x128_0_256_0 x)
  · exact (congrFun (congrArg st (dv_1_1 H)) x).trans (st_hi R 1 1 inb_S1x512x512_S1x128x128_0_128_384 x)
  · exact (congrFun (congrArg st (du_1_1 H)) x).trans (st_lo R 1 1 inb_S1x512x512_S1x128x128_0_128_128 x)
  · exact (congrFun (congrArg st (dv_1_0 H)) x).trans (st_hi R 1 0 inb_S1x512x512_S1x128x128_0_128_256 x)
  · exact (congrFun (congrArg st (du_1_0 H)) x).trans (st_lo R 1 0 inb_S1x512x512_S1x128x128_0_128_0 x)
  · exact (congrFun (congrArg st (dv_0_1 H)) x).trans (st_hi R 0 1 inb_S1x512x512_S1x128x128_0_0_384 x)
  · exact (congrFun (congrArg st (du_0_1 H)) x).trans (st_lo R 0 1 inb_S1x512x512_S1x128x128_0_0_128 x)
  · exact (congrFun (congrArg st (dv_0_0 H)) x).trans (st_hi R 0 0 inb_S1x512x512_S1x128x128_0_0_256 x)
  · exact (congrFun (congrArg st (du_0_0 H)) x).trans (st_lo R 0 0 inb_S1x512x512_S1x128x128_0_0_0 x)

/-! ### The accumulated blocks -/

def Real5.inc6 (R : Real5) (l : Fin 256) : ℝ := ∑ k : Fin 4, R.dg k ⟨l.val / 64, by omega⟩ ⟨l.val % 64, by omega⟩
def Real5.inc7 (R : Real5) (h : Fin 4) (t s : Fin 128) : ℝ := ∑ k : Fin 4, R.dw k h t s
def Real5.inc8 (R : Real5) (t l : Fin 128) : ℝ := ∑ g : Fin 4, (if l.val = g.val then ∑ k : Fin 4, R.db k g t else 0)

omit H in
theorem inc6_at (p q : Fin 2) (c : Fin 64) (l : Fin 256) (hl : l.val = 128 * p.val + 64 * q.val + c.val) :
    R.inc6 l = ∑ k : Fin 4, R.dg k (hd p q) c := by
  unfold Real5.inc6
  refine Finset.sum_congr rfl fun k _ => congrArg₂ (R.dg k) ?_ ?_
  · exact Fin.ext (by show l.val / 64 = 2 * p.val + q.val; omega)
  · exact Fin.ext (by show l.val % 64 = c.val; omega)

variable (a6 : Fin 256 → ℝ) (a7 : Fin 4 → Fin 128 → Fin 128 → ℝ) (a8 : Fin 128 → Fin 128 → ℝ)

/-- Real numbers as the three accumulated blocks. -/
abbrev lift6 : X1 := fun y => ((a6 (y 1) : ℝ) : EReal)
abbrev lift7 : X2 := fun y => ((a7 (y 0) (y 1) (y 2) : ℝ) : EReal)
abbrev lift8 : X3 := fun y => ((a8 (y 0) (y 1) : ℝ) : EReal)

omit H in
theorem tG_lift (p : Fin 2) (h) (x : S1x128.Idx) : tG (lift6 a6) (128 * p.val) h x =
    ((a6 ⟨128 * p.val + (x 1).val, by have : (x 1).val < 128 := (x 1).isLt; omega⟩ : ℝ) : EReal) :=
  tG_apply (lift6 a6) _ h x ⟨128 * p.val + (x 1).val, by have : (x 1).val < 128 := (x 1).isLt; omega⟩ rfl

omit H in
theorem acc6 (p : Fin 2) (h h') (G : Row) (hG : G = row fun q c => ∑ k : Fin 4, R.dg k (hd p q) c) (x : S1x128.Idx) :
    addf (tG (lift6 a6) (128 * p.val) h) G x =
      lift6 (fun l => a6 l + R.inc6 l) ((Rect.unit (s := S1x256) ![0, 128 * p.val] S1x128.size h').emb x) := by
  have hx : (x 1).val < 128 := (x 1).isLt
  have e : ((Rect.unit (s := S1x256) ![0, 128 * p.val] S1x128.size h').emb x) 1 = (⟨128 * p.val + (x 1).val, by omega⟩ : Fin 256) :=
    Fin.ext (by show 128 * p.val + 1 * (x 1).val = 128 * p.val + (x 1).val; omega)
  rw [hG]
  simp only [lift6]
  rw [e, inc6_at p (grp (x 1)) (lane (x 1)) ⟨128 * p.val + (x 1).val, by omega⟩ (by
    show 128 * p.val + (x 1).val = 128 * p.val + 64 * ((x 1).val / 64) + (x 1).val % 64
    omega), EReal.coe_add, ← tG_lift a6 p h x]
  rfl

omit H in
theorem acc7 (g : Fin 4) (h h') (G : M) (hG : G = sq fun t s => ∑ k : Fin 4, R.dw k g t s) (x : S1x128x128.Idx) :
    (shapeCast S1x128x128 (addf (tW (lift7 a7) g.val h) G) shapeCasts_S128x128_S1x128x128 : Vec Ideal S1x128x128 .f32) x =
      lift7 (fun h t s => a7 h t s + R.inc7 h t s) ((Rect.unit (s := S4x128x128) ![g.val, 0, 0] S1x128x128.size h').emb x) := by
  have e0 : ((Rect.unit (s := S4x128x128) ![g.val, 0, 0] S1x128x128.size h').emb x) 0 = g :=
    Fin.ext (by have : (x 0).val < 1 := (x 0).isLt; show g.val + 1 * (x 0).val = _; omega)
  have e1 : ((Rect.unit (s := S4x128x128) ![g.val, 0, 0] S1x128x128.size h').emb x) 1 = (x 1 : Fin 128) :=
    Fin.ext (by show 0 + 1 * (x 1).val = (x 1).val; omega)
  have e2 : ((Rect.unit (s := S4x128x128) ![g.val, 0, 0] S1x128x128.size h').emb x) 2 = (x 2 : Fin 128) :=
    Fin.ext (by show 0 + 1 * (x 2).val = (x 2).val; omega)
  rw [hG]
  simp only [lift7, e0, e1, e2, pointwise, sq, EReal.coe_add]
  rw [tW_apply (fun y => ((a7 (y 0) (y 1) (y 2) : ℝ) : EReal)) _ h _ g rfl]
  rfl

theorem canon6 (L : List (View.Piece (Elt Ideal) S1x256 .f32)) (y : S1x256.Idx) :
    View.canon (pieces6 x0 x2 x4 (lift6 a6) ++ L) y = lift6 (fun l => a6 l + R.inc6 l) y := by
  refine View.canon_append_of_pieces _ L _ (fun p hp x => ?_) y
    (View.cover_of_tiledL (pieces6 x0 x2 x4 (lift6 a6)) S1x128.size (by sl_kernel_rfl) y)
  simp only [pieces6, List.mem_cons, List.not_mem_nil, or_false] at hp
  rcases hp with rfl | rfl
  · exact acc6 a6 1 _ inb_S1x256_S1x128_0_128 _ (pG1_real H) x
  · exact acc6 a6 0 _ inb_S1x256_S1x128_0_0 _ (pG0_real H) x

theorem canon7 (L : List (View.Piece (Elt Ideal) S4x128x128 .f32)) (y : S4x128x128.Idx) :
    View.canon (pieces7 x0 x1 x4 (lift7 a7) ++ L) y = lift7 (fun h t s => a7 h t s + R.inc7 h t s) y := by
  refine View.canon_append_of_pieces _ L _ (fun p hp x => ?_) y
    (View.cover_of_tiledL (pieces7 x0 x1 x4 (lift7 a7)) S1x128x128.size (by sl_kernel_rfl) y)
  simp only [pieces7, List.mem_cons, List.not_mem_nil, or_false] at hp
  rcases hp with rfl | rfl | rfl | rfl
  · exact acc7 a7 3 _ inb_S4x128x128_S1x128x128_3_0_0 _ (pW3_real H) x
  · exact acc7 a7 2 _ inb_S4x128x128_S1x128x128_2_0_0 _ (pW2_real H) x
  · exact acc7 a7 1 _ inb_S4x128x128_S1x128x128_1_0_0 _ (pW1_real H) x
  · exact acc7 a7 0 _ inb_S4x128x128_S1x128x128_0_0_0 _ (pW0_real H) x

theorem canon8 (L : List (View.Piece (Elt Ideal) S128x128 .f32)) (y : S128x128.Idx) :
    View.canon (pieces8 x0 x4 (lift8 a8) ++ L) y = lift8 (fun t l => a8 t l + R.inc8 t l) y := by
  show View.canon (_ :: ([] ++ L)) y = _
  rw [View.canon_cons_unit_zero off2, View.ld_unit_zero off2, shapeCast_id]
  simp only [pointwise, pB_real H y, lift8, Real5.inc8, EReal.coe_add]

end Cert.SgBwd

end
-- ==== Proof.Final.lean ====
/- Hand-written, untrusted: THE KERNEL'S RESULT ARRAYS, IN REALS. The eight grid points' blocks are blocks of the argument
   arrays; the three accumulated blocks after point `n` are the sums over the points up to `n`; the wide result keeps the
   argument's first 3072 lanes and holds each point's block in the last 512. -/
module

public import proofs.«01_k».proof.Proof.Out
public import proofs.«01_k».proof.Proof.Gen.KernelIdeal.Value
public import Idealize.ShloMosaic.Lib.KernelVsHost

@[expose] public section

set_option maxRecDepth 16384

noncomputable section

namespace Cert.SgBwd

open Cert.KernelIdeal Cert.KernelIdeal.Gen Cert.KernelIdeal.Value Idealize.ShloMosaic Idealize.ShloMosaic.TcCoe Idealize.ShloMosaic.Tactic

/-! ### The real arguments -/

/-- The real numbers the argument arrays hold. -/
structure Glob where
  SU : Fin 2 → Fin 2048 → Fin 512 → ℝ
  GA : Fin 256 → ℝ
  WS : Fin 4 → Fin 128 → Fin 128 → ℝ
  BS : Fin 4 → Fin 128 → ℝ
  CT : Fin 2 → Fin 2048 → Fin 256 → ℝ

/-- The numbers of point `n`'s blocks: batch `n / 4`, rows from `512 (n % 4)`. -/
def Glob.pt (G : Glob) (n : Nat) : Real5 where
  B r l := G.SU ⟨n / 4 % 2, by omega⟩ ⟨512 * (n % 4) + r.val, by omega⟩ l
  G := G.GA
  W := G.WS
  S := G.BS
  D r l := G.CT ⟨n / 4 % 2, by omega⟩ ⟨512 * (n % 4) + r.val, by omega⟩ l

/-- The argument arrays hold these numbers. -/
structure Glob.Holds (G : Glob) (a0 : Vec Ideal S2x2048x512 .bf16) (a1 : Vec Ideal S256 .f32) (a2 : Vec Ideal S4x128x128 .f32)
    (a3 : Vec Ideal S4x128 .f32) (a4 : Vec Ideal S2x2048x256 .f32) : Prop where
  su : ∀ b s l, a0 (ix3 b s l) = ((G.SU b s l : ℝ) : EReal)
  ga : ∀ l, a1 (ix1 l) = ((G.GA l : ℝ) : EReal)
  ws : ∀ h t s, a2 (ix3 h t s) = ((G.WS h t s : ℝ) : EReal)
  bs : ∀ h t, a3 (ix2 h t) = ((G.BS h t : ℝ) : EReal)
  ct : ∀ b s l, a4 (ix3 b s l) = ((G.CT b s l : ℝ) : EReal)

variable (m : (ℓ : Loc nD τ sig) → Buf (Elt Ideal) ℓ) (c : Dev nD)

abbrev A0 : Vec Ideal S2x2048x512 .bf16 := m ((c : Thread nD τ).loc main_arg0)
abbrev A1 : Vec Ideal S256 .f32 := m ((c : Thread nD τ).loc main_arg1)
abbrev A2 : Vec Ideal S4x128x128 .f32 := m ((c : Thread nD τ).loc main_arg2)
abbrev A3 : Vec Ideal S4x128 .f32 := m ((c : Thread nD τ).loc main_arg3)
abbrev A4 : Vec Ideal S2x2048x256 .f32 := m ((c : Thread nD τ).loc main_arg4)
abbrev A5 : Vec Ideal S2x2048x3584 .bf16 := m ((c : Thread nD τ).loc main_arg5)

/-! ### What the host writes before the region -/

theorem V_gain : V m c main_v0 = (shapeCast S1x256 (A1 m c) shapeCasts_S256_S1x256 : Vec Ideal S1x256 .f32) := by
  show StableHlo.after (List.flatten [hostOps0, hostOps0_1, hostOps0_2]) _ (Proc.devRef .tc main_v0) = _
  simp only [hostOps0, hostOps0_1, hostOps0_2, List.flatten_cons, List.flatten_nil, List.append_nil, List.cons_append, List.nil_append]
  after_results
  rfl

theorem V_bias : V m c main_v2 = (pad S128x128 ![0, 0] ![0, 124] ![0, 0] (transpose S128x4 [1, 0] (A3 m c) transposes_S4x128_S128x4_1_0 : Vec Ideal S128x4 .f32)
    (sitofp (F := Ideal) .f32 (constantI S_ 32 0#32) : Vec Ideal S_ .f32) pads_S128x4_S128x128_000_01240 h_S_ : Vec Ideal S128x128 .f32) := by
  show StableHlo.after (List.flatten [hostOps0, hostOps0_1, hostOps0_2]) _ (Proc.devRef .tc main_v2) = _
  simp only [hostOps0, hostOps0_1, hostOps0_2, List.flatten_cons, List.flatten_nil, List.append_nil, List.cons_append, List.nil_append]
  after_results
  rfl

theorem V_wide : V m c main_v3_0 = A5 m c := by
  show StableHlo.after (List.flatten [hostOps0, hostOps0_1, hostOps0_2]) _ (Proc.devRef .tc main_v3_0) = _
  simp only [hostOps0, hostOps0_1, hostOps0_2, List.flatten_cons, List.flatten_nil, List.append_nil, List.cons_append, List.nil_append]
  after_results
  rfl

/-! ### Where the blocks lie -/

theorem at0 : ∀ t : Fin cfg0.N, win0_0.index t (0 : Fin 3) = t.val / 4 % 2 ∧ win0_0.index t (1 : Fin 3) = t.val % 4 ∧ win0_0.index t (2 : Fin 3) = 0 :=
  (by decide +kernel : ∀ t : Fin grid0.N, _)
theorem at1 : ∀ t : Fin cfg0.N, win0_1.index t (0 : Fin 2) = 0 ∧ win0_1.index t (1 : Fin 2) = 0 := (by decide +kernel : ∀ t : Fin grid0.N, _)
theorem at2 : ∀ t : Fin cfg0.N, win0_2.index t (0 : Fin 3) = 0 ∧ win0_2.index t (1 : Fin 3) = 0 ∧ win0_2.index t (2 : Fin 3) = 0 :=
  (by decide +kernel : ∀ t : Fin grid0.N, _)
theorem at3 : ∀ t : Fin cfg0.N, win0_3.index t (0 : Fin 2) = 0 ∧ win0_3.index t (1 : Fin 2) = 0 := (by decide +kernel : ∀ t : Fin grid0.N, _)
theorem at4 : ∀ t : Fin cfg0.N, win0_4.index t (0 : Fin 3) = t.val / 4 % 2 ∧ win0_4.index t (1 : Fin 3) = t.val % 4 ∧ win0_4.index t (2 : Fin 3) = 0 :=
  (by decide +kernel : ∀ t : Fin grid0.N, _)
theorem at5 : ∀ t : Fin cfg0.N, win0_5.index t (0 : Fin 3) = t.val / 4 % 2 ∧ win0_5.index t (1 : Fin 3) = t.val % 4 ∧ win0_5.index t (2 : Fin 3) = 6 :=
  (by decide +kernel : ∀ t : Fin grid0.N, _)
theorem at6 : ∀ t : Fin cfg0.N, win0_6.index t (0 : Fin 2) = 0 ∧ win0_6.index t (1 : Fin 2) = 0 := (by decide +kernel : ∀ t : Fin grid0.N, _)
theorem at7 : ∀ t : Fin cfg0.N, win0_7.index t (0 : Fin 3) = 0 ∧ win0_7.index t (1 : Fin 3) = 0 ∧ win0_7.index t (2 : Fin 3) = 0 :=
  (by decide +kernel : ∀ t : Fin grid0.N, _)
theorem at8 : ∀ t : Fin cfg0.N, win0_8.index t (0 : Fin 2) = 0 ∧ win0_8.index t (1 : Fin 2) = 0 := (by decide +kernel : ∀ t : Fin grid0.N, _)

variable {m c} {G : Glob} (H : G.Holds (A0 m c) (A1 m c) (A2 m c) (A3 m c) (A4 m c))
include H

/-- Point `t`'s blocks hold the numbers of `pt`. -/
theorem holds (t : Fin cfg0.N) : (G.pt t.val).Holds (iblk m c 0 t) (iblk m c 1 t) (iblk m c 2 t) (iblk m c 3 t) (iblk m c 4 t) where
  b r l := by
    obtain ⟨e0, e1, e2⟩ := at0 t
    show V m c main_arg0 (((cfg0.win 0).blk t).view.emb (ix3 0 r l)) = _
    rw [V_main_arg0]
    refine (congrArg (A0 m c) (ext3 (h0 := by show win0_0.index t (0 : Fin 3) * 1 + 1 * 0 = t.val / 4 % 2; omega) (h1 := by show win0_0.index t (1 : Fin 3) * 512 + 1 * r.val = 512 * (t.val % 4) + r.val; omega) (h2 := by show win0_0.index t (2 : Fin 3) * 512 + 1 * l.val = l.val; omega))).trans (H.su ⟨t.val / 4 % 2, by omega⟩ ⟨512 * (t.val % 4) + r.val, by omega⟩ l)
  g l := by
    obtain ⟨e0, e1⟩ := at1 t
    show V m c main_v0 (((cfg0.win 1).blk t).view.emb (ix2 0 l)) = _
    rw [V_gain]
    have e : ((cfg0.win 1).blk t).view.emb (ix2 0 l) = (ix2 0 l : S1x256.Idx) := by
      exact ext2 (h0 := by show win0_1.index t (0 : Fin 2) * 1 + 1 * 0 = 0; omega) (h1 := by show win0_1.index t (1 : Fin 2) * 256 + 1 * l.val = l.val; omega)
    rw [e]
    refine Eq.trans ?_ (H.ga l)
    simp only [pointwise]
  w h t' s := by
    obtain ⟨e0, e1, e2⟩ := at2 t
    show V m c main_arg2 (((cfg0.win 2).blk t).view.emb (ix3 h t' s)) = _
    rw [V_main_arg2]
    refine (congrArg (A2 m c) (ext3 (h0 := by show win0_2.index t (0 : Fin 3) * 4 + 1 * h.val = h.val; omega) (h1 := by show win0_2.index t (1 : Fin 3) * 128 + 1 * t'.val = t'.val; omega) (h2 := by show win0_2.index t (2 : Fin 3) * 128 + 1 * s.val = s.val; omega))).trans (H.ws h t' s)
  s h t' := by
    obtain ⟨e0, e1⟩ := at3 t
    show V m c main_v2 (((cfg0.win 3).blk t).view.emb (ix2 t' ⟨h.val, by omega⟩)) = _
    rw [V_bias]
    have e : ((cfg0.win 3).blk t).view.emb (ix2 t' ⟨h.val, by omega⟩) = (ix2 t' ⟨h.val, by omega⟩ : S128x128.Idx) := by
      exact ext2 (h0 := by show win0_3.index t (0 : Fin 2) * 128 + 1 * t'.val = t'.val; omega) (h1 := by show win0_3.index t (1 : Fin 2) * 128 + 1 * h.val = h.val; omega)
    rw [e]
    refine (pad_apply_of_inside _ _ _ _ _ _ _ _ (ix2 t' h : S128x4.Idx) (fun a => ?_)).trans (Eq.trans ?_ (H.bs h t'))
    · match a with
      | ⟨0, _⟩ => show t'.val = 0 + t'.val * (0 + 1); omega
      | ⟨1, _⟩ => show h.val = 0 + h.val * (0 + 1); omega
    · simp only [pointwise]
  d r l := by
    obtain ⟨e0, e1, e2⟩ := at4 t
    show V m c main_arg4 (((cfg0.win 4).blk t).view.emb (ix3 0 r l)) = _
    rw [V_main_arg4]
    refine (congrArg (A4 m c) (ext3 (h0 := by show win0_4.index t (0 : Fin 3) * 1 + 1 * 0 = t.val / 4 % 2; omega) (h1 := by show win0_4.index t (1 : Fin 3) * 512 + 1 * r.val = 512 * (t.val % 4) + r.val; omega) (h2 := by show win0_4.index t (2 : Fin 3) * 256 + 1 * l.val = l.val; omega))).trans (H.ct ⟨t.val / 4 % 2, by omega⟩ ⟨512 * (t.val % 4) + r.val, by omega⟩ l)

/-! ### The accumulation -/

omit H in
theorem zArr6 : zArr S1x256 = lift6 (fun _ => 0) := funext fun _ => word_zero
omit H in
theorem zArr7 : zArr S4x128x128 = lift7 (fun _ _ _ => 0) := funext fun _ => word_zero
omit H in
theorem zArr8 : zArr S128x128 = lift8 (fun _ _ => 0) := funext fun _ => word_zero

omit H in
variable (m c) in
theorem pt5_A (t : Fin cfg0.N) (h0 : t.val % 8 = 0) : (outsAt0 m c t.val t.isLt).1 =
    View.canon (pieces5 (iblk m c 0 t) (iblk m c 1 t) (iblk m c 2 t) (iblk m c 3 t) (iblk m c 4 t)) := by
  rw [outsAt0_A m c t h0]
  dsimp only
  rw [out_A_5]
omit H in
variable (m c) in
theorem pt5_B (t : Fin cfg0.N) (h0 : ¬t.val % 8 = 0) : (outsAt0 m c t.val t.isLt).1 =
    View.canon (pieces5 (iblk m c 0 t) (iblk m c 1 t) (iblk m c 2 t) (iblk m c 3 t) (iblk m c 4 t)) := by
  rw [outsAt0_B m c t h0]
  dsimp only
  rw [out_B_5]
omit H in
variable (m c) in
theorem pt6_A (t : Fin cfg0.N) (h0 : t.val % 8 = 0) : (outsAt0 m c t.val t.isLt).2.1 =
    View.canon (pieces6 (iblk m c 0 t) (iblk m c 2 t) (iblk m c 4 t) (zArr S1x256) ++ [z6]) := by
  rw [outsAt0_A m c t h0]
  dsimp only
  rw [out_A_6]
omit H in
variable (m c) in
theorem pt6_B (t : Fin cfg0.N) (h0 : ¬t.val % 8 = 0) : (outsAt0 m c t.val t.isLt).2.1 =
    View.canon (pieces6 (iblk m c 0 t) (iblk m c 2 t) (iblk m c 4 t) (outsAt0 m c (t.val - 1) (Nat.lt_of_le_of_lt (Nat.sub_le _ _) t.isLt)).2.1) := by
  rw [outsAt0_B m c t h0]
  dsimp only
  rw [out_B_6]
omit H in
variable (m c) in
theorem pt7_A (t : Fin cfg0.N) (h0 : t.val % 8 = 0) : (outsAt0 m c t.val t.isLt).2.2.1 =
    View.canon (pieces7 (iblk m c 0 t) (iblk m c 1 t) (iblk m c 4 t) (zArr S4x128x128) ++ [z7]) := by
  rw [outsAt0_A m c t h0]
  dsimp only
  rw [out_A_7]
omit H in
variable (m c) in
theorem pt7_B (t : Fin cfg0.N) (h0 : ¬t.val % 8 = 0) : (outsAt0 m c t.val t.isLt).2.2.1 =
    View.canon (pieces7 (iblk m c 0 t) (iblk m c 1 t) (iblk m c 4 t) (outsAt0 m c (t.val - 1) (Nat.lt_of_le_of_lt (Nat.sub_le _ _) t.isLt)).2.2.1) := by
  rw [outsAt0_B m c t h0]
  dsimp only
  rw [out_B_7]
omit H in
variable (m c) in
theorem pt8_A (t : Fin cfg0.N) (h0 : t.val % 8 = 0) : (outsAt0 m c t.val t.isLt).2.2.2 =
    View.canon (pieces8 (iblk m c 0 t) (iblk m c 4 t) (zArr S128x128) ++ [z8]) := by
  rw [outsAt0_A m c t h0]
  dsimp only
  rw [out_A_8]
omit H in
variable (m c) in
theorem pt8_B (t : Fin cfg0.N) (h0 : ¬t.val % 8 = 0) : (outsAt0 m c t.val t.isLt).2.2.2 =
    View.canon (pieces8 (iblk m c 0 t) (iblk m c 4 t) (outsAt0 m c (t.val - 1) (Nat.lt_of_le_of_lt (Nat.sub_le _ _) t.isLt)).2.2.2) := by
  rw [outsAt0_B m c t h0]
  dsimp only
  rw [out_B_8]

/-- Every point's wide block. -/
theorem outs5 (t : Fin cfg0.N) : (outsAt0 m c t.val t.isLt).1 = (G.pt t.val).G5 := by
  by_cases h0 : t.val % 8 = 0
  · exact (pt5_A m c t h0).trans (funext fun y => canon5 (holds H t) y)
  · exact (pt5_B m c t h0).trans (funext fun y => canon5 (holds H t) y)

/-- Block 6 after point `n`: the sum over the points up to `n`. -/
theorem acc6_at : ∀ (n : Nat) (hn : n < cfg0.N), (outsAt0 m c n hn).2.1 = lift6 (fun l => ∑ k ∈ Finset.range (n + 1), (G.pt k).inc6 l)
  | 0, hn => by
    refine (pt6_A m c (⟨0, hn⟩ : Fin cfg0.N) rfl).trans (funext fun y => ?_)
    rw [zArr6]
    exact (canon6 (holds H (⟨0, hn⟩ : Fin cfg0.N)) (fun _ => 0) [z6] y).trans (by simp only [lift6, zero_add, Finset.sum_range_one])
  | n + 1, hn => by
    have ih := acc6_at n (Nat.lt_of_succ_lt hn)
    have h8 : n + 1 < 8 := hn
    refine (pt6_B m c (⟨n + 1, hn⟩ : Fin cfg0.N) (by show ¬(n + 1) % 8 = 0; omega)).trans (funext fun y => ?_)
    simp only [Nat.add_sub_cancel]
    rw [ih]
    have C := canon6 (holds H (⟨n + 1, hn⟩ : Fin cfg0.N)) (fun l => ∑ k ∈ Finset.range (n + 1), (G.pt k).inc6 l) [] y
    rw [List.append_nil] at C
    exact C.trans (by simp only [lift6, Finset.sum_range_succ _ (n + 1)])

/-- Block 7 after point `n`: the sum over the points up to `n`. -/
theorem acc7_at : ∀ (n : Nat) (hn : n < cfg0.N), (outsAt0 m c n hn).2.2.1 = lift7 (fun h t s => ∑ k ∈ Finset.range (n + 1), (G.pt k).inc7 h t s)
  | 0, hn => by
    refine (pt7_A m c (⟨0, hn⟩ : Fin cfg0.N) rfl).trans (funext fun y => ?_)
    rw [zArr7]
    exact (canon7 (holds H (⟨0, hn⟩ : Fin cfg0.N)) (fun _ _ _ => 0) [z7] y).trans (by simp only [lift7, zero_add, Finset.sum_range_one])
  | n + 1, hn => by
    have ih := acc7_at n (Nat.lt_of_succ_lt hn)
    have h8 : n + 1 < 8 := hn
    refine (pt7_B m c (⟨n + 1, hn⟩ : Fin cfg0.N) (by show ¬(n + 1) % 8 = 0; omega)).trans (funext fun y => ?_)
    simp only [Nat.add_sub_cancel]
    rw [ih]
    have C := canon7 (holds H (⟨n + 1, hn⟩ : Fin cfg0.N)) (fun h t s => ∑ k ∈ Finset.range (n + 1), (G.pt k).inc7 h t s) [] y
    rw [List.append_nil] at C
    exact C.trans (by simp only [lift7, Finset.sum_range_succ _ (n + 1)])

/-- Block 8 after point `n`: the sum over the points up to `n`. -/
theorem acc8_at : ∀ (n : Nat) (hn : n < cfg0.N), (outsAt0 m c n hn).2.2.2 = lift8 (fun t l => ∑ k ∈ Finset.range (n + 1), (G.pt k).inc8 t l)
  | 0, hn => by
    refine (pt8_A m c (⟨0, hn⟩ : Fin cfg0.N) rfl).trans (funext fun y => ?_)
    rw [zArr8]
    exact (canon8 (holds H (⟨0, hn⟩ : Fin cfg0.N)) (fun _ _ => 0) [z8] y).trans (by simp only [lift8, zero_add, Finset.sum_range_one])
  | n + 1, hn => by
    have ih := acc8_at n (Nat.lt_of_succ_lt hn)
    have h8 : n + 1 < 8 := hn
    refine (pt8_B m c (⟨n + 1, hn⟩ : Fin cfg0.N) (by show ¬(n + 1) % 8 = 0; omega)).trans (funext fun y => ?_)
    simp only [Nat.add_sub_cancel]
    rw [ih]
    have C := canon8 (holds H (⟨n + 1, hn⟩ : Fin cfg0.N)) (fun t l => ∑ k ∈ Finset.range (n + 1), (G.pt k).inc8 t l) [] y
    rw [List.append_nil] at C
    exact C.trans (by simp only [lift8, Finset.sum_range_succ _ (n + 1)])

/-! ### The result arrays -/

omit H in
theorem cut6 (t : Fin cfg0.N) (X : X1) : (cfg0.win 6).cut (grid0.coords t) X = ((cfg0.win 6).blk t).view.read (Elt Ideal) X := by
  obtain ⟨e0, e1⟩ := at6 t
  funext j
  show X j = X (((cfg0.win 6).blk t).view.emb j)
  refine congrArg X (ext2 (h0 := by show (j 0).val = win0_6.index t (0 : Fin 2) * 1 + 1 * (j 0).val; omega) (h1 := by show (j 1).val = win0_6.index t (1 : Fin 2) * 256 + 1 * (j 1).val; omega))

omit H in
theorem cut7 (t : Fin cfg0.N) (X : X2) : (cfg0.win 7).cut (grid0.coords t) X = ((cfg0.win 7).blk t).view.read (Elt Ideal) X := by
  obtain ⟨e0, e1, e2⟩ := at7 t
  funext j
  show X j = X (((cfg0.win 7).blk t).view.emb j)
  refine congrArg X (ext3 (h0 := by show (j 0).val = win0_7.index t (0 : Fin 3) * 4 + 1 * (j 0).val; omega) (h1 := by show (j 1).val = win0_7.index t (1 : Fin 3) * 128 + 1 * (j 1).val; omega) (h2 := by show (j 2).val = win0_7.index t (2 : Fin 3) * 128 + 1 * (j 2).val; omega))

omit H in
theorem cut8 (t : Fin cfg0.N) (X : X3) : (cfg0.win 8).cut (grid0.coords t) X = ((cfg0.win 8).blk t).view.read (Elt Ideal) X := by
  obtain ⟨e0, e1⟩ := at8 t
  funext j
  show X j = X (((cfg0.win 8).blk t).view.emb j)
  refine congrArg X (ext2 (h0 := by show (j 0).val = win0_8.index t (0 : Fin 2) * 128 + 1 * (j 0).val; omega) (h1 := by show (j 1).val = win0_8.index t (1 : Fin 2) * 128 + 1 * (j 1).val; omega))

def Glob.K6 (G : Glob) : X1 := lift6 (fun l => ∑ k ∈ Finset.range 8, (G.pt k).inc6 l)
def Glob.K7 (G : Glob) : X2 := lift7 (fun h t s => ∑ k ∈ Finset.range 8, (G.pt k).inc7 h t s)
def Glob.K8 (G : Glob) : X3 := lift8 (fun t l => ∑ k ∈ Finset.range 8, (G.pt k).inc8 t l)

omit H in
theorem emb6 (t : Fin cfg0.N) (j : S1x256.Idx) : ((cfg0.win 6).blk t).view.emb j = j := by
  obtain ⟨e0, e1⟩ := at6 t
  exact ext2 (h0 := by show win0_6.index t (0 : Fin 2) * 1 + 1 * (j 0).val = (j 0).val; omega) (h1 := by show win0_6.index t (1 : Fin 2) * 256 + 1 * (j 1).val = (j 1).val; omega)

omit H in
theorem covered6 (i : S1x256.Idx) : ∃ t : Fin cfg0.N, (cfg0.win 6).flush t = true ∧ i ∈ ((cfg0.win 6).blk t).view.set :=
  ⟨(⟨7, by decide⟩ : Fin cfg0.N), (flush0_6 _).mpr rfl, by
    have h := ((cfg0.win 6).blk (⟨7, by decide⟩ : Fin cfg0.N)).view.emb_mem_set i; rwa [emb6] at h⟩

theorem final6 : (dats m 0 c).arrAt 6 cfg0.N = G.K6 :=
  (dats m 0 c).arrAt_eq_of_cover 6 G.K6 (fun t hf => by
    obtain ⟨n, hn⟩ := t
    obtain rfl : n = 7 := by have h8 : n < 8 := hn; have := (flush0_6 ⟨n, hn⟩).mp hf; simp only at this; omega
    rw [flushed6, acc6_at H 7 hn]
    exact cut6 _ _) covered6

omit H in
theorem emb7 (t : Fin cfg0.N) (j : S4x128x128.Idx) : ((cfg0.win 7).blk t).view.emb j = j := by
  obtain ⟨e0, e1, e2⟩ := at7 t
  exact ext3 (h0 := by show win0_7.index t (0 : Fin 3) * 4 + 1 * (j 0).val = (j 0).val; omega) (h1 := by show win0_7.index t (1 : Fin 3) * 128 + 1 * (j 1).val = (j 1).val; omega) (h2 := by show win0_7.index t (2 : Fin 3) * 128 + 1 * (j 2).val = (j 2).val; omega)

omit H in
theorem covered7 (i : S4x128x128.Idx) : ∃ t : Fin cfg0.N, (cfg0.win 7).flush t = true ∧ i ∈ ((cfg0.win 7).blk t).view.set :=
  ⟨(⟨7, by decide⟩ : Fin cfg0.N), (flush0_7 _).mpr rfl, by
    have h := ((cfg0.win 7).blk (⟨7, by decide⟩ : Fin cfg0.N)).view.emb_mem_set i; rwa [emb7] at h⟩

theorem final7 : (dats m 0 c).arrAt 7 cfg0.N = G.K7 :=
  (dats m 0 c).arrAt_eq_of_cover 7 G.K7 (fun t hf => by
    obtain ⟨n, hn⟩ := t
    obtain rfl : n = 7 := by have h8 : n < 8 := hn; have := (flush0_7 ⟨n, hn⟩).mp hf; simp only at this; omega
    rw [flushed7, acc7_at H 7 hn]
    exact cut7 _ _) covered7

omit H in
theorem emb8 (t : Fin cfg0.N) (j : S128x128.Idx) : ((cfg0.win 8).blk t).view.emb j = j := by
  obtain ⟨e0, e1⟩ := at8 t
  exact ext2 (h0 := by show win0_8.index t (0 : Fin 2) * 128 + 1 * (j 0).val = (j 0).val; omega) (h1 := by show win0_8.index t (1 : Fin 2) * 128 + 1 * (j 1).val = (j 1).val; omega)

omit H in
theorem covered8 (i : S128x128.Idx) : ∃ t : Fin cfg0.N, (cfg0.win 8).flush t = true ∧ i ∈ ((cfg0.win 8).blk t).view.set :=
  ⟨(⟨7, by decide⟩ : Fin cfg0.N), (flush0_8 _).mpr rfl, by
    have h := ((cfg0.win 8).blk (⟨7, by decide⟩ : Fin cfg0.N)).view.emb_mem_set i; rwa [emb8] at h⟩

theorem final8 : (dats m 0 c).arrAt 8 cfg0.N = G.K8 :=
  (dats m 0 c).arrAt_eq_of_cover 8 G.K8 (fun t hf => by
    obtain ⟨n, hn⟩ := t
    obtain rfl : n = 7 := by have h8 : n < 8 := hn; have := (flush0_8 ⟨n, hn⟩).mp hf; simp only at this; omega
    rw [flushed8, acc8_at H 7 hn]
    exact cut8 _ _) covered8

/-- The wide result: lanes below 3072 as the argument, the last 512 the points' blocks. -/
theorem final5_lo (b : Fin 2) (s : Fin 2048) (l : Fin 3584) (hl : l.val < 3072) :
    (dats m 0 c).arrAt 5 cfg0.N (ix3 b s l) = A5 m c (ix3 b s l) := by
  refine (entry5 m c (ix3 b s l) (fun t _ hi => ?_)).trans (congrFun (V_wide m c) _)
  obtain ⟨e0, e1, e2⟩ := at5 t
  obtain ⟨j, hj⟩ := View.exists_emb_of_mem_set _ hi
  have hv := congrArg (fun i : S2x2048x3584.Idx => (i 2).val) hj
  have : win0_5.index t (2 : Fin 3) * 512 + 1 * (j 2).val = l.val := hv
  omega

theorem final5_hi (t : Fin cfg0.N) (ht : t.val < 8) (r : Fin 512) (l : Fin 512) :
    (dats m 0 c).arrAt 5 cfg0.N (ix3 ⟨t.val / 4, by omega⟩ ⟨512 * (t.val % 4) + r.val, by omega⟩ ⟨3072 + l.val, by omega⟩)
      = (((G.pt t.val).at5 r.val l.val r.isLt l.isLt : ℝ) : EReal) := by
  obtain ⟨e0, e1, e2⟩ := at5 t
  have h := congrFun (blocks5 m c t (flush0_5 t)) (ix3 0 r l : S1x512x512.Idx)
  rw [flushed5 m c t, outs5 H t] at h
  refine Eq.trans ?_ h
  refine congrArg ((dats m 0 c).arrAt 5 cfg0.N) (ext3 (h0 := by show t.val / 4 = win0_5.index t (0 : Fin 3) * 1 + 1 * 0; omega) (h1 := by show 512 * (t.val % 4) + r.val = win0_5.index t (1 : Fin 3) * 512 + 1 * r.val; omega) (h2 := by show 3072 + l.val = win0_5.index t (2 : Fin 3) * 512 + 1 * l.val; omega))

end Cert.SgBwd

end
-- ==== Proof.Ref.lean ====
/- Hand-written, untrusted: THE REFERENCE'S STAGES, IN REALS. Each stage of the reference at an index of batch `b`, chunk
   `n`, group `h`, row `t` of the chunk and lane `c` of the group is the gate's gradient's stage over that chunk and group. -/
module

public import proofs.«01_k».proof.Proof.Final
public import proofs.«01_k».proof.Proof.Gen.ReferenceIdeal.Read

@[expose] public section

set_option maxRecDepth 16384

noncomputable section

namespace Cert.SgBwd

open Cert.ReferenceIdeal Cert.ReferenceIdeal.Gen Cert.ReferenceIdeal.Read Idealize.ShloMosaic

namespace Ref

/-- Row `t` of chunk `n`. -/
abbrev sx (n : Fin 16) (t : Fin 128) : Fin 2048 := ⟨128 * n.val + t.val, by omega⟩
/-- Lane `c` of group `h`. -/
abbrev lx (h : Fin 4) (c : Fin 64) : Fin 256 := ⟨64 * h.val + c.val, by omega⟩

end Ref

/-- Batch `b`'s chunk `n`, group `h`: the gate's first half. -/
def Glob.U (G : Glob) (b : Fin 2) (n : Fin 16) (h : Fin 4) : Fin 128 → Fin 64 → ℝ :=
  fun t c => G.SU b (Ref.sx n t) ⟨64 * h.val + c.val, by omega⟩
/-- The gate's second half. -/
def Glob.V (G : Glob) (b : Fin 2) (n : Fin 16) (h : Fin 4) : Fin 128 → Fin 64 → ℝ :=
  fun t c => G.SU b (Ref.sx n t) ⟨256 + (64 * h.val + c.val), by omega⟩
/-- The cotangent. -/
def Glob.C (G : Glob) (b : Fin 2) (n : Fin 16) (h : Fin 4) : Fin 128 → Fin 64 → ℝ :=
  fun t c => G.CT b (Ref.sx n t) (Ref.lx h c)
/-- The gain. -/
def Glob.g (G : Glob) (h : Fin 4) : Fin 64 → ℝ := fun c => G.GA (Ref.lx h c)

namespace Ref

theorem ge_small : ∀ a b : Fin 128,
    (IntOp.cmpi .sge (IntOp.addi (BitVec.ofNat 32 a.val) 0#32) (BitVec.ofNat 32 b.val) = 1#1) ↔ b.val ≤ a.val := by
  decide +kernel

theorem kv6 (i : S2x2048x256.Idx) : val_main_v6 (F := Ideal) i = ((3 : ℝ) : EReal) :=
  (val_main_v6_apply i).trans word_three

theorem kv8 (i : S2x2048x256.Idx) : val_main_v8 (F := Ideal) i = ((cB : ℝ) : EReal) :=
  (val_main_v8_apply i).trans word_cB

theorem kv11 (i : S2x2048x256.Idx) : val_main_v11 (F := Ideal) i = ((cA : ℝ) : EReal) :=
  (val_main_v11_apply i).trans word_cA

theorem kv14 (i : S2x2048x256.Idx) : val_main_v14 (F := Ideal) i = ((1 : ℝ) : EReal) :=
  (val_main_v14_apply i).trans word_one

theorem kv16 (i : S2x2048x256.Idx) : val_main_v16 (F := Ideal) i = ((1 : ℝ) : EReal) :=
  (val_main_v16_apply i).trans word_one

theorem kv19 (i : S2x2048x256.Idx) : val_main_v19 (F := Ideal) i = ((1 : ℝ) : EReal) :=
  (val_main_v19_apply i).trans word_one

theorem kv21 (i : S2x2048x256.Idx) : val_main_v21 (F := Ideal) i = ((1 / 2 : ℝ) : EReal) :=
  (val_main_v21_apply i).trans word_half

theorem kv27 (i : S2x2048x256.Idx) : val_main_v27 (F := Ideal) i = ((3 : ℝ) : EReal) :=
  (val_main_v27_apply i).trans word_three

theorem kv29 (i : S2x2048x256.Idx) : val_main_v29 (F := Ideal) i = ((cB : ℝ) : EReal) :=
  (val_main_v29_apply i).trans word_cB

theorem kv32 (i : S2x2048x256.Idx) : val_main_v32 (F := Ideal) i = ((cA : ℝ) : EReal) :=
  (val_main_v32_apply i).trans word_cA

theorem kv35 (i : S2x2048x256.Idx) : val_main_v35 (F := Ideal) i = ((1 : ℝ) : EReal) :=
  (val_main_v35_apply i).trans word_one

theorem kv37 (i : S2x2048x256.Idx) : val_main_v37 (F := Ideal) i = ((1 : ℝ) : EReal) :=
  (val_main_v37_apply i).trans word_one

theorem kv40 (i : S2x2048x256.Idx) : val_main_v40 (F := Ideal) i = ((1 : ℝ) : EReal) :=
  (val_main_v40_apply i).trans word_one

theorem kv42 (i : S2x2048x256.Idx) : val_main_v42 (F := Ideal) i = ((1 / 2 : ℝ) : EReal) :=
  (val_main_v42_apply i).trans word_half

theorem kv50 (i : S2x2048x4x1.Idx) : val_main_v50 (F := Ideal) i = ((64 : ℝ) : EReal) :=
  (val_main_v50_apply i).trans word_64

theorem kv52 (i : S2x2048x4x1.Idx) : val_main_v52 (F := Ideal) i = ((cE : ℝ) : EReal) :=
  (val_main_v52_apply i).trans word_cE

theorem kv56 (i : S2x2048x4x1.Idx) : val_main_v56 (F := Ideal) i = ((-1 / 2 : ℝ) : EReal) :=
  (val_main_v56_apply i).trans word_neg_half

theorem kv100 (i : S2x2048x4x1.Idx) : val_main_v100 (F := Ideal) i = ((64 : ℝ) : EReal) :=
  (val_main_v100_apply i).trans word_64

theorem kv112 (i : S2x2048x256.Idx) : val_main_v112 (F := Ideal) i = ((1 / 2 : ℝ) : EReal) :=
  (val_main_v112_apply i).trans word_half

theorem kv115 (i : S2x2048x256.Idx) : val_main_v115 (F := Ideal) i = ((cA : ℝ) : EReal) :=
  (val_main_v115_apply i).trans word_cA

theorem kv118 (i : S2x2048x256.Idx) : val_main_v118 (F := Ideal) i = ((cB : ℝ) : EReal) :=
  (val_main_v118_apply i).trans word_cB

theorem kv124 (i : S2x2048x256.Idx) : val_main_v124 (F := Ideal) i = ((1 / 2 : ℝ) : EReal) :=
  (val_main_v124_apply i).trans word_half

theorem kv127 (i : S2x2048x256.Idx) : val_main_v127 (F := Ideal) i = ((cA : ℝ) : EReal) :=
  (val_main_v127_apply i).trans word_cA

theorem kv130 (i : S2x2048x256.Idx) : val_main_v130 (F := Ideal) i = ((cB : ℝ) : EReal) :=
  (val_main_v130_apply i).trans word_cB

/-! ### The activation at an element -/

variable {x0 : (⟨S2x2048x512, .bf16⟩ : BufTy).Contents (Elt Ideal)}

theorem av13 (i : S2x2048x256.Idx) (x : ℝ) (h : val_main_v1 (F := Ideal) x0 i = ((x : ℝ) : EReal)) : val_main_v13 (F := Ideal) x0 i = ((Spec.th x : ℝ) : EReal) := by
  rw [val_main_v13_apply, val_main_v12_apply, kv11, val_main_v10_apply, val_main_v9_apply, kv8, val_main_v4_apply, val_main_v3_apply, h]
  show Ideal.tanh (((cA : ℝ) : EReal) * (((x : ℝ) : EReal) + ((cB : ℝ) : EReal) * (((x : ℝ) : EReal) * ((x : ℝ) : EReal) * ((x : ℝ) : EReal)))) = _
  simp only [← EReal.coe_mul, ← EReal.coe_add, ← EReal.coe_sub]
  rfl

theorem av7 (i : S2x2048x256.Idx) (x : ℝ) (h : val_main_v1 (F := Ideal) x0 i = ((x : ℝ) : EReal)) : val_main_v7 (F := Ideal) x0 i = ((3 * (x * x) : ℝ) : EReal) := by
  rw [val_main_v7_apply, kv6, val_main_v5_apply, h]
  show ((3 : ℝ) : EReal) * (((x : ℝ) : EReal) * ((x : ℝ) : EReal)) = _
  simp only [← EReal.coe_mul, ← EReal.coe_add, ← EReal.coe_sub]

theorem av18 (i : S2x2048x256.Idx) (x : ℝ) (h : val_main_v1 (F := Ideal) x0 i = ((x : ℝ) : EReal)) : val_main_v18 (F := Ideal) x0 i = (((1 + Spec.th x) * (1 - Spec.th x) : ℝ) : EReal) := by
  rw [val_main_v18_apply, val_main_v15_apply, kv14, val_main_v17_apply, kv16, av13 i x h]
  show (((1 : ℝ) : EReal) + ((Spec.th x : ℝ) : EReal)) * (((1 : ℝ) : EReal) - ((Spec.th x : ℝ) : EReal)) = _
  simp only [← EReal.coe_mul, ← EReal.coe_add, ← EReal.coe_sub]

theorem av22 (i : S2x2048x256.Idx) (x : ℝ) (h : val_main_v1 (F := Ideal) x0 i = ((x : ℝ) : EReal)) : val_main_v22 (F := Ideal) x0 i = ((1 / 2 * (1 + Spec.th x) : ℝ) : EReal) := by
  rw [val_main_v22_apply, kv21, val_main_v20_apply, kv19, av13 i x h]
  show ((1 / 2 : ℝ) : EReal) * (((1 : ℝ) : EReal) + ((Spec.th x : ℝ) : EReal)) = _
  simp only [← EReal.coe_mul, ← EReal.coe_add, ← EReal.coe_sub]

theorem av23 (i : S2x2048x256.Idx) (x : ℝ) (h : val_main_v1 (F := Ideal) x0 i = ((x : ℝ) : EReal)) : val_main_v23 (F := Ideal) x0 i = ((Spec.gelu x : ℝ) : EReal) := by
  rw [val_main_v23_apply, av22 i x h, h]
  show ((x : ℝ) : EReal) * ((1 / 2 * (1 + Spec.th x) : ℝ) : EReal) = _
  rw [← EReal.coe_mul]
  exact congrArg _ (by unfold Spec.gelu; ring)

theorem av34 (i : S2x2048x256.Idx) (x : ℝ) (h : val_main_v2 (F := Ideal) x0 i = ((x : ℝ) : EReal)) : val_main_v34 (F := Ideal) x0 i = ((Spec.th x : ℝ) : EReal) := by
  rw [val_main_v34_apply, val_main_v33_apply, kv32, val_main_v31_apply, val_main_v30_apply, kv29, val_main_v25_apply, val_main_v24_apply, h]
  show Ideal.tanh (((cA : ℝ) : EReal) * (((x : ℝ) : EReal) + ((cB : ℝ) : EReal) * (((x : ℝ) : EReal) * ((x : ℝ) : EReal) * ((x : ℝ) : EReal)))) = _
  simp only [← EReal.coe_mul, ← EReal.coe_add, ← EReal.coe_sub]
  rfl

theorem av28 (i : S2x2048x256.Idx) (x : ℝ) (h : val_main_v2 (F := Ideal) x0 i = ((x : ℝ) : EReal)) : val_main_v28 (F := Ideal) x0 i = ((3 * (x * x) : ℝ) : EReal) := by
  rw [val_main_v28_apply, kv27, val_main_v26_apply, h]
  show ((3 : ℝ) : EReal) * (((x : ℝ) : EReal) * ((x : ℝ) : EReal)) = _
  simp only [← EReal.coe_mul, ← EReal.coe_add, ← EReal.coe_sub]

theorem av39 (i : S2x2048x256.Idx) (x : ℝ) (h : val_main_v2 (F := Ideal) x0 i = ((x : ℝ) : EReal)) : val_main_v39 (F := Ideal) x0 i = (((1 + Spec.th x) * (1 - Spec.th x) : ℝ) : EReal) := by
  rw [val_main_v39_apply, val_main_v36_apply, kv35, val_main_v38_apply, kv37, av34 i x h]
  show (((1 : ℝ) : EReal) + ((Spec.th x : ℝ) : EReal)) * (((1 : ℝ) : EReal) - ((Spec.th x : ℝ) : EReal)) = _
  simp only [← EReal.coe_mul, ← EReal.coe_add, ← EReal.coe_sub]

theorem av43 (i : S2x2048x256.Idx) (x : ℝ) (h : val_main_v2 (F := Ideal) x0 i = ((x : ℝ) : EReal)) : val_main_v43 (F := Ideal) x0 i = ((1 / 2 * (1 + Spec.th x) : ℝ) : EReal) := by
  rw [val_main_v43_apply, kv42, val_main_v41_apply, kv40, av34 i x h]
  show ((1 / 2 : ℝ) : EReal) * (((1 : ℝ) : EReal) + ((Spec.th x : ℝ) : EReal)) = _
  simp only [← EReal.coe_mul, ← EReal.coe_add, ← EReal.coe_sub]

theorem av44 (i : S2x2048x256.Idx) (x : ℝ) (h : val_main_v2 (F := Ideal) x0 i = ((x : ℝ) : EReal)) : val_main_v44 (F := Ideal) x0 i = ((Spec.gelu x : ℝ) : EReal) := by
  rw [val_main_v44_apply, av43 i x h, h]
  show ((x : ℝ) : EReal) * ((1 / 2 * (1 + Spec.th x) : ℝ) : EReal) = _
  rw [← EReal.coe_mul]
  exact congrArg _ (by unfold Spec.gelu; ring)

section
variable {x1 : (⟨S256, .f32⟩ : BufTy).Contents (Elt Ideal)}
  {x2 : (⟨S4x128x128, .f32⟩ : BufTy).Contents (Elt Ideal)} {x3 : (⟨S4x128, .f32⟩ : BufTy).Contents (Elt Ideal)}
  {x4 : (⟨S2x2048x256, .f32⟩ : BufTy).Contents (Elt Ideal)} {G : Glob} (H : G.Holds x0 x1 x2 x3 x4)
include H
variable (b : Fin 2) (n : Fin 16) (t : Fin 128) (h : Fin 4) (c : Fin 64)

theorem rv1 :
    val_main_v1 (F := Ideal) x0 (ix3 b (sx n t) (lx h c)) = ((G.U b n h t c : ℝ) : EReal) := by
  rw [val_main_v1_apply]
  exact (congrArg x0 ext3).trans (H.su b (sx n t) ⟨64 * h.val + c.val, _⟩)

theorem rv2 :
    val_main_v2 (F := Ideal) x0 (ix3 b (sx n t) (lx h c)) = ((G.V b n h t c : ℝ) : EReal) := by
  rw [val_main_v2_apply]
  exact (congrArg x0 ext3).trans (H.su b (sx n t) ⟨256 + (64 * h.val + c.val), _⟩)

theorem rv7 :
    val_main_v7 (F := Ideal) x0 (ix3 b (sx n t) (lx h c)) = ((3 * ((G.U b n h t c) * (G.U b n h t c)) : ℝ) : EReal) := by
  exact av7 _ _ (rv1 H b n t h c)

theorem rv18 :
    val_main_v18 (F := Ideal) x0 (ix3 b (sx n t) (lx h c)) = (((1 + Spec.th (G.U b n h t c)) * (1 - Spec.th (G.U b n h t c)) : ℝ) : EReal) := by
  exact av18 _ _ (rv1 H b n t h c)

theorem rv22 :
    val_main_v22 (F := Ideal) x0 (ix3 b (sx n t) (lx h c)) = ((1 / 2 * (1 + Spec.th (G.U b n h t c)) : ℝ) : EReal) := by
  exact av22 _ _ (rv1 H b n t h c)

theorem rv23 :
    val_main_v23 (F := Ideal) x0 (ix3 b (sx n t) (lx h c)) = ((Spec.gelu (G.U b n h t c) : ℝ) : EReal) := by
  exact av23 _ _ (rv1 H b n t h c)

theorem rv28 :
    val_main_v28 (F := Ideal) x0 (ix3 b (sx n t) (lx h c)) = ((3 * ((G.V b n h t c) * (G.V b n h t c)) : ℝ) : EReal) := by
  exact av28 _ _ (rv2 H b n t h c)

theorem rv39 :
    val_main_v39 (F := Ideal) x0 (ix3 b (sx n t) (lx h c)) = (((1 + Spec.th (G.V b n h t c)) * (1 - Spec.th (G.V b n h t c)) : ℝ) : EReal) := by
  exact av39 _ _ (rv2 H b n t h c)

theorem rv43 :
    val_main_v43 (F := Ideal) x0 (ix3 b (sx n t) (lx h c)) = ((1 / 2 * (1 + Spec.th (G.V b n h t c)) : ℝ) : EReal) := by
  exact av43 _ _ (rv2 H b n t h c)

theorem rv44 :
    val_main_v44 (F := Ideal) x0 (ix3 b (sx n t) (lx h c)) = ((Spec.gelu (G.V b n h t c) : ℝ) : EReal) := by
  exact av44 _ _ (rv2 H b n t h c)

theorem rv45 :
    val_main_v45 (F := Ideal) x0 (ix4 b (sx n t) h c) = ((Spec.gelu (G.V b n h t c) : ℝ) : EReal) := by
  rw [val_main_v45_apply]
  exact (congrArg (val_main_v44 (F := Ideal) x0) (ext3 (h0 := by show (((b.val * 2048 + (128 * n.val + t.val)) * 4 + h.val) * 64 + c.val) / 524288 = b.val; omega) (h1 := by show (((b.val * 2048 + (128 * n.val + t.val)) * 4 + h.val) * 64 + c.val) / 256 % 2048 = 128 * n.val + t.val; omega) (h2 := by show (((b.val * 2048 + (128 * n.val + t.val)) * 4 + h.val) * 64 + c.val) % 256 = 64 * h.val + c.val; omega))).trans (rv44 H b n t h c)

theorem rv47 :
    val_main_v47 (F := Ideal) x0 (ix4 b (sx n t) h c) = ((Spec.gelu (G.V b n h t c) * Spec.gelu (G.V b n h t c) : ℝ) : EReal) := by
  rw [val_main_v47_apply, rv45 H b n t h c]
  exact (EReal.coe_mul _ _).symm

theorem rv48 (b : Fin 2) (n : Fin 16) (t : Fin 128) (h : Fin 4) :
    val_main_v48 (F := Ideal) x0 (ix3 b (sx n t) h) = ((∑ c : Fin 64, Spec.gelu (G.V b n h t c) * Spec.gelu (G.V b n h t c) : ℝ) : EReal) := by
  rw [val_main_v48_apply]
  rw [show val_main_cst_13 (F := Ideal) (Shape.Idx.first h_S_) = ((0 : ℝ) : EReal) from word_zero, EReal.coe_zero, zero_add]
  refine (Finset.sum_congr rfl fun c _ => (?_ : _ = ((Spec.gelu (G.V b n h t c) * Spec.gelu (G.V b n h t c) : ℝ) : EReal))).trans (coe_sum _ _).symm
  exact (congrArg (val_main_v47 (F := Ideal) x0) ext4).trans (rv47 H b n t h c)

theorem rv49 (b : Fin 2) (n : Fin 16) (t : Fin 128) (h : Fin 4) (z : Fin 1) :
    val_main_v49 (F := Ideal) x0 (ix4 b (sx n t) h z) = ((∑ c : Fin 64, Spec.gelu (G.V b n h t c) * Spec.gelu (G.V b n h t c) : ℝ) : EReal) := by
  rw [val_main_v49_apply]
  exact (congrArg (val_main_v48 (F := Ideal) x0) ext3).trans (rv48 H b n t h)

theorem rv51 (b : Fin 2) (n : Fin 16) (t : Fin 128) (h : Fin 4) (z : Fin 1) :
    val_main_v51 (F := Ideal) x0 (ix4 b (sx n t) h z) = (((∑ c : Fin 64, Spec.gelu (G.V b n h t c) * Spec.gelu (G.V b n h t c)) / 64 : ℝ) : EReal) := by
  rw [val_main_v51_apply, rv49 H b n t h z, kv50]

  exact div_coe _ (by norm_num : (64 : ℝ) ≠ 0)

theorem rv53 (b : Fin 2) (n : Fin 16) (t : Fin 128) (h : Fin 4) (z : Fin 1) :
    val_main_v53 (F := Ideal) x0 (ix4 b (sx n t) h z) = ((Spec.ms (G.V b n h) t : ℝ) : EReal) := by
  rw [val_main_v53_apply, rv51 H b n t h z, kv52]
  exact (EReal.coe_add _ _).symm

theorem rv54 (b : Fin 2) (n : Fin 16) (t : Fin 128) (h : Fin 4) (z : Fin 1) :
    val_main_v54 (F := Ideal) x0 (ix4 b (sx n t) h z) = ((Spec.r (G.V b n h) t : ℝ) : EReal) := by
  rw [val_main_v54_apply, rv53 H b n t h z]
  exact rsqrt_coe (Spec.ms_pos _ t)

theorem rv55 (b : Fin 2) (n : Fin 16) (t : Fin 128) (h : Fin 4) (z : Fin 1) :
    val_main_v55 (F := Ideal) x0 (ix4 b (sx n t) h z) = ((Spec.r (G.V b n h) t / Spec.ms (G.V b n h) t : ℝ) : EReal) := by
  rw [val_main_v55_apply, rv54 H b n t h z, rv53 H b n t h z]
  exact div_coe _ (Spec.ms_pos _ t).ne'

theorem rv57 (b : Fin 2) (n : Fin 16) (t : Fin 128) (h : Fin 4) (z : Fin 1) :
    val_main_v57 (F := Ideal) x0 (ix4 b (sx n t) h z) = ((-1 / 2 * (Spec.r (G.V b n h) t / Spec.ms (G.V b n h) t) : ℝ) : EReal) := by
  rw [val_main_v57_apply, kv56, rv55 H b n t h z]
  exact (EReal.coe_mul _ _).symm

theorem rv58 :
    val_main_v58 (F := Ideal) x0 (ix4 b (sx n t) h c) = ((Spec.r (G.V b n h) t : ℝ) : EReal) := by
  rw [val_main_v58_apply]
  exact (congrArg (val_main_v54 (F := Ideal) x0) ext4).trans (rv54 H b n t h 0)

theorem rv59 :
    val_main_v59 (F := Ideal) x0 (ix4 b (sx n t) h c) = ((Spec.xh (G.V b n h) t c : ℝ) : EReal) := by
  rw [val_main_v59_apply, rv45 H b n t h c, rv58 H b n t h c]
  exact (EReal.coe_mul _ _).symm

theorem rv46 (h : Fin 4) (c : Fin 64) :
    val_main_v46 (F := Ideal) x1 (ix2 h c) = ((G.g h c : ℝ) : EReal) := by
  rw [val_main_v46_apply]
  exact (congrArg x1 (ext1 (h0 := by show h.val * 64 + c.val = 64 * h.val + c.val; omega))).trans (H.ga (lx h c))

theorem rv60 (z : Fin 1) (z1 : Fin 1) (h : Fin 4) (c : Fin 64) :
    val_main_v60 (F := Ideal) x1 (ix4 z z1 h c) = ((G.g h c : ℝ) : EReal) := by
  rw [val_main_v60_apply]
  exact (congrArg (val_main_v46 (F := Ideal) x1) ext2).trans (rv46 H h c)

theorem rv61 :
    val_main_v61 (F := Ideal) x1 (ix4 b (sx n t) h c) = ((G.g h c : ℝ) : EReal) := by
  rw [val_main_v61_apply]
  exact (congrArg (val_main_v60 (F := Ideal) x1) ext4).trans (rv60 H 0 0 h c)

theorem rv62 :
    val_main_v62 (F := Ideal) x0 x1 (ix4 b (sx n t) h c) = ((Spec.vn (G.V b n h) (G.g h) t c : ℝ) : EReal) := by
  rw [val_main_v62_apply, rv59 H b n t h c, rv61 H b n t h c]
  exact (EReal.coe_mul _ _).symm

theorem rv63 :
    val_main_v63 (F := Ideal) x0 x1 (ix5 b n t h c) = ((Spec.vn (G.V b n h) (G.g h) t c : ℝ) : EReal) := by
  rw [val_main_v63_apply]
  exact (congrArg (val_main_v62 (F := Ideal) x0 x1) (ext4 (h0 := by show ((((b.val * 16 + n.val) * 128 + t.val) * 4 + h.val) * 64 + c.val) / 524288 = b.val; omega) (h1 := by show ((((b.val * 16 + n.val) * 128 + t.val) * 4 + h.val) * 64 + c.val) / 256 % 2048 = 128 * n.val + t.val; omega) (h2 := by show ((((b.val * 16 + n.val) * 128 + t.val) * 4 + h.val) * 64 + c.val) / 64 % 4 = h.val; omega) (h3 := by show ((((b.val * 16 + n.val) * 128 + t.val) * 4 + h.val) * 64 + c.val) % 64 = c.val; omega))).trans (rv62 H b n t h c)

omit H in
theorem rv65 (t s : Fin 128) : val_main_v65 (F := Ideal) (ix2 t s) = if s.val ≤ t.val then 1#1 else 0#1 := by
  rw [val_main_v65_apply]
  show (if IntOp.cmpi .sge (IntOp.addi (BitVec.ofNat 32 t.val) 0#32) (BitVec.ofNat 32 s.val) = 1#1 then (1#1 : BitVec 1) else 0#1) = _
  exact if_congr (ge_small t s) rfl rfl

omit H in
theorem rv66_1 (h : Fin 4) (t s : Fin 128) : val_main_v66_1 (F := Ideal) (ix3 h t s) = if s.val ≤ t.val then 1#1 else 0#1 := by
  rw [val_main_v66_1_apply]
  exact (congrArg (val_main_v65 (F := Ideal)) ext2).trans (rv65 t s)

theorem rv66_0 (h : Fin 4) (t : Fin 128) (s : Fin 128) :
    val_main_v66_0 (F := Ideal) x2 (ix3 h t s) = ((Spec.tri (G.WS h) t s : ℝ) : EReal) := by
  rw [val_main_v66_0_apply, rv66_1 h t s]
  show (if (if s.val ≤ t.val then 1#1 else 0#1 : BitVec 1) = 1#1 then x2 (ix3 h t s) else Ideal.ofBits .f32 0x00000000#32) = _
  rw [H.ws h t s, word_zero]
  unfold Spec.tri
  by_cases e : s.val ≤ t.val
  · rw [if_pos e, if_pos e, if_pos rfl]
  · rw [if_neg e, if_neg e, if_neg (by decide)]

theorem rv67 (h : Fin 4) (b : Fin 2) (n : Fin 16) (c : Fin 64) (t : Fin 128) :
    val_main_v67 (F := Ideal) x0 x1 x2 (ix5 h b n c t) = ((∑ s : Fin 128, Spec.tri (G.WS h) t s * Spec.vn (G.V b n h) (G.g h) s c : ℝ) : EReal) := by
  rw [val_main_v67_apply]
  refine (Finset.sum_congr rfl fun s _ => (?_ : _ = ((Spec.tri (G.WS h) t s * Spec.vn (G.V b n h) (G.g h) s c : ℝ) : EReal))).trans (coe_sum _ _).symm
  rw [(congrArg (val_main_v63 (F := Ideal) x0 x1) ext5).trans (rv63 H b n s h c),
    (congrArg (val_main_v66_0 (F := Ideal) x2) ext3).trans (rv66_0 H h t s), ← EReal.coe_mul]
  exact congrArg _ (mul_comm _ _)

theorem rv68 :
    val_main_v68 (F := Ideal) x0 x1 x2 (ix5 b n t h c) = ((∑ s : Fin 128, Spec.tri (G.WS h) t s * Spec.vn (G.V b n h) (G.g h) s c : ℝ) : EReal) := by
  rw [val_main_v68_apply]
  exact (congrArg (val_main_v67 (F := Ideal) x0 x1 x2) ext5).trans (rv67 H h b n c t)

theorem rv69 (t : Fin 128) (h : Fin 4) :
    val_main_v69 (F := Ideal) x3 (ix2 t h) = ((G.BS h t : ℝ) : EReal) := by
  rw [val_main_v69_apply]
  exact (congrArg x3 ext2).trans (H.bs h t)

theorem rv70 (z : Fin 1) (z1 : Fin 1) (t : Fin 128) (h : Fin 4) (z2 : Fin 1) :
    val_main_v70 (F := Ideal) x3 (ix5 z z1 t h z2) = ((G.BS h t : ℝ) : EReal) := by
  rw [val_main_v70_apply]
  exact (congrArg (val_main_v69 (F := Ideal) x3) ext2).trans (rv69 H t h)

theorem rv71 :
    val_main_v71 (F := Ideal) x3 (ix5 b n t h c) = ((G.BS h t : ℝ) : EReal) := by
  rw [val_main_v71_apply]
  exact (congrArg (val_main_v70 (F := Ideal) x3) ext5).trans (rv70 H 0 0 t h 0)

theorem rv72 :
    val_main_v72 (F := Ideal) x0 x1 x2 x3 (ix5 b n t h c) = ((Spec.mix (G.V b n h) (G.g h) (G.WS h) (G.BS h) t c : ℝ) : EReal) := by
  rw [val_main_v72_apply, rv68 H b n t h c, rv71 H b n t h c]
  exact (EReal.coe_add _ _).symm

theorem rv73 :
    val_main_v73 (F := Ideal) x0 x1 x2 x3 (ix3 b (sx n t) (lx h c)) = ((Spec.mix (G.V b n h) (G.g h) (G.WS h) (G.BS h) t c : ℝ) : EReal) := by
  rw [val_main_v73_apply]
  exact (congrArg (val_main_v72 (F := Ideal) x0 x1 x2 x3) (ext5 (h0 := by show ((b.val * 2048 + (128 * n.val + t.val)) * 256 + (64 * h.val + c.val)) / 524288 = b.val; omega) (h1 := by show ((b.val * 2048 + (128 * n.val + t.val)) * 256 + (64 * h.val + c.val)) / 32768 % 16 = n.val; omega) (h2 := by show ((b.val * 2048 + (128 * n.val + t.val)) * 256 + (64 * h.val + c.val)) / 256 % 128 = t.val; omega) (h3 := by show ((b.val * 2048 + (128 * n.val + t.val)) * 256 + (64 * h.val + c.val)) / 64 % 4 = h.val; omega) (h4 := by show ((b.val * 2048 + (128 * n.val + t.val)) * 256 + (64 * h.val + c.val)) % 64 = c.val; omega))).trans (rv72 H b n t h c)

theorem rv75 :
    val_main_v75 (F := Ideal) x0 x4 (ix3 b (sx n t) (lx h c)) = ((Spec.dm (G.U b n h) (G.C b n h) t c : ℝ) : EReal) := by
  rw [val_main_v75_apply, rv23 H b n t h c, H.ct b (sx n t) (lx h c)]
  exact (EReal.coe_mul _ _).symm

theorem rv76 :
    val_main_v76 (F := Ideal) x0 x1 x2 x3 x4 (ix3 b (sx n t) (lx h c)) = ((G.C b n h t c * Spec.mix (G.V b n h) (G.g h) (G.WS h) (G.BS h) t c : ℝ) : EReal) := by
  rw [val_main_v76_apply, H.ct b (sx n t) (lx h c), rv73 H b n t h c]
  exact (EReal.coe_mul _ _).symm

theorem rv77 :
    val_main_v77 (F := Ideal) x0 x4 (ix5 b n t h c) = ((Spec.dm (G.U b n h) (G.C b n h) t c : ℝ) : EReal) := by
  rw [val_main_v77_apply]
  exact (congrArg (val_main_v75 (F := Ideal) x0 x4) (ext3 (h0 := by show ((((b.val * 16 + n.val) * 128 + t.val) * 4 + h.val) * 64 + c.val) / 524288 = b.val; omega) (h1 := by show ((((b.val * 16 + n.val) * 128 + t.val) * 4 + h.val) * 64 + c.val) / 256 % 2048 = 128 * n.val + t.val; omega) (h2 := by show ((((b.val * 16 + n.val) * 128 + t.val) * 4 + h.val) * 64 + c.val) % 256 = 64 * h.val + c.val; omega))).trans (rv75 H b n t h c)

theorem rv82 (h : Fin 4) (b : Fin 2) (n : Fin 16) (c : Fin 64) (t : Fin 128) :
    val_main_v82 (F := Ideal) x0 x4 (ix5 h b n c t) = ((Spec.dm (G.U b n h) (G.C b n h) t c : ℝ) : EReal) := by
  rw [val_main_v82_apply]
  exact (congrArg (val_main_v77 (F := Ideal) x0 x4) ext5).trans (rv77 H b n t h c)

theorem rv84 (h : Fin 4) (b : Fin 2) (n : Fin 16) (c : Fin 64) (s : Fin 128) :
    val_main_v84 (F := Ideal) x0 x2 x4 (ix5 h b n c s) = ((Spec.dvn (G.U b n h) (G.C b n h) (G.WS h) s c : ℝ) : EReal) := by
  rw [val_main_v84_apply]
  refine (Finset.sum_congr rfl fun t _ => (?_ : _ = ((Spec.tri (G.WS h) t s * Spec.dm (G.U b n h) (G.C b n h) t c : ℝ) : EReal))).trans (coe_sum _ _).symm
  rw [(congrArg (val_main_v82 (F := Ideal) x0 x4) ext5).trans (rv82 H h b n c t),
    (congrArg (val_main_v66_0 (F := Ideal) x2) ext3).trans (rv66_0 H h t s), ← EReal.coe_mul]
  exact congrArg _ (mul_comm _ _)

theorem rv85 (b : Fin 2) (n : Fin 16) (s : Fin 128) (h : Fin 4) (c : Fin 64) :
    val_main_v85 (F := Ideal) x0 x2 x4 (ix5 b n s h c) = ((Spec.dvn (G.U b n h) (G.C b n h) (G.WS h) s c : ℝ) : EReal) := by
  rw [val_main_v85_apply]
  exact (congrArg (val_main_v84 (F := Ideal) x0 x2 x4) ext5).trans (rv84 H h b n c s)

theorem rv87 (b : Fin 2) (n : Fin 16) (s : Fin 128) (h : Fin 4) (c : Fin 64) :
    val_main_v87 (F := Ideal) x0 x2 x4 (ix4 b (sx n s) h c) = ((Spec.dvn (G.U b n h) (G.C b n h) (G.WS h) s c : ℝ) : EReal) := by
  rw [val_main_v87_apply]
  exact (congrArg (val_main_v85 (F := Ideal) x0 x2 x4) (ext5 (h0 := by show (((b.val * 2048 + (128 * n.val + s.val)) * 4 + h.val) * 64 + c.val) / 524288 = b.val; omega) (h1 := by show (((b.val * 2048 + (128 * n.val + s.val)) * 4 + h.val) * 64 + c.val) / 32768 % 16 = n.val; omega) (h2 := by show (((b.val * 2048 + (128 * n.val + s.val)) * 4 + h.val) * 64 + c.val) / 256 % 128 = s.val; omega) (h3 := by show (((b.val * 2048 + (128 * n.val + s.val)) * 4 + h.val) * 64 + c.val) / 64 % 4 = h.val; omega) (h4 := by show (((b.val * 2048 + (128 * n.val + s.val)) * 4 + h.val) * 64 + c.val) % 64 = c.val; omega))).trans (rv85 H b n s h c)

theorem rv88 (b : Fin 2) (n : Fin 16) (s : Fin 128) (h : Fin 4) (c : Fin 64) :
    val_main_v88 (F := Ideal) x0 x2 x4 (ix4 b (sx n s) h c) = ((Spec.xh (G.V b n h) s c * Spec.dvn (G.U b n h) (G.C b n h) (G.WS h) s c : ℝ) : EReal) := by
  rw [val_main_v88_apply, rv59 H b n s h c, rv87 H b n s h c]
  exact (EReal.coe_mul _ _).symm

theorem rv91 (b : Fin 2) (n : Fin 16) (s : Fin 128) (h : Fin 4) (c : Fin 64) :
    val_main_v91 (F := Ideal) x1 (ix4 b (sx n s) h c) = ((G.g h c : ℝ) : EReal) := by
  rw [val_main_v91_apply]
  exact (congrArg (val_main_v60 (F := Ideal) x1) ext4).trans (rv60 H 0 0 h c)

theorem rv92 (b : Fin 2) (n : Fin 16) (s : Fin 128) (h : Fin 4) (c : Fin 64) :
    val_main_v92 (F := Ideal) x0 x1 x2 x4 (ix4 b (sx n s) h c) = ((Spec.dvn (G.U b n h) (G.C b n h) (G.WS h) s c * G.g h c : ℝ) : EReal) := by
  rw [val_main_v92_apply, rv87 H b n s h c, rv91 H b n s h c]
  exact (EReal.coe_mul _ _).symm

theorem rv94 (b : Fin 2) (n : Fin 16) (s : Fin 128) (h : Fin 4) (c : Fin 64) :
    val_main_v94 (F := Ideal) x0 x1 x2 x4 (ix4 b (sx n s) h c) = ((Spec.gelu (G.V b n h s c) * (Spec.dvn (G.U b n h) (G.C b n h) (G.WS h) s c * G.g h c) : ℝ) : EReal) := by
  rw [val_main_v94_apply, rv45 H b n s h c, rv92 H b n s h c]
  exact (EReal.coe_mul _ _).symm

theorem rv95 (b : Fin 2) (n : Fin 16) (s : Fin 128) (h : Fin 4) :
    val_main_v95 (F := Ideal) x0 x1 x2 x4 (ix3 b (sx n s) h) = ((∑ c : Fin 64, Spec.gelu (G.V b n h s c) * (Spec.dvn (G.U b n h) (G.C b n h) (G.WS h) s c * G.g h c) : ℝ) : EReal) := by
  rw [val_main_v95_apply]
  rw [show val_main_cst_22 (F := Ideal) (Shape.Idx.first h_S_) = ((0 : ℝ) : EReal) from word_zero, EReal.coe_zero, zero_add]
  refine (Finset.sum_congr rfl fun c _ => (?_ : _ = ((Spec.gelu (G.V b n h s c) * (Spec.dvn (G.U b n h) (G.C b n h) (G.WS h) s c * G.g h c) : ℝ) : EReal))).trans (coe_sum _ _).symm
  exact (congrArg (val_main_v94 (F := Ideal) x0 x1 x2 x4) ext4).trans (rv94 H b n s h c)

theorem rv96 (b : Fin 2) (n : Fin 16) (s : Fin 128) (h : Fin 4) (z : Fin 1) :
    val_main_v96 (F := Ideal) x0 x1 x2 x4 (ix4 b (sx n s) h z) = ((∑ c : Fin 64, Spec.gelu (G.V b n h s c) * (Spec.dvn (G.U b n h) (G.C b n h) (G.WS h) s c * G.g h c) : ℝ) : EReal) := by
  rw [val_main_v96_apply]
  exact (congrArg (val_main_v95 (F := Ideal) x0 x1 x2 x4) (ext3 (h0 := by show (((b.val * 2048 + (128 * n.val + s.val)) * 4 + h.val) * 1 + z.val) / 8192 = b.val; omega) (h1 := by show (((b.val * 2048 + (128 * n.val + s.val)) * 4 + h.val) * 1 + z.val) / 4 % 2048 = 128 * n.val + s.val; omega) (h2 := by show (((b.val * 2048 + (128 * n.val + s.val)) * 4 + h.val) * 1 + z.val) % 4 = h.val; omega))).trans (rv95 H b n s h)

theorem rv97 (b : Fin 2) (n : Fin 16) (s : Fin 128) (h : Fin 4) (c : Fin 64) :
    val_main_v97 (F := Ideal) x0 (ix4 b (sx n s) h c) = ((Spec.r (G.V b n h) s : ℝ) : EReal) := by
  rw [val_main_v97_apply]
  exact (congrArg (val_main_v54 (F := Ideal) x0) ext4).trans (rv54 H b n s h 0)

theorem rv98 (b : Fin 2) (n : Fin 16) (s : Fin 128) (h : Fin 4) (c : Fin 64) :
    val_main_v98 (F := Ideal) x0 x1 x2 x4 (ix4 b (sx n s) h c) = ((Spec.dvn (G.U b n h) (G.C b n h) (G.WS h) s c * G.g h c * Spec.r (G.V b n h) s : ℝ) : EReal) := by
  rw [val_main_v98_apply, rv92 H b n s h c, rv97 H b n s h c]
  exact (EReal.coe_mul _ _).symm

theorem rv99 (b : Fin 2) (n : Fin 16) (s : Fin 128) (h : Fin 4) (z : Fin 1) :
    val_main_v99 (F := Ideal) x0 x1 x2 x4 (ix4 b (sx n s) h z) = (((∑ c : Fin 64, Spec.gelu (G.V b n h s c) * (Spec.dvn (G.U b n h) (G.C b n h) (G.WS h) s c * G.g h c)) * (-1 / 2 * (Spec.r (G.V b n h) s / Spec.ms (G.V b n h) s)) : ℝ) : EReal) := by
  rw [val_main_v99_apply, rv96 H b n s h z, rv57 H b n s h z]
  exact (EReal.coe_mul _ _).symm

theorem rv101 (b : Fin 2) (n : Fin 16) (s : Fin 128) (h : Fin 4) (z : Fin 1) :
    val_main_v101 (F := Ideal) x0 x1 x2 x4 (ix4 b (sx n s) h z) = ((Spec.dms (G.U b n h) (G.V b n h) (G.C b n h) (G.g h) (G.WS h) s : ℝ) : EReal) := by
  rw [val_main_v101_apply, rv99 H b n s h z, kv100]

  refine (div_coe _ (by norm_num : (64 : ℝ) ≠ 0)).trans ?_
  exact congrArg _ (by unfold Spec.dms; rw [Finset.sum_mul])

theorem rv102 (b : Fin 2) (n : Fin 16) (s : Fin 128) (h : Fin 4) :
    val_main_v102 (F := Ideal) x0 x1 x2 x4 (ix3 b (sx n s) h) = ((Spec.dms (G.U b n h) (G.V b n h) (G.C b n h) (G.g h) (G.WS h) s : ℝ) : EReal) := by
  rw [val_main_v102_apply]
  rw [show val_main_cst_24 (F := Ideal) (Shape.Idx.first h_S_) = ((0 : ℝ) : EReal) from word_zero, EReal.coe_zero, zero_add]
  refine (Fin.sum_univ_one _).trans ?_
  exact (congrArg (val_main_v101 (F := Ideal) x0 x1 x2 x4) ext4).trans (rv101 H b n s h 0)

theorem rv103 (b : Fin 2) (n : Fin 16) (s : Fin 128) (h : Fin 4) (c : Fin 64) :
    val_main_v103 (F := Ideal) x0 x1 x2 x4 (ix4 b (sx n s) h c) = ((Spec.dms (G.U b n h) (G.V b n h) (G.C b n h) (G.g h) (G.WS h) s : ℝ) : EReal) := by
  rw [val_main_v103_apply]
  exact (congrArg (val_main_v102 (F := Ideal) x0 x1 x2 x4) ext3).trans (rv102 H b n s h)

theorem rv104 (b : Fin 2) (n : Fin 16) (s : Fin 128) (h : Fin 4) (c : Fin 64) :
    val_main_v104 (F := Ideal) x0 x1 x2 x4 (ix4 b (sx n s) h c) = ((Spec.gelu (G.V b n h s c) * Spec.dms (G.U b n h) (G.V b n h) (G.C b n h) (G.g h) (G.WS h) s : ℝ) : EReal) := by
  rw [val_main_v104_apply, rv45 H b n s h c, rv103 H b n s h c]
  exact (EReal.coe_mul _ _).symm

theorem rv105 (b : Fin 2) (n : Fin 16) (s : Fin 128) (h : Fin 4) (c : Fin 64) :
    val_main_v105 (F := Ideal) x0 x1 x2 x4 (ix4 b (sx n s) h c) = ((Spec.dvn (G.U b n h) (G.C b n h) (G.WS h) s c * G.g h c * Spec.r (G.V b n h) s + Spec.gelu (G.V b n h s c) * Spec.dms (G.U b n h) (G.V b n h) (G.C b n h) (G.g h) (G.WS h) s : ℝ) : EReal) := by
  rw [val_main_v105_apply, rv98 H b n s h c, rv104 H b n s h c]
  exact (EReal.coe_add _ _).symm

theorem rv106 (b : Fin 2) (n : Fin 16) (s : Fin 128) (h : Fin 4) (c : Fin 64) :
    val_main_v106 (F := Ideal) x0 x1 x2 x4 (ix4 b (sx n s) h c) = ((Spec.dms (G.U b n h) (G.V b n h) (G.C b n h) (G.g h) (G.WS h) s * Spec.gelu (G.V b n h s c) : ℝ) : EReal) := by
  rw [val_main_v106_apply, rv103 H b n s h c, rv45 H b n s h c]
  exact (EReal.coe_mul _ _).symm

theorem rv107 (b : Fin 2) (n : Fin 16) (s : Fin 128) (h : Fin 4) (c : Fin 64) :
    val_main_v107 (F := Ideal) x0 x1 x2 x4 (ix4 b (sx n s) h c) = ((Spec.dn (G.U b n h) (G.V b n h) (G.C b n h) (G.g h) (G.WS h) s c : ℝ) : EReal) := by
  rw [val_main_v107_apply, rv105 H b n s h c, rv106 H b n s h c]
  exact (EReal.coe_add _ _).symm

theorem rv109 (b : Fin 2) (n : Fin 16) (s : Fin 128) (h : Fin 4) (c : Fin 64) :
    val_main_v109 (F := Ideal) x0 x1 x2 x4 (ix3 b (sx n s) (lx h c)) = ((Spec.dn (G.U b n h) (G.V b n h) (G.C b n h) (G.g h) (G.WS h) s c : ℝ) : EReal) := by
  rw [val_main_v109_apply]
  exact (congrArg (val_main_v107 (F := Ideal) x0 x1 x2 x4) (ext4 (h0 := by show ((b.val * 2048 + (128 * n.val + s.val)) * 256 + (64 * h.val + c.val)) / 524288 = b.val; omega) (h1 := by show ((b.val * 2048 + (128 * n.val + s.val)) * 256 + (64 * h.val + c.val)) / 256 % 2048 = 128 * n.val + s.val; omega) (h2 := by show ((b.val * 2048 + (128 * n.val + s.val)) * 256 + (64 * h.val + c.val)) / 64 % 4 = h.val; omega) (h3 := by show ((b.val * 2048 + (128 * n.val + s.val)) * 256 + (64 * h.val + c.val)) % 64 = c.val; omega))).trans (rv107 H b n s h c)

theorem rv110 (b : Fin 2) (n : Fin 16) (s : Fin 128) (h : Fin 4) (c : Fin 64) :
    val_main_v110 (F := Ideal) x0 x1 x2 x4 (ix3 b (sx n s) (lx h c)) = (((G.V b n h s c) * Spec.dn (G.U b n h) (G.V b n h) (G.C b n h) (G.g h) (G.WS h) s c : ℝ) : EReal) := by
  rw [val_main_v110_apply, rv2 H b n s h c, rv109 H b n s h c]
  exact (EReal.coe_mul _ _).symm

theorem rv111 (b : Fin 2) (n : Fin 16) (s : Fin 128) (h : Fin 4) (c : Fin 64) :
    val_main_v111 (F := Ideal) x0 x1 x2 x4 (ix3 b (sx n s) (lx h c)) = ((Spec.dn (G.U b n h) (G.V b n h) (G.C b n h) (G.g h) (G.WS h) s c * (1 / 2 * (1 + Spec.th (G.V b n h s c))) : ℝ) : EReal) := by
  rw [val_main_v111_apply, rv109 H b n s h c, rv43 H b n s h c]
  exact (EReal.coe_mul _ _).symm

theorem rv113 (b : Fin 2) (n : Fin 16) (s : Fin 128) (h : Fin 4) (c : Fin 64) :
    val_main_v113 (F := Ideal) x0 x1 x2 x4 (ix3 b (sx n s) (lx h c)) = ((1 / 2 * ((G.V b n h s c) * Spec.dn (G.U b n h) (G.V b n h) (G.C b n h) (G.g h) (G.WS h) s c) : ℝ) : EReal) := by
  rw [val_main_v113_apply, kv112, rv110 H b n s h c]
  exact (EReal.coe_mul _ _).symm

theorem rv114 (b : Fin 2) (n : Fin 16) (s : Fin 128) (h : Fin 4) (c : Fin 64) :
    val_main_v114 (F := Ideal) x0 x1 x2 x4 (ix3 b (sx n s) (lx h c)) = ((1 / 2 * ((G.V b n h s c) * Spec.dn (G.U b n h) (G.V b n h) (G.C b n h) (G.g h) (G.WS h) s c) * ((1 + Spec.th (G.V b n h s c)) * (1 - Spec.th (G.V b n h s c))) : ℝ) : EReal) := by
  rw [val_main_v114_apply, rv113 H b n s h c, rv39 H b n s h c]
  exact (EReal.coe_mul _ _).symm

theorem rv116 (b : Fin 2) (n : Fin 16) (s : Fin 128) (h : Fin 4) (c : Fin 64) :
    val_main_v116 (F := Ideal) x0 x1 x2 x4 (ix3 b (sx n s) (lx h c)) = ((cA * (1 / 2 * ((G.V b n h s c) * Spec.dn (G.U b n h) (G.V b n h) (G.C b n h) (G.g h) (G.WS h) s c) * ((1 + Spec.th (G.V b n h s c)) * (1 - Spec.th (G.V b n h s c)))) : ℝ) : EReal) := by
  rw [val_main_v116_apply, kv115, rv114 H b n s h c]
  exact (EReal.coe_mul _ _).symm

theorem rv117 (b : Fin 2) (n : Fin 16) (s : Fin 128) (h : Fin 4) (c : Fin 64) :
    val_main_v117 (F := Ideal) x0 x1 x2 x4 (ix3 b (sx n s) (lx h c)) = ((Spec.dn (G.U b n h) (G.V b n h) (G.C b n h) (G.g h) (G.WS h) s c * (1 / 2 * (1 + Spec.th (G.V b n h s c))) + cA * (1 / 2 * ((G.V b n h s c) * Spec.dn (G.U b n h) (G.V b n h) (G.C b n h) (G.g h) (G.WS h) s c) * ((1 + Spec.th (G.V b n h s c)) * (1 - Spec.th (G.V b n h s c)))) : ℝ) : EReal) := by
  rw [val_main_v117_apply, rv111 H b n s h c, rv116 H b n s h c]
  exact (EReal.coe_add _ _).symm

theorem rv119 (b : Fin 2) (n : Fin 16) (s : Fin 128) (h : Fin 4) (c : Fin 64) :
    val_main_v119 (F := Ideal) x0 x1 x2 x4 (ix3 b (sx n s) (lx h c)) = ((cB * (cA * (1 / 2 * ((G.V b n h s c) * Spec.dn (G.U b n h) (G.V b n h) (G.C b n h) (G.g h) (G.WS h) s c) * ((1 + Spec.th (G.V b n h s c)) * (1 - Spec.th (G.V b n h s c))))) : ℝ) : EReal) := by
  rw [val_main_v119_apply, kv118, rv116 H b n s h c]
  exact (EReal.coe_mul _ _).symm

theorem rv120 (b : Fin 2) (n : Fin 16) (s : Fin 128) (h : Fin 4) (c : Fin 64) :
    val_main_v120 (F := Ideal) x0 x1 x2 x4 (ix3 b (sx n s) (lx h c)) = ((cB * (cA * (1 / 2 * ((G.V b n h s c) * Spec.dn (G.U b n h) (G.V b n h) (G.C b n h) (G.g h) (G.WS h) s c) * ((1 + Spec.th (G.V b n h s c)) * (1 - Spec.th (G.V b n h s c))))) * (3 * ((G.V b n h s c) * (G.V b n h s c))) : ℝ) : EReal) := by
  rw [val_main_v120_apply, rv119 H b n s h c, rv28 H b n s h c]
  exact (EReal.coe_mul _ _).symm

theorem rv121 (b : Fin 2) (n : Fin 16) (s : Fin 128) (h : Fin 4) (c : Fin 64) :
    val_main_v121 (F := Ideal) x0 x1 x2 x4 (ix3 b (sx n s) (lx h c)) = ((Spec.dv (G.U b n h) (G.V b n h) (G.C b n h) (G.g h) (G.WS h) s c : ℝ) : EReal) := by
  rw [val_main_v121_apply, rv117 H b n s h c, rv120 H b n s h c]
  refine (EReal.coe_add _ _).symm.trans ?_
  exact congrArg _ (by unfold Spec.dv Spec.geluD; ring)

theorem rv122 :
    val_main_v122 (F := Ideal) x0 x1 x2 x3 x4 (ix3 b (sx n t) (lx h c)) = (((G.U b n h t c) * (G.C b n h t c * Spec.mix (G.V b n h) (G.g h) (G.WS h) (G.BS h) t c) : ℝ) : EReal) := by
  rw [val_main_v122_apply, rv1 H b n t h c, rv76 H b n t h c]
  exact (EReal.coe_mul _ _).symm

theorem rv123 :
    val_main_v123 (F := Ideal) x0 x1 x2 x3 x4 (ix3 b (sx n t) (lx h c)) = (((G.C b n h t c * Spec.mix (G.V b n h) (G.g h) (G.WS h) (G.BS h) t c) * (1 / 2 * (1 + Spec.th (G.U b n h t c))) : ℝ) : EReal) := by
  rw [val_main_v123_apply, rv76 H b n t h c, rv22 H b n t h c]
  exact (EReal.coe_mul _ _).symm

theorem rv125 :
    val_main_v125 (F := Ideal) x0 x1 x2 x3 x4 (ix3 b (sx n t) (lx h c)) = ((1 / 2 * ((G.U b n h t c) * (G.C b n h t c * Spec.mix (G.V b n h) (G.g h) (G.WS h) (G.BS h) t c)) : ℝ) : EReal) := by
  rw [val_main_v125_apply, kv124, rv122 H b n t h c]
  exact (EReal.coe_mul _ _).symm

theorem rv126 :
    val_main_v126 (F := Ideal) x0 x1 x2 x3 x4 (ix3 b (sx n t) (lx h c)) = ((1 / 2 * ((G.U b n h t c) * (G.C b n h t c * Spec.mix (G.V b n h) (G.g h) (G.WS h) (G.BS h) t c)) * ((1 + Spec.th (G.U b n h t c)) * (1 - Spec.th (G.U b n h t c))) : ℝ) : EReal) := by
  rw [val_main_v126_apply, rv125 H b n t h c, rv18 H b n t h c]
  exact (EReal.coe_mul _ _).symm

theorem rv128 :
    val_main_v128 (F := Ideal) x0 x1 x2 x3 x4 (ix3 b (sx n t) (lx h c)) = ((cA * (1 / 2 * ((G.U b n h t c) * (G.C b n h t c * Spec.mix (G.V b n h) (G.g h) (G.WS h) (G.BS h) t c)) * ((1 + Spec.th (G.U b n h t c)) * (1 - Spec.th (G.U b n h t c)))) : ℝ) : EReal) := by
  rw [val_main_v128_apply, kv127, rv126 H b n t h c]
  exact (EReal.coe_mul _ _).symm

theorem rv129 :
    val_main_v129 (F := Ideal) x0 x1 x2 x3 x4 (ix3 b (sx n t) (lx h c)) = (((G.C b n h t c * Spec.mix (G.V b n h) (G.g h) (G.WS h) (G.BS h) t c) * (1 / 2 * (1 + Spec.th (G.U b n h t c))) + cA * (1 / 2 * ((G.U b n h t c) * (G.C b n h t c * Spec.mix (G.V b n h) (G.g h) (G.WS h) (G.BS h) t c)) * ((1 + Spec.th (G.U b n h t c)) * (1 - Spec.th (G.U b n h t c)))) : ℝ) : EReal) := by
  rw [val_main_v129_apply, rv123 H b n t h c, rv128 H b n t h c]
  exact (EReal.coe_add _ _).symm

theorem rv131 :
    val_main_v131 (F := Ideal) x0 x1 x2 x3 x4 (ix3 b (sx n t) (lx h c)) = ((cB * (cA * (1 / 2 * ((G.U b n h t c) * (G.C b n h t c * Spec.mix (G.V b n h) (G.g h) (G.WS h) (G.BS h) t c)) * ((1 + Spec.th (G.U b n h t c)) * (1 - Spec.th (G.U b n h t c))))) : ℝ) : EReal) := by
  rw [val_main_v131_apply, kv130, rv128 H b n t h c]
  exact (EReal.coe_mul _ _).symm

theorem rv132 :
    val_main_v132 (F := Ideal) x0 x1 x2 x3 x4 (ix3 b (sx n t) (lx h c)) = ((cB * (cA * (1 / 2 * ((G.U b n h t c) * (G.C b n h t c * Spec.mix (G.V b n h) (G.g h) (G.WS h) (G.BS h) t c)) * ((1 + Spec.th (G.U b n h t c)) * (1 - Spec.th (G.U b n h t c))))) * (3 * ((G.U b n h t c) * (G.U b n h t c))) : ℝ) : EReal) := by
  rw [val_main_v132_apply, rv131 H b n t h c, rv7 H b n t h c]
  exact (EReal.coe_mul _ _).symm

theorem rv133 :
    val_main_v133 (F := Ideal) x0 x1 x2 x3 x4 (ix3 b (sx n t) (lx h c)) = ((Spec.du (G.U b n h) (G.V b n h) (G.C b n h) (G.g h) (G.WS h) (G.BS h) t c : ℝ) : EReal) := by
  rw [val_main_v133_apply, rv129 H b n t h c, rv132 H b n t h c]
  refine (EReal.coe_add _ _).symm.trans ?_
  exact congrArg _ (by unfold Spec.du Spec.geluD; ring)

theorem rv135 :
    val_main_v135 (F := Ideal) x0 x1 x2 x3 x4 (ix3 b (sx n t) (lx h c)) = ((Spec.du (G.U b n h) (G.V b n h) (G.C b n h) (G.g h) (G.WS h) (G.BS h) t c : ℝ) : EReal) := by
  exact rv133 H b n t h c

theorem rv136 (b : Fin 2) (n : Fin 16) (s : Fin 128) (h : Fin 4) (c : Fin 64) :
    val_main_v136 (F := Ideal) x0 x1 x2 x4 (ix3 b (sx n s) (lx h c)) = ((Spec.dv (G.U b n h) (G.V b n h) (G.C b n h) (G.g h) (G.WS h) s c : ℝ) : EReal) := by
  exact rv121 H b n s h c

end

end Ref

end Cert.SgBwd

end
-- ==== Proof.Ref2.lean ====
/- Hand-written, untrusted: THE REFERENCE'S RESULTS, IN REALS, AND THE TWO PROGRAMS' RESULTS EQUAL. The sums over several axes, the
   contraction over three, the joined and the padded result; then each kernel result array equals the reference's. -/
module

public import proofs.«01_k».proof.Proof.Ref

@[expose] public section

set_option maxRecDepth 16384

noncomputable section

namespace Cert.SgBwd

open Cert.ReferenceIdeal Cert.ReferenceIdeal.Gen Cert.ReferenceIdeal.Read Idealize.ShloMosaic

namespace Ref

/-- A host sum from zero at `j`, when `e` lists the source's indices that drop to `j`. -/
theorem host_sum {κ : Type*} [Fintype κ] {s t u : Shape} {axes : List (Fin s.rank)} (h : s.ReducesTo axes t) (hu : 0 < u.numel)
    (y : FVec Ideal s .f32) (z : u.Idx → Ideal .f32) (hz : z (Shape.Idx.first hu) = ((0 : ℝ) : EReal)) (j : t.Idx) (e : κ → s.Idx)
    (he : Function.Injective e) (hp : ∀ k, h.drop (e k) = j) (hs : ∀ i, h.drop i = j → ∃ k, e k = i) :
    (Host.reduceAdd y z h hu j : EReal) = ∑ k, (y (e k) : EReal) := by
  simp only [Host.reduceAdd, Ideal.hostReduceAdd_def]
  unfold Ideal.hostReduceAdd
  rw [hz, EReal.coe_zero, zero_add]
  refine (Finset.sum_bij (fun k _ => e k) (fun k _ => ?_) (fun a _ b _ hab => he hab) (fun i hi => ?_) (fun _ _ => rfl)).symm
  · rw [Finset.mem_filter]; exact ⟨Finset.mem_univ _, hp k⟩
  · rw [Finset.mem_filter] at hi
    obtain ⟨k, hk⟩ := hs i hi.2
    exact ⟨k, Finset.mem_univ _, hk⟩

variable {x0 : (⟨S2x2048x512, .bf16⟩ : BufTy).Contents (Elt Ideal)} {x1 : (⟨S256, .f32⟩ : BufTy).Contents (Elt Ideal)}
  {x2 : (⟨S4x128x128, .f32⟩ : BufTy).Contents (Elt Ideal)} {x3 : (⟨S4x128, .f32⟩ : BufTy).Contents (Elt Ideal)}
  {x4 : (⟨S2x2048x256, .f32⟩ : BufTy).Contents (Elt Ideal)} {G : Glob} (H : G.Holds x0 x1 x2 x3 x4)
include H

/-! ### The bias gradient -/

theorem rv78 (t : Fin 128) (h : Fin 4) : val_main_v78 (F := Ideal) x0 x4 (ix2 t h)
    = ((∑ p : Fin 2 × Fin 16 × Fin 64, Spec.dm (G.U p.1 p.2.1 h) (G.C p.1 p.2.1 h) t p.2.2 : ℝ) : EReal) := by
  unfold val_main_v78
  refine (host_sum reducesTo_S2x16x128x4x64_S128x4_d0_1_4 h_S_ _ _ word_zero (ix2 t h)
    (fun p : Fin 2 × Fin 16 × Fin 64 => (ix5 p.1 p.2.1 t h p.2.2 : S2x16x128x4x64.Idx)) ?_ ?_ ?_).trans ?_
  · rintro ⟨b, n, c⟩ ⟨b', n', c'⟩ e
    have e' := (ix5_inj _ _ _ _ _ _ _ _ _ _).mp e
    obtain ⟨rfl, rfl, -, -, rfl⟩ := e'
    rfl
  · intro p
    funext a
    match a with
    | ⟨0, _⟩ => exact Fin.ext (reducesTo_S2x16x128x4x64_S128x4_d0_1_4.drop_apply_val_of_eq _ ⟨0, by decide⟩ 2)
    | ⟨1, _⟩ => exact Fin.ext (reducesTo_S2x16x128x4x64_S128x4_d0_1_4.drop_apply_val_of_eq _ ⟨1, by decide⟩ 3)
  · intro i e
    have e2 : (i 2).val = t.val := (reducesTo_S2x16x128x4x64_S128x4_d0_1_4.drop_apply_val_of_eq i ⟨0, by decide⟩ 2).symm.trans
      (congrArg (fun x : S128x4.Idx => (x 0).val) e)
    have e3 : (i 3).val = h.val := (reducesTo_S2x16x128x4x64_S128x4_d0_1_4.drop_apply_val_of_eq i ⟨1, by decide⟩ 3).symm.trans
      (congrArg (fun x : S128x4.Idx => (x 1).val) e)
    refine ⟨(i 0, i 1, i 4), funext fun a => Fin.ext ?_⟩
    match a with
    | ⟨0, _⟩ => rfl
    | ⟨1, _⟩ => rfl
    | ⟨2, _⟩ => exact e2.symm
    | ⟨3, _⟩ => exact e3.symm
    | ⟨4, _⟩ => rfl
  · refine (Finset.sum_congr rfl fun p _ => ?_).trans (coe_sum _ _).symm
    exact rv77 H p.1 p.2.1 t h p.2.2

theorem rv80 (t : Fin 128) (h : Fin 4) : val_main_v80 (F := Ideal) x0 x4 (ix2 t h)
    = ((∑ p : Fin 2 × Fin 16 × Fin 64, Spec.dm (G.U p.1 p.2.1 h) (G.C p.1 p.2.1 h) t p.2.2 : ℝ) : EReal) := by
  unfold val_main_v80
  refine (host_sum reducesTo_S1x1x128x4x1_S128x4_d0_1_4 h_S_ _ _ word_zero (ix2 t h)
    (fun _ : Fin 1 => (ix5 0 0 t h 0 : S1x1x128x4x1.Idx)) ?_ ?_ ?_).trans ?_
  · intro a b _
    exact Subsingleton.elim a b
  · intro p
    funext a
    match a with
    | ⟨0, _⟩ => exact Fin.ext (reducesTo_S1x1x128x4x1_S128x4_d0_1_4.drop_apply_val_of_eq _ ⟨0, by decide⟩ 2)
    | ⟨1, _⟩ => exact Fin.ext (reducesTo_S1x1x128x4x1_S128x4_d0_1_4.drop_apply_val_of_eq _ ⟨1, by decide⟩ 3)
  · intro i e
    have e2 : (i 2).val = t.val := (reducesTo_S1x1x128x4x1_S128x4_d0_1_4.drop_apply_val_of_eq i ⟨0, by decide⟩ 2).symm.trans
      (congrArg (fun x : S128x4.Idx => (x 0).val) e)
    have e3 : (i 3).val = h.val := (reducesTo_S1x1x128x4x1_S128x4_d0_1_4.drop_apply_val_of_eq i ⟨1, by decide⟩ 3).symm.trans
      (congrArg (fun x : S128x4.Idx => (x 1).val) e)
    have h0 : (i 0).val < 1 := (i 0).isLt
    have h1 : (i 1).val < 1 := (i 1).isLt
    have h4 : (i 4).val < 1 := (i 4).isLt
    refine ⟨0, funext fun a => Fin.ext ?_⟩
    match a with
    | ⟨0, _⟩ => show 0 = (i 0).val; omega
    | ⟨1, _⟩ => show 0 = (i 1).val; omega
    | ⟨2, _⟩ => exact e2.symm
    | ⟨3, _⟩ => exact e3.symm
    | ⟨4, _⟩ => show 0 = (i 4).val; omega
  · refine (Fin.sum_univ_one _).trans ?_
    rw [val_main_v79_apply]
    refine (congrArg (val_main_v78 (F := Ideal) x0 x4) (ext2 (h0 := by show ((((0 * 1 + 0) * 128 + t.val) * 4 + h.val) * 1 + 0) / 4 = t.val; omega) (h1 := by show ((((0 * 1 + 0) * 128 + t.val) * 4 + h.val) * 1 + 0) % 4 = h.val; omega))).trans (rv78 H t h)

theorem rv139 (t : Fin 128) (h : Fin 4) : val_main_v139 (F := Ideal) x0 x4 (ix2 t h)
    = ((∑ p : Fin 2 × Fin 16 × Fin 64, Spec.dm (G.U p.1 p.2.1 h) (G.C p.1 p.2.1 h) t p.2.2 : ℝ) : EReal) := by
  rw [val_main_v139_apply, val_main_v81_apply]
  refine (congrArg (val_main_v80 (F := Ideal) x0 x4) ext2).trans (rv80 H t h)

theorem rv140 (t l : Fin 128) : val_main_v140 (F := Ideal) x0 x4 (ix2 t l)
    = ((∑ g : Fin 4, if l.val = g.val then ∑ p : Fin 2 × Fin 16 × Fin 64, Spec.dm (G.U p.1 p.2.1 g) (G.C p.1 p.2.1 g) t p.2.2 else 0 : ℝ) : EReal) := by
  unfold val_main_v140
  by_cases hl : l.val < 4
  · refine (pad_apply_of_inside _ _ _ _ _ pads_S128x4_S128x128_000_01240 h_S_ (ix2 t l) (ix2 t ⟨l.val, hl⟩ : S128x4.Idx) (fun a => ?_)).trans
      ((rv139 H t ⟨l.val, hl⟩).trans (congrArg _ ?_))
    · match a with
      | ⟨0, _⟩ => show t.val = 0 + t.val * (0 + 1); omega
      | ⟨1, _⟩ => show l.val = 0 + l.val * (0 + 1); omega
    · rw [Finset.sum_eq_single (⟨l.val, hl⟩ : Fin 4) (fun g _ hg => if_neg (fun e => hg (Fin.ext e.symm)))
        (fun hn => absurd (Finset.mem_univ _) hn), if_pos rfl]
  · refine (pad_apply_of_not_inside _ _ _ _ _ pads_S128x4_S128x128_000_01240 h_S_ (ix2 t l) 1 ?_).trans ?_
    · rintro ⟨-, -, h3⟩
      have h4 : (l.val - 0) / (0 + 1) < 4 := h3
      omega
    · rw [Finset.sum_eq_zero (fun g _ => if_neg (by have := g.isLt; omega))]
      show FloatOps.sitofp (F := Ideal) .f32 (0#32 : BitVec 32) = ((0 : ℝ) : EReal)
      exact sitofp_zero

/-! ### The gain gradient -/

theorem rv89 (h : Fin 4) (c : Fin 64) : val_main_v89 (F := Ideal) x0 x2 x4 (ix2 h c)
    = ((∑ p : Fin 2 × Fin 16 × Fin 128, Spec.xh (G.V p.1 p.2.1 h) p.2.2 c * Spec.dvn (G.U p.1 p.2.1 h) (G.C p.1 p.2.1 h) (G.WS h) p.2.2 c : ℝ) : EReal) := by
  unfold val_main_v89
  refine (host_sum reducesTo_S2x2048x4x64_S4x64_d0_1 h_S_ _ _ word_zero (ix2 h c)
    (fun p : Fin 2 × Fin 16 × Fin 128 => (ix4 p.1 (sx p.2.1 p.2.2) h c : S2x2048x4x64.Idx)) ?_ ?_ ?_).trans ?_
  · rintro ⟨b, n, s⟩ ⟨b', n', s'⟩ e
    have e0 : b.val = b'.val := congrArg (fun x : S2x2048x4x64.Idx => (x 0).val) e
    have e1 : 128 * n.val + s.val = 128 * n'.val + s'.val := congrArg (fun x : S2x2048x4x64.Idx => (x 1).val) e
    have en : n = n' := Fin.ext (by omega)
    have es : s = s' := Fin.ext (by omega)
    rw [Fin.ext e0, en, es]
  · intro p
    funext a
    match a with
    | ⟨0, _⟩ => exact Fin.ext (reducesTo_S2x2048x4x64_S4x64_d0_1.drop_apply_val_of_eq _ ⟨0, by decide⟩ 2)
    | ⟨1, _⟩ => exact Fin.ext (reducesTo_S2x2048x4x64_S4x64_d0_1.drop_apply_val_of_eq _ ⟨1, by decide⟩ 3)
  · intro i e
    have e2 : (i 2).val = h.val := (reducesTo_S2x2048x4x64_S4x64_d0_1.drop_apply_val_of_eq i ⟨0, by decide⟩ 2).symm.trans
      (congrArg (fun x : S4x64.Idx => (x 0).val) e)
    have e3 : (i 3).val = c.val := (reducesTo_S2x2048x4x64_S4x64_d0_1.drop_apply_val_of_eq i ⟨1, by decide⟩ 3).symm.trans
      (congrArg (fun x : S4x64.Idx => (x 1).val) e)
    have h1 : (i 1).val < 2048 := (i 1).isLt
    refine ⟨(i 0, ⟨(i 1).val / 128, by omega⟩, ⟨(i 1).val % 128, by omega⟩), funext fun a => Fin.ext ?_⟩
    match a with
    | ⟨0, _⟩ => rfl
    | ⟨1, _⟩ => show 128 * ((i 1).val / 128) + (i 1).val % 128 = (i 1).val; omega
    | ⟨2, _⟩ => exact e2.symm
    | ⟨3, _⟩ => exact e3.symm
  · refine (Finset.sum_congr rfl fun p _ => ?_).trans (coe_sum _ _).symm
    exact rv88 H p.1 p.2.1 p.2.2 h c

theorem rv93 (h : Fin 4) (c : Fin 64) : val_main_v93 (F := Ideal) x0 x2 x4 (ix2 h c)
    = ((∑ p : Fin 2 × Fin 16 × Fin 128, Spec.xh (G.V p.1 p.2.1 h) p.2.2 c * Spec.dvn (G.U p.1 p.2.1 h) (G.C p.1 p.2.1 h) (G.WS h) p.2.2 c : ℝ) : EReal) := by
  unfold val_main_v93
  refine (host_sum reducesTo_S1x1x4x64_S4x64_d0_1 h_S_ _ _ word_zero (ix2 h c)
    (fun _ : Fin 1 => (ix4 0 0 h c : S1x1x4x64.Idx)) ?_ ?_ ?_).trans ?_
  · intro a b _
    exact Subsingleton.elim a b
  · intro p
    funext a
    match a with
    | ⟨0, _⟩ => exact Fin.ext (reducesTo_S1x1x4x64_S4x64_d0_1.drop_apply_val_of_eq _ ⟨0, by decide⟩ 2)
    | ⟨1, _⟩ => exact Fin.ext (reducesTo_S1x1x4x64_S4x64_d0_1.drop_apply_val_of_eq _ ⟨1, by decide⟩ 3)
  · intro i e
    have e2 : (i 2).val = h.val := (reducesTo_S1x1x4x64_S4x64_d0_1.drop_apply_val_of_eq i ⟨0, by decide⟩ 2).symm.trans
      (congrArg (fun x : S4x64.Idx => (x 0).val) e)
    have e3 : (i 3).val = c.val := (reducesTo_S1x1x4x64_S4x64_d0_1.drop_apply_val_of_eq i ⟨1, by decide⟩ 3).symm.trans
      (congrArg (fun x : S4x64.Idx => (x 1).val) e)
    have h0 : (i 0).val < 1 := (i 0).isLt
    have h1 : (i 1).val < 1 := (i 1).isLt
    refine ⟨0, funext fun a => Fin.ext ?_⟩
    match a with
    | ⟨0, _⟩ => show 0 = (i 0).val; omega
    | ⟨1, _⟩ => show 0 = (i 1).val; omega
    | ⟨2, _⟩ => exact e2.symm
    | ⟨3, _⟩ => exact e3.symm
  · refine (Fin.sum_univ_one _).trans ?_
    rw [val_main_v90_apply]
    refine (congrArg (val_main_v89 (F := Ideal) x0 x2 x4) (ext2 (h0 := by show (((0 * 1 + 0) * 4 + h.val) * 64 + c.val) / 64 = h.val; omega) (h1 := by show (((0 * 1 + 0) * 4 + h.val) * 64 + c.val) % 64 = c.val; omega))).trans (rv89 H h c)

theorem rv138 (z : Fin 1) (h : Fin 4) (c : Fin 64) : val_main_v138 (F := Ideal) x0 x2 x4 (ix2 z (lx h c))
    = ((∑ p : Fin 2 × Fin 16 × Fin 128, Spec.xh (G.V p.1 p.2.1 h) p.2.2 c * Spec.dvn (G.U p.1 p.2.1 h) (G.C p.1 p.2.1 h) (G.WS h) p.2.2 c : ℝ) : EReal) := by
  rw [val_main_v138_apply, val_main_v108_apply]
  refine (congrArg (val_main_v93 (F := Ideal) x0 x2 x4) (ext2 (h0 := by show ((z.val * 256 + (64 * h.val + c.val))) / 64 = h.val; omega) (h1 := by show ((z.val * 256 + (64 * h.val + c.val))) % 64 = c.val; omega))).trans (rv93 H h c)

/-! ### The mixing gradient -/

omit H in
theorem cs : ∀ a : Fin dot_S4x2x16x64x128_S2x16x128x4x64_S4x128x128_123_014_4_2_0_3.contr.rank,
    dot_S4x2x16x64x128_S2x16x128x4x64_S4x128x128_123_014_4_2_0_3.contr.size a = if a.val = 0 then 2 else if a.val = 1 then 16 else 64 := by decide

omit H in
/-- A contraction index of the three contracted axes. -/
def ce (p : Fin 2 × Fin 16 × Fin 64) : dot_S4x2x16x64x128_S2x16x128x4x64_S4x128x128_123_014_4_2_0_3.contr.Idx :=
  fun a => ⟨if a.val = 0 then p.1.val else if a.val = 1 then p.2.1.val else p.2.2.val, by
    rw [cs a]
    by_cases h0 : a.val = 0
    · rw [if_pos h0, if_pos h0]; exact p.1.isLt
    · rw [if_neg h0, if_neg h0]
      by_cases h1 : a.val = 1
      · rw [if_pos h1, if_pos h1]; exact p.2.1.isLt
      · rw [if_neg h1, if_neg h1]; exact p.2.2.isLt⟩

omit H in
theorem ce_bij : Function.Bijective ce := by
  refine ⟨fun p q e => ?_, fun k => ⟨(⟨(k ⟨0, by decide⟩).val, lt_of_lt_of_eq (k ⟨0, by decide⟩).isLt (cs _)⟩,
    ⟨(k ⟨1, by decide⟩).val, lt_of_lt_of_eq (k ⟨1, by decide⟩).isLt (cs _)⟩,
    ⟨(k ⟨2, by decide⟩).val, lt_of_lt_of_eq (k ⟨2, by decide⟩).isLt (cs _)⟩), funext fun a => Fin.ext ?_⟩⟩
  · obtain ⟨b, n, c⟩ := p
    obtain ⟨b', n', c'⟩ := q
    have e0 : b.val = b'.val := congrArg Fin.val (congrFun e ⟨0, by decide⟩)
    have e1 : n.val = n'.val := congrArg Fin.val (congrFun e ⟨1, by decide⟩)
    have e2 : c.val = c'.val := congrArg Fin.val (congrFun e ⟨2, by decide⟩)
    rw [Fin.ext e0, Fin.ext e1, Fin.ext e2]
  · match a with
    | ⟨0, _⟩ => rfl
    | ⟨1, _⟩ => rfl
    | ⟨2, _⟩ => rfl

omit H in
theorem ce0 (p : Fin 2 × Fin 16 × Fin 64) (m : Nat) (hm) (e : m = 0) : (ce p ⟨m, hm⟩).val = p.1.val := by
  subst e; rfl

omit H in
theorem ce1 (p : Fin 2 × Fin 16 × Fin 64) (m : Nat) (hm) (e : m = 1) : (ce p ⟨m, hm⟩).val = p.2.1.val := by
  subst e; rfl

omit H in
theorem ce2 (p : Fin 2 × Fin 16 × Fin 64) (m : Nat) (hm) (e : m = 2) : (ce p ⟨m, hm⟩).val = p.2.2.val := by
  subst e; rfl

theorem rv83 (h : Fin 4) (t s : Fin 128) : val_main_v83 (F := Ideal) x0 x1 x4 (ix3 h t s)
    = ((∑ p : Fin 2 × Fin 16 × Fin 64, Spec.dm (G.U p.1 p.2.1 h) (G.C p.1 p.2.1 h) t p.2.2 * Spec.vn (G.V p.1 p.2.1 h) (G.g h) s p.2.2 : ℝ) : EReal) := by
  unfold val_main_v83
  simp only [Host.dotGeneral]
  rw [Ideal.dotGeneral_apply]
  refine (ce_bij.sum_comp _).symm.trans ((Finset.sum_congr rfl fun p _ => ?_).trans (coe_sum _ _).symm)
  obtain ⟨b, n, c⟩ := p
  have el : dot_S4x2x16x64x128_S2x16x128x4x64_S4x128x128_123_014_4_2_0_3.lhsIdx (ix3 h t s) (ce (b, n, c)) = (ix5 h b n c t : S4x2x16x64x128.Idx) := by
    funext a
    match a with
    | ⟨0, _⟩ => rfl
    | ⟨1, _⟩ =>
      apply Fin.ext
      show (dot_S4x2x16x64x128_S2x16x128x4x64_S4x128x128_123_014_4_2_0_3.lhsIdx (ix3 h t s) (ce (b, n, c)) (1 : Fin S4x2x16x64x128.rank)).val = _
      unfold DotDims.lhsIdx
      rw [dif_neg (show ¬(1 : Fin S4x2x16x64x128.rank) ∈ dot_S4x2x16x64x128_S2x16x128x4x64_S4x128x128_123_014_4_2_0_3.lhsBatch by decide),
        dif_neg (show ¬(1 : Fin S4x2x16x64x128.rank) ∈ dot_S4x2x16x64x128_S2x16x128x4x64_S4x128x128_123_014_4_2_0_3.lhsNonContracting by decide)]
      show (ce (b, n, c) ⟨List.idxOf (1 : Fin S4x2x16x64x128.rank) dot_S4x2x16x64x128_S2x16x128x4x64_S4x128x128_123_014_4_2_0_3.lhsContracting, by decide⟩).val = _
      exact ce0 (b, n, c) _ _ (by decide)
    | ⟨2, _⟩ =>
      apply Fin.ext
      show (dot_S4x2x16x64x128_S2x16x128x4x64_S4x128x128_123_014_4_2_0_3.lhsIdx (ix3 h t s) (ce (b, n, c)) (2 : Fin S4x2x16x64x128.rank)).val = _
      unfold DotDims.lhsIdx
      rw [dif_neg (show ¬(2 : Fin S4x2x16x64x128.rank) ∈ dot_S4x2x16x64x128_S2x16x128x4x64_S4x128x128_123_014_4_2_0_3.lhsBatch by decide),
        dif_neg (show ¬(2 : Fin S4x2x16x64x128.rank) ∈ dot_S4x2x16x64x128_S2x16x128x4x64_S4x128x128_123_014_4_2_0_3.lhsNonContracting by decide)]
      show (ce (b, n, c) ⟨List.idxOf (2 : Fin S4x2x16x64x128.rank) dot_S4x2x16x64x128_S2x16x128x4x64_S4x128x128_123_014_4_2_0_3.lhsContracting, by decide⟩).val = _
      exact ce1 (b, n, c) _ _ (by decide)
    | ⟨3, _⟩ =>
      apply Fin.ext
      show (dot_S4x2x16x64x128_S2x16x128x4x64_S4x128x128_123_014_4_2_0_3.lhsIdx (ix3 h t s) (ce (b, n, c)) (3 : Fin S4x2x16x64x128.rank)).val = _
      unfold DotDims.lhsIdx
      rw [dif_neg (show ¬(3 : Fin S4x2x16x64x128.rank) ∈ dot_S4x2x16x64x128_S2x16x128x4x64_S4x128x128_123_014_4_2_0_3.lhsBatch by decide),
        dif_neg (show ¬(3 : Fin S4x2x16x64x128.rank) ∈ dot_S4x2x16x64x128_S2x16x128x4x64_S4x128x128_123_014_4_2_0_3.lhsNonContracting by decide)]
      show (ce (b, n, c) ⟨List.idxOf (3 : Fin S4x2x16x64x128.rank) dot_S4x2x16x64x128_S2x16x128x4x64_S4x128x128_123_014_4_2_0_3.lhsContracting, by decide⟩).val = _
      exact ce2 (b, n, c) _ _ (by decide)
    | ⟨4, _⟩ => rfl
  have er : dot_S4x2x16x64x128_S2x16x128x4x64_S4x128x128_123_014_4_2_0_3.rhsIdx (ix3 h t s) (ce (b, n, c)) = (ix5 b n s h c : S2x16x128x4x64.Idx) := by
    funext a
    match a with
    | ⟨0, _⟩ =>
      apply Fin.ext
      show (dot_S4x2x16x64x128_S2x16x128x4x64_S4x128x128_123_014_4_2_0_3.rhsIdx (ix3 h t s) (ce (b, n, c)) (0 : Fin S2x16x128x4x64.rank)).val = _
      unfold DotDims.rhsIdx
      rw [dif_neg (show ¬(0 : Fin S2x16x128x4x64.rank) ∈ dot_S4x2x16x64x128_S2x16x128x4x64_S4x128x128_123_014_4_2_0_3.rhsBatch by decide),
        dif_neg (show ¬(0 : Fin S2x16x128x4x64.rank) ∈ dot_S4x2x16x64x128_S2x16x128x4x64_S4x128x128_123_014_4_2_0_3.rhsNonContracting by decide)]
      show (ce (b, n, c) ⟨List.idxOf (0 : Fin S2x16x128x4x64.rank) dot_S4x2x16x64x128_S2x16x128x4x64_S4x128x128_123_014_4_2_0_3.rhsContracting, by decide⟩).val = _
      exact ce0 (b, n, c) _ _ (by decide)
    | ⟨1, _⟩ =>
      apply Fin.ext
      show (dot_S4x2x16x64x128_S2x16x128x4x64_S4x128x128_123_014_4_2_0_3.rhsIdx (ix3 h t s) (ce (b, n, c)) (1 : Fin S2x16x128x4x64.rank)).val = _
      unfold DotDims.rhsIdx
      rw [dif_neg (show ¬(1 : Fin S2x16x128x4x64.rank) ∈ dot_S4x2x16x64x128_S2x16x128x4x64_S4x128x128_123_014_4_2_0_3.rhsBatch by decide),
        dif_neg (show ¬(1 : Fin S2x16x128x4x64.rank) ∈ dot_S4x2x16x64x128_S2x16x128x4x64_S4x128x128_123_014_4_2_0_3.rhsNonContracting by decide)]
      show (ce (b, n, c) ⟨List.idxOf (1 : Fin S2x16x128x4x64.rank) dot_S4x2x16x64x128_S2x16x128x4x64_S4x128x128_123_014_4_2_0_3.rhsContracting, by decide⟩).val = _
      exact ce1 (b, n, c) _ _ (by decide)
    | ⟨2, _⟩ => rfl
    | ⟨3, _⟩ => rfl
    | ⟨4, _⟩ =>
      apply Fin.ext
      show (dot_S4x2x16x64x128_S2x16x128x4x64_S4x128x128_123_014_4_2_0_3.rhsIdx (ix3 h t s) (ce (b, n, c)) (4 : Fin S2x16x128x4x64.rank)).val = _
      unfold DotDims.rhsIdx
      rw [dif_neg (show ¬(4 : Fin S2x16x128x4x64.rank) ∈ dot_S4x2x16x64x128_S2x16x128x4x64_S4x128x128_123_014_4_2_0_3.rhsBatch by decide),
        dif_neg (show ¬(4 : Fin S2x16x128x4x64.rank) ∈ dot_S4x2x16x64x128_S2x16x128x4x64_S4x128x128_123_014_4_2_0_3.rhsNonContracting by decide)]
      show (ce (b, n, c) ⟨List.idxOf (4 : Fin S2x16x128x4x64.rank) dot_S4x2x16x64x128_S2x16x128x4x64_S4x128x128_123_014_4_2_0_3.rhsContracting, by decide⟩).val = _
      exact ce2 (b, n, c) _ _ (by decide)
  rw [el, er, rv82 H h b n c t, rv63 H b n s h c]
  exact (EReal.coe_mul _ _).symm

theorem rv86 (h : Fin 4) (t s : Fin 128) : val_main_v86 (F := Ideal) x0 x1 x4 (ix3 h t s)
    = ((if s.val ≤ t.val then ∑ p : Fin 2 × Fin 16 × Fin 64, Spec.dm (G.U p.1 p.2.1 h) (G.C p.1 p.2.1 h) t p.2.2 * Spec.vn (G.V p.1 p.2.1 h) (G.g h) s p.2.2 else 0 : ℝ) : EReal) := by
  rw [val_main_v86_apply, rv66_1 h t s, rv83 H h t s]
  show (if (if s.val ≤ t.val then 1#1 else 0#1 : BitVec 1) = 1#1 then _ else Ideal.ofBits .f32 0x00000000#32) = _
  rw [word_zero]
  by_cases e : s.val ≤ t.val
  · rw [if_pos e, if_pos e, if_pos rfl]
  · rw [if_neg e, if_neg e, if_neg (by decide)]

/-! ### The joined result -/

variable (x5 : (⟨S2x2048x3584, .bf16⟩ : BufTy).Contents (Elt Ideal))

omit H in
theorem rv137_lo (b : Fin 2) (s : Fin 2048) (l : Fin 3584) (hl : l.val < 3072) :
    val_main_v137 (F := Ideal) x0 x1 x2 x3 x4 x5 (ix3 b s l) = x5 (ix3 b s l) := by
  unfold val_main_v137
  rw [concatenate_cons_apply, concatenateAt_cons]
  refine (dif_pos (show (ix3 b s l 2 : Fin 3584).val < 3072 from hl)).trans ?_
  refine (val_main_v134_apply x5 _).trans ?_
  refine congrArg x5 ext3

theorem rv137_u (b : Fin 2) (n : Fin 16) (t : Fin 128) (h : Fin 4) (c : Fin 64) :
    val_main_v137 (F := Ideal) x0 x1 x2 x3 x4 x5 (ix3 b (sx n t) ⟨3072 + (64 * h.val + c.val), by omega⟩)
      = ((Spec.du (G.U b n h) (G.V b n h) (G.C b n h) (G.g h) (G.WS h) (G.BS h) t c : ℝ) : EReal) := by
  unfold val_main_v137
  rw [concatenate_cons_apply, concatenateAt_cons]
  refine (dif_neg (show ¬ 3072 + (64 * h.val + c.val) < 3072 by omega)).trans ?_
  rw [concatenateAt_cons]
  refine (dif_pos (show 3072 + (64 * h.val + c.val) - 3072 < 256 by omega)).trans ?_
  refine (congrArg (val_main_v135 (F := Ideal) x0 x1 x2 x3 x4) (ext3 (h2 := by show 3072 + (64 * h.val + c.val) - 3072 = 64 * h.val + c.val; omega))).trans (rv135 H b n t h c)

theorem rv137_v (b : Fin 2) (n : Fin 16) (s : Fin 128) (h : Fin 4) (c : Fin 64) :
    val_main_v137 (F := Ideal) x0 x1 x2 x3 x4 x5 (ix3 b (sx n s) ⟨3328 + (64 * h.val + c.val), by omega⟩)
      = ((Spec.dv (G.U b n h) (G.V b n h) (G.C b n h) (G.g h) (G.WS h) s c : ℝ) : EReal) := by
  unfold val_main_v137
  rw [concatenate_cons_apply, concatenateAt_cons]
  refine (dif_neg (show ¬ 3328 + (64 * h.val + c.val) < 3072 by omega)).trans ?_
  rw [concatenateAt_cons]
  refine (dif_neg (show ¬ 3328 + (64 * h.val + c.val) - 3072 < 256 by omega)).trans ?_
  rw [concatenateAt_singleton]
  refine (congrArg (val_main_v136 (F := Ideal) x0 x1 x2 x4) (ext3 (h2 := by show 3328 + (64 * h.val + c.val) - 3072 - 256 = 64 * h.val + c.val; omega))).trans (rv136 H b n s h c)

end Ref

/-! ### The two programs' results -/

/-- A sum over the eight points and their four chunks is one over batches and chunks. -/
theorem sum_points (f : Fin 2 → Fin 16 → ℝ) :
    ∑ k ∈ Finset.range 8, ∑ q : Fin 4, f ⟨k / 4 % 2, by omega⟩ ⟨4 * (k % 4) + q.val, by omega⟩ = ∑ b : Fin 2, ∑ n : Fin 16, f b n := by
  rw [Finset.sum_range (fun k => ∑ q : Fin 4, f ⟨k / 4 % 2, by omega⟩ ⟨4 * (k % 4) + q.val, by omega⟩), ← Fintype.sum_prod_type', ← Fintype.sum_prod_type']
  exact Fintype.sum_equiv ⟨fun p : Fin 8 × Fin 4 => ((⟨p.1.val / 4 % 2, by omega⟩ : Fin 2), (⟨4 * (p.1.val % 4) + p.2.val, by omega⟩ : Fin 16)),
    fun p => (⟨4 * p.1.val + p.2.val / 4, by omega⟩, ⟨p.2.val % 4, by omega⟩),
    fun p => Prod.ext (Fin.ext (by simp only; omega)) (Fin.ext (by simp only; omega)),
    fun p => Prod.ext (Fin.ext (by simp only; omega)) (Fin.ext (by simp only; omega))⟩ _ _ fun p => rfl

namespace Glob
variable (G : Glob)

theorem pt_U (k : Nat) (q h : Fin 4) : (G.pt k).U q h = G.U ⟨k / 4 % 2, by omega⟩ ⟨4 * (k % 4) + q.val, by omega⟩ h := by
  funext t c
  show G.SU _ _ _ = G.SU _ _ _
  congr 1
  apply Fin.ext; show 512 * (k % 4) + (128 * q.val + t.val) = 128 * (4 * (k % 4) + q.val) + t.val; omega
theorem pt_V (k : Nat) (q h : Fin 4) : (G.pt k).V q h = G.V ⟨k / 4 % 2, by omega⟩ ⟨4 * (k % 4) + q.val, by omega⟩ h := by
  funext t c
  show G.SU _ _ _ = G.SU _ _ _
  congr 1
  · apply Fin.ext; show 512 * (k % 4) + (128 * q.val + t.val) = 128 * (4 * (k % 4) + q.val) + t.val; omega
  · apply Fin.ext; show 256 + 64 * h.val + c.val = 256 + (64 * h.val + c.val); omega
theorem pt_C (k : Nat) (q h : Fin 4) : (G.pt k).C q h = G.C ⟨k / 4 % 2, by omega⟩ ⟨4 * (k % 4) + q.val, by omega⟩ h := by
  funext t c
  show G.CT _ _ _ = G.CT _ _ _
  congr 1
  apply Fin.ext; show 512 * (k % 4) + (128 * q.val + t.val) = 128 * (4 * (k % 4) + q.val) + t.val; omega
theorem pt_g (k : Nat) (h : Fin 4) : (G.pt k).g h = G.g h := rfl

theorem six (h : Fin 4) (c : Fin 64) (l : Fin 256) (hl : l.val = 64 * h.val + c.val) :
    ∑ k ∈ Finset.range 8, (G.pt k).inc6 l
      = ∑ p : Fin 2 × Fin 16 × Fin 128, Spec.xh (G.V p.1 p.2.1 h) p.2.2 c * Spec.dvn (G.U p.1 p.2.1 h) (G.C p.1 p.2.1 h) (G.WS h) p.2.2 c := by
  have eh : (⟨l.val / 64, by omega⟩ : Fin 4) = h := Fin.ext (by show l.val / 64 = h.val; omega)
  have ec : (⟨l.val % 64, by omega⟩ : Fin 64) = c := Fin.ext (by show l.val % 64 = c.val; omega)
  rw [Fintype.sum_prod_type]
  simp only [Fintype.sum_prod_type]
  rw [← sum_points (fun b n => ∑ s : Fin 128, Spec.xh (G.V b n h) s c * Spec.dvn (G.U b n h) (G.C b n h) (G.WS h) s c)]
  refine Finset.sum_congr rfl fun k _ => ?_
  unfold Real5.inc6
  rw [eh, ec]
  refine Finset.sum_congr rfl fun q _ => ?_
  unfold Real5.dg Spec.dg
  rw [pt_U, pt_V, pt_C]
  rfl

theorem seven (h : Fin 4) (t s : Fin 128) :
    ∑ k ∈ Finset.range 8, (G.pt k).inc7 h t s
      = if s.val ≤ t.val then ∑ p : Fin 2 × Fin 16 × Fin 64, Spec.dm (G.U p.1 p.2.1 h) (G.C p.1 p.2.1 h) t p.2.2 * Spec.vn (G.V p.1 p.2.1 h) (G.g h) s p.2.2 else 0 := by
  rw [Fintype.sum_prod_type]
  simp only [Fintype.sum_prod_type]
  rw [← sum_points (fun b n => ∑ c : Fin 64, Spec.dm (G.U b n h) (G.C b n h) t c * Spec.vn (G.V b n h) (G.g h) s c)]
  by_cases e : s.val ≤ t.val
  · rw [if_pos e]
    refine Finset.sum_congr rfl fun k _ => Finset.sum_congr rfl fun q _ => ?_
    unfold Real5.dw Spec.dw
    rw [if_pos e, pt_U, pt_V, pt_C, pt_g]
  · rw [if_neg e]
    refine Finset.sum_eq_zero fun k _ => Finset.sum_eq_zero fun q _ => ?_
    unfold Real5.dw Spec.dw
    rw [if_neg e]

theorem eight (t l : Fin 128) :
    ∑ k ∈ Finset.range 8, (G.pt k).inc8 t l
      = ∑ g : Fin 4, if l.val = g.val then ∑ p : Fin 2 × Fin 16 × Fin 64, Spec.dm (G.U p.1 p.2.1 g) (G.C p.1 p.2.1 g) t p.2.2 else 0 := by
  unfold Real5.inc8
  rw [Finset.sum_comm]
  refine Finset.sum_congr rfl fun g _ => ?_
  by_cases e : l.val = g.val
  · rw [if_pos e, Fintype.sum_prod_type]
    simp only [Fintype.sum_prod_type]
    rw [← sum_points (fun b n => ∑ c : Fin 64, Spec.dm (G.U b n g) (G.C b n g) t c)]
    refine Finset.sum_congr rfl fun k _ => ?_
    rw [if_pos e]
    refine Finset.sum_congr rfl fun q _ => ?_
    unfold Real5.db Spec.db
    rw [pt_U, pt_C]
  · rw [if_neg e]
    exact Finset.sum_eq_zero fun k _ => if_neg e

end Glob

end Cert.SgBwd

end
-- ==== Proof.Equal.lean ====
/- Hand-written, untrusted: THE TWO PROGRAMS' RESULTS AGREE. On finite arguments the argument arrays hold real numbers
   (`Glob.Holds`), and then each of the kernel's four result arrays (Final.lean) is the reference's (Ref2.lean). -/
module

public import proofs.«01_k».proof.Proof.Ref2
public import proofs.«01_k».proof.Defs
public import proofs.«01_k».proof.Proof.Gen.Pre_all_finite

@[expose] public section

set_option maxRecDepth 16384

noncomputable section

namespace Cert.SgBwd

open Cert.KernelIdeal Cert.KernelIdeal.Gen Cert.KernelIdeal.Value Cert.ReferenceIdeal.Read Idealize.ShloMosaic Idealize.ShloMosaic.TcCoe

variable {m : (ℓ : Loc nD τ sig) → Buf (Elt Ideal) ℓ} {c : Dev nD} {G : Glob}
  (H : G.Holds (A0 m c) (A1 m c) (A2 m c) (A3 m c) (A4 m c))
include H

theorem same6 : (dats m 0 c).arrAt 6 cfg0.N = val_main_v138 (F := Ideal) (A0 m c) (A2 m c) (A4 m c) := by
  rw [final6 H]
  funext y
  rw [eq_ix2 y]
  have hy : (y 1).val < 256 := (y 1).isLt
  let h : Fin 4 := ⟨(y 1).val / 64, by omega⟩
  let q : Fin 64 := ⟨(y 1).val % 64, by omega⟩
  have e : (y 1 : Fin 256) = Ref.lx h q := Fin.ext (by show (y 1).val = 64 * ((y 1).val / 64) + (y 1).val % 64; omega)
  refine Eq.trans ?_ ((Ref.rv138 H (y 0) h q).symm.trans (congrArg (fun l : Fin 256 => val_main_v138 (F := Ideal) (A0 m c) (A2 m c) (A4 m c) (ix2 (y 0) l)) e.symm))
  exact congrArg Real.toEReal (Glob.six G h q (y 1) (congrArg Fin.val e))

theorem same7 : (dats m 0 c).arrAt 7 cfg0.N = val_main_v86 (F := Ideal) (A0 m c) (A1 m c) (A4 m c) := by
  rw [final7 H]
  funext y
  rw [eq_ix3 y]
  refine Eq.trans ?_ (Ref.rv86 H (y 0) (y 1) (y 2)).symm
  exact congrArg Real.toEReal (Glob.seven G (y 0) (y 1) (y 2))

theorem same8 : (dats m 0 c).arrAt 8 cfg0.N = val_main_v140 (F := Ideal) (A0 m c) (A4 m c) := by
  rw [final8 H]
  funext y
  rw [eq_ix2 y]
  refine Eq.trans ?_ (Ref.rv140 H (y 0) (y 1)).symm
  exact congrArg Real.toEReal (Glob.eight G (y 0) (y 1))

/-- A number of the wide result's gradient lanes, at batch `b`, chunk `n`, row `s` and lane `l`. -/
theorem wide_at (b : Fin 2) (n : Fin 16) (s : Fin 128) (l : Fin 512) :
    ∃ (k : Nat) (hr : 128 * (n.val % 4) + s.val < 512), k = 4 * b.val + n.val / 4 ∧
      (dats m 0 c).arrAt 5 cfg0.N (ix3 b (Ref.sx n s) ⟨3072 + l.val, by omega⟩)
        = (((G.pt k).at5 (128 * (n.val % 4) + s.val) l.val hr l.isLt : ℝ) : EReal) := by
  have hb := b.isLt; have hn := n.isLt; have hs := s.isLt
  have hk : 4 * b.val + n.val / 4 < 8 := by omega
  refine ⟨4 * b.val + n.val / 4, by omega, rfl, ?_⟩
  refine Eq.trans ?_ (final5_hi H ⟨4 * b.val + n.val / 4, hk⟩ hk ⟨128 * (n.val % 4) + s.val, by omega⟩ l)
  refine congrArg ((dats m 0 c).arrAt 5 cfg0.N) ?_
  refine funext fun a => Fin.ext ?_
  match a with
  | ⟨0, _⟩ => show b.val = (4 * b.val + n.val / 4) / 4; omega
  | ⟨1, _⟩ => show 128 * n.val + s.val = 512 * ((4 * b.val + n.val / 4) % 4) + (128 * (n.val % 4) + s.val); omega
  | ⟨2, _⟩ => rfl

theorem same5_u (b : Fin 2) (n : Fin 16) (s : Fin 128) (h : Fin 4) (q : Fin 64) :
    (dats m 0 c).arrAt 5 cfg0.N (ix3 b (Ref.sx n s) ⟨3072 + (64 * h.val + q.val), by omega⟩)
      = ((Spec.du (G.U b n h) (G.V b n h) (G.C b n h) (G.g h) (G.WS h) (G.BS h) s q : ℝ) : EReal) := by
  have hb := b.isLt; have hn := n.isLt
  obtain ⟨k, hr, rfl, e⟩ := wide_at H b n s ⟨64 * h.val + q.val, by omega⟩
  refine e.trans (congrArg Real.toEReal ?_)
  rw [at5_lo _ ⟨n.val % 4, by omega⟩ h s q _ _ _ _ rfl rfl]
  unfold Real5.du
  rw [Glob.pt_U, Glob.pt_V, Glob.pt_C, Glob.pt_g]
  have eb : (⟨(4 * b.val + n.val / 4) / 4 % 2, by omega⟩ : Fin 2) = b := Fin.ext (by show (4 * b.val + n.val / 4) / 4 % 2 = b.val; omega)
  have en : (⟨4 * ((4 * b.val + n.val / 4) % 4) + n.val % 4, by omega⟩ : Fin 16) = n := Fin.ext (by show 4 * ((4 * b.val + n.val / 4) % 4) + n.val % 4 = n.val; omega)
  simp only [eb, en]
  rfl

theorem same5_v (b : Fin 2) (n : Fin 16) (s : Fin 128) (h : Fin 4) (q : Fin 64) :
    (dats m 0 c).arrAt 5 cfg0.N (ix3 b (Ref.sx n s) ⟨3328 + (64 * h.val + q.val), by omega⟩)
      = ((Spec.dv (G.U b n h) (G.V b n h) (G.C b n h) (G.g h) (G.WS h) s q : ℝ) : EReal) := by
  have hb := b.isLt; have hn := n.isLt
  obtain ⟨k, hr, rfl, e⟩ := wide_at H b n s ⟨256 + 64 * h.val + q.val, by omega⟩
  have el : (⟨3328 + (64 * h.val + q.val), by omega⟩ : Fin 3584) = ⟨3072 + (256 + 64 * h.val + q.val), by omega⟩ := Fin.ext (by show 3328 + (64 * h.val + q.val) = 3072 + (256 + 64 * h.val + q.val); omega)
  rw [el]
  refine e.trans (congrArg Real.toEReal ?_)
  rw [at5_hi _ ⟨n.val % 4, by omega⟩ h s q _ _ _ _ rfl rfl]
  unfold Real5.dv
  rw [Glob.pt_U, Glob.pt_V, Glob.pt_C, Glob.pt_g]
  have eb : (⟨(4 * b.val + n.val / 4) / 4 % 2, by omega⟩ : Fin 2) = b := Fin.ext (by show (4 * b.val + n.val / 4) / 4 % 2 = b.val; omega)
  have en : (⟨4 * ((4 * b.val + n.val / 4) % 4) + n.val % 4, by omega⟩ : Fin 16) = n := Fin.ext (by show 4 * ((4 * b.val + n.val / 4) % 4) + n.val % 4 = n.val; omega)
  simp only [eb, en]
  rfl

theorem same5_at (b : Fin 2) (s : Fin 2048) (l : Fin 3584) : (dats m 0 c).arrAt 5 cfg0.N (ix3 b s l)
    = val_main_v137 (F := Ideal) (A0 m c) (A1 m c) (A2 m c) (A3 m c) (A4 m c) (A5 m c) (ix3 b s l) := by
  by_cases hl : l.val < 3072
  · exact (final5_lo H b s l hl).trans (Ref.rv137_lo (A5 m c) b s l hl).symm
  · have hb := b.isLt; have hs := s.isLt; have hl' := l.isLt
    have es : s = Ref.sx ⟨s.val / 128, by omega⟩ ⟨s.val % 128, by omega⟩ := Fin.ext (by show s.val = 128 * (s.val / 128) + s.val % 128; omega)
    rw [es]
    by_cases h2 : l.val < 3328
    · have el : l = ⟨3072 + (64 * ((⟨(l.val - 3072) / 64, by omega⟩ : Fin 4)).val + ((⟨(l.val - 3072) % 64, by omega⟩ : Fin 64)).val), by show 3072 + (64 * ((l.val - 3072) / 64) + (l.val - 3072) % 64) < 3584; omega⟩ :=
        Fin.ext (by show l.val = 3072 + (64 * ((l.val - 3072) / 64) + (l.val - 3072) % 64); omega)
      rw [el]
      exact (same5_u H b _ _ ⟨(l.val - 3072) / 64, by omega⟩ ⟨(l.val - 3072) % 64, by omega⟩).trans (Ref.rv137_u H (A5 m c) b _ _ _ _).symm
    · have el : l = ⟨3328 + (64 * ((⟨(l.val - 3328) / 64, by omega⟩ : Fin 4)).val + ((⟨(l.val - 3328) % 64, by omega⟩ : Fin 64)).val), by show 3328 + (64 * ((l.val - 3328) / 64) + (l.val - 3328) % 64) < 3584; omega⟩ :=
        Fin.ext (by show l.val = 3328 + (64 * ((l.val - 3328) / 64) + (l.val - 3328) % 64); omega)
      rw [el]
      exact (same5_v H b _ _ ⟨(l.val - 3328) / 64, by omega⟩ ⟨(l.val - 3328) % 64, by omega⟩).trans (Ref.rv137_v H (A5 m c) b _ _ _ _).symm

theorem same5 : (dats m 0 c).arrAt 5 cfg0.N
    = val_main_v137 (F := Ideal) (A0 m c) (A1 m c) (A2 m c) (A3 m c) (A4 m c) (A5 m c) := by
  funext y
  rw [eq_ix3 y]
  exact same5_at H (y 0) (y 1) (y 2)

omit H

/-! ### Finite arguments -/

/-- An element whose magnitude compares below infinity is a real number. -/
theorem finite_of {x : EReal} (h : Ideal.cmp .olt (max x (-x)) (Ideal.ofBits .f32 0x7F800000#32) = 1#1) : ((x.toReal : ℝ) : EReal) = x := by
  have htop : Ideal.ofBits .f32 0x7F800000#32 = ⊤ := by simp [Ideal.ofBits, Ideal.ieee]
  rw [htop] at h
  have hlt : max x (-x) < ⊤ := by
    by_contra hn
    simp [Ideal.cmp, hn] at h
  rw [max_lt_iff] at hlt
  refine EReal.coe_toReal (ne_of_lt hlt.1) fun hb => ?_
  rw [hb] at hlt
  simp at hlt

/-- The real numbers of device `c`'s arguments. -/
def globOf (m : (ℓ : Loc nD τ sig) → Buf (Elt Ideal) ℓ) (c : Dev nD) : Glob where
  SU b s l := (A0 m c (ix3 b s l) : EReal).toReal
  GA l := (A1 m c (ix1 l) : EReal).toReal
  WS h t s := (A2 m c (ix3 h t s) : EReal).toReal
  BS h t := (A3 m c (ix2 h t) : EReal).toReal
  CT b s l := (A4 m c (ix3 b s l) : EReal).toReal

theorem holds_of_pre (hp : Cert.Pre_KernelIdeal_all_finite m) (c : Dev nD) :
    (globOf m c).Holds (A0 m c) (A1 m c) (A2 m c) (A3 m c) (A4 m c) := by
  obtain ⟨h0, h1, h2, h3, h4⟩ := hp c
  exact ⟨fun b s l => (finite_of (congrFun h0 (ix3 b s l))).symm, fun l => (finite_of (congrFun h1 (ix1 l))).symm,
    fun h t s => (finite_of (congrFun h2 (ix3 h t s))).symm, fun h t => (finite_of (congrFun h3 (ix2 h t))).symm,
    fun b s l => (finite_of (congrFun h4 (ix3 b s l))).symm⟩

end Cert.SgBwd

end
-- ==== Proof.Mat.lean ====
/- Hand-written, untrusted: THE THREE MATRIX PRODUCTS at an index, as sums over the contracted axis, in the exact values: plain, with the
   right operand transposed, with the left operand transposed; by the kernels' operation from a zero accumulator and by the host's. And a
   sum over the rows split into consecutive stretches. -/
module

public import Idealize.ShloMosaic.Lib.KernelVsHost
public import Idealize.ShloMosaic.Lib.MatmulPlain
public import Idealize.ShloMosaic.Lib.Pointwise
public import Idealize.ShloMosaic.Lib.Quiescent

@[expose] public section

set_option maxRecDepth 16384

noncomputable section

namespace Cert.Mat

open Idealize.ShloMosaic
open Idealize.ShloMosaic.ValueIdx (contrEquiv1 contrEquiv1_symm_val)

theorem off2 : (![0, 0] : Fin 2 → Nat) = fun _ => 0 := funext fun a => by fin_cases a <;> rfl
theorem off3 : (![0, 0, 0] : Fin 3 → Nat) = fun _ => 0 := funext fun a => by fin_cases a <;> rfl

/-- The zero word is zero. -/
theorem zero_word : (Ideal.ofBits .f32 0x00000000#32 : EReal) = 0 := Ideal.ofBits_zero_f32

/-! ### Left operand transposed -/

/-- `[K,M]` by `[K,N]` over their first axes. -/
def tn (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp,
    (by decide : (([] ++ [1] ++ [0] : List (Fin 2))).Perm (List.finRange 2)),
    (by decide : (([] ++ [1] ++ [0] : List (Fin 2))).Perm (List.finRange 2)),
    rfl, by show 0 < 2; decide, fun a => by fin_cases a <;> rfl⟩

theorem tn_rank (M K N : ℕ) : (tn M K N).contr.rank = 1 := rfl
theorem tn_size (M K N : ℕ) : (tn M K N).contr.size ⟨0, by rw [tn_rank]; exact Nat.one_pos⟩ = K := rfl

theorem mm_tn {M K N : ℕ} {φ₁ φ₂ : FTy} (prec : Option ContractPrecision) (a : FVec Ideal ⟨2, ![K, M]⟩ φ₁) (b : FVec Ideal ⟨2, ![K, N]⟩ φ₂)
    (acc : FVec Ideal ⟨2, ![M, N]⟩ .f32) (r : Fin M) (c : Fin N) :
    (matmul (tn M K N) prec a b acc (ix2 r c) : EReal) = acc (ix2 r c) + ∑ k : Fin K, a (ix2 k r) * b (ix2 k c) := by
  show FloatOps.matmul (tn M K N) prec a b acc (ix2 r c) = _
  rw [Ideal.matmul_apply, ← Equiv.sum_comp (contrEquiv1 _ K (tn_rank M K N) (tn_size M K N)).symm]
  refine congrArg (acc (ix2 r c) + ·) (Finset.sum_congr rfl fun k _ => ?_)
  have hk := contrEquiv1_symm_val _ K (tn_rank M K N) (tn_size M K N) k
  have el : (tn M K N).lhsIdx (ix2 r c) ((contrEquiv1 _ K (tn_rank M K N) (tn_size M K N)).symm k) = ix2 k r := by
    funext a; apply Fin.ext
    match a with
    | ⟨0, _⟩ => exact hk
    | ⟨1, _⟩ => rfl
  have er : (tn M K N).rhsIdx (ix2 r c) ((contrEquiv1 _ K (tn_rank M K N) (tn_size M K N)).symm k) = ix2 k c := by
    funext a; apply Fin.ext
    match a with
    | ⟨0, _⟩ => exact hk
    | ⟨1, _⟩ => rfl
  rw [el, er]

/-! ### The three, from a zero accumulator -/

theorem kmm {M K N : ℕ} {φ₁ φ₂ : FTy} (prec : Option ContractPrecision) (a : FVec Ideal ⟨2, ![M, K]⟩ φ₁) (b : FVec Ideal ⟨2, ![K, N]⟩ φ₂)
    (r : Fin M) (c : Fin N) :
    (matmul (DotDims.plain M K N) prec a b (constant ⟨2, ![M, N]⟩ .f32 0x00000000#32) (ix2 r c) : EReal) = ∑ k : Fin K, a (ix2 r k) * b (ix2 k c) := by
  refine (Ideal.matmul_plain_apply prec a b _ r c).trans ?_
  exact (congrArg (· + _) zero_word).trans (zero_add _)

theorem kmm_nt {M K N : ℕ} {φ₁ φ₂ : FTy} (prec : Option ContractPrecision) (a : FVec Ideal ⟨2, ![M, K]⟩ φ₁) (b : FVec Ideal ⟨2, ![N, K]⟩ φ₂)
    (r : Fin M) (c : Fin N) :
    (matmul (DotDims.transposedRhs M K N) prec a b (constant ⟨2, ![M, N]⟩ .f32 0x00000000#32) (ix2 r c) : EReal)
      = ∑ k : Fin K, a (ix2 r k) * b (ix2 c k) := by
  refine (Ideal.matmul_transposedRhs_apply prec a b _ r c).trans ?_
  exact (congrArg (· + _) zero_word).trans (zero_add _)

theorem kmm_tn {M K N : ℕ} {φ₁ φ₂ : FTy} (prec : Option ContractPrecision) (a : FVec Ideal ⟨2, ![K, M]⟩ φ₁) (b : FVec Ideal ⟨2, ![K, N]⟩ φ₂)
    (r : Fin M) (c : Fin N) :
    (matmul (tn M K N) prec a b (constant ⟨2, ![M, N]⟩ .f32 0x00000000#32) (ix2 r c) : EReal) = ∑ k : Fin K, a (ix2 k r) * b (ix2 k c) := by
  refine (mm_tn prec a b _ r c).trans ?_
  exact (congrArg (· + _) zero_word).trans (zero_add _)

theorem hmm {M K N : ℕ} {φ₁ φ₂ : FTy} (prec : Option ContractPrecision) (a : FVec Ideal ⟨2, ![M, K]⟩ φ₁) (b : FVec Ideal ⟨2, ![K, N]⟩ φ₂)
    (r : Fin M) (c : Fin N) : (Host.dotGeneral (DotDims.plain M K N) prec a b (ix2 r c) : EReal) = ∑ k : Fin K, a (ix2 r k) * b (ix2 k c) := by
  rw [← matmul_zero_eq_dotGeneral]; exact kmm prec a b r c

theorem hmm_nt {M K N : ℕ} {φ₁ φ₂ : FTy} (prec : Option ContractPrecision) (a : FVec Ideal ⟨2, ![M, K]⟩ φ₁) (b : FVec Ideal ⟨2, ![N, K]⟩ φ₂)
    (r : Fin M) (c : Fin N) : (Host.dotGeneral (DotDims.transposedRhs M K N) prec a b (ix2 r c) : EReal) = ∑ k : Fin K, a (ix2 r k) * b (ix2 c k) := by
  rw [← matmul_zero_eq_dotGeneral]; exact kmm_nt prec a b r c

theorem hmm_tn {M K N : ℕ} {φ₁ φ₂ : FTy} (prec : Option ContractPrecision) (a : FVec Ideal ⟨2, ![K, M]⟩ φ₁) (b : FVec Ideal ⟨2, ![K, N]⟩ φ₂)
    (r : Fin M) (c : Fin N) : (Host.dotGeneral (tn M K N) prec a b (ix2 r c) : EReal) = ∑ k : Fin K, a (ix2 k r) * b (ix2 k c) := by
  rw [← matmul_zero_eq_dotGeneral]; exact kmm_tn prec a b r c

/-! ### Sums split -/

/-- A sum over 4096 positions is the sum of its two halves. -/
theorem sum_halves {M : Type*} [AddCommMonoid M] (f : Fin 4096 → M) :
    ∑ k : Fin 4096, f k = (∑ k : Fin 2048, f ⟨k.val, by omega⟩) + ∑ k : Fin 2048, f ⟨2048 + k.val, by omega⟩ :=
  Fin.sum_univ_add (a := 2048) (b := 2048) f

/-- A sum over 4096 positions is the sum of its four stretches of 1024. -/
theorem sum_quarters {M : Type*} [AddCommMonoid M] (f : Fin 4096 → M) :
    ∑ k : Fin 4096, f k = (∑ k : Fin 1024, f ⟨k.val, by omega⟩) + (∑ k : Fin 1024, f ⟨1024 + k.val, by omega⟩)
      + (∑ k : Fin 1024, f ⟨2048 + k.val, by omega⟩) + ∑ k : Fin 1024, f ⟨3072 + k.val, by omega⟩ := by
  have h1 := Fin.sum_univ_add (a := 3072) (b := 1024) f
  have h2 := Fin.sum_univ_add (a := 2048) (b := 1024) (fun k => f (Fin.castAdd 1024 k))
  have h3 := Fin.sum_univ_add (a := 1024) (b := 1024) (fun k => f (Fin.castAdd 1024 (Fin.castAdd 1024 k)))
  rw [h1, h2, h3]
  rfl

/-- A sum over `n * b` positions as `n` stretches of `b`. -/
theorem sum_stretch {M : Type*} [AddCommMonoid M] (n b : ℕ) (f : Fin (n * b) → M) :
    ∑ k : Fin (n * b), f k = ∑ t : Fin n, ∑ r : Fin b, f (finProdFinEquiv (t, r)) := by
  rw [← finProdFinEquiv.sum_comp]
  exact Fintype.sum_prod_type _

/-- A sum over 4096 rows as sixteen stretches of 256. -/
theorem sum_blocks {M : Type*} [AddCommMonoid M] (f : Fin 4096 → M) :
    ∑ k : Fin 4096, f k = ∑ t : Fin 16, ∑ r : Fin 256, f ⟨256 * t.val + r.val, by omega⟩ := by
  refine (sum_stretch 16 256 f).trans (Finset.sum_congr rfl fun t _ => Finset.sum_congr rfl fun r _ => congrArg f (Fin.ext ?_))
  show r.val + 256 * t.val = 256 * t.val + r.val
  omega

end Cert.Mat

end
-- ==== Proof.Norm.lean ====
/- Hand-written, untrusted: THE ROW NORM's factor, one over the root of a row's mean square, as both programs compute it. -/
module

public import proofs.«01_k».proof.Proof.Mat

@[expose] public section

noncomputable section

namespace Cert.Mat

open Idealize.ShloMosaic

/-- One over the root of the mean square of a row of 1024 (with the norm's epsilon). -/
def rs (f : Fin 1024 → EReal) : EReal :=
  Ideal.rsqrt (Ideal.div (∑ k : Fin 1024, f k * f k) (Ideal.ofBits .f32 0x44800000#32) + Ideal.ofBits .f32 0x358637BD#32)

end Cert.Mat

end
-- ==== Proof.NormBwd.lean ====
/- Hand-written, untrusted: THE GRADIENT OF THE NORM OF A ROW. The kernels take the mean of the cotangent times the normalised row out of the
   cotangent and scale; the reference adds the cotangent of the row itself and twice the row times the cotangent of its mean square. On real
   rows the two agree. -/
module

public import proofs.«01_k».proof.Proof.Norm
public import proofs.«01_k».proof.Proof.Spec

@[expose] public section

noncomputable section

namespace Cert.Mat

open Idealize.ShloMosaic Cert.SgBwd

/-- The extended real is a real number. -/
def Re (x : EReal) : Prop := ∃ a : ℝ, x = (a : EReal)

theorem Re.mul {x y : EReal} : Re x → Re y → Re (x * y)
  | ⟨a, ha⟩, ⟨b, hb⟩ => ⟨a * b, by rw [ha, hb, EReal.coe_mul]⟩
theorem Re.add {x y : EReal} : Re x → Re y → Re (x + y)
  | ⟨a, ha⟩, ⟨b, hb⟩ => ⟨a + b, by rw [ha, hb, EReal.coe_add]⟩
theorem Re.max0 {x : EReal} : Re x → Re (max x 0)
  | ⟨a, ha⟩ => ⟨max a 0, by
    rw [ha]
    rcases le_total a 0 with h | h
    · rw [max_eq_right h, max_eq_right (by exact_mod_cast h)]; rfl
    · rw [max_eq_left h, max_eq_left (by exact_mod_cast h)]⟩
theorem Re.sum {ι : Type*} (s : Finset ι) (f : ι → EReal) (h : ∀ i, Re (f i)) : Re (∑ i ∈ s, f i) := by
  choose g hg using h
  exact ⟨∑ i ∈ s, g i, by rw [coe_sum]; exact Finset.sum_congr rfl fun i _ => hg i⟩
theorem Re.zero : Re 0 := ⟨0, rfl⟩

/-- What the precondition's comparison says of an element. -/
theorem Re.of_cmp {x : EReal} (h : Ideal.cmp .olt (max x (-x)) (Ideal.ofBits .f32 0x7F800000#32) = 1#1) : Re x := by
  have hinf : Ideal.ofBits .f32 0x7F800000#32 = ⊤ := by simp [Ideal.ofBits, Ideal.ieee]
  rw [hinf] at h
  induction x with
  | bot => simp [Ideal.cmp] at h
  | top => simp [Ideal.cmp] at h
  | coe a => exact ⟨a, rfl⟩

theorem word_1024 : Ideal.ofBits .f32 0x44800000#32 = ((1024 : ℝ) : EReal) := by
  simp [Ideal.ofBits, Ideal.ieee, -EReal.coe_mul]; norm_num

/-- A row's mean square plus epsilon. -/
def vv (f : Fin 1024 → EReal) : EReal := Ideal.div (∑ k, f k * f k) (Ideal.ofBits .f32 0x44800000#32) + Ideal.ofBits .f32 0x358637BD#32

theorem vv_coe (X : Fin 1024 → ℝ) : vv (fun k => (X k : EReal)) = (((∑ k, X k * X k) / 1024 + cE : ℝ) : EReal) := by
  unfold vv
  rw [word_1024, word_cE, EReal.coe_add, ← div_coe _ (by norm_num : (1024 : ℝ) ≠ 0), coe_sum]
  simp only [EReal.coe_mul]

theorem vv_pos (X : Fin 1024 → ℝ) : 0 < (∑ k, X k * X k) / 1024 + cE := by
  have h : 0 ≤ ∑ k, X k * X k := Finset.sum_nonneg fun k _ => mul_self_nonneg _
  have := cE_pos
  positivity

theorem rs_coe (X : Fin 1024 → ℝ) : rs (fun k => (X k : EReal)) = (((Real.sqrt ((∑ k, X k * X k) / 1024 + cE))⁻¹ : ℝ) : EReal) := by
  rw [show rs (fun k => (X k : EReal)) = Ideal.rsqrt (vv fun k => (X k : EReal)) from rfl, vv_coe, rsqrt_coe (vv_pos X)]

/-- A normalised row is real. -/
theorem Re.norm {f : Fin 1024 → EReal} (hf : ∀ k, Re (f k)) : Re (rs f) := by
  choose X hX using hf
  exact ⟨_, (congrArg rs (funext hX)).trans (rs_coe X)⟩

/-- The reference's cotangent of the row's mean square, over 1024. -/
def dms (x d : Fin 1024 → EReal) : EReal :=
  Ideal.div ((∑ k, x k * d k) * (Ideal.ofBits .f32 0xBF000000#32 * Ideal.div (rs x) (vv x))) (Ideal.ofBits .f32 0x44800000#32)

theorem norm_bwd {x d : Fin 1024 → EReal} (hx : ∀ k, Re (x k)) (hd : ∀ k, Re (d k)) (R : EReal) (l : Fin 1024) :
    R + rs x * (d l - x l * rs x * Ideal.div (∑ k, d k * (x k * rs x)) (Ideal.ofBits .f32 0x44800000#32))
      = R + d l * rs x + x l * dms x d + dms x d * x l := by
  choose X hX using hx
  choose D hD using hd
  obtain rfl : x = fun k => (X k : EReal) := funext hX
  obtain rfl : d = fun k => (D k : EReal) := funext hD
  have hv := vv_pos X
  have hms := vv_coe X
  have hrs := rs_coe X
  generalize hvd : (∑ k, X k * X k) / 1024 + cE = v at hv hms hrs
  generalize hrd : (Real.sqrt v)⁻¹ = r at hrs
  have hr : v⁻¹ = r * r := by
    rw [← hrd, ← mul_inv, Real.mul_self_sqrt hv.le]
  have e1 : Ideal.div (∑ k, (D k : EReal) * ((X k : EReal) * rs fun k => (X k : EReal))) (Ideal.ofBits .f32 0x44800000#32) = (((∑ k, D k * (X k * r)) / 1024 : ℝ) : EReal) := by
    rw [hrs, word_1024, ← div_coe _ (by norm_num : (1024 : ℝ) ≠ 0), coe_sum]
    simp only [EReal.coe_mul]
  have e2 : dms (fun k => (X k : EReal)) (fun k => (D k : EReal)) = ((((∑ k, X k * D k) * (-1 / 2 * (r / v))) / 1024 : ℝ) : EReal) := by
    unfold dms
    rw [hrs, hms, word_1024, word_neg_half, div_coe _ hv.ne', ← EReal.coe_mul, ← div_coe _ (by norm_num : (1024 : ℝ) ≠ 0), EReal.coe_mul (∑ k, X k * D k), coe_sum]
    simp only [EReal.coe_mul]
  rw [e1, e2, hrs, add_assoc, add_assoc]
  refine congrArg (fun z : EReal => R + z) ?_
  dsimp only
  rw [← EReal.coe_mul, ← EReal.coe_mul, ← EReal.coe_sub, ← EReal.coe_mul, ← EReal.coe_mul, ← EReal.coe_mul, ← EReal.coe_mul, ← EReal.coe_add, ← EReal.coe_add]
  refine congrArg _ ?_
  have hs : ∑ k, D k * (X k * r) = (∑ k, X k * D k) * r := by
    rw [Finset.sum_mul]; exact Finset.sum_congr rfl fun k _ => by ring
  rw [hs, div_eq_mul_inv r v, hr]
  ring

end Cert.Mat

end
-- ==== Proof.FfnBwdPay.lean ====
/- Hand-written, untrusted: THE FEED-FORWARD BACKWARD CALL (two products in four chunks, the rectifier's gradient, the norm's gradient) writes, block by block, the rows of the reference's results: what one block computes. -/
module

public import proofs.«01_k».proof.Proof.Mat
public import proofs.«01_k».proof.Proof.NormBwd
public import proofs.«01_k».proof.Proof.Gen.FfnBwdIdeal.Value
public import proofs.«01_k».proof.Proof.Gen.FfnBwdRefIdeal.Run
public import proofs.«01_k».proof.Proof.Gen.FfnBwdRefIdeal.Read
public import proofs.«01_k».proof.Defs

@[expose] public section

set_option maxRecDepth 16384

noncomputable section

namespace Cert.FfnBwdVal

open Cert.FfnBwdIdeal Cert.FfnBwdIdeal.Gen Cert.FfnBwdIdeal.Value Cert.Mat Idealize.ShloMosaic Idealize.ShloMosaic.TcCoe Idealize.SL.Sem
open Idealize.ShloMosaic.Tactic

abbrev X0 := Vec Ideal S256x1024 .f32
abbrev X1 := Vec Ideal S1x1024 .f32
abbrev XR := Vec Ideal S256x4096 .bf16
abbrev XB := Vec Ideal S256x1024 .bf16
abbrev W1 := Vec Ideal S4x1024x1024 .bf16
abbrev W2 := Vec Ideal S4096x1024 .bf16
abbrev C1 := Vec Ideal S1x1024x1024 .bf16
abbrev C2 := Vec Ideal S1024x1024 .bf16

abbrev two : EReal := Ideal.ofBits .f32 0x40000000#32

theorem two_re : Re two := by
  refine ⟨2, ?_⟩
  unfold two
  simp [Ideal.ofBits, Ideal.ieee, -EReal.coe_mul]; norm_num

theorem rs_at (x0 : X0) (r : Fin 256) : (k0_pay4 (F := Ideal) x0 (ix2 r 0) : EReal) = rs (fun k => x0 (ix2 r k)) := by
  unfold k0_pay4
  simp only [pointwise]
  rfl
theorem xn_at (x0 : X0) (r : Fin 256) (l : Fin 1024) : (k0_pay5 (F := Ideal) x0 (ix2 r l) : EReal) = x0 (ix2 r l) * rs (fun k => x0 (ix2 r k)) := by
  refine Eq.trans ?_ (congrArg (fun z : EReal => (x0 (ix2 r l) : EReal) * z) (rs_at x0 r))
  unfold k0_pay5
  simp only [pointwise]
  rfl
theorem hh_at (x0 : X0) (x1 : X1) (r : Fin 256) (l : Fin 1024) : (k0_pay7 (F := Ideal) x0 x1 (ix2 r l) : EReal) = x0 (ix2 r l) * rs (fun k => x0 (ix2 r k)) * x1 (ix2 0 l) := by
  refine Eq.trans ?_ (congrArg (fun z : EReal => z * (x1 (ix2 0 l) : EReal)) (xn_at x0 r l))
  unfold k0_pay7 k0_pay6
  simp only [pointwise]
  rfl
theorem acc_zero (l : Fin 1024) : (k0_pay2 (F := Ideal) (ix2 0 l) : EReal) = 0 := by
  unfold k0_pay2
  exact zero_word
theorem acc_at (v : FVec Ideal S256x1024 .f32) (y : FVec Ideal S256x1024 .f32) (a : X1) (l : Fin 1024) :
    (k0_pay3 (F := Ideal) v y a (ix2 0 l) : EReal) = a (ix2 0 l) + ∑ r : Fin 256, y (ix2 r l) * v (ix2 r l) := by
  unfold k0_pay3
  simp only [pointwise]

theorem pay1_at (u : FVec Ideal S256x1 .f32) (x : FVec Ideal S256x1024 .f32) (ct : X0) (y : FVec Ideal S256x1024 .f32) (w : FVec Ideal S256x1024 .f32) (r : Fin 256) (l : Fin 1024) :
    (k0_pay1 (F := Ideal) u x ct y w (ix2 r l) : EReal) = ct (ix2 r l) + u (ix2 r 0) * (y (ix2 r l) - x (ix2 r l) * Ideal.div (∑ k, (w (ix2 r k) : EReal)) (Ideal.ofBits .f32 0x44800000#32)) := by
  unfold k0_pay1
  simp only [pointwise]
  rfl

/-! ### A chunk -/

theorem wid_at (v : XB) (r : Fin 256) (j : Fin 1024) : (k0_pay10 (F := Ideal) v (ix2 r j) : EReal) = v (ix2 r j) := by
  unfold k0_pay10
  rw [shapeCast_id]
  rfl

/-- One entry of a chunk of the hidden gradient. -/
def dfc (ct : X0) (b : C2) (v : XB) (r : Fin 256) (j : Fin 1024) : EReal := (∑ l : Fin 1024, ct (ix2 r l) * b (ix2 j l)) * (two * v (ix2 r j))

theorem df_gen (ct : X0) (b : C2) (v : XB) (r : Fin 256) (j : Fin 1024) :
    (mulf (matmul (F := Ideal) (φ₂ := .bf16) dot_S256x1024_S1024x1024_S256x1024_1_1_0_0_n_n none (k0_pay8 (F := Ideal) ct) b (constant (F := Ideal) S256x1024 .f32 0x00000000#32)) (mulf (broadcast S256x1024 (Scalar.ofBits (F := Ideal) .f32 0x40000000#32)) (k0_pay10 (F := Ideal) v)) (ix2 r j) : EReal) = dfc ct b v r j :=
  congr (congrArg HMul.hMul (kmm_nt (φ₁ := .bf16) (φ₂ := .bf16) (M := 256) (K := 1024) (N := 1024) none (k0_pay8 (F := Ideal) ct) b r j)) (congrArg (fun z : EReal => two * z) (wid_at v r j))

theorem df0_at (ct : X0) (b : C2) (v : XB) (r : Fin 256) (j : Fin 1024) : (k0_pay13 (F := Ideal) (k0_pay10 v) (k0_pay12 ct b) (ix2 r j) : EReal) = dfc ct b v r j := df_gen ct b v r j
theorem df1_at (ct : X0) (b : C2) (v : XB) (r : Fin 256) (j : Fin 1024) : (k0_pay16 (F := Ideal) (k0_pay8 ct) v b (ix2 r j) : EReal) = dfc ct b v r j := df_gen ct b v r j
theorem df2_at (ct : X0) (b : C2) (v : XB) (r : Fin 256) (j : Fin 1024) : (k0_pay20 (F := Ideal) (k0_pay8 ct) (k0_pay18 v) b (ix2 r j) : EReal) = dfc ct b v r j := df_gen ct b v r j
theorem df3_at (ct : X0) (b : C2) (v : XB) (r : Fin 256) (j : Fin 1024) : (k0_pay23 (F := Ideal) (k0_pay8 ct) v b (ix2 r j) : EReal) = dfc ct b v r j := df_gen ct b v r j

theorem sq0_at (v : XB) (r : Fin 256) (j : Fin 1024) : (k0_pay11 (F := Ideal) v (ix2 r j) : EReal) = v (ix2 r j) * v (ix2 r j) := congr (congrArg HMul.hMul (wid_at v r j)) (wid_at v r j)
theorem sq1_at (v : XB) (r : Fin 256) (j : Fin 1024) : (k0_pay15 (F := Ideal) v (ix2 r j) : EReal) = v (ix2 r j) * v (ix2 r j) := congr (congrArg HMul.hMul (wid_at v r j)) (wid_at v r j)
theorem sq2_at (v : XB) (r : Fin 256) (j : Fin 1024) : (k0_pay19 (F := Ideal) v (ix2 r j) : EReal) = v (ix2 r j) * v (ix2 r j) := congr (congrArg HMul.hMul (wid_at v r j)) (wid_at v r j)
theorem sq3_at (v : XB) (r : Fin 256) (j : Fin 1024) : (k0_pay22 (F := Ideal) v (ix2 r j) : EReal) = v (ix2 r j) * v (ix2 r j) := congr (congrArg HMul.hMul (wid_at v r j)) (wid_at v r j)

/-- A chunk of the hidden gradient times a chunk of the first weight. -/
theorem chunk_at (v : FVec Ideal S256x1024 .bf16) (f : Fin 256 → Fin 1024 → EReal) (hv : ∀ r j, (v (ix2 r j) : EReal) = f r j) (a : C1) (r : Fin 256) (l : Fin 1024) :
    (matmul (F := Ideal) dot_S256x1024_S1024x1024_S256x1024_1_1_0_0_n_n none v (shapeCast S1024x1024 a shapeCasts_S1x1024x1024_S1024x1024 : FVec Ideal S1024x1024 .bf16) (constant (F := Ideal) S256x1024 .f32 0x00000000#32) (ix2 r l) : EReal)
      = ∑ j : Fin 1024, f r j * a (ix3 0 l j) := by
  refine (kmm_nt (φ₁ := .bf16) (φ₂ := .bf16) (M := 256) (K := 1024) (N := 1024) none _ _ r l).trans (Finset.sum_congr rfl fun j _ => ?_)
  refine (congrArg (fun z : EReal => z * _) (hv r j)).trans (congrArg (fun z : EReal => f r j * z) ?_)
  simp only [pointwise]

/-- The gradient of the norm's output, from the four chunks. -/
theorem dh4_at (ct : X0) (v0 v1 v2 v3 : XB) (b0 b1 b2 b3 : C2) (a0 a1 a2 a3 : C1) (r : Fin 256) (l : Fin 1024) :
    (k0_pay24 (F := Ideal) (k0_pay8 ct) (k0_pay17 (k0_pay8 ct) k0_pay9 (k0_pay10 v0) (k0_pay12 ct b0) a0 v1 b1 a1) (k0_pay18 v2) b2 a2 v3 b3 a3 (ix2 r l) : EReal)
      = (∑ j : Fin 1024, dfc ct b0 v0 r j * a0 (ix3 0 l j)) + (∑ j : Fin 1024, dfc ct b1 v1 r j * a1 (ix3 0 l j)) + (∑ j : Fin 1024, dfc ct b2 v2 r j * a2 (ix3 0 l j)) + ∑ j : Fin 1024, dfc ct b3 v3 r j * a3 (ix3 0 l j) :=
  congr (congrArg HAdd.hAdd (congr (congrArg HAdd.hAdd (congr (congrArg HAdd.hAdd ((congr (congrArg HAdd.hAdd zero_word)
    (chunk_at (k0_pay13 (k0_pay10 v0) (k0_pay12 ct b0)) (dfc ct b0 v0) (df0_at ct b0 v0) a0 r l)).trans (zero_add _)))
    (chunk_at (k0_pay16 (k0_pay8 ct) v1 b1) (dfc ct b1 v1) (df1_at ct b1 v1) a1 r l)))
    (chunk_at (k0_pay20 (k0_pay8 ct) (k0_pay18 v2) b2) (dfc ct b2 v2) (df2_at ct b2 v2) a2 r l)))
    (chunk_at (k0_pay23 (k0_pay8 ct) v3 b3) (dfc ct b3 v3) (df3_at ct b3 v3) a3 r l)

theorem dxn_at (x1 : X1) (ct : X0) (v0 v1 v2 v3 : XB) (b0 b1 b2 b3 : C2) (a0 a1 a2 a3 : C1) (r : Fin 256) (l : Fin 1024) :
    (k0_pay25 (F := Ideal) (k0_pay6 x1) (k0_pay8 ct) (k0_pay17 (k0_pay8 ct) k0_pay9 (k0_pay10 v0) (k0_pay12 ct b0) a0 v1 b1 a1) (k0_pay18 v2) b2 a2 v3 b3 a3 (ix2 r l) : EReal) = k0_pay24 (F := Ideal) (k0_pay8 ct) (k0_pay17 (k0_pay8 ct) k0_pay9 (k0_pay10 v0) (k0_pay12 ct b0) a0 v1 b1 a1) (k0_pay18 v2) b2 a2 v3 b3 a3 (ix2 r l) * x1 (ix2 0 l) := by
  unfold k0_pay25 k0_pay6
  simp only [pointwise]
  rfl

/-! ### The whole -/

/-- The hidden gradient at a column of the whole. -/
def df (ct : X0) (v : W2) (x2 : XR) (r : Fin 256) (q : Fin 4096) : EReal := (∑ l : Fin 1024, ct (ix2 r l) * v (ix2 q l)) * (two * x2 (ix2 r q))

/-- The gradient of the norm's output. -/
def dh (ct : X0) (w : W1) (v : W2) (x2 : XR) (r : Fin 256) (l : Fin 1024) : EReal :=
  ∑ q : Fin 4096, df ct v x2 r q * w (ix3 (⟨q.val / 1024, by omega⟩ : Fin 4) l (⟨q.val % 1024, by omega⟩ : Fin 1024))

theorem r_0 (x2 : XR) (r : Fin 256) (j : Fin 1024) : ((View.ld (Val := Elt Ideal) x2 (Rect.unit ![0, 0] ![256, 1024] inb_S256x4096_S256x1024_0_0)) (ix2 r j) : EReal) = x2 (ix2 r ⟨j.val, by omega⟩) := by
  refine congrArg x2 (funext fun a => Fin.ext ?_)
  match a with
  | ⟨0, _⟩ => show 0 + 1 * r.val = r.val; omega
  | ⟨1, _⟩ => show 0 + 1 * j.val = j.val; omega
theorem v_0 (v : W2) (j : Fin 1024) (l : Fin 1024) : ((View.ld (Val := Elt Ideal) v (Rect.unit ![0, 0] ![1024, 1024] inb_S4096x1024_S1024x1024_0_0)) (ix2 j l) : EReal) = v (ix2 ⟨j.val, by omega⟩ l) := by
  refine congrArg v (funext fun a => Fin.ext ?_)
  match a with
  | ⟨0, _⟩ => show 0 + 1 * j.val = j.val; omega
  | ⟨1, _⟩ => show 0 + 1 * l.val = l.val; omega
theorem w_0 (w : W1) (l : Fin 1024) (j : Fin 1024) : ((View.ld (Val := Elt Ideal) w (Rect.unit ![0, 0, 0] ![1, 1024, 1024] inb_S4x1024x1024_S1x1024x1024_0_0_0)) (ix3 0 l j) : EReal) = w (ix3 (⟨(j.val) / 1024, by omega⟩ : Fin 4) l (⟨(j.val) % 1024, by omega⟩ : Fin 1024)) := by
  refine congrArg w (funext fun a => Fin.ext ?_)
  match a with
  | ⟨0, _⟩ => show 0 + 1 * 0 = (j.val) / 1024; omega
  | ⟨1, _⟩ => show 0 + 1 * l.val = l.val; omega
  | ⟨2, _⟩ => show 0 + 1 * j.val = (j.val) % 1024; omega
theorem df_0 (ct : X0) (v : W2) (x2 : XR) (r : Fin 256) (j : Fin 1024) : dfc ct (View.ld (Val := Elt Ideal) v (Rect.unit ![0, 0] ![1024, 1024] inb_S4096x1024_S1024x1024_0_0)) (View.ld (Val := Elt Ideal) x2 (Rect.unit ![0, 0] ![256, 1024] inb_S256x4096_S256x1024_0_0)) r j = df ct v x2 r ⟨j.val, by omega⟩ := by
  unfold dfc df
  exact congr (congrArg HMul.hMul (Finset.sum_congr rfl fun l _ => congrArg (fun z : EReal => (ct (ix2 r l) : EReal) * z) (v_0 v j l))) (congrArg (fun z : EReal => two * z) (r_0 x2 r j))
theorem term_0 (ct : X0) (w : W1) (v : W2) (x2 : XR) (r : Fin 256) (l : Fin 1024) (j : Fin 1024) :
    dfc ct (View.ld (Val := Elt Ideal) v (Rect.unit ![0, 0] ![1024, 1024] inb_S4096x1024_S1024x1024_0_0)) (View.ld (Val := Elt Ideal) x2 (Rect.unit ![0, 0] ![256, 1024] inb_S256x4096_S256x1024_0_0)) r j * ((View.ld (Val := Elt Ideal) w (Rect.unit ![0, 0, 0] ![1, 1024, 1024] inb_S4x1024x1024_S1x1024x1024_0_0_0)) (ix3 0 l j) : EReal) = df ct v x2 r ⟨j.val, by omega⟩ * w (ix3 (⟨(j.val) / 1024, by omega⟩ : Fin 4) l (⟨(j.val) % 1024, by omega⟩ : Fin 1024)) :=
  congr (congrArg HMul.hMul (df_0 ct v x2 r j)) (w_0 w l j)

theorem r_1 (x2 : XR) (r : Fin 256) (j : Fin 1024) : ((View.ld (Val := Elt Ideal) x2 (Rect.unit ![0, 1024] ![256, 1024] inb_S256x4096_S256x1024_0_1024)) (ix2 r j) : EReal) = x2 (ix2 r ⟨1024 + j.val, by omega⟩) := by
  refine congrArg x2 (funext fun a => Fin.ext ?_)
  match a with
  | ⟨0, _⟩ => show 0 + 1 * r.val = r.val; omega
  | ⟨1, _⟩ => show 1024 + 1 * j.val = 1024 + j.val; omega
theorem v_1 (v : W2) (j : Fin 1024) (l : Fin 1024) : ((View.ld (Val := Elt Ideal) v (Rect.unit ![1024, 0] ![1024, 1024] inb_S4096x1024_S1024x1024_1024_0)) (ix2 j l) : EReal) = v (ix2 ⟨1024 + j.val, by omega⟩ l) := by
  refine congrArg v (funext fun a => Fin.ext ?_)
  match a with
  | ⟨0, _⟩ => show 1024 + 1 * j.val = 1024 + j.val; omega
  | ⟨1, _⟩ => show 0 + 1 * l.val = l.val; omega
theorem w_1 (w : W1) (l : Fin 1024) (j : Fin 1024) : ((View.ld (Val := Elt Ideal) w (Rect.unit ![1, 0, 0] ![1, 1024, 1024] inb_S4x1024x1024_S1x1024x1024_1_0_0)) (ix3 0 l j) : EReal) = w (ix3 (⟨(1024 + j.val) / 1024, by omega⟩ : Fin 4) l (⟨(1024 + j.val) % 1024, by omega⟩ : Fin 1024)) := by
  refine congrArg w (funext fun a => Fin.ext ?_)
  match a with
  | ⟨0, _⟩ => show 1 + 1 * 0 = (1024 + j.val) / 1024; omega
  | ⟨1, _⟩ => show 0 + 1 * l.val = l.val; omega
  | ⟨2, _⟩ => show 0 + 1 * j.val = (1024 + j.val) % 1024; omega
theorem df_1 (ct : X0) (v : W2) (x2 : XR) (r : Fin 256) (j : Fin 1024) : dfc ct (View.ld (Val := Elt Ideal) v (Rect.unit ![1024, 0] ![1024, 1024] inb_S4096x1024_S1024x1024_1024_0)) (View.ld (Val := Elt Ideal) x2 (Rect.unit ![0, 1024] ![256, 1024] inb_S256x4096_S256x1024_0_1024)) r j = df ct v x2 r ⟨1024 + j.val, by omega⟩ := by
  unfold dfc df
  exact congr (congrArg HMul.hMul (Finset.sum_congr rfl fun l _ => congrArg (fun z : EReal => (ct (ix2 r l) : EReal) * z) (v_1 v j l))) (congrArg (fun z : EReal => two * z) (r_1 x2 r j))
theorem term_1 (ct : X0) (w : W1) (v : W2) (x2 : XR) (r : Fin 256) (l : Fin 1024) (j : Fin 1024) :
    dfc ct (View.ld (Val := Elt Ideal) v (Rect.unit ![1024, 0] ![1024, 1024] inb_S4096x1024_S1024x1024_1024_0)) (View.ld (Val := Elt Ideal) x2 (Rect.unit ![0, 1024] ![256, 1024] inb_S256x4096_S256x1024_0_1024)) r j * ((View.ld (Val := Elt Ideal) w (Rect.unit ![1, 0, 0] ![1, 1024, 1024] inb_S4x1024x1024_S1x1024x1024_1_0_0)) (ix3 0 l j) : EReal) = df ct v x2 r ⟨1024 + j.val, by omega⟩ * w (ix3 (⟨(1024 + j.val) / 1024, by omega⟩ : Fin 4) l (⟨(1024 + j.val) % 1024, by omega⟩ : Fin 1024)) :=
  congr (congrArg HMul.hMul (df_1 ct v x2 r j)) (w_1 w l j)

theorem r_2 (x2 : XR) (r : Fin 256) (j : Fin 1024) : ((View.ld (Val := Elt Ideal) x2 (Rect.unit ![0, 2048] ![256, 1024] inb_S256x4096_S256x1024_0_2048)) (ix2 r j) : EReal) = x2 (ix2 r ⟨2048 + j.val, by omega⟩) := by
  refine congrArg x2 (funext fun a => Fin.ext ?_)
  match a with
  | ⟨0, _⟩ => show 0 + 1 * r.val = r.val; omega
  | ⟨1, _⟩ => show 2048 + 1 * j.val = 2048 + j.val; omega
theorem v_2 (v : W2) (j : Fin 1024) (l : Fin 1024) : ((View.ld (Val := Elt Ideal) v (Rect.unit ![2048, 0] ![1024, 1024] inb_S4096x1024_S1024x1024_2048_0)) (ix2 j l) : EReal) = v (ix2 ⟨2048 + j.val, by omega⟩ l) := by
  refine congrArg v (funext fun a => Fin.ext ?_)
  match a with
  | ⟨0, _⟩ => show 2048 + 1 * j.val = 2048 + j.val; omega
  | ⟨1, _⟩ => show 0 + 1 * l.val = l.val; omega
theorem w_2 (w : W1) (l : Fin 1024) (j : Fin 1024) : ((View.ld (Val := Elt Ideal) w (Rect.unit ![2, 0, 0] ![1, 1024, 1024] inb_S4x1024x1024_S1x1024x1024_2_0_0)) (ix3 0 l j) : EReal) = w (ix3 (⟨(2048 + j.val) / 1024, by omega⟩ : Fin 4) l (⟨(2048 + j.val) % 1024, by omega⟩ : Fin 1024)) := by
  refine congrArg w (funext fun a => Fin.ext ?_)
  match a with
  | ⟨0, _⟩ => show 2 + 1 * 0 = (2048 + j.val) / 1024; omega
  | ⟨1, _⟩ => show 0 + 1 * l.val = l.val; omega
  | ⟨2, _⟩ => show 0 + 1 * j.val = (2048 + j.val) % 1024; omega
theorem df_2 (ct : X0) (v : W2) (x2 : XR) (r : Fin 256) (j : Fin 1024) : dfc ct (View.ld (Val := Elt Ideal) v (Rect.unit ![2048, 0] ![1024, 1024] inb_S4096x1024_S1024x1024_2048_0)) (View.ld (Val := Elt Ideal) x2 (Rect.unit ![0, 2048] ![256, 1024] inb_S256x4096_S256x1024_0_2048)) r j = df ct v x2 r ⟨2048 + j.val, by omega⟩ := by
  unfold dfc df
  exact congr (congrArg HMul.hMul (Finset.sum_congr rfl fun l _ => congrArg (fun z : EReal => (ct (ix2 r l) : EReal) * z) (v_2 v j l))) (congrArg (fun z : EReal => two * z) (r_2 x2 r j))
theorem term_2 (ct : X0) (w : W1) (v : W2) (x2 : XR) (r : Fin 256) (l : Fin 1024) (j : Fin 1024) :
    dfc ct (View.ld (Val := Elt Ideal) v (Rect.unit ![2048, 0] ![1024, 1024] inb_S4096x1024_S1024x1024_2048_0)) (View.ld (Val := Elt Ideal) x2 (Rect.unit ![0, 2048] ![256, 1024] inb_S256x4096_S256x1024_0_2048)) r j * ((View.ld (Val := Elt Ideal) w (Rect.unit ![2, 0, 0] ![1, 1024, 1024] inb_S4x1024x1024_S1x1024x1024_2_0_0)) (ix3 0 l j) : EReal) = df ct v x2 r ⟨2048 + j.val, by omega⟩ * w (ix3 (⟨(2048 + j.val) / 1024, by omega⟩ : Fin 4) l (⟨(2048 + j.val) % 1024, by omega⟩ : Fin 1024)) :=
  congr (congrArg HMul.hMul (df_2 ct v x2 r j)) (w_2 w l j)

theorem r_3 (x2 : XR) (r : Fin 256) (j : Fin 1024) : ((View.ld (Val := Elt Ideal) x2 (Rect.unit ![0, 3072] ![256, 1024] inb_S256x4096_S256x1024_0_3072)) (ix2 r j) : EReal) = x2 (ix2 r ⟨3072 + j.val, by omega⟩) := by
  refine congrArg x2 (funext fun a => Fin.ext ?_)
  match a with
  | ⟨0, _⟩ => show 0 + 1 * r.val = r.val; omega
  | ⟨1, _⟩ => show 3072 + 1 * j.val = 3072 + j.val; omega
theorem v_3 (v : W2) (j : Fin 1024) (l : Fin 1024) : ((View.ld (Val := Elt Ideal) v (Rect.unit ![3072, 0] ![1024, 1024] inb_S4096x1024_S1024x1024_3072_0)) (ix2 j l) : EReal) = v (ix2 ⟨3072 + j.val, by omega⟩ l) := by
  refine congrArg v (funext fun a => Fin.ext ?_)
  match a with
  | ⟨0, _⟩ => show 3072 + 1 * j.val = 3072 + j.val; omega
  | ⟨1, _⟩ => show 0 + 1 * l.val = l.val; omega
theorem w_3 (w : W1) (l : Fin 1024) (j : Fin 1024) : ((View.ld (Val := Elt Ideal) w (Rect.unit ![3, 0, 0] ![1, 1024, 1024] inb_S4x1024x1024_S1x1024x1024_3_0_0)) (ix3 0 l j) : EReal) = w (ix3 (⟨(3072 + j.val) / 1024, by omega⟩ : Fin 4) l (⟨(3072 + j.val) % 1024, by omega⟩ : Fin 1024)) := by
  refine congrArg w (funext fun a => Fin.ext ?_)
  match a with
  | ⟨0, _⟩ => show 3 + 1 * 0 = (3072 + j.val) / 1024; omega
  | ⟨1, _⟩ => show 0 + 1 * l.val = l.val; omega
  | ⟨2, _⟩ => show 0 + 1 * j.val = (3072 + j.val) % 1024; omega
theorem df_3 (ct : X0) (v : W2) (x2 : XR) (r : Fin 256) (j : Fin 1024) : dfc ct (View.ld (Val := Elt Ideal) v (Rect.unit ![3072, 0] ![1024, 1024] inb_S4096x1024_S1024x1024_3072_0)) (View.ld (Val := Elt Ideal) x2 (Rect.unit ![0, 3072] ![256, 1024] inb_S256x4096_S256x1024_0_3072)) r j = df ct v x2 r ⟨3072 + j.val, by omega⟩ := by
  unfold dfc df
  exact congr (congrArg HMul.hMul (Finset.sum_congr rfl fun l _ => congrArg (fun z : EReal => (ct (ix2 r l) : EReal) * z) (v_3 v j l))) (congrArg (fun z : EReal => two * z) (r_3 x2 r j))
theorem term_3 (ct : X0) (w : W1) (v : W2) (x2 : XR) (r : Fin 256) (l : Fin 1024) (j : Fin 1024) :
    dfc ct (View.ld (Val := Elt Ideal) v (Rect.unit ![3072, 0] ![1024, 1024] inb_S4096x1024_S1024x1024_3072_0)) (View.ld (Val := Elt Ideal) x2 (Rect.unit ![0, 3072] ![256, 1024] inb_S256x4096_S256x1024_0_3072)) r j * ((View.ld (Val := Elt Ideal) w (Rect.unit ![3, 0, 0] ![1, 1024, 1024] inb_S4x1024x1024_S1x1024x1024_3_0_0)) (ix3 0 l j) : EReal) = df ct v x2 r ⟨3072 + j.val, by omega⟩ * w (ix3 (⟨(3072 + j.val) / 1024, by omega⟩ : Fin 4) l (⟨(3072 + j.val) % 1024, by omega⟩ : Fin 1024)) :=
  congr (congrArg HMul.hMul (df_3 ct v x2 r j)) (w_3 w l j)

theorem dhfin (ct : X0) (w : W1) (v : W2) (x2 : XR) (r : Fin 256) (l : Fin 1024) :
    (k0_pay24 (F := Ideal) (k0_pay8 ct) (k0_pay17 (k0_pay8 ct) k0_pay9 (k0_pay10 (View.ld (Val := Elt Ideal) x2 (Rect.unit ![0, 0] ![256, 1024] inb_S256x4096_S256x1024_0_0))) (k0_pay12 ct (View.ld (Val := Elt Ideal) v (Rect.unit ![0, 0] ![1024, 1024] inb_S4096x1024_S1024x1024_0_0))) (View.ld (Val := Elt Ideal) w (Rect.unit ![0, 0, 0] ![1, 1024, 1024] inb_S4x1024x1024_S1x1024x1024_0_0_0)) (View.ld (Val := Elt Ideal) x2 (Rect.unit ![0, 1024] ![256, 1024] inb_S256x4096_S256x1024_0_1024)) (View.ld (Val := Elt Ideal) v (Rect.unit ![1024, 0] ![1024, 1024] inb_S4096x1024_S1024x1024_1024_0)) (View.ld (Val := Elt Ideal) w (Rect.unit ![1, 0, 0] ![1, 1024, 1024] inb_S4x1024x1024_S1x1024x1024_1_0_0))) (k0_pay18 (View.ld (Val := Elt Ideal) x2 (Rect.unit ![0, 2048] ![256, 1024] inb_S256x4096_S256x1024_0_2048))) (View.ld (Val := Elt Ideal) v (Rect.unit ![2048, 0] ![1024, 1024] inb_S4096x1024_S1024x1024_2048_0)) (View.ld (Val := Elt Ideal) w (Rect.unit ![2, 0, 0] ![1, 1024, 1024] inb_S4x1024x1024_S1x1024x1024_2_0_0)) (View.ld (Val := Elt Ideal) x2 (Rect.unit ![0, 3072] ![256, 1024] inb_S256x4096_S256x1024_0_3072)) (View.ld (Val := Elt Ideal) v (Rect.unit ![3072, 0] ![1024, 1024] inb_S4096x1024_S1024x1024_3072_0)) (View.ld (Val := Elt Ideal) w (Rect.unit ![3, 0, 0] ![1, 1024, 1024] inb_S4x1024x1024_S1x1024x1024_3_0_0)) (ix2 r l) : EReal) = dh ct w v x2 r l := by
  refine (dh4_at ct _ _ _ _ _ _ _ _ _ _ _ _ r l).trans ?_
  unfold dh
  rw [sum_quarters]
  exact congr (congrArg HAdd.hAdd (congr (congrArg HAdd.hAdd (congr (congrArg HAdd.hAdd
    (Finset.sum_congr rfl fun j _ => term_0 ct w v x2 r l j)) (Finset.sum_congr rfl fun j _ => term_1 ct w v x2 r l j))) (Finset.sum_congr rfl fun j _ => term_2 ct w v x2 r l j))) (Finset.sum_congr rfl fun j _ => term_3 ct w v x2 r l j)

/-- The block of the gradient of the input. -/
def dxv (x0 : X0) (x1 : X1) (ct : X0) (w : W1) (v : W2) (x2 : XR) (r : Fin 256) (l : Fin 1024) : EReal :=
  ct (ix2 r l) + rs (fun k => x0 (ix2 r k)) * (dh ct w v x2 r l * x1 (ix2 0 l) - x0 (ix2 r l) * rs (fun k => x0 (ix2 r k)) *
    Ideal.div (∑ k, dh ct w v x2 r k * x1 (ix2 0 k) * (x0 (ix2 r k) * rs (fun k => x0 (ix2 r k)))) (Ideal.ofBits .f32 0x44800000#32))

theorem dxfin (x0 : X0) (x1 : X1) (ct : X0) (w : W1) (v : W2) (x2 : XR) (r : Fin 256) (l : Fin 1024) :
    (k0_pay1 (F := Ideal) (k0_pay4 x0) (k0_pay5 x0) ct (k0_pay25 (k0_pay6 x1) (k0_pay8 ct) (k0_pay17 (k0_pay8 ct) k0_pay9 (k0_pay10 (View.ld (Val := Elt Ideal) x2 (Rect.unit ![0, 0] ![256, 1024] inb_S256x4096_S256x1024_0_0))) (k0_pay12 ct (View.ld (Val := Elt Ideal) v (Rect.unit ![0, 0] ![1024, 1024] inb_S4096x1024_S1024x1024_0_0))) (View.ld (Val := Elt Ideal) w (Rect.unit ![0, 0, 0] ![1, 1024, 1024] inb_S4x1024x1024_S1x1024x1024_0_0_0)) (View.ld (Val := Elt Ideal) x2 (Rect.unit ![0, 1024] ![256, 1024] inb_S256x4096_S256x1024_0_1024)) (View.ld (Val := Elt Ideal) v (Rect.unit ![1024, 0] ![1024, 1024] inb_S4096x1024_S1024x1024_1024_0)) (View.ld (Val := Elt Ideal) w (Rect.unit ![1, 0, 0] ![1, 1024, 1024] inb_S4x1024x1024_S1x1024x1024_1_0_0))) (k0_pay18 (View.ld (Val := Elt Ideal) x2 (Rect.unit ![0, 2048] ![256, 1024] inb_S256x4096_S256x1024_0_2048))) (View.ld (Val := Elt Ideal) v (Rect.unit ![2048, 0] ![1024, 1024] inb_S4096x1024_S1024x1024_2048_0)) (View.ld (Val := Elt Ideal) w (Rect.unit ![2, 0, 0] ![1, 1024, 1024] inb_S4x1024x1024_S1x1024x1024_2_0_0)) (View.ld (Val := Elt Ideal) x2 (Rect.unit ![0, 3072] ![256, 1024] inb_S256x4096_S256x1024_0_3072)) (View.ld (Val := Elt Ideal) v (Rect.unit ![3072, 0] ![1024, 1024] inb_S4096x1024_S1024x1024_3072_0)) (View.ld (Val := Elt Ideal) w (Rect.unit ![3, 0, 0] ![1, 1024, 1024] inb_S4x1024x1024_S1x1024x1024_3_0_0))) (k0_pay26 (k0_pay5 x0) (k0_pay6 x1) (k0_pay8 ct) (k0_pay17 (k0_pay8 ct) k0_pay9 (k0_pay10 (View.ld (Val := Elt Ideal) x2 (Rect.unit ![0, 0] ![256, 1024] inb_S256x4096_S256x1024_0_0))) (k0_pay12 ct (View.ld (Val := Elt Ideal) v (Rect.unit ![0, 0] ![1024, 1024] inb_S4096x1024_S1024x1024_0_0))) (View.ld (Val := Elt Ideal) w (Rect.unit ![0, 0, 0] ![1, 1024, 1024] inb_S4x1024x1024_S1x1024x1024_0_0_0)) (View.ld (Val := Elt Ideal) x2 (Rect.unit ![0, 1024] ![256, 1024] inb_S256x4096_S256x1024_0_1024)) (View.ld (Val := Elt Ideal) v (Rect.unit ![1024, 0] ![1024, 1024] inb_S4096x1024_S1024x1024_1024_0)) (View.ld (Val := Elt Ideal) w (Rect.unit ![1, 0, 0] ![1, 1024, 1024] inb_S4x1024x1024_S1x1024x1024_1_0_0))) (k0_pay18 (View.ld (Val := Elt Ideal) x2 (Rect.unit ![0, 2048] ![256, 1024] inb_S256x4096_S256x1024_0_2048))) (View.ld (Val := Elt Ideal) v (Rect.unit ![2048, 0] ![1024, 1024] inb_S4096x1024_S1024x1024_2048_0)) (View.ld (Val := Elt Ideal) w (Rect.unit ![2, 0, 0] ![1, 1024, 1024] inb_S4x1024x1024_S1x1024x1024_2_0_0)) (View.ld (Val := Elt Ideal) x2 (Rect.unit ![0, 3072] ![256, 1024] inb_S256x4096_S256x1024_0_3072)) (View.ld (Val := Elt Ideal) v (Rect.unit ![3072, 0] ![1024, 1024] inb_S4096x1024_S1024x1024_3072_0)) (View.ld (Val := Elt Ideal) w (Rect.unit ![3, 0, 0] ![1, 1024, 1024] inb_S4x1024x1024_S1x1024x1024_3_0_0))) (ix2 r l) : EReal) = dxv x0 x1 ct w v x2 r l := by
  have h : ∀ k, (k0_pay25 (F := Ideal) (k0_pay6 x1) (k0_pay8 ct) (k0_pay17 (k0_pay8 ct) k0_pay9 (k0_pay10 (View.ld (Val := Elt Ideal) x2 (Rect.unit ![0, 0] ![256, 1024] inb_S256x4096_S256x1024_0_0))) (k0_pay12 ct (View.ld (Val := Elt Ideal) v (Rect.unit ![0, 0] ![1024, 1024] inb_S4096x1024_S1024x1024_0_0))) (View.ld (Val := Elt Ideal) w (Rect.unit ![0, 0, 0] ![1, 1024, 1024] inb_S4x1024x1024_S1x1024x1024_0_0_0)) (View.ld (Val := Elt Ideal) x2 (Rect.unit ![0, 1024] ![256, 1024] inb_S256x4096_S256x1024_0_1024)) (View.ld (Val := Elt Ideal) v (Rect.unit ![1024, 0] ![1024, 1024] inb_S4096x1024_S1024x1024_1024_0)) (View.ld (Val := Elt Ideal) w (Rect.unit ![1, 0, 0] ![1, 1024, 1024] inb_S4x1024x1024_S1x1024x1024_1_0_0))) (k0_pay18 (View.ld (Val := Elt Ideal) x2 (Rect.unit ![0, 2048] ![256, 1024] inb_S256x4096_S256x1024_0_2048))) (View.ld (Val := Elt Ideal) v (Rect.unit ![2048, 0] ![1024, 1024] inb_S4096x1024_S1024x1024_2048_0)) (View.ld (Val := Elt Ideal) w (Rect.unit ![2, 0, 0] ![1, 1024, 1024] inb_S4x1024x1024_S1x1024x1024_2_0_0)) (View.ld (Val := Elt Ideal) x2 (Rect.unit ![0, 3072] ![256, 1024] inb_S256x4096_S256x1024_0_3072)) (View.ld (Val := Elt Ideal) v (Rect.unit ![3072, 0] ![1024, 1024] inb_S4096x1024_S1024x1024_3072_0)) (View.ld (Val := Elt Ideal) w (Rect.unit ![3, 0, 0] ![1, 1024, 1024] inb_S4x1024x1024_S1x1024x1024_3_0_0)) (ix2 r k) : EReal) = dh ct w v x2 r k * x1 (ix2 0 k) := fun k =>
    (dxn_at x1 ct _ _ _ _ _ _ _ _ _ _ _ _ r k).trans (congrArg (fun z : EReal => z * (x1 (ix2 0 k) : EReal)) (dhfin ct w v x2 r k))
  refine (pay1_at _ _ ct _ _ r l).trans ?_
  unfold dxv
  refine congrArg (fun z : EReal => (ct (ix2 r l) : EReal) + z) (congr (congrArg HMul.hMul (rs_at x0 r)) (congr (congrArg HSub.hSub (h l)) (congr (congrArg HMul.hMul (xn_at x0 r l)) ?_)))
  exact congrArg (fun z : EReal => Ideal.div z (Ideal.ofBits .f32 0x44800000#32)) (Finset.sum_congr rfl fun k _ => congr (congrArg HMul.hMul (h k)) (xn_at x0 r k))

theorem dgfin (x0 : X0) (ct : X0) (w : W1) (v : W2) (x2 : XR) (a : X1) (l : Fin 1024) :
    (k0_pay3 (F := Ideal) (k0_pay5 x0) (k0_pay24 (F := Ideal) (k0_pay8 ct) (k0_pay17 (k0_pay8 ct) k0_pay9 (k0_pay10 (View.ld (Val := Elt Ideal) x2 (Rect.unit ![0, 0] ![256, 1024] inb_S256x4096_S256x1024_0_0))) (k0_pay12 ct (View.ld (Val := Elt Ideal) v (Rect.unit ![0, 0] ![1024, 1024] inb_S4096x1024_S1024x1024_0_0))) (View.ld (Val := Elt Ideal) w (Rect.unit ![0, 0, 0] ![1, 1024, 1024] inb_S4x1024x1024_S1x1024x1024_0_0_0)) (View.ld (Val := Elt Ideal) x2 (Rect.unit ![0, 1024] ![256, 1024] inb_S256x4096_S256x1024_0_1024)) (View.ld (Val := Elt Ideal) v (Rect.unit ![1024, 0] ![1024, 1024] inb_S4096x1024_S1024x1024_1024_0)) (View.ld (Val := Elt Ideal) w (Rect.unit ![1, 0, 0] ![1, 1024, 1024] inb_S4x1024x1024_S1x1024x1024_1_0_0))) (k0_pay18 (View.ld (Val := Elt Ideal) x2 (Rect.unit ![0, 2048] ![256, 1024] inb_S256x4096_S256x1024_0_2048))) (View.ld (Val := Elt Ideal) v (Rect.unit ![2048, 0] ![1024, 1024] inb_S4096x1024_S1024x1024_2048_0)) (View.ld (Val := Elt Ideal) w (Rect.unit ![2, 0, 0] ![1, 1024, 1024] inb_S4x1024x1024_S1x1024x1024_2_0_0)) (View.ld (Val := Elt Ideal) x2 (Rect.unit ![0, 3072] ![256, 1024] inb_S256x4096_S256x1024_0_3072)) (View.ld (Val := Elt Ideal) v (Rect.unit ![3072, 0] ![1024, 1024] inb_S4096x1024_S1024x1024_3072_0)) (View.ld (Val := Elt Ideal) w (Rect.unit ![3, 0, 0] ![1, 1024, 1024] inb_S4x1024x1024_S1x1024x1024_3_0_0))) a (ix2 0 l) : EReal) = a (ix2 0 l) + ∑ r : Fin 256, dh ct w v x2 r l * (x0 (ix2 r l) * rs (fun k => x0 (ix2 r k))) :=
  (acc_at _ _ a l).trans (congrArg (fun z : EReal => (a (ix2 0 l) : EReal) + z) (Finset.sum_congr rfl fun r _ => congr (congrArg HMul.hMul (dhfin ct w v x2 r l)) (xn_at x0 r l)))

theorem canon_whole {S : Shape} {e : EltTy} (w : S.Idx → Elt Ideal e) : View.canon [(⟨Rect.whole S, w⟩ : View.Piece (Elt Ideal) S e)] = w := by
  funext y
  have h := View.canon_cons_emb (Val := Elt Ideal) (Rect.whole S) w [] y
  rw [Rect.emb_whole_apply] at h
  exact h

/-- A wide block, from four stores. -/
theorem four (G : Fin 256 → Fin 4096 → EReal) (p0 p1 p2 p3 : XB)
    (h0 : ∀ r (j : Fin 1024), (p0 (ix2 r j) : EReal) = G r ⟨j.val, by omega⟩) (h1 : ∀ r (j : Fin 1024), (p1 (ix2 r j) : EReal) = G r ⟨1024 + j.val, by omega⟩)
    (h2 : ∀ r (j : Fin 1024), (p2 (ix2 r j) : EReal) = G r ⟨2048 + j.val, by omega⟩) (h3 : ∀ r (j : Fin 1024), (p3 (ix2 r j) : EReal) = G r ⟨3072 + j.val, by omega⟩) (y : S256x4096.Idx) :
    (View.canon (Val := Elt Ideal) (e := .bf16) [⟨Rect.unit ![0, 3072] ![256, 1024] inb_S256x4096_S256x1024_0_3072, p3⟩,
      ⟨Rect.unit ![0, 2048] ![256, 1024] inb_S256x4096_S256x1024_0_2048, p2⟩,
      ⟨Rect.unit ![0, 1024] ![256, 1024] inb_S256x4096_S256x1024_0_1024, p1⟩,
      ⟨Rect.unit ![0, 0] ![256, 1024] inb_S256x4096_S256x1024_0_0, p0⟩] y : EReal) = G (y 0) (y 1) := by
  refine View.canon_apply_of_pieces (Val := Elt Ideal) (e := .bf16) (fun y : S256x4096.Idx => (G (y 0) (y 1) : EReal)) _ ?_ y ?_
  · intro p hp
    simp only [List.mem_cons, List.not_mem_nil, or_false] at hp
    rcases hp with rfl | rfl | rfl | rfl
    · intro x
      have b0 : (x 0).val < 256 := (x 0).isLt
      have b1 : (x 1).val < 1024 := (x 1).isLt
      have e : x = ix2 (⟨(x 0).val, b0⟩ : Fin 256) (⟨(x 1).val, b1⟩ : Fin 1024) := funext fun a => by
        match a with
        | ⟨0, _⟩ => rfl
        | ⟨1, _⟩ => rfl
      refine ((congrArg _ e).trans (h3 ⟨(x 0).val, b0⟩ ⟨(x 1).val, b1⟩)).trans ?_
      refine congr (congrArg G (Fin.ext ?_)) (Fin.ext ?_)
      · show (x 0).val = 0 + 1 * (x 0).val; omega
      · show 3072 + (x 1).val = 3072 + 1 * (x 1).val; omega
    · intro x
      have b0 : (x 0).val < 256 := (x 0).isLt
      have b1 : (x 1).val < 1024 := (x 1).isLt
      have e : x = ix2 (⟨(x 0).val, b0⟩ : Fin 256) (⟨(x 1).val, b1⟩ : Fin 1024) := funext fun a => by
        match a with
        | ⟨0, _⟩ => rfl
        | ⟨1, _⟩ => rfl
      refine ((congrArg _ e).trans (h2 ⟨(x 0).val, b0⟩ ⟨(x 1).val, b1⟩)).trans ?_
      refine congr (congrArg G (Fin.ext ?_)) (Fin.ext ?_)
      · show (x 0).val = 0 + 1 * (x 0).val; omega
      · show 2048 + (x 1).val = 2048 + 1 * (x 1).val; omega
    · intro x
      have b0 : (x 0).val < 256 := (x 0).isLt
      have b1 : (x 1).val < 1024 := (x 1).isLt
      have e : x = ix2 (⟨(x 0).val, b0⟩ : Fin 256) (⟨(x 1).val, b1⟩ : Fin 1024) := funext fun a => by
        match a with
        | ⟨0, _⟩ => rfl
        | ⟨1, _⟩ => rfl
      refine ((congrArg _ e).trans (h1 ⟨(x 0).val, b0⟩ ⟨(x 1).val, b1⟩)).trans ?_
      refine congr (congrArg G (Fin.ext ?_)) (Fin.ext ?_)
      · show (x 0).val = 0 + 1 * (x 0).val; omega
      · show 1024 + (x 1).val = 1024 + 1 * (x 1).val; omega
    · intro x
      have b0 : (x 0).val < 256 := (x 0).isLt
      have b1 : (x 1).val < 1024 := (x 1).isLt
      have e : x = ix2 (⟨(x 0).val, b0⟩ : Fin 256) (⟨(x 1).val, b1⟩ : Fin 1024) := funext fun a => by
        match a with
        | ⟨0, _⟩ => rfl
        | ⟨1, _⟩ => rfl
      refine ((congrArg _ e).trans (h0 ⟨(x 0).val, b0⟩ ⟨(x 1).val, b1⟩)).trans ?_
      refine congr (congrArg G (Fin.ext ?_)) (Fin.ext ?_)
      · show (x 0).val = 0 + 1 * (x 0).val; omega
      · show (x 1).val = 0 + 1 * (x 1).val; omega
  · have h0 : (y 0).val < 256 := (y 0).isLt
    have h1 : (y 1).val < 4096 := (y 1).isLt
    have key : ∀ (o : Nat) (inb) (hl : o ≤ (y 1).val) (hu : (y 1).val < o + 1024), y ∈ (Rect.unit (s := S256x4096) ![0, o] ![256, 1024] inb).set := by
      intro o inb hl hu
      rw [Rect.mem_set_unit]
      intro a
      match a with
      | ⟨0, _⟩ => exact ⟨Nat.zero_le _, by show (y 0).val < 0 + 256; omega⟩
      | ⟨1, _⟩ => exact ⟨hl, hu⟩
    by_cases c3 : 3072 ≤ (y 1).val
    · exact ⟨_, List.mem_cons_self, key 3072 inb_S256x4096_S256x1024_0_3072 c3 (by omega)⟩
    by_cases c2 : 2048 ≤ (y 1).val
    · exact ⟨_, List.mem_cons_of_mem _ List.mem_cons_self, key 2048 inb_S256x4096_S256x1024_0_2048 c2 (by omega)⟩
    by_cases c1 : 1024 ≤ (y 1).val
    · exact ⟨_, List.mem_cons_of_mem _ (List.mem_cons_of_mem _ List.mem_cons_self), key 1024 inb_S256x4096_S256x1024_0_1024 c1 (by omega)⟩
    · exact ⟨_, List.mem_cons_of_mem _ (List.mem_cons_of_mem _ (List.mem_cons_of_mem _ List.mem_cons_self)), key 0 inb_S256x4096_S256x1024_0_0 (by omega) (by omega)⟩

theorem actfin (x2 : XR) (y : S256x4096.Idx) :
    (View.canon (Val := Elt Ideal) (e := .bf16) [⟨Rect.unit ![0, 3072] ![256, 1024] inb_S256x4096_S256x1024_0_3072, k0_pay22 (F := Ideal) (View.ld (Val := Elt Ideal) x2 (Rect.unit ![0, 3072] ![256, 1024] inb_S256x4096_S256x1024_0_3072))⟩,
      ⟨Rect.unit ![0, 2048] ![256, 1024] inb_S256x4096_S256x1024_0_2048, k0_pay19 (F := Ideal) (View.ld (Val := Elt Ideal) x2 (Rect.unit ![0, 2048] ![256, 1024] inb_S256x4096_S256x1024_0_2048))⟩,
      ⟨Rect.unit ![0, 1024] ![256, 1024] inb_S256x4096_S256x1024_0_1024, k0_pay15 (F := Ideal) (View.ld (Val := Elt Ideal) x2 (Rect.unit ![0, 1024] ![256, 1024] inb_S256x4096_S256x1024_0_1024))⟩,
      ⟨Rect.unit ![0, 0] ![256, 1024] inb_S256x4096_S256x1024_0_0, k0_pay11 (F := Ideal) (View.ld (Val := Elt Ideal) x2 (Rect.unit ![0, 0] ![256, 1024] inb_S256x4096_S256x1024_0_0))⟩] y : EReal) = (fun r q => (x2 (ix2 r q) * x2 (ix2 r q) : EReal)) (y 0) (y 1) :=
  four (fun r q => (x2 (ix2 r q) * x2 (ix2 r q) : EReal)) _ _ _ _
    (fun r j => (sq0_at _ r j).trans (congr (congrArg HMul.hMul (r_0 x2 r j)) (r_0 x2 r j)))
    (fun r j => (sq1_at _ r j).trans (congr (congrArg HMul.hMul (r_1 x2 r j)) (r_1 x2 r j)))
    (fun r j => (sq2_at _ r j).trans (congr (congrArg HMul.hMul (r_2 x2 r j)) (r_2 x2 r j)))
    (fun r j => (sq3_at _ r j).trans (congr (congrArg HMul.hMul (r_3 x2 r j)) (r_3 x2 r j)))
    y

theorem dffin (ct : X0) (v : W2) (x2 : XR) (y : S256x4096.Idx) :
    (View.canon (Val := Elt Ideal) (e := .bf16) [⟨Rect.unit ![0, 3072] ![256, 1024] inb_S256x4096_S256x1024_0_3072, k0_pay23 (F := Ideal) (k0_pay8 ct) (View.ld (Val := Elt Ideal) x2 (Rect.unit ![0, 3072] ![256, 1024] inb_S256x4096_S256x1024_0_3072)) (View.ld (Val := Elt Ideal) v (Rect.unit ![3072, 0] ![1024, 1024] inb_S4096x1024_S1024x1024_3072_0))⟩,
      ⟨Rect.unit ![0, 2048] ![256, 1024] inb_S256x4096_S256x1024_0_2048, k0_pay20 (F := Ideal) (k0_pay8 ct) (k0_pay18 (View.ld (Val := Elt Ideal) x2 (Rect.unit ![0, 2048] ![256, 1024] inb_S256x4096_S256x1024_0_2048))) (View.ld (Val := Elt Ideal) v (Rect.unit ![2048, 0] ![1024, 1024] inb_S4096x1024_S1024x1024_2048_0))⟩,
      ⟨Rect.unit ![0, 1024] ![256, 1024] inb_S256x4096_S256x1024_0_1024, k0_pay16 (F := Ideal) (k0_pay8 ct) (View.ld (Val := Elt Ideal) x2 (Rect.unit ![0, 1024] ![256, 1024] inb_S256x4096_S256x1024_0_1024)) (View.ld (Val := Elt Ideal) v (Rect.unit ![1024, 0] ![1024, 1024] inb_S4096x1024_S1024x1024_1024_0))⟩,
      ⟨Rect.unit ![0, 0] ![256, 1024] inb_S256x4096_S256x1024_0_0, k0_pay13 (F := Ideal) (k0_pay10 (View.ld (Val := Elt Ideal) x2 (Rect.unit ![0, 0] ![256, 1024] inb_S256x4096_S256x1024_0_0))) (k0_pay12 ct (View.ld (Val := Elt Ideal) v (Rect.unit ![0, 0] ![1024, 1024] inb_S4096x1024_S1024x1024_0_0)))⟩] y : EReal) = df ct v x2 (y 0) (y 1) :=
  four (df ct v x2) _ _ _ _
    (fun r j => (df0_at ct _ _ r j).trans (df_0 ct v x2 r j))
    (fun r j => (df1_at ct _ _ r j).trans (df_1 ct v x2 r j))
    (fun r j => (df2_at ct _ _ r j).trans (df_2 ct v x2 r j))
    (fun r j => (df3_at ct _ _ r j).trans (df_3 ct v x2 r j))
    y

end Cert.FfnBwdVal
end
-- ==== Proof.FfnBwdCase.lean ====
/- Hand-written, untrusted: THE FEED-FORWARD BACKWARD CALL (two products in four chunks, the rectifier's gradient, the norm's gradient) writes: each case of its control flow, as a function of the blocks. -/
module

public import proofs.«01_k».proof.Proof.Mat
public import proofs.«01_k».proof.Proof.FfnBwdPay
public import proofs.«01_k».proof.Proof.Gen.FfnBwdIdeal.Value
public import proofs.«01_k».proof.Proof.Gen.FfnBwdRefIdeal.Run
public import proofs.«01_k».proof.Proof.Gen.FfnBwdRefIdeal.Read
public import proofs.«01_k».proof.Defs

@[expose] public section

set_option maxRecDepth 16384

noncomputable section

namespace Cert.FfnBwdVal

open Cert.FfnBwdIdeal Cert.FfnBwdIdeal.Gen Cert.FfnBwdIdeal.Value Cert.Mat Idealize.ShloMosaic Idealize.ShloMosaic.TcCoe Idealize.SL.Sem
open Idealize.ShloMosaic.Tactic

set_option maxHeartbeats 1000000 in
theorem out_A4 (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x4096 .bf16) (harg5 : arg5.IsWhole) (arg6 : Memref sig .tc .vmem S256x1024 .f32) (harg6 : arg6.IsWhole) (arg7 : Memref sig .tc .vmem S256x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x4096 .bf16) (harg11 : arg11.IsWhole) (arg12 : Memref sig .tc .vmem S256x1024 .bf16) (harg12 : arg12.IsWhole) (arg13 : Memref sig .tc .vmem S4x1024x1024 .bf16) (harg13 : arg13.IsWhole) (arg14 : Memref sig .tc .vmem S4096x1024 .bf16) (harg14 : arg14.IsWhole)
    (hc0) (hc1) (x0 : X0) (x1 : X1) (x2 : XR) (x3 : X0) (w : W1) (v : W2) (r : Fin 256) (l : Fin 1024) :
    (out0_A_4 c i arg1 harg1 arg2 harg2 arg5 harg5 arg6 harg6 arg7 harg7 arg8 harg8 arg9 harg9 arg10 harg10 arg11 harg11 arg12 harg12 arg13 harg13 arg14 harg14 hc0 hc1 x0 x1 x2 x3 w v (ix2 r l) : EReal) = dxv x0 x1 x3 w v x2 r l := by
  unfold out0_A_4
  rw [View.read_writes_eq_canon _ _ _ (cover0_A_4 c _ _ _ _ _ _ _ _ _ _ _ _ _ _ _ _ _ _ _ _ _ _ _ _ _ _ _ _ _ _ _ _ _)]
  unfold kernelRun0_A
  dsimp only
  sl_unfold_words
  simp only [View.readAt_eq_ld, harg1.read_unread, harg2.read_unread, harg5.read_unread, harg6.read_unread, harg7.read_unread, harg8.read_unread, harg9.read_unread, harg10.read_unread, harg11.read_unread, harg12.read_unread, harg13.read_unread, harg14.read_unread, View.readCov_eq_canon']
  rw [View.canon_unit_zero off2]
  simp only [View.ld_unit_zero (S := S256x1024) off2, View.ld_unit_zero (S := S1x1024) off2, canon_whole]
  exact dxfin x0 x1 x3 w v x2 r l

set_option maxHeartbeats 1000000 in
theorem out_A5 (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x4096 .bf16) (harg5 : arg5.IsWhole) (arg6 : Memref sig .tc .vmem S256x1024 .f32) (harg6 : arg6.IsWhole) (arg7 : Memref sig .tc .vmem S256x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x4096 .bf16) (harg11 : arg11.IsWhole) (arg12 : Memref sig .tc .vmem S256x1024 .bf16) (harg12 : arg12.IsWhole) (arg13 : Memref sig .tc .vmem S4x1024x1024 .bf16) (harg13 : arg13.IsWhole) (arg14 : Memref sig .tc .vmem S4096x1024 .bf16) (harg14 : arg14.IsWhole)
    (hc0) (hc1) (x0 : X0) (x1 : X1) (x2 : XR) (x3 : X0) (w : W1) (v : W2) (l : Fin 1024) :
    (out0_A_5 c i arg1 harg1 arg2 harg2 arg5 harg5 arg6 harg6 arg7 harg7 arg8 harg8 arg9 harg9 arg10 harg10 arg11 harg11 arg12 harg12 arg13 harg13 arg14 harg14 hc0 hc1 x0 x1 x2 x3 w v (ix2 0 l) : EReal) = ∑ r : Fin 256, dh x3 w v x2 r l * (x0 (ix2 r l) * rs (fun k => x0 (ix2 r k))) := by
  unfold out0_A_5
  rw [View.read_writes_eq_canon _ _ _ (cover0_A_5 c _ _ _ _ _ _ _ _ _ _ _ _ _ _ _ _ _ _ _ _ _ _ _ _ _ _ _ _ _ _ _ _ _)]
  unfold kernelRun0_A
  dsimp only
  sl_unfold_words
  simp only [View.readAt_eq_ld, harg1.read_unread, harg2.read_unread, harg5.read_unread, harg6.read_unread, harg7.read_unread, harg8.read_unread, harg9.read_unread, harg10.read_unread, harg11.read_unread, harg12.read_unread, harg13.read_unread, harg14.read_unread, View.readCov_eq_canon']
  rw [View.canon_cons_unit_zero off2]
  simp only [View.ld_unit_zero (S := S256x1024) off2, View.ld_unit_zero (S := S1x1024) off2, View.canon_unit_zero (S := S1x1024) off2, canon_whole]
  refine (dgfin x0 x3 w v x2 (k0_pay2 (F := Ideal)) l).trans ?_
  rw [acc_zero, zero_add]

set_option maxHeartbeats 1000000 in
theorem out_A6 (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x4096 .bf16) (harg5 : arg5.IsWhole) (arg6 : Memref sig .tc .vmem S256x1024 .f32) (harg6 : arg6.IsWhole) (arg7 : Memref sig .tc .vmem S256x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x4096 .bf16) (harg11 : arg11.IsWhole) (arg12 : Memref sig .tc .vmem S256x1024 .bf16) (harg12 : arg12.IsWhole) (arg13 : Memref sig .tc .vmem S4x1024x1024 .bf16) (harg13 : arg13.IsWhole) (arg14 : Memref sig .tc .vmem S4096x1024 .bf16) (harg14 : arg14.IsWhole)
    (hc0) (hc1) (x0 : X0) (x1 : X1) (x2 : XR) (x3 : X0) (w : W1) (v : W2)  :
    out0_A_6 c i arg1 harg1 arg2 harg2 arg5 harg5 arg6 harg6 arg7 harg7 arg8 harg8 arg9 harg9 arg10 harg10 arg11 harg11 arg12 harg12 arg13 harg13 arg14 harg14 hc0 hc1 x0 x1 x2 x3 w v = k0_pay7 (F := Ideal) x0 x1 := by
  unfold out0_A_6
  rw [View.read_writes_eq_canon _ _ _ (cover0_A_6 c _ _ _ _ _ _ _ _ _ _ _ _ _ _ _ _ _ _ _ _ _ _ _ _ _ _ _ _ _ _ _ _ _)]
  unfold kernelRun0_A
  dsimp only
  sl_unfold_words
  simp only [View.readAt_eq_ld, harg1.read_unread, harg2.read_unread, harg5.read_unread, harg6.read_unread, harg7.read_unread, harg8.read_unread, harg9.read_unread, harg10.read_unread, harg11.read_unread, harg12.read_unread, harg13.read_unread, harg14.read_unread, View.readCov_eq_canon']
  rw [View.canon_unit_zero off2]
  simp only [View.ld_unit_zero (S := S256x1024) off2, View.ld_unit_zero (S := S1x1024) off2, canon_whole]

set_option maxHeartbeats 1000000 in
theorem out_A7 (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x4096 .bf16) (harg5 : arg5.IsWhole) (arg6 : Memref sig .tc .vmem S256x1024 .f32) (harg6 : arg6.IsWhole) (arg7 : Memref sig .tc .vmem S256x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x4096 .bf16) (harg11 : arg11.IsWhole) (arg12 : Memref sig .tc .vmem S256x1024 .bf16) (harg12 : arg12.IsWhole) (arg13 : Memref sig .tc .vmem S4x1024x1024 .bf16) (harg13 : arg13.IsWhole) (arg14 : Memref sig .tc .vmem S4096x1024 .bf16) (harg14 : arg14.IsWhole)
    (hc0) (hc1) (x0 : X0) (x1 : X1) (x2 : XR) (x3 : X0) (w : W1) (v : W2) (y : S256x4096.Idx) :
    (out0_A_7 c i arg1 harg1 arg2 harg2 arg5 harg5 arg6 harg6 arg7 harg7 arg8 harg8 arg9 harg9 arg10 harg10 arg11 harg11 arg12 harg12 arg13 harg13 arg14 harg14 hc0 hc1 x0 x1 x2 x3 w v y : EReal) = (fun r q => (x2 (ix2 r q) * x2 (ix2 r q) : EReal)) (y 0) (y 1) := by
  unfold out0_A_7
  rw [View.read_writes_eq_canon _ _ _ (cover0_A_7 c _ _ _ _ _ _ _ _ _ _ _ _ _ _ _ _ _ _ _ _ _ _ _ _ _ _ _ _ _ _ _ _ _)]
  unfold kernelRun0_A
  dsimp only
  sl_unfold_words
  simp only [View.readAt_eq_ld, harg1.read_unread, harg2.read_unread, harg5.read_unread, harg6.read_unread, harg7.read_unread, harg8.read_unread, harg9.read_unread, harg10.read_unread, harg11.read_unread, harg12.read_unread, harg13.read_unread, harg14.read_unread, View.readCov_eq_canon']
  try simp only [View.ld_unit_zero (S := S256x1024) off2, View.ld_unit_zero (S := S1x1024) off2, canon_whole]
  exact actfin x2 y

set_option maxHeartbeats 1000000 in
theorem out_A8 (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x4096 .bf16) (harg5 : arg5.IsWhole) (arg6 : Memref sig .tc .vmem S256x1024 .f32) (harg6 : arg6.IsWhole) (arg7 : Memref sig .tc .vmem S256x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x4096 .bf16) (harg11 : arg11.IsWhole) (arg12 : Memref sig .tc .vmem S256x1024 .bf16) (harg12 : arg12.IsWhole) (arg13 : Memref sig .tc .vmem S4x1024x1024 .bf16) (harg13 : arg13.IsWhole) (arg14 : Memref sig .tc .vmem S4096x1024 .bf16) (harg14 : arg14.IsWhole)
    (hc0) (hc1) (x0 : X0) (x1 : X1) (x2 : XR) (x3 : X0) (w : W1) (v : W2) (y : S256x4096.Idx) :
    (out0_A_8 c i arg1 harg1 arg2 harg2 arg5 harg5 arg6 harg6 arg7 harg7 arg8 harg8 arg9 harg9 arg10 harg10 arg11 harg11 arg12 harg12 arg13 harg13 arg14 harg14 hc0 hc1 x0 x1 x2 x3 w v y : EReal) = df x3 v x2 (y 0) (y 1) := by
  unfold out0_A_8
  rw [View.read_writes_eq_canon _ _ _ (cover0_A_8 c _ _ _ _ _ _ _ _ _ _ _ _ _ _ _ _ _ _ _ _ _ _ _ _ _ _ _ _ _ _ _ _ _)]
  unfold kernelRun0_A
  dsimp only
  sl_unfold_words
  simp only [View.readAt_eq_ld, harg1.read_unread, harg2.read_unread, harg5.read_unread, harg6.read_unread, harg7.read_unread, harg8.read_unread, harg9.read_unread, harg10.read_unread, harg11.read_unread, harg12.read_unread, harg13.read_unread, harg14.read_unread, View.readCov_eq_canon']
  try simp only [View.ld_unit_zero (S := S256x1024) off2, View.ld_unit_zero (S := S1x1024) off2, canon_whole]
  exact dffin x3 v x2 y

set_option maxHeartbeats 1000000 in
theorem out_A9 (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x4096 .bf16) (harg5 : arg5.IsWhole) (arg6 : Memref sig .tc .vmem S256x1024 .f32) (harg6 : arg6.IsWhole) (arg7 : Memref sig .tc .vmem S256x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x4096 .bf16) (harg11 : arg11.IsWhole) (arg12 : Memref sig .tc .vmem S256x1024 .bf16) (harg12 : arg12.IsWhole) (arg13 : Memref sig .tc .vmem S4x1024x1024 .bf16) (harg13 : arg13.IsWhole) (arg14 : Memref sig .tc .vmem S4096x1024 .bf16) (harg14 : arg14.IsWhole)
    (hc0) (hc1) (x0 : X0) (x1 : X1) (x2 : XR) (x3 : X0) (w : W1) (v : W2)  :
    out0_A_9 c i arg1 harg1 arg2 harg2 arg5 harg5 arg6 harg6 arg7 harg7 arg8 harg8 arg9 harg9 arg10 harg10 arg11 harg11 arg12 harg12 arg13 harg13 arg14 harg14 hc0 hc1 x0 x1 x2 x3 w v = k0_pay8 (F := Ideal) x3 := by
  unfold out0_A_9
  rw [View.read_writes_eq_canon _ _ _ (cover0_A_9 c _ _ _ _ _ _ _ _ _ _ _ _ _ _ _ _ _ _ _ _ _ _ _ _ _ _ _ _ _ _ _ _ _)]
  unfold kernelRun0_A
  dsimp only
  sl_unfold_words
  simp only [View.readAt_eq_ld, harg1.read_unread, harg2.read_unread, harg5.read_unread, harg6.read_unread, harg7.read_unread, harg8.read_unread, harg9.read_unread, harg10.read_unread, harg11.read_unread, harg12.read_unread, harg13.read_unread, harg14.read_unread, View.readCov_eq_canon']
  rw [View.canon_unit_zero off2]
  simp only [View.ld_unit_zero (S := S256x1024) off2, View.ld_unit_zero (S := S1x1024) off2, canon_whole]

set_option maxHeartbeats 1000000 in
theorem out_B4 (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x4096 .bf16) (harg5 : arg5.IsWhole) (arg6 : Memref sig .tc .vmem S256x1024 .f32) (harg6 : arg6.IsWhole) (arg7 : Memref sig .tc .vmem S256x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x4096 .bf16) (harg11 : arg11.IsWhole) (arg12 : Memref sig .tc .vmem S256x1024 .bf16) (harg12 : arg12.IsWhole) (arg13 : Memref sig .tc .vmem S4x1024x1024 .bf16) (harg13 : arg13.IsWhole) (arg14 : Memref sig .tc .vmem S4096x1024 .bf16) (harg14 : arg14.IsWhole)
    (hc0) (hc1) (x0 : X0) (x1 : X1) (x2 : XR) (x3 : X0) (xo : X1) (w : W1) (v : W2) (fh0) (fh1) (r : Fin 256) (l : Fin 1024) :
    (out0_B_4 c i arg1 harg1 arg2 harg2 arg5 harg5 arg6 harg6 arg7 harg7 arg8 harg8 arg9 harg9 arg10 harg10 arg11 harg11 arg12 harg12 arg13 harg13 arg14 harg14 hc0 hc1 x0 x1 x2 x3 xo w v fh0 fh1 (ix2 r l) : EReal) = dxv x0 x1 x3 w v x2 r l := by
  unfold out0_B_4
  rw [View.read_writes_eq_canon _ _ _ (cover0_B_4 c _ _ _ _ _ _ _ _ _ _ _ _ _ _ _ _ _ _ _ _ _ _ _ _ _ _ _ _ _ _ _ _ _ _ _ _)]
  unfold kernelRun0_B
  dsimp only
  sl_unfold_words
  simp only [View.readAt_eq_ld, harg1.read_unread, harg2.read_unread, harg5.read_unread, harg6.read_unread, harg7.read_unread, harg8.read_unread, harg9.read_unread, harg10.read_unread, harg11.read_unread, harg12.read_unread, harg13.read_unread, harg14.read_unread, View.readCov_eq_canon']
  rw [View.canon_unit_zero off2]
  simp only [View.ld_unit_zero (S := S256x1024) off2, View.ld_unit_zero (S := S1x1024) off2]
  exact dxfin x0 x1 x3 w v x2 r l

set_option maxHeartbeats 1000000 in
theorem out_B5 (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x4096 .bf16) (harg5 : arg5.IsWhole) (arg6 : Memref sig .tc .vmem S256x1024 .f32) (harg6 : arg6.IsWhole) (arg7 : Memref sig .tc .vmem S256x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x4096 .bf16) (harg11 : arg11.IsWhole) (arg12 : Memref sig .tc .vmem S256x1024 .bf16) (harg12 : arg12.IsWhole) (arg13 : Memref sig .tc .vmem S4x1024x1024 .bf16) (harg13 : arg13.IsWhole) (arg14 : Memref sig .tc .vmem S4096x1024 .bf16) (harg14 : arg14.IsWhole)
    (hc0) (hc1) (x0 : X0) (x1 : X1) (x2 : XR) (x3 : X0) (xo : X1) (w : W1) (v : W2) (fh0) (fh1) (l : Fin 1024) :
    (out0_B_5 c i arg1 harg1 arg2 harg2 arg5 harg5 arg6 harg6 arg7 harg7 arg8 harg8 arg9 harg9 arg10 harg10 arg11 harg11 arg12 harg12 arg13 harg13 arg14 harg14 hc0 hc1 x0 x1 x2 x3 xo w v fh0 fh1 (ix2 0 l) : EReal) = xo (ix2 0 l) + ∑ r : Fin 256, dh x3 w v x2 r l * (x0 (ix2 r l) * rs (fun k => x0 (ix2 r k))) := by
  unfold out0_B_5
  rw [View.read_writes_eq_canon _ _ _ (cover0_B_5 c _ _ _ _ _ _ _ _ _ _ _ _ _ _ _ _ _ _ _ _ _ _ _ _ _ _ _ _ _ _ _ _ _ _ _ _)]
  unfold kernelRun0_B
  dsimp only
  sl_unfold_words
  simp only [View.readAt_eq_ld, harg1.read_unread, harg2.read_unread, harg5.read_unread, harg6.read_unread, harg7.read_unread, harg8.read_unread, harg9.read_unread, harg10.read_unread, harg11.read_unread, harg12.read_unread, harg13.read_unread, harg14.read_unread, View.readCov_eq_canon']
  rw [View.canon_cons_unit_zero off2]
  simp only [View.ld_unit_zero (S := S256x1024) off2, View.ld_unit_zero (S := S1x1024) off2, View.canon_unit_zero (S := S1x1024) off2]
  exact dgfin x0 x3 w v x2 xo l

set_option maxHeartbeats 1000000 in
theorem out_B6 (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x4096 .bf16) (harg5 : arg5.IsWhole) (arg6 : Memref sig .tc .vmem S256x1024 .f32) (harg6 : arg6.IsWhole) (arg7 : Memref sig .tc .vmem S256x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x4096 .bf16) (harg11 : arg11.IsWhole) (arg12 : Memref sig .tc .vmem S256x1024 .bf16) (harg12 : arg12.IsWhole) (arg13 : Memref sig .tc .vmem S4x1024x1024 .bf16) (harg13 : arg13.IsWhole) (arg14 : Memref sig .tc .vmem S4096x1024 .bf16) (harg14 : arg14.IsWhole)
    (hc0) (hc1) (x0 : X0) (x1 : X1) (x2 : XR) (x3 : X0) (xo : X1) (w : W1) (v : W2) (fh0) (fh1)  :
    out0_B_6 c i arg1 harg1 arg2 harg2 arg5 harg5 arg6 harg6 arg7 harg7 arg8 harg8 arg9 harg9 arg10 harg10 arg11 harg11 arg12 harg12 arg13 harg13 arg14 harg14 hc0 hc1 x0 x1 x2 x3 xo w v fh0 fh1 = k0_pay7 (F := Ideal) x0 x1 := by
  unfold out0_B_6
  rw [View.read_writes_eq_canon _ _ _ (cover0_B_6 c _ _ _ _ _ _ _ _ _ _ _ _ _ _ _ _ _ _ _ _ _ _ _ _ _ _ _ _ _ _ _ _ _ _ _ _)]
  unfold kernelRun0_B
  dsimp only
  sl_unfold_words
  simp only [View.readAt_eq_ld, harg1.read_unread, harg2.read_unread, harg5.read_unread, harg6.read_unread, harg7.read_unread, harg8.read_unread, harg9.read_unread, harg10.read_unread, harg11.read_unread, harg12.read_unread, harg13.read_unread, harg14.read_unread, View.readCov_eq_canon']
  rw [View.canon_unit_zero off2]
  simp only [View.ld_unit_zero (S := S256x1024) off2, View.ld_unit_zero (S := S1x1024) off2]

set_option maxHeartbeats 1000000 in
theorem out_B7 (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x4096 .bf16) (harg5 : arg5.IsWhole) (arg6 : Memref sig .tc .vmem S256x1024 .f32) (harg6 : arg6.IsWhole) (arg7 : Memref sig .tc .vmem S256x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x4096 .bf16) (harg11 : arg11.IsWhole) (arg12 : Memref sig .tc .vmem S256x1024 .bf16) (harg12 : arg12.IsWhole) (arg13 : Memref sig .tc .vmem S4x1024x1024 .bf16) (harg13 : arg13.IsWhole) (arg14 : Memref sig .tc .vmem S4096x1024 .bf16) (harg14 : arg14.IsWhole)
    (hc0) (hc1) (x0 : X0) (x1 : X1) (x2 : XR) (x3 : X0) (xo : X1) (w : W1) (v : W2) (fh0) (fh1) (y : S256x4096.Idx) :
    (out0_B_7 c i arg1 harg1 arg2 harg2 arg5 harg5 arg6 harg6 arg7 harg7 arg8 harg8 arg9 harg9 arg10 harg10 arg11 harg11 arg12 harg12 arg13 harg13 arg14 harg14 hc0 hc1 x0 x1 x2 x3 xo w v fh0 fh1 y : EReal) = (fun r q => (x2 (ix2 r q) * x2 (ix2 r q) : EReal)) (y 0) (y 1) := by
  unfold out0_B_7
  rw [View.read_writes_eq_canon _ _ _ (cover0_B_7 c _ _ _ _ _ _ _ _ _ _ _ _ _ _ _ _ _ _ _ _ _ _ _ _ _ _ _ _ _ _ _ _ _ _ _ _)]
  unfold kernelRun0_B
  dsimp only
  sl_unfold_words
  simp only [View.readAt_eq_ld, harg1.read_unread, harg2.read_unread, harg5.read_unread, harg6.read_unread, harg7.read_unread, harg8.read_unread, harg9.read_unread, harg10.read_unread, harg11.read_unread, harg12.read_unread, harg13.read_unread, harg14.read_unread, View.readCov_eq_canon']
  try simp only [View.ld_unit_zero (S := S256x1024) off2, View.ld_unit_zero (S := S1x1024) off2]
  exact actfin x2 y

set_option maxHeartbeats 1000000 in
theorem out_B8 (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x4096 .bf16) (harg5 : arg5.IsWhole) (arg6 : Memref sig .tc .vmem S256x1024 .f32) (harg6 : arg6.IsWhole) (arg7 : Memref sig .tc .vmem S256x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x4096 .bf16) (harg11 : arg11.IsWhole) (arg12 : Memref sig .tc .vmem S256x1024 .bf16) (harg12 : arg12.IsWhole) (arg13 : Memref sig .tc .vmem S4x1024x1024 .bf16) (harg13 : arg13.IsWhole) (arg14 : Memref sig .tc .vmem S4096x1024 .bf16) (harg14 : arg14.IsWhole)
    (hc0) (hc1) (x0 : X0) (x1 : X1) (x2 : XR) (x3 : X0) (xo : X1) (w : W1) (v : W2) (fh0) (fh1) (y : S256x4096.Idx) :
    (out0_B_8 c i arg1 harg1 arg2 harg2 arg5 harg5 arg6 harg6 arg7 harg7 arg8 harg8 arg9 harg9 arg10 harg10 arg11 harg11 arg12 harg12 arg13 harg13 arg14 harg14 hc0 hc1 x0 x1 x2 x3 xo w v fh0 fh1 y : EReal) = df x3 v x2 (y 0) (y 1) := by
  unfold out0_B_8
  rw [View.read_writes_eq_canon _ _ _ (cover0_B_8 c _ _ _ _ _ _ _ _ _ _ _ _ _ _ _ _ _ _ _ _ _ _ _ _ _ _ _ _ _ _ _ _ _ _ _ _)]
  unfold kernelRun0_B
  dsimp only
  sl_unfold_words
  simp only [View.readAt_eq_ld, harg1.read_unread, harg2.read_unread, harg5.read_unread, harg6.read_unread, harg7.read_unread, harg8.read_unread, harg9.read_unread, harg10.read_unread, harg11.read_unread, harg12.read_unread, harg13.read_unread, harg14.read_unread, View.readCov_eq_canon']
  try simp only [View.ld_unit_zero (S := S256x1024) off2, View.ld_unit_zero (S := S1x1024) off2]
  exact dffin x3 v x2 y

set_option maxHeartbeats 1000000 in
theorem out_B9 (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x4096 .bf16) (harg5 : arg5.IsWhole) (arg6 : Memref sig .tc .vmem S256x1024 .f32) (harg6 : arg6.IsWhole) (arg7 : Memref sig .tc .vmem S256x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x4096 .bf16) (harg11 : arg11.IsWhole) (arg12 : Memref sig .tc .vmem S256x1024 .bf16) (harg12 : arg12.IsWhole) (arg13 : Memref sig .tc .vmem S4x1024x1024 .bf16) (harg13 : arg13.IsWhole) (arg14 : Memref sig .tc .vmem S4096x1024 .bf16) (harg14 : arg14.IsWhole)
    (hc0) (hc1) (x0 : X0) (x1 : X1) (x2 : XR) (x3 : X0) (xo : X1) (w : W1) (v : W2) (fh0) (fh1)  :
    out0_B_9 c i arg1 harg1 arg2 harg2 arg5 harg5 arg6 harg6 arg7 harg7 arg8 harg8 arg9 harg9 arg10 harg10 arg11 harg11 arg12 harg12 arg13 harg13 arg14 harg14 hc0 hc1 x0 x1 x2 x3 xo w v fh0 fh1 = k0_pay8 (F := Ideal) x3 := by
  unfold out0_B_9
  rw [View.read_writes_eq_canon _ _ _ (cover0_B_9 c _ _ _ _ _ _ _ _ _ _ _ _ _ _ _ _ _ _ _ _ _ _ _ _ _ _ _ _ _ _ _ _ _ _ _ _)]
  unfold kernelRun0_B
  dsimp only
  sl_unfold_words
  simp only [View.readAt_eq_ld, harg1.read_unread, harg2.read_unread, harg5.read_unread, harg6.read_unread, harg7.read_unread, harg8.read_unread, harg9.read_unread, harg10.read_unread, harg11.read_unread, harg12.read_unread, harg13.read_unread, harg14.read_unread, View.readCov_eq_canon']
  rw [View.canon_unit_zero off2]
  simp only [View.ld_unit_zero (S := S256x1024) off2, View.ld_unit_zero (S := S1x1024) off2]

set_option maxHeartbeats 1000000 in
theorem sout_A0 (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x4096 .bf16) (harg5 : arg5.IsWhole) (arg6 : Memref sig .tc .vmem S256x1024 .f32) (harg6 : arg6.IsWhole) (arg7 : Memref sig .tc .vmem S256x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x4096 .bf16) (harg11 : arg11.IsWhole) (arg12 : Memref sig .tc .vmem S256x1024 .bf16) (harg12 : arg12.IsWhole) (arg13 : Memref sig .tc .vmem S4x1024x1024 .bf16) (harg13 : arg13.IsWhole) (arg14 : Memref sig .tc .vmem S4096x1024 .bf16) (harg14 : arg14.IsWhole)
    (hc0) (hc1) (x0 : X0) (x1 : X1) (x2 : XR) (x3 : X0) (w : W1) (v : W2) :
    sout0_A_0 c i arg1 harg1 arg2 harg2 arg5 harg5 arg6 harg6 arg7 harg7 arg8 harg8 arg9 harg9 arg10 harg10 arg11 harg11 arg12 harg12 arg13 harg13 arg14 harg14 hc0 hc1 x0 x1 x2 x3 w v = w := by
  unfold sout0_A_0
  rw [View.read_writes_eq_canon _ _ _ (scover0_A_0 c _ _ _ _ _ _ _ _ _ _ _ _ _ _ _ _ _ _ _ _ _ _ _ _ _ _ _ _ _ _ _ _ _)]
  unfold kernelRun0_A
  dsimp only
  sl_unfold_words
  rw [canon_whole]
  rfl

set_option maxHeartbeats 1000000 in
theorem sout_A1 (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x4096 .bf16) (harg5 : arg5.IsWhole) (arg6 : Memref sig .tc .vmem S256x1024 .f32) (harg6 : arg6.IsWhole) (arg7 : Memref sig .tc .vmem S256x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x4096 .bf16) (harg11 : arg11.IsWhole) (arg12 : Memref sig .tc .vmem S256x1024 .bf16) (harg12 : arg12.IsWhole) (arg13 : Memref sig .tc .vmem S4x1024x1024 .bf16) (harg13 : arg13.IsWhole) (arg14 : Memref sig .tc .vmem S4096x1024 .bf16) (harg14 : arg14.IsWhole)
    (hc0) (hc1) (x0 : X0) (x1 : X1) (x2 : XR) (x3 : X0) (w : W1) (v : W2) :
    sout0_A_1 c i arg1 harg1 arg2 harg2 arg5 harg5 arg6 harg6 arg7 harg7 arg8 harg8 arg9 harg9 arg10 harg10 arg11 harg11 arg12 harg12 arg13 harg13 arg14 harg14 hc0 hc1 x0 x1 x2 x3 w v = v := by
  unfold sout0_A_1
  rw [View.read_writes_eq_canon _ _ _ (scover0_A_1 c _ _ _ _ _ _ _ _ _ _ _ _ _ _ _ _ _ _ _ _ _ _ _ _ _ _ _ _ _ _ _ _ _)]
  unfold kernelRun0_A
  dsimp only
  sl_unfold_words
  rw [canon_whole]
  rfl

end Cert.FfnBwdVal
end
-- ==== Proof.FfnBwdVal.lean ====
/- Hand-written, untrusted: THE FEED-FORWARD BACKWARD CALL (two products in four chunks, the rectifier's gradient, the norm's gradient) writes, block by block, the rows of the reference's results, and sums over the
   blocks the reference's gradient of the gain. -/
module

public import proofs.«01_k».proof.Proof.Mat
public import proofs.«01_k».proof.Proof.FfnBwdCase
public import proofs.«01_k».proof.Proof.Gen.Pre_ffn_finite
public import proofs.«01_k».proof.Proof.Gen.FfnBwdIdeal.Value
public import proofs.«01_k».proof.Proof.Gen.FfnBwdRefIdeal.Run
public import proofs.«01_k».proof.Proof.Gen.FfnBwdRefIdeal.Read
public import proofs.«01_k».proof.Defs

@[expose] public section

set_option maxRecDepth 16384

noncomputable section

namespace Cert.FfnBwdVal

open Cert.FfnBwdIdeal Cert.FfnBwdIdeal.Gen Cert.FfnBwdIdeal.Value Cert.Mat Idealize.ShloMosaic Idealize.ShloMosaic.TcCoe Idealize.SL.Sem
open Idealize.ShloMosaic.Tactic

variable (m : (ℓ : Loc nD τ sig) → Buf (Elt Ideal) ℓ) (c : Dev nD)

abbrev A0 : Vec Ideal S4096x1024 .f32 := m ((c : Thread nD τ).loc main_arg0)
abbrev A1 : Vec Ideal S1024 .f32 := m ((c : Thread nD τ).loc main_arg1)
abbrev A2 : Vec Ideal S1024x4096 .f32 := m ((c : Thread nD τ).loc main_arg2)
abbrev A3 : Vec Ideal S4096x1024 .f32 := m ((c : Thread nD τ).loc main_arg3)
abbrev A4 : Vec Ideal S4096x1024 .f32 := m ((c : Thread nD τ).loc main_arg4)

theorem ltN (t : Fin cfg0.N) : t.val < 16 := lt_of_lt_of_eq t.isLt (show cfg0.N = 16 from N_0)

/-- Row `r` of block `t`. -/
abbrev row (t : Fin cfg0.N) (r : Fin 256) : Fin 4096 := ⟨256 * t.val + r.val, by have := ltN t; omega⟩

theorem V_g (l : Fin 1024) : V m c main_v19 (ix2 (0 : Fin 1) l) = A1 m c (ix1 l) := by
  have h : V m c main_v19 = (shapeCast S1x1024 (A1 m c) shapeCasts_S1024_S1x1024 : Vec Ideal S1x1024 .f32) := by
    show StableHlo.after (List.flatten [hostOps0, hostOps0_1, hostOps0_2]) _ (Proc.devRef .tc main_v19) = _
    simp only [hostOps0, hostOps0_1, hostOps0_2, List.flatten_cons, List.flatten_nil, List.append_nil, List.cons_append, List.nil_append]
    after_results
    rfl
  rw [h]
  simp only [pointwise]

theorem V_w2 : V m c main_v20 = (truncf (F := Ideal) .bf16 (A3 m c) bitsLt_bf16_f32 : Vec Ideal S4096x1024 .bf16) := by
    show StableHlo.after (List.flatten [hostOps0, hostOps0_1, hostOps0_2]) _ (Proc.devRef .tc main_v20) = _
    simp only [hostOps0, hostOps0_1, hostOps0_2, List.flatten_cons, List.flatten_nil, List.append_nil, List.cons_append, List.nil_append]
    after_results

theorem V_w1 (q : Fin 4) (k : Fin 1024) (j : Fin 1024) : (V m c main_v2 (ix3 q k j) : EReal) = A2 m c (ix2 k (⟨1024 * q.val + j.val, by omega⟩ : Fin 4096)) := by
  have h : V m c main_v2 = (transpose S4x1024x1024 [1, 0, 2] (shapeCast S1024x4x1024 (truncf (F := Ideal) .bf16 (A2 m c) bitsLt_bf16_f32 : Vec Ideal S1024x4096 .bf16) shapeCasts_S1024x4096_S1024x4x1024 : Vec Ideal S1024x4x1024 .bf16) transposes_S1024x4x1024_S4x1024x1024_1_0_2 : Vec Ideal S4x1024x1024 .bf16) := by
    show StableHlo.after (List.flatten [hostOps0, hostOps0_1, hostOps0_2]) _ (Proc.devRef .tc main_v2) = _
    simp only [hostOps0, hostOps0_1, hostOps0_2, List.flatten_cons, List.flatten_nil, List.append_nil, List.cons_append, List.nil_append]
    after_results
    rfl
  rw [h]
  simp only [pointwise]
  refine congrArg (A2 m c) (funext fun a => Fin.ext ?_)
  match a with
  | ⟨0, _⟩ => rfl
  | ⟨1, _⟩ => show q.val * 1024 + j.val = 1024 * q.val + j.val; omega

/-- The saved rectified product is the reference's. -/
abbrev RL : Vec Ideal S4096x4096 .bf16 := truncf (F := Ideal) .bf16 (Cert.FfnBwdRefIdeal.Read.val_main_v17 (F := Ideal) (A0 m c) (A1 m c) (A2 m c)) bitsLt_bf16_f32

theorem V_rl : V m c main_v18 = RL m c := by
    show StableHlo.after (List.flatten [hostOps0, hostOps0_1, hostOps0_2]) _ (Proc.devRef .tc main_v18) = _
    simp only [hostOps0, hostOps0_1, hostOps0_2, List.flatten_cons, List.flatten_nil, List.append_nil, List.cons_append, List.nil_append]
    after_results
    rfl

theorem at0 : ∀ t : Fin cfg0.N, win0_0.index t (0 : Fin 2) = t.val ∧ win0_0.index t (1 : Fin 2) = 0 := (by decide +kernel : ∀ t : Fin grid0.N, _)
theorem b0 (t : Fin cfg0.N) (r : Fin 256) (l : Fin 1024) : (iblk m c 0 t : Vec Ideal S256x1024 .f32) (ix2 r l) = A0 m c (ix2 (row t r) l) := by
  obtain ⟨e0, e1⟩ := at0 t
  show V m c main_arg0 (((cfg0.win 0).blk t).view.emb (ix2 r l)) = _
  rw [V_main_arg0]
  refine congrArg (A0 m c) (funext fun a => Fin.ext ?_)
  match a with
  | ⟨0, _⟩ => show win0_0.index t (0 : Fin 2) * 256 + 1 * r.val = 256 * t.val + r.val; omega
  | ⟨1, _⟩ => show win0_0.index t (1 : Fin 2) * 1024 + 1 * l.val = l.val; omega

theorem at1 : ∀ t : Fin cfg0.N, win0_1.index t (0 : Fin 2) = 0 ∧ win0_1.index t (1 : Fin 2) = 0 := (by decide +kernel : ∀ t : Fin grid0.N, _)
theorem b1 (t : Fin cfg0.N) (r : Fin 1) (l : Fin 1024) : (iblk m c 1 t : Vec Ideal S1x1024 .f32) (ix2 r l) = A1 m c (ix1 l) := by
  obtain ⟨e0, e1⟩ := at1 t
  show V m c main_v19 (((cfg0.win 1).blk t).view.emb (ix2 r l)) = _
  have he : ((cfg0.win 1).blk t).view.emb (ix2 r l) = (ix2 r l : S1x1024.Idx) := funext fun a => Fin.ext (by
    match a with
    | ⟨0, _⟩ => show win0_1.index t (0 : Fin 2) * 1 + 1 * r.val = r.val; omega
    | ⟨1, _⟩ => show win0_1.index t (1 : Fin 2) * 1024 + 1 * l.val = l.val; omega)
  rw [he, Subsingleton.elim r 0]
  exact V_g m c l

theorem at2 : ∀ t : Fin cfg0.N, win0_2.index t (0 : Fin 2) = t.val ∧ win0_2.index t (1 : Fin 2) = 0 := (by decide +kernel : ∀ t : Fin grid0.N, _)
theorem b2 (t : Fin cfg0.N) (r : Fin 256) (l : Fin 4096) : (iblk m c 2 t : Vec Ideal S256x4096 .bf16) (ix2 r l) = RL m c (ix2 (row t r) l) := by
  obtain ⟨e0, e1⟩ := at2 t
  show V m c main_v18 (((cfg0.win 2).blk t).view.emb (ix2 r l)) = _
  rw [V_rl]
  refine congrArg (RL m c) (funext fun a => Fin.ext ?_)
  match a with
  | ⟨0, _⟩ => show win0_2.index t (0 : Fin 2) * 256 + 1 * r.val = 256 * t.val + r.val; omega
  | ⟨1, _⟩ => show win0_2.index t (1 : Fin 2) * 4096 + 1 * l.val = l.val; omega

theorem at3 : ∀ t : Fin cfg0.N, win0_3.index t (0 : Fin 2) = t.val ∧ win0_3.index t (1 : Fin 2) = 0 := (by decide +kernel : ∀ t : Fin grid0.N, _)
theorem b3 (t : Fin cfg0.N) (r : Fin 256) (l : Fin 1024) : (iblk m c 3 t : Vec Ideal S256x1024 .f32) (ix2 r l) = A4 m c (ix2 (row t r) l) := by
  obtain ⟨e0, e1⟩ := at3 t
  show V m c main_arg4 (((cfg0.win 3).blk t).view.emb (ix2 r l)) = _
  rw [V_main_arg4]
  refine congrArg (A4 m c) (funext fun a => Fin.ext ?_)
  match a with
  | ⟨0, _⟩ => show win0_3.index t (0 : Fin 2) * 256 + 1 * r.val = 256 * t.val + r.val; omega
  | ⟨1, _⟩ => show win0_3.index t (1 : Fin 2) * 1024 + 1 * l.val = l.val; omega

/-! ### The reference -/

abbrev Y0 := Vec Ideal S4096x1024 .f32
abbrev Y1 := Vec Ideal S1024 .f32
abbrev Y2 := Vec Ideal S1024x4096 .f32

theorem z : (FloatOps.ofBits (F := Ideal) .f32 0x00000000#32 : EReal) = 0 := zero_word

theorem v6_at (x0 : Y0) (i : Fin 4096) : (Cert.FfnBwdRefIdeal.Read.val_main_v6 (F := Ideal) x0 (ix2 i 0) : EReal) = vv (fun k => x0 (ix2 i k)) := by
  have e : ∀ k : Fin 1024, Cert.FfnBwdRefIdeal.Read.idx_main_v1 (Cert.FfnBwdRefIdeal.Read.idx_main_v2 (ix2 i 0)) k = (ix2 i k : S4096x1024.Idx) :=
    fun k => funext fun a => Fin.ext (by
      match a with
      | ⟨0, _⟩ => rfl
      | ⟨1, _⟩ => rfl)
  simp only [Cert.FfnBwdRefIdeal.Read.val_main_v6_apply, Cert.FfnBwdRefIdeal.Read.val_main_v5_apply, Cert.FfnBwdRefIdeal.Read.val_main_v4_apply, Cert.FfnBwdRefIdeal.Read.val_main_v3_apply, Cert.FfnBwdRefIdeal.Read.val_main_v2_apply, Cert.FfnBwdRefIdeal.Read.val_main_v1_apply, Cert.FfnBwdRefIdeal.Read.val_main_v0_apply, Cert.FfnBwdRefIdeal.Read.val_main_cst_apply, Cert.FfnBwdRefIdeal.Read.val_main_cst_0_apply, Cert.FfnBwdRefIdeal.Read.val_main_cst_1_apply, e]
  rw [z, zero_add]
  rfl
theorem v7_at (x0 : Y0) (i : Fin 4096) : (Cert.FfnBwdRefIdeal.Read.val_main_v7 (F := Ideal) x0 (ix2 i 0) : EReal) = rs (fun k => x0 (ix2 i k)) :=
  congrArg Ideal.rsqrt (v6_at x0 i)
theorem v12_at (x0 : Y0) (i : Fin 4096) (l : Fin 1024) : (Cert.FfnBwdRefIdeal.Read.val_main_v12 (F := Ideal) x0 (ix2 i l) : EReal) = x0 (ix2 i l) * rs (fun k => x0 (ix2 i k)) := by
  refine Eq.trans ?_ (congrArg (fun z : EReal => (x0 (ix2 i l) : EReal) * z) (v7_at x0 i))
  refine congrArg (fun z : EReal => (x0 (ix2 i l) : EReal) * z) ((Cert.FfnBwdRefIdeal.Read.val_main_v11_apply (F := Ideal) x0 (ix2 i l)).trans (congrArg (Cert.FfnBwdRefIdeal.Read.val_main_v7 (F := Ideal) x0) (funext fun a => Fin.ext ?_)))
  match a with
  | ⟨0, _⟩ => rfl
  | ⟨1, _⟩ => rfl

theorem v15_at (x0 : Y0) (x1 : Y1) (i : Fin 4096) (l : Fin 1024) : (Cert.FfnBwdRefIdeal.Read.val_main_v15 (F := Ideal) x0 x1 (ix2 i l) : EReal) = x0 (ix2 i l) * rs (fun k => x0 (ix2 i k)) * x1 (ix1 l) := by
  refine congr (congrArg HMul.hMul (v12_at x0 i l)) ?_
  rw [Cert.FfnBwdRefIdeal.Read.val_main_v14_apply, Cert.FfnBwdRefIdeal.Read.val_main_v13_apply]
  refine congrArg x1 (funext fun a => Fin.ext ?_)
  match a with
  | ⟨0, _⟩ => rfl

theorem v65_at (x0 : Vec Ideal S4096x1024 .f32) (x1 : Vec Ideal S1024 .f32) (i : Fin 4096) (l : Fin 1024) :
    (Cert.FfnBwdRefIdeal.Read.val_main_v65 (F := Ideal) x0 x1 (ix2 i l) : EReal) = x0 (ix2 i l) * rs (fun k => x0 (ix2 i k)) * x1 (ix1 l) := by
  have e : ∀ k : Fin 1024, Cert.FfnBwdRefIdeal.Read.idx_main_v54 (Cert.FfnBwdRefIdeal.Read.idx_main_v55 (Cert.FfnBwdRefIdeal.Read.idx_main_v61 (ix2 i l))) k = (ix2 i k : S4096x1024.Idx) :=
    fun k => funext fun a => Fin.ext (by
      match a with
      | ⟨0, _⟩ => rfl
      | ⟨1, _⟩ => rfl)
  have e2 : Cert.FfnBwdRefIdeal.Read.idx_main_v63 (Cert.FfnBwdRefIdeal.Read.idx_main_v64 (ix2 i l)) = (ix1 l : S1024.Idx) :=
    funext fun a => Fin.ext (by
      match a with
      | ⟨0, _⟩ => rfl)
  have z : (FloatOps.ofBits (F := Ideal) .f32 0x00000000#32 : EReal) = 0 := zero_word
  simp only [Cert.FfnBwdRefIdeal.Read.val_main_v65_apply, Cert.FfnBwdRefIdeal.Read.val_main_v64_apply, Cert.FfnBwdRefIdeal.Read.val_main_v63_apply, Cert.FfnBwdRefIdeal.Read.val_main_v62_apply, Cert.FfnBwdRefIdeal.Read.val_main_v61_apply, Cert.FfnBwdRefIdeal.Read.val_main_v60_apply, Cert.FfnBwdRefIdeal.Read.val_main_v59_apply, Cert.FfnBwdRefIdeal.Read.val_main_v58_apply, Cert.FfnBwdRefIdeal.Read.val_main_v57_apply, Cert.FfnBwdRefIdeal.Read.val_main_v56_apply, Cert.FfnBwdRefIdeal.Read.val_main_v55_apply, Cert.FfnBwdRefIdeal.Read.val_main_v54_apply, Cert.FfnBwdRefIdeal.Read.val_main_v53_apply, Cert.FfnBwdRefIdeal.Read.val_main_cst_12_apply, Cert.FfnBwdRefIdeal.Read.val_main_cst_13_apply, Cert.FfnBwdRefIdeal.Read.val_main_cst_14_apply, e, e2]
  rw [z, zero_add]
  rfl

theorem zero_at0 (i : S4096x4096.Idx) : (Cert.FfnBwdRefIdeal.Read.val_main_call0_v0 (F := Ideal) i : EReal) = 0 := by
  rw [Cert.FfnBwdRefIdeal.Read.val_main_call0_v0_apply, Cert.FfnBwdRefIdeal.Read.val_main_call0_cst_apply]
  exact zero_word
theorem zero_at1 (i : S4096x4096.Idx) : (Cert.FfnBwdRefIdeal.Read.val_main_call1_v0 (F := Ideal) i : EReal) = 0 := by
  rw [Cert.FfnBwdRefIdeal.Read.val_main_call1_v0_apply, Cert.FfnBwdRefIdeal.Read.val_main_call1_cst_apply]
  exact zero_word
theorem zero_at2 (i : S4096x4096.Idx) : (Cert.FfnBwdRefIdeal.Read.val_main_call2_v0 (F := Ideal) i : EReal) = 0 := by
  rw [Cert.FfnBwdRefIdeal.Read.val_main_call2_v0_apply, Cert.FfnBwdRefIdeal.Read.val_main_call2_cst_apply]
  exact zero_word
theorem v16_at (x0 : Y0) (x1 : Y1) (x2 : Y2) (i q : Fin 4096) : (Cert.FfnBwdRefIdeal.Read.val_main_v16 (F := Ideal) x0 x1 x2 (ix2 i q) : EReal) = ∑ k : Fin 1024, x0 (ix2 i k) * rs (fun k => x0 (ix2 i k)) * x1 (ix1 k) * x2 (ix2 k q) :=
  (hmm (M := 4096) (K := 1024) (N := 4096) none _ _ i q).trans (Finset.sum_congr rfl fun k _ => congrArg (fun z : EReal => z * (x2 (ix2 k q) : EReal)) (v15_at x0 x1 i k))
theorem v66_at (x0 : Y0) (x1 : Y1) (x2 : Y2) (i q : Fin 4096) : (Cert.FfnBwdRefIdeal.Read.val_main_v66 (F := Ideal) x0 x1 x2 (ix2 i q) : EReal) = Cert.FfnBwdRefIdeal.Read.val_main_v16 (F := Ideal) x0 x1 x2 (ix2 i q) :=
  ((hmm (M := 4096) (K := 1024) (N := 4096) none _ _ i q).trans (Finset.sum_congr rfl fun k _ => congrArg (fun z : EReal => z * (x2 (ix2 k q) : EReal)) (v65_at x0 x1 i k))).trans (v16_at x0 x1 x2 i q).symm
theorem v17_at (x0 : Y0) (x1 : Y1) (x2 : Y2) (i q : Fin 4096) : (Cert.FfnBwdRefIdeal.Read.val_main_v17 (F := Ideal) x0 x1 x2 (ix2 i q) : EReal) = max (Cert.FfnBwdRefIdeal.Read.val_main_v16 (F := Ideal) x0 x1 x2 (ix2 i q) : EReal) 0 :=
  congrArg (max (Cert.FfnBwdRefIdeal.Read.val_main_v16 (F := Ideal) x0 x1 x2 (ix2 i q) : EReal)) (zero_at0 _)
theorem v67_at (x0 : Y0) (x1 : Y1) (x2 : Y2) (i q : Fin 4096) : (Cert.FfnBwdRefIdeal.Read.val_main_v67 (F := Ideal) x0 x1 x2 (ix2 i q) : EReal) = Cert.FfnBwdRefIdeal.Read.val_main_v17 (F := Ideal) x0 x1 x2 (ix2 i q) :=
  (congr (congrArg max (v66_at x0 x1 x2 i q)) (zero_at1 _)).trans (v17_at x0 x1 x2 i q).symm
theorem v81_at (x0 : Y0) (x1 : Y1) (x2 : Y2) (i q : Fin 4096) : (Cert.FfnBwdRefIdeal.Read.val_main_v81 (F := Ideal) x0 x1 x2 (ix2 i q) : EReal) = Cert.FfnBwdRefIdeal.Read.val_main_v17 (F := Ideal) x0 x1 x2 (ix2 i q) :=
  (congr (congrArg max (v66_at x0 x1 x2 i q)) (zero_at2 _)).trans (v17_at x0 x1 x2 i q).symm
theorem v83_at (x0 : Y0) (x1 : Y1) (x2 : Y2) (i q : Fin 4096) : (Cert.FfnBwdRefIdeal.Read.val_main_v83 (F := Ideal) x0 x1 x2 (ix2 i q) : EReal) = Cert.FfnBwdRefIdeal.Read.val_main_v17 (F := Ideal) x0 x1 x2 (ix2 i q) * Cert.FfnBwdRefIdeal.Read.val_main_v17 (F := Ideal) x0 x1 x2 (ix2 i q) :=
  congr (congrArg HMul.hMul (v81_at x0 x1 x2 i q)) (v81_at x0 x1 x2 i q)

/-- The rectifier's gradient: where the product is not positive the rectified value is zero, and so is the term. -/
theorem sel (f a : EReal) : Scalar.select (FloatOps.cmpf (F := Ideal) (φ := .f32) .ogt f (0 : EReal)) (a * (two * max f 0)) (0 : EReal) = a * (two * max f 0) := by
  show Scalar.select (BitVec.ofBool (decide ((0 : EReal) < f))) _ _ = _
  by_cases h : (0 : EReal) < f
  · rw [decide_eq_true h]; rfl
  · rw [decide_eq_false h, max_eq_right (not_lt.mp h), mul_zero, mul_zero]; rfl

theorem v27_at (x3 x4 : Y0) (i q : Fin 4096) : (Cert.FfnBwdRefIdeal.Read.val_main_v27 (F := Ideal) x3 x4 (ix2 i q) : EReal) = ∑ l : Fin 1024, x4 (ix2 i l) * x3 (ix2 q l) := by
  have hv : Cert.FfnBwdRefIdeal.Read.val_main_v26 (F := Ideal) x4 = x4 := shapeCast_id _ _
  refine (hmm_nt (φ₁ := .f32) (φ₂ := .f32) (M := 4096) (K := 1024) (N := 4096) none (Cert.FfnBwdRefIdeal.Read.val_main_v26 (F := Ideal) x4) x3 i q).trans ?_
  rw [hv]
theorem v75_at (x3 x4 : Y0) (i q : Fin 4096) : (Cert.FfnBwdRefIdeal.Read.val_main_v75 (F := Ideal) x3 x4 (ix2 i q) : EReal) = ∑ l : Fin 1024, x4 (ix2 i l) * x3 (ix2 q l) :=
  hmm_nt (φ₁ := .f32) (φ₂ := .f32) (M := 4096) (K := 1024) (N := 4096) none x4 x3 i q

theorem v30_at (x0 : Y0) (x1 : Y1) (x2 : Y2) (x3 x4 : Y0) (i q : Fin 4096) : (Cert.FfnBwdRefIdeal.Read.val_main_v30 (F := Ideal) x0 x1 x2 x3 x4 (ix2 i q) : EReal) = (∑ l : Fin 1024, x4 (ix2 i l) * x3 (ix2 q l)) * (two * Cert.FfnBwdRefIdeal.Read.val_main_v17 (F := Ideal) x0 x1 x2 (ix2 i q)) := by
  rw [← v27_at, v17_at]
  refine Eq.trans ?_ (sel _ _)
  simp only [Cert.FfnBwdRefIdeal.Read.val_main_v30_apply, Cert.FfnBwdRefIdeal.Read.val_main_v19_apply, Cert.FfnBwdRefIdeal.Read.val_main_v28_apply, Cert.FfnBwdRefIdeal.Read.val_main_v23_apply, Cert.FfnBwdRefIdeal.Read.val_main_v22_apply, Cert.FfnBwdRefIdeal.Read.val_main_v18_apply, Cert.FfnBwdRefIdeal.Read.val_main_v29_apply, Cert.FfnBwdRefIdeal.Read.val_main_cst_3_apply, Cert.FfnBwdRefIdeal.Read.val_main_cst_5_apply, Cert.FfnBwdRefIdeal.Read.val_main_cst_6_apply]
  rw [z, v17_at]
  rfl
theorem v78_at (x0 : Y0) (x1 : Y1) (x2 : Y2) (x3 x4 : Y0) (i q : Fin 4096) : (Cert.FfnBwdRefIdeal.Read.val_main_v78 (F := Ideal) x0 x1 x2 x3 x4 (ix2 i q) : EReal) = (∑ l : Fin 1024, x4 (ix2 i l) * x3 (ix2 q l)) * (two * Cert.FfnBwdRefIdeal.Read.val_main_v17 (F := Ideal) x0 x1 x2 (ix2 i q)) := by
  rw [← v75_at, v17_at]
  refine Eq.trans ?_ (sel _ _)
  simp only [Cert.FfnBwdRefIdeal.Read.val_main_v78_apply, Cert.FfnBwdRefIdeal.Read.val_main_v69_apply, Cert.FfnBwdRefIdeal.Read.val_main_v76_apply, Cert.FfnBwdRefIdeal.Read.val_main_v73_apply, Cert.FfnBwdRefIdeal.Read.val_main_v72_apply, Cert.FfnBwdRefIdeal.Read.val_main_v68_apply, Cert.FfnBwdRefIdeal.Read.val_main_v77_apply, Cert.FfnBwdRefIdeal.Read.val_main_cst_15_apply, Cert.FfnBwdRefIdeal.Read.val_main_cst_17_apply, Cert.FfnBwdRefIdeal.Read.val_main_cst_18_apply]
  rw [z, v67_at, v17_at, v66_at]
  rfl
theorem v31_at (x0 : Y0) (x1 : Y1) (x2 : Y2) (x3 x4 : Y0) (i : Fin 4096) (l : Fin 1024) : (Cert.FfnBwdRefIdeal.Read.val_main_v31 (F := Ideal) x0 x1 x2 x3 x4 (ix2 i l) : EReal) = ∑ q : Fin 4096, Cert.FfnBwdRefIdeal.Read.val_main_v30 (F := Ideal) x0 x1 x2 x3 x4 (ix2 i q) * x2 (ix2 l q) :=
  hmm_nt (φ₁ := .f32) (φ₂ := .f32) (M := 4096) (K := 4096) (N := 1024) none (Cert.FfnBwdRefIdeal.Read.val_main_v30 (F := Ideal) x0 x1 x2 x3 x4) x2 i l
theorem v36_at (x0 : Y0) (x1 : Y1) (x2 : Y2) (x3 x4 : Y0) (i : Fin 4096) (l : Fin 1024) : (Cert.FfnBwdRefIdeal.Read.val_main_v36 (F := Ideal) x0 x1 x2 x3 x4 (ix2 i l) : EReal) = Cert.FfnBwdRefIdeal.Read.val_main_v31 (F := Ideal) x0 x1 x2 x3 x4 (ix2 i l) * x1 (ix1 l) := by
  refine congrArg (fun z : EReal => (Cert.FfnBwdRefIdeal.Read.val_main_v31 (F := Ideal) x0 x1 x2 x3 x4 (ix2 i l) : EReal) * z) ?_
  rw [Cert.FfnBwdRefIdeal.Read.val_main_v35_apply, Cert.FfnBwdRefIdeal.Read.val_main_v13_apply]
  refine congrArg x1 (funext fun a => Fin.ext ?_)
  match a with
  | ⟨0, _⟩ => rfl
theorem v47_at (x0 : Y0) (x1 : Y1) (x2 : Y2) (x3 x4 : Y0) (i : Fin 4096) :
    (Cert.FfnBwdRefIdeal.Read.val_main_v47 (F := Ideal) x0 x1 x2 x3 x4 (ix1 i) : EReal) = dms (fun k => x0 (ix2 i k)) (fun k => Cert.FfnBwdRefIdeal.Read.val_main_v36 (F := Ideal) x0 x1 x2 x3 x4 (ix2 i k)) := by
  have e1 : Cert.FfnBwdRefIdeal.Read.idx_main_v47 (ix1 i) 0 = (ix2 i 0 : Cert.FfnBwdRefIdeal.S4096x1.Idx) := funext fun a => Fin.ext (by
      match a with
      | ⟨0, _⟩ => rfl
      | ⟨1, _⟩ => rfl)
  have e : ∀ k : Fin 1024, Cert.FfnBwdRefIdeal.Read.idx_main_v39 (Cert.FfnBwdRefIdeal.Read.idx_main_v40 (ix2 i 0)) k = (ix2 i k : S4096x1024.Idx) :=
    fun k => funext fun a => Fin.ext (by
      match a with
      | ⟨0, _⟩ => show i.val * 1 + 0 = i.val; omega
      | ⟨1, _⟩ => rfl)
  simp only [Cert.FfnBwdRefIdeal.Read.val_main_v47_apply, Cert.FfnBwdRefIdeal.Read.val_main_v46_apply, Cert.FfnBwdRefIdeal.Read.val_main_v45_apply, Cert.FfnBwdRefIdeal.Read.val_main_v44_apply, Cert.FfnBwdRefIdeal.Read.val_main_v40_apply, Cert.FfnBwdRefIdeal.Read.val_main_v39_apply, Cert.FfnBwdRefIdeal.Read.val_main_v38_apply, Cert.FfnBwdRefIdeal.Read.val_main_v10_apply, Cert.FfnBwdRefIdeal.Read.val_main_v9_apply, Cert.FfnBwdRefIdeal.Read.val_main_v8_apply, Cert.FfnBwdRefIdeal.Read.val_main_cst_2_apply, Cert.FfnBwdRefIdeal.Read.val_main_cst_9_apply, Cert.FfnBwdRefIdeal.Read.val_main_cst_10_apply, Cert.FfnBwdRefIdeal.Read.val_main_cst_11_apply, Fin.sum_univ_one, e1, e]
  rw [z, zero_add, zero_add, v7_at, v6_at]
  rfl
theorem v52_at (x0 : Y0) (x1 : Y1) (x2 : Y2) (x3 x4 : Y0) (i : Fin 4096) (l : Fin 1024) :
    (Cert.FfnBwdRefIdeal.Read.val_main_v52 (F := Ideal) x0 x1 x2 x3 x4 (ix2 i l) : EReal) = x4 (ix2 i l) + Cert.FfnBwdRefIdeal.Read.val_main_v36 (F := Ideal) x0 x1 x2 x3 x4 (ix2 i l) * rs (fun k => x0 (ix2 i k))
      + x0 (ix2 i l) * dms (fun k => x0 (ix2 i k)) (fun k => Cert.FfnBwdRefIdeal.Read.val_main_v36 (F := Ideal) x0 x1 x2 x3 x4 (ix2 i k)) + dms (fun k => x0 (ix2 i k)) (fun k => Cert.FfnBwdRefIdeal.Read.val_main_v36 (F := Ideal) x0 x1 x2 x3 x4 (ix2 i k)) * x0 (ix2 i l) := by
  have e1 : Cert.FfnBwdRefIdeal.Read.idx_main_v41 (ix2 i l) = (ix2 i 0 : Cert.FfnBwdRefIdeal.S4096x1.Idx) := funext fun a => Fin.ext (by
      match a with
      | ⟨0, _⟩ => rfl
      | ⟨1, _⟩ => rfl)
  have e2 : Cert.FfnBwdRefIdeal.Read.idx_main_v48 (ix2 i l) = (ix1 i : Cert.FfnBwdRefIdeal.S4096.Idx) := funext fun a => Fin.ext (by
      match a with
      | ⟨0, _⟩ => rfl)
  simp only [Cert.FfnBwdRefIdeal.Read.val_main_v52_apply, Cert.FfnBwdRefIdeal.Read.val_main_v51_apply, Cert.FfnBwdRefIdeal.Read.val_main_v50_apply, Cert.FfnBwdRefIdeal.Read.val_main_v49_apply, Cert.FfnBwdRefIdeal.Read.val_main_v48_apply, Cert.FfnBwdRefIdeal.Read.val_main_v43_apply, Cert.FfnBwdRefIdeal.Read.val_main_v42_apply, Cert.FfnBwdRefIdeal.Read.val_main_v41_apply, e1, e2]
  rw [v7_at, v47_at]
  rfl
theorem v79_at (x0 : Y0) (x1 : Y1) (x2 : Y2) (x3 x4 : Y0) (l : Fin 1024) :
    (Cert.FfnBwdRefIdeal.Read.val_main_v79 (F := Ideal) x0 x1 x2 x3 x4 (ix2 0 l) : EReal) = ∑ i : Fin 4096, Cert.FfnBwdRefIdeal.Read.val_main_v12 (F := Ideal) x0 (ix2 i l) * Cert.FfnBwdRefIdeal.Read.val_main_v31 (F := Ideal) x0 x1 x2 x3 x4 (ix2 i l) := by
  have e : ∀ k : Fin 4096, Cert.FfnBwdRefIdeal.Read.idx_main_v33 (Cert.FfnBwdRefIdeal.Read.idx_main_v34 (Cert.FfnBwdRefIdeal.Read.idx_main_v37 (Cert.FfnBwdRefIdeal.Read.idx_main_v79 (ix2 0 l)) 0)) k = (ix2 k l : S4096x1024.Idx) :=
    fun k => funext fun a => Fin.ext (by
      match a with
      | ⟨0, _⟩ => rfl
      | ⟨1, _⟩ => show 0 * 1024 + (0 * 1024 + l.val) = l.val; omega)
  simp only [Cert.FfnBwdRefIdeal.Read.val_main_v79_apply, Cert.FfnBwdRefIdeal.Read.val_main_v37_apply, Cert.FfnBwdRefIdeal.Read.val_main_v34_apply, Cert.FfnBwdRefIdeal.Read.val_main_v33_apply, Cert.FfnBwdRefIdeal.Read.val_main_v32_apply, Cert.FfnBwdRefIdeal.Read.val_main_cst_7_apply, Cert.FfnBwdRefIdeal.Read.val_main_cst_8_apply, Fin.sum_univ_one, e]
  rw [z, zero_add, zero_add]
  rfl

/-! ### The blocks -/

abbrev e0 (x : X0) (r : Fin 256) (l : Fin 1024) : EReal := x (ix2 r l)
abbrev e2 (x : XR) (r : Fin 256) (q : Fin 4096) : EReal := x (ix2 r q)

abbrev DH (t : Fin cfg0.N) (r : Fin 256) (l : Fin 1024) : EReal := dh (iblk m c 3 t) (V m c main_v2) (V m c main_v20) (iblk m c 2 t) r l

theorem df_at (t : Fin cfg0.N) (r : Fin 256) (q : Fin 4096) :
    df (iblk m c 3 t) (V m c main_v20) (iblk m c 2 t) r q = Cert.FfnBwdRefIdeal.Read.val_main_v30 (F := Ideal) (A0 m c) (A1 m c) (A2 m c) (A3 m c) (A4 m c) (ix2 (row t r) q) := by
  refine Eq.trans ?_ (v30_at _ _ _ _ _ (row t r) q).symm
  unfold df
  refine congr (congrArg HMul.hMul (Finset.sum_congr rfl fun l _ => congr (congrArg HMul.hMul (b3 m c t r l)) (congrFun (V_w2 m c) (ix2 q l)))) (congrArg (fun z : EReal => two * z) (b2 m c t r q))

theorem dh_at (t : Fin cfg0.N) (r : Fin 256) (l : Fin 1024) : DH m c t r l = Cert.FfnBwdRefIdeal.Read.val_main_v31 (F := Ideal) (A0 m c) (A1 m c) (A2 m c) (A3 m c) (A4 m c) (ix2 (row t r) l) := by
  refine Eq.trans ?_ (v31_at _ _ _ _ _ (row t r) l).symm
  unfold DH dh
  refine Finset.sum_congr rfl fun q _ => congr (congrArg HMul.hMul (df_at m c t r q)) ((V_w1 m c _ l _).trans ?_)
  refine congrArg (fun z : Fin 4096 => (A2 m c (ix2 l z) : EReal)) (Fin.ext ?_)
  show 1024 * (q.val / 1024) + q.val % 1024 = q.val
  omega

theorem xr_at (t : Fin cfg0.N) (r : Fin 256) (l : Fin 1024) :
    e0 (iblk m c 0 t) r l * rs (fun k => e0 (iblk m c 0 t) r k) = Cert.FfnBwdRefIdeal.Read.val_main_v12 (F := Ideal) (A0 m c) (ix2 (row t r) l) := by
  have hb : (fun k => (iblk m c 0 t : X0) (ix2 r k)) = fun k => A0 m c (ix2 (row t r) k) := funext fun k => b0 m c t r k
  refine Eq.trans ?_ (v12_at _ (row t r) l).symm
  exact congr (congrArg HMul.hMul (b0 m c t r l)) (congrArg rs hb)

/-- What a point leaves in the two scratch buffers is the two weights. -/
theorem scr (n : ℕ) (hn : n < cfg0.N) : (outsAt0 m c n hn).2.2.2.2.2.2.1 = V m c main_v2 ∧ (outsAt0 m c n hn).2.2.2.2.2.2.2 = V m c main_v20 := by
  induction n with
  | zero =>
    rw [show outsAt0 m c 0 hn = _ from outsAt0_A m c ⟨0, hn⟩ rfl rfl]
    dsimp only
    rw [sout_A0, sout_A1]
    exact ⟨rfl, rfl⟩
  | succ n ih =>
    have h16 : n + 1 < 16 := lt_of_lt_of_eq hn (show cfg0.N = 16 from N_0)
    have h0 : ¬ (n + 1) % 16 = 0 := by omega
    rw [show outsAt0 m c (n + 1) hn = _ from outsAt0_B m c ⟨n + 1, hn⟩ h0 h0]
    dsimp only
    unfold sout0_B_0 sout0_B_1
    exact ih (Nat.lt_of_succ_lt hn)

theorem dx_at (t : Fin cfg0.N) (r : Fin 256) (l : Fin 1024) :
    ((outsAt0 m c t.val t.isLt).1 (ix2 r l) : EReal) = dxv (iblk m c 0 t) (iblk m c 1 t) (iblk m c 3 t) (V m c main_v2) (V m c main_v20) (iblk m c 2 t) r l := by
  by_cases h0 : t.val % 16 = 0
  · rw [outsAt0_A m c t h0 h0]
    dsimp only
    rw [out_A4]
  · rw [outsAt0_B m c t h0 h0]
    have hp := scr m c (t.val - 1) (Nat.lt_of_le_of_lt (Nat.sub_le _ _) t.isLt)
    dsimp only
    rw [hp.1, hp.2]
    rw [out_B4]

theorem h_at (t : Fin cfg0.N) (r : Fin 256) (l : Fin 1024) :
    ((outsAt0 m c t.val t.isLt).2.2.1 (ix2 r l) : EReal) = k0_pay7 (F := Ideal) (iblk m c 0 t) (iblk m c 1 t) (ix2 r l) := by
  by_cases h0 : t.val % 16 = 0
  · rw [outsAt0_A m c t h0 h0]
    dsimp only
    rw [out_A6]
  · rw [outsAt0_B m c t h0 h0]
    have hp := scr m c (t.val - 1) (Nat.lt_of_le_of_lt (Nat.sub_le _ _) t.isLt)
    dsimp only
    rw [out_B6]

theorem act_at (t : Fin cfg0.N) (r : Fin 256) (l : Fin 4096) :
    ((outsAt0 m c t.val t.isLt).2.2.2.1 (ix2 r l) : EReal) = e2 (iblk m c 2 t) r l * e2 (iblk m c 2 t) r l := by
  by_cases h0 : t.val % 16 = 0
  · rw [outsAt0_A m c t h0 h0]
    dsimp only
    rw [out_A7]
    rfl
  · rw [outsAt0_B m c t h0 h0]
    have hp := scr m c (t.val - 1) (Nat.lt_of_le_of_lt (Nat.sub_le _ _) t.isLt)
    dsimp only
    rw [out_B7]
    rfl

theorem dfo_at (t : Fin cfg0.N) (r : Fin 256) (l : Fin 4096) :
    ((outsAt0 m c t.val t.isLt).2.2.2.2.1 (ix2 r l) : EReal) = df (iblk m c 3 t) (V m c main_v20) (iblk m c 2 t) r l := by
  by_cases h0 : t.val % 16 = 0
  · rw [outsAt0_A m c t h0 h0]
    dsimp only
    rw [out_A8]
    rfl
  · rw [outsAt0_B m c t h0 h0]
    have hp := scr m c (t.val - 1) (Nat.lt_of_le_of_lt (Nat.sub_le _ _) t.isLt)
    dsimp only
    rw [hp.2]
    rw [out_B8]
    rfl

theorem ct_at (t : Fin cfg0.N) (r : Fin 256) (l : Fin 1024) :
    ((outsAt0 m c t.val t.isLt).2.2.2.2.2.1 (ix2 r l) : EReal) = e0 (iblk m c 3 t) r l := by
  by_cases h0 : t.val % 16 = 0
  · rw [outsAt0_A m c t h0 h0]
    dsimp only
    rw [out_A9]
    rfl
  · rw [outsAt0_B m c t h0 h0]
    have hp := scr m c (t.val - 1) (Nat.lt_of_le_of_lt (Nat.sub_le _ _) t.isLt)
    dsimp only
    rw [out_B9]
    rfl

/-- The gain's gradient after point `n`: the rows of the blocks up to it. -/
theorem dg_at (l : Fin 1024) : ∀ (n : ℕ) (hn : n < cfg0.N), ((outsAt0 m c n hn).2.1 (ix2 0 l) : EReal)
    = ∑ t : Fin (n + 1), ∑ r : Fin 256, Cert.FfnBwdRefIdeal.Read.val_main_v31 (F := Ideal) (A0 m c) (A1 m c) (A2 m c) (A3 m c) (A4 m c) (ix2 (row ⟨t.val, lt_of_lt_of_le t.isLt hn⟩ r) l) * Cert.FfnBwdRefIdeal.Read.val_main_v12 (F := Ideal) (A0 m c) (ix2 (row ⟨t.val, lt_of_lt_of_le t.isLt hn⟩ r) l) := by
  have step : ∀ (t : Fin cfg0.N), (∑ r : Fin 256, dh (iblk m c 3 t) (V m c main_v2) (V m c main_v20) (iblk m c 2 t) r l * (e0 (iblk m c 0 t) r l * rs (fun k => e0 (iblk m c 0 t) r k)))
      = ∑ r : Fin 256, Cert.FfnBwdRefIdeal.Read.val_main_v31 (F := Ideal) (A0 m c) (A1 m c) (A2 m c) (A3 m c) (A4 m c) (ix2 (row t r) l) * Cert.FfnBwdRefIdeal.Read.val_main_v12 (F := Ideal) (A0 m c) (ix2 (row t r) l) := fun t => Finset.sum_congr rfl fun r _ => congr (congrArg HMul.hMul (dh_at m c t r l)) (xr_at m c t r l)
  intro n
  induction n with
  | zero =>
    intro hn
    rw [show outsAt0 m c 0 hn = _ from outsAt0_A m c ⟨0, hn⟩ rfl rfl]
    dsimp only
    rw [out_A5, step, Fin.sum_univ_one]
    rfl
  | succ n ih =>
    intro hn
    have h16 : n + 1 < 16 := lt_of_lt_of_eq hn (show cfg0.N = 16 from N_0)
    have h0 : ¬ (n + 1) % 16 = 0 := by omega
    rw [show outsAt0 m c (n + 1) hn = _ from outsAt0_B m c ⟨n + 1, hn⟩ h0 h0]
    have hp : (outsAt0 m c (n + 1 - 1) (Nat.lt_of_le_of_lt (Nat.sub_le _ _) hn)).2.2.2.2.2.2.1 = V m c main_v2 ∧ (outsAt0 m c (n + 1 - 1) (Nat.lt_of_le_of_lt (Nat.sub_le _ _) hn)).2.2.2.2.2.2.2 = V m c main_v20 := scr m c (n + 1 - 1) (Nat.lt_of_le_of_lt (Nat.sub_le _ _) hn)
    dsimp only
    rw [hp.1, hp.2, out_B5, step, Fin.sum_univ_castSucc (n := n + 1)]
    exact congr (congrArg HAdd.hAdd (ih (Nat.lt_of_succ_lt hn))) rfl

/-- The precondition, as real arguments. -/
structure Good : Prop where
  r0 : ∀ i l, Re (A0 m c (ix2 i l))
  r1 : ∀ l, Re (A1 m c (ix1 l))
  r2 : ∀ i l, Re (A2 m c (ix2 i l))
  r3 : ∀ i l, Re (A3 m c (ix2 i l))
  r4 : ∀ i l, Re (A4 m c (ix2 i l))

theorem good (hp : Cert.Pre_FfnBwdIdeal_ffn_finite m) (c : Dev nD) : Good m c := by
  obtain ⟨h0, h1, h2, h3, h4⟩ := hp c
  exact ⟨fun i l => Re.of_cmp (congrFun h0 (ix2 i l)), fun l => Re.of_cmp (congrFun h1 (ix1 l)), fun i l => Re.of_cmp (congrFun h2 (ix2 i l)), fun i l => Re.of_cmp (congrFun h3 (ix2 i l)), fun i l => Re.of_cmp (congrFun h4 (ix2 i l))⟩

variable (hg : Good m c)
include hg

/-- The gradient of the norm's output is real. -/
theorem re31 (i : Fin 4096) (k : Fin 1024) : Re (Cert.FfnBwdRefIdeal.Read.val_main_v31 (F := Ideal) (A0 m c) (A1 m c) (A2 m c) (A3 m c) (A4 m c) (ix2 i k)) := by
  rw [v31_at]
  refine Re.sum _ _ fun q => Re.mul ?_ (hg.r2 k q)
  rw [v30_at, v17_at, v16_at]
  exact (Re.sum _ _ fun l => (hg.r4 i l).mul (hg.r3 q l)).mul (two_re.mul (Re.max0 (Re.sum _ _ fun k => (((hg.r0 i k).mul (Re.norm fun k => hg.r0 i k)).mul (hg.r1 k)).mul (hg.r2 k q))))

theorem same_dx (t : Fin cfg0.N) (r : Fin 256) (l : Fin 1024) :
    dxv (iblk m c 0 t) (iblk m c 1 t) (iblk m c 3 t) (V m c main_v2) (V m c main_v20) (iblk m c 2 t) r l = Cert.FfnBwdRefIdeal.Read.val_main_v52 (F := Ideal) (A0 m c) (A1 m c) (A2 m c) (A3 m c) (A4 m c) (ix2 (row t r) l) := by
  have hb : (fun k => (iblk m c 0 t : X0) (ix2 r k)) = fun k => A0 m c (ix2 (row t r) k) := funext fun k => b0 m c t r k
  have hd : ∀ k, dh (iblk m c 3 t) (V m c main_v2) (V m c main_v20) (iblk m c 2 t) r k = Cert.FfnBwdRefIdeal.Read.val_main_v31 (F := Ideal) (A0 m c) (A1 m c) (A2 m c) (A3 m c) (A4 m c) (ix2 (row t r) k) := fun k => dh_at m c t r k
  refine Eq.trans ?_ (v52_at _ _ _ _ _ (row t r) l).symm
  unfold dxv
  simp only [hb, hd, b0, b1, b3, v36_at]
  exact norm_bwd (x := fun k => A0 m c (ix2 (row t r) k)) (d := fun k => Cert.FfnBwdRefIdeal.Read.val_main_v31 (F := Ideal) (A0 m c) (A1 m c) (A2 m c) (A3 m c) (A4 m c) (ix2 (row t r) k) * A1 m c (ix1 k)) (fun k => hg.r0 _ k) (fun k => (re31 m c hg (row t r) k).mul (hg.r1 k)) _ l

omit hg
theorem at4 : ∀ t : Fin cfg0.N, win0_4.index t (0 : Fin 2) = t.val ∧ win0_4.index t (1 : Fin 2) = 0 := (by decide +kernel : ∀ t : Fin grid0.N, _)

abbrev K4 : Vec Ideal S4096x1024 .f32 := Cert.FfnBwdRefIdeal.Read.val_main_v52 (F := Ideal) (A0 m c) (A1 m c) (A2 m c) (A3 m c) (A4 m c)

theorem tile4 (hg : Good m c) (t : Fin cfg0.N) (r : Fin 256) (l : Fin 1024) :
    (outsAt0 m c t.val t.isLt).1 (ix2 r l) = K4 m c (ix2 (row t r) l) := by
  exact (dx_at m c t r l).trans (same_dx m c hg t r l)

theorem emb4 (t : Fin cfg0.N) (r : Fin 256) (l : Fin 1024) : ((cfg0.win 4).blk t).view.emb (ix2 r l) = (ix2 (row t r) l : S4096x1024.Idx) := by
  obtain ⟨e0, e1⟩ := at4 t
  funext a; apply Fin.ext
  match a with
  | ⟨0, _⟩ => show win0_4.index t (0 : Fin 2) * 256 + 1 * r.val = 256 * t.val + r.val; omega
  | ⟨1, _⟩ => show win0_4.index t (1 : Fin 2) * 1024 + 1 * l.val = l.val; omega

theorem covered4_at (i : Fin 4096) (l : Fin 1024) : ∃ t : Fin cfg0.N, (cfg0.win 4).flush t = true ∧ (ix2 i l : S4096x1024.Idx) ∈ ((cfg0.win 4).blk t).view.set := by
  have hl : i.val / 256 < cfg0.N := by rw [show cfg0.N = 16 from N_0]; omega
  refine ⟨⟨i.val / 256, hl⟩, (by decide +kernel : ∀ t : Fin grid0.N, win0_4.flush t = true) _, ?_⟩
  have h := ((cfg0.win 4).blk (⟨i.val / 256, hl⟩ : Fin cfg0.N)).view.emb_mem_set (ix2 (⟨i.val % 256, Nat.mod_lt _ (by decide)⟩ : Fin 256) l)
  rw [emb4] at h
  have e : row (⟨i.val / 256, hl⟩ : Fin cfg0.N) ⟨i.val % 256, Nat.mod_lt _ (by decide)⟩ = i := Fin.ext (by show 256 * (i.val / 256) + i.val % 256 = i.val; omega)
  rwa [e] at h

theorem final4 (hg : Good m c) : (dats m 0 c).arrAt 4 cfg0.N = K4 m c :=
  (dats m 0 c).arrAt_eq_of_cover 4 (K4 m c) (fun t _ => by
    rw [flushed4]
    funext j
    show (outsAt0 m c t.val t.isLt).1 j = K4 m c (((cfg0.win 4).blk t).view.emb j)
    rw [eq_ix2 (n0 := 256) (n1 := 1024) j]
    exact (tile4 m c hg t (j 0) (j 1)).trans (congrArg (K4 m c) (emb4 t (j 0) (j 1)).symm))
    (fun i => by rw [eq_ix2 (n0 := 4096) (n1 := 1024) i]; exact covered4_at (i 0) (i 1))

theorem at6 : ∀ t : Fin cfg0.N, win0_6.index t (0 : Fin 2) = t.val ∧ win0_6.index t (1 : Fin 2) = 0 := (by decide +kernel : ∀ t : Fin grid0.N, _)

abbrev K6 : Vec Ideal S4096x1024 .bf16 := Cert.FfnBwdRefIdeal.Read.val_main_v80 (F := Ideal) (A0 m c) (A1 m c)

theorem tile6 (t : Fin cfg0.N) (r : Fin 256) (l : Fin 1024) :
    (outsAt0 m c t.val t.isLt).2.2.1 (ix2 r l) = K6 m c (ix2 (row t r) l) := by
  have hb : (fun k => (iblk m c 0 t : X0) (ix2 r k)) = fun k => A0 m c (ix2 (row t r) k) := funext fun k => b0 m c t r k
  refine (h_at m c t r l).trans ((hh_at _ _ r l).trans ?_)
  rw [b0, b1, hb]
  exact (v65_at _ _ (row t r) l).symm

theorem emb6 (t : Fin cfg0.N) (r : Fin 256) (l : Fin 1024) : ((cfg0.win 6).blk t).view.emb (ix2 r l) = (ix2 (row t r) l : S4096x1024.Idx) := by
  obtain ⟨e0, e1⟩ := at6 t
  funext a; apply Fin.ext
  match a with
  | ⟨0, _⟩ => show win0_6.index t (0 : Fin 2) * 256 + 1 * r.val = 256 * t.val + r.val; omega
  | ⟨1, _⟩ => show win0_6.index t (1 : Fin 2) * 1024 + 1 * l.val = l.val; omega

theorem covered6_at (i : Fin 4096) (l : Fin 1024) : ∃ t : Fin cfg0.N, (cfg0.win 6).flush t = true ∧ (ix2 i l : S4096x1024.Idx) ∈ ((cfg0.win 6).blk t).view.set := by
  have hl : i.val / 256 < cfg0.N := by rw [show cfg0.N = 16 from N_0]; omega
  refine ⟨⟨i.val / 256, hl⟩, (by decide +kernel : ∀ t : Fin grid0.N, win0_6.flush t = true) _, ?_⟩
  have h := ((cfg0.win 6).blk (⟨i.val / 256, hl⟩ : Fin cfg0.N)).view.emb_mem_set (ix2 (⟨i.val % 256, Nat.mod_lt _ (by decide)⟩ : Fin 256) l)
  rw [emb6] at h
  have e : row (⟨i.val / 256, hl⟩ : Fin cfg0.N) ⟨i.val % 256, Nat.mod_lt _ (by decide)⟩ = i := Fin.ext (by show 256 * (i.val / 256) + i.val % 256 = i.val; omega)
  rwa [e] at h

theorem final6 : (dats m 0 c).arrAt 6 cfg0.N = K6 m c :=
  (dats m 0 c).arrAt_eq_of_cover 6 (K6 m c) (fun t _ => by
    rw [flushed6]
    funext j
    show (outsAt0 m c t.val t.isLt).2.2.1 j = K6 m c (((cfg0.win 6).blk t).view.emb j)
    rw [eq_ix2 (n0 := 256) (n1 := 1024) j]
    exact (tile6 m c t (j 0) (j 1)).trans (congrArg (K6 m c) (emb6 t (j 0) (j 1)).symm))
    (fun i => by rw [eq_ix2 (n0 := 4096) (n1 := 1024) i]; exact covered6_at (i 0) (i 1))

theorem at7 : ∀ t : Fin cfg0.N, win0_7.index t (0 : Fin 2) = t.val ∧ win0_7.index t (1 : Fin 2) = 0 := (by decide +kernel : ∀ t : Fin grid0.N, _)

abbrev K7 : Vec Ideal S4096x4096 .bf16 := Cert.FfnBwdRefIdeal.Read.val_main_v83 (F := Ideal) (A0 m c) (A1 m c) (A2 m c)

theorem tile7 (t : Fin cfg0.N) (r : Fin 256) (l : Fin 4096) :
    (outsAt0 m c t.val t.isLt).2.2.2.1 (ix2 r l) = K7 m c (ix2 (row t r) l) := by
  refine (act_at m c t r l).trans (Eq.trans ?_ (v83_at _ _ _ (row t r) l).symm)
  exact congr (congrArg HMul.hMul (b2 m c t r l)) (b2 m c t r l)

theorem emb7 (t : Fin cfg0.N) (r : Fin 256) (l : Fin 4096) : ((cfg0.win 7).blk t).view.emb (ix2 r l) = (ix2 (row t r) l : S4096x4096.Idx) := by
  obtain ⟨e0, e1⟩ := at7 t
  funext a; apply Fin.ext
  match a with
  | ⟨0, _⟩ => show win0_7.index t (0 : Fin 2) * 256 + 1 * r.val = 256 * t.val + r.val; omega
  | ⟨1, _⟩ => show win0_7.index t (1 : Fin 2) * 4096 + 1 * l.val = l.val; omega

theorem covered7_at (i : Fin 4096) (l : Fin 4096) : ∃ t : Fin cfg0.N, (cfg0.win 7).flush t = true ∧ (ix2 i l : S4096x4096.Idx) ∈ ((cfg0.win 7).blk t).view.set := by
  have hl : i.val / 256 < cfg0.N := by rw [show cfg0.N = 16 from N_0]; omega
  refine ⟨⟨i.val / 256, hl⟩, (by decide +kernel : ∀ t : Fin grid0.N, win0_7.flush t = true) _, ?_⟩
  have h := ((cfg0.win 7).blk (⟨i.val / 256, hl⟩ : Fin cfg0.N)).view.emb_mem_set (ix2 (⟨i.val % 256, Nat.mod_lt _ (by decide)⟩ : Fin 256) l)
  rw [emb7] at h
  have e : row (⟨i.val / 256, hl⟩ : Fin cfg0.N) ⟨i.val % 256, Nat.mod_lt _ (by decide)⟩ = i := Fin.ext (by show 256 * (i.val / 256) + i.val % 256 = i.val; omega)
  rwa [e] at h

theorem final7 : (dats m 0 c).arrAt 7 cfg0.N = K7 m c :=
  (dats m 0 c).arrAt_eq_of_cover 7 (K7 m c) (fun t _ => by
    rw [flushed7]
    funext j
    show (outsAt0 m c t.val t.isLt).2.2.2.1 j = K7 m c (((cfg0.win 7).blk t).view.emb j)
    rw [eq_ix2 (n0 := 256) (n1 := 4096) j]
    exact (tile7 m c t (j 0) (j 1)).trans (congrArg (K7 m c) (emb7 t (j 0) (j 1)).symm))
    (fun i => by rw [eq_ix2 (n0 := 4096) (n1 := 4096) i]; exact covered7_at (i 0) (i 1))

theorem at8 : ∀ t : Fin cfg0.N, win0_8.index t (0 : Fin 2) = t.val ∧ win0_8.index t (1 : Fin 2) = 0 := (by decide +kernel : ∀ t : Fin grid0.N, _)

abbrev K8 : Vec Ideal S4096x4096 .bf16 := Cert.FfnBwdRefIdeal.Read.val_main_v84 (F := Ideal) (A0 m c) (A1 m c) (A2 m c) (A3 m c) (A4 m c)

theorem tile8 (t : Fin cfg0.N) (r : Fin 256) (l : Fin 4096) :
    (outsAt0 m c t.val t.isLt).2.2.2.2.1 (ix2 r l) = K8 m c (ix2 (row t r) l) := by
  refine (dfo_at m c t r l).trans ((df_at m c t r l).trans ?_)
  exact (v30_at _ _ _ _ _ (row t r) l).trans (v78_at _ _ _ _ _ (row t r) l).symm

theorem emb8 (t : Fin cfg0.N) (r : Fin 256) (l : Fin 4096) : ((cfg0.win 8).blk t).view.emb (ix2 r l) = (ix2 (row t r) l : S4096x4096.Idx) := by
  obtain ⟨e0, e1⟩ := at8 t
  funext a; apply Fin.ext
  match a with
  | ⟨0, _⟩ => show win0_8.index t (0 : Fin 2) * 256 + 1 * r.val = 256 * t.val + r.val; omega
  | ⟨1, _⟩ => show win0_8.index t (1 : Fin 2) * 4096 + 1 * l.val = l.val; omega

theorem covered8_at (i : Fin 4096) (l : Fin 4096) : ∃ t : Fin cfg0.N, (cfg0.win 8).flush t = true ∧ (ix2 i l : S4096x4096.Idx) ∈ ((cfg0.win 8).blk t).view.set := by
  have hl : i.val / 256 < cfg0.N := by rw [show cfg0.N = 16 from N_0]; omega
  refine ⟨⟨i.val / 256, hl⟩, (by decide +kernel : ∀ t : Fin grid0.N, win0_8.flush t = true) _, ?_⟩
  have h := ((cfg0.win 8).blk (⟨i.val / 256, hl⟩ : Fin cfg0.N)).view.emb_mem_set (ix2 (⟨i.val % 256, Nat.mod_lt _ (by decide)⟩ : Fin 256) l)
  rw [emb8] at h
  have e : row (⟨i.val / 256, hl⟩ : Fin cfg0.N) ⟨i.val % 256, Nat.mod_lt _ (by decide)⟩ = i := Fin.ext (by show 256 * (i.val / 256) + i.val % 256 = i.val; omega)
  rwa [e] at h

theorem final8 : (dats m 0 c).arrAt 8 cfg0.N = K8 m c :=
  (dats m 0 c).arrAt_eq_of_cover 8 (K8 m c) (fun t _ => by
    rw [flushed8]
    funext j
    show (outsAt0 m c t.val t.isLt).2.2.2.2.1 j = K8 m c (((cfg0.win 8).blk t).view.emb j)
    rw [eq_ix2 (n0 := 256) (n1 := 4096) j]
    exact (tile8 m c t (j 0) (j 1)).trans (congrArg (K8 m c) (emb8 t (j 0) (j 1)).symm))
    (fun i => by rw [eq_ix2 (n0 := 4096) (n1 := 4096) i]; exact covered8_at (i 0) (i 1))

theorem at9 : ∀ t : Fin cfg0.N, win0_9.index t (0 : Fin 2) = t.val ∧ win0_9.index t (1 : Fin 2) = 0 := (by decide +kernel : ∀ t : Fin grid0.N, _)

abbrev K9 : Vec Ideal S4096x1024 .bf16 := Cert.FfnBwdRefIdeal.Read.val_main_v85 (F := Ideal) (A4 m c)

theorem tile9 (t : Fin cfg0.N) (r : Fin 256) (l : Fin 1024) :
    (outsAt0 m c t.val t.isLt).2.2.2.2.2.1 (ix2 r l) = K9 m c (ix2 (row t r) l) := by
  exact (ct_at m c t r l).trans (b3 m c t r l)

theorem emb9 (t : Fin cfg0.N) (r : Fin 256) (l : Fin 1024) : ((cfg0.win 9).blk t).view.emb (ix2 r l) = (ix2 (row t r) l : S4096x1024.Idx) := by
  obtain ⟨e0, e1⟩ := at9 t
  funext a; apply Fin.ext
  match a with
  | ⟨0, _⟩ => show win0_9.index t (0 : Fin 2) * 256 + 1 * r.val = 256 * t.val + r.val; omega
  | ⟨1, _⟩ => show win0_9.index t (1 : Fin 2) * 1024 + 1 * l.val = l.val; omega

theorem covered9_at (i : Fin 4096) (l : Fin 1024) : ∃ t : Fin cfg0.N, (cfg0.win 9).flush t = true ∧ (ix2 i l : S4096x1024.Idx) ∈ ((cfg0.win 9).blk t).view.set := by
  have hl : i.val / 256 < cfg0.N := by rw [show cfg0.N = 16 from N_0]; omega
  refine ⟨⟨i.val / 256, hl⟩, (by decide +kernel : ∀ t : Fin grid0.N, win0_9.flush t = true) _, ?_⟩
  have h := ((cfg0.win 9).blk (⟨i.val / 256, hl⟩ : Fin cfg0.N)).view.emb_mem_set (ix2 (⟨i.val % 256, Nat.mod_lt _ (by decide)⟩ : Fin 256) l)
  rw [emb9] at h
  have e : row (⟨i.val / 256, hl⟩ : Fin cfg0.N) ⟨i.val % 256, Nat.mod_lt _ (by decide)⟩ = i := Fin.ext (by show 256 * (i.val / 256) + i.val % 256 = i.val; omega)
  rwa [e] at h

theorem final9 : (dats m 0 c).arrAt 9 cfg0.N = K9 m c :=
  (dats m 0 c).arrAt_eq_of_cover 9 (K9 m c) (fun t _ => by
    rw [flushed9]
    funext j
    show (outsAt0 m c t.val t.isLt).2.2.2.2.2.1 j = K9 m c (((cfg0.win 9).blk t).view.emb j)
    rw [eq_ix2 (n0 := 256) (n1 := 1024) j]
    exact (tile9 m c t (j 0) (j 1)).trans (congrArg (K9 m c) (emb9 t (j 0) (j 1)).symm))
    (fun i => by rw [eq_ix2 (n0 := 4096) (n1 := 1024) i]; exact covered9_at (i 0) (i 1))

theorem at5 : ∀ t : Fin cfg0.N, win0_5.index t (0 : Fin 2) = 0 ∧ win0_5.index t (1 : Fin 2) = 0 := (by decide +kernel : ∀ t : Fin grid0.N, _)

abbrev K5 : Vec Ideal S1x1024 .f32 := Cert.FfnBwdRefIdeal.Read.val_main_v79 (F := Ideal) (A0 m c) (A1 m c) (A2 m c) (A3 m c) (A4 m c)

theorem emb5 (t : Fin cfg0.N) (r : Fin 1) (l : Fin 1024) : ((cfg0.win 5).blk t).view.emb (ix2 r l) = (ix2 r l : S1x1024.Idx) := by
  obtain ⟨e0, e1⟩ := at5 t
  funext a; apply Fin.ext
  match a with
  | ⟨0, _⟩ => show win0_5.index t (0 : Fin 2) * 1 + 1 * r.val = r.val; omega
  | ⟨1, _⟩ => show win0_5.index t (1 : Fin 2) * 1024 + 1 * l.val = l.val; omega

theorem tile5 (t : Fin cfg0.N) (h : t.val % 16 = 15) (r : Fin 1) (l : Fin 1024) : ((outsAt0 m c t.val t.isLt).2.1 (ix2 r l) : EReal) = K5 m c (ix2 r l) := by
  have h15 : t.val = 15 := by have := ltN t; omega
  obtain rfl : r = 0 := Subsingleton.elim _ _
  obtain ⟨n, hn⟩ := t
  obtain rfl : n = 15 := h15
  refine (dg_at m c l 15 hn).trans (Eq.trans ?_ (v79_at _ _ _ _ _ l).symm)
  rw [sum_blocks]
  exact Finset.sum_congr rfl fun t _ => Finset.sum_congr rfl fun r _ => mul_comm _ _

theorem covered5_at (r : Fin 1) (l : Fin 1024) : ∃ t : Fin cfg0.N, (cfg0.win 5).flush t = true ∧ (ix2 r l : S1x1024.Idx) ∈ ((cfg0.win 5).blk t).view.set := by
  have h15 : 15 < cfg0.N := by rw [show cfg0.N = 16 from N_0]; omega
  refine ⟨⟨15, h15⟩, (flush0_5 _).mpr rfl, ?_⟩
  have h := ((cfg0.win 5).blk (⟨15, h15⟩ : Fin cfg0.N)).view.emb_mem_set (ix2 r l)
  rwa [emb5] at h

theorem final5 : (dats m 0 c).arrAt 5 cfg0.N = K5 m c :=
  (dats m 0 c).arrAt_eq_of_cover 5 (K5 m c) (fun t hf => by
    have h := (flush0_5 t).mp hf
    rw [flushed5]
    funext j
    show (outsAt0 m c t.val t.isLt).2.1 j = K5 m c (((cfg0.win 5).blk t).view.emb j)
    rw [eq_ix2 (n0 := 1) (n1 := 1024) j]
    exact (tile5 m c t h (j 0) (j 1)).trans (congrArg (K5 m c) (emb5 t (j 0) (j 1)).symm))
    (fun i => by rw [eq_ix2 (n0 := 1) (n1 := 1024) i]; exact covered5_at (i 0) (i 1))

theorem frame_r : Cert.quiescent_FfnBwdRefIdeal := by
  intro m ρ _
  exact (θ_run Cert.FfnBwdRefIdeal.defs _ _).mono (fun r h => ⟨fun c => (h c).2.2.2.2.2.2, Idealize.ShloMosaic.sem_eq_zero_of_no_sems (by decide) r.2⟩)
    (Cert.FfnBwdRefIdeal.Value.run (F := Ideal) m ρ)

set_option maxHeartbeats 2000000 in
theorem algebraic : Cert.algebraic_FfnBwdIdeal_FfnBwdRefIdeal_pre_ffn_finite := by
  intro m ρ m' ρ' hpre hag
  refine ⟨fun c => (dats m 0 c).arrAt 4 cfg0.N, fun c => (dats m 0 c).arrAt 5 cfg0.N, fun c => (dats m 0 c).arrAt 6 cfg0.N, fun c => (dats m 0 c).arrAt 7 cfg0.N, fun c => (dats m 0 c).arrAt 8 cfg0.N, fun c => (dats m 0 c).arrAt 9 cfg0.N, run_blocks m ρ, ?_⟩
  refine (θ_run Cert.FfnBwdRefIdeal.defs _ _).mono (fun r h c => ?_) (Cert.FfnBwdRefIdeal.Value.run (F := Ideal) m' ρ')
  obtain ⟨r4, r5, r6, r7, r8, r9, ra⟩ := h c
  obtain ⟨g0, g1, g2, g3, g4⟩ := hag c
  refine ⟨?_, ?_, ?_, ?_, ?_, ?_, ra⟩
  · refine (r4.trans (Cert.FfnBwdRefIdeal.Read.val_main_v52_eq _ _)).trans ?_
    rw [g0, g1, g2, g3, g4]
    exact (final4 m c (good m hpre c)).symm
  · refine (r5.trans (Cert.FfnBwdRefIdeal.Read.val_main_v79_eq _ _ _ _ _)).trans ?_
    rw [g0, g1, g2, g3, g4]
    exact (final5 m c).symm
  · refine (r6.trans (Cert.FfnBwdRefIdeal.Read.val_main_v80_eq _ _)).trans ?_
    rw [g0, g1]
    exact (final6 m c).symm
  · refine (r7.trans (Cert.FfnBwdRefIdeal.Read.val_main_v83_eq _ _ _)).trans ?_
    rw [g0, g1, g2]
    exact (final7 m c).symm
  · refine (r8.trans (Cert.FfnBwdRefIdeal.Read.val_main_v84_eq _ _ _ _ _)).trans ?_
    rw [g0, g1, g2, g3, g4]
    exact (final8 m c).symm
  · refine (r9.trans (Cert.FfnBwdRefIdeal.Read.val_main_v85_eq _)).trans ?_
    rw [g4]
    exact (final9 m c).symm

end Cert.FfnBwdVal

end
-- ==== Proof.FfnFwdPay.lean ====
/- Hand-written, untrusted: THE FEED-FORWARD FORWARD CALL (norm, two products in four chunks) writes, block by block, the rows of the reference's results. -/
module

public import proofs.«01_k».proof.Proof.Mat
public import proofs.«01_k».proof.Proof.Norm
public import proofs.«01_k».proof.Proof.Gen.FfnFwdIdeal.Value
public import proofs.«01_k».proof.Proof.Gen.FfnFwdRefIdeal.Run
public import proofs.«01_k».proof.Proof.Gen.FfnFwdRefIdeal.Read
public import proofs.«01_k».proof.Defs

@[expose] public section

set_option maxRecDepth 16384

noncomputable section

namespace Cert.FfnFwdVal

open Cert.FfnFwdIdeal Cert.FfnFwdIdeal.Gen Cert.FfnFwdIdeal.Value Cert.Mat Idealize.ShloMosaic Idealize.ShloMosaic.TcCoe Idealize.SL.Sem
open Idealize.ShloMosaic.Tactic

abbrev X0 := Vec Ideal S256x1024 .f32
abbrev X1 := Vec Ideal S1x1024 .f32
abbrev W1 := Vec Ideal S4x1024x1024 .bf16
abbrev W2 := Vec Ideal S4096x1024 .bf16
abbrev C1 := Vec Ideal S1x1024x1024 .bf16
abbrev C2 := Vec Ideal S1024x1024 .bf16

theorem off3' : (![0, 0, 0] : Fin 3 → Nat) = fun _ => 0 := off3

theorem norm_at (x0 : Vec Ideal S256x1024 .f32) (x1 : Vec Ideal S1x1024 .f32) (r : Fin 256) (l : Fin 1024) :
    (k0_pay2 (F := Ideal) x0 x1 (ix2 r l) : EReal) = x0 (ix2 r l) * rs (fun k => x0 (ix2 r k)) * x1 (ix2 0 l) := by
  unfold k0_pay2
  simp only [pointwise]
  rfl

/-- One entry of a chunk of the first product, at the rectifier. -/
def act1 (x0 : X0) (x1 : X1) (a : C1) (r : Fin 256) (j : Fin 1024) : EReal :=
  max (∑ k : Fin 1024, (k0_pay2 (F := Ideal) x0 x1 (ix2 r k) : EReal) * a (ix3 0 k j)) 0

theorem chunk_at (v : FVec Ideal S256x1024 .bf16) (a : C1) (r : Fin 256) (j : Fin 1024) :
    (matmul (F := Ideal) dot_S256x1024_S1024x1024_S256x1024_1_0_0_1_n_n none v (shapeCast S1024x1024 a shapeCasts_S1x1024x1024_S1024x1024 : FVec Ideal S1024x1024 .bf16) (constant (F := Ideal) S256x1024 .f32 0x00000000#32) (ix2 r j) : EReal)
      = ∑ k : Fin 1024, v (ix2 r k) * a (ix3 0 k j) := by
  refine (kmm (φ₁ := .bf16) (φ₂ := .bf16) (M := 256) (K := 1024) (N := 1024) none _ _ r j).trans (Finset.sum_congr rfl fun k _ => ?_)
  refine congrArg (fun z : EReal => (v (ix2 r k) : EReal) * z) ?_
  simp only [pointwise]

theorem pay3_at (x0 : X0) (x1 : X1) (a : C1) (r : Fin 256) (j : Fin 1024) : (k0_pay3 (F := Ideal) x0 x1 a (ix2 r j) : EReal) = act1 x0 x1 a r j :=
  congr (congrArg max (chunk_at (k0_pay2 x0 x1) a r j)) zero_word
theorem pay7_at (x0 : X0) (x1 : X1) (a : C1) (r : Fin 256) (j : Fin 1024) : (k0_pay7 (F := Ideal) (k0_pay6 x0 x1 a) (ix2 r j) : EReal) = act1 x0 x1 a r j :=
  congr (congrArg max (chunk_at (k0_pay2 x0 x1) a r j)) zero_word
theorem pay9_at (x0 : X0) (x1 : X1) (a : C1) (r : Fin 256) (j : Fin 1024) : (k0_pay9 (F := Ideal) (k0_pay2 x0 x1) a (ix2 r j) : EReal) = act1 x0 x1 a r j :=
  congr (congrArg max (chunk_at (k0_pay2 x0 x1) a r j)) zero_word
theorem pay12_at (x0 : X0) (x1 : X1) (a : C1) (r : Fin 256) (j : Fin 1024) : (k0_pay12 (F := Ideal) (k0_pay2 x0 x1) a (ix2 r j) : EReal) = act1 x0 x1 a r j :=
  congr (congrArg max (chunk_at (k0_pay2 x0 x1) a r j)) zero_word

/-- A square times a chunk of the second weight. -/
theorem sq_at (v : FVec Ideal S256x1024 .f32) (f : Fin 256 → Fin 1024 → EReal) (hv : ∀ r j, (v (ix2 r j) : EReal) = f r j) (b : C2) (r : Fin 256) (l : Fin 1024) :
    (matmul (F := Ideal) (φ₂ := .bf16) dot_S256x1024_S1024x1024_S256x1024_1_0_0_1_n_n none (truncf (F := Ideal) .bf16 (mulf v v) bitsLt_bf16_f32) b (constant (F := Ideal) S256x1024 .f32 0x00000000#32) (ix2 r l) : EReal)
      = ∑ j : Fin 1024, f r j * f r j * b (ix2 j l) := by
  refine (kmm (φ₁ := .bf16) (φ₂ := .bf16) (M := 256) (K := 1024) (N := 1024) none _ _ r l).trans (Finset.sum_congr rfl fun j _ => ?_)
  exact congrArg (fun z : EReal => z * (b (ix2 j l) : EReal)) (congr (congrArg HMul.hMul (hv r j)) (hv r j))

/-- The row of the first result, from the four chunks. -/
def y4 (x0 : X0) (x1 : X1) (a0 a1 a2 a3 : C1) (b0 b1 b2 b3 : C2) (r : Fin 256) (l : Fin 1024) : EReal :=
  x0 (ix2 r l) + (∑ j : Fin 1024, act1 x0 x1 a0 r j * act1 x0 x1 a0 r j * b0 (ix2 j l)) + (∑ j : Fin 1024, act1 x0 x1 a1 r j * act1 x0 x1 a1 r j * b1 (ix2 j l))
    + (∑ j : Fin 1024, act1 x0 x1 a2 r j * act1 x0 x1 a2 r j * b2 (ix2 j l)) + ∑ j : Fin 1024, act1 x0 x1 a3 r j * act1 x0 x1 a3 r j * b3 (ix2 j l)

theorem y4_at (x0 : X0) (x1 : X1) (a0 a1 a2 a3 : C1) (b0 b1 b2 b3 : C2) (r : Fin 256) (l : Fin 1024) :
    (k0_pay1 (F := Ideal) (k0_pay11 (k0_pay2 x0 x1) (k0_pay5 x0 x1 a0 b0) (k0_pay6 x0 x1 a1) b1 a2 b2) (k0_pay14 (k0_pay2 x0 x1) a3) b3 (constant (F := Ideal) S256x1024 .f32 0x00000000#32) (ix2 r l) : EReal)
      = y4 x0 x1 a0 a1 a2 a3 b0 b1 b2 b3 r l :=
  congr (congrArg HAdd.hAdd (congr (congrArg HAdd.hAdd (congr (congrArg HAdd.hAdd (congrArg (fun z : EReal => (x0 (ix2 r l) : EReal) + z)
    (sq_at (k0_pay3 x0 x1 a0) (act1 x0 x1 a0) (pay3_at x0 x1 a0) b0 r l)))
    (sq_at (k0_pay7 (k0_pay6 x0 x1 a1)) (act1 x0 x1 a1) (pay7_at x0 x1 a1) b1 r l)))
    (sq_at (k0_pay9 (k0_pay2 x0 x1) a2) (act1 x0 x1 a2) (pay9_at x0 x1 a2) b2 r l)))
    (sq_at (k0_pay12 (k0_pay2 x0 x1) a3) (act1 x0 x1 a3) (pay12_at x0 x1 a3) b3 r l)

/-- The rectified product at a column of the whole. -/
def act (x0 : X0) (x1 : X1) (w : W1) (r : Fin 256) (q : Fin 4096) : EReal :=
  max (∑ k : Fin 1024, (k0_pay2 (F := Ideal) x0 x1 (ix2 r k) : EReal) * w (ix3 (⟨q.val / 1024, by omega⟩ : Fin 4) k (⟨q.val % 1024, by omega⟩ : Fin 1024))) 0

def yy (x0 : X0) (x1 : X1) (w : W1) (v : W2) (r : Fin 256) (l : Fin 1024) : EReal :=
  x0 (ix2 r l) + ∑ q : Fin 4096, act x0 x1 w r q * act x0 x1 w r q * v (ix2 q l)

theorem act_0 (x0 : X0) (x1 : X1) (w : W1) (r : Fin 256) (j : Fin 1024) :
    act1 x0 x1 (View.ld (Val := Elt Ideal) w (Rect.unit ![0, 0, 0] ![1, 1024, 1024] inb_S4x1024x1024_S1x1024x1024_0_0_0)) r j = act x0 x1 w r ⟨j.val, by omega⟩ := by
  unfold act1 act
  refine congrArg (max · (0 : EReal)) (Finset.sum_congr rfl fun k _ => congrArg (fun z : EReal => (k0_pay2 (F := Ideal) x0 x1 (ix2 r k) : EReal) * z) (congrArg w (funext fun a => Fin.ext ?_)))
  match a with
  | ⟨0, _⟩ => show 0 + 1 * 0 = (j.val) / 1024; omega
  | ⟨1, _⟩ => show 0 + 1 * k.val = k.val; omega
  | ⟨2, _⟩ => show 0 + 1 * j.val = (j.val) % 1024; omega
theorem v_0 (v : W2) (j : Fin 1024) (l : Fin 1024) :
    (View.ld (Val := Elt Ideal) v (Rect.unit ![0, 0] ![1024, 1024] inb_S4096x1024_S1024x1024_0_0) (ix2 j l) : EReal) = v (ix2 ⟨j.val, by omega⟩ l) := by
  refine congrArg v (funext fun a => Fin.ext ?_)
  match a with
  | ⟨0, _⟩ => show 0 + 1 * j.val = j.val; omega
  | ⟨1, _⟩ => show 0 + 1 * l.val = l.val; omega

theorem act_1 (x0 : X0) (x1 : X1) (w : W1) (r : Fin 256) (j : Fin 1024) :
    act1 x0 x1 (View.ld (Val := Elt Ideal) w (Rect.unit ![1, 0, 0] ![1, 1024, 1024] inb_S4x1024x1024_S1x1024x1024_1_0_0)) r j = act x0 x1 w r ⟨1024 + j.val, by omega⟩ := by
  unfold act1 act
  refine congrArg (max · (0 : EReal)) (Finset.sum_congr rfl fun k _ => congrArg (fun z : EReal => (k0_pay2 (F := Ideal) x0 x1 (ix2 r k) : EReal) * z) (congrArg w (funext fun a => Fin.ext ?_)))
  match a with
  | ⟨0, _⟩ => show 1 + 1 * 0 = (1024 + j.val) / 1024; omega
  | ⟨1, _⟩ => show 0 + 1 * k.val = k.val; omega
  | ⟨2, _⟩ => show 0 + 1 * j.val = (1024 + j.val) % 1024; omega
theorem v_1 (v : W2) (j : Fin 1024) (l : Fin 1024) :
    (View.ld (Val := Elt Ideal) v (Rect.unit ![1024, 0] ![1024, 1024] inb_S4096x1024_S1024x1024_1024_0) (ix2 j l) : EReal) = v (ix2 ⟨1024 + j.val, by omega⟩ l) := by
  refine congrArg v (funext fun a => Fin.ext ?_)
  match a with
  | ⟨0, _⟩ => show 1024 + 1 * j.val = 1024 + j.val; omega
  | ⟨1, _⟩ => show 0 + 1 * l.val = l.val; omega

theorem act_2 (x0 : X0) (x1 : X1) (w : W1) (r : Fin 256) (j : Fin 1024) :
    act1 x0 x1 (View.ld (Val := Elt Ideal) w (Rect.unit ![2, 0, 0] ![1, 1024, 1024] inb_S4x1024x1024_S1x1024x1024_2_0_0)) r j = act x0 x1 w r ⟨2048 + j.val, by omega⟩ := by
  unfold act1 act
  refine congrArg (max · (0 : EReal)) (Finset.sum_congr rfl fun k _ => congrArg (fun z : EReal => (k0_pay2 (F := Ideal) x0 x1 (ix2 r k) : EReal) * z) (congrArg w (funext fun a => Fin.ext ?_)))
  match a with
  | ⟨0, _⟩ => show 2 + 1 * 0 = (2048 + j.val) / 1024; omega
  | ⟨1, _⟩ => show 0 + 1 * k.val = k.val; omega
  | ⟨2, _⟩ => show 0 + 1 * j.val = (2048 + j.val) % 1024; omega
theorem v_2 (v : W2) (j : Fin 1024) (l : Fin 1024) :
    (View.ld (Val := Elt Ideal) v (Rect.unit ![2048, 0] ![1024, 1024] inb_S4096x1024_S1024x1024_2048_0) (ix2 j l) : EReal) = v (ix2 ⟨2048 + j.val, by omega⟩ l) := by
  refine congrArg v (funext fun a => Fin.ext ?_)
  match a with
  | ⟨0, _⟩ => show 2048 + 1 * j.val = 2048 + j.val; omega
  | ⟨1, _⟩ => show 0 + 1 * l.val = l.val; omega

theorem act_3 (x0 : X0) (x1 : X1) (w : W1) (r : Fin 256) (j : Fin 1024) :
    act1 x0 x1 (View.ld (Val := Elt Ideal) w (Rect.unit ![3, 0, 0] ![1, 1024, 1024] inb_S4x1024x1024_S1x1024x1024_3_0_0)) r j = act x0 x1 w r ⟨3072 + j.val, by omega⟩ := by
  unfold act1 act
  refine congrArg (max · (0 : EReal)) (Finset.sum_congr rfl fun k _ => congrArg (fun z : EReal => (k0_pay2 (F := Ideal) x0 x1 (ix2 r k) : EReal) * z) (congrArg w (funext fun a => Fin.ext ?_)))
  match a with
  | ⟨0, _⟩ => show 3 + 1 * 0 = (3072 + j.val) / 1024; omega
  | ⟨1, _⟩ => show 0 + 1 * k.val = k.val; omega
  | ⟨2, _⟩ => show 0 + 1 * j.val = (3072 + j.val) % 1024; omega
theorem v_3 (v : W2) (j : Fin 1024) (l : Fin 1024) :
    (View.ld (Val := Elt Ideal) v (Rect.unit ![3072, 0] ![1024, 1024] inb_S4096x1024_S1024x1024_3072_0) (ix2 j l) : EReal) = v (ix2 ⟨3072 + j.val, by omega⟩ l) := by
  refine congrArg v (funext fun a => Fin.ext ?_)
  match a with
  | ⟨0, _⟩ => show 3072 + 1 * j.val = 3072 + j.val; omega
  | ⟨1, _⟩ => show 0 + 1 * l.val = l.val; omega

theorem term_0 (x0 : X0) (x1 : X1) (w : W1) (v : W2) (r : Fin 256) (j : Fin 1024) (l : Fin 1024) :
    act1 x0 x1 (View.ld (Val := Elt Ideal) w (Rect.unit ![0, 0, 0] ![1, 1024, 1024] inb_S4x1024x1024_S1x1024x1024_0_0_0)) r j * act1 x0 x1 (View.ld (Val := Elt Ideal) w (Rect.unit ![0, 0, 0] ![1, 1024, 1024] inb_S4x1024x1024_S1x1024x1024_0_0_0)) r j * ((View.ld (Val := Elt Ideal) v (Rect.unit ![0, 0] ![1024, 1024] inb_S4096x1024_S1024x1024_0_0)) (ix2 j l) : EReal) = act x0 x1 w r ⟨j.val, by omega⟩ * act x0 x1 w r ⟨j.val, by omega⟩ * v (ix2 ⟨j.val, by omega⟩ l) := by
  rw [act_0]
  exact congrArg (fun z : EReal => act x0 x1 w r ⟨j.val, by omega⟩ * act x0 x1 w r ⟨j.val, by omega⟩ * z) (v_0 v j l)
theorem term_1 (x0 : X0) (x1 : X1) (w : W1) (v : W2) (r : Fin 256) (j : Fin 1024) (l : Fin 1024) :
    act1 x0 x1 (View.ld (Val := Elt Ideal) w (Rect.unit ![1, 0, 0] ![1, 1024, 1024] inb_S4x1024x1024_S1x1024x1024_1_0_0)) r j * act1 x0 x1 (View.ld (Val := Elt Ideal) w (Rect.unit ![1, 0, 0] ![1, 1024, 1024] inb_S4x1024x1024_S1x1024x1024_1_0_0)) r j * ((View.ld (Val := Elt Ideal) v (Rect.unit ![1024, 0] ![1024, 1024] inb_S4096x1024_S1024x1024_1024_0)) (ix2 j l) : EReal) = act x0 x1 w r ⟨1024 + j.val, by omega⟩ * act x0 x1 w r ⟨1024 + j.val, by omega⟩ * v (ix2 ⟨1024 + j.val, by omega⟩ l) := by
  rw [act_1]
  exact congrArg (fun z : EReal => act x0 x1 w r ⟨1024 + j.val, by omega⟩ * act x0 x1 w r ⟨1024 + j.val, by omega⟩ * z) (v_1 v j l)
theorem term_2 (x0 : X0) (x1 : X1) (w : W1) (v : W2) (r : Fin 256) (j : Fin 1024) (l : Fin 1024) :
    act1 x0 x1 (View.ld (Val := Elt Ideal) w (Rect.unit ![2, 0, 0] ![1, 1024, 1024] inb_S4x1024x1024_S1x1024x1024_2_0_0)) r j * act1 x0 x1 (View.ld (Val := Elt Ideal) w (Rect.unit ![2, 0, 0] ![1, 1024, 1024] inb_S4x1024x1024_S1x1024x1024_2_0_0)) r j * ((View.ld (Val := Elt Ideal) v (Rect.unit ![2048, 0] ![1024, 1024] inb_S4096x1024_S1024x1024_2048_0)) (ix2 j l) : EReal) = act x0 x1 w r ⟨2048 + j.val, by omega⟩ * act x0 x1 w r ⟨2048 + j.val, by omega⟩ * v (ix2 ⟨2048 + j.val, by omega⟩ l) := by
  rw [act_2]
  exact congrArg (fun z : EReal => act x0 x1 w r ⟨2048 + j.val, by omega⟩ * act x0 x1 w r ⟨2048 + j.val, by omega⟩ * z) (v_2 v j l)
theorem term_3 (x0 : X0) (x1 : X1) (w : W1) (v : W2) (r : Fin 256) (j : Fin 1024) (l : Fin 1024) :
    act1 x0 x1 (View.ld (Val := Elt Ideal) w (Rect.unit ![3, 0, 0] ![1, 1024, 1024] inb_S4x1024x1024_S1x1024x1024_3_0_0)) r j * act1 x0 x1 (View.ld (Val := Elt Ideal) w (Rect.unit ![3, 0, 0] ![1, 1024, 1024] inb_S4x1024x1024_S1x1024x1024_3_0_0)) r j * ((View.ld (Val := Elt Ideal) v (Rect.unit ![3072, 0] ![1024, 1024] inb_S4096x1024_S1024x1024_3072_0)) (ix2 j l) : EReal) = act x0 x1 w r ⟨3072 + j.val, by omega⟩ * act x0 x1 w r ⟨3072 + j.val, by omega⟩ * v (ix2 ⟨3072 + j.val, by omega⟩ l) := by
  rw [act_3]
  exact congrArg (fun z : EReal => act x0 x1 w r ⟨3072 + j.val, by omega⟩ * act x0 x1 w r ⟨3072 + j.val, by omega⟩ * z) (v_3 v j l)
theorem y4_yy (x0 : X0) (x1 : X1) (w : W1) (v : W2) (r : Fin 256) (l : Fin 1024) :
    y4 x0 x1 (View.ld (Val := Elt Ideal) w (Rect.unit ![0, 0, 0] ![1, 1024, 1024] inb_S4x1024x1024_S1x1024x1024_0_0_0)) (View.ld (Val := Elt Ideal) w (Rect.unit ![1, 0, 0] ![1, 1024, 1024] inb_S4x1024x1024_S1x1024x1024_1_0_0)) (View.ld (Val := Elt Ideal) w (Rect.unit ![2, 0, 0] ![1, 1024, 1024] inb_S4x1024x1024_S1x1024x1024_2_0_0)) (View.ld (Val := Elt Ideal) w (Rect.unit ![3, 0, 0] ![1, 1024, 1024] inb_S4x1024x1024_S1x1024x1024_3_0_0))
      (View.ld (Val := Elt Ideal) v (Rect.unit ![0, 0] ![1024, 1024] inb_S4096x1024_S1024x1024_0_0)) (View.ld (Val := Elt Ideal) v (Rect.unit ![1024, 0] ![1024, 1024] inb_S4096x1024_S1024x1024_1024_0)) (View.ld (Val := Elt Ideal) v (Rect.unit ![2048, 0] ![1024, 1024] inb_S4096x1024_S1024x1024_2048_0)) (View.ld (Val := Elt Ideal) v (Rect.unit ![3072, 0] ![1024, 1024] inb_S4096x1024_S1024x1024_3072_0)) r l = yy x0 x1 w v r l := by
  unfold y4 yy
  rw [sum_quarters]
  refine Eq.trans (congr (congrArg HAdd.hAdd (congr (congrArg HAdd.hAdd (congr (congrArg HAdd.hAdd (congrArg (fun z : EReal => (x0 (ix2 r l) : EReal) + z)
    (Finset.sum_congr rfl fun j _ => term_0 x0 x1 w v r j l))) (Finset.sum_congr rfl fun j _ => term_1 x0 x1 w v r j l))) (Finset.sum_congr rfl fun j _ => term_2 x0 x1 w v r j l))) (Finset.sum_congr rfl fun j _ => term_3 x0 x1 w v r j l)) ?_
  simp only [add_assoc]

theorem canon_whole {S : Shape} {e : EltTy} (w : S.Idx → Elt Ideal e) : View.canon [(⟨Rect.whole S, w⟩ : View.Piece (Elt Ideal) S e)] = w := by
  funext y
  have h := View.canon_cons_emb (Val := Elt Ideal) (Rect.whole S) w [] y
  rw [Rect.emb_whole_apply] at h
  exact h

theorem yfin (x0 : X0) (x1 : X1) (w : W1) (v : W2) (r : Fin 256) (l : Fin 1024) :
    (k0_pay1 (F := Ideal) (k0_pay11 (k0_pay2 x0 x1) (k0_pay5 x0 x1 (View.ld (Val := Elt Ideal) w (Rect.unit ![0, 0, 0] ![1, 1024, 1024] inb_S4x1024x1024_S1x1024x1024_0_0_0)) (View.ld (Val := Elt Ideal) v (Rect.unit ![0, 0] ![1024, 1024] inb_S4096x1024_S1024x1024_0_0))) (k0_pay6 x0 x1 (View.ld (Val := Elt Ideal) w (Rect.unit ![1, 0, 0] ![1, 1024, 1024] inb_S4x1024x1024_S1x1024x1024_1_0_0))) (View.ld (Val := Elt Ideal) v (Rect.unit ![1024, 0] ![1024, 1024] inb_S4096x1024_S1024x1024_1024_0)) (View.ld (Val := Elt Ideal) w (Rect.unit ![2, 0, 0] ![1, 1024, 1024] inb_S4x1024x1024_S1x1024x1024_2_0_0)) (View.ld (Val := Elt Ideal) v (Rect.unit ![2048, 0] ![1024, 1024] inb_S4096x1024_S1024x1024_2048_0)))
      (k0_pay14 (k0_pay2 x0 x1) (View.ld (Val := Elt Ideal) w (Rect.unit ![3, 0, 0] ![1, 1024, 1024] inb_S4x1024x1024_S1x1024x1024_3_0_0))) (View.ld (Val := Elt Ideal) v (Rect.unit ![3072, 0] ![1024, 1024] inb_S4096x1024_S1024x1024_3072_0)) (constant (F := Ideal) S256x1024 .f32 0x00000000#32) (ix2 r l) : EReal) = yy x0 x1 w v r l :=
  (y4_at x0 x1 _ _ _ _ _ _ _ _ r l).trans (y4_yy x0 x1 w v r l)

/-- The second result's block, from the four stores. -/
theorem afin (x0 : X0) (x1 : X1) (w : W1) (y : S256x4096.Idx) :
    (View.canon (Val := Elt Ideal) (e := .bf16) [⟨Rect.unit ![0, 3072] ![256, 1024] inb_S256x4096_S256x1024_0_3072, k0_pay13 (F := Ideal) (k0_pay2 x0 x1) (View.ld (Val := Elt Ideal) w (Rect.unit ![3, 0, 0] ![1, 1024, 1024] inb_S4x1024x1024_S1x1024x1024_3_0_0))⟩,
      ⟨Rect.unit ![0, 2048] ![256, 1024] inb_S256x4096_S256x1024_0_2048, k0_pay10 (F := Ideal) (k0_pay2 x0 x1) (View.ld (Val := Elt Ideal) w (Rect.unit ![2, 0, 0] ![1, 1024, 1024] inb_S4x1024x1024_S1x1024x1024_2_0_0))⟩,
      ⟨Rect.unit ![0, 1024] ![256, 1024] inb_S256x4096_S256x1024_0_1024, k0_pay8 (F := Ideal) (k0_pay6 x0 x1 (View.ld (Val := Elt Ideal) w (Rect.unit ![1, 0, 0] ![1, 1024, 1024] inb_S4x1024x1024_S1x1024x1024_1_0_0)))⟩,
      ⟨Rect.unit ![0, 0] ![256, 1024] inb_S256x4096_S256x1024_0_0, k0_pay4 (F := Ideal) x0 x1 (View.ld (Val := Elt Ideal) w (Rect.unit ![0, 0, 0] ![1, 1024, 1024] inb_S4x1024x1024_S1x1024x1024_0_0_0))⟩] y : EReal) = act x0 x1 w (y 0) (y 1) := by
  refine View.canon_apply_of_pieces (Val := Elt Ideal) (e := .bf16) (fun y : S256x4096.Idx => (act x0 x1 w (y 0) (y 1) : EReal)) _ ?_ y ?_
  · intro p hp
    simp only [List.mem_cons, List.not_mem_nil, or_false] at hp
    rcases hp with rfl | rfl | rfl | rfl
    · intro x
      have h0 : (x 0).val < 256 := (x 0).isLt
      have h1 : (x 1).val < 1024 := (x 1).isLt
      have e : x = ix2 (⟨(x 0).val, h0⟩ : Fin 256) (⟨(x 1).val, h1⟩ : Fin 1024) := funext fun a => by
        match a with
        | ⟨0, _⟩ => rfl
        | ⟨1, _⟩ => rfl
      refine ((congrArg _ e).trans (pay12_at x0 x1 _ ⟨(x 0).val, h0⟩ ⟨(x 1).val, h1⟩)).trans ((act_3 x0 x1 w _ _).trans ?_)
      refine congr (congrArg (act x0 x1 w) (Fin.ext ?_)) (Fin.ext ?_)
      · show (x 0).val = 0 + 1 * (x 0).val; omega
      · show 3072 + (x 1).val = 3072 + 1 * (x 1).val; omega
    · intro x
      have h0 : (x 0).val < 256 := (x 0).isLt
      have h1 : (x 1).val < 1024 := (x 1).isLt
      have e : x = ix2 (⟨(x 0).val, h0⟩ : Fin 256) (⟨(x 1).val, h1⟩ : Fin 1024) := funext fun a => by
        match a with
        | ⟨0, _⟩ => rfl
        | ⟨1, _⟩ => rfl
      refine ((congrArg _ e).trans (pay9_at x0 x1 _ ⟨(x 0).val, h0⟩ ⟨(x 1).val, h1⟩)).trans ((act_2 x0 x1 w _ _).trans ?_)
      refine congr (congrArg (act x0 x1 w) (Fin.ext ?_)) (Fin.ext ?_)
      · show (x 0).val = 0 + 1 * (x 0).val; omega
      · show 2048 + (x 1).val = 2048 + 1 * (x 1).val; omega
    · intro x
      have h0 : (x 0).val < 256 := (x 0).isLt
      have h1 : (x 1).val < 1024 := (x 1).isLt
      have e : x = ix2 (⟨(x 0).val, h0⟩ : Fin 256) (⟨(x 1).val, h1⟩ : Fin 1024) := funext fun a => by
        match a with
        | ⟨0, _⟩ => rfl
        | ⟨1, _⟩ => rfl
      refine ((congrArg _ e).trans (pay7_at x0 x1 _ ⟨(x 0).val, h0⟩ ⟨(x 1).val, h1⟩)).trans ((act_1 x0 x1 w _ _).trans ?_)
      refine congr (congrArg (act x0 x1 w) (Fin.ext ?_)) (Fin.ext ?_)
      · show (x 0).val = 0 + 1 * (x 0).val; omega
      · show 1024 + (x 1).val = 1024 + 1 * (x 1).val; omega
    · intro x
      have h0 : (x 0).val < 256 := (x 0).isLt
      have h1 : (x 1).val < 1024 := (x 1).isLt
      have e : x = ix2 (⟨(x 0).val, h0⟩ : Fin 256) (⟨(x 1).val, h1⟩ : Fin 1024) := funext fun a => by
        match a with
        | ⟨0, _⟩ => rfl
        | ⟨1, _⟩ => rfl
      refine ((congrArg _ e).trans (pay3_at x0 x1 _ ⟨(x 0).val, h0⟩ ⟨(x 1).val, h1⟩)).trans ((act_0 x0 x1 w _ _).trans ?_)
      refine congr (congrArg (act x0 x1 w) (Fin.ext ?_)) (Fin.ext ?_)
      · show (x 0).val = 0 + 1 * (x 0).val; omega
      · show (x 1).val = 0 + 1 * (x 1).val; omega
  · have h0 : (y 0).val < 256 := (y 0).isLt
    have h1 : (y 1).val < 4096 := (y 1).isLt
    have key : ∀ (o : Nat) (inb) (hl : o ≤ (y 1).val) (hu : (y 1).val < o + 1024), y ∈ (Rect.unit (s := S256x4096) ![0, o] ![256, 1024] inb).set := by
      intro o inb hl hu
      rw [Rect.mem_set_unit]
      intro a
      match a with
      | ⟨0, _⟩ => exact ⟨Nat.zero_le _, by show (y 0).val < 0 + 256; omega⟩
      | ⟨1, _⟩ => exact ⟨hl, hu⟩
    by_cases c3 : 3072 ≤ (y 1).val
    · exact ⟨_, List.mem_cons_self, key 3072 inb_S256x4096_S256x1024_0_3072 c3 (by omega)⟩
    by_cases c2 : 2048 ≤ (y 1).val
    · exact ⟨_, List.mem_cons_of_mem _ List.mem_cons_self, key 2048 inb_S256x4096_S256x1024_0_2048 c2 (by omega)⟩
    by_cases c1 : 1024 ≤ (y 1).val
    · exact ⟨_, List.mem_cons_of_mem _ (List.mem_cons_of_mem _ List.mem_cons_self), key 1024 inb_S256x4096_S256x1024_0_1024 c1 (by omega)⟩
    · exact ⟨_, List.mem_cons_of_mem _ (List.mem_cons_of_mem _ (List.mem_cons_of_mem _ List.mem_cons_self)), key 0 inb_S256x4096_S256x1024_0_0 (by omega) (by omega)⟩

end Cert.FfnFwdVal
end
-- ==== Proof.FfnFwdVal.lean ====
/- Hand-written, untrusted: THE FEED-FORWARD FORWARD CALL (norm, two products in four chunks) writes, block by block, the rows of the reference's results. -/
module

public import proofs.«01_k».proof.Proof.Mat
public import proofs.«01_k».proof.Proof.FfnFwdPay
public import proofs.«01_k».proof.Proof.Gen.FfnFwdIdeal.Value
public import proofs.«01_k».proof.Proof.Gen.FfnFwdRefIdeal.Run
public import proofs.«01_k».proof.Proof.Gen.FfnFwdRefIdeal.Read
public import proofs.«01_k».proof.Defs

@[expose] public section

set_option maxRecDepth 16384

noncomputable section

namespace Cert.FfnFwdVal

open Cert.FfnFwdIdeal Cert.FfnFwdIdeal.Gen Cert.FfnFwdIdeal.Value Cert.Mat Idealize.ShloMosaic Idealize.ShloMosaic.TcCoe Idealize.SL.Sem
open Idealize.ShloMosaic.Tactic

variable (m : (ℓ : Loc nD τ sig) → Buf (Elt Ideal) ℓ) (c : Dev nD)

abbrev A0 : Vec Ideal S4096x1024 .f32 := m ((c : Thread nD τ).loc main_arg0)
abbrev A1 : Vec Ideal S1024 .f32 := m ((c : Thread nD τ).loc main_arg1)
abbrev A2 : Vec Ideal S1024x4096 .f32 := m ((c : Thread nD τ).loc main_arg2)
abbrev A3 : Vec Ideal S4096x1024 .f32 := m ((c : Thread nD τ).loc main_arg3)

theorem ltN (t : Fin cfg0.N) : t.val < 16 := lt_of_lt_of_eq t.isLt (show cfg0.N = 16 from N_0)

/-- Row `r` of block `t`. -/
abbrev row (t : Fin cfg0.N) (r : Fin 256) : Fin 4096 := ⟨256 * t.val + r.val, by have := ltN t; omega⟩

set_option maxHeartbeats 1000000 in
theorem out_A2 (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x1024 .f32) (harg5 : arg5.IsWhole)
    (arg6 : Memref sig .tc .vmem S256x4096 .bf16) (harg6 : arg6.IsWhole) (arg7 : Memref sig .tc .vmem S4x1024x1024 .bf16) (harg7 : arg7.IsWhole) (arg8 : Memref sig .tc .vmem S4096x1024 .bf16) (harg8 : arg8.IsWhole)
    (hc0) (x0 : X0) (x1 : X1) (w : W1) (v : W2) (r : Fin 256) (l : Fin 1024) :
    (out0_A_2 c i arg1 harg1 arg2 harg2 arg5 harg5 arg6 harg6 arg7 harg7 arg8 harg8 hc0 x0 x1 w v (ix2 r l) : EReal) = yy x0 x1 w v r l := by
  unfold out0_A_2
  rw [View.read_writes_eq_canon _ _ _ (cover0_A_2 c _ _ _ _ _ _ _ _ _ _ _ _ _ _ _ _ _ _)]
  unfold kernelRun0_A
  dsimp only
  sl_unfold_words
  simp only [View.readAt_eq_ld, harg1.read_unread, harg2.read_unread, harg5.read_unread, harg6.read_unread, harg7.read_unread, harg8.read_unread, View.readCov_eq_canon']
  rw [View.canon_unit_zero off2]
  simp only [View.ld_unit_zero (S := S256x1024) off2, View.ld_unit_zero (S := S1x1024) off2, canon_whole]
  exact yfin x0 x1 w v r l

set_option maxHeartbeats 1000000 in
theorem out_A3 (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x1024 .f32) (harg5 : arg5.IsWhole)
    (arg6 : Memref sig .tc .vmem S256x4096 .bf16) (harg6 : arg6.IsWhole) (arg7 : Memref sig .tc .vmem S4x1024x1024 .bf16) (harg7 : arg7.IsWhole) (arg8 : Memref sig .tc .vmem S4096x1024 .bf16) (harg8 : arg8.IsWhole)
    (hc0) (x0 : X0) (x1 : X1) (w : W1) (v : W2) (y : S256x4096.Idx) :
    (out0_A_3 c i arg1 harg1 arg2 harg2 arg5 harg5 arg6 harg6 arg7 harg7 arg8 harg8 hc0 x0 x1 w v y : EReal) = act x0 x1 w (y 0) (y 1) := by
  unfold out0_A_3
  rw [View.read_writes_eq_canon _ _ _ (cover0_A_3 c _ _ _ _ _ _ _ _ _ _ _ _ _ _ _ _ _ _)]
  unfold kernelRun0_A
  dsimp only
  sl_unfold_words
  simp only [View.readAt_eq_ld, harg1.read_unread, harg2.read_unread, harg5.read_unread, harg6.read_unread, harg7.read_unread, harg8.read_unread, View.readCov_eq_canon']
  simp only [View.ld_unit_zero (S := S256x1024) off2, View.ld_unit_zero (S := S1x1024) off2, canon_whole]
  exact afin x0 x1 w y

set_option maxHeartbeats 1000000 in
theorem out_B2 (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x1024 .f32) (harg5 : arg5.IsWhole)
    (arg6 : Memref sig .tc .vmem S256x4096 .bf16) (harg6 : arg6.IsWhole) (arg7 : Memref sig .tc .vmem S4x1024x1024 .bf16) (harg7 : arg7.IsWhole) (arg8 : Memref sig .tc .vmem S4096x1024 .bf16) (harg8 : arg8.IsWhole)
    (hc0) (x0 : X0) (x1 : X1) (w : W1) (v : W2) (fh0) (fh1) (r : Fin 256) (l : Fin 1024) :
    (out0_B_2 c i arg1 harg1 arg2 harg2 arg5 harg5 arg6 harg6 arg7 harg7 arg8 harg8 hc0 x0 x1 w v fh0 fh1 (ix2 r l) : EReal) = yy x0 x1 w v r l := by
  unfold out0_B_2
  rw [View.read_writes_eq_canon _ _ _ (cover0_B_2 c _ _ _ _ _ _ _ _ _ _ _ _ _ _ _ _ _ _ _ _)]
  unfold kernelRun0_B
  dsimp only
  sl_unfold_words
  simp only [View.readAt_eq_ld, harg1.read_unread, harg2.read_unread, harg5.read_unread, harg6.read_unread, harg7.read_unread, harg8.read_unread, View.readCov_eq_canon']
  rw [View.canon_unit_zero off2]
  simp only [View.ld_unit_zero (S := S256x1024) off2, View.ld_unit_zero (S := S1x1024) off2]
  exact yfin x0 x1 w v r l

set_option maxHeartbeats 1000000 in
theorem out_B3 (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x1024 .f32) (harg5 : arg5.IsWhole)
    (arg6 : Memref sig .tc .vmem S256x4096 .bf16) (harg6 : arg6.IsWhole) (arg7 : Memref sig .tc .vmem S4x1024x1024 .bf16) (harg7 : arg7.IsWhole) (arg8 : Memref sig .tc .vmem S4096x1024 .bf16) (harg8 : arg8.IsWhole)
    (hc0) (x0 : X0) (x1 : X1) (w : W1) (v : W2) (fh0) (fh1) (y : S256x4096.Idx) :
    (out0_B_3 c i arg1 harg1 arg2 harg2 arg5 harg5 arg6 harg6 arg7 harg7 arg8 harg8 hc0 x0 x1 w v fh0 fh1 y : EReal) = act x0 x1 w (y 0) (y 1) := by
  unfold out0_B_3
  rw [View.read_writes_eq_canon _ _ _ (cover0_B_3 c _ _ _ _ _ _ _ _ _ _ _ _ _ _ _ _ _ _ _ _)]
  unfold kernelRun0_B
  dsimp only
  sl_unfold_words
  simp only [View.readAt_eq_ld, harg1.read_unread, harg2.read_unread, harg5.read_unread, harg6.read_unread, harg7.read_unread, harg8.read_unread, View.readCov_eq_canon']
  simp only [View.ld_unit_zero (S := S256x1024) off2, View.ld_unit_zero (S := S1x1024) off2]
  exact afin x0 x1 w y

set_option maxHeartbeats 1000000 in
theorem sout_A0 (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x1024 .f32) (harg5 : arg5.IsWhole)
    (arg6 : Memref sig .tc .vmem S256x4096 .bf16) (harg6 : arg6.IsWhole) (arg7 : Memref sig .tc .vmem S4x1024x1024 .bf16) (harg7 : arg7.IsWhole) (arg8 : Memref sig .tc .vmem S4096x1024 .bf16) (harg8 : arg8.IsWhole)
    (hc0) (x0 : X0) (x1 : X1) (w : W1) (v : W2) :
    sout0_A_0 c i arg1 harg1 arg2 harg2 arg5 harg5 arg6 harg6 arg7 harg7 arg8 harg8 hc0 x0 x1 w v = w := by
  unfold sout0_A_0
  rw [View.read_writes_eq_canon _ _ _ (scover0_A_0 c _ _ _ _ _ _ _ _ _ _ _ _ _ _ _ _ _ _)]
  unfold kernelRun0_A
  dsimp only
  sl_unfold_words
  rw [canon_whole]
  rfl

set_option maxHeartbeats 1000000 in
theorem sout_A1 (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x1024 .f32) (harg5 : arg5.IsWhole)
    (arg6 : Memref sig .tc .vmem S256x4096 .bf16) (harg6 : arg6.IsWhole) (arg7 : Memref sig .tc .vmem S4x1024x1024 .bf16) (harg7 : arg7.IsWhole) (arg8 : Memref sig .tc .vmem S4096x1024 .bf16) (harg8 : arg8.IsWhole)
    (hc0) (x0 : X0) (x1 : X1) (w : W1) (v : W2) :
    sout0_A_1 c i arg1 harg1 arg2 harg2 arg5 harg5 arg6 harg6 arg7 harg7 arg8 harg8 hc0 x0 x1 w v = v := by
  unfold sout0_A_1
  rw [View.read_writes_eq_canon _ _ _ (scover0_A_1 c _ _ _ _ _ _ _ _ _ _ _ _ _ _ _ _ _ _)]
  unfold kernelRun0_A
  dsimp only
  sl_unfold_words
  rw [canon_whole]
  rfl

theorem V_g (l : Fin 1024) : V m c main_v3 (ix2 (0 : Fin 1) l) = A1 m c (ix1 l) := by
  have h : V m c main_v3 = (shapeCast S1x1024 (A1 m c) shapeCasts_S1024_S1x1024 : Vec Ideal S1x1024 .f32) := by
    show StableHlo.after hostOps0 _ (Proc.devRef .tc main_v3) = _
    simp only [hostOps0]
    after_results
    rfl
  rw [h]
  simp only [pointwise]

theorem V_w2 : V m c main_v4 = (truncf (F := Ideal) .bf16 (A3 m c) bitsLt_bf16_f32 : Vec Ideal S4096x1024 .bf16) := by
  show StableHlo.after hostOps0 _ (Proc.devRef .tc main_v4) = _
  simp only [hostOps0]
  after_results

theorem V_w1 (q : Fin 4) (k : Fin 1024) (j : Fin 1024) : (V m c main_v2 (ix3 q k j) : EReal) = A2 m c (ix2 k (⟨1024 * q.val + j.val, by omega⟩ : Fin 4096)) := by
  have h : V m c main_v2 = (transpose S4x1024x1024 [1, 0, 2] (shapeCast S1024x4x1024 (truncf (F := Ideal) .bf16 (A2 m c) bitsLt_bf16_f32 : Vec Ideal S1024x4096 .bf16) shapeCasts_S1024x4096_S1024x4x1024 : Vec Ideal S1024x4x1024 .bf16) transposes_S1024x4x1024_S4x1024x1024_1_0_2 : Vec Ideal S4x1024x1024 .bf16) := by
    show StableHlo.after hostOps0 _ (Proc.devRef .tc main_v2) = _
    simp only [hostOps0]
    after_results
    rfl
  rw [h]
  simp only [pointwise]
  refine congrArg (A2 m c) (funext fun a => Fin.ext ?_)
  match a with
  | ⟨0, _⟩ => rfl
  | ⟨1, _⟩ => show q.val * 1024 + j.val = 1024 * q.val + j.val; omega

theorem at0 : ∀ t : Fin cfg0.N, win0_0.index t (0 : Fin 2) = t.val ∧ win0_0.index t (1 : Fin 2) = 0 := (by decide +kernel : ∀ t : Fin grid0.N, _)
theorem b0 (t : Fin cfg0.N) (r : Fin 256) (l : Fin 1024) : (iblk m c 0 t : Vec Ideal S256x1024 .f32) (ix2 r l) = A0 m c (ix2 (row t r) l) := by
  obtain ⟨e0, e1⟩ := at0 t
  show V m c main_arg0 (((cfg0.win 0).blk t).view.emb (ix2 r l)) = _
  rw [V_main_arg0]
  refine congrArg (A0 m c) (funext fun a => Fin.ext ?_)
  match a with
  | ⟨0, _⟩ => show win0_0.index t (0 : Fin 2) * 256 + 1 * r.val = 256 * t.val + r.val; omega
  | ⟨1, _⟩ => show win0_0.index t (1 : Fin 2) * 1024 + 1 * l.val = l.val; omega

theorem at1 : ∀ t : Fin cfg0.N, win0_1.index t (0 : Fin 2) = 0 ∧ win0_1.index t (1 : Fin 2) = 0 := (by decide +kernel : ∀ t : Fin grid0.N, _)
theorem b1 (t : Fin cfg0.N) (r : Fin 1) (l : Fin 1024) : (iblk m c 1 t : Vec Ideal S1x1024 .f32) (ix2 r l) = A1 m c (ix1 l) := by
  obtain ⟨e0, e1⟩ := at1 t
  show V m c main_v3 (((cfg0.win 1).blk t).view.emb (ix2 r l)) = _
  have he : ((cfg0.win 1).blk t).view.emb (ix2 r l) = (ix2 r l : S1x1024.Idx) := funext fun a => Fin.ext (by
    match a with
    | ⟨0, _⟩ => show win0_1.index t (0 : Fin 2) * 1 + 1 * r.val = r.val; omega
    | ⟨1, _⟩ => show win0_1.index t (1 : Fin 2) * 1024 + 1 * l.val = l.val; omega)
  rw [he, Subsingleton.elim r 0]
  exact V_g m c l

theorem refnorm_at (x0 : Vec Ideal S4096x1024 .f32) (x1 : Vec Ideal S1024 .f32) (i : Fin 4096) (l : Fin 1024) :
    (Cert.FfnFwdRefIdeal.Read.val_main_v12 (F := Ideal) x0 x1 (ix2 i l) : EReal) = x0 (ix2 i l) * rs (fun k => x0 (ix2 i k)) * x1 (ix1 l) := by
  have e : ∀ k : Fin 1024, Cert.FfnFwdRefIdeal.Read.idx_main_v1 (Cert.FfnFwdRefIdeal.Read.idx_main_v2 (Cert.FfnFwdRefIdeal.Read.idx_main_v8 (ix2 i l))) k = (ix2 i k : S4096x1024.Idx) :=
    fun k => funext fun a => Fin.ext (by
      match a with
      | ⟨0, _⟩ => rfl
      | ⟨1, _⟩ => rfl)
  have e2 : Cert.FfnFwdRefIdeal.Read.idx_main_v10 (Cert.FfnFwdRefIdeal.Read.idx_main_v11 (ix2 i l)) = (ix1 l : S1024.Idx) :=
    funext fun a => Fin.ext (by
      match a with
      | ⟨0, _⟩ => rfl)
  have z : (FloatOps.ofBits (F := Ideal) .f32 0x00000000#32 : EReal) = 0 := zero_word
  simp only [Cert.FfnFwdRefIdeal.Read.val_main_v12_apply, Cert.FfnFwdRefIdeal.Read.val_main_v11_apply, Cert.FfnFwdRefIdeal.Read.val_main_v10_apply, Cert.FfnFwdRefIdeal.Read.val_main_v9_apply, Cert.FfnFwdRefIdeal.Read.val_main_v8_apply, Cert.FfnFwdRefIdeal.Read.val_main_v7_apply, Cert.FfnFwdRefIdeal.Read.val_main_v6_apply, Cert.FfnFwdRefIdeal.Read.val_main_v5_apply, Cert.FfnFwdRefIdeal.Read.val_main_v4_apply, Cert.FfnFwdRefIdeal.Read.val_main_v3_apply, Cert.FfnFwdRefIdeal.Read.val_main_v2_apply, Cert.FfnFwdRefIdeal.Read.val_main_v1_apply, Cert.FfnFwdRefIdeal.Read.val_main_v0_apply, Cert.FfnFwdRefIdeal.Read.val_main_cst_apply, Cert.FfnFwdRefIdeal.Read.val_main_cst_0_apply, Cert.FfnFwdRefIdeal.Read.val_main_cst_1_apply, e, e2]
  rw [z, zero_add]
  rfl

theorem refnorm2_at (x0 : Vec Ideal S4096x1024 .f32) (x1 : Vec Ideal S1024 .f32) (i : Fin 4096) (l : Fin 1024) :
    (Cert.FfnFwdRefIdeal.Read.val_main_v30 (F := Ideal) x0 x1 (ix2 i l) : EReal) = x0 (ix2 i l) * rs (fun k => x0 (ix2 i k)) * x1 (ix1 l) := by
  have e : ∀ k : Fin 1024, Cert.FfnFwdRefIdeal.Read.idx_main_v19 (Cert.FfnFwdRefIdeal.Read.idx_main_v20 (Cert.FfnFwdRefIdeal.Read.idx_main_v26 (ix2 i l))) k = (ix2 i k : S4096x1024.Idx) :=
    fun k => funext fun a => Fin.ext (by
      match a with
      | ⟨0, _⟩ => rfl
      | ⟨1, _⟩ => rfl)
  have e2 : Cert.FfnFwdRefIdeal.Read.idx_main_v28 (Cert.FfnFwdRefIdeal.Read.idx_main_v29 (ix2 i l)) = (ix1 l : S1024.Idx) :=
    funext fun a => Fin.ext (by
      match a with
      | ⟨0, _⟩ => rfl)
  have z : (FloatOps.ofBits (F := Ideal) .f32 0x00000000#32 : EReal) = 0 := zero_word
  simp only [Cert.FfnFwdRefIdeal.Read.val_main_v30_apply, Cert.FfnFwdRefIdeal.Read.val_main_v29_apply, Cert.FfnFwdRefIdeal.Read.val_main_v28_apply, Cert.FfnFwdRefIdeal.Read.val_main_v27_apply, Cert.FfnFwdRefIdeal.Read.val_main_v26_apply, Cert.FfnFwdRefIdeal.Read.val_main_v25_apply, Cert.FfnFwdRefIdeal.Read.val_main_v24_apply, Cert.FfnFwdRefIdeal.Read.val_main_v23_apply, Cert.FfnFwdRefIdeal.Read.val_main_v22_apply, Cert.FfnFwdRefIdeal.Read.val_main_v21_apply, Cert.FfnFwdRefIdeal.Read.val_main_v20_apply, Cert.FfnFwdRefIdeal.Read.val_main_v19_apply, Cert.FfnFwdRefIdeal.Read.val_main_v18_apply, Cert.FfnFwdRefIdeal.Read.val_main_cst_2_apply, Cert.FfnFwdRefIdeal.Read.val_main_cst_3_apply, Cert.FfnFwdRefIdeal.Read.val_main_cst_4_apply, e, e2]
  rw [z, zero_add]
  rfl

theorem row_at (t : Fin cfg0.N) (r : Fin 256) (l : Fin 1024) :
    (k0_pay2 (F := Ideal) (iblk m c 0 t) (iblk m c 1 t) (ix2 r l) : EReal) = Cert.FfnFwdRefIdeal.Read.val_main_v12 (F := Ideal) (A0 m c) (A1 m c) (ix2 (row t r) l) := by
  have hb : (fun k => (iblk m c 0 t : Vec Ideal S256x1024 .f32) (ix2 r k)) = fun k => A0 m c (ix2 (row t r) k) := funext fun k => b0 m c t r k
  refine (norm_at _ _ r l).trans ?_
  rw [b0, b1, hb]
  exact (refnorm_at _ _ (row t r) l).symm

theorem zero_at (i : S4096x4096.Idx) : (Cert.FfnFwdRefIdeal.Read.val_main_call0_v0 (F := Ideal) i : EReal) = 0 := by
  rw [Cert.FfnFwdRefIdeal.Read.val_main_call0_v0_apply, Cert.FfnFwdRefIdeal.Read.val_main_call0_cst_apply]
  exact zero_word
theorem zero_at' (i : S4096x4096.Idx) : (Cert.FfnFwdRefIdeal.Read.val_main_call1_v0 (F := Ideal) i : EReal) = 0 := by
  rw [Cert.FfnFwdRefIdeal.Read.val_main_call1_v0_apply, Cert.FfnFwdRefIdeal.Read.val_main_call1_cst_apply]
  exact zero_word

/-- The reference's rectified product, at an entry. -/
theorem relu_at (x0 : Vec Ideal S4096x1024 .f32) (x1 : Vec Ideal S1024 .f32) (x2 : Vec Ideal S1024x4096 .f32) (i : Fin 4096) (q : Fin 4096) :
    (Cert.FfnFwdRefIdeal.Read.val_main_v14 (F := Ideal) x0 x1 x2 (ix2 i q) : EReal) = max (∑ k : Fin 1024, Cert.FfnFwdRefIdeal.Read.val_main_v12 (F := Ideal) x0 x1 (ix2 i k) * x2 (ix2 k q)) 0 :=
  congr (congrArg max (hmm (M := 4096) (K := 1024) (N := 4096) none _ _ i q)) (zero_at _)
theorem relu2_at (x0 : Vec Ideal S4096x1024 .f32) (x1 : Vec Ideal S1024 .f32) (x2 : Vec Ideal S1024x4096 .f32) (i : Fin 4096) (q : Fin 4096) :
    (Cert.FfnFwdRefIdeal.Read.val_main_v33 (F := Ideal) x0 x1 x2 (ix2 i q) : EReal) = max (∑ k : Fin 1024, Cert.FfnFwdRefIdeal.Read.val_main_v12 (F := Ideal) x0 x1 (ix2 i k) * x2 (ix2 k q)) 0 := by
  refine congr (congrArg max ((hmm (M := 4096) (K := 1024) (N := 4096) none _ _ i q).trans (Finset.sum_congr rfl fun k _ => ?_))) (zero_at' _)
  exact congrArg (fun z : EReal => z * (x2 (ix2 k q) : EReal)) ((refnorm2_at x0 x1 i k).trans (refnorm_at x0 x1 i k).symm)

theorem ref_at (x0 : Vec Ideal S4096x1024 .f32) (x1 : Vec Ideal S1024 .f32) (x2 : Vec Ideal S1024x4096 .f32) (x3 : Vec Ideal S4096x1024 .f32) (i : Fin 4096) (l : Fin 1024) :
    (Cert.FfnFwdRefIdeal.Read.val_main_v17 (F := Ideal) x0 x1 x2 x3 (ix2 i l) : EReal) = x0 (ix2 i l) + ∑ q : Fin 4096, Cert.FfnFwdRefIdeal.Read.val_main_v14 (F := Ideal) x0 x1 x2 (ix2 i q) * Cert.FfnFwdRefIdeal.Read.val_main_v14 (F := Ideal) x0 x1 x2 (ix2 i q) * x3 (ix2 q l) :=
  congrArg (fun z : EReal => (x0 (ix2 i l) : EReal) + z) (hmm (M := 4096) (K := 4096) (N := 1024) none (Cert.FfnFwdRefIdeal.Read.val_main_v15 (F := Ideal) x0 x1 x2) x3 i l)

theorem act_at (t : Fin cfg0.N) (r : Fin 256) (q : Fin 4096) :
    act (iblk m c 0 t) (iblk m c 1 t) (V m c main_v2) r q = Cert.FfnFwdRefIdeal.Read.val_main_v14 (F := Ideal) (A0 m c) (A1 m c) (A2 m c) (ix2 (row t r) q) := by
  refine Eq.trans ?_ (relu_at _ _ _ (row t r) q).symm
  unfold act
  refine congrArg (max · (0 : EReal)) (Finset.sum_congr rfl fun k _ => congr (congrArg HMul.hMul (row_at m c t r k)) ((V_w1 m c _ k _).trans ?_))
  refine congrArg (fun z : Fin 4096 => (A2 m c (ix2 k z) : EReal)) (Fin.ext ?_)
  show 1024 * (q.val / 1024) + q.val % 1024 = q.val
  omega

/-- What a point leaves in the two scratch buffers is the two weights. -/
theorem scr (t : Fin cfg0.N) : (outsAt0 m c t.val t.isLt).2.2.1 = V m c main_v2 ∧ (outsAt0 m c t.val t.isLt).2.2.2 = V m c main_v4 := by
  obtain ⟨n, hn⟩ := t
  induction n with
  | zero =>
    rw [outsAt0_A m c ⟨0, hn⟩ rfl]
    dsimp only
    rw [sout_A0, sout_A1]
    exact ⟨rfl, rfl⟩
  | succ n ih =>
    have h16 : n + 1 < 16 := lt_of_lt_of_eq hn (show cfg0.N = 16 from N_0)
    rw [outsAt0_B m c ⟨n + 1, hn⟩ (by show ¬ (n + 1) % 16 = 0; omega)]
    dsimp only
    unfold sout0_B_0 sout0_B_1
    exact ih (Nat.lt_of_succ_lt hn)

theorem y_at (t : Fin cfg0.N) (r : Fin 256) (l : Fin 1024) :
    ((outsAt0 m c t.val t.isLt).1 (ix2 r l) : EReal) = yy (iblk m c 0 t) (iblk m c 1 t) (V m c main_v2) (V m c main_v4) r l := by
  by_cases h0 : t.val % 16 = 0
  · rw [outsAt0_A m c t h0]
    dsimp only
    rw [out_A2]
  · rw [outsAt0_B m c t h0]
    have hp := scr m c ⟨t.val - 1, Nat.lt_of_le_of_lt (Nat.sub_le _ _) t.isLt⟩
    rw [hp.1, hp.2]
    dsimp only
    rw [out_B2]

theorem a_at (t : Fin cfg0.N) (r : Fin 256) (q : Fin 4096) :
    ((outsAt0 m c t.val t.isLt).2.1 (ix2 r q) : EReal) = act (iblk m c 0 t) (iblk m c 1 t) (V m c main_v2) r q := by
  by_cases h0 : t.val % 16 = 0
  · rw [outsAt0_A m c t h0]
    dsimp only
    rw [out_A3]
    rfl
  · rw [outsAt0_B m c t h0]
    have hp := scr m c ⟨t.val - 1, Nat.lt_of_le_of_lt (Nat.sub_le _ _) t.isLt⟩
    rw [hp.1]
    dsimp only
    rw [out_B3]
    rfl

theorem at2 : ∀ t : Fin cfg0.N, win0_2.index t (0 : Fin 2) = t.val ∧ win0_2.index t (1 : Fin 2) = 0 := (by decide +kernel : ∀ t : Fin grid0.N, _)

abbrev K2 : Vec Ideal S4096x1024 .f32 := Cert.FfnFwdRefIdeal.Read.val_main_v17 (F := Ideal) (A0 m c) (A1 m c) (A2 m c) (A3 m c)

theorem tile2 (t : Fin cfg0.N) (r : Fin 256) (l : Fin 1024) :
    (outsAt0 m c t.val t.isLt).1 (ix2 r l) = K2 m c (ix2 (row t r) l) := by
  refine (y_at m c t r l).trans (Eq.trans ?_ (ref_at _ _ _ _ (row t r) l).symm)
  unfold yy
  rw [b0]
  refine congrArg (fun z : EReal => (A0 m c (ix2 (row t r) l) : EReal) + z) (Finset.sum_congr rfl fun q _ => ?_)
  rw [act_at]
  exact congrArg (fun z : EReal => (Cert.FfnFwdRefIdeal.Read.val_main_v14 (F := Ideal) (A0 m c) (A1 m c) (A2 m c) (ix2 (row t r) q) : EReal) * Cert.FfnFwdRefIdeal.Read.val_main_v14 (F := Ideal) (A0 m c) (A1 m c) (A2 m c) (ix2 (row t r) q) * z) (congrFun (V_w2 m c) (ix2 q l))

theorem emb2 (t : Fin cfg0.N) (r : Fin 256) (l : Fin 1024) : ((cfg0.win 2).blk t).view.emb (ix2 r l) = (ix2 (row t r) l : S4096x1024.Idx) := by
  obtain ⟨e0, e1⟩ := at2 t
  funext a; apply Fin.ext
  match a with
  | ⟨0, _⟩ => show win0_2.index t (0 : Fin 2) * 256 + 1 * r.val = 256 * t.val + r.val; omega
  | ⟨1, _⟩ => show win0_2.index t (1 : Fin 2) * 1024 + 1 * l.val = l.val; omega

theorem covered2_at (i : Fin 4096) (l : Fin 1024) : ∃ t : Fin cfg0.N, (cfg0.win 2).flush t = true ∧ (ix2 i l : S4096x1024.Idx) ∈ ((cfg0.win 2).blk t).view.set := by
  have hl : i.val / 256 < cfg0.N := by rw [show cfg0.N = 16 from N_0]; omega
  refine ⟨⟨i.val / 256, hl⟩, (by decide +kernel : ∀ t : Fin grid0.N, win0_2.flush t = true) _, ?_⟩
  have h := ((cfg0.win 2).blk (⟨i.val / 256, hl⟩ : Fin cfg0.N)).view.emb_mem_set (ix2 (⟨i.val % 256, Nat.mod_lt _ (by decide)⟩ : Fin 256) l)
  rw [emb2] at h
  have e : row (⟨i.val / 256, hl⟩ : Fin cfg0.N) ⟨i.val % 256, Nat.mod_lt _ (by decide)⟩ = i := Fin.ext (by show 256 * (i.val / 256) + i.val % 256 = i.val; omega)
  rwa [e] at h

theorem final2 : (dats m 0 c).arrAt 2 cfg0.N = K2 m c :=
  (dats m 0 c).arrAt_eq_of_cover 2 (K2 m c) (fun t _ => by
    rw [flushed2]
    funext j
    show (outsAt0 m c t.val t.isLt).1 j = K2 m c (((cfg0.win 2).blk t).view.emb j)
    rw [eq_ix2 (n0 := 256) (n1 := 1024) j]
    exact (tile2 m c t (j 0) (j 1)).trans (congrArg (K2 m c) (emb2 t (j 0) (j 1)).symm))
    (fun i => by rw [eq_ix2 (n0 := 4096) (n1 := 1024) i]; exact covered2_at (i 0) (i 1))

theorem at3 : ∀ t : Fin cfg0.N, win0_3.index t (0 : Fin 2) = t.val ∧ win0_3.index t (1 : Fin 2) = 0 := (by decide +kernel : ∀ t : Fin grid0.N, _)

abbrev K3 : Vec Ideal S4096x4096 .bf16 := Cert.FfnFwdRefIdeal.Read.val_main_v33 (F := Ideal) (A0 m c) (A1 m c) (A2 m c)

theorem tile3 (t : Fin cfg0.N) (r : Fin 256) (l : Fin 4096) :
    (outsAt0 m c t.val t.isLt).2.1 (ix2 r l) = K3 m c (ix2 (row t r) l) := by
  refine (a_at m c t r l).trans ((act_at m c t r l).trans ?_)
  exact (relu_at _ _ _ (row t r) l).trans (relu2_at _ _ _ (row t r) l).symm

theorem emb3 (t : Fin cfg0.N) (r : Fin 256) (l : Fin 4096) : ((cfg0.win 3).blk t).view.emb (ix2 r l) = (ix2 (row t r) l : S4096x4096.Idx) := by
  obtain ⟨e0, e1⟩ := at3 t
  funext a; apply Fin.ext
  match a with
  | ⟨0, _⟩ => show win0_3.index t (0 : Fin 2) * 256 + 1 * r.val = 256 * t.val + r.val; omega
  | ⟨1, _⟩ => show win0_3.index t (1 : Fin 2) * 4096 + 1 * l.val = l.val; omega

theorem covered3_at (i : Fin 4096) (l : Fin 4096) : ∃ t : Fin cfg0.N, (cfg0.win 3).flush t = true ∧ (ix2 i l : S4096x4096.Idx) ∈ ((cfg0.win 3).blk t).view.set := by
  have hl : i.val / 256 < cfg0.N := by rw [show cfg0.N = 16 from N_0]; omega
  refine ⟨⟨i.val / 256, hl⟩, (by decide +kernel : ∀ t : Fin grid0.N, win0_3.flush t = true) _, ?_⟩
  have h := ((cfg0.win 3).blk (⟨i.val / 256, hl⟩ : Fin cfg0.N)).view.emb_mem_set (ix2 (⟨i.val % 256, Nat.mod_lt _ (by decide)⟩ : Fin 256) l)
  rw [emb3] at h
  have e : row (⟨i.val / 256, hl⟩ : Fin cfg0.N) ⟨i.val % 256, Nat.mod_lt _ (by decide)⟩ = i := Fin.ext (by show 256 * (i.val / 256) + i.val % 256 = i.val; omega)
  rwa [e] at h

theorem final3 : (dats m 0 c).arrAt 3 cfg0.N = K3 m c :=
  (dats m 0 c).arrAt_eq_of_cover 3 (K3 m c) (fun t _ => by
    rw [flushed3]
    funext j
    show (outsAt0 m c t.val t.isLt).2.1 j = K3 m c (((cfg0.win 3).blk t).view.emb j)
    rw [eq_ix2 (n0 := 256) (n1 := 4096) j]
    exact (tile3 m c t (j 0) (j 1)).trans (congrArg (K3 m c) (emb3 t (j 0) (j 1)).symm))
    (fun i => by rw [eq_ix2 (n0 := 4096) (n1 := 4096) i]; exact covered3_at (i 0) (i 1))

theorem frame_r : Cert.quiescent_FfnFwdRefIdeal := by
  intro m ρ _
  exact (θ_run Cert.FfnFwdRefIdeal.defs _ _).mono (fun r h => ⟨fun c => (h c).2.2, Idealize.ShloMosaic.sem_eq_zero_of_no_sems (by decide) r.2⟩)
    (Cert.FfnFwdRefIdeal.Value.run (F := Ideal) m ρ)

theorem algebraic : Cert.algebraic_FfnFwdIdeal_FfnFwdRefIdeal := by
  intro m ρ m' ρ' _ hag
  refine ⟨fun c => (dats m 0 c).arrAt 2 cfg0.N, fun c => (dats m 0 c).arrAt 3 cfg0.N, run_blocks m ρ, ?_⟩
  refine (θ_run Cert.FfnFwdRefIdeal.defs _ _).mono (fun r h c => ?_) (Cert.FfnFwdRefIdeal.Value.run (F := Ideal) m' ρ')
  obtain ⟨r2, r3, ra⟩ := h c
  obtain ⟨g0, g1, g2, g3⟩ := hag c
  refine ⟨?_, ?_, ra⟩
  · refine (r2.trans (Cert.FfnFwdRefIdeal.Read.val_main_v17_eq _ _ _ _)).trans ?_
    rw [g0, g1, g2, g3]
    exact (final2 m c).symm
  · refine (r3.trans (Cert.FfnFwdRefIdeal.Read.val_main_v33_eq _ _ _)).trans ?_
    rw [g0, g1, g2]
    exact (final3 m c).symm

end Cert.FfnFwdVal

end
-- ==== Proof.FfnLossPay.lean ====
/- Hand-written, untrusted: THE LAST LAYER'S FORWARD CALL (norm, two products in four chunks, the loss head): the values it stores, at an entry. -/
module

public import proofs.«01_k».proof.Proof.Mat
public import proofs.«01_k».proof.Proof.Norm
public import proofs.«01_k».proof.Proof.Gen.FfnLossIdeal.Value
public import proofs.«01_k».proof.Proof.Gen.FfnLossRefIdeal.Run
public import proofs.«01_k».proof.Proof.Gen.FfnLossRefIdeal.Read
public import proofs.«01_k».proof.Defs

@[expose] public section

set_option maxRecDepth 16384

noncomputable section

namespace Cert.FfnLossVal

open Cert.FfnLossIdeal Cert.FfnLossIdeal.Gen Cert.FfnLossIdeal.Value Cert.Mat Idealize.ShloMosaic Idealize.ShloMosaic.TcCoe Idealize.SL.Sem
open Idealize.ShloMosaic.Tactic

abbrev X0 := Vec Ideal S256x1024 .f32
abbrev X1 := Vec Ideal S1x1024 .f32
abbrev W1 := Vec Ideal S4x1024x1024 .bf16
abbrev W2 := Vec Ideal S4096x1024 .bf16
abbrev C1 := Vec Ideal S1x1024x1024 .bf16
abbrev C2 := Vec Ideal S1024x1024 .bf16

theorem off3' : (![0, 0, 0] : Fin 3 → Nat) = fun _ => 0 := off3

theorem norm_at (x0 : Vec Ideal S256x1024 .f32) (x1 : Vec Ideal S1x1024 .f32) (r : Fin 256) (l : Fin 1024) :
    (k0_pay5 (F := Ideal) x0 x1 (ix2 r l) : EReal) = x0 (ix2 r l) * rs (fun k => x0 (ix2 r k)) * x1 (ix2 0 l) := by
  unfold k0_pay5
  simp only [pointwise]
  rfl

/-- One entry of a chunk of the first product, at the rectifier. -/
def act1 (x0 : X0) (x1 : X1) (a : C1) (r : Fin 256) (j : Fin 1024) : EReal :=
  max (∑ k : Fin 1024, (k0_pay5 (F := Ideal) x0 x1 (ix2 r k) : EReal) * a (ix3 0 k j)) 0

theorem chunk_at (v : FVec Ideal S256x1024 .bf16) (a : C1) (r : Fin 256) (j : Fin 1024) :
    (matmul (F := Ideal) dot_S256x1024_S1024x1024_S256x1024_1_0_0_1_n_n none v (shapeCast S1024x1024 a shapeCasts_S1x1024x1024_S1024x1024 : FVec Ideal S1024x1024 .bf16) (constant (F := Ideal) S256x1024 .f32 0x00000000#32) (ix2 r j) : EReal)
      = ∑ k : Fin 1024, v (ix2 r k) * a (ix3 0 k j) := by
  refine (kmm (φ₁ := .bf16) (φ₂ := .bf16) (M := 256) (K := 1024) (N := 1024) none _ _ r j).trans (Finset.sum_congr rfl fun k _ => ?_)
  refine congrArg (fun z : EReal => (v (ix2 r k) : EReal) * z) ?_
  simp only [pointwise]

theorem pay3_at (x0 : X0) (x1 : X1) (a : C1) (r : Fin 256) (j : Fin 1024) : (k0_pay6 (F := Ideal) x0 x1 a (ix2 r j) : EReal) = act1 x0 x1 a r j :=
  congr (congrArg max (chunk_at (k0_pay5 x0 x1) a r j)) zero_word
theorem pay7_at (x0 : X0) (x1 : X1) (a : C1) (r : Fin 256) (j : Fin 1024) : (k0_pay10 (F := Ideal) (k0_pay9 x0 x1 a) (ix2 r j) : EReal) = act1 x0 x1 a r j :=
  congr (congrArg max (chunk_at (k0_pay5 x0 x1) a r j)) zero_word
theorem pay9_at (x0 : X0) (x1 : X1) (a : C1) (r : Fin 256) (j : Fin 1024) : (k0_pay12 (F := Ideal) (k0_pay5 x0 x1) a (ix2 r j) : EReal) = act1 x0 x1 a r j :=
  congr (congrArg max (chunk_at (k0_pay5 x0 x1) a r j)) zero_word
theorem pay12_at (x0 : X0) (x1 : X1) (a : C1) (r : Fin 256) (j : Fin 1024) : (k0_pay15 (F := Ideal) (k0_pay5 x0 x1) a (ix2 r j) : EReal) = act1 x0 x1 a r j :=
  congr (congrArg max (chunk_at (k0_pay5 x0 x1) a r j)) zero_word

/-- A square times a chunk of the second weight. -/
theorem sq_at (v : FVec Ideal S256x1024 .f32) (f : Fin 256 → Fin 1024 → EReal) (hv : ∀ r j, (v (ix2 r j) : EReal) = f r j) (b : C2) (r : Fin 256) (l : Fin 1024) :
    (matmul (F := Ideal) (φ₂ := .bf16) dot_S256x1024_S1024x1024_S256x1024_1_0_0_1_n_n none (truncf (F := Ideal) .bf16 (mulf v v) bitsLt_bf16_f32) b (constant (F := Ideal) S256x1024 .f32 0x00000000#32) (ix2 r l) : EReal)
      = ∑ j : Fin 1024, f r j * f r j * b (ix2 j l) := by
  refine (kmm (φ₁ := .bf16) (φ₂ := .bf16) (M := 256) (K := 1024) (N := 1024) none _ _ r l).trans (Finset.sum_congr rfl fun j _ => ?_)
  exact congrArg (fun z : EReal => z * (b (ix2 j l) : EReal)) (congr (congrArg HMul.hMul (hv r j)) (hv r j))

/-- The row of the first result, from the four chunks. -/
def y4 (x0 : X0) (x1 : X1) (a0 a1 a2 a3 : C1) (b0 b1 b2 b3 : C2) (r : Fin 256) (l : Fin 1024) : EReal :=
  x0 (ix2 r l) + (∑ j : Fin 1024, act1 x0 x1 a0 r j * act1 x0 x1 a0 r j * b0 (ix2 j l)) + (∑ j : Fin 1024, act1 x0 x1 a1 r j * act1 x0 x1 a1 r j * b1 (ix2 j l))
    + (∑ j : Fin 1024, act1 x0 x1 a2 r j * act1 x0 x1 a2 r j * b2 (ix2 j l)) + ∑ j : Fin 1024, act1 x0 x1 a3 r j * act1 x0 x1 a3 r j * b3 (ix2 j l)

theorem y4_at (x0 : X0) (x1 : X1) (t : X0) (a0 a1 a2 a3 : C1) (b0 b1 b2 b3 : C2) (r : Fin 256) (l : Fin 1024) :
    (k0_pay1 (F := Ideal) (k0_pay14 (k0_pay5 x0 x1) (k0_pay8 x0 x1 a0 b0) (k0_pay9 x0 x1 a1) b1 a2 b2) (k0_pay17 (k0_pay5 x0 x1) a3) b3 (constant (F := Ideal) S256x1024 .f32 0x00000000#32) t (ix2 r l) : EReal)
      = y4 x0 x1 a0 a1 a2 a3 b0 b1 b2 b3 r l - t (ix2 r l) :=
  congrArg (fun z : EReal => z - (t (ix2 r l) : EReal)) (congr (congrArg HAdd.hAdd (congr (congrArg HAdd.hAdd (congr (congrArg HAdd.hAdd (congrArg (fun z : EReal => (x0 (ix2 r l) : EReal) + z)
    (sq_at (k0_pay6 x0 x1 a0) (act1 x0 x1 a0) (pay3_at x0 x1 a0) b0 r l)))
    (sq_at (k0_pay10 (k0_pay9 x0 x1 a1)) (act1 x0 x1 a1) (pay7_at x0 x1 a1) b1 r l)))
    (sq_at (k0_pay12 (k0_pay5 x0 x1) a2) (act1 x0 x1 a2) (pay9_at x0 x1 a2) b2 r l)))
    (sq_at (k0_pay15 (k0_pay5 x0 x1) a3) (act1 x0 x1 a3) (pay12_at x0 x1 a3) b3 r l))

/-- The rectified product at a column of the whole. -/
def act (x0 : X0) (x1 : X1) (w : W1) (r : Fin 256) (q : Fin 4096) : EReal :=
  max (∑ k : Fin 1024, (k0_pay5 (F := Ideal) x0 x1 (ix2 r k) : EReal) * w (ix3 (⟨q.val / 1024, by omega⟩ : Fin 4) k (⟨q.val % 1024, by omega⟩ : Fin 1024))) 0

def yy (x0 : X0) (x1 : X1) (w : W1) (v : W2) (r : Fin 256) (l : Fin 1024) : EReal :=
  x0 (ix2 r l) + ∑ q : Fin 4096, act x0 x1 w r q * act x0 x1 w r q * v (ix2 q l)

theorem act_0 (x0 : X0) (x1 : X1) (w : W1) (r : Fin 256) (j : Fin 1024) :
    act1 x0 x1 (View.ld (Val := Elt Ideal) w (Rect.unit ![0, 0, 0] ![1, 1024, 1024] inb_S4x1024x1024_S1x1024x1024_0_0_0)) r j = act x0 x1 w r ⟨j.val, by omega⟩ := by
  unfold act1 act
  refine congrArg (max · (0 : EReal)) (Finset.sum_congr rfl fun k _ => congrArg (fun z : EReal => (k0_pay5 (F := Ideal) x0 x1 (ix2 r k) : EReal) * z) (congrArg w (funext fun a => Fin.ext ?_)))
  match a with
  | ⟨0, _⟩ => show 0 + 1 * 0 = (j.val) / 1024; omega
  | ⟨1, _⟩ => show 0 + 1 * k.val = k.val; omega
  | ⟨2, _⟩ => show 0 + 1 * j.val = (j.val) % 1024; omega
theorem v_0 (v : W2) (j : Fin 1024) (l : Fin 1024) :
    (View.ld (Val := Elt Ideal) v (Rect.unit ![0, 0] ![1024, 1024] inb_S4096x1024_S1024x1024_0_0) (ix2 j l) : EReal) = v (ix2 ⟨j.val, by omega⟩ l) := by
  refine congrArg v (funext fun a => Fin.ext ?_)
  match a with
  | ⟨0, _⟩ => show 0 + 1 * j.val = j.val; omega
  | ⟨1, _⟩ => show 0 + 1 * l.val = l.val; omega

theorem act_1 (x0 : X0) (x1 : X1) (w : W1) (r : Fin 256) (j : Fin 1024) :
    act1 x0 x1 (View.ld (Val := Elt Ideal) w (Rect.unit ![1, 0, 0] ![1, 1024, 1024] inb_S4x1024x1024_S1x1024x1024_1_0_0)) r j = act x0 x1 w r ⟨1024 + j.val, by omega⟩ := by
  unfold act1 act
  refine congrArg (max · (0 : EReal)) (Finset.sum_congr rfl fun k _ => congrArg (fun z : EReal => (k0_pay5 (F := Ideal) x0 x1 (ix2 r k) : EReal) * z) (congrArg w (funext fun a => Fin.ext ?_)))
  match a with
  | ⟨0, _⟩ => show 1 + 1 * 0 = (1024 + j.val) / 1024; omega
  | ⟨1, _⟩ => show 0 + 1 * k.val = k.val; omega
  | ⟨2, _⟩ => show 0 + 1 * j.val = (1024 + j.val) % 1024; omega
theorem v_1 (v : W2) (j : Fin 1024) (l : Fin 1024) :
    (View.ld (Val := Elt Ideal) v (Rect.unit ![1024, 0] ![1024, 1024] inb_S4096x1024_S1024x1024_1024_0) (ix2 j l) : EReal) = v (ix2 ⟨1024 + j.val, by omega⟩ l) := by
  refine congrArg v (funext fun a => Fin.ext ?_)
  match a with
  | ⟨0, _⟩ => show 1024 + 1 * j.val = 1024 + j.val; omega
  | ⟨1, _⟩ => show 0 + 1 * l.val = l.val; omega

theorem act_2 (x0 : X0) (x1 : X1) (w : W1) (r : Fin 256) (j : Fin 1024) :
    act1 x0 x1 (View.ld (Val := Elt Ideal) w (Rect.unit ![2, 0, 0] ![1, 1024, 1024] inb_S4x1024x1024_S1x1024x1024_2_0_0)) r j = act x0 x1 w r ⟨2048 + j.val, by omega⟩ := by
  unfold act1 act
  refine congrArg (max · (0 : EReal)) (Finset.sum_congr rfl fun k _ => congrArg (fun z : EReal => (k0_pay5 (F := Ideal) x0 x1 (ix2 r k) : EReal) * z) (congrArg w (funext fun a => Fin.ext ?_)))
  match a with
  | ⟨0, _⟩ => show 2 + 1 * 0 = (2048 + j.val) / 1024; omega
  | ⟨1, _⟩ => show 0 + 1 * k.val = k.val; omega
  | ⟨2, _⟩ => show 0 + 1 * j.val = (2048 + j.val) % 1024; omega
theorem v_2 (v : W2) (j : Fin 1024) (l : Fin 1024) :
    (View.ld (Val := Elt Ideal) v (Rect.unit ![2048, 0] ![1024, 1024] inb_S4096x1024_S1024x1024_2048_0) (ix2 j l) : EReal) = v (ix2 ⟨2048 + j.val, by omega⟩ l) := by
  refine congrArg v (funext fun a => Fin.ext ?_)
  match a with
  | ⟨0, _⟩ => show 2048 + 1 * j.val = 2048 + j.val; omega
  | ⟨1, _⟩ => show 0 + 1 * l.val = l.val; omega

theorem act_3 (x0 : X0) (x1 : X1) (w : W1) (r : Fin 256) (j : Fin 1024) :
    act1 x0 x1 (View.ld (Val := Elt Ideal) w (Rect.unit ![3, 0, 0] ![1, 1024, 1024] inb_S4x1024x1024_S1x1024x1024_3_0_0)) r j = act x0 x1 w r ⟨3072 + j.val, by omega⟩ := by
  unfold act1 act
  refine congrArg (max · (0 : EReal)) (Finset.sum_congr rfl fun k _ => congrArg (fun z : EReal => (k0_pay5 (F := Ideal) x0 x1 (ix2 r k) : EReal) * z) (congrArg w (funext fun a => Fin.ext ?_)))
  match a with
  | ⟨0, _⟩ => show 3 + 1 * 0 = (3072 + j.val) / 1024; omega
  | ⟨1, _⟩ => show 0 + 1 * k.val = k.val; omega
  | ⟨2, _⟩ => show 0 + 1 * j.val = (3072 + j.val) % 1024; omega
theorem v_3 (v : W2) (j : Fin 1024) (l : Fin 1024) :
    (View.ld (Val := Elt Ideal) v (Rect.unit ![3072, 0] ![1024, 1024] inb_S4096x1024_S1024x1024_3072_0) (ix2 j l) : EReal) = v (ix2 ⟨3072 + j.val, by omega⟩ l) := by
  refine congrArg v (funext fun a => Fin.ext ?_)
  match a with
  | ⟨0, _⟩ => show 3072 + 1 * j.val = 3072 + j.val; omega
  | ⟨1, _⟩ => show 0 + 1 * l.val = l.val; omega

theorem term_0 (x0 : X0) (x1 : X1) (w : W1) (v : W2) (r : Fin 256) (j : Fin 1024) (l : Fin 1024) :
    act1 x0 x1 (View.ld (Val := Elt Ideal) w (Rect.unit ![0, 0, 0] ![1, 1024, 1024] inb_S4x1024x1024_S1x1024x1024_0_0_0)) r j * act1 x0 x1 (View.ld (Val := Elt Ideal) w (Rect.unit ![0, 0, 0] ![1, 1024, 1024] inb_S4x1024x1024_S1x1024x1024_0_0_0)) r j * ((View.ld (Val := Elt Ideal) v (Rect.unit ![0, 0] ![1024, 1024] inb_S4096x1024_S1024x1024_0_0)) (ix2 j l) : EReal) = act x0 x1 w r ⟨j.val, by omega⟩ * act x0 x1 w r ⟨j.val, by omega⟩ * v (ix2 ⟨j.val, by omega⟩ l) := by
  rw [act_0]
  exact congrArg (fun z : EReal => act x0 x1 w r ⟨j.val, by omega⟩ * act x0 x1 w r ⟨j.val, by omega⟩ * z) (v_0 v j l)
theorem term_1 (x0 : X0) (x1 : X1) (w : W1) (v : W2) (r : Fin 256) (j : Fin 1024) (l : Fin 1024) :
    act1 x0 x1 (View.ld (Val := Elt Ideal) w (Rect.unit ![1, 0, 0] ![1, 1024, 1024] inb_S4x1024x1024_S1x1024x1024_1_0_0)) r j * act1 x0 x1 (View.ld (Val := Elt Ideal) w (Rect.unit ![1, 0, 0] ![1, 1024, 1024] inb_S4x1024x1024_S1x1024x1024_1_0_0)) r j * ((View.ld (Val := Elt Ideal) v (Rect.unit ![1024, 0] ![1024, 1024] inb_S4096x1024_S1024x1024_1024_0)) (ix2 j l) : EReal) = act x0 x1 w r ⟨1024 + j.val, by omega⟩ * act x0 x1 w r ⟨1024 + j.val, by omega⟩ * v (ix2 ⟨1024 + j.val, by omega⟩ l) := by
  rw [act_1]
  exact congrArg (fun z : EReal => act x0 x1 w r ⟨1024 + j.val, by omega⟩ * act x0 x1 w r ⟨1024 + j.val, by omega⟩ * z) (v_1 v j l)
theorem term_2 (x0 : X0) (x1 : X1) (w : W1) (v : W2) (r : Fin 256) (j : Fin 1024) (l : Fin 1024) :
    act1 x0 x1 (View.ld (Val := Elt Ideal) w (Rect.unit ![2, 0, 0] ![1, 1024, 1024] inb_S4x1024x1024_S1x1024x1024_2_0_0)) r j * act1 x0 x1 (View.ld (Val := Elt Ideal) w (Rect.unit ![2, 0, 0] ![1, 1024, 1024] inb_S4x1024x1024_S1x1024x1024_2_0_0)) r j * ((View.ld (Val := Elt Ideal) v (Rect.unit ![2048, 0] ![1024, 1024] inb_S4096x1024_S1024x1024_2048_0)) (ix2 j l) : EReal) = act x0 x1 w r ⟨2048 + j.val, by omega⟩ * act x0 x1 w r ⟨2048 + j.val, by omega⟩ * v (ix2 ⟨2048 + j.val, by omega⟩ l) := by
  rw [act_2]
  exact congrArg (fun z : EReal => act x0 x1 w r ⟨2048 + j.val, by omega⟩ * act x0 x1 w r ⟨2048 + j.val, by omega⟩ * z) (v_2 v j l)
theorem term_3 (x0 : X0) (x1 : X1) (w : W1) (v : W2) (r : Fin 256) (j : Fin 1024) (l : Fin 1024) :
    act1 x0 x1 (View.ld (Val := Elt Ideal) w (Rect.unit ![3, 0, 0] ![1, 1024, 1024] inb_S4x1024x1024_S1x1024x1024_3_0_0)) r j * act1 x0 x1 (View.ld (Val := Elt Ideal) w (Rect.unit ![3, 0, 0] ![1, 1024, 1024] inb_S4x1024x1024_S1x1024x1024_3_0_0)) r j * ((View.ld (Val := Elt Ideal) v (Rect.unit ![3072, 0] ![1024, 1024] inb_S4096x1024_S1024x1024_3072_0)) (ix2 j l) : EReal) = act x0 x1 w r ⟨3072 + j.val, by omega⟩ * act x0 x1 w r ⟨3072 + j.val, by omega⟩ * v (ix2 ⟨3072 + j.val, by omega⟩ l) := by
  rw [act_3]
  exact congrArg (fun z : EReal => act x0 x1 w r ⟨3072 + j.val, by omega⟩ * act x0 x1 w r ⟨3072 + j.val, by omega⟩ * z) (v_3 v j l)
theorem y4_yy (x0 : X0) (x1 : X1) (w : W1) (v : W2) (r : Fin 256) (l : Fin 1024) :
    y4 x0 x1 (View.ld (Val := Elt Ideal) w (Rect.unit ![0, 0, 0] ![1, 1024, 1024] inb_S4x1024x1024_S1x1024x1024_0_0_0)) (View.ld (Val := Elt Ideal) w (Rect.unit ![1, 0, 0] ![1, 1024, 1024] inb_S4x1024x1024_S1x1024x1024_1_0_0)) (View.ld (Val := Elt Ideal) w (Rect.unit ![2, 0, 0] ![1, 1024, 1024] inb_S4x1024x1024_S1x1024x1024_2_0_0)) (View.ld (Val := Elt Ideal) w (Rect.unit ![3, 0, 0] ![1, 1024, 1024] inb_S4x1024x1024_S1x1024x1024_3_0_0))
      (View.ld (Val := Elt Ideal) v (Rect.unit ![0, 0] ![1024, 1024] inb_S4096x1024_S1024x1024_0_0)) (View.ld (Val := Elt Ideal) v (Rect.unit ![1024, 0] ![1024, 1024] inb_S4096x1024_S1024x1024_1024_0)) (View.ld (Val := Elt Ideal) v (Rect.unit ![2048, 0] ![1024, 1024] inb_S4096x1024_S1024x1024_2048_0)) (View.ld (Val := Elt Ideal) v (Rect.unit ![3072, 0] ![1024, 1024] inb_S4096x1024_S1024x1024_3072_0)) r l = yy x0 x1 w v r l := by
  unfold y4 yy
  rw [sum_quarters]
  refine Eq.trans (congr (congrArg HAdd.hAdd (congr (congrArg HAdd.hAdd (congr (congrArg HAdd.hAdd (congrArg (fun z : EReal => (x0 (ix2 r l) : EReal) + z)
    (Finset.sum_congr rfl fun j _ => term_0 x0 x1 w v r j l))) (Finset.sum_congr rfl fun j _ => term_1 x0 x1 w v r j l))) (Finset.sum_congr rfl fun j _ => term_2 x0 x1 w v r j l))) (Finset.sum_congr rfl fun j _ => term_3 x0 x1 w v r j l)) ?_
  simp only [add_assoc]

theorem canon_whole {S : Shape} {e : EltTy} (w : S.Idx → Elt Ideal e) : View.canon [(⟨Rect.whole S, w⟩ : View.Piece (Elt Ideal) S e)] = w := by
  funext y
  have h := View.canon_cons_emb (Val := Elt Ideal) (Rect.whole S) w [] y
  rw [Rect.emb_whole_apply] at h
  exact h

/-- The difference to the target. -/
def ee (x0 : X0) (x1 : X1) (w : W1) (v : W2) (t : X0) (r : Fin 256) (l : Fin 1024) : EReal := yy x0 x1 w v r l - t (ix2 r l)

theorem efin (x0 : X0) (x1 : X1) (w : W1) (v : W2) (t : X0) (r : Fin 256) (l : Fin 1024) :
    (k0_pay1 (F := Ideal) (k0_pay14 (k0_pay5 x0 x1) (k0_pay8 x0 x1 (View.ld (Val := Elt Ideal) w (Rect.unit ![0, 0, 0] ![1, 1024, 1024] inb_S4x1024x1024_S1x1024x1024_0_0_0)) (View.ld (Val := Elt Ideal) v (Rect.unit ![0, 0] ![1024, 1024] inb_S4096x1024_S1024x1024_0_0))) (k0_pay9 x0 x1 (View.ld (Val := Elt Ideal) w (Rect.unit ![1, 0, 0] ![1, 1024, 1024] inb_S4x1024x1024_S1x1024x1024_1_0_0))) (View.ld (Val := Elt Ideal) v (Rect.unit ![1024, 0] ![1024, 1024] inb_S4096x1024_S1024x1024_1024_0)) (View.ld (Val := Elt Ideal) w (Rect.unit ![2, 0, 0] ![1, 1024, 1024] inb_S4x1024x1024_S1x1024x1024_2_0_0)) (View.ld (Val := Elt Ideal) v (Rect.unit ![2048, 0] ![1024, 1024] inb_S4096x1024_S1024x1024_2048_0)))
      (k0_pay17 (k0_pay5 x0 x1) (View.ld (Val := Elt Ideal) w (Rect.unit ![3, 0, 0] ![1, 1024, 1024] inb_S4x1024x1024_S1x1024x1024_3_0_0))) (View.ld (Val := Elt Ideal) v (Rect.unit ![3072, 0] ![1024, 1024] inb_S4096x1024_S1024x1024_3072_0)) (constant (F := Ideal) S256x1024 .f32 0x00000000#32) t (ix2 r l) : EReal) = ee x0 x1 w v t r l :=
  (y4_at x0 x1 t _ _ _ _ _ _ _ _ r l).trans (congrArg (fun z : EReal => z - (t (ix2 r l) : EReal)) (y4_yy x0 x1 w v r l))

theorem pay2_at (a : FVec Ideal S256x1024 .f32) (b : FVec Ideal S256x1024 .bf16) (d : C2) (e : FVec Ideal S256x1024 .f32) (t : X0) (r : Fin 256) (l : Fin 1024) :
    (k0_pay2 (F := Ideal) a b d e t (ix2 r l) : EReal) = k0_pay1 (F := Ideal) a b d e t (ix2 r l) * Ideal.ofBits .f32 0x3A800000#32 := rfl

theorem pay3_zero (l : Fin 1024) : (k0_pay3 (F := Ideal) (ix2 0 l) : EReal) = 0 := by
  unfold k0_pay3
  exact zero_word

theorem pay4_at (a : FVec Ideal S256x1024 .f32) (b : FVec Ideal S256x1024 .bf16) (d : C2) (e : FVec Ideal S256x1024 .f32) (t : X0) (o : X1) (l : Fin 1024) :
    (k0_pay4 (F := Ideal) a b d e t o (ix2 0 l) : EReal) = o (ix2 0 l) + (∑ r : Fin 256, k0_pay1 (F := Ideal) a b d e t (ix2 r l) * k0_pay1 (F := Ideal) a b d e t (ix2 r l)) * Ideal.ofBits .f32 0x3A000000#32 := by
  unfold k0_pay4
  generalize k0_pay1 (F := Ideal) a b d e t = y
  simp only [pointwise]

theorem dfin (x0 : X0) (x1 : X1) (w : W1) (v : W2) (t : X0) (r : Fin 256) (l : Fin 1024) :
    (k0_pay2 (F := Ideal) (k0_pay14 (k0_pay5 x0 x1) (k0_pay8 x0 x1 (View.ld (Val := Elt Ideal) w (Rect.unit ![0, 0, 0] ![1, 1024, 1024] inb_S4x1024x1024_S1x1024x1024_0_0_0)) (View.ld (Val := Elt Ideal) v (Rect.unit ![0, 0] ![1024, 1024] inb_S4096x1024_S1024x1024_0_0))) (k0_pay9 x0 x1 (View.ld (Val := Elt Ideal) w (Rect.unit ![1, 0, 0] ![1, 1024, 1024] inb_S4x1024x1024_S1x1024x1024_1_0_0))) (View.ld (Val := Elt Ideal) v (Rect.unit ![1024, 0] ![1024, 1024] inb_S4096x1024_S1024x1024_1024_0)) (View.ld (Val := Elt Ideal) w (Rect.unit ![2, 0, 0] ![1, 1024, 1024] inb_S4x1024x1024_S1x1024x1024_2_0_0)) (View.ld (Val := Elt Ideal) v (Rect.unit ![2048, 0] ![1024, 1024] inb_S4096x1024_S1024x1024_2048_0)))
      (k0_pay17 (k0_pay5 x0 x1) (View.ld (Val := Elt Ideal) w (Rect.unit ![3, 0, 0] ![1, 1024, 1024] inb_S4x1024x1024_S1x1024x1024_3_0_0))) (View.ld (Val := Elt Ideal) v (Rect.unit ![3072, 0] ![1024, 1024] inb_S4096x1024_S1024x1024_3072_0)) (constant (F := Ideal) S256x1024 .f32 0x00000000#32) t (ix2 r l) : EReal) = ee x0 x1 w v t r l * Ideal.ofBits .f32 0x3A800000#32 :=
  (pay2_at _ _ _ _ t r l).trans (congrArg (fun z : EReal => z * Ideal.ofBits .f32 0x3A800000#32) (efin x0 x1 w v t r l))

theorem lfin (x0 : X0) (x1 : X1) (w : W1) (v : W2) (t : X0) (o : X1) (l : Fin 1024) :
    (k0_pay4 (F := Ideal) (k0_pay14 (k0_pay5 x0 x1) (k0_pay8 x0 x1 (View.ld (Val := Elt Ideal) w (Rect.unit ![0, 0, 0] ![1, 1024, 1024] inb_S4x1024x1024_S1x1024x1024_0_0_0)) (View.ld (Val := Elt Ideal) v (Rect.unit ![0, 0] ![1024, 1024] inb_S4096x1024_S1024x1024_0_0))) (k0_pay9 x0 x1 (View.ld (Val := Elt Ideal) w (Rect.unit ![1, 0, 0] ![1, 1024, 1024] inb_S4x1024x1024_S1x1024x1024_1_0_0))) (View.ld (Val := Elt Ideal) v (Rect.unit ![1024, 0] ![1024, 1024] inb_S4096x1024_S1024x1024_1024_0)) (View.ld (Val := Elt Ideal) w (Rect.unit ![2, 0, 0] ![1, 1024, 1024] inb_S4x1024x1024_S1x1024x1024_2_0_0)) (View.ld (Val := Elt Ideal) v (Rect.unit ![2048, 0] ![1024, 1024] inb_S4096x1024_S1024x1024_2048_0)))
      (k0_pay17 (k0_pay5 x0 x1) (View.ld (Val := Elt Ideal) w (Rect.unit ![3, 0, 0] ![1, 1024, 1024] inb_S4x1024x1024_S1x1024x1024_3_0_0))) (View.ld (Val := Elt Ideal) v (Rect.unit ![3072, 0] ![1024, 1024] inb_S4096x1024_S1024x1024_3072_0)) (constant (F := Ideal) S256x1024 .f32 0x00000000#32) t o (ix2 0 l) : EReal) = o (ix2 0 l) + (∑ r : Fin 256, ee x0 x1 w v t r l * ee x0 x1 w v t r l) * Ideal.ofBits .f32 0x3A000000#32 := by
  refine (pay4_at _ _ _ _ t o l).trans (congrArg (fun z : EReal => (o (ix2 0 l) : EReal) + z * Ideal.ofBits .f32 0x3A000000#32) (Finset.sum_congr rfl fun r _ => ?_))
  exact congr (congrArg HMul.hMul (efin x0 x1 w v t r l)) (efin x0 x1 w v t r l)

/-- The second result's block, from the four stores. -/
theorem afin (x0 : X0) (x1 : X1) (w : W1) (y : S256x4096.Idx) :
    (View.canon (Val := Elt Ideal) (e := .bf16) [⟨Rect.unit ![0, 3072] ![256, 1024] inb_S256x4096_S256x1024_0_3072, k0_pay16 (F := Ideal) (k0_pay5 x0 x1) (View.ld (Val := Elt Ideal) w (Rect.unit ![3, 0, 0] ![1, 1024, 1024] inb_S4x1024x1024_S1x1024x1024_3_0_0))⟩,
      ⟨Rect.unit ![0, 2048] ![256, 1024] inb_S256x4096_S256x1024_0_2048, k0_pay13 (F := Ideal) (k0_pay5 x0 x1) (View.ld (Val := Elt Ideal) w (Rect.unit ![2, 0, 0] ![1, 1024, 1024] inb_S4x1024x1024_S1x1024x1024_2_0_0))⟩,
      ⟨Rect.unit ![0, 1024] ![256, 1024] inb_S256x4096_S256x1024_0_1024, k0_pay11 (F := Ideal) (k0_pay9 x0 x1 (View.ld (Val := Elt Ideal) w (Rect.unit ![1, 0, 0] ![1, 1024, 1024] inb_S4x1024x1024_S1x1024x1024_1_0_0)))⟩,
      ⟨Rect.unit ![0, 0] ![256, 1024] inb_S256x4096_S256x1024_0_0, k0_pay7 (F := Ideal) x0 x1 (View.ld (Val := Elt Ideal) w (Rect.unit ![0, 0, 0] ![1, 1024, 1024] inb_S4x1024x1024_S1x1024x1024_0_0_0))⟩] y : EReal) = act x0 x1 w (y 0) (y 1) := by
  refine View.canon_apply_of_pieces (Val := Elt Ideal) (e := .bf16) (fun y : S256x4096.Idx => (act x0 x1 w (y 0) (y 1) : EReal)) _ ?_ y ?_
  · intro p hp
    simp only [List.mem_cons, List.not_mem_nil, or_false] at hp
    rcases hp with rfl | rfl | rfl | rfl
    · intro x
      have h0 : (x 0).val < 256 := (x 0).isLt
      have h1 : (x 1).val < 1024 := (x 1).isLt
      have e : x = ix2 (⟨(x 0).val, h0⟩ : Fin 256) (⟨(x 1).val, h1⟩ : Fin 1024) := funext fun a => by
        match a with
        | ⟨0, _⟩ => rfl
        | ⟨1, _⟩ => rfl
      refine ((congrArg _ e).trans (pay12_at x0 x1 _ ⟨(x 0).val, h0⟩ ⟨(x 1).val, h1⟩)).trans ((act_3 x0 x1 w _ _).trans ?_)
      refine congr (congrArg (act x0 x1 w) (Fin.ext ?_)) (Fin.ext ?_)
      · show (x 0).val = 0 + 1 * (x 0).val; omega
      · show 3072 + (x 1).val = 3072 + 1 * (x 1).val; omega
    · intro x
      have h0 : (x 0).val < 256 := (x 0).isLt
      have h1 : (x 1).val < 1024 := (x 1).isLt
      have e : x = ix2 (⟨(x 0).val, h0⟩ : Fin 256) (⟨(x 1).val, h1⟩ : Fin 1024) := funext fun a => by
        match a with
        | ⟨0, _⟩ => rfl
        | ⟨1, _⟩ => rfl
      refine ((congrArg _ e).trans (pay9_at x0 x1 _ ⟨(x 0).val, h0⟩ ⟨(x 1).val, h1⟩)).trans ((act_2 x0 x1 w _ _).trans ?_)
      refine congr (congrArg (act x0 x1 w) (Fin.ext ?_)) (Fin.ext ?_)
      · show (x 0).val = 0 + 1 * (x 0).val; omega
      · show 2048 + (x 1).val = 2048 + 1 * (x 1).val; omega
    · intro x
      have h0 : (x 0).val < 256 := (x 0).isLt
      have h1 : (x 1).val < 1024 := (x 1).isLt
      have e : x = ix2 (⟨(x 0).val, h0⟩ : Fin 256) (⟨(x 1).val, h1⟩ : Fin 1024) := funext fun a => by
        match a with
        | ⟨0, _⟩ => rfl
        | ⟨1, _⟩ => rfl
      refine ((congrArg _ e).trans (pay7_at x0 x1 _ ⟨(x 0).val, h0⟩ ⟨(x 1).val, h1⟩)).trans ((act_1 x0 x1 w _ _).trans ?_)
      refine congr (congrArg (act x0 x1 w) (Fin.ext ?_)) (Fin.ext ?_)
      · show (x 0).val = 0 + 1 * (x 0).val; omega
      · show 1024 + (x 1).val = 1024 + 1 * (x 1).val; omega
    · intro x
      have h0 : (x 0).val < 256 := (x 0).isLt
      have h1 : (x 1).val < 1024 := (x 1).isLt
      have e : x = ix2 (⟨(x 0).val, h0⟩ : Fin 256) (⟨(x 1).val, h1⟩ : Fin 1024) := funext fun a => by
        match a with
        | ⟨0, _⟩ => rfl
        | ⟨1, _⟩ => rfl
      refine ((congrArg _ e).trans (pay3_at x0 x1 _ ⟨(x 0).val, h0⟩ ⟨(x 1).val, h1⟩)).trans ((act_0 x0 x1 w _ _).trans ?_)
      refine congr (congrArg (act x0 x1 w) (Fin.ext ?_)) (Fin.ext ?_)
      · show (x 0).val = 0 + 1 * (x 0).val; omega
      · show (x 1).val = 0 + 1 * (x 1).val; omega
  · have h0 : (y 0).val < 256 := (y 0).isLt
    have h1 : (y 1).val < 4096 := (y 1).isLt
    have key : ∀ (o : Nat) (inb) (hl : o ≤ (y 1).val) (hu : (y 1).val < o + 1024), y ∈ (Rect.unit (s := S256x4096) ![0, o] ![256, 1024] inb).set := by
      intro o inb hl hu
      rw [Rect.mem_set_unit]
      intro a
      match a with
      | ⟨0, _⟩ => exact ⟨Nat.zero_le _, by show (y 0).val < 0 + 256; omega⟩
      | ⟨1, _⟩ => exact ⟨hl, hu⟩
    by_cases c3 : 3072 ≤ (y 1).val
    · exact ⟨_, List.mem_cons_self, key 3072 inb_S256x4096_S256x1024_0_3072 c3 (by omega)⟩
    by_cases c2 : 2048 ≤ (y 1).val
    · exact ⟨_, List.mem_cons_of_mem _ List.mem_cons_self, key 2048 inb_S256x4096_S256x1024_0_2048 c2 (by omega)⟩
    by_cases c1 : 1024 ≤ (y 1).val
    · exact ⟨_, List.mem_cons_of_mem _ (List.mem_cons_of_mem _ List.mem_cons_self), key 1024 inb_S256x4096_S256x1024_0_1024 c1 (by omega)⟩
    · exact ⟨_, List.mem_cons_of_mem _ (List.mem_cons_of_mem _ (List.mem_cons_of_mem _ List.mem_cons_self)), key 0 inb_S256x4096_S256x1024_0_0 (by omega) (by omega)⟩

end Cert.FfnLossVal
end
-- ==== Proof.FfnLossCase.lean ====
/- Hand-written, untrusted: THE LAST LAYER'S FORWARD CALL (norm, two products in four chunks, the loss head): what each grid point leaves in the windows and in the scratch. -/
module

public import proofs.«01_k».proof.Proof.Mat
public import proofs.«01_k».proof.Proof.FfnLossPay
public import proofs.«01_k».proof.Proof.Gen.FfnLossIdeal.Value
public import proofs.«01_k».proof.Proof.Gen.FfnLossRefIdeal.Run
public import proofs.«01_k».proof.Proof.Gen.FfnLossRefIdeal.Read
public import proofs.«01_k».proof.Defs

@[expose] public section

set_option maxRecDepth 16384

noncomputable section

namespace Cert.FfnLossVal

open Cert.FfnLossIdeal Cert.FfnLossIdeal.Gen Cert.FfnLossIdeal.Value Cert.Mat Idealize.ShloMosaic Idealize.ShloMosaic.TcCoe Idealize.SL.Sem
open Idealize.ShloMosaic.Tactic

set_option maxHeartbeats 1000000 in
theorem out_A3 (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x1024 .f32) (harg5 : arg5.IsWhole) (arg6 : Memref sig .tc .vmem S256x1024 .f32) (harg6 : arg6.IsWhole) (arg7 : Memref sig .tc .vmem S256x4096 .bf16) (harg7 : arg7.IsWhole) (arg8 : Memref sig .tc .vmem S1x1024 .f32) (harg8 : arg8.IsWhole) (arg9 : Memref sig .tc .vmem S4x1024x1024 .bf16) (harg9 : arg9.IsWhole) (arg10 : Memref sig .tc .vmem S4096x1024 .bf16) (harg10 : arg10.IsWhole)
    (hc0) (hc1) (x0 : X0) (x1 : X1) (x2 : X0) (w : W1) (v : W2) (r : Fin 256) (l : Fin 1024) :
    (out0_A_3 c i arg1 harg1 arg2 harg2 arg5 harg5 arg6 harg6 arg7 harg7 arg8 harg8 arg9 harg9 arg10 harg10 hc0 hc1 x0 x1 x2 w v (ix2 r l) : EReal) = ee x0 x1 w v x2 r l * Ideal.ofBits .f32 0x3A800000#32 := by
  unfold out0_A_3
  rw [View.read_writes_eq_canon _ _ _ (cover0_A_3 c _ _ _ _ _ _ _ _ _ _ _ _ _ _ _ _ _ _ _ _ _ _ _ _)]
  unfold kernelRun0_A
  dsimp only
  sl_unfold_words
  simp only [View.readAt_eq_ld, harg1.read_unread, harg2.read_unread, harg5.read_unread, harg6.read_unread, harg7.read_unread, harg8.read_unread, harg9.read_unread, harg10.read_unread, View.readCov_eq_canon']
  rw [View.canon_unit_zero off2]
  simp only [View.ld_unit_zero (S := S256x1024) off2, View.ld_unit_zero (S := S1x1024) off2, canon_whole]
  exact dfin x0 x1 w v x2 r l

set_option maxHeartbeats 1000000 in
theorem out_A4 (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x1024 .f32) (harg5 : arg5.IsWhole) (arg6 : Memref sig .tc .vmem S256x1024 .f32) (harg6 : arg6.IsWhole) (arg7 : Memref sig .tc .vmem S256x4096 .bf16) (harg7 : arg7.IsWhole) (arg8 : Memref sig .tc .vmem S1x1024 .f32) (harg8 : arg8.IsWhole) (arg9 : Memref sig .tc .vmem S4x1024x1024 .bf16) (harg9 : arg9.IsWhole) (arg10 : Memref sig .tc .vmem S4096x1024 .bf16) (harg10 : arg10.IsWhole)
    (hc0) (hc1) (x0 : X0) (x1 : X1) (x2 : X0) (w : W1) (v : W2) (y : S256x4096.Idx) :
    (out0_A_4 c i arg1 harg1 arg2 harg2 arg5 harg5 arg6 harg6 arg7 harg7 arg8 harg8 arg9 harg9 arg10 harg10 hc0 hc1 x0 x1 x2 w v y : EReal) = act x0 x1 w (y 0) (y 1) := by
  unfold out0_A_4
  rw [View.read_writes_eq_canon _ _ _ (cover0_A_4 c _ _ _ _ _ _ _ _ _ _ _ _ _ _ _ _ _ _ _ _ _ _ _ _)]
  unfold kernelRun0_A
  dsimp only
  sl_unfold_words
  simp only [View.readAt_eq_ld, harg1.read_unread, harg2.read_unread, harg5.read_unread, harg6.read_unread, harg7.read_unread, harg8.read_unread, harg9.read_unread, harg10.read_unread, View.readCov_eq_canon']
  simp only [View.ld_unit_zero (S := S256x1024) off2, View.ld_unit_zero (S := S1x1024) off2, canon_whole]
  exact afin x0 x1 w y

set_option maxHeartbeats 1000000 in
theorem out_A5 (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x1024 .f32) (harg5 : arg5.IsWhole) (arg6 : Memref sig .tc .vmem S256x1024 .f32) (harg6 : arg6.IsWhole) (arg7 : Memref sig .tc .vmem S256x4096 .bf16) (harg7 : arg7.IsWhole) (arg8 : Memref sig .tc .vmem S1x1024 .f32) (harg8 : arg8.IsWhole) (arg9 : Memref sig .tc .vmem S4x1024x1024 .bf16) (harg9 : arg9.IsWhole) (arg10 : Memref sig .tc .vmem S4096x1024 .bf16) (harg10 : arg10.IsWhole)
    (hc0) (hc1) (x0 : X0) (x1 : X1) (x2 : X0) (w : W1) (v : W2) (l : Fin 1024) :
    (out0_A_5 c i arg1 harg1 arg2 harg2 arg5 harg5 arg6 harg6 arg7 harg7 arg8 harg8 arg9 harg9 arg10 harg10 hc0 hc1 x0 x1 x2 w v (ix2 0 l) : EReal) = 0 + (∑ r : Fin 256, ee x0 x1 w v x2 r l * ee x0 x1 w v x2 r l) * Ideal.ofBits .f32 0x3A000000#32 := by
  unfold out0_A_5
  rw [View.read_writes_eq_canon _ _ _ (cover0_A_5 c _ _ _ _ _ _ _ _ _ _ _ _ _ _ _ _ _ _ _ _ _ _ _ _)]
  unfold kernelRun0_A
  dsimp only
  sl_unfold_words
  simp only [View.readAt_eq_ld, harg1.read_unread, harg2.read_unread, harg5.read_unread, harg6.read_unread, harg7.read_unread, harg8.read_unread, harg9.read_unread, harg10.read_unread, View.readCov_eq_canon']
  rw [View.canon_cons_unit_zero off2]
  simp only [View.ld_unit_zero (S := S256x1024) off2, View.ld_unit_zero (S := S1x1024) off2, canon_whole, View.canon_unit_zero (S := S1x1024) off2]
  exact (lfin x0 x1 w v x2 _ l).trans (congrArg (fun z : EReal => z + _) (pay3_zero l))

set_option maxHeartbeats 1000000 in
theorem out_B3 (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x1024 .f32) (harg5 : arg5.IsWhole) (arg6 : Memref sig .tc .vmem S256x1024 .f32) (harg6 : arg6.IsWhole) (arg7 : Memref sig .tc .vmem S256x4096 .bf16) (harg7 : arg7.IsWhole) (arg8 : Memref sig .tc .vmem S1x1024 .f32) (harg8 : arg8.IsWhole) (arg9 : Memref sig .tc .vmem S4x1024x1024 .bf16) (harg9 : arg9.IsWhole) (arg10 : Memref sig .tc .vmem S4096x1024 .bf16) (harg10 : arg10.IsWhole)
    (hc0) (hc1) (x0 : X0) (x1 : X1) (x2 : X0) (xo : X1) (w : W1) (v : W2) (fh0) (fh1) (r : Fin 256) (l : Fin 1024) :
    (out0_B_3 c i arg1 harg1 arg2 harg2 arg5 harg5 arg6 harg6 arg7 harg7 arg8 harg8 arg9 harg9 arg10 harg10 hc0 hc1 x0 x1 x2 xo w v fh0 fh1 (ix2 r l) : EReal) = ee x0 x1 w v x2 r l * Ideal.ofBits .f32 0x3A800000#32 := by
  unfold out0_B_3
  rw [View.read_writes_eq_canon _ _ _ (cover0_B_3 c _ _ _ _ _ _ _ _ _ _ _ _ _ _ _ _ _ _ _ _ _ _ _ _ _ _ _)]
  unfold kernelRun0_B
  dsimp only
  sl_unfold_words
  simp only [View.readAt_eq_ld, harg1.read_unread, harg2.read_unread, harg5.read_unread, harg6.read_unread, harg7.read_unread, harg8.read_unread, harg9.read_unread, harg10.read_unread, View.readCov_eq_canon']
  rw [View.canon_unit_zero off2]
  simp only [View.ld_unit_zero (S := S256x1024) off2, View.ld_unit_zero (S := S1x1024) off2]
  exact dfin x0 x1 w v x2 r l

set_option maxHeartbeats 1000000 in
theorem out_B4 (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x1024 .f32) (harg5 : arg5.IsWhole) (arg6 : Memref sig .tc .vmem S256x1024 .f32) (harg6 : arg6.IsWhole) (arg7 : Memref sig .tc .vmem S256x4096 .bf16) (harg7 : arg7.IsWhole) (arg8 : Memref sig .tc .vmem S1x1024 .f32) (harg8 : arg8.IsWhole) (arg9 : Memref sig .tc .vmem S4x1024x1024 .bf16) (harg9 : arg9.IsWhole) (arg10 : Memref sig .tc .vmem S4096x1024 .bf16) (harg10 : arg10.IsWhole)
    (hc0) (hc1) (x0 : X0) (x1 : X1) (x2 : X0) (xo : X1) (w : W1) (v : W2) (fh0) (fh1) (y : S256x4096.Idx) :
    (out0_B_4 c i arg1 harg1 arg2 harg2 arg5 harg5 arg6 harg6 arg7 harg7 arg8 harg8 arg9 harg9 arg10 harg10 hc0 hc1 x0 x1 x2 xo w v fh0 fh1 y : EReal) = act x0 x1 w (y 0) (y 1) := by
  unfold out0_B_4
  rw [View.read_writes_eq_canon _ _ _ (cover0_B_4 c _ _ _ _ _ _ _ _ _ _ _ _ _ _ _ _ _ _ _ _ _ _ _ _ _ _ _)]
  unfold kernelRun0_B
  dsimp only
  sl_unfold_words
  simp only [View.readAt_eq_ld, harg1.read_unread, harg2.read_unread, harg5.read_unread, harg6.read_unread, harg7.read_unread, harg8.read_unread, harg9.read_unread, harg10.read_unread, View.readCov_eq_canon']
  simp only [View.ld_unit_zero (S := S256x1024) off2, View.ld_unit_zero (S := S1x1024) off2]
  exact afin x0 x1 w y

set_option maxHeartbeats 1000000 in
theorem out_B5 (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x1024 .f32) (harg5 : arg5.IsWhole) (arg6 : Memref sig .tc .vmem S256x1024 .f32) (harg6 : arg6.IsWhole) (arg7 : Memref sig .tc .vmem S256x4096 .bf16) (harg7 : arg7.IsWhole) (arg8 : Memref sig .tc .vmem S1x1024 .f32) (harg8 : arg8.IsWhole) (arg9 : Memref sig .tc .vmem S4x1024x1024 .bf16) (harg9 : arg9.IsWhole) (arg10 : Memref sig .tc .vmem S4096x1024 .bf16) (harg10 : arg10.IsWhole)
    (hc0) (hc1) (x0 : X0) (x1 : X1) (x2 : X0) (xo : X1) (w : W1) (v : W2) (fh0) (fh1) (l : Fin 1024) :
    (out0_B_5 c i arg1 harg1 arg2 harg2 arg5 harg5 arg6 harg6 arg7 harg7 arg8 harg8 arg9 harg9 arg10 harg10 hc0 hc1 x0 x1 x2 xo w v fh0 fh1 (ix2 0 l) : EReal) = xo (ix2 0 l) + (∑ r : Fin 256, ee x0 x1 w v x2 r l * ee x0 x1 w v x2 r l) * Ideal.ofBits .f32 0x3A000000#32 := by
  unfold out0_B_5
  rw [View.read_writes_eq_canon _ _ _ (cover0_B_5 c _ _ _ _ _ _ _ _ _ _ _ _ _ _ _ _ _ _ _ _ _ _ _ _ _ _ _)]
  unfold kernelRun0_B
  dsimp only
  sl_unfold_words
  simp only [View.readAt_eq_ld, harg1.read_unread, harg2.read_unread, harg5.read_unread, harg6.read_unread, harg7.read_unread, harg8.read_unread, harg9.read_unread, harg10.read_unread, View.readCov_eq_canon']
  rw [View.canon_cons_unit_zero off2]
  simp only [View.ld_unit_zero (S := S256x1024) off2, View.ld_unit_zero (S := S1x1024) off2]
  exact lfin x0 x1 w v x2 xo l

set_option maxHeartbeats 1000000 in
theorem sout_A0 (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x1024 .f32) (harg5 : arg5.IsWhole) (arg6 : Memref sig .tc .vmem S256x1024 .f32) (harg6 : arg6.IsWhole) (arg7 : Memref sig .tc .vmem S256x4096 .bf16) (harg7 : arg7.IsWhole) (arg8 : Memref sig .tc .vmem S1x1024 .f32) (harg8 : arg8.IsWhole) (arg9 : Memref sig .tc .vmem S4x1024x1024 .bf16) (harg9 : arg9.IsWhole) (arg10 : Memref sig .tc .vmem S4096x1024 .bf16) (harg10 : arg10.IsWhole)
    (hc0) (hc1) (x0 : X0) (x1 : X1) (x2 : X0) (w : W1) (v : W2) :
    sout0_A_0 c i arg1 harg1 arg2 harg2 arg5 harg5 arg6 harg6 arg7 harg7 arg8 harg8 arg9 harg9 arg10 harg10 hc0 hc1 x0 x1 x2 w v = w := by
  unfold sout0_A_0
  rw [View.read_writes_eq_canon _ _ _ (scover0_A_0 c _ _ _ _ _ _ _ _ _ _ _ _ _ _ _ _ _ _ _ _ _ _ _ _)]
  unfold kernelRun0_A
  dsimp only
  sl_unfold_words
  rw [canon_whole]
  rfl

set_option maxHeartbeats 1000000 in
theorem sout_A1 (c : Dev nD) (i : grid0.Coords) (arg1 : Memref sig .tc .vmem S256x1024 .f32) (harg1 : arg1.IsWhole) (arg2 : Memref sig .tc .vmem S1x1024 .f32) (harg2 : arg2.IsWhole) (arg5 : Memref sig .tc .vmem S256x1024 .f32) (harg5 : arg5.IsWhole) (arg6 : Memref sig .tc .vmem S256x1024 .f32) (harg6 : arg6.IsWhole) (arg7 : Memref sig .tc .vmem S256x4096 .bf16) (harg7 : arg7.IsWhole) (arg8 : Memref sig .tc .vmem S1x1024 .f32) (harg8 : arg8.IsWhole) (arg9 : Memref sig .tc .vmem S4x1024x1024 .bf16) (harg9 : arg9.IsWhole) (arg10 : Memref sig .tc .vmem S4096x1024 .bf16) (harg10 : arg10.IsWhole)
    (hc0) (hc1) (x0 : X0) (x1 : X1) (x2 : X0) (w : W1) (v : W2) :
    sout0_A_1 c i arg1 harg1 arg2 harg2 arg5 harg5 arg6 harg6 arg7 harg7 arg8 harg8 arg9 harg9 arg10 harg10 hc0 hc1 x0 x1 x2 w v = v := by
  unfold sout0_A_1
  rw [View.read_writes_eq_canon _ _ _ (scover0_A_1 c _ _ _ _ _ _ _ _ _ _ _ _ _ _ _ _ _ _ _ _ _ _ _ _)]
  unfold kernelRun0_A
  dsimp only
  sl_unfold_words
  rw [canon_whole]
  rfl

end Cert.FfnLossVal

end
-- ==== Proof.FfnLossVal.lean ====
/- Hand-written, untrusted: THE LAST LAYER'S FORWARD CALL (norm, two products in four chunks, the loss head) writes,
   block by block, the rows of the reference's gradient and rectified product, and sums over the blocks the reference's loss of each feature. -/
module

public import proofs.«01_k».proof.Proof.Mat
public import proofs.«01_k».proof.Proof.FfnLossCase
public import proofs.«01_k».proof.Proof.NormBwd
public import proofs.«01_k».proof.Proof.Gen.FfnLossIdeal.Value
public import proofs.«01_k».proof.Proof.Gen.FfnLossRefIdeal.Run
public import proofs.«01_k».proof.Proof.Gen.FfnLossRefIdeal.Read
public import proofs.«01_k».proof.Defs

@[expose] public section

set_option maxRecDepth 16384

noncomputable section

namespace Cert.FfnLossVal

open Cert.FfnLossIdeal Cert.FfnLossIdeal.Gen Cert.FfnLossIdeal.Value Cert.Mat Idealize.ShloMosaic Idealize.ShloMosaic.TcCoe Idealize.SL.Sem
open Idealize.ShloMosaic.Tactic

variable (m : (ℓ : Loc nD τ sig) → Buf (Elt Ideal) ℓ) (c : Dev nD)

abbrev A0 : Vec Ideal S4096x1024 .f32 := m ((c : Thread nD τ).loc main_arg0)
abbrev A1 : Vec Ideal S1024 .f32 := m ((c : Thread nD τ).loc main_arg1)
abbrev A2 : Vec Ideal S1024x4096 .f32 := m ((c : Thread nD τ).loc main_arg2)
abbrev A3 : Vec Ideal S4096x1024 .f32 := m ((c : Thread nD τ).loc main_arg3)
abbrev A4 : Vec Ideal S4096x1024 .f32 := m ((c : Thread nD τ).loc main_arg4)

theorem ltN (t : Fin cfg0.N) : t.val < 16 := lt_of_lt_of_eq t.isLt (show cfg0.N = 16 from N_0)

/-- Row `r` of block `t`. -/
abbrev row (t : Fin cfg0.N) (r : Fin 256) : Fin 4096 := ⟨256 * t.val + r.val, by have := ltN t; omega⟩

theorem V_g (l : Fin 1024) : V m c main_v3 (ix2 (0 : Fin 1) l) = A1 m c (ix1 l) := by
  have h : V m c main_v3 = (shapeCast S1x1024 (A1 m c) shapeCasts_S1024_S1x1024 : Vec Ideal S1x1024 .f32) := by
    show StableHlo.after hostOps0 _ (Proc.devRef .tc main_v3) = _
    simp only [hostOps0]
    after_results
    rfl
  rw [h]
  simp only [pointwise]

theorem V_w2 : V m c main_v4 = (truncf (F := Ideal) .bf16 (A3 m c) bitsLt_bf16_f32 : Vec Ideal S4096x1024 .bf16) := by
  show StableHlo.after hostOps0 _ (Proc.devRef .tc main_v4) = _
  simp only [hostOps0]
  after_results

theorem V_w1 (q : Fin 4) (k : Fin 1024) (j : Fin 1024) : (V m c main_v2 (ix3 q k j) : EReal) = A2 m c (ix2 k (⟨1024 * q.val + j.val, by omega⟩ : Fin 4096)) := by
  have h : V m c main_v2 = (transpose S4x1024x1024 [1, 0, 2] (shapeCast S1024x4x1024 (truncf (F := Ideal) .bf16 (A2 m c) bitsLt_bf16_f32 : Vec Ideal S1024x4096 .bf16) shapeCasts_S1024x4096_S1024x4x1024 : Vec Ideal S1024x4x1024 .bf16) transposes_S1024x4x1024_S4x1024x1024_1_0_2 : Vec Ideal S4x1024x1024 .bf16) := by
    show StableHlo.after hostOps0 _ (Proc.devRef .tc main_v2) = _
    simp only [hostOps0]
    after_results
    rfl
  rw [h]
  simp only [pointwise]
  refine congrArg (A2 m c) (funext fun a => Fin.ext ?_)
  match a with
  | ⟨0, _⟩ => rfl
  | ⟨1, _⟩ => show q.val * 1024 + j.val = 1024 * q.val + j.val; omega

theorem at0 : ∀ t : Fin cfg0.N, win0_0.index t (0 : Fin 2) = t.val ∧ win0_0.index t (1 : Fin 2) = 0 := (by decide +kernel : ∀ t : Fin grid0.N, _)
theorem b0 (t : Fin cfg0.N) (r : Fin 256) (l : Fin 1024) : (iblk m c 0 t : Vec Ideal S256x1024 .f32) (ix2 r l) = A0 m c (ix2 (row t r) l) := by
  obtain ⟨e0, e1⟩ := at0 t
  show V m c main_arg0 (((cfg0.win 0).blk t).view.emb (ix2 r l)) = _
  rw [V_main_arg0]
  refine congrArg (A0 m c) (funext fun a => Fin.ext ?_)
  match a with
  | ⟨0, _⟩ => show win0_0.index t (0 : Fin 2) * 256 + 1 * r.val = 256 * t.val + r.val; omega
  | ⟨1, _⟩ => show win0_0.index t (1 : Fin 2) * 1024 + 1 * l.val = l.val; omega

theorem at1 : ∀ t : Fin cfg0.N, win0_1.index t (0 : Fin 2) = 0 ∧ win0_1.index t (1 : Fin 2) = 0 := (by decide +kernel : ∀ t : Fin grid0.N, _)
theorem b1 (t : Fin cfg0.N) (r : Fin 1) (l : Fin 1024) : (iblk m c 1 t : Vec Ideal S1x1024 .f32) (ix2 r l) = A1 m c (ix1 l) := by
  obtain ⟨e0, e1⟩ := at1 t
  show V m c main_v3 (((cfg0.win 1).blk t).view.emb (ix2 r l)) = _
  have he : ((cfg0.win 1).blk t).view.emb (ix2 r l) = (ix2 r l : S1x1024.Idx) := funext fun a => Fin.ext (by
    match a with
    | ⟨0, _⟩ => show win0_1.index t (0 : Fin 2) * 1 + 1 * r.val = r.val; omega
    | ⟨1, _⟩ => show win0_1.index t (1 : Fin 2) * 1024 + 1 * l.val = l.val; omega)
  rw [he, Subsingleton.elim r 0]
  exact V_g m c l

theorem refnorm_at (x0 : Vec Ideal S4096x1024 .f32) (x1 : Vec Ideal S1024 .f32) (i : Fin 4096) (l : Fin 1024) :
    (Cert.FfnLossRefIdeal.Read.val_main_v12 (F := Ideal) x0 x1 (ix2 i l) : EReal) = x0 (ix2 i l) * rs (fun k => x0 (ix2 i k)) * x1 (ix1 l) := by
  have e : ∀ k : Fin 1024, Cert.FfnLossRefIdeal.Read.idx_main_v1 (Cert.FfnLossRefIdeal.Read.idx_main_v2 (Cert.FfnLossRefIdeal.Read.idx_main_v8 (ix2 i l))) k = (ix2 i k : S4096x1024.Idx) :=
    fun k => funext fun a => Fin.ext (by
      match a with
      | ⟨0, _⟩ => rfl
      | ⟨1, _⟩ => rfl)
  have e2 : Cert.FfnLossRefIdeal.Read.idx_main_v10 (Cert.FfnLossRefIdeal.Read.idx_main_v11 (ix2 i l)) = (ix1 l : S1024.Idx) :=
    funext fun a => Fin.ext (by
      match a with
      | ⟨0, _⟩ => rfl)
  have z : (FloatOps.ofBits (F := Ideal) .f32 0x00000000#32 : EReal) = 0 := zero_word
  simp only [Cert.FfnLossRefIdeal.Read.val_main_v12_apply, Cert.FfnLossRefIdeal.Read.val_main_v11_apply, Cert.FfnLossRefIdeal.Read.val_main_v10_apply, Cert.FfnLossRefIdeal.Read.val_main_v9_apply, Cert.FfnLossRefIdeal.Read.val_main_v8_apply, Cert.FfnLossRefIdeal.Read.val_main_v7_apply, Cert.FfnLossRefIdeal.Read.val_main_v6_apply, Cert.FfnLossRefIdeal.Read.val_main_v5_apply, Cert.FfnLossRefIdeal.Read.val_main_v4_apply, Cert.FfnLossRefIdeal.Read.val_main_v3_apply, Cert.FfnLossRefIdeal.Read.val_main_v2_apply, Cert.FfnLossRefIdeal.Read.val_main_v1_apply, Cert.FfnLossRefIdeal.Read.val_main_v0_apply, Cert.FfnLossRefIdeal.Read.val_main_cst_apply, Cert.FfnLossRefIdeal.Read.val_main_cst_0_apply, Cert.FfnLossRefIdeal.Read.val_main_cst_1_apply, e, e2]
  rw [z, zero_add]
  rfl

theorem refnorm2_at (x0 : Vec Ideal S4096x1024 .f32) (x1 : Vec Ideal S1024 .f32) (i : Fin 4096) (l : Fin 1024) :
    (Cert.FfnLossRefIdeal.Read.val_main_v53 (F := Ideal) x0 x1 (ix2 i l) : EReal) = x0 (ix2 i l) * rs (fun k => x0 (ix2 i k)) * x1 (ix1 l) := by
  have e : ∀ k : Fin 1024, Cert.FfnLossRefIdeal.Read.idx_main_v42 (Cert.FfnLossRefIdeal.Read.idx_main_v43 (Cert.FfnLossRefIdeal.Read.idx_main_v49 (ix2 i l))) k = (ix2 i k : S4096x1024.Idx) :=
    fun k => funext fun a => Fin.ext (by
      match a with
      | ⟨0, _⟩ => rfl
      | ⟨1, _⟩ => rfl)
  have e2 : Cert.FfnLossRefIdeal.Read.idx_main_v51 (Cert.FfnLossRefIdeal.Read.idx_main_v52 (ix2 i l)) = (ix1 l : S1024.Idx) :=
    funext fun a => Fin.ext (by
      match a with
      | ⟨0, _⟩ => rfl)
  have z : (FloatOps.ofBits (F := Ideal) .f32 0x00000000#32 : EReal) = 0 := zero_word
  simp only [Cert.FfnLossRefIdeal.Read.val_main_v53_apply, Cert.FfnLossRefIdeal.Read.val_main_v52_apply, Cert.FfnLossRefIdeal.Read.val_main_v51_apply, Cert.FfnLossRefIdeal.Read.val_main_v50_apply, Cert.FfnLossRefIdeal.Read.val_main_v49_apply, Cert.FfnLossRefIdeal.Read.val_main_v48_apply, Cert.FfnLossRefIdeal.Read.val_main_v47_apply, Cert.FfnLossRefIdeal.Read.val_main_v46_apply, Cert.FfnLossRefIdeal.Read.val_main_v45_apply, Cert.FfnLossRefIdeal.Read.val_main_v44_apply, Cert.FfnLossRefIdeal.Read.val_main_v43_apply, Cert.FfnLossRefIdeal.Read.val_main_v42_apply, Cert.FfnLossRefIdeal.Read.val_main_v41_apply, Cert.FfnLossRefIdeal.Read.val_main_cst_13_apply, Cert.FfnLossRefIdeal.Read.val_main_cst_14_apply, Cert.FfnLossRefIdeal.Read.val_main_cst_15_apply, e, e2]
  rw [z, zero_add]
  rfl

theorem row_at (t : Fin cfg0.N) (r : Fin 256) (l : Fin 1024) :
    (k0_pay5 (F := Ideal) (iblk m c 0 t) (iblk m c 1 t) (ix2 r l) : EReal) = Cert.FfnLossRefIdeal.Read.val_main_v12 (F := Ideal) (A0 m c) (A1 m c) (ix2 (row t r) l) := by
  have hb : (fun k => (iblk m c 0 t : Vec Ideal S256x1024 .f32) (ix2 r k)) = fun k => A0 m c (ix2 (row t r) k) := funext fun k => b0 m c t r k
  refine (norm_at _ _ r l).trans ?_
  rw [b0, b1, hb]
  exact (refnorm_at _ _ (row t r) l).symm

theorem zero_at (i : S4096x4096.Idx) : (Cert.FfnLossRefIdeal.Read.val_main_call0_v0 (F := Ideal) i : EReal) = 0 := by
  rw [Cert.FfnLossRefIdeal.Read.val_main_call0_v0_apply, Cert.FfnLossRefIdeal.Read.val_main_call0_cst_apply]
  exact zero_word
theorem zero_at' (i : S4096x4096.Idx) : (Cert.FfnLossRefIdeal.Read.val_main_call1_v0 (F := Ideal) i : EReal) = 0 := by
  rw [Cert.FfnLossRefIdeal.Read.val_main_call1_v0_apply, Cert.FfnLossRefIdeal.Read.val_main_call1_cst_apply]
  exact zero_word

/-- The reference's rectified product, at an entry. -/
theorem relu_at (x0 : Vec Ideal S4096x1024 .f32) (x1 : Vec Ideal S1024 .f32) (x2 : Vec Ideal S1024x4096 .f32) (i : Fin 4096) (q : Fin 4096) :
    (Cert.FfnLossRefIdeal.Read.val_main_v14 (F := Ideal) x0 x1 x2 (ix2 i q) : EReal) = max (∑ k : Fin 1024, Cert.FfnLossRefIdeal.Read.val_main_v12 (F := Ideal) x0 x1 (ix2 i k) * x2 (ix2 k q)) 0 :=
  congr (congrArg max (hmm (M := 4096) (K := 1024) (N := 4096) none _ _ i q)) (zero_at _)
theorem relu2_at (x0 : Vec Ideal S4096x1024 .f32) (x1 : Vec Ideal S1024 .f32) (x2 : Vec Ideal S1024x4096 .f32) (i : Fin 4096) (q : Fin 4096) :
    (Cert.FfnLossRefIdeal.Read.val_main_v56 (F := Ideal) x0 x1 x2 (ix2 i q) : EReal) = max (∑ k : Fin 1024, Cert.FfnLossRefIdeal.Read.val_main_v12 (F := Ideal) x0 x1 (ix2 i k) * x2 (ix2 k q)) 0 := by
  refine congr (congrArg max ((hmm (M := 4096) (K := 1024) (N := 4096) none _ _ i q).trans (Finset.sum_congr rfl fun k _ => ?_))) (zero_at' _)
  exact congrArg (fun z : EReal => z * (x2 (ix2 k q) : EReal)) ((refnorm2_at x0 x1 i k).trans (refnorm_at x0 x1 i k).symm)

theorem ref_at (x0 : Vec Ideal S4096x1024 .f32) (x1 : Vec Ideal S1024 .f32) (x2 : Vec Ideal S1024x4096 .f32) (x3 : Vec Ideal S4096x1024 .f32) (i : Fin 4096) (l : Fin 1024) :
    (Cert.FfnLossRefIdeal.Read.val_main_v17 (F := Ideal) x0 x1 x2 x3 (ix2 i l) : EReal) = x0 (ix2 i l) + ∑ q : Fin 4096, Cert.FfnLossRefIdeal.Read.val_main_v14 (F := Ideal) x0 x1 x2 (ix2 i q) * Cert.FfnLossRefIdeal.Read.val_main_v14 (F := Ideal) x0 x1 x2 (ix2 i q) * x3 (ix2 q l) :=
  congrArg (fun z : EReal => (x0 (ix2 i l) : EReal) + z) (hmm (M := 4096) (K := 4096) (N := 1024) none (Cert.FfnLossRefIdeal.Read.val_main_v15 (F := Ideal) x0 x1 x2) x3 i l)

theorem act_at (t : Fin cfg0.N) (r : Fin 256) (q : Fin 4096) :
    act (iblk m c 0 t) (iblk m c 1 t) (V m c main_v2) r q = Cert.FfnLossRefIdeal.Read.val_main_v14 (F := Ideal) (A0 m c) (A1 m c) (A2 m c) (ix2 (row t r) q) := by
  refine Eq.trans ?_ (relu_at _ _ _ (row t r) q).symm
  unfold act
  refine congrArg (max · (0 : EReal)) (Finset.sum_congr rfl fun k _ => congr (congrArg HMul.hMul (row_at m c t r k)) ((V_w1 m c _ k _).trans ?_))
  refine congrArg (fun z : Fin 4096 => (A2 m c (ix2 k z) : EReal)) (Fin.ext ?_)
  show 1024 * (q.val / 1024) + q.val % 1024 = q.val
  omega

theorem at2 : ∀ t : Fin cfg0.N, win0_2.index t (0 : Fin 2) = t.val ∧ win0_2.index t (1 : Fin 2) = 0 := (by decide +kernel : ∀ t : Fin grid0.N, _)
theorem b2 (t : Fin cfg0.N) (r : Fin 256) (l : Fin 1024) : (iblk m c 2 t : Vec Ideal S256x1024 .f32) (ix2 r l) = A4 m c (ix2 (row t r) l) := by
  obtain ⟨e0, e1⟩ := at2 t
  show V m c main_arg4 (((cfg0.win 2).blk t).view.emb (ix2 r l)) = _
  rw [V_main_arg4]
  refine congrArg (A4 m c) (funext fun a => Fin.ext ?_)
  match a with
  | ⟨0, _⟩ => show win0_2.index t (0 : Fin 2) * 256 + 1 * r.val = 256 * t.val + r.val; omega
  | ⟨1, _⟩ => show win0_2.index t (1 : Fin 2) * 1024 + 1 * l.val = l.val; omega

/-! ### The loss head's constants -/

theorem word_inv1024 : Ideal.ofBits .f32 0x3A800000#32 = ((1 / 1024 : ℝ) : EReal) := by
  simp [Ideal.ofBits, Ideal.ieee, -EReal.coe_mul]; norm_num
theorem word_inv2048 : Ideal.ofBits .f32 0x3A000000#32 = ((1 / 2048 : ℝ) : EReal) := by
  simp [Ideal.ofBits, Ideal.ieee, -EReal.coe_mul]; norm_num
theorem word_two' : Ideal.ofBits .f32 0x40000000#32 = ((2 : ℝ) : EReal) := by
  simp [Ideal.ofBits, Ideal.ieee, -EReal.coe_mul]; norm_num

theorem div_1024 (x : EReal) : Ideal.div x (Ideal.ofBits .f32 0x44800000#32) = x * ((1 / 1024 : ℝ) : EReal) := by
  rw [word_1024]
  unfold Ideal.div
  rw [if_neg (by norm_num), ← EReal.coe_inv, one_div]

/-- The gradient of the squared difference: the reference's constants are the kernel's. -/
theorem grad_word (e : EReal) : Ideal.div (Ideal.ofBits .f32 0x3F000000#32 * Ideal.ofBits .f32 0x3F800000#32) (Ideal.ofBits .f32 0x44800000#32) * (Ideal.ofBits .f32 0x40000000#32 * e)
    = e * Ideal.ofBits .f32 0x3A800000#32 := by
  rw [div_1024, word_two', word_inv1024, Cert.SgBwd.word_half, Cert.SgBwd.word_one, ← mul_assoc, ← EReal.coe_mul, ← EReal.coe_mul, ← EReal.coe_mul, mul_comm]
  norm_num

/-- A nonnegative real factor goes into a sum of extended reals. -/
theorem sum_mul_real {ι : Type*} (s : Finset ι) (f : ι → EReal) (k : ℝ) (hk : 0 ≤ k) : (∑ i ∈ s, f i) * (k : EReal) = ∑ i ∈ s, f i * (k : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hk) (EReal.coe_ne_top k) _ _

/-- The loss of a feature: the reference's constants are the kernel's. -/
theorem loss_word (e : EReal) : Ideal.div (Ideal.ofBits .f32 0x3F000000#32 * e) (Ideal.ofBits .f32 0x44800000#32) = e * Ideal.ofBits .f32 0x3A000000#32 := by
  rw [div_1024, word_inv2048, Cert.SgBwd.word_half, mul_comm (((1 / 2 : ℝ)) : EReal) e, mul_assoc, ← EReal.coe_mul]
  norm_num

/-- The reference's difference to the target. -/
abbrev E (i : Fin 4096) (l : Fin 1024) : EReal := Cert.FfnLossRefIdeal.Read.val_main_v18 (F := Ideal) (A0 m c) (A1 m c) (A2 m c) (A3 m c) (A4 m c) (ix2 i l)

theorem v40_at (i : Fin 4096) (l : Fin 1024) : (Cert.FfnLossRefIdeal.Read.val_main_v40 (F := Ideal) (A0 m c) (A1 m c) (A2 m c) (A3 m c) (A4 m c) (ix2 i l) : EReal) = E m c i l * Ideal.ofBits .f32 0x3A800000#32 := by
  refine Eq.trans ?_ (grad_word (E m c i l))
  simp only [Cert.FfnLossRefIdeal.Read.val_main_v40_apply, Cert.FfnLossRefIdeal.Read.val_main_v39_apply, Cert.FfnLossRefIdeal.Read.val_main_v38_apply, Cert.FfnLossRefIdeal.Read.val_main_v37_apply, Cert.FfnLossRefIdeal.Read.val_main_v36_apply, Cert.FfnLossRefIdeal.Read.val_main_v35_apply, Cert.FfnLossRefIdeal.Read.val_main_v29_apply, Cert.FfnLossRefIdeal.Read.val_main_v28_apply, Cert.FfnLossRefIdeal.Read.val_main_cst_5_apply, Cert.FfnLossRefIdeal.Read.val_main_cst_10_apply, Cert.FfnLossRefIdeal.Read.val_main_cst_11_apply, Cert.FfnLossRefIdeal.Read.val_main_cst_12_apply]
  rfl

theorem v25_at (l : Fin 1024) : (Cert.FfnLossRefIdeal.Read.val_main_v25 (F := Ideal) (A0 m c) (A1 m c) (A2 m c) (A3 m c) (A4 m c) (ix2 0 l) : EReal) = (∑ i : Fin 4096, E m c i l * E m c i l) * Ideal.ofBits .f32 0x3A000000#32 := by
  have e : ∀ k : Fin 4096, Cert.FfnLossRefIdeal.Read.idx_main_v20 (Cert.FfnLossRefIdeal.Read.idx_main_v21 (ix2 0 l)) k = (ix2 k l : S4096x1024.Idx) :=
    fun k => funext fun a => Fin.ext (by
      match a with
      | ⟨0, _⟩ => rfl
      | ⟨1, _⟩ => rfl)
  have z : (FloatOps.ofBits (F := Ideal) .f32 0x00000000#32 : EReal) = 0 := zero_word
  refine Eq.trans ?_ (loss_word _)
  simp only [Cert.FfnLossRefIdeal.Read.val_main_v25_apply, Cert.FfnLossRefIdeal.Read.val_main_v24_apply, Cert.FfnLossRefIdeal.Read.val_main_v23_apply, Cert.FfnLossRefIdeal.Read.val_main_v22_apply, Cert.FfnLossRefIdeal.Read.val_main_v21_apply, Cert.FfnLossRefIdeal.Read.val_main_v20_apply, Cert.FfnLossRefIdeal.Read.val_main_v19_apply, Cert.FfnLossRefIdeal.Read.val_main_cst_2_apply, Cert.FfnLossRefIdeal.Read.val_main_cst_3_apply, Cert.FfnLossRefIdeal.Read.val_main_cst_4_apply, e]
  rw [z, zero_add]
  rfl

theorem e_at (t : Fin cfg0.N) (r : Fin 256) (l : Fin 1024) :
    ee (iblk m c 0 t) (iblk m c 1 t) (V m c main_v2) (V m c main_v4) (iblk m c 2 t) r l = E m c (row t r) l := by
  have h : (Cert.FfnLossRefIdeal.Read.val_main_v18 (F := Ideal) (A0 m c) (A1 m c) (A2 m c) (A3 m c) (A4 m c) (ix2 (row t r) l) : EReal) = Cert.FfnLossRefIdeal.Read.val_main_v17 (F := Ideal) (A0 m c) (A1 m c) (A2 m c) (A3 m c) (ix2 (row t r) l) - A4 m c (ix2 (row t r) l) := rfl
  refine Eq.trans ?_ h.symm
  unfold ee
  rw [b2]
  refine congrArg (fun z : EReal => z - (A4 m c (ix2 (row t r) l) : EReal)) (Eq.trans ?_ (ref_at _ _ _ _ (row t r) l).symm)
  unfold yy
  rw [b0]
  refine congrArg (fun z : EReal => (A0 m c (ix2 (row t r) l) : EReal) + z) (Finset.sum_congr rfl fun q _ => ?_)
  rw [act_at]
  exact congrArg (fun z : EReal => (Cert.FfnLossRefIdeal.Read.val_main_v14 (F := Ideal) (A0 m c) (A1 m c) (A2 m c) (ix2 (row t r) q) : EReal) * Cert.FfnLossRefIdeal.Read.val_main_v14 (F := Ideal) (A0 m c) (A1 m c) (A2 m c) (ix2 (row t r) q) * z) (congrFun (V_w2 m c) (ix2 q l))

/-- What a point leaves in the two scratch buffers is the two weights. -/
theorem scr (t : Fin cfg0.N) : (outsAt0 m c t.val t.isLt).2.2.2.1 = V m c main_v2 ∧ (outsAt0 m c t.val t.isLt).2.2.2.2 = V m c main_v4 := by
  obtain ⟨n, hn⟩ := t
  induction n with
  | zero =>
    rw [outsAt0_A m c ⟨0, hn⟩ rfl rfl]
    dsimp only
    rw [sout_A0, sout_A1]
    exact ⟨rfl, rfl⟩
  | succ n ih =>
    have h16 : n + 1 < 16 := lt_of_lt_of_eq hn (show cfg0.N = 16 from N_0)
    have h : ¬ (n + 1) % 16 = 0 := by omega
    rw [outsAt0_B m c ⟨n + 1, hn⟩ h h]
    dsimp only
    unfold sout0_B_0 sout0_B_1
    exact ih (Nat.lt_of_succ_lt hn)

theorem dy_at (t : Fin cfg0.N) (r : Fin 256) (l : Fin 1024) :
    ((outsAt0 m c t.val t.isLt).1 (ix2 r l) : EReal) = ee (iblk m c 0 t) (iblk m c 1 t) (V m c main_v2) (V m c main_v4) (iblk m c 2 t) r l * Ideal.ofBits .f32 0x3A800000#32 := by
  by_cases h0 : t.val % 16 = 0
  · rw [outsAt0_A m c t h0 h0]
    dsimp only
    rw [out_A3]
  · rw [outsAt0_B m c t h0 h0]
    have hp := scr m c ⟨t.val - 1, Nat.lt_of_le_of_lt (Nat.sub_le _ _) t.isLt⟩
    rw [hp.1, hp.2]
    dsimp only
    rw [out_B3]

theorem a_at (t : Fin cfg0.N) (r : Fin 256) (q : Fin 4096) :
    ((outsAt0 m c t.val t.isLt).2.1 (ix2 r q) : EReal) = act (iblk m c 0 t) (iblk m c 1 t) (V m c main_v2) r q := by
  by_cases h0 : t.val % 16 = 0
  · rw [outsAt0_A m c t h0 h0]
    dsimp only
    rw [out_A4]
    rfl
  · rw [outsAt0_B m c t h0 h0]
    have hp := scr m c ⟨t.val - 1, Nat.lt_of_le_of_lt (Nat.sub_le _ _) t.isLt⟩
    rw [hp.1]
    dsimp only
    rw [out_B4]
    rfl

/-- The losses after point `n`: the rows of the blocks up to it. -/
theorem l_at (l : Fin 1024) : ∀ (n : ℕ) (hn : n < cfg0.N), ((outsAt0 m c n hn).2.2.1 (ix2 0 l) : EReal)
    = ∑ t : Fin (n + 1), (∑ r : Fin 256, E m c (row ⟨t.val, lt_of_lt_of_le t.isLt hn⟩ r) l * E m c (row ⟨t.val, lt_of_lt_of_le t.isLt hn⟩ r) l) * Ideal.ofBits .f32 0x3A000000#32 := by
  have step : ∀ t : Fin cfg0.N, (∑ r : Fin 256, ee (iblk m c 0 t) (iblk m c 1 t) (V m c main_v2) (V m c main_v4) (iblk m c 2 t) r l * ee (iblk m c 0 t) (iblk m c 1 t) (V m c main_v2) (V m c main_v4) (iblk m c 2 t) r l)
      = ∑ r : Fin 256, E m c (row t r) l * E m c (row t r) l :=
    fun t => Finset.sum_congr rfl fun r _ => by rw [e_at]
  intro n
  induction n with
  | zero =>
    intro hn
    rw [show outsAt0 m c 0 hn = _ from outsAt0_A m c ⟨0, hn⟩ rfl rfl]
    dsimp only
    rw [out_A5, step, zero_add, Fin.sum_univ_one]
    rfl
  | succ n ih =>
    intro hn
    have h16 : n + 1 < 16 := lt_of_lt_of_eq hn (show cfg0.N = 16 from N_0)
    have h : ¬ (n + 1) % 16 = 0 := by omega
    rw [show outsAt0 m c (n + 1) hn = _ from outsAt0_B m c ⟨n + 1, hn⟩ h h]
    have hp := scr m c ⟨n, Nat.lt_of_succ_lt hn⟩
    dsimp only
    rw [out_B5]
    rw [show (outsAt0 m c (n + 1 - 1) _).2.2.2.1 = V m c main_v2 from hp.1, show (outsAt0 m c (n + 1 - 1) _).2.2.2.2 = V m c main_v4 from hp.2]
    rw [step, Fin.sum_univ_castSucc (n := n + 1)]
    exact congr (congrArg HAdd.hAdd (ih (Nat.lt_of_succ_lt hn))) rfl

theorem at3 : ∀ t : Fin cfg0.N, win0_3.index t (0 : Fin 2) = t.val ∧ win0_3.index t (1 : Fin 2) = 0 := (by decide +kernel : ∀ t : Fin grid0.N, _)

abbrev K3 : Vec Ideal S4096x1024 .f32 := Cert.FfnLossRefIdeal.Read.val_main_v40 (F := Ideal) (A0 m c) (A1 m c) (A2 m c) (A3 m c) (A4 m c)

theorem tile3 (t : Fin cfg0.N) (r : Fin 256) (l : Fin 1024) :
    (outsAt0 m c t.val t.isLt).1 (ix2 r l) = K3 m c (ix2 (row t r) l) := by
  exact (dy_at m c t r l).trans ((congrArg (fun z : EReal => z * Ideal.ofBits .f32 0x3A800000#32) (e_at m c t r l)).trans (v40_at m c (row t r) l).symm)

theorem emb3 (t : Fin cfg0.N) (r : Fin 256) (l : Fin 1024) : ((cfg0.win 3).blk t).view.emb (ix2 r l) = (ix2 (row t r) l : S4096x1024.Idx) := by
  obtain ⟨e0, e1⟩ := at3 t
  funext a; apply Fin.ext
  match a with
  | ⟨0, _⟩ => show win0_3.index t (0 : Fin 2) * 256 + 1 * r.val = 256 * t.val + r.val; omega
  | ⟨1, _⟩ => show win0_3.index t (1 : Fin 2) * 1024 + 1 * l.val = l.val; omega

theorem covered3_at (i : Fin 4096) (l : Fin 1024) : ∃ t : Fin cfg0.N, (cfg0.win 3).flush t = true ∧ (ix2 i l : S4096x1024.Idx) ∈ ((cfg0.win 3).blk t).view.set := by
  have hl : i.val / 256 < cfg0.N := by rw [show cfg0.N = 16 from N_0]; omega
  refine ⟨⟨i.val / 256, hl⟩, (by decide +kernel : ∀ t : Fin grid0.N, win0_3.flush t = true) _, ?_⟩
  have h := ((cfg0.win 3).blk (⟨i.val / 256, hl⟩ : Fin cfg0.N)).view.emb_mem_set (ix2 (⟨i.val % 256, Nat.mod_lt _ (by decide)⟩ : Fin 256) l)
  rw [emb3] at h
  have e : row (⟨i.val / 256, hl⟩ : Fin cfg0.N) ⟨i.val % 256, Nat.mod_lt _ (by decide)⟩ = i := Fin.ext (by show 256 * (i.val / 256) + i.val % 256 = i.val; omega)
  rwa [e] at h

theorem final3 : (dats m 0 c).arrAt 3 cfg0.N = K3 m c :=
  (dats m 0 c).arrAt_eq_of_cover 3 (K3 m c) (fun t _ => by
    rw [flushed3]
    funext j
    show (outsAt0 m c t.val t.isLt).1 j = K3 m c (((cfg0.win 3).blk t).view.emb j)
    rw [eq_ix2 (n0 := 256) (n1 := 1024) j]
    exact (tile3 m c t (j 0) (j 1)).trans (congrArg (K3 m c) (emb3 t (j 0) (j 1)).symm))
    (fun i => by rw [eq_ix2 (n0 := 4096) (n1 := 1024) i]; exact covered3_at (i 0) (i 1))

theorem at4 : ∀ t : Fin cfg0.N, win0_4.index t (0 : Fin 2) = t.val ∧ win0_4.index t (1 : Fin 2) = 0 := (by decide +kernel : ∀ t : Fin grid0.N, _)

abbrev K4 : Vec Ideal S4096x4096 .bf16 := Cert.FfnLossRefIdeal.Read.val_main_v56 (F := Ideal) (A0 m c) (A1 m c) (A2 m c)

theorem tile4 (t : Fin cfg0.N) (r : Fin 256) (l : Fin 4096) :
    (outsAt0 m c t.val t.isLt).2.1 (ix2 r l) = K4 m c (ix2 (row t r) l) := by
  refine (a_at m c t r l).trans ((act_at m c t r l).trans ?_)
  exact (relu_at _ _ _ (row t r) l).trans (relu2_at _ _ _ (row t r) l).symm

theorem emb4 (t : Fin cfg0.N) (r : Fin 256) (l : Fin 4096) : ((cfg0.win 4).blk t).view.emb (ix2 r l) = (ix2 (row t r) l : S4096x4096.Idx) := by
  obtain ⟨e0, e1⟩ := at4 t
  funext a; apply Fin.ext
  match a with
  | ⟨0, _⟩ => show win0_4.index t (0 : Fin 2) * 256 + 1 * r.val = 256 * t.val + r.val; omega
  | ⟨1, _⟩ => show win0_4.index t (1 : Fin 2) * 4096 + 1 * l.val = l.val; omega

theorem covered4_at (i : Fin 4096) (l : Fin 4096) : ∃ t : Fin cfg0.N, (cfg0.win 4).flush t = true ∧ (ix2 i l : S4096x4096.Idx) ∈ ((cfg0.win 4).blk t).view.set := by
  have hl : i.val / 256 < cfg0.N := by rw [show cfg0.N = 16 from N_0]; omega
  refine ⟨⟨i.val / 256, hl⟩, (by decide +kernel : ∀ t : Fin grid0.N, win0_4.flush t = true) _, ?_⟩
  have h := ((cfg0.win 4).blk (⟨i.val / 256, hl⟩ : Fin cfg0.N)).view.emb_mem_set (ix2 (⟨i.val % 256, Nat.mod_lt _ (by decide)⟩ : Fin 256) l)
  rw [emb4] at h
  have e : row (⟨i.val / 256, hl⟩ : Fin cfg0.N) ⟨i.val % 256, Nat.mod_lt _ (by decide)⟩ = i := Fin.ext (by show 256 * (i.val / 256) + i.val % 256 = i.val; omega)
  rwa [e] at h

theorem final4 : (dats m 0 c).arrAt 4 cfg0.N = K4 m c :=
  (dats m 0 c).arrAt_eq_of_cover 4 (K4 m c) (fun t _ => by
    rw [flushed4]
    funext j
    show (outsAt0 m c t.val t.isLt).2.1 j = K4 m c (((cfg0.win 4).blk t).view.emb j)
    rw [eq_ix2 (n0 := 256) (n1 := 4096) j]
    exact (tile4 m c t (j 0) (j 1)).trans (congrArg (K4 m c) (emb4 t (j 0) (j 1)).symm))
    (fun i => by rw [eq_ix2 (n0 := 4096) (n1 := 4096) i]; exact covered4_at (i 0) (i 1))

theorem at5 : ∀ t : Fin cfg0.N, win0_5.index t (0 : Fin 2) = 0 ∧ win0_5.index t (1 : Fin 2) = 0 := (by decide +kernel : ∀ t : Fin grid0.N, _)

abbrev K5 : Vec Ideal S1x1024 .f32 := Cert.FfnLossRefIdeal.Read.val_main_v25 (F := Ideal) (A0 m c) (A1 m c) (A2 m c) (A3 m c) (A4 m c)

theorem emb5 (t : Fin cfg0.N) (r : Fin 1) (l : Fin 1024) : ((cfg0.win 5).blk t).view.emb (ix2 r l) = (ix2 r l : S1x1024.Idx) := by
  obtain ⟨e0, e1⟩ := at5 t
  funext a; apply Fin.ext
  match a with
  | ⟨0, _⟩ => show win0_5.index t (0 : Fin 2) * 1 + 1 * r.val = r.val; omega
  | ⟨1, _⟩ => show win0_5.index t (1 : Fin 2) * 1024 + 1 * l.val = l.val; omega

theorem tile5 (t : Fin cfg0.N) (h : t.val % 16 = 15) (r : Fin 1) (l : Fin 1024) : ((outsAt0 m c t.val t.isLt).2.2.1 (ix2 r l) : EReal) = K5 m c (ix2 r l) := by
  have h15 : t.val = 15 := by have := ltN t; omega
  obtain rfl : r = 0 := Subsingleton.elim _ _
  obtain ⟨n, hn⟩ := t
  obtain rfl : n = 15 := h15
  refine (l_at m c l 15 hn).trans (Eq.trans ?_ (v25_at m c l).symm)
  rw [sum_blocks, word_inv2048, sum_mul_real _ _ _ (by norm_num)]

theorem covered5_at (r : Fin 1) (l : Fin 1024) : ∃ t : Fin cfg0.N, (cfg0.win 5).flush t = true ∧ (ix2 r l : S1x1024.Idx) ∈ ((cfg0.win 5).blk t).view.set := by
  have h15 : 15 < cfg0.N := by rw [show cfg0.N = 16 from N_0]; omega
  refine ⟨⟨15, h15⟩, (flush0_5 _).mpr rfl, ?_⟩
  have h := ((cfg0.win 5).blk (⟨15, h15⟩ : Fin cfg0.N)).view.emb_mem_set (ix2 r l)
  rwa [emb5] at h

theorem final5 : (dats m 0 c).arrAt 5 cfg0.N = K5 m c :=
  (dats m 0 c).arrAt_eq_of_cover 5 (K5 m c) (fun t hf => by
    have h := (flush0_5 t).mp hf
    rw [flushed5]
    funext j
    show (outsAt0 m c t.val t.isLt).2.2.1 j = K5 m c (((cfg0.win 5).blk t).view.emb j)
    rw [eq_ix2 (n0 := 1) (n1 := 1024) j]
    exact (tile5 m c t h (j 0) (j 1)).trans (congrArg (K5 m c) (emb5 t (j 0) (j 1)).symm))
    (fun i => by rw [eq_ix2 (n0 := 1) (n1 := 1024) i]; exact covered5_at (i 0) (i 1))

theorem frame_r : Cert.quiescent_FfnLossRefIdeal := by
  intro m ρ _
  exact (θ_run Cert.FfnLossRefIdeal.defs _ _).mono (fun r h => ⟨fun c => (h c).2.2.2, Idealize.ShloMosaic.sem_eq_zero_of_no_sems (by decide) r.2⟩)
    (Cert.FfnLossRefIdeal.Value.run (F := Ideal) m ρ)

set_option maxHeartbeats 2000000 in
theorem algebraic : Cert.algebraic_FfnLossIdeal_FfnLossRefIdeal := by
  intro m ρ m' ρ' _ hag
  refine ⟨fun c => (dats m 0 c).arrAt 3 cfg0.N, fun c => (dats m 0 c).arrAt 4 cfg0.N, fun c => (dats m 0 c).arrAt 5 cfg0.N, run_blocks m ρ, ?_⟩
  refine (θ_run Cert.FfnLossRefIdeal.defs _ _).mono (fun r h c => ?_) (Cert.FfnLossRefIdeal.Value.run (F := Ideal) m' ρ')
  obtain ⟨r3, r4, r5, ra⟩ := h c
  obtain ⟨g0, g1, g2, g3, g4⟩ := hag c
  refine ⟨?_, ?_, ?_, ra⟩
  · refine (r3.trans (Cert.FfnLossRefIdeal.Read.val_main_v40_eq _ _ _ _ _)).trans ?_
    rw [g0, g1, g2, g3, g4]
    exact (final3 m c).symm
  · refine (r4.trans (Cert.FfnLossRefIdeal.Read.val_main_v56_eq _ _ _)).trans ?_
    rw [g0, g1, g2]
    exact (final4 m c).symm
  · refine (r5.trans (Cert.FfnLossRefIdeal.Read.val_main_v25_eq _ _)).trans ?_
    rw [g0, g1, g2, g3, g4]
    exact (final5 m c).symm

end Cert.FfnLossVal

end
-- ==== Proof.InBwdVal.lean ====
/- Hand-written, untrusted: THE INPUT PROJECTION'S BACKWARD CALL (one product, then the gradient of the norm) writes, block by block, the rows of the reference's
   gradient of the input, and sums over the blocks the reference's gradient of the gain. -/
module

public import proofs.«01_k».proof.Proof.Mat
public import proofs.«01_k».proof.Proof.NormBwd
public import proofs.«01_k».proof.Proof.Gen.Pre_in_finite
public import proofs.«01_k».proof.Proof.Gen.InBwdIdeal.Value
public import proofs.«01_k».proof.Proof.Gen.InBwdRefIdeal.Run
public import proofs.«01_k».proof.Proof.Gen.InBwdRefIdeal.Read
public import proofs.«01_k».proof.Defs

@[expose] public section

set_option maxRecDepth 16384

noncomputable section

namespace Cert.InBwdVal

open Cert.InBwdIdeal Cert.InBwdIdeal.Gen Cert.InBwdIdeal.Value Cert.Mat Idealize.ShloMosaic Idealize.ShloMosaic.TcCoe Idealize.SL.Sem
open Idealize.ShloMosaic.Tactic

variable (m : (ℓ : Loc nD τ sig) → Buf (Elt Ideal) ℓ) (c : Dev nD)

abbrev A0 : Vec Ideal S4096x1024 .f32 := m ((c : Thread nD τ).loc main_arg0)
abbrev A1 : Vec Ideal S1024 .f32 := m ((c : Thread nD τ).loc main_arg1)
abbrev A2 : Vec Ideal S1024x3584 .f32 := m ((c : Thread nD τ).loc main_arg2)
abbrev A3 : Vec Ideal S4096x3584 .bf16 := m ((c : Thread nD τ).loc main_arg3)
abbrev A4 : Vec Ideal S4096x1024 .f32 := m ((c : Thread nD τ).loc main_arg4)

theorem ltN (t : Fin cfg0.N) : t.val < 16 := lt_of_lt_of_eq t.isLt (show cfg0.N = 16 from N_0)

/-- Row `r` of block `t`. -/
abbrev row (t : Fin cfg0.N) (r : Fin 256) : Fin 4096 := ⟨256 * t.val + r.val, by have := ltN t; omega⟩

abbrev X0 := Vec Ideal S256x1024 .f32
abbrev X1 := Vec Ideal S1x1024 .f32
abbrev X2 := Vec Ideal S1024x3584 .bf16
abbrev X3 := Vec Ideal S256x3584 .bf16

set_option maxHeartbeats 1000000 in
theorem out_A5 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3584 .bf16) (harg3 : arg3.IsWhole)
    (arg4 : Memref sig .tc .vmem S256x3584 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole)
    (hc0) (x0 : X0) (x1 : X1) (x2 : X2) (x3 : X3) (x4 : X0) :
    out0_A_5 c i arg1 harg1 arg2 harg2 arg3 harg3 arg4 harg4 arg5 harg5 arg6 harg6 arg7 harg7 hc0 x0 x1 x2 x3 x4 = k0_pay5 (F := Ideal) x0 x1 x3 x2 x4 := by
  unfold out0_A_5
  rw [View.read_writes_eq_canon _ _ _ (cover0_A_5 c _ _ _ _ _ _ _ _ _ _ _ _ _ _ _ _ _ _ _ _ _)]
  unfold kernelRun0_A
  dsimp only
  sl_unfold_words
  simp only [View.readAt_eq_ld, harg1.read_unread, harg2.read_unread, harg3.read_unread, harg4.read_unread, harg5.read_unread, harg6.read_unread, harg7.read_unread, View.readCov_eq_canon']
  rw [View.canon_cons_unit_zero off2]
  simp only [View.ld_unit_zero (S := S256x1024) off2, View.ld_unit_zero (S := S1x1024) off2, View.ld_unit_zero (S := S256x3584) off2, View.ld_unit_zero (S := S1024x3584) off2, View.canon_unit_zero (S := S1x1024) off2]

set_option maxHeartbeats 1000000 in
theorem out_A6 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3584 .bf16) (harg3 : arg3.IsWhole)
    (arg4 : Memref sig .tc .vmem S256x3584 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole)
    (hc0) (x0 : X0) (x1 : X1) (x2 : X2) (x3 : X3) (x4 : X0) :
    out0_A_6 c i arg1 harg1 arg2 harg2 arg3 harg3 arg4 harg4 arg5 harg5 arg6 harg6 arg7 harg7 hc0 x0 x1 x2 x3 x4 = k0_pay1 (F := Ideal) (k0_pay3 x0) (k0_pay4 x3 x2) (k0_pay6 (F := Ideal)) := by
  unfold out0_A_6
  rw [View.read_writes_eq_canon _ _ _ (cover0_A_6 c _ _ _ _ _ _ _ _ _ _ _ _ _ _ _ _ _ _ _ _ _)]
  unfold kernelRun0_A
  dsimp only
  sl_unfold_words
  simp only [View.readAt_eq_ld, harg1.read_unread, harg2.read_unread, harg3.read_unread, harg4.read_unread, harg5.read_unread, harg6.read_unread, harg7.read_unread, View.readCov_eq_canon']
  rw [View.canon_cons_unit_zero off2]
  simp only [View.ld_unit_zero (S := S256x1024) off2, View.ld_unit_zero (S := S1x1024) off2, View.ld_unit_zero (S := S256x3584) off2, View.ld_unit_zero (S := S1024x3584) off2, View.canon_unit_zero (S := S1x1024) off2]
  rfl
set_option maxHeartbeats 1000000 in
theorem out_B5 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3584 .bf16) (harg3 : arg3.IsWhole)
    (arg4 : Memref sig .tc .vmem S256x3584 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole)
    (hc0) (x0 : X0) (x1 : X1) (x2 : X2) (x3 : X3) (x4 : X0) (xo : X1) :
    out0_B_5 c i arg1 harg1 arg2 harg2 arg3 harg3 arg4 harg4 arg5 harg5 arg6 harg6 arg7 harg7 hc0 x0 x1 x2 x3 x4 xo = k0_pay5 (F := Ideal) x0 x1 x3 x2 x4 := by
  unfold out0_B_5
  rw [View.read_writes_eq_canon _ _ _ (cover0_B_5 c _ _ _ _ _ _ _ _ _ _ _ _ _ _ _ _ _ _ _ _ _ _)]
  unfold kernelRun0_B
  dsimp only
  sl_unfold_words
  simp only [View.readAt_eq_ld, harg1.read_unread, harg2.read_unread, harg3.read_unread, harg4.read_unread, harg5.read_unread, harg6.read_unread, harg7.read_unread, View.readCov_eq_canon']
  rw [View.canon_cons_unit_zero off2]
  simp only [View.ld_unit_zero (S := S256x1024) off2, View.ld_unit_zero (S := S1x1024) off2, View.ld_unit_zero (S := S256x3584) off2, View.ld_unit_zero (S := S1024x3584) off2, View.canon_unit_zero (S := S1x1024) off2]

set_option maxHeartbeats 1000000 in
theorem out_B6 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3584 .bf16) (harg3 : arg3.IsWhole)
    (arg4 : Memref sig .tc .vmem S256x3584 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole)
    (hc0) (x0 : X0) (x1 : X1) (x2 : X2) (x3 : X3) (x4 : X0) (xo : X1) :
    out0_B_6 c i arg1 harg1 arg2 harg2 arg3 harg3 arg4 harg4 arg5 harg5 arg6 harg6 arg7 harg7 hc0 x0 x1 x2 x3 x4 xo = k0_pay1 (F := Ideal) (k0_pay3 x0) (k0_pay4 x3 x2) xo := by
  unfold out0_B_6
  rw [View.read_writes_eq_canon _ _ _ (cover0_B_6 c _ _ _ _ _ _ _ _ _ _ _ _ _ _ _ _ _ _ _ _ _ _)]
  unfold kernelRun0_B
  dsimp only
  sl_unfold_words
  simp only [View.readAt_eq_ld, harg1.read_unread, harg2.read_unread, harg3.read_unread, harg4.read_unread, harg5.read_unread, harg6.read_unread, harg7.read_unread, View.readCov_eq_canon']
  rw [View.canon_cons_unit_zero off2]
  simp only [View.ld_unit_zero (S := S256x1024) off2, View.ld_unit_zero (S := S1x1024) off2, View.ld_unit_zero (S := S256x3584) off2, View.ld_unit_zero (S := S1024x3584) off2, View.canon_unit_zero (S := S1x1024) off2]

theorem pay2_at (x0 : X0) (r : Fin 256) : (k0_pay2 (F := Ideal) x0 (ix2 r 0) : EReal) = rs (fun k => x0 (ix2 r k)) := by
  unfold k0_pay2
  simp only [pointwise]
  rfl
theorem pay3_at (x0 : X0) (r : Fin 256) (l : Fin 1024) : (k0_pay3 (F := Ideal) x0 (ix2 r l) : EReal) = x0 (ix2 r l) * rs (fun k => x0 (ix2 r k)) := by
  refine Eq.trans ?_ (congrArg (fun z : EReal => (x0 (ix2 r l) : EReal) * z) (pay2_at x0 r))
  unfold k0_pay3
  simp only [pointwise]
  rfl
theorem pay4_at (x3 : X3) (x2 : X2) (r : Fin 256) (l : Fin 1024) : (k0_pay4 (F := Ideal) x3 x2 (ix2 r l) : EReal) = ∑ j : Fin 3584, x3 (ix2 r j) * x2 (ix2 l j) := by
  unfold k0_pay4
  rw [shapeCast_id]
  exact kmm_nt (φ₁ := .bf16) (φ₂ := .bf16) (M := 256) (K := 3584) (N := 1024) none _ _ r l

theorem pay5_at (x0 : X0) (x1 : X1) (x3 : X3) (x2 : X2) (x4 : X0) (r : Fin 256) (l : Fin 1024) :
    (k0_pay5 (F := Ideal) x0 x1 x3 x2 x4 (ix2 r l) : EReal) = x4 (ix2 r l) + rs (fun k => x0 (ix2 r k)) * (k0_pay4 (F := Ideal) x3 x2 (ix2 r l) * x1 (ix2 0 l) - x0 (ix2 r l) * rs (fun k => x0 (ix2 r k)) *
      Ideal.div (∑ k, k0_pay4 (F := Ideal) x3 x2 (ix2 r k) * x1 (ix2 0 k) * (x0 (ix2 r k) * rs (fun k => x0 (ix2 r k)))) (Ideal.ofBits .f32 0x44800000#32)) := by
  have h : (k0_pay5 (F := Ideal) x0 x1 x3 x2 x4 (ix2 r l) : EReal) = x4 (ix2 r l) + k0_pay2 (F := Ideal) x0 (ix2 r 0) * (k0_pay4 (F := Ideal) x3 x2 (ix2 r l) * x1 (ix2 0 l) - k0_pay3 (F := Ideal) x0 (ix2 r l) *
      Ideal.div (∑ k, k0_pay4 (F := Ideal) x3 x2 (ix2 r k) * x1 (ix2 0 k) * k0_pay3 (F := Ideal) x0 (ix2 r k)) (Ideal.ofBits .f32 0x44800000#32)) := by
    unfold k0_pay5
    simp only [pointwise]
    rfl
  rw [h, pay2_at]
  simp only [pay3_at]

theorem pay6_at (l : Fin 1024) : (k0_pay6 (F := Ideal) (ix2 0 l) : EReal) = 0 := by
  unfold k0_pay6
  exact zero_word
theorem pay1_at (v : FVec Ideal S256x1024 .f32) (y : FVec Ideal S256x1024 .f32) (a : X1) (l : Fin 1024) :
    (k0_pay1 (F := Ideal) v y a (ix2 0 l) : EReal) = a (ix2 0 l) + ∑ r : Fin 256, y (ix2 r l) * v (ix2 r l) := by
  unfold k0_pay1
  simp only [pointwise]

theorem V_g (l : Fin 1024) : V m c main_v0 (ix2 (0 : Fin 1) l) = A1 m c (ix1 l) := by
  have h : V m c main_v0 = (shapeCast S1x1024 (A1 m c) shapeCasts_S1024_S1x1024 : Vec Ideal S1x1024 .f32) := by
    show StableHlo.after hostOps0 _ (Proc.devRef .tc main_v0) = _
    simp only [hostOps0]
    after_results
    rfl
  rw [h]
  simp only [pointwise]

theorem V_w : V m c main_v1 = (truncf (F := Ideal) .bf16 (A2 m c) bitsLt_bf16_f32 : Vec Ideal S1024x3584 .bf16) := by
  show StableHlo.after hostOps0 _ (Proc.devRef .tc main_v1) = _
  simp only [hostOps0]
  after_results

theorem at0 : ∀ t : Fin cfg0.N, win0_0.index t (0 : Fin 2) = t.val ∧ win0_0.index t (1 : Fin 2) = 0 := (by decide +kernel : ∀ t : Fin grid0.N, _)
theorem b0 (t : Fin cfg0.N) (r : Fin 256) (l : Fin 1024) : (iblk m c 0 t : Vec Ideal S256x1024 .f32) (ix2 r l) = A0 m c (ix2 (row t r) l) := by
  obtain ⟨e0, e1⟩ := at0 t
  show V m c main_arg0 (((cfg0.win 0).blk t).view.emb (ix2 r l)) = _
  rw [V_main_arg0]
  refine congrArg (A0 m c) (funext fun a => Fin.ext ?_)
  match a with
  | ⟨0, _⟩ => show win0_0.index t (0 : Fin 2) * 256 + 1 * r.val = 256 * t.val + r.val; omega
  | ⟨1, _⟩ => show win0_0.index t (1 : Fin 2) * 1024 + 1 * l.val = l.val; omega

theorem at1 : ∀ t : Fin cfg0.N, win0_1.index t (0 : Fin 2) = 0 ∧ win0_1.index t (1 : Fin 2) = 0 := (by decide +kernel : ∀ t : Fin grid0.N, _)
theorem b1 (t : Fin cfg0.N) (r : Fin 1) (l : Fin 1024) : (iblk m c 1 t : Vec Ideal S1x1024 .f32) (ix2 r l) = A1 m c (ix1 l) := by
  obtain ⟨e0, e1⟩ := at1 t
  show V m c main_v0 (((cfg0.win 1).blk t).view.emb (ix2 r l)) = _
  have he : ((cfg0.win 1).blk t).view.emb (ix2 r l) = (ix2 r l : S1x1024.Idx) := funext fun a => Fin.ext (by
    match a with
    | ⟨0, _⟩ => show win0_1.index t (0 : Fin 2) * 1 + 1 * r.val = r.val; omega
    | ⟨1, _⟩ => show win0_1.index t (1 : Fin 2) * 1024 + 1 * l.val = l.val; omega)
  rw [he, Subsingleton.elim r 0]
  exact V_g m c l

theorem at2 : ∀ t : Fin cfg0.N, win0_2.index t (0 : Fin 2) = 0 ∧ win0_2.index t (1 : Fin 2) = 0 := (by decide +kernel : ∀ t : Fin grid0.N, _)
theorem b2 (t : Fin cfg0.N) (r : Fin 1024) (l : Fin 3584) : (iblk m c 2 t : Vec Ideal S1024x3584 .bf16) (ix2 r l) = A2 m c (ix2 r l) := by
  obtain ⟨e0, e1⟩ := at2 t
  show V m c main_v1 (((cfg0.win 2).blk t).view.emb (ix2 r l)) = _
  have he : ((cfg0.win 2).blk t).view.emb (ix2 r l) = (ix2 r l : S1024x3584.Idx) := funext fun a => Fin.ext (by
    match a with
    | ⟨0, _⟩ => show win0_2.index t (0 : Fin 2) * 1024 + 1 * r.val = r.val; omega
    | ⟨1, _⟩ => show win0_2.index t (1 : Fin 2) * 3584 + 1 * l.val = l.val; omega)
  rw [he, V_w]
  rfl

theorem at3 : ∀ t : Fin cfg0.N, win0_3.index t (0 : Fin 2) = t.val ∧ win0_3.index t (1 : Fin 2) = 0 := (by decide +kernel : ∀ t : Fin grid0.N, _)
theorem b3 (t : Fin cfg0.N) (r : Fin 256) (l : Fin 3584) : (iblk m c 3 t : Vec Ideal S256x3584 .bf16) (ix2 r l) = A3 m c (ix2 (row t r) l) := by
  obtain ⟨e0, e1⟩ := at3 t
  show V m c main_arg3 (((cfg0.win 3).blk t).view.emb (ix2 r l)) = _
  rw [V_main_arg3]
  refine congrArg (A3 m c) (funext fun a => Fin.ext ?_)
  match a with
  | ⟨0, _⟩ => show win0_3.index t (0 : Fin 2) * 256 + 1 * r.val = 256 * t.val + r.val; omega
  | ⟨1, _⟩ => show win0_3.index t (1 : Fin 2) * 3584 + 1 * l.val = l.val; omega

theorem at4 : ∀ t : Fin cfg0.N, win0_4.index t (0 : Fin 2) = t.val ∧ win0_4.index t (1 : Fin 2) = 0 := (by decide +kernel : ∀ t : Fin grid0.N, _)
theorem b4 (t : Fin cfg0.N) (r : Fin 256) (l : Fin 1024) : (iblk m c 4 t : Vec Ideal S256x1024 .f32) (ix2 r l) = A4 m c (ix2 (row t r) l) := by
  obtain ⟨e0, e1⟩ := at4 t
  show V m c main_arg4 (((cfg0.win 4).blk t).view.emb (ix2 r l)) = _
  rw [V_main_arg4]
  refine congrArg (A4 m c) (funext fun a => Fin.ext ?_)
  match a with
  | ⟨0, _⟩ => show win0_4.index t (0 : Fin 2) * 256 + 1 * r.val = 256 * t.val + r.val; omega
  | ⟨1, _⟩ => show win0_4.index t (1 : Fin 2) * 1024 + 1 * l.val = l.val; omega

/-! ### The reference -/

abbrev Y0 := Vec Ideal S4096x1024 .f32
abbrev Y1 := Vec Ideal S1024 .f32
abbrev Y2 := Vec Ideal S1024x3584 .f32
abbrev Y3 := Vec Ideal S4096x3584 .bf16

theorem z : (FloatOps.ofBits (F := Ideal) .f32 0x00000000#32 : EReal) = 0 := zero_word

theorem v6_at (x0 : Y0) (i : Fin 4096) : (Cert.InBwdRefIdeal.Read.val_main_v6 (F := Ideal) x0 (ix2 i 0) : EReal) = vv (fun k => x0 (ix2 i k)) := by
  have e : ∀ k : Fin 1024, Cert.InBwdRefIdeal.Read.idx_main_v1 (Cert.InBwdRefIdeal.Read.idx_main_v2 (ix2 i 0)) k = (ix2 i k : S4096x1024.Idx) :=
    fun k => funext fun a => Fin.ext (by
      match a with
      | ⟨0, _⟩ => rfl
      | ⟨1, _⟩ => rfl)
  simp only [Cert.InBwdRefIdeal.Read.val_main_v6_apply, Cert.InBwdRefIdeal.Read.val_main_v5_apply, Cert.InBwdRefIdeal.Read.val_main_v4_apply, Cert.InBwdRefIdeal.Read.val_main_v3_apply, Cert.InBwdRefIdeal.Read.val_main_v2_apply, Cert.InBwdRefIdeal.Read.val_main_v1_apply, Cert.InBwdRefIdeal.Read.val_main_v0_apply, Cert.InBwdRefIdeal.Read.val_main_cst_apply, Cert.InBwdRefIdeal.Read.val_main_cst_0_apply, Cert.InBwdRefIdeal.Read.val_main_cst_1_apply, e]
  rw [z, zero_add]
  rfl
theorem v7_at (x0 : Y0) (i : Fin 4096) : (Cert.InBwdRefIdeal.Read.val_main_v7 (F := Ideal) x0 (ix2 i 0) : EReal) = rs (fun k => x0 (ix2 i k)) :=
  congrArg Ideal.rsqrt (v6_at x0 i)
theorem v12_at (x0 : Y0) (i : Fin 4096) (l : Fin 1024) : (Cert.InBwdRefIdeal.Read.val_main_v12 (F := Ideal) x0 (ix2 i l) : EReal) = x0 (ix2 i l) * rs (fun k => x0 (ix2 i k)) := by
  refine Eq.trans ?_ (congrArg (fun z : EReal => (x0 (ix2 i l) : EReal) * z) (v7_at x0 i))
  refine congrArg (fun z : EReal => (x0 (ix2 i l) : EReal) * z) ((Cert.InBwdRefIdeal.Read.val_main_v11_apply (F := Ideal) x0 (ix2 i l)).trans (congrArg (Cert.InBwdRefIdeal.Read.val_main_v7 (F := Ideal) x0) (funext fun a => Fin.ext ?_)))
  match a with
  | ⟨0, _⟩ => rfl
  | ⟨1, _⟩ => rfl
theorem v18_at (x2 : Y2) (x3 : Y3) (i : Fin 4096) (l : Fin 1024) : (Cert.InBwdRefIdeal.Read.val_main_v18 (F := Ideal) x2 x3 (ix2 i l) : EReal) = ∑ j : Fin 3584, x3 (ix2 i j) * x2 (ix2 l j) :=
  hmm_nt (φ₁ := .f32) (φ₂ := .f32) (M := 4096) (K := 3584) (N := 1024) none _ _ i l
theorem v23_at (x1 : Y1) (x2 : Y2) (x3 : Y3) (i : Fin 4096) (l : Fin 1024) : (Cert.InBwdRefIdeal.Read.val_main_v23 (F := Ideal) x1 x2 x3 (ix2 i l) : EReal) = Cert.InBwdRefIdeal.Read.val_main_v18 (F := Ideal) x2 x3 (ix2 i l) * x1 (ix1 l) := by
  refine congrArg (fun z : EReal => (Cert.InBwdRefIdeal.Read.val_main_v18 (F := Ideal) x2 x3 (ix2 i l) : EReal) * z) ?_
  rw [Cert.InBwdRefIdeal.Read.val_main_v22_apply, Cert.InBwdRefIdeal.Read.val_main_v13_apply]
  refine congrArg x1 (funext fun a => Fin.ext ?_)
  match a with
  | ⟨0, _⟩ => rfl
theorem v34_at (x0 : Y0) (x1 : Y1) (x2 : Y2) (x3 : Y3) (i : Fin 4096) :
    (Cert.InBwdRefIdeal.Read.val_main_v34 (F := Ideal) x0 x1 x2 x3 (ix1 i) : EReal) = dms (fun k => x0 (ix2 i k)) (fun k => Cert.InBwdRefIdeal.Read.val_main_v23 (F := Ideal) x1 x2 x3 (ix2 i k)) := by
  have e1 : Cert.InBwdRefIdeal.Read.idx_main_v34 (ix1 i) 0 = (ix2 i 0 : Cert.InBwdRefIdeal.S4096x1.Idx) := funext fun a => Fin.ext (by
      match a with
      | ⟨0, _⟩ => rfl
      | ⟨1, _⟩ => rfl)
  have e : ∀ k : Fin 1024, Cert.InBwdRefIdeal.Read.idx_main_v26 (Cert.InBwdRefIdeal.Read.idx_main_v27 (ix2 i 0)) k = (ix2 i k : S4096x1024.Idx) :=
    fun k => funext fun a => Fin.ext (by
      match a with
      | ⟨0, _⟩ => show i.val * 1 + 0 = i.val; omega
      | ⟨1, _⟩ => rfl)
  simp only [Cert.InBwdRefIdeal.Read.val_main_v34_apply, Cert.InBwdRefIdeal.Read.val_main_v33_apply, Cert.InBwdRefIdeal.Read.val_main_v32_apply, Cert.InBwdRefIdeal.Read.val_main_v31_apply, Cert.InBwdRefIdeal.Read.val_main_v27_apply, Cert.InBwdRefIdeal.Read.val_main_v26_apply, Cert.InBwdRefIdeal.Read.val_main_v25_apply, Cert.InBwdRefIdeal.Read.val_main_v10_apply, Cert.InBwdRefIdeal.Read.val_main_v9_apply, Cert.InBwdRefIdeal.Read.val_main_v8_apply, Cert.InBwdRefIdeal.Read.val_main_cst_2_apply, Cert.InBwdRefIdeal.Read.val_main_cst_5_apply, Cert.InBwdRefIdeal.Read.val_main_cst_6_apply, Cert.InBwdRefIdeal.Read.val_main_cst_7_apply, Fin.sum_univ_one, e1, e]
  rw [z, zero_add, zero_add, v7_at, v6_at]
  rfl
theorem v39_at (x0 : Y0) (x1 : Y1) (x2 : Y2) (x3 : Y3) (x4 : Y0) (i : Fin 4096) (l : Fin 1024) :
    (Cert.InBwdRefIdeal.Read.val_main_v39 (F := Ideal) x0 x1 x2 x3 x4 (ix2 i l) : EReal) = x4 (ix2 i l) + Cert.InBwdRefIdeal.Read.val_main_v23 (F := Ideal) x1 x2 x3 (ix2 i l) * rs (fun k => x0 (ix2 i k))
      + x0 (ix2 i l) * dms (fun k => x0 (ix2 i k)) (fun k => Cert.InBwdRefIdeal.Read.val_main_v23 (F := Ideal) x1 x2 x3 (ix2 i k)) + dms (fun k => x0 (ix2 i k)) (fun k => Cert.InBwdRefIdeal.Read.val_main_v23 (F := Ideal) x1 x2 x3 (ix2 i k)) * x0 (ix2 i l) := by
  have e1 : Cert.InBwdRefIdeal.Read.idx_main_v28 (ix2 i l) = (ix2 i 0 : Cert.InBwdRefIdeal.S4096x1.Idx) := funext fun a => Fin.ext (by
      match a with
      | ⟨0, _⟩ => rfl
      | ⟨1, _⟩ => rfl)
  have e2 : Cert.InBwdRefIdeal.Read.idx_main_v35 (ix2 i l) = (ix1 i : Cert.InBwdRefIdeal.S4096.Idx) := funext fun a => Fin.ext (by
      match a with
      | ⟨0, _⟩ => rfl)
  simp only [Cert.InBwdRefIdeal.Read.val_main_v39_apply, Cert.InBwdRefIdeal.Read.val_main_v38_apply, Cert.InBwdRefIdeal.Read.val_main_v37_apply, Cert.InBwdRefIdeal.Read.val_main_v36_apply, Cert.InBwdRefIdeal.Read.val_main_v35_apply, Cert.InBwdRefIdeal.Read.val_main_v30_apply, Cert.InBwdRefIdeal.Read.val_main_v29_apply, Cert.InBwdRefIdeal.Read.val_main_v28_apply, e1, e2]
  rw [v7_at, v34_at]
  rfl
theorem v40_at (x0 : Y0) (x2 : Y2) (x3 : Y3) (l : Fin 1024) :
    (Cert.InBwdRefIdeal.Read.val_main_v40 (F := Ideal) x0 x2 x3 (ix2 0 l) : EReal) = ∑ i : Fin 4096, Cert.InBwdRefIdeal.Read.val_main_v12 (F := Ideal) x0 (ix2 i l) * Cert.InBwdRefIdeal.Read.val_main_v18 (F := Ideal) x2 x3 (ix2 i l) := by
  have e : ∀ k : Fin 4096, Cert.InBwdRefIdeal.Read.idx_main_v20 (Cert.InBwdRefIdeal.Read.idx_main_v21 (Cert.InBwdRefIdeal.Read.idx_main_v24 (Cert.InBwdRefIdeal.Read.idx_main_v40 (ix2 0 l)) 0)) k = (ix2 k l : S4096x1024.Idx) :=
    fun k => funext fun a => Fin.ext (by
      match a with
      | ⟨0, _⟩ => rfl
      | ⟨1, _⟩ => show 0 * 1024 + (0 * 1024 + l.val) = l.val; omega)
  simp only [Cert.InBwdRefIdeal.Read.val_main_v40_apply, Cert.InBwdRefIdeal.Read.val_main_v24_apply, Cert.InBwdRefIdeal.Read.val_main_v21_apply, Cert.InBwdRefIdeal.Read.val_main_v20_apply, Cert.InBwdRefIdeal.Read.val_main_v19_apply, Cert.InBwdRefIdeal.Read.val_main_cst_3_apply, Cert.InBwdRefIdeal.Read.val_main_cst_4_apply, Fin.sum_univ_one, e]
  rw [z, zero_add, zero_add]
  rfl

/-! ### The blocks -/

theorem dh_at (t : Fin cfg0.N) (r : Fin 256) (l : Fin 1024) :
    (k0_pay4 (F := Ideal) (iblk m c 3 t) (iblk m c 2 t) (ix2 r l) : EReal) = Cert.InBwdRefIdeal.Read.val_main_v18 (F := Ideal) (A2 m c) (A3 m c) (ix2 (row t r) l) := by
  refine (pay4_at _ _ r l).trans (Eq.trans ?_ (v18_at _ _ (row t r) l).symm)
  refine Finset.sum_congr rfl fun j _ => ?_
  rw [b3, b2]

theorem xn_at (t : Fin cfg0.N) (r : Fin 256) (l : Fin 1024) :
    (k0_pay3 (F := Ideal) (iblk m c 0 t) (ix2 r l) : EReal) = Cert.InBwdRefIdeal.Read.val_main_v12 (F := Ideal) (A0 m c) (ix2 (row t r) l) := by
  have hb : (fun k => (iblk m c 0 t : X0) (ix2 r k)) = fun k => A0 m c (ix2 (row t r) k) := funext fun k => b0 m c t r k
  refine (pay3_at _ r l).trans (Eq.trans ?_ (v12_at _ (row t r) l).symm)
  rw [b0, hb]

theorem dx_at (t : Fin cfg0.N) (r : Fin 256) (l : Fin 1024) :
    ((outsAt0 m c t.val t.isLt).1 (ix2 r l) : EReal) = k0_pay5 (F := Ideal) (iblk m c 0 t) (iblk m c 1 t) (iblk m c 3 t) (iblk m c 2 t) (iblk m c 4 t) (ix2 r l) := by
  by_cases h0 : t.val % 16 = 0
  · rw [outsAt0_A m c t h0]
    dsimp only
    rw [out_A5]
  · rw [outsAt0_B m c t h0]
    dsimp only
    rw [out_B5]

/-- The gain's gradient after point `n`: the rows of the blocks up to it. -/
theorem dg_at (l : Fin 1024) : ∀ (n : ℕ) (hn : n < cfg0.N), ((outsAt0 m c n hn).2 (ix2 0 l) : EReal)
    = ∑ t : Fin (n + 1), ∑ r : Fin 256, Cert.InBwdRefIdeal.Read.val_main_v18 (F := Ideal) (A2 m c) (A3 m c) (ix2 (row ⟨t.val, lt_of_lt_of_le t.isLt hn⟩ r) l) * Cert.InBwdRefIdeal.Read.val_main_v12 (F := Ideal) (A0 m c) (ix2 (row ⟨t.val, lt_of_lt_of_le t.isLt hn⟩ r) l) := by
  have step : ∀ (t : Fin cfg0.N) (a : X1), (k0_pay1 (F := Ideal) (k0_pay3 (iblk m c 0 t)) (k0_pay4 (iblk m c 3 t) (iblk m c 2 t)) a (ix2 0 l) : EReal)
      = a (ix2 0 l) + ∑ r : Fin 256, Cert.InBwdRefIdeal.Read.val_main_v18 (F := Ideal) (A2 m c) (A3 m c) (ix2 (row t r) l) * Cert.InBwdRefIdeal.Read.val_main_v12 (F := Ideal) (A0 m c) (ix2 (row t r) l) := by
    intro t a
    refine (pay1_at _ _ a l).trans (congrArg (fun z : EReal => (a (ix2 0 l) : EReal) + z) (Finset.sum_congr rfl fun r _ => ?_))
    exact congr (congrArg HMul.hMul (dh_at m c t r l)) (xn_at m c t r l)
  intro n
  induction n with
  | zero =>
    intro hn
    rw [show outsAt0 m c 0 hn = _ from outsAt0_A m c ⟨0, hn⟩ rfl]
    dsimp only
    rw [out_A6, step, pay6_at, zero_add, Fin.sum_univ_one]
    rfl
  | succ n ih =>
    intro hn
    have h16 : n + 1 < 16 := lt_of_lt_of_eq hn (show cfg0.N = 16 from N_0)
    rw [show outsAt0 m c (n + 1) hn = _ from outsAt0_B m c ⟨n + 1, hn⟩ (by show ¬ (n + 1) % 16 = 0; omega)]
    dsimp only
    rw [out_B6, step, Fin.sum_univ_castSucc (n := n + 1)]
    exact congr (congrArg HAdd.hAdd (ih (Nat.lt_of_succ_lt hn))) rfl

/-- The precondition, as real arguments. -/
structure Good : Prop where
  r0 : ∀ i l, Re (A0 m c (ix2 i l))
  r1 : ∀ l, Re (A1 m c (ix1 l))
  r2 : ∀ i l, Re (A2 m c (ix2 i l))
  r3 : ∀ i l, Re (A3 m c (ix2 i l))

theorem good (hp : Cert.Pre_InBwdIdeal_in_finite m) (c : Dev nD) : Good m c := by
  obtain ⟨h0, h1, h2, h3⟩ := hp c
  exact ⟨fun i l => Re.of_cmp (congrFun h0 (ix2 i l)), fun l => Re.of_cmp (congrFun h1 (ix1 l)), fun i l => Re.of_cmp (congrFun h2 (ix2 i l)), fun i l => Re.of_cmp (congrFun h3 (ix2 i l))⟩

variable (hg : Good m c)
include hg

theorem same_dx (t : Fin cfg0.N) (r : Fin 256) (l : Fin 1024) :
    (k0_pay5 (F := Ideal) (iblk m c 0 t) (iblk m c 1 t) (iblk m c 3 t) (iblk m c 2 t) (iblk m c 4 t) (ix2 r l) : EReal)
      = Cert.InBwdRefIdeal.Read.val_main_v39 (F := Ideal) (A0 m c) (A1 m c) (A2 m c) (A3 m c) (A4 m c) (ix2 (row t r) l) := by
  have hb : (fun k => (iblk m c 0 t : X0) (ix2 r k)) = fun k => A0 m c (ix2 (row t r) k) := funext fun k => b0 m c t r k
  refine (pay5_at _ _ _ _ _ r l).trans (Eq.trans ?_ (v39_at _ _ _ _ _ (row t r) l).symm)
  simp only [hb, dh_at, b0, b1, b4, v23_at]
  refine norm_bwd (x := fun k => A0 m c (ix2 (row t r) k)) (d := fun k => Cert.InBwdRefIdeal.Read.val_main_v18 (F := Ideal) (A2 m c) (A3 m c) (ix2 (row t r) k) * A1 m c (ix1 k)) (fun k => hg.r0 _ k) (fun k => ?_) _ l
  simp only [v18_at]
  exact (Re.sum _ _ fun j => (hg.r3 _ j).mul (hg.r2 k j)).mul (hg.r1 k)

omit hg
theorem at5 : ∀ t : Fin cfg0.N, win0_5.index t (0 : Fin 2) = t.val ∧ win0_5.index t (1 : Fin 2) = 0 := (by decide +kernel : ∀ t : Fin grid0.N, _)

abbrev K5 : Vec Ideal S4096x1024 .f32 := Cert.InBwdRefIdeal.Read.val_main_v39 (F := Ideal) (A0 m c) (A1 m c) (A2 m c) (A3 m c) (A4 m c)

theorem tile5 (hg : Good m c) (t : Fin cfg0.N) (r : Fin 256) (l : Fin 1024) :
    (outsAt0 m c t.val t.isLt).1 (ix2 r l) = K5 m c (ix2 (row t r) l) := by
  exact (dx_at m c t r l).trans (same_dx m c hg t r l)

theorem emb5 (t : Fin cfg0.N) (r : Fin 256) (l : Fin 1024) : ((cfg0.win 5).blk t).view.emb (ix2 r l) = (ix2 (row t r) l : S4096x1024.Idx) := by
  obtain ⟨e0, e1⟩ := at5 t
  funext a; apply Fin.ext
  match a with
  | ⟨0, _⟩ => show win0_5.index t (0 : Fin 2) * 256 + 1 * r.val = 256 * t.val + r.val; omega
  | ⟨1, _⟩ => show win0_5.index t (1 : Fin 2) * 1024 + 1 * l.val = l.val; omega

theorem covered5_at (i : Fin 4096) (l : Fin 1024) : ∃ t : Fin cfg0.N, (cfg0.win 5).flush t = true ∧ (ix2 i l : S4096x1024.Idx) ∈ ((cfg0.win 5).blk t).view.set := by
  have hl : i.val / 256 < cfg0.N := by rw [show cfg0.N = 16 from N_0]; omega
  refine ⟨⟨i.val / 256, hl⟩, (by decide +kernel : ∀ t : Fin grid0.N, win0_5.flush t = true) _, ?_⟩
  have h := ((cfg0.win 5).blk (⟨i.val / 256, hl⟩ : Fin cfg0.N)).view.emb_mem_set (ix2 (⟨i.val % 256, Nat.mod_lt _ (by decide)⟩ : Fin 256) l)
  rw [emb5] at h
  have e : row (⟨i.val / 256, hl⟩ : Fin cfg0.N) ⟨i.val % 256, Nat.mod_lt _ (by decide)⟩ = i := Fin.ext (by show 256 * (i.val / 256) + i.val % 256 = i.val; omega)
  rwa [e] at h

theorem final5 (hg : Good m c) : (dats m 0 c).arrAt 5 cfg0.N = K5 m c :=
  (dats m 0 c).arrAt_eq_of_cover 5 (K5 m c) (fun t _ => by
    rw [flushed5]
    funext j
    show (outsAt0 m c t.val t.isLt).1 j = K5 m c (((cfg0.win 5).blk t).view.emb j)
    rw [eq_ix2 (n0 := 256) (n1 := 1024) j]
    exact (tile5 m c hg t (j 0) (j 1)).trans (congrArg (K5 m c) (emb5 t (j 0) (j 1)).symm))
    (fun i => by rw [eq_ix2 (n0 := 4096) (n1 := 1024) i]; exact covered5_at (i 0) (i 1))

theorem at6 : ∀ t : Fin cfg0.N, win0_6.index t (0 : Fin 2) = 0 ∧ win0_6.index t (1 : Fin 2) = 0 := (by decide +kernel : ∀ t : Fin grid0.N, _)

abbrev K6 : Vec Ideal S1x1024 .f32 := Cert.InBwdRefIdeal.Read.val_main_v40 (F := Ideal) (A0 m c) (A2 m c) (A3 m c)

theorem emb6 (t : Fin cfg0.N) (r : Fin 1) (l : Fin 1024) : ((cfg0.win 6).blk t).view.emb (ix2 r l) = (ix2 r l : S1x1024.Idx) := by
  obtain ⟨e0, e1⟩ := at6 t
  funext a; apply Fin.ext
  match a with
  | ⟨0, _⟩ => show win0_6.index t (0 : Fin 2) * 1 + 1 * r.val = r.val; omega
  | ⟨1, _⟩ => show win0_6.index t (1 : Fin 2) * 1024 + 1 * l.val = l.val; omega

theorem tile6 (t : Fin cfg0.N) (h : t.val % 16 = 15) (r : Fin 1) (l : Fin 1024) : ((outsAt0 m c t.val t.isLt).2 (ix2 r l) : EReal) = K6 m c (ix2 r l) := by
  have h15 : t.val = 15 := by have := ltN t; omega
  obtain rfl : r = 0 := Subsingleton.elim _ _
  obtain ⟨n, hn⟩ := t
  obtain rfl : n = 15 := h15
  refine (dg_at m c l 15 hn).trans (Eq.trans ?_ (v40_at _ _ _ l).symm)
  rw [sum_blocks]
  exact Finset.sum_congr rfl fun t _ => Finset.sum_congr rfl fun r _ => mul_comm _ _

theorem covered6_at (r : Fin 1) (l : Fin 1024) : ∃ t : Fin cfg0.N, (cfg0.win 6).flush t = true ∧ (ix2 r l : S1x1024.Idx) ∈ ((cfg0.win 6).blk t).view.set := by
  have h15 : 15 < cfg0.N := by rw [show cfg0.N = 16 from N_0]; omega
  refine ⟨⟨15, h15⟩, (flush0_6 _).mpr rfl, ?_⟩
  have h := ((cfg0.win 6).blk (⟨15, h15⟩ : Fin cfg0.N)).view.emb_mem_set (ix2 r l)
  rwa [emb6] at h

theorem final6 : (dats m 0 c).arrAt 6 cfg0.N = K6 m c :=
  (dats m 0 c).arrAt_eq_of_cover 6 (K6 m c) (fun t hf => by
    have h := (flush0_6 t).mp hf
    rw [flushed6]
    funext j
    show (outsAt0 m c t.val t.isLt).2 j = K6 m c (((cfg0.win 6).blk t).view.emb j)
    rw [eq_ix2 (n0 := 1) (n1 := 1024) j]
    exact (tile6 m c t h (j 0) (j 1)).trans (congrArg (K6 m c) (emb6 t (j 0) (j 1)).symm))
    (fun i => by rw [eq_ix2 (n0 := 1) (n1 := 1024) i]; exact covered6_at (i 0) (i 1))

theorem frame_r : Cert.quiescent_InBwdRefIdeal := by
  intro m ρ _
  exact (θ_run Cert.InBwdRefIdeal.defs _ _).mono (fun r h => ⟨fun c => (h c).2.2, Idealize.ShloMosaic.sem_eq_zero_of_no_sems (by decide) r.2⟩)
    (Cert.InBwdRefIdeal.Value.run (F := Ideal) m ρ)

theorem algebraic : Cert.algebraic_InBwdIdeal_InBwdRefIdeal_pre_in_finite := by
  intro m ρ m' ρ' hpre hag
  refine ⟨fun c => (dats m 0 c).arrAt 5 cfg0.N, fun c => (dats m 0 c).arrAt 6 cfg0.N, run_blocks m ρ, ?_⟩
  refine (θ_run Cert.InBwdRefIdeal.defs _ _).mono (fun r h c => ?_) (Cert.InBwdRefIdeal.Value.run (F := Ideal) m' ρ')
  obtain ⟨r5, r6, ra⟩ := h c
  obtain ⟨g0, g1, g2, g3, g4⟩ := hag c
  refine ⟨?_, ?_, ra⟩
  · refine (r5.trans (Cert.InBwdRefIdeal.Read.val_main_v39_eq _ _)).trans ?_
    rw [g0, g1, g2, g3, g4]
    exact (final5 m c (good m hpre c)).symm
  · refine (r6.trans (Cert.InBwdRefIdeal.Read.val_main_v40_eq _ _ _)).trans ?_
    rw [g0, g2, g3]
    exact (final6 m c).symm

end Cert.InBwdVal

end
-- ==== Proof.InFwdVal.lean ====
/- Hand-written, untrusted: THE INPUT PROJECTION'S FORWARD CALL (norm, then one product cut in five) writes, block by block, the rows of the reference's results. -/
module

public import proofs.«01_k».proof.Proof.Mat
public import proofs.«01_k».proof.Proof.Norm
public import proofs.«01_k».proof.Proof.Gen.InFwdIdeal.Value
public import proofs.«01_k».proof.Proof.Gen.InFwdRefIdeal.Run
public import proofs.«01_k».proof.Proof.Gen.InFwdRefIdeal.Read
public import proofs.«01_k».proof.Defs

@[expose] public section

set_option maxRecDepth 16384

noncomputable section

namespace Cert.InFwdVal

open Cert.InFwdIdeal Cert.InFwdIdeal.Gen Cert.InFwdIdeal.Value Cert.Mat Idealize.ShloMosaic Idealize.ShloMosaic.TcCoe Idealize.SL.Sem

variable (m : (ℓ : Loc nD τ sig) → Buf (Elt Ideal) ℓ) (c : Dev nD)

abbrev A0 : Vec Ideal S4096x1024 .f32 := m ((c : Thread nD τ).loc main_arg0)
abbrev A1 : Vec Ideal S1024 .f32 := m ((c : Thread nD τ).loc main_arg1)
abbrev A2 : Vec Ideal S1024x3584 .f32 := m ((c : Thread nD τ).loc main_arg2)

theorem ltN (t : Fin cfg0.N) : t.val < 16 := lt_of_lt_of_eq t.isLt (show cfg0.N = 16 from N_0)

/-- Row `r` of block `t`. -/
abbrev row (t : Fin cfg0.N) (r : Fin 256) : Fin 4096 := ⟨256 * t.val + r.val, by have := ltN t; omega⟩

theorem V_g (l : Fin 1024) : V m c main_v0 (ix2 (0 : Fin 1) l) = A1 m c (ix1 l) := by
  have h : V m c main_v0 = (shapeCast S1x1024 (A1 m c) shapeCasts_S1024_S1x1024 : Vec Ideal S1x1024 .f32) := by
    show StableHlo.after hostOps0 _ (Proc.devRef .tc main_v0) = _
    simp only [hostOps0]
    after_results
    rfl
  rw [h]
  simp only [pointwise]

theorem V_w : V m c main_v1 = (truncf (F := Ideal) .bf16 (A2 m c) bitsLt_bf16_f32 : Vec Ideal S1024x3584 .bf16) := by
  show StableHlo.after hostOps0 _ (Proc.devRef .tc main_v1) = _
  simp only [hostOps0]
  after_results

theorem at0 : ∀ t : Fin cfg0.N, win0_0.index t (0 : Fin 2) = t.val ∧ win0_0.index t (1 : Fin 2) = 0 := (by decide +kernel : ∀ t : Fin grid0.N, _)
theorem b0 (t : Fin cfg0.N) (r : Fin 256) (l : Fin 1024) : (iblk m c 0 t : Vec Ideal S256x1024 .f32) (ix2 r l) = A0 m c (ix2 (row t r) l) := by
  obtain ⟨e0, e1⟩ := at0 t
  show V m c main_arg0 (((cfg0.win 0).blk t).view.emb (ix2 r l)) = _
  rw [V_main_arg0]
  refine congrArg (A0 m c) (funext fun a => Fin.ext ?_)
  match a with
  | ⟨0, _⟩ => show win0_0.index t (0 : Fin 2) * 256 + 1 * r.val = 256 * t.val + r.val; omega
  | ⟨1, _⟩ => show win0_0.index t (1 : Fin 2) * 1024 + 1 * l.val = l.val; omega

theorem at1 : ∀ t : Fin cfg0.N, win0_1.index t (0 : Fin 2) = 0 ∧ win0_1.index t (1 : Fin 2) = 0 := (by decide +kernel : ∀ t : Fin grid0.N, _)
theorem b1 (t : Fin cfg0.N) (r : Fin 1) (l : Fin 1024) : (iblk m c 1 t : Vec Ideal S1x1024 .f32) (ix2 r l) = A1 m c (ix1 l) := by
  obtain ⟨e0, e1⟩ := at1 t
  show V m c main_v0 (((cfg0.win 1).blk t).view.emb (ix2 r l)) = _
  have he : ((cfg0.win 1).blk t).view.emb (ix2 r l) = (ix2 r l : S1x1024.Idx) := funext fun a => Fin.ext (by
    match a with
    | ⟨0, _⟩ => show win0_1.index t (0 : Fin 2) * 1 + 1 * r.val = r.val; omega
    | ⟨1, _⟩ => show win0_1.index t (1 : Fin 2) * 1024 + 1 * l.val = l.val; omega)
  rw [he, Subsingleton.elim r 0]
  exact V_g m c l

theorem at2 : ∀ t : Fin cfg0.N, win0_2.index t (0 : Fin 2) = 0 ∧ win0_2.index t (1 : Fin 2) = 0 := (by decide +kernel : ∀ t : Fin grid0.N, _)
theorem b2 (t : Fin cfg0.N) (r : Fin 1024) (l : Fin 3584) : (iblk m c 2 t : Vec Ideal S1024x3584 .bf16) (ix2 r l) = A2 m c (ix2 r l) := by
  obtain ⟨e0, e1⟩ := at2 t
  show V m c main_v1 (((cfg0.win 2).blk t).view.emb (ix2 r l)) = _
  have he : ((cfg0.win 2).blk t).view.emb (ix2 r l) = (ix2 r l : S1024x3584.Idx) := funext fun a => Fin.ext (by
    match a with
    | ⟨0, _⟩ => show win0_2.index t (0 : Fin 2) * 1024 + 1 * r.val = r.val; omega
    | ⟨1, _⟩ => show win0_2.index t (1 : Fin 2) * 3584 + 1 * l.val = l.val; omega)
  rw [he, V_w]
  rfl

theorem norm_at (x0 : Vec Ideal S256x1024 .f32) (x1 : Vec Ideal S1x1024 .f32) (r : Fin 256) (l : Fin 1024) :
    (k0_pay3 (F := Ideal) x0 x1 (ix2 r l) : EReal) = x0 (ix2 r l) * rs (fun k => x0 (ix2 r k)) * x1 (ix2 0 l) := by
  unfold k0_pay3
  simp only [pointwise]
  rfl

theorem refnorm_at (x0 : Vec Ideal S4096x1024 .f32) (x1 : Vec Ideal S1024 .f32) (i : Fin 4096) (l : Fin 1024) :
    (Cert.InFwdRefIdeal.Read.val_main_v12 (F := Ideal) x0 x1 (ix2 i l) : EReal) = x0 (ix2 i l) * rs (fun k => x0 (ix2 i k)) * x1 (ix1 l) := by
  have e : ∀ k : Fin 1024, Cert.InFwdRefIdeal.Read.idx_main_v1 (Cert.InFwdRefIdeal.Read.idx_main_v2 (Cert.InFwdRefIdeal.Read.idx_main_v8 (ix2 i l))) k = (ix2 i k : S4096x1024.Idx) :=
    fun k => funext fun a => Fin.ext (by
      match a with
      | ⟨0, _⟩ => rfl
      | ⟨1, _⟩ => rfl)
  have e2 : Cert.InFwdRefIdeal.Read.idx_main_v10 (Cert.InFwdRefIdeal.Read.idx_main_v11 (ix2 i l)) = (ix1 l : S1024.Idx) :=
    funext fun a => Fin.ext (by
      match a with
      | ⟨0, _⟩ => rfl)
  have z : (FloatOps.ofBits (F := Ideal) .f32 0x00000000#32 : EReal) = 0 := zero_word
  simp only [Cert.InFwdRefIdeal.Read.val_main_v12_apply, Cert.InFwdRefIdeal.Read.val_main_v11_apply, Cert.InFwdRefIdeal.Read.val_main_v10_apply, Cert.InFwdRefIdeal.Read.val_main_v9_apply, Cert.InFwdRefIdeal.Read.val_main_v8_apply, Cert.InFwdRefIdeal.Read.val_main_v7_apply, Cert.InFwdRefIdeal.Read.val_main_v6_apply, Cert.InFwdRefIdeal.Read.val_main_v5_apply, Cert.InFwdRefIdeal.Read.val_main_v4_apply, Cert.InFwdRefIdeal.Read.val_main_v3_apply, Cert.InFwdRefIdeal.Read.val_main_v2_apply, Cert.InFwdRefIdeal.Read.val_main_v1_apply, Cert.InFwdRefIdeal.Read.val_main_v0_apply, Cert.InFwdRefIdeal.Read.val_main_cst_apply, Cert.InFwdRefIdeal.Read.val_main_cst_0_apply, Cert.InFwdRefIdeal.Read.val_main_cst_1_apply, e, e2]
  rw [z, zero_add]
  rfl

theorem ref_at (x0 : Vec Ideal S4096x1024 .f32) (x1 : Vec Ideal S1024 .f32) (x2 : Vec Ideal S1024x3584 .f32) (i : Fin 4096) (q : Fin 3584) :
    (Cert.InFwdRefIdeal.Read.val_main_v13 (F := Ideal) x0 x1 x2 (ix2 i q) : EReal) = ∑ k : Fin 1024, Cert.InFwdRefIdeal.Read.val_main_v12 (F := Ideal) x0 x1 (ix2 i k) * x2 (ix2 k q) :=
  hmm (M := 4096) (K := 1024) (N := 3584) none _ _ i q

theorem row_at (t : Fin cfg0.N) (r : Fin 256) (l : Fin 1024) :
    (k0_pay3 (F := Ideal) (iblk m c 0 t) (iblk m c 1 t) (ix2 r l) : EReal) = Cert.InFwdRefIdeal.Read.val_main_v12 (F := Ideal) (A0 m c) (A1 m c) (ix2 (row t r) l) := by
  have hb : (fun k => (iblk m c 0 t : Vec Ideal S256x1024 .f32) (ix2 r k)) = fun k => A0 m c (ix2 (row t r) k) := funext fun k => b0 m c t r k
  refine (norm_at _ _ r l).trans ?_
  rw [b0, b1, hb]
  exact (refnorm_at _ _ (row t r) l).symm

theorem pay4_at (x0 : Vec Ideal S256x1024 .f32) (x1 : Vec Ideal S1x1024 .f32) (y : Vec Ideal S1024x1536 .bf16) (r : Fin 256) (l : Fin 1536) :
    (k0_pay4 (F := Ideal) x0 x1 y (ix2 r l) : EReal) = ∑ k : Fin 1024, k0_pay3 (F := Ideal) x0 x1 (ix2 r k) * y (ix2 k l) := by
  unfold k0_pay4
  rw [shapeCast_id]
  exact kmm (φ₁ := .bf16) (φ₂ := .bf16) (M := 256) (K := 1024) (N := 1536) none _ _ r l

theorem at3 : ∀ t : Fin cfg0.N, win0_3.index t (0 : Fin 2) = t.val ∧ win0_3.index t (1 : Fin 2) = 0 := (by decide +kernel : ∀ t : Fin grid0.N, _)

abbrev K3 : Vec Ideal S4096x1536 .f32 := Cert.InFwdRefIdeal.Read.val_main_v14 (F := Ideal) (A0 m c) (A1 m c) (A2 m c)

theorem tile3 (t : Fin cfg0.N) (r : Fin 256) (l : Fin 1536) :
    out0_3 (iblk m c 0 t) (iblk m c 1 t) (iblk m c 2 t) (ix2 r l) = K3 m c (ix2 (row t r) l) := by
  unfold out0_3
  rw [View.canon_unit_zero off2, View.ld_unit_zero off2, View.ld_unit_zero off2]
  refine (pay4_at _ _ _ r l).trans (Eq.trans ?_ (ref_at (A0 m c) (A1 m c) (A2 m c) (row t r) (⟨0 + l.val, by omega⟩ : Fin 3584)).symm) |>.trans ?_
  · refine Finset.sum_congr rfl fun k _ => ?_
    rw [row_at]
    refine congrArg (fun z : EReal => (Cert.InFwdRefIdeal.Read.val_main_v12 (F := Ideal) (A0 m c) (A1 m c) (ix2 (row t r) k) : EReal) * z) (Eq.trans ?_ (b2 m c t k (⟨0 + l.val, by omega⟩ : Fin 3584)))
    refine congrArg (iblk m c 2 t : Vec Ideal S1024x3584 .bf16) (funext fun a => Fin.ext ?_)
    match a with
    | ⟨0, _⟩ => show 0 + 1 * k.val = k.val; omega
    | ⟨1, _⟩ => show 0 + 1 * l.val = 0 + l.val; omega
  · refine Eq.trans ?_ (Cert.InFwdRefIdeal.Read.val_main_v14_apply (F := Ideal) _ _ _ (ix2 (row t r) l)).symm
    refine congrArg (Cert.InFwdRefIdeal.Read.val_main_v13 (F := Ideal) (A0 m c) (A1 m c) (A2 m c)) (funext fun a => Fin.ext ?_)
    match a with
    | ⟨0, _⟩ => rfl
    | ⟨1, _⟩ => exact Nat.zero_add _

theorem emb3 (t : Fin cfg0.N) (r : Fin 256) (l : Fin 1536) : ((cfg0.win 3).blk t).view.emb (ix2 r l) = (ix2 (row t r) l : S4096x1536.Idx) := by
  obtain ⟨e0, e1⟩ := at3 t
  funext a; apply Fin.ext
  match a with
  | ⟨0, _⟩ => show win0_3.index t (0 : Fin 2) * 256 + 1 * r.val = 256 * t.val + r.val; omega
  | ⟨1, _⟩ => show win0_3.index t (1 : Fin 2) * 1536 + 1 * l.val = l.val; omega

theorem covered3_at (i : Fin 4096) (l : Fin 1536) : ∃ t : Fin cfg0.N, (cfg0.win 3).flush t = true ∧ (ix2 i l : S4096x1536.Idx) ∈ ((cfg0.win 3).blk t).view.set := by
  have hl : i.val / 256 < cfg0.N := by rw [show cfg0.N = 16 from N_0]; omega
  refine ⟨⟨i.val / 256, hl⟩, (by decide +kernel : ∀ t : Fin grid0.N, win0_3.flush t = true) _, ?_⟩
  have h := ((cfg0.win 3).blk (⟨i.val / 256, hl⟩ : Fin cfg0.N)).view.emb_mem_set (ix2 (⟨i.val % 256, Nat.mod_lt _ (by decide)⟩ : Fin 256) l)
  rw [emb3] at h
  have e : row (⟨i.val / 256, hl⟩ : Fin cfg0.N) ⟨i.val % 256, Nat.mod_lt _ (by decide)⟩ = i := Fin.ext (by show 256 * (i.val / 256) + i.val % 256 = i.val; omega)
  rwa [e] at h

theorem final3 : (dats m 0 c).arrAt 3 cfg0.N = K3 m c :=
  (dats m 0 c).arrAt_eq_of_cover 3 (K3 m c) (fun t _ => by
    rw [flushed3]
    funext j
    show out0_3 (iblk m c 0 t) (iblk m c 1 t) (iblk m c 2 t) j = K3 m c (((cfg0.win 3).blk t).view.emb j)
    rw [eq_ix2 (n0 := 256) (n1 := 1536) j]
    exact (tile3 m c t (j 0) (j 1)).trans (congrArg (K3 m c) (emb3 t (j 0) (j 1)).symm))
    (fun i => by rw [eq_ix2 (n0 := 4096) (n1 := 1536) i]; exact covered3_at (i 0) (i 1))

theorem pay5_at (x0 : Vec Ideal S256x1024 .f32) (x1 : Vec Ideal S1x1024 .f32) (y : Vec Ideal S1024x512 .bf16) (r : Fin 256) (l : Fin 512) :
    (k0_pay5 (F := Ideal) x0 x1 y (ix2 r l) : EReal) = ∑ k : Fin 1024, k0_pay3 (F := Ideal) x0 x1 (ix2 r k) * y (ix2 k l) := by
  unfold k0_pay5
  rw [shapeCast_id]
  exact kmm (φ₁ := .bf16) (φ₂ := .bf16) (M := 256) (K := 1024) (N := 512) none _ _ r l

theorem at4 : ∀ t : Fin cfg0.N, win0_4.index t (0 : Fin 2) = t.val ∧ win0_4.index t (1 : Fin 2) = 0 := (by decide +kernel : ∀ t : Fin grid0.N, _)

abbrev K4 : Vec Ideal S4096x512 .f32 := Cert.InFwdRefIdeal.Read.val_main_v15 (F := Ideal) (A0 m c) (A1 m c) (A2 m c)

theorem tile4 (t : Fin cfg0.N) (r : Fin 256) (l : Fin 512) :
    out0_4 (iblk m c 0 t) (iblk m c 1 t) (iblk m c 2 t) (ix2 r l) = K4 m c (ix2 (row t r) l) := by
  unfold out0_4
  rw [View.canon_unit_zero off2, View.ld_unit_zero off2, View.ld_unit_zero off2]
  refine (pay5_at _ _ _ r l).trans (Eq.trans ?_ (ref_at (A0 m c) (A1 m c) (A2 m c) (row t r) (⟨1536 + l.val, by omega⟩ : Fin 3584)).symm) |>.trans ?_
  · refine Finset.sum_congr rfl fun k _ => ?_
    rw [row_at]
    refine congrArg (fun z : EReal => (Cert.InFwdRefIdeal.Read.val_main_v12 (F := Ideal) (A0 m c) (A1 m c) (ix2 (row t r) k) : EReal) * z) (Eq.trans ?_ (b2 m c t k (⟨1536 + l.val, by omega⟩ : Fin 3584)))
    refine congrArg (iblk m c 2 t : Vec Ideal S1024x3584 .bf16) (funext fun a => Fin.ext ?_)
    match a with
    | ⟨0, _⟩ => show 0 + 1 * k.val = k.val; omega
    | ⟨1, _⟩ => show 1536 + 1 * l.val = 1536 + l.val; omega
  · refine Eq.trans ?_ (Cert.InFwdRefIdeal.Read.val_main_v15_apply (F := Ideal) _ _ _ (ix2 (row t r) l)).symm
    refine congrArg (Cert.InFwdRefIdeal.Read.val_main_v13 (F := Ideal) (A0 m c) (A1 m c) (A2 m c)) (funext fun a => Fin.ext ?_)
    match a with
    | ⟨0, _⟩ => rfl
    | ⟨1, _⟩ => rfl

theorem emb4 (t : Fin cfg0.N) (r : Fin 256) (l : Fin 512) : ((cfg0.win 4).blk t).view.emb (ix2 r l) = (ix2 (row t r) l : S4096x512.Idx) := by
  obtain ⟨e0, e1⟩ := at4 t
  funext a; apply Fin.ext
  match a with
  | ⟨0, _⟩ => show win0_4.index t (0 : Fin 2) * 256 + 1 * r.val = 256 * t.val + r.val; omega
  | ⟨1, _⟩ => show win0_4.index t (1 : Fin 2) * 512 + 1 * l.val = l.val; omega

theorem covered4_at (i : Fin 4096) (l : Fin 512) : ∃ t : Fin cfg0.N, (cfg0.win 4).flush t = true ∧ (ix2 i l : S4096x512.Idx) ∈ ((cfg0.win 4).blk t).view.set := by
  have hl : i.val / 256 < cfg0.N := by rw [show cfg0.N = 16 from N_0]; omega
  refine ⟨⟨i.val / 256, hl⟩, (by decide +kernel : ∀ t : Fin grid0.N, win0_4.flush t = true) _, ?_⟩
  have h := ((cfg0.win 4).blk (⟨i.val / 256, hl⟩ : Fin cfg0.N)).view.emb_mem_set (ix2 (⟨i.val % 256, Nat.mod_lt _ (by decide)⟩ : Fin 256) l)
  rw [emb4] at h
  have e : row (⟨i.val / 256, hl⟩ : Fin cfg0.N) ⟨i.val % 256, Nat.mod_lt _ (by decide)⟩ = i := Fin.ext (by show 256 * (i.val / 256) + i.val % 256 = i.val; omega)
  rwa [e] at h

theorem final4 : (dats m 0 c).arrAt 4 cfg0.N = K4 m c :=
  (dats m 0 c).arrAt_eq_of_cover 4 (K4 m c) (fun t _ => by
    rw [flushed4]
    funext j
    show out0_4 (iblk m c 0 t) (iblk m c 1 t) (iblk m c 2 t) j = K4 m c (((cfg0.win 4).blk t).view.emb j)
    rw [eq_ix2 (n0 := 256) (n1 := 512) j]
    exact (tile4 m c t (j 0) (j 1)).trans (congrArg (K4 m c) (emb4 t (j 0) (j 1)).symm))
    (fun i => by rw [eq_ix2 (n0 := 4096) (n1 := 512) i]; exact covered4_at (i 0) (i 1))

theorem pay6_at (x0 : Vec Ideal S256x1024 .f32) (x1 : Vec Ideal S1x1024 .f32) (y : Vec Ideal S1024x128 .bf16) (r : Fin 256) (l : Fin 128) :
    (k0_pay6 (F := Ideal) x0 x1 y (ix2 r l) : EReal) = ∑ k : Fin 1024, k0_pay3 (F := Ideal) x0 x1 (ix2 r k) * y (ix2 k l) := by
  unfold k0_pay6
  rw [shapeCast_id]
  exact kmm (φ₁ := .bf16) (φ₂ := .bf16) (M := 256) (K := 1024) (N := 128) none _ _ r l

theorem at5 : ∀ t : Fin cfg0.N, win0_5.index t (0 : Fin 2) = t.val ∧ win0_5.index t (1 : Fin 2) = 0 := (by decide +kernel : ∀ t : Fin grid0.N, _)

abbrev K5 : Vec Ideal S4096x128 .f32 := Cert.InFwdRefIdeal.Read.val_main_v16 (F := Ideal) (A0 m c) (A1 m c) (A2 m c)

theorem tile5 (t : Fin cfg0.N) (r : Fin 256) (l : Fin 128) :
    out0_5 (iblk m c 0 t) (iblk m c 1 t) (iblk m c 2 t) (ix2 r l) = K5 m c (ix2 (row t r) l) := by
  unfold out0_5
  rw [View.canon_unit_zero off2, View.ld_unit_zero off2, View.ld_unit_zero off2]
  refine (pay6_at _ _ _ r l).trans (Eq.trans ?_ (ref_at (A0 m c) (A1 m c) (A2 m c) (row t r) (⟨2048 + l.val, by omega⟩ : Fin 3584)).symm) |>.trans ?_
  · refine Finset.sum_congr rfl fun k _ => ?_
    rw [row_at]
    refine congrArg (fun z : EReal => (Cert.InFwdRefIdeal.Read.val_main_v12 (F := Ideal) (A0 m c) (A1 m c) (ix2 (row t r) k) : EReal) * z) (Eq.trans ?_ (b2 m c t k (⟨2048 + l.val, by omega⟩ : Fin 3584)))
    refine congrArg (iblk m c 2 t : Vec Ideal S1024x3584 .bf16) (funext fun a => Fin.ext ?_)
    match a with
    | ⟨0, _⟩ => show 0 + 1 * k.val = k.val; omega
    | ⟨1, _⟩ => show 2048 + 1 * l.val = 2048 + l.val; omega
  · refine Eq.trans ?_ (Cert.InFwdRefIdeal.Read.val_main_v16_apply (F := Ideal) _ _ _ (ix2 (row t r) l)).symm
    refine congrArg (Cert.InFwdRefIdeal.Read.val_main_v13 (F := Ideal) (A0 m c) (A1 m c) (A2 m c)) (funext fun a => Fin.ext ?_)
    match a with
    | ⟨0, _⟩ => rfl
    | ⟨1, _⟩ => rfl

theorem emb5 (t : Fin cfg0.N) (r : Fin 256) (l : Fin 128) : ((cfg0.win 5).blk t).view.emb (ix2 r l) = (ix2 (row t r) l : S4096x128.Idx) := by
  obtain ⟨e0, e1⟩ := at5 t
  funext a; apply Fin.ext
  match a with
  | ⟨0, _⟩ => show win0_5.index t (0 : Fin 2) * 256 + 1 * r.val = 256 * t.val + r.val; omega
  | ⟨1, _⟩ => show win0_5.index t (1 : Fin 2) * 128 + 1 * l.val = l.val; omega

theorem covered5_at (i : Fin 4096) (l : Fin 128) : ∃ t : Fin cfg0.N, (cfg0.win 5).flush t = true ∧ (ix2 i l : S4096x128.Idx) ∈ ((cfg0.win 5).blk t).view.set := by
  have hl : i.val / 256 < cfg0.N := by rw [show cfg0.N = 16 from N_0]; omega
  refine ⟨⟨i.val / 256, hl⟩, (by decide +kernel : ∀ t : Fin grid0.N, win0_5.flush t = true) _, ?_⟩
  have h := ((cfg0.win 5).blk (⟨i.val / 256, hl⟩ : Fin cfg0.N)).view.emb_mem_set (ix2 (⟨i.val % 256, Nat.mod_lt _ (by decide)⟩ : Fin 256) l)
  rw [emb5] at h
  have e : row (⟨i.val / 256, hl⟩ : Fin cfg0.N) ⟨i.val % 256, Nat.mod_lt _ (by decide)⟩ = i := Fin.ext (by show 256 * (i.val / 256) + i.val % 256 = i.val; omega)
  rwa [e] at h

theorem final5 : (dats m 0 c).arrAt 5 cfg0.N = K5 m c :=
  (dats m 0 c).arrAt_eq_of_cover 5 (K5 m c) (fun t _ => by
    rw [flushed5]
    funext j
    show out0_5 (iblk m c 0 t) (iblk m c 1 t) (iblk m c 2 t) j = K5 m c (((cfg0.win 5).blk t).view.emb j)
    rw [eq_ix2 (n0 := 256) (n1 := 128) j]
    exact (tile5 m c t (j 0) (j 1)).trans (congrArg (K5 m c) (emb5 t (j 0) (j 1)).symm))
    (fun i => by rw [eq_ix2 (n0 := 4096) (n1 := 128) i]; exact covered5_at (i 0) (i 1))

theorem pay1_at (x0 : Vec Ideal S256x1024 .f32) (x1 : Vec Ideal S1x1024 .f32) (y : Vec Ideal S1024x768 .bf16) (r : Fin 256) (l : Fin 768) :
    (k0_pay1 (F := Ideal) (k0_pay3 (F := Ideal) x0 x1) y (ix2 r l) : EReal) = ∑ k : Fin 1024, k0_pay3 (F := Ideal) x0 x1 (ix2 r k) * y (ix2 k l) := by
  unfold k0_pay1
  rw [shapeCast_id]
  exact kmm (φ₁ := .bf16) (φ₂ := .bf16) (M := 256) (K := 1024) (N := 768) none _ _ r l

theorem at6 : ∀ t : Fin cfg0.N, win0_6.index t (0 : Fin 2) = t.val ∧ win0_6.index t (1 : Fin 2) = 0 := (by decide +kernel : ∀ t : Fin grid0.N, _)

abbrev K6 : Vec Ideal S4096x768 .bf16 := Cert.InFwdRefIdeal.Read.val_main_v18 (F := Ideal) (A0 m c) (A1 m c) (A2 m c)

theorem tile6 (t : Fin cfg0.N) (r : Fin 256) (l : Fin 768) :
    out0_6 (iblk m c 0 t) (iblk m c 1 t) (iblk m c 2 t) (ix2 r l) = K6 m c (ix2 (row t r) l) := by
  unfold out0_6 k0_pay7
  rw [View.canon_unit_zero off2, View.ld_unit_zero off2, View.ld_unit_zero off2]
  refine (pay1_at _ _ _ r l).trans (Eq.trans ?_ (ref_at (A0 m c) (A1 m c) (A2 m c) (row t r) (⟨2304 + l.val, by omega⟩ : Fin 3584)).symm) |>.trans ?_
  · refine Finset.sum_congr rfl fun k _ => ?_
    rw [row_at]
    refine congrArg (fun z : EReal => (Cert.InFwdRefIdeal.Read.val_main_v12 (F := Ideal) (A0 m c) (A1 m c) (ix2 (row t r) k) : EReal) * z) (Eq.trans ?_ (b2 m c t k (⟨2304 + l.val, by omega⟩ : Fin 3584)))
    refine congrArg (iblk m c 2 t : Vec Ideal S1024x3584 .bf16) (funext fun a => Fin.ext ?_)
    match a with
    | ⟨0, _⟩ => show 0 + 1 * k.val = k.val; omega
    | ⟨1, _⟩ => show 2304 + 1 * l.val = 2304 + l.val; omega
  · refine Eq.trans ?_ (Cert.InFwdRefIdeal.Read.val_main_v17_apply (F := Ideal) _ _ _ (ix2 (row t r) l)).symm
    refine congrArg (Cert.InFwdRefIdeal.Read.val_main_v13 (F := Ideal) (A0 m c) (A1 m c) (A2 m c)) (funext fun a => Fin.ext ?_)
    match a with
    | ⟨0, _⟩ => rfl
    | ⟨1, _⟩ => rfl

theorem emb6 (t : Fin cfg0.N) (r : Fin 256) (l : Fin 768) : ((cfg0.win 6).blk t).view.emb (ix2 r l) = (ix2 (row t r) l : S4096x768.Idx) := by
  obtain ⟨e0, e1⟩ := at6 t
  funext a; apply Fin.ext
  match a with
  | ⟨0, _⟩ => show win0_6.index t (0 : Fin 2) * 256 + 1 * r.val = 256 * t.val + r.val; omega
  | ⟨1, _⟩ => show win0_6.index t (1 : Fin 2) * 768 + 1 * l.val = l.val; omega

theorem covered6_at (i : Fin 4096) (l : Fin 768) : ∃ t : Fin cfg0.N, (cfg0.win 6).flush t = true ∧ (ix2 i l : S4096x768.Idx) ∈ ((cfg0.win 6).blk t).view.set := by
  have hl : i.val / 256 < cfg0.N := by rw [show cfg0.N = 16 from N_0]; omega
  refine ⟨⟨i.val / 256, hl⟩, (by decide +kernel : ∀ t : Fin grid0.N, win0_6.flush t = true) _, ?_⟩
  have h := ((cfg0.win 6).blk (⟨i.val / 256, hl⟩ : Fin cfg0.N)).view.emb_mem_set (ix2 (⟨i.val % 256, Nat.mod_lt _ (by decide)⟩ : Fin 256) l)
  rw [emb6] at h
  have e : row (⟨i.val / 256, hl⟩ : Fin cfg0.N) ⟨i.val % 256, Nat.mod_lt _ (by decide)⟩ = i := Fin.ext (by show 256 * (i.val / 256) + i.val % 256 = i.val; omega)
  rwa [e] at h

theorem final6 : (dats m 0 c).arrAt 6 cfg0.N = K6 m c :=
  (dats m 0 c).arrAt_eq_of_cover 6 (K6 m c) (fun t _ => by
    rw [flushed6]
    funext j
    show out0_6 (iblk m c 0 t) (iblk m c 1 t) (iblk m c 2 t) j = K6 m c (((cfg0.win 6).blk t).view.emb j)
    rw [eq_ix2 (n0 := 256) (n1 := 768) j]
    exact (tile6 m c t (j 0) (j 1)).trans (congrArg (K6 m c) (emb6 t (j 0) (j 1)).symm))
    (fun i => by rw [eq_ix2 (n0 := 4096) (n1 := 768) i]; exact covered6_at (i 0) (i 1))

theorem pay2_at (x0 : Vec Ideal S256x1024 .f32) (x1 : Vec Ideal S1x1024 .f32) (y : Vec Ideal S1024x512 .bf16) (r : Fin 256) (l : Fin 512) :
    (k0_pay2 (F := Ideal) (k0_pay3 (F := Ideal) x0 x1) y (ix2 r l) : EReal) = ∑ k : Fin 1024, k0_pay3 (F := Ideal) x0 x1 (ix2 r k) * y (ix2 k l) := by
  unfold k0_pay2
  rw [shapeCast_id]
  exact kmm (φ₁ := .bf16) (φ₂ := .bf16) (M := 256) (K := 1024) (N := 512) none _ _ r l

theorem at7 : ∀ t : Fin cfg0.N, win0_7.index t (0 : Fin 2) = t.val ∧ win0_7.index t (1 : Fin 2) = 0 := (by decide +kernel : ∀ t : Fin grid0.N, _)

abbrev K7 : Vec Ideal S4096x512 .bf16 := Cert.InFwdRefIdeal.Read.val_main_v20 (F := Ideal) (A0 m c) (A1 m c) (A2 m c)

theorem tile7 (t : Fin cfg0.N) (r : Fin 256) (l : Fin 512) :
    out0_7 (iblk m c 0 t) (iblk m c 1 t) (iblk m c 2 t) (ix2 r l) = K7 m c (ix2 (row t r) l) := by
  unfold out0_7 k0_pay7
  rw [View.canon_unit_zero off2, View.ld_unit_zero off2, View.ld_unit_zero off2]
  refine (pay2_at _ _ _ r l).trans (Eq.trans ?_ (ref_at (A0 m c) (A1 m c) (A2 m c) (row t r) (⟨3072 + l.val, by omega⟩ : Fin 3584)).symm) |>.trans ?_
  · refine Finset.sum_congr rfl fun k _ => ?_
    rw [row_at]
    refine congrArg (fun z : EReal => (Cert.InFwdRefIdeal.Read.val_main_v12 (F := Ideal) (A0 m c) (A1 m c) (ix2 (row t r) k) : EReal) * z) (Eq.trans ?_ (b2 m c t k (⟨3072 + l.val, by omega⟩ : Fin 3584)))
    refine congrArg (iblk m c 2 t : Vec Ideal S1024x3584 .bf16) (funext fun a => Fin.ext ?_)
    match a with
    | ⟨0, _⟩ => show 0 + 1 * k.val = k.val; omega
    | ⟨1, _⟩ => show 3072 + 1 * l.val = 3072 + l.val; omega
  · refine Eq.trans ?_ (Cert.InFwdRefIdeal.Read.val_main_v19_apply (F := Ideal) _ _ _ (ix2 (row t r) l)).symm
    refine congrArg (Cert.InFwdRefIdeal.Read.val_main_v13 (F := Ideal) (A0 m c) (A1 m c) (A2 m c)) (funext fun a => Fin.ext ?_)
    match a with
    | ⟨0, _⟩ => rfl
    | ⟨1, _⟩ => rfl

theorem emb7 (t : Fin cfg0.N) (r : Fin 256) (l : Fin 512) : ((cfg0.win 7).blk t).view.emb (ix2 r l) = (ix2 (row t r) l : S4096x512.Idx) := by
  obtain ⟨e0, e1⟩ := at7 t
  funext a; apply Fin.ext
  match a with
  | ⟨0, _⟩ => show win0_7.index t (0 : Fin 2) * 256 + 1 * r.val = 256 * t.val + r.val; omega
  | ⟨1, _⟩ => show win0_7.index t (1 : Fin 2) * 512 + 1 * l.val = l.val; omega

theorem covered7_at (i : Fin 4096) (l : Fin 512) : ∃ t : Fin cfg0.N, (cfg0.win 7).flush t = true ∧ (ix2 i l : S4096x512.Idx) ∈ ((cfg0.win 7).blk t).view.set := by
  have hl : i.val / 256 < cfg0.N := by rw [show cfg0.N = 16 from N_0]; omega
  refine ⟨⟨i.val / 256, hl⟩, (by decide +kernel : ∀ t : Fin grid0.N, win0_7.flush t = true) _, ?_⟩
  have h := ((cfg0.win 7).blk (⟨i.val / 256, hl⟩ : Fin cfg0.N)).view.emb_mem_set (ix2 (⟨i.val % 256, Nat.mod_lt _ (by decide)⟩ : Fin 256) l)
  rw [emb7] at h
  have e : row (⟨i.val / 256, hl⟩ : Fin cfg0.N) ⟨i.val % 256, Nat.mod_lt _ (by decide)⟩ = i := Fin.ext (by show 256 * (i.val / 256) + i.val % 256 = i.val; omega)
  rwa [e] at h

theorem final7 : (dats m 0 c).arrAt 7 cfg0.N = K7 m c :=
  (dats m 0 c).arrAt_eq_of_cover 7 (K7 m c) (fun t _ => by
    rw [flushed7]
    funext j
    show out0_7 (iblk m c 0 t) (iblk m c 1 t) (iblk m c 2 t) j = K7 m c (((cfg0.win 7).blk t).view.emb j)
    rw [eq_ix2 (n0 := 256) (n1 := 512) j]
    exact (tile7 m c t (j 0) (j 1)).trans (congrArg (K7 m c) (emb7 t (j 0) (j 1)).symm))
    (fun i => by rw [eq_ix2 (n0 := 4096) (n1 := 512) i]; exact covered7_at (i 0) (i 1))

theorem at8 : ∀ t : Fin cfg0.N, win0_8.index t (0 : Fin 2) = t.val ∧ win0_8.index t (1 : Fin 2) = 0 := (by decide +kernel : ∀ t : Fin grid0.N, _)

abbrev K8 : Vec Ideal S4096x1024 .bf16 := Cert.InFwdRefIdeal.Read.val_main_v21 (F := Ideal) (A0 m c) (A1 m c)

theorem tile8 (t : Fin cfg0.N) (r : Fin 256) (l : Fin 1024) :
    out0_8 (iblk m c 0 t) (iblk m c 1 t) (iblk m c 2 t) (ix2 r l) = K8 m c (ix2 (row t r) l) := by
  unfold out0_8
  rw [View.canon_unit_zero off2, View.ld_unit_zero off2, View.ld_unit_zero off2]
  exact row_at m c t r l

theorem emb8 (t : Fin cfg0.N) (r : Fin 256) (l : Fin 1024) : ((cfg0.win 8).blk t).view.emb (ix2 r l) = (ix2 (row t r) l : S4096x1024.Idx) := by
  obtain ⟨e0, e1⟩ := at8 t
  funext a; apply Fin.ext
  match a with
  | ⟨0, _⟩ => show win0_8.index t (0 : Fin 2) * 256 + 1 * r.val = 256 * t.val + r.val; omega
  | ⟨1, _⟩ => show win0_8.index t (1 : Fin 2) * 1024 + 1 * l.val = l.val; omega

theorem covered8_at (i : Fin 4096) (l : Fin 1024) : ∃ t : Fin cfg0.N, (cfg0.win 8).flush t = true ∧ (ix2 i l : S4096x1024.Idx) ∈ ((cfg0.win 8).blk t).view.set := by
  have hl : i.val / 256 < cfg0.N := by rw [show cfg0.N = 16 from N_0]; omega
  refine ⟨⟨i.val / 256, hl⟩, (by decide +kernel : ∀ t : Fin grid0.N, win0_8.flush t = true) _, ?_⟩
  have h := ((cfg0.win 8).blk (⟨i.val / 256, hl⟩ : Fin cfg0.N)).view.emb_mem_set (ix2 (⟨i.val % 256, Nat.mod_lt _ (by decide)⟩ : Fin 256) l)
  rw [emb8] at h
  have e : row (⟨i.val / 256, hl⟩ : Fin cfg0.N) ⟨i.val % 256, Nat.mod_lt _ (by decide)⟩ = i := Fin.ext (by show 256 * (i.val / 256) + i.val % 256 = i.val; omega)
  rwa [e] at h

theorem final8 : (dats m 0 c).arrAt 8 cfg0.N = K8 m c :=
  (dats m 0 c).arrAt_eq_of_cover 8 (K8 m c) (fun t _ => by
    rw [flushed8]
    funext j
    show out0_8 (iblk m c 0 t) (iblk m c 1 t) (iblk m c 2 t) j = K8 m c (((cfg0.win 8).blk t).view.emb j)
    rw [eq_ix2 (n0 := 256) (n1 := 1024) j]
    exact (tile8 m c t (j 0) (j 1)).trans (congrArg (K8 m c) (emb8 t (j 0) (j 1)).symm))
    (fun i => by rw [eq_ix2 (n0 := 4096) (n1 := 1024) i]; exact covered8_at (i 0) (i 1))

theorem frame_r : Cert.quiescent_InFwdRefIdeal := by
  intro m ρ _
  exact (θ_run Cert.InFwdRefIdeal.defs _ _).mono (fun r h => ⟨fun c => (h c).2.2.2.2.2.2, Idealize.ShloMosaic.sem_eq_zero_of_no_sems (by decide) r.2⟩)
    (Cert.InFwdRefIdeal.Value.run (F := Ideal) m ρ)

theorem algebraic : Cert.algebraic_InFwdIdeal_InFwdRefIdeal := by
  intro m ρ m' ρ' _ hag
  refine ⟨fun c => (dats m 0 c).arrAt 3 cfg0.N, fun c => (dats m 0 c).arrAt 4 cfg0.N, fun c => (dats m 0 c).arrAt 5 cfg0.N, fun c => (dats m 0 c).arrAt 6 cfg0.N, fun c => (dats m 0 c).arrAt 7 cfg0.N, fun c => (dats m 0 c).arrAt 8 cfg0.N, run_blocks m ρ, ?_⟩
  refine (θ_run Cert.InFwdRefIdeal.defs _ _).mono (fun r h c => ?_) (Cert.InFwdRefIdeal.Value.run (F := Ideal) m' ρ')
  obtain ⟨r3, r4, r5, r6, r7, r8, ra⟩ := h c
  obtain ⟨g0, g1, g2⟩ := hag c
  refine ⟨?_, ?_, ?_, ?_, ?_, ?_, ra⟩
  · refine (r3.trans (Cert.InFwdRefIdeal.Read.val_main_v14_eq _ _ _)).trans ?_
    rw [g0, g1, g2]
    exact (final3 m c).symm
  · refine (r4.trans (Cert.InFwdRefIdeal.Read.val_main_v15_eq _ _ _)).trans ?_
    rw [g0, g1, g2]
    exact (final4 m c).symm
  · refine (r5.trans (Cert.InFwdRefIdeal.Read.val_main_v16_eq _ _ _)).trans ?_
    rw [g0, g1, g2]
    exact (final5 m c).symm
  · refine (r6.trans (Cert.InFwdRefIdeal.Read.val_main_v18_eq _ _ _)).trans ?_
    rw [g0, g1, g2]
    exact (final6 m c).symm
  · refine (r7.trans (Cert.InFwdRefIdeal.Read.val_main_v20_eq _ _ _)).trans ?_
    rw [g0, g1, g2]
    exact (final7 m c).symm
  · refine (r8.trans (Cert.InFwdRefIdeal.Read.val_main_v21_eq _ _)).trans ?_
    rw [g0, g1]
    exact (final8 m c).symm

end Cert.InFwdVal

end
-- ==== Proof.DwFf1Val.lean ====
/- Hand-written, untrusted: THE FIRST FEED-FORWARD WEIGHT'S GRADIENT CALL sums the two halves of the rows, block by block; the reference
   sums all rows at once. -/
module

public import proofs.«01_k».proof.Proof.Mat
public import proofs.«01_k».proof.Proof.Gen.DwFf1Ideal.Value
public import proofs.«01_k».proof.Proof.Gen.DwFf1RefIdeal.Run
public import proofs.«01_k».proof.Proof.Gen.DwFf1RefIdeal.Read
public import proofs.«01_k».proof.Defs

@[expose] public section

set_option maxRecDepth 16384

noncomputable section

namespace Cert.DwFf1Val

open Cert.DwFf1Ideal Cert.DwFf1Ideal.Gen Cert.DwFf1Ideal.Value Cert.Mat Idealize.ShloMosaic Idealize.ShloMosaic.TcCoe Idealize.SL.Sem
open Idealize.ShloMosaic.Tactic

/-! ### What the two cases leave, as payloads -/

abbrev XA := Vec Ideal S2048x1024 .bf16
abbrev XC := Vec Ideal S2048x1024 .bf16
abbrev XS := Vec Ideal S1024x1024 .f32

set_option maxHeartbeats 16000000 in
theorem sout_A (c : Dev nD) (i : grid0.Coords) (arg3 : Memref sig .tc .vmem S2048x1024 .bf16) (harg3 : arg3.IsWhole)
    (arg4 : Memref sig .tc .vmem S2048x1024 .bf16) (harg4 : arg4.IsWhole) (arg5 : Memref sig .tc .vmem S1x1024x1024 .bf16) (harg5 : arg5.IsWhole)
    (arg6 : Memref sig .tc .vmem S1024x1024 .f32) (harg6 : arg6.IsWhole) (hc0) (hc1) (x0 : XA) (x1 : XC) :
    sout0_A_0 c i arg3 harg3 arg4 harg4 arg5 harg5 arg6 harg6 hc0 hc1 x0 x1 = k0_pay2 (F := Ideal) (k0_pay1 (F := Ideal)) x0 x1 := by
  unfold sout0_A_0
  rw [View.read_writes_eq_canon _ _ _ (scover0_A_0 c _ _ _ _ _ _ _ _ _ _ _ _ _)]
  unfold kernelRun0_A
  dsimp only
  sl_unfold_words
  simp only [View.readAt_eq_ld, harg3.read_unread, harg4.read_unread, harg5.read_unread, harg6.read_unread, View.readCov_eq_canon']
  rw [View.canon_cons_unit_zero off2]
  simp only [View.ld_unit_zero (S := S2048x1024) off2, View.ld_unit_zero (S := S1024x1024) off2, View.canon_unit_zero (S := S1024x1024) off2]
  rfl

set_option maxHeartbeats 16000000 in
theorem out_B (c : Dev nD) (i : grid0.Coords) (arg3 : Memref sig .tc .vmem S2048x1024 .bf16) (harg3 : arg3.IsWhole)
    (arg4 : Memref sig .tc .vmem S2048x1024 .bf16) (harg4 : arg4.IsWhole) (arg5 : Memref sig .tc .vmem S1x1024x1024 .bf16) (harg5 : arg5.IsWhole)
    (arg6 : Memref sig .tc .vmem S1024x1024 .f32) (harg6 : arg6.IsWhole) (hc0) (hc1) (x0 : XA) (x1 : XC) (xs : XS) :
    out0_B_2 c i arg3 harg3 arg4 harg4 arg5 harg5 arg6 harg6 hc0 hc1 x0 x1 xs = k0_pay3 (F := Ideal) (k0_pay2 (F := Ideal) xs x0 x1) := by
  unfold out0_B_2
  rw [View.read_writes_eq_canon _ _ _ (cover0_B_2 c _ _ _ _ _ _ _ _ _ _ _ _ _ _)]
  unfold kernelRun0_B
  dsimp only
  sl_unfold_words
  simp only [View.readAt_eq_ld, harg3.read_unread, harg4.read_unread, harg5.read_unread, harg6.read_unread, View.readCov_eq_canon']
  rw [View.canon_cons_unit_zero off3]
  simp only [View.ld_unit_zero (S := S2048x1024) off2, View.ld_unit_zero (S := S1024x1024) off2, View.canon_unit_zero (S := S1024x1024) off2]
  refine congrArg (k0_pay3 (F := Ideal)) (funext fun j => ?_)
  exact congrArg (k0_pay2 (F := Ideal) xs x0 x1) (funext fun a => Fin.ext (by
    match a with
    | ⟨0, _⟩ => show 0 + 1 * (j 0).val = (j 0).val; omega
    | ⟨1, _⟩ => show 0 + 1 * (j 1).val = (j 1).val; omega))

theorem pay1_at (r : Fin 1024) (j : Fin 1024) : (k0_pay1 (F := Ideal) (ix2 r j) : EReal) = 0 := by
  unfold k0_pay1
  rw [shapeCast_id]
  exact zero_word

theorem pay2_at (a : XS) (x0 : XA) (x1 : XC) (r : Fin 1024) (j : Fin 1024) :
    (k0_pay2 (F := Ideal) a x0 x1 (ix2 r j) : EReal) = a (ix2 r j) + ∑ k : Fin 2048, x0 (ix2 k r) * x1 (ix2 k j) := by
  unfold k0_pay2
  rw [shapeCast_id]
  show (a (ix2 r j) : EReal) + matmul (F := Ideal) dot_S2048x1024_S2048x1024_S1024x1024_0_0_1_1_n_n none x0 x1 _ (ix2 r j) = _
  refine congrArg (a (ix2 r j) + ·) ?_
  exact kmm_tn (M := 1024) (K := 2048) (N := 1024) none _ _ r j

theorem pay3_at (a : XS) (r : Fin 1024) (j : Fin 1024) : (k0_pay3 (F := Ideal) a (ix3 0 r j) : EReal) = a (ix2 r j) := by
  unfold k0_pay3
  simp only [pointwise]

/-! ### The blocks -/

variable (m : (ℓ : Loc nD τ sig) → Buf (Elt Ideal) ℓ) (c : Dev nD)

abbrev A0 : Vec Ideal S4096x1024 .bf16 := m ((c : Thread nD τ).loc main_arg0)
abbrev A2 : Vec Ideal S4096x4096 .bf16 := m ((c : Thread nD τ).loc main_arg2)

theorem at0 : ∀ t : Fin cfg0.N, win0_0.index t (0 : Fin 2) = t.val % 2 ∧ win0_0.index t (1 : Fin 2) = 0 := (by decide +kernel : ∀ t : Fin grid0.N, _)
theorem at1 : ∀ t : Fin cfg0.N, win0_1.index t (0 : Fin 2) = t.val % 2 ∧ win0_1.index t (1 : Fin 2) = t.val / 2 := (by decide +kernel : ∀ t : Fin grid0.N, _)
theorem at2 : ∀ t : Fin cfg0.N, win0_2.index t (0 : Fin 3) = t.val / 2 ∧ win0_2.index t (1 : Fin 3) = 0 ∧ win0_2.index t (2 : Fin 3) = 0 := (by decide +kernel : ∀ t : Fin grid0.N, _)
theorem ltN (t : Fin cfg0.N) : t.val < 8 := lt_of_lt_of_eq t.isLt (show cfg0.N = 8 from N_0)

/-- Row `k` of the half point `t` reads, and the columns its blocks cover. -/
abbrev row (t : Fin cfg0.N) (k : Fin 2048) : Fin 4096 := ⟨2048 * (t.val % 2) + k.val, by omega⟩
abbrev colA (_t : Fin cfg0.N) (r : Fin 1024) : Fin 1024 := r
abbrev qOf (t : Fin cfg0.N) : Fin 4 := ⟨t.val / 2, by have := ltN t; omega⟩
abbrev colC (t : Fin cfg0.N) (j : Fin 1024) : Fin 4096 := ⟨1024 * (t.val / 2) + j.val, by have := ltN t; omega⟩

theorem b0 (t : Fin cfg0.N) (k : Fin 2048) (r : Fin 1024) : (iblk m c 0 t : XA) (ix2 k r) = A0 m c (ix2 (row t k) (colA t r)) := by
  obtain ⟨e0, e1⟩ := at0 t
  show V m c main_arg0 (((cfg0.win 0).blk t).view.emb (ix2 k r)) = _
  rw [V_main_arg0]
  refine congrArg (A0 m c) (funext fun a => Fin.ext ?_)
  match a with
  | ⟨0, _⟩ => show win0_0.index t (0 : Fin 2) * 2048 + 1 * k.val = 2048 * (t.val % 2) + k.val; omega
  | ⟨1, _⟩ => show win0_0.index t (1 : Fin 2) * 1024 + 1 * r.val = r.val; omega

theorem b1 (t : Fin cfg0.N) (k : Fin 2048) (j : Fin 1024) : (iblk m c 1 t : XC) (ix2 k j) = A2 m c (ix2 (row t k) (colC t j)) := by
  obtain ⟨e0, e1⟩ := at1 t
  show V m c main_arg2 (((cfg0.win 1).blk t).view.emb (ix2 k j)) = _
  rw [V_main_arg2]
  refine congrArg (A2 m c) (funext fun a => Fin.ext ?_)
  match a with
  | ⟨0, _⟩ => show win0_1.index t (0 : Fin 2) * 2048 + 1 * k.val = 2048 * (t.val % 2) + k.val; omega
  | ⟨1, _⟩ => show win0_1.index t (1 : Fin 2) * 1024 + 1 * j.val = 1024 * (t.val / 2) + j.val; omega

/-! ### The reference -/

theorem ref_at (x0 : Vec Ideal S4096x1024 .bf16) (x2 : Vec Ideal S4096x4096 .bf16) (q : Fin 4) (i : Fin 1024) (j : Fin 1024) :
    (Cert.DwFf1RefIdeal.Read.val_main_v7 (F := Ideal) x0 x2 (ix3 q i j) : EReal)
      = ∑ k : Fin 4096, x0 (ix2 k i) * x2 (ix2 k (⟨1024 * q.val + j.val, by omega⟩ : Fin 4096)) := by
  refine Eq.trans (b := (Cert.DwFf1RefIdeal.Read.val_main_v3 (F := Ideal) x0 x2 (ix2 (⟨1024 * q.val + j.val, by omega⟩ : Fin 4096) i) : EReal)) ?_ ?_
  · rw [Cert.DwFf1RefIdeal.Read.val_main_v7_apply, Cert.DwFf1RefIdeal.Read.val_main_v6_apply, Cert.DwFf1RefIdeal.Read.val_main_v5_apply,
      Cert.DwFf1RefIdeal.Read.val_main_v4_apply]
    refine congrArg (Cert.DwFf1RefIdeal.Read.val_main_v3 (F := Ideal) x0 x2) (funext fun a => Fin.ext ?_)
    match a with
    | ⟨0, _⟩ => show ((i.val * 4 + q.val) * 1024 + j.val) % 4096 = 1024 * q.val + j.val; omega
    | ⟨1, _⟩ => show ((i.val * 4 + q.val) * 1024 + j.val) / 4096 = i.val; omega
  · refine (hmm_tn (M := 4096) (K := 4096) (N := 1024) none _ _ _ i).trans (Finset.sum_congr rfl fun k _ => mul_comm _ _)

abbrev K2 : Vec Ideal S4x1024x1024 .bf16 := Cert.DwFf1RefIdeal.Read.val_main_v7 (F := Ideal) (A0 m c) (A2 m c)

/-- The scratch after the first half. -/
theorem scr_at (t : Fin cfg0.N) (h0 : t.val % 2 = 0) (r : Fin 1024) (j : Fin 1024) :
    ((outsAt0 m c t.val t.isLt).2 (ix2 r j) : EReal) = ∑ k : Fin 2048, A0 m c (ix2 (row t k) (colA t r)) * A2 m c (ix2 (row t k) (colC t j)) := by
  rw [outsAt0_A m c t h0 (by omega)]
  dsimp only
  rw [sout_A, pay2_at, pay1_at, zero_add]
  refine Finset.sum_congr rfl fun k _ => ?_
  rw [b0, b1]

theorem tile2 (t : Fin cfg0.N) (h1 : t.val % 2 = 1) (r : Fin 1024) (j : Fin 1024) :
    ((outsAt0 m c t.val t.isLt).1 (ix3 0 r j) : EReal) = K2 m c (ix3 (qOf t) r j) := by
  rw [outsAt0_B m c t (by omega) h1]
  dsimp only
  rw [out_B]
  refine ((pay3_at _ r j).trans (pay2_at _ _ _ r j)).trans ?_
  have hp : t.val - 1 < cfg0.N := Nat.lt_of_le_of_lt (Nat.sub_le _ _) t.isLt
  have hs := scr_at m c ⟨t.val - 1, hp⟩ (by show (t.val - 1) % 2 = 0; omega) r j
  refine (congrArg (· + _) hs).trans ((ref_at _ _ (qOf t) r j).trans ((sum_halves _).trans ?_)).symm
  have ha : colA ⟨t.val - 1, hp⟩ r = colA t r := Fin.ext (by rfl)
  have hc : colC ⟨t.val - 1, hp⟩ j = colC t j := Fin.ext (by show 1024 * ((t.val - 1) / 2) + j.val = 1024 * (t.val / 2) + j.val; omega)
  rw [ha, hc]
  refine congr (congrArg HAdd.hAdd (Finset.sum_congr rfl fun k _ => ?_)) (Finset.sum_congr rfl fun k _ => ?_)
  · have hr : row ⟨t.val - 1, hp⟩ k = (⟨k.val, by omega⟩ : Fin 4096) := Fin.ext (by show 2048 * ((t.val - 1) % 2) + k.val = k.val; omega)
    rw [hr]
  · have hr : row t k = (⟨2048 + k.val, by omega⟩ : Fin 4096) := Fin.ext (by show 2048 * (t.val % 2) + k.val = 2048 + k.val; omega)
    rw [b0, b1, hr]

theorem emb2 (t : Fin cfg0.N) (r : Fin 1024) (j : Fin 1024) : ((cfg0.win 2).blk t).view.emb (ix3 0 r j) = (ix3 (qOf t) r j : S4x1024x1024.Idx) := by
  obtain ⟨e0, e1, e2⟩ := at2 t
  funext a; apply Fin.ext
  match a with
  | ⟨0, _⟩ => show win0_2.index t (0 : Fin 3) * 1 + 1 * 0 = t.val / 2; omega
  | ⟨1, _⟩ => show win0_2.index t (1 : Fin 3) * 1024 + 1 * r.val = r.val; omega
  | ⟨2, _⟩ => show win0_2.index t (2 : Fin 3) * 1024 + 1 * j.val = j.val; omega

theorem final : G2 m c = K2 m c :=
  (final2 m c).symm.trans ((dats m 0 c).arrAt_eq_of_cover 2 (K2 m c) (fun t hf => by
    have h1 : t.val % 2 = 1 := (flush0_2 t).mp hf
    rw [flushed2]
    funext y
    show (outsAt0 m c t.val t.isLt).1 y = K2 m c (((cfg0.win 2).blk t).view.emb y)
    have hy : y = ix3 (0 : Fin 1) (y 1 : Fin 1024) (y 2 : Fin 1024) := (eq_ix3 (n0 := 1) (n1 := 1024) (n2 := 1024) y).trans
      (congrArg (fun z : Fin 1 => (ix3 z (y 1 : Fin 1024) (y 2 : Fin 1024) : S1x1024x1024.Idx)) (Subsingleton.elim _ _))
    rw [hy]
    exact (tile2 m c t h1 (y 1) (y 2)).trans (congrArg (K2 m c) (emb2 t (y 1) (y 2)).symm))
    (fun i => (covered_iff2 i).2 (by
      have h0 : (i 0).val < 4 := (i 0).isLt
      have h1 : (i 1).val < 1024 := (i 1).isLt
      have h2 : (i 2).val < 1024 := (i 2).isLt
      omega)))

theorem frame_r : Cert.quiescent_DwFf1RefIdeal := by
  intro m ρ _
  exact (θ_run Cert.DwFf1RefIdeal.defs _ _).mono (fun r h => ⟨fun c => (h c).2, Idealize.ShloMosaic.sem_eq_zero_of_no_sems (by decide) r.2⟩)
    (Cert.DwFf1RefIdeal.Value.run (F := Ideal) m ρ)

theorem algebraic : Cert.algebraic_DwFf1Ideal_DwFf1RefIdeal := by
  intro m ρ m' ρ' _ hag
  refine ⟨fun c => G2 m c, run m ρ, ?_⟩
  refine (θ_run Cert.DwFf1RefIdeal.defs _ _).mono (fun r h c => ?_) (Cert.DwFf1RefIdeal.Value.run (F := Ideal) m' ρ')
  obtain ⟨r0, ra⟩ := h c
  obtain ⟨g0, g1, g2⟩ := hag c
  refine ⟨(r0.trans (Cert.DwFf1RefIdeal.Read.val_main_v7_eq _ _)).trans ?_, ra⟩
  rw [g0, g2]
  exact (final m c).symm

end Cert.DwFf1Val

end
-- ==== Proof.DwFf2Val.lean ====
/- Hand-written, untrusted: THE SECOND FEED-FORWARD WEIGHT'S GRADIENT CALL sums the two halves of the rows, block by block; the reference
   sums all rows at once. -/
module

public import proofs.«01_k».proof.Proof.Mat
public import proofs.«01_k».proof.Proof.Gen.DwFf2Ideal.Value
public import proofs.«01_k».proof.Proof.Gen.DwFf2RefIdeal.Run
public import proofs.«01_k».proof.Proof.Gen.DwFf2RefIdeal.Read
public import proofs.«01_k».proof.Defs

@[expose] public section

set_option maxRecDepth 16384

noncomputable section

namespace Cert.DwFf2Val

open Cert.DwFf2Ideal Cert.DwFf2Ideal.Gen Cert.DwFf2Ideal.Value Cert.Mat Idealize.ShloMosaic Idealize.ShloMosaic.TcCoe Idealize.SL.Sem
open Idealize.ShloMosaic.Tactic

/-! ### What the two cases leave, as payloads -/

abbrev XA := Vec Ideal S2048x1024 .bf16
abbrev XC := Vec Ideal S2048x1024 .bf16
abbrev XS := Vec Ideal S1024x1024 .f32

set_option maxHeartbeats 16000000 in
theorem sout_A (c : Dev nD) (i : grid0.Coords) (arg3 : Memref sig .tc .vmem S2048x1024 .bf16) (harg3 : arg3.IsWhole)
    (arg4 : Memref sig .tc .vmem S2048x1024 .bf16) (harg4 : arg4.IsWhole) (arg5 : Memref sig .tc .vmem S1024x1024 .bf16) (harg5 : arg5.IsWhole)
    (arg6 : Memref sig .tc .vmem S1024x1024 .f32) (harg6 : arg6.IsWhole) (hc0) (hc1) (x0 : XA) (x1 : XC) :
    sout0_A_0 c i arg3 harg3 arg4 harg4 arg5 harg5 arg6 harg6 hc0 hc1 x0 x1 = k0_pay2 (F := Ideal) (k0_pay1 (F := Ideal)) x0 x1 := by
  unfold sout0_A_0
  rw [View.read_writes_eq_canon _ _ _ (scover0_A_0 c _ _ _ _ _ _ _ _ _ _ _ _ _)]
  unfold kernelRun0_A
  dsimp only
  sl_unfold_words
  simp only [View.readAt_eq_ld, harg3.read_unread, harg4.read_unread, harg5.read_unread, harg6.read_unread, View.readCov_eq_canon']
  rw [View.canon_cons_unit_zero off2]
  simp only [View.ld_unit_zero (S := S2048x1024) off2, View.ld_unit_zero (S := S1024x1024) off2, View.canon_unit_zero (S := S1024x1024) off2]
  rfl

set_option maxHeartbeats 16000000 in
theorem out_B (c : Dev nD) (i : grid0.Coords) (arg3 : Memref sig .tc .vmem S2048x1024 .bf16) (harg3 : arg3.IsWhole)
    (arg4 : Memref sig .tc .vmem S2048x1024 .bf16) (harg4 : arg4.IsWhole) (arg5 : Memref sig .tc .vmem S1024x1024 .bf16) (harg5 : arg5.IsWhole)
    (arg6 : Memref sig .tc .vmem S1024x1024 .f32) (harg6 : arg6.IsWhole) (hc0) (hc1) (x0 : XA) (x1 : XC) (xs : XS) :
    out0_B_2 c i arg3 harg3 arg4 harg4 arg5 harg5 arg6 harg6 hc0 hc1 x0 x1 xs = k0_pay3 (F := Ideal) (k0_pay2 (F := Ideal) xs x0 x1) := by
  unfold out0_B_2
  rw [View.read_writes_eq_canon _ _ _ (cover0_B_2 c _ _ _ _ _ _ _ _ _ _ _ _ _ _)]
  unfold kernelRun0_B
  dsimp only
  sl_unfold_words
  simp only [View.readAt_eq_ld, harg3.read_unread, harg4.read_unread, harg5.read_unread, harg6.read_unread, View.readCov_eq_canon']
  rw [View.canon_cons_unit_zero off2]
  simp only [View.ld_unit_zero (S := S2048x1024) off2, View.ld_unit_zero (S := S1024x1024) off2, View.canon_unit_zero (S := S1024x1024) off2]
  refine congrArg (k0_pay3 (F := Ideal)) (funext fun j => ?_)
  exact congrArg (k0_pay2 (F := Ideal) xs x0 x1) (funext fun a => Fin.ext (by
    match a with
    | ⟨0, _⟩ => show 0 + 1 * (j 0).val = (j 0).val; omega
    | ⟨1, _⟩ => show 0 + 1 * (j 1).val = (j 1).val; omega))

theorem pay1_at (r : Fin 1024) (j : Fin 1024) : (k0_pay1 (F := Ideal) (ix2 r j) : EReal) = 0 := by
  unfold k0_pay1
  rw [shapeCast_id]
  exact zero_word

theorem pay2_at (a : XS) (x0 : XA) (x1 : XC) (r : Fin 1024) (j : Fin 1024) :
    (k0_pay2 (F := Ideal) a x0 x1 (ix2 r j) : EReal) = a (ix2 r j) + ∑ k : Fin 2048, x0 (ix2 k r) * x1 (ix2 k j) := by
  unfold k0_pay2
  rw [shapeCast_id]
  show (a (ix2 r j) : EReal) + matmul (F := Ideal) dot_S2048x1024_S2048x1024_S1024x1024_0_0_1_1_n_n none x0 x1 _ (ix2 r j) = _
  refine congrArg (a (ix2 r j) + ·) ?_
  exact kmm_tn (M := 1024) (K := 2048) (N := 1024) none _ _ r j

/-! ### The blocks -/

variable (m : (ℓ : Loc nD τ sig) → Buf (Elt Ideal) ℓ) (c : Dev nD)

abbrev A0 : Vec Ideal S4096x4096 .bf16 := m ((c : Thread nD τ).loc main_arg0)
abbrev A2 : Vec Ideal S4096x1024 .bf16 := m ((c : Thread nD τ).loc main_arg2)

theorem at0 : ∀ t : Fin cfg0.N, win0_0.index t (0 : Fin 2) = t.val % 2 ∧ win0_0.index t (1 : Fin 2) = t.val / 2 := (by decide +kernel : ∀ t : Fin grid0.N, _)
theorem at1 : ∀ t : Fin cfg0.N, win0_1.index t (0 : Fin 2) = t.val % 2 ∧ win0_1.index t (1 : Fin 2) = 0 := (by decide +kernel : ∀ t : Fin grid0.N, _)
theorem at2 : ∀ t : Fin cfg0.N, win0_2.index t (0 : Fin 2) = t.val / 2 ∧ win0_2.index t (1 : Fin 2) = 0 := (by decide +kernel : ∀ t : Fin grid0.N, _)
theorem ltN (t : Fin cfg0.N) : t.val < 8 := lt_of_lt_of_eq t.isLt (show cfg0.N = 8 from N_0)

/-- Row `k` of the half point `t` reads, and the columns its blocks cover. -/
abbrev row (t : Fin cfg0.N) (k : Fin 2048) : Fin 4096 := ⟨2048 * (t.val % 2) + k.val, by omega⟩
abbrev colA (t : Fin cfg0.N) (r : Fin 1024) : Fin 4096 := ⟨1024 * (t.val / 2) + r.val, by have := ltN t; omega⟩
abbrev colC (_t : Fin cfg0.N) (j : Fin 1024) : Fin 1024 := j

theorem b0 (t : Fin cfg0.N) (k : Fin 2048) (r : Fin 1024) : (iblk m c 0 t : XA) (ix2 k r) = A0 m c (ix2 (row t k) (colA t r)) := by
  obtain ⟨e0, e1⟩ := at0 t
  show V m c main_arg0 (((cfg0.win 0).blk t).view.emb (ix2 k r)) = _
  rw [V_main_arg0]
  refine congrArg (A0 m c) (funext fun a => Fin.ext ?_)
  match a with
  | ⟨0, _⟩ => show win0_0.index t (0 : Fin 2) * 2048 + 1 * k.val = 2048 * (t.val % 2) + k.val; omega
  | ⟨1, _⟩ => show win0_0.index t (1 : Fin 2) * 1024 + 1 * r.val = 1024 * (t.val / 2) + r.val; omega

theorem b1 (t : Fin cfg0.N) (k : Fin 2048) (j : Fin 1024) : (iblk m c 1 t : XC) (ix2 k j) = A2 m c (ix2 (row t k) (colC t j)) := by
  obtain ⟨e0, e1⟩ := at1 t
  show V m c main_arg2 (((cfg0.win 1).blk t).view.emb (ix2 k j)) = _
  rw [V_main_arg2]
  refine congrArg (A2 m c) (funext fun a => Fin.ext ?_)
  match a with
  | ⟨0, _⟩ => show win0_1.index t (0 : Fin 2) * 2048 + 1 * k.val = 2048 * (t.val % 2) + k.val; omega
  | ⟨1, _⟩ => show win0_1.index t (1 : Fin 2) * 1024 + 1 * j.val = j.val; omega

/-! ### The reference -/

theorem ref_at (x0 : Vec Ideal S4096x4096 .bf16) (x2 : Vec Ideal S4096x1024 .bf16) (i : Fin 4096) (j : Fin 1024) :
    (Cert.DwFf2RefIdeal.Read.val_main_v5 (F := Ideal) x0 x2 (ix2 i j) : EReal) = ∑ k : Fin 4096, x0 (ix2 k i) * x2 (ix2 k j) := by
  refine Eq.trans (b := (Cert.DwFf2RefIdeal.Read.val_main_v3 (F := Ideal) x0 x2 (ix2 j i) : EReal)) ?_ ?_
  · rw [Cert.DwFf2RefIdeal.Read.val_main_v5_apply, Cert.DwFf2RefIdeal.Read.val_main_v4_apply]
    refine congrArg (Cert.DwFf2RefIdeal.Read.val_main_v3 (F := Ideal) x0 x2) (funext fun a => Fin.ext ?_)
    match a with
    | ⟨0, _⟩ => rfl
    | ⟨1, _⟩ => rfl
  · refine (hmm_tn (M := 1024) (K := 4096) (N := 4096) none _ _ j i).trans (Finset.sum_congr rfl fun k _ => mul_comm _ _)

abbrev K2 : Vec Ideal S4096x1024 .bf16 := Cert.DwFf2RefIdeal.Read.val_main_v5 (F := Ideal) (A0 m c) (A2 m c)

/-- The scratch after the first half. -/
theorem scr_at (t : Fin cfg0.N) (h0 : t.val % 2 = 0) (r : Fin 1024) (j : Fin 1024) :
    ((outsAt0 m c t.val t.isLt).2 (ix2 r j) : EReal) = ∑ k : Fin 2048, A0 m c (ix2 (row t k) (colA t r)) * A2 m c (ix2 (row t k) (colC t j)) := by
  rw [outsAt0_A m c t h0 (by omega)]
  dsimp only
  rw [sout_A, pay2_at, pay1_at, zero_add]
  refine Finset.sum_congr rfl fun k _ => ?_
  rw [b0, b1]

theorem tile2 (t : Fin cfg0.N) (h1 : t.val % 2 = 1) (r : Fin 1024) (j : Fin 1024) :
    ((outsAt0 m c t.val t.isLt).1 (ix2 r j) : EReal) = K2 m c (ix2 (colA t r) (colC t j)) := by
  rw [outsAt0_B m c t (by omega) h1]
  dsimp only
  rw [out_B]
  refine (pay2_at _ _ _ r j).trans ?_
  have hp : t.val - 1 < cfg0.N := Nat.lt_of_le_of_lt (Nat.sub_le _ _) t.isLt
  have hs := scr_at m c ⟨t.val - 1, hp⟩ (by show (t.val - 1) % 2 = 0; omega) r j
  refine (congrArg (· + _) hs).trans ((ref_at _ _ _ _).trans ((sum_halves _).trans ?_)).symm
  have ha : colA ⟨t.val - 1, hp⟩ r = colA t r := Fin.ext (by show 1024 * ((t.val - 1) / 2) + r.val = 1024 * (t.val / 2) + r.val; omega)
  have hc : colC ⟨t.val - 1, hp⟩ j = colC t j := Fin.ext (by show j.val = j.val; omega)
  rw [ha, hc]
  refine congr (congrArg HAdd.hAdd (Finset.sum_congr rfl fun k _ => ?_)) (Finset.sum_congr rfl fun k _ => ?_)
  · have hr : row ⟨t.val - 1, hp⟩ k = (⟨k.val, by omega⟩ : Fin 4096) := Fin.ext (by show 2048 * ((t.val - 1) % 2) + k.val = k.val; omega)
    rw [hr]
  · have hr : row t k = (⟨2048 + k.val, by omega⟩ : Fin 4096) := Fin.ext (by show 2048 * (t.val % 2) + k.val = 2048 + k.val; omega)
    rw [b0, b1, hr]

theorem emb2 (t : Fin cfg0.N) (r : Fin 1024) (j : Fin 1024) : ((cfg0.win 2).blk t).view.emb (ix2 r j) = (ix2 (colA t r) (colC t j) : S4096x1024.Idx) := by
  obtain ⟨e0, e1⟩ := at2 t
  funext a; apply Fin.ext
  match a with
  | ⟨0, _⟩ => show win0_2.index t (0 : Fin 2) * 1024 + 1 * r.val = 1024 * (t.val / 2) + r.val; omega
  | ⟨1, _⟩ => show win0_2.index t (1 : Fin 2) * 1024 + 1 * j.val = j.val; omega

theorem final : G2 m c = K2 m c :=
  (final2 m c).symm.trans ((dats m 0 c).arrAt_eq_of_cover 2 (K2 m c) (fun t hf => by
    have h1 : t.val % 2 = 1 := (flush0_2 t).mp hf
    rw [flushed2]
    funext y
    show (outsAt0 m c t.val t.isLt).1 y = K2 m c (((cfg0.win 2).blk t).view.emb y)
    rw [eq_ix2 (n0 := 1024) (n1 := 1024) y]
    exact (tile2 m c t h1 (y 0) (y 1)).trans (congrArg (K2 m c) (emb2 t (y 0) (y 1)).symm))
    (fun i => (covered_iff2 i).2 (by
      have h0 : (i 0).val < 4096 := (i 0).isLt
      have h1 : (i 1).val < 1024 := (i 1).isLt
      omega)))

theorem frame_r : Cert.quiescent_DwFf2RefIdeal := by
  intro m ρ _
  exact (θ_run Cert.DwFf2RefIdeal.defs _ _).mono (fun r h => ⟨fun c => (h c).2, Idealize.ShloMosaic.sem_eq_zero_of_no_sems (by decide) r.2⟩)
    (Cert.DwFf2RefIdeal.Value.run (F := Ideal) m ρ)

theorem algebraic : Cert.algebraic_DwFf2Ideal_DwFf2RefIdeal := by
  intro m ρ m' ρ' _ hag
  refine ⟨fun c => G2 m c, run m ρ, ?_⟩
  refine (θ_run Cert.DwFf2RefIdeal.defs _ _).mono (fun r h c => ?_) (Cert.DwFf2RefIdeal.Value.run (F := Ideal) m' ρ')
  obtain ⟨r0, ra⟩ := h c
  obtain ⟨g0, g1, g2⟩ := hag c
  refine ⟨(r0.trans (Cert.DwFf2RefIdeal.Read.val_main_v5_eq _ _)).trans ?_, ra⟩
  rw [g0, g2]
  exact (final m c).symm

end Cert.DwFf2Val

end
-- ==== Proof.DwInVal.lean ====
/- Hand-written, untrusted: THE INPUT PROJECTION'S WEIGHT-GRADIENT CALL sums the two halves of the rows, block by block; the reference
   sums all rows at once. -/
module

public import proofs.«01_k».proof.Proof.Mat
public import proofs.«01_k».proof.Proof.Gen.DwInIdeal.Value
public import proofs.«01_k».proof.Proof.Gen.DwInRefIdeal.Run
public import proofs.«01_k».proof.Proof.Gen.DwInRefIdeal.Read
public import proofs.«01_k».proof.Defs

@[expose] public section

set_option maxRecDepth 16384

noncomputable section

namespace Cert.DwInVal

open Cert.DwInIdeal Cert.DwInIdeal.Gen Cert.DwInIdeal.Value Cert.Mat Idealize.ShloMosaic Idealize.ShloMosaic.TcCoe Idealize.SL.Sem
open Idealize.ShloMosaic.Tactic

/-! ### What the two cases leave, as payloads -/

abbrev XA := Vec Ideal S2048x1024 .bf16
abbrev XC := Vec Ideal S2048x896 .bf16
abbrev XS := Vec Ideal S1024x896 .f32

set_option maxHeartbeats 16000000 in
theorem sout_A (c : Dev nD) (i : grid0.Coords) (arg3 : Memref sig .tc .vmem S2048x1024 .bf16) (harg3 : arg3.IsWhole)
    (arg4 : Memref sig .tc .vmem S2048x896 .bf16) (harg4 : arg4.IsWhole) (arg5 : Memref sig .tc .vmem S1024x896 .bf16) (harg5 : arg5.IsWhole)
    (arg6 : Memref sig .tc .vmem S1024x896 .f32) (harg6 : arg6.IsWhole) (hc0) (hc1) (x0 : XA) (x1 : XC) :
    sout0_A_0 c i arg3 harg3 arg4 harg4 arg5 harg5 arg6 harg6 hc0 hc1 x0 x1 = k0_pay2 (F := Ideal) (k0_pay1 (F := Ideal)) x0 x1 := by
  unfold sout0_A_0
  rw [View.read_writes_eq_canon _ _ _ (scover0_A_0 c _ _ _ _ _ _ _ _ _ _ _ _ _)]
  unfold kernelRun0_A
  dsimp only
  sl_unfold_words
  simp only [View.readAt_eq_ld, harg3.read_unread, harg4.read_unread, harg5.read_unread, harg6.read_unread, View.readCov_eq_canon']
  rw [View.canon_cons_unit_zero off2]
  simp only [View.ld_unit_zero (S := S2048x1024) off2, View.ld_unit_zero (S := S2048x896) off2, View.ld_unit_zero (S := S1024x896) off2, View.canon_unit_zero (S := S1024x896) off2]
  rfl

set_option maxHeartbeats 16000000 in
theorem out_B (c : Dev nD) (i : grid0.Coords) (arg3 : Memref sig .tc .vmem S2048x1024 .bf16) (harg3 : arg3.IsWhole)
    (arg4 : Memref sig .tc .vmem S2048x896 .bf16) (harg4 : arg4.IsWhole) (arg5 : Memref sig .tc .vmem S1024x896 .bf16) (harg5 : arg5.IsWhole)
    (arg6 : Memref sig .tc .vmem S1024x896 .f32) (harg6 : arg6.IsWhole) (hc0) (hc1) (x0 : XA) (x1 : XC) (xs : XS) :
    out0_B_2 c i arg3 harg3 arg4 harg4 arg5 harg5 arg6 harg6 hc0 hc1 x0 x1 xs = k0_pay3 (F := Ideal) (k0_pay2 (F := Ideal) xs x0 x1) := by
  unfold out0_B_2
  rw [View.read_writes_eq_canon _ _ _ (cover0_B_2 c _ _ _ _ _ _ _ _ _ _ _ _ _ _)]
  unfold kernelRun0_B
  dsimp only
  sl_unfold_words
  simp only [View.readAt_eq_ld, harg3.read_unread, harg4.read_unread, harg5.read_unread, harg6.read_unread, View.readCov_eq_canon']
  rw [View.canon_cons_unit_zero off2]
  simp only [View.ld_unit_zero (S := S2048x1024) off2, View.ld_unit_zero (S := S2048x896) off2, View.ld_unit_zero (S := S1024x896) off2, View.canon_unit_zero (S := S1024x896) off2]
  refine congrArg (k0_pay3 (F := Ideal)) (funext fun j => ?_)
  exact congrArg (k0_pay2 (F := Ideal) xs x0 x1) (funext fun a => Fin.ext (by
    match a with
    | ⟨0, _⟩ => show 0 + 1 * (j 0).val = (j 0).val; omega
    | ⟨1, _⟩ => show 0 + 1 * (j 1).val = (j 1).val; omega))

theorem pay1_at (r : Fin 1024) (j : Fin 896) : (k0_pay1 (F := Ideal) (ix2 r j) : EReal) = 0 := by
  unfold k0_pay1
  rw [shapeCast_id]
  exact zero_word

theorem pay2_at (a : XS) (x0 : XA) (x1 : XC) (r : Fin 1024) (j : Fin 896) :
    (k0_pay2 (F := Ideal) a x0 x1 (ix2 r j) : EReal) = a (ix2 r j) + ∑ k : Fin 2048, x0 (ix2 k r) * x1 (ix2 k j) := by
  unfold k0_pay2
  rw [shapeCast_id]
  show (a (ix2 r j) : EReal) + matmul (F := Ideal) dot_S2048x1024_S2048x896_S1024x896_0_0_1_1_n_n none x0 x1 _ (ix2 r j) = _
  refine congrArg (a (ix2 r j) + ·) ?_
  exact kmm_tn (M := 1024) (K := 2048) (N := 896) none _ _ r j

/-! ### The blocks -/

variable (m : (ℓ : Loc nD τ sig) → Buf (Elt Ideal) ℓ) (c : Dev nD)

abbrev A0 : Vec Ideal S4096x1024 .bf16 := m ((c : Thread nD τ).loc main_arg0)
abbrev A2 : Vec Ideal S4096x3584 .bf16 := m ((c : Thread nD τ).loc main_arg2)

theorem at0 : ∀ t : Fin cfg0.N, win0_0.index t (0 : Fin 2) = t.val % 2 ∧ win0_0.index t (1 : Fin 2) = 0 := (by decide +kernel : ∀ t : Fin grid0.N, _)
theorem at1 : ∀ t : Fin cfg0.N, win0_1.index t (0 : Fin 2) = t.val % 2 ∧ win0_1.index t (1 : Fin 2) = t.val / 2 := (by decide +kernel : ∀ t : Fin grid0.N, _)
theorem at2 : ∀ t : Fin cfg0.N, win0_2.index t (0 : Fin 2) = 0 ∧ win0_2.index t (1 : Fin 2) = t.val / 2 := (by decide +kernel : ∀ t : Fin grid0.N, _)
theorem ltN (t : Fin cfg0.N) : t.val < 8 := lt_of_lt_of_eq t.isLt (show cfg0.N = 8 from N_0)

/-- Row `k` of the half point `t` reads, and the columns its blocks cover. -/
abbrev row (t : Fin cfg0.N) (k : Fin 2048) : Fin 4096 := ⟨2048 * (t.val % 2) + k.val, by omega⟩
abbrev colA (_t : Fin cfg0.N) (r : Fin 1024) : Fin 1024 := r
abbrev colC (t : Fin cfg0.N) (j : Fin 896) : Fin 3584 := ⟨896 * (t.val / 2) + j.val, by have := ltN t; omega⟩

theorem b0 (t : Fin cfg0.N) (k : Fin 2048) (r : Fin 1024) : (iblk m c 0 t : XA) (ix2 k r) = A0 m c (ix2 (row t k) (colA t r)) := by
  obtain ⟨e0, e1⟩ := at0 t
  show V m c main_arg0 (((cfg0.win 0).blk t).view.emb (ix2 k r)) = _
  rw [V_main_arg0]
  refine congrArg (A0 m c) (funext fun a => Fin.ext ?_)
  match a with
  | ⟨0, _⟩ => show win0_0.index t (0 : Fin 2) * 2048 + 1 * k.val = 2048 * (t.val % 2) + k.val; omega
  | ⟨1, _⟩ => show win0_0.index t (1 : Fin 2) * 1024 + 1 * r.val = r.val; omega

theorem b1 (t : Fin cfg0.N) (k : Fin 2048) (j : Fin 896) : (iblk m c 1 t : XC) (ix2 k j) = A2 m c (ix2 (row t k) (colC t j)) := by
  obtain ⟨e0, e1⟩ := at1 t
  show V m c main_arg2 (((cfg0.win 1).blk t).view.emb (ix2 k j)) = _
  rw [V_main_arg2]
  refine congrArg (A2 m c) (funext fun a => Fin.ext ?_)
  match a with
  | ⟨0, _⟩ => show win0_1.index t (0 : Fin 2) * 2048 + 1 * k.val = 2048 * (t.val % 2) + k.val; omega
  | ⟨1, _⟩ => show win0_1.index t (1 : Fin 2) * 896 + 1 * j.val = 896 * (t.val / 2) + j.val; omega

/-! ### The reference -/

theorem ref_at (x0 : Vec Ideal S4096x1024 .bf16) (x2 : Vec Ideal S4096x3584 .bf16) (i : Fin 1024) (j : Fin 3584) :
    (Cert.DwInRefIdeal.Read.val_main_v5 (F := Ideal) x0 x2 (ix2 i j) : EReal) = ∑ k : Fin 4096, x0 (ix2 k i) * x2 (ix2 k j) := by
  refine Eq.trans (b := (Cert.DwInRefIdeal.Read.val_main_v3 (F := Ideal) x0 x2 (ix2 j i) : EReal)) ?_ ?_
  · rw [Cert.DwInRefIdeal.Read.val_main_v5_apply, Cert.DwInRefIdeal.Read.val_main_v4_apply]
    refine congrArg (Cert.DwInRefIdeal.Read.val_main_v3 (F := Ideal) x0 x2) (funext fun a => Fin.ext ?_)
    match a with
    | ⟨0, _⟩ => rfl
    | ⟨1, _⟩ => rfl
  · refine (hmm_tn (M := 3584) (K := 4096) (N := 1024) none _ _ j i).trans (Finset.sum_congr rfl fun k _ => mul_comm _ _)

abbrev K2 : Vec Ideal S1024x3584 .bf16 := Cert.DwInRefIdeal.Read.val_main_v5 (F := Ideal) (A0 m c) (A2 m c)

/-- The scratch after the first half. -/
theorem scr_at (t : Fin cfg0.N) (h0 : t.val % 2 = 0) (r : Fin 1024) (j : Fin 896) :
    ((outsAt0 m c t.val t.isLt).2 (ix2 r j) : EReal) = ∑ k : Fin 2048, A0 m c (ix2 (row t k) (colA t r)) * A2 m c (ix2 (row t k) (colC t j)) := by
  rw [outsAt0_A m c t h0 (by omega)]
  dsimp only
  rw [sout_A, pay2_at, pay1_at, zero_add]
  refine Finset.sum_congr rfl fun k _ => ?_
  rw [b0, b1]

theorem tile2 (t : Fin cfg0.N) (h1 : t.val % 2 = 1) (r : Fin 1024) (j : Fin 896) :
    ((outsAt0 m c t.val t.isLt).1 (ix2 r j) : EReal) = K2 m c (ix2 (colA t r) (colC t j)) := by
  rw [outsAt0_B m c t (by omega) h1]
  dsimp only
  rw [out_B]
  refine (pay2_at _ _ _ r j).trans ?_
  have hp : t.val - 1 < cfg0.N := Nat.lt_of_le_of_lt (Nat.sub_le _ _) t.isLt
  have hs := scr_at m c ⟨t.val - 1, hp⟩ (by show (t.val - 1) % 2 = 0; omega) r j
  refine (congrArg (· + _) hs).trans ((ref_at _ _ _ _).trans ((sum_halves _).trans ?_)).symm
  have ha : colA ⟨t.val - 1, hp⟩ r = colA t r := Fin.ext (by rfl)
  have hc : colC ⟨t.val - 1, hp⟩ j = colC t j := Fin.ext (by show 896 * ((t.val - 1) / 2) + j.val = 896 * (t.val / 2) + j.val; omega)
  rw [ha, hc]
  refine congr (congrArg HAdd.hAdd (Finset.sum_congr rfl fun k _ => ?_)) (Finset.sum_congr rfl fun k _ => ?_)
  · have hr : row ⟨t.val - 1, hp⟩ k = (⟨k.val, by omega⟩ : Fin 4096) := Fin.ext (by show 2048 * ((t.val - 1) % 2) + k.val = k.val; omega)
    rw [hr]
  · have hr : row t k = (⟨2048 + k.val, by omega⟩ : Fin 4096) := Fin.ext (by show 2048 * (t.val % 2) + k.val = 2048 + k.val; omega)
    rw [b0, b1, hr]

theorem emb2 (t : Fin cfg0.N) (r : Fin 1024) (j : Fin 896) : ((cfg0.win 2).blk t).view.emb (ix2 r j) = (ix2 (colA t r) (colC t j) : S1024x3584.Idx) := by
  obtain ⟨e0, e1⟩ := at2 t
  funext a; apply Fin.ext
  match a with
  | ⟨0, _⟩ => show win0_2.index t (0 : Fin 2) * 1024 + 1 * r.val = r.val; omega
  | ⟨1, _⟩ => show win0_2.index t (1 : Fin 2) * 896 + 1 * j.val = 896 * (t.val / 2) + j.val; omega

theorem final : G2 m c = K2 m c :=
  (final2 m c).symm.trans ((dats m 0 c).arrAt_eq_of_cover 2 (K2 m c) (fun t hf => by
    have h1 : t.val % 2 = 1 := (flush0_2 t).mp hf
    rw [flushed2]
    funext y
    show (outsAt0 m c t.val t.isLt).1 y = K2 m c (((cfg0.win 2).blk t).view.emb y)
    rw [eq_ix2 (n0 := 1024) (n1 := 896) y]
    exact (tile2 m c t h1 (y 0) (y 1)).trans (congrArg (K2 m c) (emb2 t (y 0) (y 1)).symm))
    (fun i => (covered_iff2 i).2 (by
      have h0 : (i 0).val < 1024 := (i 0).isLt
      have h1 : (i 1).val < 3584 := (i 1).isLt
      omega)))

theorem frame_r : Cert.quiescent_DwInRefIdeal := by
  intro m ρ _
  exact (θ_run Cert.DwInRefIdeal.defs _ _).mono (fun r h => ⟨fun c => (h c).2, Idealize.ShloMosaic.sem_eq_zero_of_no_sems (by decide) r.2⟩)
    (Cert.DwInRefIdeal.Value.run (F := Ideal) m ρ)

theorem algebraic : Cert.algebraic_DwInIdeal_DwInRefIdeal := by
  intro m ρ m' ρ' _ hag
  refine ⟨fun c => G2 m c, run m ρ, ?_⟩
  refine (θ_run Cert.DwInRefIdeal.defs _ _).mono (fun r h c => ?_) (Cert.DwInRefIdeal.Value.run (F := Ideal) m' ρ')
  obtain ⟨r0, ra⟩ := h c
  obtain ⟨g0, g1, g2⟩ := hag c
  refine ⟨(r0.trans (Cert.DwInRefIdeal.Read.val_main_v5_eq _ _)).trans ?_, ra⟩
  rw [g0, g2]
  exact (final m c).symm

end Cert.DwInVal

end
-- ==== Proof.DwOutVal.lean ====
/- Hand-written, untrusted: THE OUTPUT PROJECTION'S WEIGHT-GRADIENT CALL sums the two halves of the rows, block by block; the reference
   sums all rows at once. -/
module

public import proofs.«01_k».proof.Proof.Mat
public import proofs.«01_k».proof.Proof.Gen.DwOutIdeal.Value
public import proofs.«01_k».proof.Proof.Gen.DwOutRefIdeal.Run
public import proofs.«01_k».proof.Proof.Gen.DwOutRefIdeal.Read
public import proofs.«01_k».proof.Defs

@[expose] public section

set_option maxRecDepth 16384

noncomputable section

namespace Cert.DwOutVal

open Cert.DwOutIdeal Cert.DwOutIdeal.Gen Cert.DwOutIdeal.Value Cert.Mat Idealize.ShloMosaic Idealize.ShloMosaic.TcCoe Idealize.SL.Sem
open Idealize.ShloMosaic.Tactic

/-! ### What the two cases leave, as payloads -/

abbrev XA := Vec Ideal S2048x1024 .bf16
abbrev XC := Vec Ideal S2048x1024 .bf16
abbrev XS := Vec Ideal S1024x1024 .f32

set_option maxHeartbeats 16000000 in
theorem sout_A (c : Dev nD) (i : grid0.Coords) (arg3 : Memref sig .tc .vmem S2048x1024 .bf16) (harg3 : arg3.IsWhole)
    (arg4 : Memref sig .tc .vmem S2048x1024 .bf16) (harg4 : arg4.IsWhole) (arg5 : Memref sig .tc .vmem S1024x1024 .bf16) (harg5 : arg5.IsWhole)
    (arg6 : Memref sig .tc .vmem S1024x1024 .f32) (harg6 : arg6.IsWhole) (hc0) (hc1) (x0 : XA) (x1 : XC) :
    sout0_A_0 c i arg3 harg3 arg4 harg4 arg5 harg5 arg6 harg6 hc0 hc1 x0 x1 = k0_pay2 (F := Ideal) (k0_pay1 (F := Ideal)) x0 x1 := by
  unfold sout0_A_0
  rw [View.read_writes_eq_canon _ _ _ (scover0_A_0 c _ _ _ _ _ _ _ _ _ _ _ _ _)]
  unfold kernelRun0_A
  dsimp only
  sl_unfold_words
  simp only [View.readAt_eq_ld, harg3.read_unread, harg4.read_unread, harg5.read_unread, harg6.read_unread, View.readCov_eq_canon']
  rw [View.canon_cons_unit_zero off2]
  simp only [View.ld_unit_zero (S := S2048x1024) off2, View.ld_unit_zero (S := S1024x1024) off2, View.canon_unit_zero (S := S1024x1024) off2]
  rfl

set_option maxHeartbeats 16000000 in
theorem out_B (c : Dev nD) (i : grid0.Coords) (arg3 : Memref sig .tc .vmem S2048x1024 .bf16) (harg3 : arg3.IsWhole)
    (arg4 : Memref sig .tc .vmem S2048x1024 .bf16) (harg4 : arg4.IsWhole) (arg5 : Memref sig .tc .vmem S1024x1024 .bf16) (harg5 : arg5.IsWhole)
    (arg6 : Memref sig .tc .vmem S1024x1024 .f32) (harg6 : arg6.IsWhole) (hc0) (hc1) (x0 : XA) (x1 : XC) (xs : XS) :
    out0_B_2 c i arg3 harg3 arg4 harg4 arg5 harg5 arg6 harg6 hc0 hc1 x0 x1 xs = k0_pay3 (F := Ideal) (k0_pay2 (F := Ideal) xs x0 x1) := by
  unfold out0_B_2
  rw [View.read_writes_eq_canon _ _ _ (cover0_B_2 c _ _ _ _ _ _ _ _ _ _ _ _ _ _)]
  unfold kernelRun0_B
  dsimp only
  sl_unfold_words
  simp only [View.readAt_eq_ld, harg3.read_unread, harg4.read_unread, harg5.read_unread, harg6.read_unread, View.readCov_eq_canon']
  rw [View.canon_cons_unit_zero off2]
  simp only [View.ld_unit_zero (S := S2048x1024) off2, View.ld_unit_zero (S := S1024x1024) off2, View.canon_unit_zero (S := S1024x1024) off2]
  refine congrArg (k0_pay3 (F := Ideal)) (funext fun j => ?_)
  exact congrArg (k0_pay2 (F := Ideal) xs x0 x1) (funext fun a => Fin.ext (by
    match a with
    | ⟨0, _⟩ => show 0 + 1 * (j 0).val = (j 0).val; omega
    | ⟨1, _⟩ => show 0 + 1 * (j 1).val = (j 1).val; omega))

theorem pay1_at (r : Fin 1024) (j : Fin 1024) : (k0_pay1 (F := Ideal) (ix2 r j) : EReal) = 0 := by
  unfold k0_pay1
  rw [shapeCast_id]
  exact zero_word

theorem pay2_at (a : XS) (x0 : XA) (x1 : XC) (r : Fin 1024) (j : Fin 1024) :
    (k0_pay2 (F := Ideal) a x0 x1 (ix2 r j) : EReal) = a (ix2 r j) + ∑ k : Fin 2048, x0 (ix2 k r) * x1 (ix2 k j) := by
  unfold k0_pay2
  rw [shapeCast_id]
  show (a (ix2 r j) : EReal) + matmul (F := Ideal) dot_S2048x1024_S2048x1024_S1024x1024_0_0_1_1_n_n none x0 x1 _ (ix2 r j) = _
  refine congrArg (a (ix2 r j) + ·) ?_
  exact kmm_tn (M := 1024) (K := 2048) (N := 1024) none _ _ r j

/-! ### The blocks -/

variable (m : (ℓ : Loc nD τ sig) → Buf (Elt Ideal) ℓ) (c : Dev nD)

abbrev A0 : Vec Ideal S4096x1024 .bf16 := m ((c : Thread nD τ).loc main_arg0)
abbrev A2 : Vec Ideal S4096x1024 .bf16 := m ((c : Thread nD τ).loc main_arg2)

theorem at0 : ∀ t : Fin cfg0.N, win0_0.index t (0 : Fin 2) = t.val % 2 ∧ win0_0.index t (1 : Fin 2) = t.val / 2 := (by decide +kernel : ∀ t : Fin grid0.N, _)
theorem at1 : ∀ t : Fin cfg0.N, win0_1.index t (0 : Fin 2) = t.val % 2 ∧ win0_1.index t (1 : Fin 2) = 0 := (by decide +kernel : ∀ t : Fin grid0.N, _)
theorem at2 : ∀ t : Fin cfg0.N, win0_2.index t (0 : Fin 2) = t.val / 2 ∧ win0_2.index t (1 : Fin 2) = 0 := (by decide +kernel : ∀ t : Fin grid0.N, _)
theorem ltN (t : Fin cfg0.N) : t.val < 2 := lt_of_lt_of_eq t.isLt (show cfg0.N = 2 from N_0)

/-- Row `k` of the half point `t` reads, and the columns its blocks cover. -/
abbrev row (t : Fin cfg0.N) (k : Fin 2048) : Fin 4096 := ⟨2048 * (t.val % 2) + k.val, by omega⟩
abbrev colA (_t : Fin cfg0.N) (r : Fin 1024) : Fin 1024 := r
abbrev colC (_t : Fin cfg0.N) (j : Fin 1024) : Fin 1024 := j

theorem b0 (t : Fin cfg0.N) (k : Fin 2048) (r : Fin 1024) : (iblk m c 0 t : XA) (ix2 k r) = A0 m c (ix2 (row t k) (colA t r)) := by
  obtain ⟨e0, e1⟩ := at0 t
  show V m c main_arg0 (((cfg0.win 0).blk t).view.emb (ix2 k r)) = _
  rw [V_main_arg0]
  refine congrArg (A0 m c) (funext fun a => Fin.ext ?_)
  match a with
  | ⟨0, _⟩ => show win0_0.index t (0 : Fin 2) * 2048 + 1 * k.val = 2048 * (t.val % 2) + k.val; omega
  | ⟨1, _⟩ => show win0_0.index t (1 : Fin 2) * 1024 + 1 * r.val = r.val; have := ltN t; omega

theorem b1 (t : Fin cfg0.N) (k : Fin 2048) (j : Fin 1024) : (iblk m c 1 t : XC) (ix2 k j) = A2 m c (ix2 (row t k) (colC t j)) := by
  obtain ⟨e0, e1⟩ := at1 t
  show V m c main_arg2 (((cfg0.win 1).blk t).view.emb (ix2 k j)) = _
  rw [V_main_arg2]
  refine congrArg (A2 m c) (funext fun a => Fin.ext ?_)
  match a with
  | ⟨0, _⟩ => show win0_1.index t (0 : Fin 2) * 2048 + 1 * k.val = 2048 * (t.val % 2) + k.val; omega
  | ⟨1, _⟩ => show win0_1.index t (1 : Fin 2) * 1024 + 1 * j.val = j.val; omega

/-! ### The reference -/

theorem ref_at (x0 : Vec Ideal S4096x1024 .bf16) (x2 : Vec Ideal S4096x1024 .bf16) (i : Fin 1024) (j : Fin 1024) :
    (Cert.DwOutRefIdeal.Read.val_main_v5 (F := Ideal) x0 x2 (ix2 i j) : EReal) = ∑ k : Fin 4096, x0 (ix2 k i) * x2 (ix2 k j) := by
  refine Eq.trans (b := (Cert.DwOutRefIdeal.Read.val_main_v3 (F := Ideal) x0 x2 (ix2 j i) : EReal)) ?_ ?_
  · rw [Cert.DwOutRefIdeal.Read.val_main_v5_apply, Cert.DwOutRefIdeal.Read.val_main_v4_apply]
    refine congrArg (Cert.DwOutRefIdeal.Read.val_main_v3 (F := Ideal) x0 x2) (funext fun a => Fin.ext ?_)
    match a with
    | ⟨0, _⟩ => rfl
    | ⟨1, _⟩ => rfl
  · refine (hmm_tn (M := 1024) (K := 4096) (N := 1024) none _ _ j i).trans (Finset.sum_congr rfl fun k _ => mul_comm _ _)

abbrev K2 : Vec Ideal S1024x1024 .bf16 := Cert.DwOutRefIdeal.Read.val_main_v5 (F := Ideal) (A0 m c) (A2 m c)

/-- The scratch after the first half. -/
theorem scr_at (t : Fin cfg0.N) (h0 : t.val % 2 = 0) (r : Fin 1024) (j : Fin 1024) :
    ((outsAt0 m c t.val t.isLt).2 (ix2 r j) : EReal) = ∑ k : Fin 2048, A0 m c (ix2 (row t k) (colA t r)) * A2 m c (ix2 (row t k) (colC t j)) := by
  rw [outsAt0_A m c t h0 (by omega)]
  dsimp only
  rw [sout_A, pay2_at, pay1_at, zero_add]
  refine Finset.sum_congr rfl fun k _ => ?_
  rw [b0, b1]

theorem tile2 (t : Fin cfg0.N) (h1 : t.val % 2 = 1) (r : Fin 1024) (j : Fin 1024) :
    ((outsAt0 m c t.val t.isLt).1 (ix2 r j) : EReal) = K2 m c (ix2 (colA t r) (colC t j)) := by
  rw [outsAt0_B m c t (by omega) h1]
  dsimp only
  rw [out_B]
  refine (pay2_at _ _ _ r j).trans ?_
  have hp : t.val - 1 < cfg0.N := Nat.lt_of_le_of_lt (Nat.sub_le _ _) t.isLt
  have hs := scr_at m c ⟨t.val - 1, hp⟩ (by show (t.val - 1) % 2 = 0; omega) r j
  refine (congrArg (· + _) hs).trans ((ref_at _ _ _ _).trans ((sum_halves _).trans ?_)).symm
  have ha : colA ⟨t.val - 1, hp⟩ r = colA t r := Fin.ext (by rfl)
  have hc : colC ⟨t.val - 1, hp⟩ j = colC t j := Fin.ext (by show j.val = j.val; omega)
  rw [ha, hc]
  refine congr (congrArg HAdd.hAdd (Finset.sum_congr rfl fun k _ => ?_)) (Finset.sum_congr rfl fun k _ => ?_)
  · have hr : row ⟨t.val - 1, hp⟩ k = (⟨k.val, by omega⟩ : Fin 4096) := Fin.ext (by show 2048 * ((t.val - 1) % 2) + k.val = k.val; omega)
    rw [hr]
  · have hr : row t k = (⟨2048 + k.val, by omega⟩ : Fin 4096) := Fin.ext (by show 2048 * (t.val % 2) + k.val = 2048 + k.val; omega)
    rw [b0, b1, hr]

theorem emb2 (t : Fin cfg0.N) (r : Fin 1024) (j : Fin 1024) : ((cfg0.win 2).blk t).view.emb (ix2 r j) = (ix2 (colA t r) (colC t j) : S1024x1024.Idx) := by
  obtain ⟨e0, e1⟩ := at2 t
  funext a; apply Fin.ext
  match a with
  | ⟨0, _⟩ => show win0_2.index t (0 : Fin 2) * 1024 + 1 * r.val = r.val; have := ltN t; omega
  | ⟨1, _⟩ => show win0_2.index t (1 : Fin 2) * 1024 + 1 * j.val = j.val; omega

theorem final : G2 m c = K2 m c :=
  (final2 m c).symm.trans ((dats m 0 c).arrAt_eq_of_cover 2 (K2 m c) (fun t hf => by
    have h1 : t.val % 2 = 1 := (flush0_2 t).mp hf
    rw [flushed2]
    funext y
    show (outsAt0 m c t.val t.isLt).1 y = K2 m c (((cfg0.win 2).blk t).view.emb y)
    rw [eq_ix2 (n0 := 1024) (n1 := 1024) y]
    exact (tile2 m c t h1 (y 0) (y 1)).trans (congrArg (K2 m c) (emb2 t (y 0) (y 1)).symm))
    (fun i => (covered_iff2 i).2 (by
      have h0 : (i 0).val < 1024 := (i 0).isLt
      have h1 : (i 1).val < 1024 := (i 1).isLt
      omega)))

theorem frame_r : Cert.quiescent_DwOutRefIdeal := by
  intro m ρ _
  exact (θ_run Cert.DwOutRefIdeal.defs _ _).mono (fun r h => ⟨fun c => (h c).2, Idealize.ShloMosaic.sem_eq_zero_of_no_sems (by decide) r.2⟩)
    (Cert.DwOutRefIdeal.Value.run (F := Ideal) m ρ)

theorem algebraic : Cert.algebraic_DwOutIdeal_DwOutRefIdeal := by
  intro m ρ m' ρ' _ hag
  refine ⟨fun c => G2 m c, run m ρ, ?_⟩
  refine (θ_run Cert.DwOutRefIdeal.defs _ _).mono (fun r h c => ?_) (Cert.DwOutRefIdeal.Value.run (F := Ideal) m' ρ')
  obtain ⟨r0, ra⟩ := h c
  obtain ⟨g0, g1, g2⟩ := hag c
  refine ⟨(r0.trans (Cert.DwOutRefIdeal.Read.val_main_v5_eq _ _)).trans ?_, ra⟩
  rw [g0, g2]
  exact (final m c).symm

end Cert.DwOutVal

end
-- ==== Proof.OutBwdVal.lean ====
/- Hand-written, untrusted: THE OUTPUT PROJECTION'S INPUT-GRADIENT CALL writes, block by block, the rows of the reference's results. -/
module

public import proofs.«01_k».proof.Proof.Mat
public import proofs.«01_k».proof.Proof.Gen.OutBwdIdeal.Value
public import proofs.«01_k».proof.Proof.Gen.OutBwdRefIdeal.Run
public import proofs.«01_k».proof.Proof.Gen.OutBwdRefIdeal.Read
public import proofs.«01_k».proof.Defs

@[expose] public section

set_option maxRecDepth 16384

noncomputable section

namespace Cert.OutBwdVal

open Cert.OutBwdIdeal Cert.OutBwdIdeal.Gen Cert.OutBwdIdeal.Value Cert.Mat Idealize.ShloMosaic Idealize.ShloMosaic.TcCoe Idealize.SL.Sem

variable (m : (ℓ : Loc nD τ sig) → Buf (Elt Ideal) ℓ) (c : Dev nD)

abbrev A0 : Vec Ideal S4096x1024 .bf16 := m ((c : Thread nD τ).loc main_arg0)
abbrev A1 : Vec Ideal S1024x1024 .f32 := m ((c : Thread nD τ).loc main_arg1)
abbrev A2 : Vec Ideal S4096x1024 .f32 := m ((c : Thread nD τ).loc main_arg2)

theorem ltN (t : Fin cfg0.N) : t.val < 8 := lt_of_lt_of_eq t.isLt (show cfg0.N = 8 from N_0)

/-- Row `r` of block `t`. -/
abbrev row (t : Fin cfg0.N) (r : Fin 512) : Fin 4096 := ⟨512 * t.val + r.val, by have := ltN t; omega⟩

theorem V_w : V m c main_v0 = (truncf (F := Ideal) .bf16 (A1 m c) bitsLt_bf16_f32 : Vec Ideal S1024x1024 .bf16) := by
  show StableHlo.after hostOps0 _ (Proc.devRef .tc main_v0) = _
  simp only [hostOps0]
  after_results

theorem at0 : ∀ t : Fin cfg0.N, win0_0.index t (0 : Fin 2) = t.val ∧ win0_0.index t (1 : Fin 2) = 0 := (by decide +kernel : ∀ t : Fin grid0.N, _)
theorem b0 (t : Fin cfg0.N) (r : Fin 512) (l : Fin 1024) : (iblk m c 0 t : Vec Ideal S512x1024 .f32) (ix2 r l) = A2 m c (ix2 (row t r) l) := by
  obtain ⟨e0, e1⟩ := at0 t
  show V m c main_arg2 (((cfg0.win 0).blk t).view.emb (ix2 r l)) = _
  rw [V_main_arg2]
  refine congrArg (A2 m c) (funext fun a => Fin.ext ?_)
  match a with
  | ⟨0, _⟩ => show win0_0.index t (0 : Fin 2) * 512 + 1 * r.val = 512 * t.val + r.val; omega
  | ⟨1, _⟩ => show win0_0.index t (1 : Fin 2) * 1024 + 1 * l.val = l.val; omega

theorem at1 : ∀ t : Fin cfg0.N, win0_1.index t (0 : Fin 2) = 0 ∧ win0_1.index t (1 : Fin 2) = 0 := (by decide +kernel : ∀ t : Fin grid0.N, _)
theorem b1 (t : Fin cfg0.N) (r : Fin 1024) (l : Fin 1024) : (iblk m c 1 t : Vec Ideal S1024x1024 .bf16) (ix2 r l) = A1 m c (ix2 r l) := by
  obtain ⟨e0, e1⟩ := at1 t
  show V m c main_v0 (((cfg0.win 1).blk t).view.emb (ix2 r l)) = _
  have he : ((cfg0.win 1).blk t).view.emb (ix2 r l) = (ix2 r l : S1024x1024.Idx) := funext fun a => Fin.ext (by
    match a with
    | ⟨0, _⟩ => show win0_1.index t (0 : Fin 2) * 1024 + 1 * r.val = r.val; omega
    | ⟨1, _⟩ => show win0_1.index t (1 : Fin 2) * 1024 + 1 * l.val = l.val; omega)
  rw [he, V_w]
  rfl

theorem ref_at (x1 : Vec Ideal S1024x1024 .f32) (x2 : Vec Ideal S4096x1024 .f32) (i : Fin 4096) (q : Fin 1024) :
    (Cert.OutBwdRefIdeal.Read.val_main_v2 (F := Ideal) x1 x2 (ix2 i q) : EReal) = ∑ k : Fin 1024, x2 (ix2 i k) * x1 (ix2 q k) :=
  hmm_nt (M := 4096) (K := 1024) (N := 1024) none _ _ i q

theorem pay2_at (x0 : Vec Ideal S512x1024 .f32) (x1 : Vec Ideal S1024x1024 .bf16) (r : Fin 512) (q : Fin 1024) :
    (k0_pay2 (F := Ideal) x0 x1 (ix2 r q) : EReal) = ∑ k : Fin 1024, x0 (ix2 r k) * x1 (ix2 q k) := by
  unfold k0_pay2 k0_pay1
  rw [shapeCast_id]
  exact kmm_nt (M := 512) (K := 1024) (N := 1024) none _ _ r q

theorem prod_at (t : Fin cfg0.N) (r : Fin 512) (q : Fin 1024) :
    (k0_pay2 (F := Ideal) (iblk m c 0 t) (iblk m c 1 t) (ix2 r q) : EReal)
      = Cert.OutBwdRefIdeal.Read.val_main_v2 (F := Ideal) (A1 m c) (A2 m c) (ix2 (row t r) q) := by
  refine (pay2_at _ _ r q).trans ((ref_at _ _ (row t r) q).trans (Finset.sum_congr rfl fun k _ => ?_)).symm
  rw [b0, b1]

theorem at2 : ∀ t : Fin cfg0.N, win0_2.index t (0 : Fin 2) = t.val ∧ win0_2.index t (1 : Fin 2) = 0 := (by decide +kernel : ∀ t : Fin grid0.N, _)

abbrev K2 : Vec Ideal S4096x512 .f32 := Cert.OutBwdRefIdeal.Read.val_main_v3 (F := Ideal) (A1 m c) (A2 m c)

theorem tile2 (t : Fin cfg0.N) (r : Fin 512) (l : Fin 512) :
    out0_2 (iblk m c 0 t) (iblk m c 1 t) (ix2 r l) = K2 m c (ix2 (row t r) l) := by
  unfold out0_2
  rw [View.canon_unit_zero off2, View.ld_unit_zero off2, View.ld_unit_zero off2]
  unfold k0_pay3
  refine (extractStridedSlice_apply ![0, 0] (k0_pay2 (F := Ideal) (iblk m c 0 t) (iblk m c 1 t)) slices_S512x1024_o0_0_S512x512 (ix2 r l) (ix2 r (⟨0 + l.val, by omega⟩ : Fin 1024)) (fun a => match a with
    | ⟨0, _⟩ => by show r.val = 0 + r.val; omega
    | ⟨1, _⟩ => by show 0 + l.val = 0 + l.val; omega)).trans ?_
  refine (prod_at m c t r _).trans ((Cert.OutBwdRefIdeal.Read.val_main_v3_apply (F := Ideal) _ _ _).trans ?_).symm
  refine congrArg (Cert.OutBwdRefIdeal.Read.val_main_v2 (F := Ideal) (A1 m c) (A2 m c)) (funext fun a => Fin.ext ?_)
  match a with
  | ⟨0, _⟩ => rfl
  | ⟨1, _⟩ => exact (Nat.zero_add _).symm

theorem emb2 (t : Fin cfg0.N) (r : Fin 512) (l : Fin 512) : ((cfg0.win 2).blk t).view.emb (ix2 r l) = (ix2 (row t r) l : S4096x512.Idx) := by
  obtain ⟨e0, e1⟩ := at2 t
  funext a; apply Fin.ext
  match a with
  | ⟨0, _⟩ => show win0_2.index t (0 : Fin 2) * 512 + 1 * r.val = 512 * t.val + r.val; omega
  | ⟨1, _⟩ => show win0_2.index t (1 : Fin 2) * 512 + 1 * l.val = l.val; omega

theorem covered2_at (i : Fin 4096) (l : Fin 512) : ∃ t : Fin cfg0.N, (cfg0.win 2).flush t = true ∧ (ix2 i l : S4096x512.Idx) ∈ ((cfg0.win 2).blk t).view.set := by
  have hl : i.val / 512 < cfg0.N := by rw [show cfg0.N = 8 from N_0]; omega
  refine ⟨⟨i.val / 512, hl⟩, (by decide +kernel : ∀ t : Fin grid0.N, win0_2.flush t = true) _, ?_⟩
  have h := ((cfg0.win 2).blk (⟨i.val / 512, hl⟩ : Fin cfg0.N)).view.emb_mem_set (ix2 (⟨i.val % 512, Nat.mod_lt _ (by decide)⟩ : Fin 512) l)
  rw [emb2] at h
  have e : row (⟨i.val / 512, hl⟩ : Fin cfg0.N) ⟨i.val % 512, Nat.mod_lt _ (by decide)⟩ = i := Fin.ext (by show 512 * (i.val / 512) + i.val % 512 = i.val; omega)
  rwa [e] at h

theorem final2 : (dats m 0 c).arrAt 2 cfg0.N = K2 m c :=
  (dats m 0 c).arrAt_eq_of_cover 2 (K2 m c) (fun t _ => by
    rw [flushed2]
    funext j
    show out0_2 (iblk m c 0 t) (iblk m c 1 t) j = K2 m c (((cfg0.win 2).blk t).view.emb j)
    rw [eq_ix2 (n0 := 512) (n1 := 512) j]
    exact (tile2 m c t (j 0) (j 1)).trans (congrArg (K2 m c) (emb2 t (j 0) (j 1)).symm))
    (fun i => by rw [eq_ix2 (n0 := 4096) (n1 := 512) i]; exact covered2_at (i 0) (i 1))

theorem at3 : ∀ t : Fin cfg0.N, win0_3.index t (0 : Fin 2) = t.val ∧ win0_3.index t (1 : Fin 2) = 0 := (by decide +kernel : ∀ t : Fin grid0.N, _)

abbrev K3 : Vec Ideal S4096x256 .f32 := Cert.OutBwdRefIdeal.Read.val_main_v4 (F := Ideal) (A1 m c) (A2 m c)

theorem tile3 (t : Fin cfg0.N) (r : Fin 512) (l : Fin 256) :
    out0_3 (iblk m c 0 t) (iblk m c 1 t) (ix2 r l) = K3 m c (ix2 (row t r) l) := by
  unfold out0_3
  rw [View.canon_unit_zero off2, View.ld_unit_zero off2, View.ld_unit_zero off2]
  unfold k0_pay4
  refine (extractStridedSlice_apply ![0, 512] (k0_pay2 (F := Ideal) (iblk m c 0 t) (iblk m c 1 t)) slices_S512x1024_o0_512_S512x256 (ix2 r l) (ix2 r (⟨512 + l.val, by omega⟩ : Fin 1024)) (fun a => match a with
    | ⟨0, _⟩ => by show r.val = 0 + r.val; omega
    | ⟨1, _⟩ => by show 512 + l.val = 512 + l.val; omega)).trans ?_
  refine (prod_at m c t r _).trans ((Cert.OutBwdRefIdeal.Read.val_main_v4_apply (F := Ideal) _ _ _).trans ?_).symm
  refine congrArg (Cert.OutBwdRefIdeal.Read.val_main_v2 (F := Ideal) (A1 m c) (A2 m c)) (funext fun a => Fin.ext ?_)
  match a with
  | ⟨0, _⟩ => rfl
  | ⟨1, _⟩ => rfl

theorem emb3 (t : Fin cfg0.N) (r : Fin 512) (l : Fin 256) : ((cfg0.win 3).blk t).view.emb (ix2 r l) = (ix2 (row t r) l : S4096x256.Idx) := by
  obtain ⟨e0, e1⟩ := at3 t
  funext a; apply Fin.ext
  match a with
  | ⟨0, _⟩ => show win0_3.index t (0 : Fin 2) * 512 + 1 * r.val = 512 * t.val + r.val; omega
  | ⟨1, _⟩ => show win0_3.index t (1 : Fin 2) * 256 + 1 * l.val = l.val; omega

theorem covered3_at (i : Fin 4096) (l : Fin 256) : ∃ t : Fin cfg0.N, (cfg0.win 3).flush t = true ∧ (ix2 i l : S4096x256.Idx) ∈ ((cfg0.win 3).blk t).view.set := by
  have hl : i.val / 512 < cfg0.N := by rw [show cfg0.N = 8 from N_0]; omega
  refine ⟨⟨i.val / 512, hl⟩, (by decide +kernel : ∀ t : Fin grid0.N, win0_3.flush t = true) _, ?_⟩
  have h := ((cfg0.win 3).blk (⟨i.val / 512, hl⟩ : Fin cfg0.N)).view.emb_mem_set (ix2 (⟨i.val % 512, Nat.mod_lt _ (by decide)⟩ : Fin 512) l)
  rw [emb3] at h
  have e : row (⟨i.val / 512, hl⟩ : Fin cfg0.N) ⟨i.val % 512, Nat.mod_lt _ (by decide)⟩ = i := Fin.ext (by show 512 * (i.val / 512) + i.val % 512 = i.val; omega)
  rwa [e] at h

theorem final3 : (dats m 0 c).arrAt 3 cfg0.N = K3 m c :=
  (dats m 0 c).arrAt_eq_of_cover 3 (K3 m c) (fun t _ => by
    rw [flushed3]
    funext j
    show out0_3 (iblk m c 0 t) (iblk m c 1 t) j = K3 m c (((cfg0.win 3).blk t).view.emb j)
    rw [eq_ix2 (n0 := 512) (n1 := 256) j]
    exact (tile3 m c t (j 0) (j 1)).trans (congrArg (K3 m c) (emb3 t (j 0) (j 1)).symm))
    (fun i => by rw [eq_ix2 (n0 := 4096) (n1 := 256) i]; exact covered3_at (i 0) (i 1))

theorem at4 : ∀ t : Fin cfg0.N, win0_4.index t (0 : Fin 2) = t.val ∧ win0_4.index t (1 : Fin 2) = 0 := (by decide +kernel : ∀ t : Fin grid0.N, _)

abbrev K4 : Vec Ideal S4096x256 .f32 := Cert.OutBwdRefIdeal.Read.val_main_v5 (F := Ideal) (A1 m c) (A2 m c)

theorem tile4 (t : Fin cfg0.N) (r : Fin 512) (l : Fin 256) :
    out0_4 (iblk m c 0 t) (iblk m c 1 t) (ix2 r l) = K4 m c (ix2 (row t r) l) := by
  unfold out0_4
  rw [View.canon_unit_zero off2, View.ld_unit_zero off2, View.ld_unit_zero off2]
  unfold k0_pay5
  refine (extractStridedSlice_apply ![0, 768] (k0_pay2 (F := Ideal) (iblk m c 0 t) (iblk m c 1 t)) slices_S512x1024_o0_768_S512x256 (ix2 r l) (ix2 r (⟨768 + l.val, by omega⟩ : Fin 1024)) (fun a => match a with
    | ⟨0, _⟩ => by show r.val = 0 + r.val; omega
    | ⟨1, _⟩ => by show 768 + l.val = 768 + l.val; omega)).trans ?_
  refine (prod_at m c t r _).trans ((Cert.OutBwdRefIdeal.Read.val_main_v5_apply (F := Ideal) _ _ _).trans ?_).symm
  refine congrArg (Cert.OutBwdRefIdeal.Read.val_main_v2 (F := Ideal) (A1 m c) (A2 m c)) (funext fun a => Fin.ext ?_)
  match a with
  | ⟨0, _⟩ => rfl
  | ⟨1, _⟩ => rfl

theorem emb4 (t : Fin cfg0.N) (r : Fin 512) (l : Fin 256) : ((cfg0.win 4).blk t).view.emb (ix2 r l) = (ix2 (row t r) l : S4096x256.Idx) := by
  obtain ⟨e0, e1⟩ := at4 t
  funext a; apply Fin.ext
  match a with
  | ⟨0, _⟩ => show win0_4.index t (0 : Fin 2) * 512 + 1 * r.val = 512 * t.val + r.val; omega
  | ⟨1, _⟩ => show win0_4.index t (1 : Fin 2) * 256 + 1 * l.val = l.val; omega

theorem covered4_at (i : Fin 4096) (l : Fin 256) : ∃ t : Fin cfg0.N, (cfg0.win 4).flush t = true ∧ (ix2 i l : S4096x256.Idx) ∈ ((cfg0.win 4).blk t).view.set := by
  have hl : i.val / 512 < cfg0.N := by rw [show cfg0.N = 8 from N_0]; omega
  refine ⟨⟨i.val / 512, hl⟩, (by decide +kernel : ∀ t : Fin grid0.N, win0_4.flush t = true) _, ?_⟩
  have h := ((cfg0.win 4).blk (⟨i.val / 512, hl⟩ : Fin cfg0.N)).view.emb_mem_set (ix2 (⟨i.val % 512, Nat.mod_lt _ (by decide)⟩ : Fin 512) l)
  rw [emb4] at h
  have e : row (⟨i.val / 512, hl⟩ : Fin cfg0.N) ⟨i.val % 512, Nat.mod_lt _ (by decide)⟩ = i := Fin.ext (by show 512 * (i.val / 512) + i.val % 512 = i.val; omega)
  rwa [e] at h

theorem final4 : (dats m 0 c).arrAt 4 cfg0.N = K4 m c :=
  (dats m 0 c).arrAt_eq_of_cover 4 (K4 m c) (fun t _ => by
    rw [flushed4]
    funext j
    show out0_4 (iblk m c 0 t) (iblk m c 1 t) j = K4 m c (((cfg0.win 4).blk t).view.emb j)
    rw [eq_ix2 (n0 := 512) (n1 := 256) j]
    exact (tile4 m c t (j 0) (j 1)).trans (congrArg (K4 m c) (emb4 t (j 0) (j 1)).symm))
    (fun i => by rw [eq_ix2 (n0 := 4096) (n1 := 256) i]; exact covered4_at (i 0) (i 1))

theorem at5 : ∀ t : Fin cfg0.N, win0_5.index t (0 : Fin 2) = t.val ∧ win0_5.index t (1 : Fin 2) = 0 := (by decide +kernel : ∀ t : Fin grid0.N, _)

abbrev K5 : Vec Ideal S4096x1024 .bf16 := Cert.OutBwdRefIdeal.Read.val_main_v6 (F := Ideal) (A2 m c)

theorem tile5 (t : Fin cfg0.N) (r : Fin 512) (l : Fin 1024) :
    out0_5 (iblk m c 0 t) (iblk m c 1 t) (ix2 r l) = K5 m c (ix2 (row t r) l) := by
  unfold out0_5
  rw [View.canon_unit_zero off2, View.ld_unit_zero off2]
  exact b0 m c t r l

theorem emb5 (t : Fin cfg0.N) (r : Fin 512) (l : Fin 1024) : ((cfg0.win 5).blk t).view.emb (ix2 r l) = (ix2 (row t r) l : S4096x1024.Idx) := by
  obtain ⟨e0, e1⟩ := at5 t
  funext a; apply Fin.ext
  match a with
  | ⟨0, _⟩ => show win0_5.index t (0 : Fin 2) * 512 + 1 * r.val = 512 * t.val + r.val; omega
  | ⟨1, _⟩ => show win0_5.index t (1 : Fin 2) * 1024 + 1 * l.val = l.val; omega

theorem covered5_at (i : Fin 4096) (l : Fin 1024) : ∃ t : Fin cfg0.N, (cfg0.win 5).flush t = true ∧ (ix2 i l : S4096x1024.Idx) ∈ ((cfg0.win 5).blk t).view.set := by
  have hl : i.val / 512 < cfg0.N := by rw [show cfg0.N = 8 from N_0]; omega
  refine ⟨⟨i.val / 512, hl⟩, (by decide +kernel : ∀ t : Fin grid0.N, win0_5.flush t = true) _, ?_⟩
  have h := ((cfg0.win 5).blk (⟨i.val / 512, hl⟩ : Fin cfg0.N)).view.emb_mem_set (ix2 (⟨i.val % 512, Nat.mod_lt _ (by decide)⟩ : Fin 512) l)
  rw [emb5] at h
  have e : row (⟨i.val / 512, hl⟩ : Fin cfg0.N) ⟨i.val % 512, Nat.mod_lt _ (by decide)⟩ = i := Fin.ext (by show 512 * (i.val / 512) + i.val % 512 = i.val; omega)
  rwa [e] at h

theorem final5 : (dats m 0 c).arrAt 5 cfg0.N = K5 m c :=
  (dats m 0 c).arrAt_eq_of_cover 5 (K5 m c) (fun t _ => by
    rw [flushed5]
    funext j
    show out0_5 (iblk m c 0 t) (iblk m c 1 t) j = K5 m c (((cfg0.win 5).blk t).view.emb j)
    rw [eq_ix2 (n0 := 512) (n1 := 1024) j]
    exact (tile5 m c t (j 0) (j 1)).trans (congrArg (K5 m c) (emb5 t (j 0) (j 1)).symm))
    (fun i => by rw [eq_ix2 (n0 := 4096) (n1 := 1024) i]; exact covered5_at (i 0) (i 1))

theorem frame_r : Cert.quiescent_OutBwdRefIdeal := by
  intro m ρ _
  exact (θ_run Cert.OutBwdRefIdeal.defs _ _).mono (fun r h => ⟨fun c => (h c).2.2.2.2, Idealize.ShloMosaic.sem_eq_zero_of_no_sems (by decide) r.2⟩)
    (Cert.OutBwdRefIdeal.Value.run (F := Ideal) m ρ)

theorem algebraic : Cert.algebraic_OutBwdIdeal_OutBwdRefIdeal := by
  intro m ρ m' ρ' _ hag
  refine ⟨fun c => (dats m 0 c).arrAt 2 cfg0.N, fun c => (dats m 0 c).arrAt 3 cfg0.N, fun c => (dats m 0 c).arrAt 4 cfg0.N, fun c => (dats m 0 c).arrAt 5 cfg0.N, run_blocks m ρ, ?_⟩
  refine (θ_run Cert.OutBwdRefIdeal.defs _ _).mono (fun r h c => ?_) (Cert.OutBwdRefIdeal.Value.run (F := Ideal) m' ρ')
  obtain ⟨r2, r3, r4, r5, ra⟩ := h c
  obtain ⟨g0, g1, g2⟩ := hag c
  refine ⟨?_, ?_, ?_, ?_, ra⟩
  · refine (r2.trans (Cert.OutBwdRefIdeal.Read.val_main_v3_eq _ _)).trans ?_
    rw [g1, g2]
    exact (final2 m c).symm
  · refine (r3.trans (Cert.OutBwdRefIdeal.Read.val_main_v4_eq _ _)).trans ?_
    rw [g1, g2]
    exact (final3 m c).symm
  · refine (r4.trans (Cert.OutBwdRefIdeal.Read.val_main_v5_eq _ _)).trans ?_
    rw [g1, g2]
    exact (final4 m c).symm
  · refine (r5.trans (Cert.OutBwdRefIdeal.Read.val_main_v6_eq _)).trans ?_
    rw [g2]
    exact (final5 m c).symm

end Cert.OutBwdVal

end
-- ==== Proof.OutFwdVal.lean ====
/- Hand-written, untrusted: THE OUTPUT PROJECTION'S FORWARD CALL writes, block by block, the rows of the reference's result. -/
module

public import proofs.«01_k».proof.Proof.Mat
public import proofs.«01_k».proof.Proof.Gen.OutFwdIdeal.Value
public import proofs.«01_k».proof.Proof.Gen.OutFwdRefIdeal.Run
public import proofs.«01_k».proof.Proof.Gen.OutFwdRefIdeal.Read
public import proofs.«01_k».proof.Defs

@[expose] public section

set_option maxRecDepth 16384

noncomputable section

namespace Cert.OutFwdVal

open Cert.OutFwdIdeal Cert.OutFwdIdeal.Gen Cert.OutFwdIdeal.Value Cert.Mat Idealize.ShloMosaic Idealize.ShloMosaic.TcCoe Idealize.SL.Sem

variable (m : (ℓ : Loc nD τ sig) → Buf (Elt Ideal) ℓ) (c : Dev nD)

abbrev A0 : Vec Ideal S4096x1024 .f32 := m ((c : Thread nD τ).loc main_arg0)
abbrev A1 : Vec Ideal S4096x1024 .bf16 := m ((c : Thread nD τ).loc main_arg1)
abbrev A2 : Vec Ideal S1024x1024 .f32 := m ((c : Thread nD τ).loc main_arg2)

theorem V_w : V m c main_v0 = (truncf (F := Ideal) .bf16 (A2 m c) bitsLt_bf16_f32 : Vec Ideal S1024x1024 .bf16) := by
  show StableHlo.after hostOps0 _ (Proc.devRef .tc main_v0) = _
  simp only [hostOps0]
  after_results

theorem at0 : ∀ t : Fin cfg0.N, win0_0.index t (0 : Fin 2) = t.val ∧ win0_0.index t (1 : Fin 2) = 0 := (by decide +kernel : ∀ t : Fin grid0.N, _)
theorem at1 : ∀ t : Fin cfg0.N, win0_1.index t (0 : Fin 2) = t.val ∧ win0_1.index t (1 : Fin 2) = 0 := (by decide +kernel : ∀ t : Fin grid0.N, _)
theorem at2 : ∀ t : Fin cfg0.N, win0_2.index t (0 : Fin 2) = 0 ∧ win0_2.index t (1 : Fin 2) = 0 := (by decide +kernel : ∀ t : Fin grid0.N, _)
theorem at3 : ∀ t : Fin cfg0.N, win0_3.index t (0 : Fin 2) = t.val ∧ win0_3.index t (1 : Fin 2) = 0 := (by decide +kernel : ∀ t : Fin grid0.N, _)
theorem lt8 (t : Fin cfg0.N) : t.val < 8 := lt_of_lt_of_eq t.isLt (show cfg0.N = 8 from N_0)

/-- Row `r` of block `t`. -/
abbrev row (t : Fin cfg0.N) (r : Fin 512) : Fin 4096 := ⟨512 * t.val + r.val, by have := lt8 t; omega⟩

theorem b0 (t : Fin cfg0.N) (r : Fin 512) (l : Fin 1024) : (iblk m c 0 t : Vec Ideal S512x1024 .f32) (ix2 r l) = A0 m c (ix2 (row t r) l) := by
  obtain ⟨e0, e1⟩ := at0 t
  show V m c main_arg0 (((cfg0.win 0).blk t).view.emb (ix2 r l)) = _
  rw [V_main_arg0]
  refine congrArg (A0 m c) (funext fun a => Fin.ext ?_)
  match a with
  | ⟨0, _⟩ => show win0_0.index t (0 : Fin 2) * 512 + 1 * r.val = 512 * t.val + r.val; omega
  | ⟨1, _⟩ => show win0_0.index t (1 : Fin 2) * 1024 + 1 * l.val = l.val; omega

theorem b1 (t : Fin cfg0.N) (r : Fin 512) (l : Fin 1024) : (iblk m c 1 t : Vec Ideal S512x1024 .bf16) (ix2 r l) = A1 m c (ix2 (row t r) l) := by
  obtain ⟨e0, e1⟩ := at1 t
  show V m c main_arg1 (((cfg0.win 1).blk t).view.emb (ix2 r l)) = _
  rw [V_main_arg1]
  refine congrArg (A1 m c) (funext fun a => Fin.ext ?_)
  match a with
  | ⟨0, _⟩ => show win0_1.index t (0 : Fin 2) * 512 + 1 * r.val = 512 * t.val + r.val; omega
  | ⟨1, _⟩ => show win0_1.index t (1 : Fin 2) * 1024 + 1 * l.val = l.val; omega

theorem b2 (t : Fin cfg0.N) (r l : Fin 1024) : (iblk m c 2 t : Vec Ideal S1024x1024 .bf16) (ix2 r l) = A2 m c (ix2 r l) := by
  obtain ⟨e0, e1⟩ := at2 t
  show V m c main_v0 (((cfg0.win 2).blk t).view.emb (ix2 r l)) = _
  rw [V_w]
  refine congrArg (A2 m c) (funext fun a => Fin.ext ?_)
  match a with
  | ⟨0, _⟩ => show win0_2.index t (0 : Fin 2) * 1024 + 1 * r.val = r.val; omega
  | ⟨1, _⟩ => show win0_2.index t (1 : Fin 2) * 1024 + 1 * l.val = l.val; omega

/-- The reference's result at an index. -/
theorem ref_at (x0 : Vec Ideal S4096x1024 .f32) (x1 : Vec Ideal S4096x1024 .bf16) (x2 : Vec Ideal S1024x1024 .f32) (i : Fin 4096) (j : Fin 1024) :
    (Cert.OutFwdRefIdeal.Read.val_main_v2 (F := Ideal) x0 x1 x2 (ix2 i j) : EReal) = x0 (ix2 i j) + ∑ k : Fin 1024, x1 (ix2 i k) * x2 (ix2 k j) := by
  show (x0 (ix2 i j) : EReal) + Cert.OutFwdRefIdeal.Read.val_main_v1 (F := Ideal) x1 x2 (ix2 i j) = _
  refine congrArg (x0 (ix2 i j) + ·) ?_
  exact hmm (M := 4096) (K := 1024) (N := 1024) none _ _ i j

theorem pay_at (x0 : Vec Ideal S512x1024 .f32) (x1 : Vec Ideal S512x1024 .bf16) (x2 : Vec Ideal S1024x1024 .bf16) (r : Fin 512) (j : Fin 1024) :
    (k0_pay1 (F := Ideal) x0 x1 x2 (ix2 r j) : EReal) = x0 (ix2 r j) + ∑ k : Fin 1024, x1 (ix2 r k) * x2 (ix2 k j) := by
  unfold k0_pay1
  rw [shapeCast_id]
  show (x0 (ix2 r j) : EReal) + matmul (F := Ideal) dot_S512x1024_S1024x1024_S512x1024_1_0_0_1_n_n none x1 x2 _ (ix2 r j) = _
  refine congrArg (x0 (ix2 r j) + ·) ?_
  exact kmm (M := 512) (K := 1024) (N := 1024) none _ _ r j

abbrev K3 : Vec Ideal S4096x1024 .f32 := Cert.OutFwdRefIdeal.Read.val_main_v2 (F := Ideal) (A0 m c) (A1 m c) (A2 m c)

theorem tile3 (t : Fin cfg0.N) (r : Fin 512) (l : Fin 1024) :
    out0_3 (iblk m c 0 t) (iblk m c 1 t) (iblk m c 2 t) (ix2 r l) = K3 m c (ix2 (row t r) l) := by
  unfold out0_3
  rw [View.canon_unit_zero off2, View.ld_unit_zero off2, View.ld_unit_zero off2, View.ld_unit_zero off2]
  refine (pay_at _ _ _ r l).trans ((ref_at _ _ _ (row t r) l).trans ?_).symm
  rw [b0]
  refine congrArg (_ + ·) (Finset.sum_congr rfl fun k _ => ?_)
  rw [b1, b2]

theorem emb3 (t : Fin cfg0.N) (r : Fin 512) (l : Fin 1024) : ((cfg0.win 3).blk t).view.emb (ix2 r l) = (ix2 (row t r) l : S4096x1024.Idx) := by
  obtain ⟨e0, e1⟩ := at3 t
  funext a; apply Fin.ext
  match a with
  | ⟨0, _⟩ => show win0_3.index t (0 : Fin 2) * 512 + 1 * r.val = 512 * t.val + r.val; omega
  | ⟨1, _⟩ => show win0_3.index t (1 : Fin 2) * 1024 + 1 * l.val = l.val; omega

theorem covered3_at (i : Fin 4096) (l : Fin 1024) : ∃ t : Fin cfg0.N, (cfg0.win 3).flush t = true ∧ (ix2 i l : S4096x1024.Idx) ∈ ((cfg0.win 3).blk t).view.set := by
  have hl : i.val / 512 < cfg0.N := by rw [show cfg0.N = 8 from N_0]; omega
  refine ⟨⟨i.val / 512, hl⟩, (by decide +kernel : ∀ t : Fin grid0.N, win0_3.flush t = true) _, ?_⟩
  have h := ((cfg0.win 3).blk (⟨i.val / 512, hl⟩ : Fin cfg0.N)).view.emb_mem_set (ix2 (⟨i.val % 512, Nat.mod_lt _ (by decide)⟩ : Fin 512) l)
  rw [emb3] at h
  have e : row (⟨i.val / 512, hl⟩ : Fin cfg0.N) ⟨i.val % 512, Nat.mod_lt _ (by decide)⟩ = i := Fin.ext (by show 512 * (i.val / 512) + i.val % 512 = i.val; omega)
  rwa [e] at h

theorem final3 : (dats m 0 c).arrAt 3 cfg0.N = K3 m c :=
  (dats m 0 c).arrAt_eq_of_cover 3 (K3 m c) (fun t _ => by
    rw [flushed3]
    funext j
    show out0_3 (iblk m c 0 t) (iblk m c 1 t) (iblk m c 2 t) j = K3 m c (((cfg0.win 3).blk t).view.emb j)
    rw [eq_ix2 (n0 := 512) (n1 := 1024) j]
    exact (tile3 m c t (j 0) (j 1)).trans (congrArg (K3 m c) (emb3 t (j 0) (j 1)).symm))
    (fun i => by rw [eq_ix2 (n0 := 4096) (n1 := 1024) i]; exact covered3_at (i 0) (i 1))

theorem frame_r : Cert.quiescent_OutFwdRefIdeal := by
  intro m ρ _
  exact (θ_run Cert.OutFwdRefIdeal.defs _ _).mono (fun r h => ⟨fun c => (h c).2, Idealize.ShloMosaic.sem_eq_zero_of_no_sems (by decide) r.2⟩)
    (Cert.OutFwdRefIdeal.Value.run (F := Ideal) m ρ)

theorem algebraic : Cert.algebraic_OutFwdIdeal_OutFwdRefIdeal := by
  intro m ρ m' ρ' _ hag
  refine ⟨fun c => (dats m 0 c).arrAt 3 cfg0.N, run_blocks m ρ, ?_⟩
  refine (θ_run Cert.OutFwdRefIdeal.defs _ _).mono (fun r h c => ?_) (Cert.OutFwdRefIdeal.Value.run (F := Ideal) m' ρ')
  obtain ⟨r0, ra⟩ := h c
  obtain ⟨g0, g1, g2⟩ := hag c
  refine ⟨(r0.trans (Cert.OutFwdRefIdeal.Read.val_main_v2_eq _ _ _)).trans ?_, ra⟩
  rw [g0, g1, g2]
  exact (final3 m c).symm

end Cert.OutFwdVal

end
-- ==== Proof.SgFwdVal.lean ====
/- Hand-written, untrusted: the gate's forward pass. A grid point's eight tiles and the reference both give, at batch `b`,
   chunk `n`, row `t`, group `h` and lane `c`, the number `gv` of the arguments there; only the gate's second half, whose
   groups are normalised, has to be real. -/
module

public import proofs.«01_k».proof.Proof.Equal
public import proofs.«01_k».proof.Proof.Gen.SgFwdIdeal.Value
public import proofs.«01_k».proof.Proof.Gen.SgFwdRefIdeal.Run
public import proofs.«01_k».proof.Proof.Gen.SgFwdRefIdeal.Read
public import proofs.«01_k».proof.Proof.Gen.Pre_v_finite
public import proofs.«01_k».proof.Defs

@[expose] public section

set_option maxRecDepth 16384

noncomputable section

namespace Cert.SgFwdVal

open Cert.SgBwd Idealize.ShloMosaic Idealize.ShloMosaic.TcCoe Idealize.ShloMosaic.Tactic Idealize.SL.Sem
open Ref (sx lx)

/-! ### The common value -/

/-- The activation of an extended real. -/
def ga (x : EReal) : EReal :=
  Ideal.ofBits .f32 0x3F000000#32 * x * (Ideal.ofBits .f32 0x3F800000#32 + Ideal.tanh (Ideal.ofBits .f32 0x3F4C422A#32 *
    (x + Ideal.ofBits .f32 0x3D372713#32 * (x * x * x))))

/-- The gate at row `t` and lane `c`: `u` the first half there, `f` the second half's group, `w` the mixing row, `g` and `b` gain and bias. -/
def gv (u : EReal) (f : Fin 128 → Fin 64 → ℝ) (w : Fin 128 → EReal) (g b : EReal) (t : Fin 128) (c : Fin 64) : EReal :=
  ga u * ((∑ s : Fin 128, (if s.val ≤ t.val then w s else 0) * (((Spec.xh f s c : ℝ) : EReal) * g)) + b)

/-! ### One tile -/

theorem kAct_at (x : M) (i) : kAct x i = ga (x i) := by
  simp only [kAct, kHalf, kOne, kTh, ga, pointwise, kst_apply]

theorem sel_tri' (i) (x y : EReal) : Scalar.select (kTri i) x y = if (i 1).val ≤ (i 0).val then x else y := by
  show (if _ = 1#1 then _ else _) = _; simp only [kTri_apply]
theorem sel_low' (i) (x y : EReal) : Scalar.select (kLow i) x y = if grp (i 1) = 0 then x else y := by
  show (if _ = 1#1 then _ else _) = _; simp only [kLow_apply]

theorem kGain_at (g : Row) (i) : kGain g i = g (ix2 0 (i 1)) := by
  simp only [kGain, pointwise]
  rfl
theorem kBias_at (b : Col) (i) : kBias b i = b (ix2 (i 0) 0) := by
  simp only [kBias, pointwise]
  rfl

theorem kMix_at (f : RT) (g : Row) (wa wb : M) (ba bb : Col) (i) :
    kMix (tile f) g wa wb ba bb i = (∑ s : Fin 128, (if s.val ≤ (i 0).val then (if grp (i 1) = 0 then wa else wb) (ix2 (i 0) s) else 0) *
      (((Spec.xh (fun t c => f t (grp (i 1)) c) s (lane (i 1)) : ℝ) : EReal) * g (ix2 0 (i 1)))) + (if grp (i 1) = 0 then ba else bb) (ix2 (i 0) 0) := by
  simp only [kMix, kW, kLo, kHi, kVn, kXh_tile, tile, pointwise, kGain_at, kBias_at, kZero_apply, kst_apply, word_zero, sel_tri', sel_low', EReal.coe_zero, zero_add]
  by_cases hq : grp (i 1) = 0 <;> (simp only [hq, if_true, if_false, mul_zero, Finset.sum_const_zero, add_zero, zero_add]; try rfl)

/-! ### One point's block -/

section
open Cert.SgFwdIdeal Cert.SgFwdIdeal.Gen Cert.SgFwdIdeal.Value

variable {x0 : X0} {x1 : X1} {x2 : X2} {x3 : X3} {f : Fin 512 → Fin 256 → ℝ}

/-- The block at chunk `k`, row `t`, group `h` and lane `c`. -/
def gb (x0 : X0) (x1 : X1) (x2 : X2) (x3 : X3) (f : Fin 512 → Fin 256 → ℝ) (k : Fin 4) (t : Fin 128) (h : Fin 4) (c : Fin 64) : EReal :=
  gv (x0 (ix3 0 ⟨128 * k.val + t.val, by omega⟩ ⟨64 * h.val + c.val, by omega⟩)) (fun t c => f ⟨128 * k.val + t.val, by omega⟩ (lx h c))
    (fun s => x2 (ix3 h t s)) (x1 (ix2 0 (lx h c))) (x3 (ix2 t ⟨h.val, by omega⟩)) t c

def G4 (x0 : X0) (x1 : X1) (x2 : X2) (x3 : X3) (f : Fin 512 → Fin 256 → ℝ) : Vec Ideal S1x512x256 .bf16 := fun y =>
  gb x0 x1 x2 x3 f ⟨(y 1).val / 128, by have : (y 1).val < 512 := (y 1).isLt; omega⟩ ⟨(y 1).val % 128, by omega⟩
    ⟨(y 2).val / 64, by have : (y 2).val < 256 := (y 2).isLt; omega⟩ ⟨(y 2).val % 64, by omega⟩

theorem G4_at (y : S1x512x256.Idx) (k : Fin 4) (t : Fin 128) (h : Fin 4) (c : Fin 64)
    (h1 : (y 1).val = 128 * k.val + t.val) (h2 : (y 2).val = 64 * h.val + c.val) : G4 x0 x1 x2 x3 f y = gb x0 x1 x2 x3 f k t h c := by
  unfold G4
  congr 1 <;> (apply Fin.ext; simp only []; omega)

def kF (u v : M) (g : Row) (wa wb : M) (ba bb : Col) : M := mulf (kAct u) (kMix v g wa wb ba bb)

theorem st_at (z : M) (x : Cert.KernelIdeal.S1x128x128.Idx) : st z x = z (ix2 (x 1) (x 2)) := by
  simp only [st, pointwise]

/-- The tile stored for chunk `k` and pair `p` of groups. -/
def pc (x0 : X0) (x1 : X1) (x2 : X2) (x3 : X3) (k : Fin 4) (p : Fin 2) : View.Piece (Elt Ideal) S1x512x256 .bf16 :=
  ⟨Rect.unit ![0, 128 * k.val, 128 * p.val] S1x128x128.size (by revert k p; decide),
    st (kF (tB x0 (128 * k.val) (128 * p.val) (by revert k p; decide)) (tB x0 (128 * k.val) (256 + 128 * p.val) (by revert k p; decide))
      (tG x1 (128 * p.val) (by revert p; decide)) (tW x2 (2 * p.val) (by revert p; decide)) (tW x2 (2 * p.val + 1) (by revert p; decide))
      (tC x3 (2 * p.val) (by revert p; decide)) (tC x3 (2 * p.val + 1) (by revert p; decide)))⟩

theorem piece (H : ∀ r (l : Fin 256), x0 (ix3 0 r ⟨256 + l.val, by omega⟩) = ((f r l : ℝ) : EReal)) (k : Fin 4) (p : Fin 2)
    (hu hv hg hwa hwb hba hbb) (hr) (x : Cert.KernelIdeal.S1x128x128.Idx) :
    st (kF (tB x0 (128 * k.val) (128 * p.val) hu) (tB x0 (128 * k.val) (256 + 128 * p.val) hv) (tG x1 (128 * p.val) hg)
      (tW x2 (2 * p.val) hwa) (tW x2 (2 * p.val + 1) hwb) (tC x3 (2 * p.val) hba) (tC x3 (2 * p.val + 1) hbb)) x
      = G4 x0 x1 x2 x3 f ((Rect.unit (s := S1x512x256) ![0, 128 * k.val, 128 * p.val] S1x128x128.size hr).emb x) := by
  have hx : (x 2).val < 128 := (x 2).isLt
  have hx1 : (x 1).val < 128 := (x 1).isLt
  rw [st_at, G4_at _ k (x 1) (hd p (grp (x 2))) (lane (x 2)) (by show 128 * k.val + 1 * (x 1).val = _; omega)
    (by show 128 * p.val + 1 * (x 2).val = 64 * (2 * p.val + (x 2).val / 64) + (x 2).val % 64; omega)]
  have ev : tB x0 (128 * k.val) (256 + 128 * p.val) hv = tile fun t q c => f ⟨128 * k.val + t.val, by omega⟩ (lx (hd p q) c) := by
    funext i
    have hi : (i 1).val < 128 := (i 1).isLt
    have h0 : (i 0).val < 128 := (i 0).isLt
    refine (tB_apply x0 _ _ hv i ⟨128 * k.val + (i 0).val, by omega⟩ ⟨256 + (lx (hd p (grp (i 1))) (lane (i 1))).val, by omega⟩ rfl ?_).trans (H _ _)
    show 256 + (64 * (2 * p.val + (i 1).val / 64) + (i 1).val % 64) = _
    show _ = 256 + 128 * p.val + (i 1).val
    omega
  have el : 64 * (hd p (grp (x 2))).val + (lane (x 2)).val = 128 * p.val + (x 2).val := by
    show 64 * (2 * p.val + (x 2).val / 64) + (x 2).val % 64 = _; omega
  show kAct _ _ * kMix _ _ _ _ _ _ _ = _
  rw [kAct_at, ev, kMix_at]
  have ew (q : Fin 2) (s : Fin 128) : (if q = 0 then tW x2 (2 * p.val) hwa else tW x2 (2 * p.val + 1) hwb) (ix2 (x 1) s) = x2 (ix3 (hd p q) (x 1) s) :=
    match q with
    | 0 => tW_apply x2 _ hwa _ (hd p 0) rfl
    | 1 => tW_apply x2 _ hwb _ (hd p 1) rfl
  have eb (q : Fin 2) : (if q = 0 then tC x3 (2 * p.val) hba else tC x3 (2 * p.val + 1) hbb) (ix2 (x 1) 0) = x3 (ix2 (x 1) ⟨(hd p q).val, by omega⟩) :=
    match q with
    | 0 => tC_apply x3 _ hba _ _ rfl
    | 1 => tC_apply x3 _ hbb _ _ rfl
  refine congr (congrArg HMul.hMul (congrArg ga (tB_apply x0 _ _ hu (ix2 (x 1) (x 2)) _ _ rfl el))) (congr (congrArg HAdd.hAdd (Finset.sum_congr rfl fun s _ => ?_)) (eb _))
  show _ = (if s.val ≤ (x 1).val then x2 (ix3 (hd p (grp (x 2))) (x 1) s) else 0) * _
  rw [← ew _ s, ← tG_apply x1 _ hg (ix2 0 (x 2)) (lx (hd p (grp (x 2))) (lane (x 2))) el]
  rfl

def pieces4 (x0 : X0) (x1 : X1) (x2 : X2) (x3 : X3) : List (View.Piece (Elt Ideal) S1x512x256 .bf16) :=
  [(3, 1), (3, 0), (2, 1), (2, 0), (1, 1), (1, 0), (0, 1), (0, 0)].map fun z => pc x0 x1 x2 x3 z.1 z.2

set_option maxHeartbeats 16000000 in
theorem out_A_4 (c : Dev nD) (i : grid0.Coords) (arg2 : Memref sig .tc .vmem S1x512x512 .bf16) (harg2 : arg2.IsWhole)
    (arg3 : Memref sig .tc .vmem S1x256 .f32) (harg3 : arg3.IsWhole) (arg4 : Memref sig .tc .vmem S4x128x128 .f32)
    (harg4 : arg4.IsWhole) (arg5 : Memref sig .tc .vmem S128x128 .f32) (harg5 : arg5.IsWhole)
    (arg7 : Memref sig .tc .vmem S1x512x256 .bf16) (harg7 : arg7.IsWhole) (x0 : X0) (x1 : X1) (x2 : X2) (x3 : X3) :
    out0_A_4 (F := Ideal) c i arg2 harg2 arg3 harg3 arg4 harg4 arg5 harg5 arg7 harg7 x0 x1 x2 x3 = View.canon (pieces4 x0 x1 x2 x3) := by
  unfold out0_A_4
  rw [View.read_writes_eq_canon _ _ _ (cover0_A_4 c _ _ _ _ _ _ _ _ _ _ _ _ _ _ _)]
  unfold kernelRun0_A
  dsimp only
  sl_unfold_words
  simp only [View.readAt_eq_ld, harg2.read_unread, harg3.read_unread, harg4.read_unread, harg5.read_unread]
  rfl

theorem canon4 (H : ∀ r (l : Fin 256), x0 (ix3 0 r ⟨256 + l.val, by omega⟩) = ((f r l : ℝ) : EReal)) (y : S1x512x256.Idx) :
    View.canon (pieces4 x0 x1 x2 x3) y = G4 x0 x1 x2 x3 f y := by
  refine View.canon_apply_of_pieces (G4 x0 x1 x2 x3 f) _ (fun p hp x => ?_) y (View.cover_of_tiledL (pieces4 x0 x1 x2 x3) S1x128x128.size (by sl_kernel_rfl) y)
  obtain ⟨z, -, rfl⟩ := List.mem_map.1 hp
  exact piece H z.1 z.2 _ _ _ _ _ _ _ (by generalize z.1 = k, z.2 = p; revert k p; decide) x

/-! ### The result array -/

variable (m : (ℓ : Loc nD τ sig) → Buf (Elt Ideal) ℓ) (c : Dev nD)

abbrev A0 : Vec Ideal S2x2048x512 .bf16 := m ((c : Thread nD τ).loc main_arg0)
abbrev A1 : Vec Ideal S256 .f32 := m ((c : Thread nD τ).loc main_arg1)
abbrev A2 : Vec Ideal S4x128x128 .f32 := m ((c : Thread nD τ).loc main_arg2)
abbrev A3 : Vec Ideal S4x128 .f32 := m ((c : Thread nD τ).loc main_arg3)
abbrev A4 : Vec Ideal S2x2048x1024 .bf16 := m ((c : Thread nD τ).loc main_arg4)

theorem V_gain : V m c main_v2 = (shapeCast S1x256 (A1 m c) shapeCasts_S256_S1x256 : Vec Ideal S1x256 .f32) := by
  show StableHlo.after (List.flatten [hostOps0, hostOps0_1, hostOps0_2]) _ (Proc.devRef .tc main_v2) = _
  simp only [hostOps0, hostOps0_1, hostOps0_2, List.flatten_cons, List.flatten_nil, List.append_nil, List.cons_append, List.nil_append]
  after_results
  rfl

theorem V_bias : V m c main_v1 = (pad S128x128 ![0, 0] ![0, 124] ![0, 0] (transpose S128x4 [1, 0] (A3 m c) transposes_S4x128_S128x4_1_0 : Vec Ideal S128x4 .f32)
    (sitofp (F := Ideal) .f32 (constantI S_ 32 0#32) : Vec Ideal S_ .f32) pads_S128x4_S128x128_000_01240 h_S_ : Vec Ideal S128x128 .f32) := by
  show StableHlo.after (List.flatten [hostOps0, hostOps0_1, hostOps0_2]) _ (Proc.devRef .tc main_v1) = _
  simp only [hostOps0, hostOps0_1, hostOps0_2, List.flatten_cons, List.flatten_nil, List.append_nil, List.cons_append, List.nil_append]
  after_results
  rfl

theorem V_wide : V m c main_v3 = A4 m c := by
  show StableHlo.after (List.flatten [hostOps0, hostOps0_1, hostOps0_2]) _ (Proc.devRef .tc main_v3) = _
  simp only [hostOps0, hostOps0_1, hostOps0_2, List.flatten_cons, List.flatten_nil, List.append_nil, List.cons_append, List.nil_append]
  after_results
  rfl

theorem at0 : ∀ t : Fin cfg0.N, win0_0.index t (0 : Fin 3) = t.val / 4 ∧ win0_0.index t (1 : Fin 3) = t.val % 4 ∧ win0_0.index t (2 : Fin 3) = 0 := (by decide +kernel : ∀ t : Fin grid0.N, _)
theorem at1 : ∀ t : Fin cfg0.N, win0_1.index t (0 : Fin 2) = 0 ∧ win0_1.index t (1 : Fin 2) = 0 := (by decide +kernel : ∀ t : Fin grid0.N, _)
theorem at2 : ∀ t : Fin cfg0.N, win0_2.index t (0 : Fin 3) = 0 ∧ win0_2.index t (1 : Fin 3) = 0 ∧ win0_2.index t (2 : Fin 3) = 0 := (by decide +kernel : ∀ t : Fin grid0.N, _)
theorem at3 : ∀ t : Fin cfg0.N, win0_3.index t (0 : Fin 2) = 0 ∧ win0_3.index t (1 : Fin 2) = 0 := (by decide +kernel : ∀ t : Fin grid0.N, _)
theorem at4 : ∀ t : Fin cfg0.N, win0_4.index t (0 : Fin 3) = t.val / 4 ∧ win0_4.index t (1 : Fin 3) = t.val % 4 ∧ win0_4.index t (2 : Fin 3) = 3 := (by decide +kernel : ∀ t : Fin grid0.N, _)

theorem b0 (t : Fin cfg0.N) (ht : t.val < 8) (r l : Fin 512) : (iblk m c 0 t : X0) (ix3 0 r l) = A0 m c (ix3 ⟨t.val / 4, by omega⟩ ⟨512 * (t.val % 4) + r.val, by omega⟩ l) := by
  obtain ⟨e0, e1, e2⟩ := at0 t
  show V m c main_arg0 (((cfg0.win 0).blk t).view.emb (ix3 0 r l)) = _
  rw [V_main_arg0]
  refine congrArg (A0 m c) (ext3 (h0 := by show win0_0.index t (0 : Fin 3) * 1 + 1 * 0 = t.val / 4; omega) (h1 := by show win0_0.index t (1 : Fin 3) * 512 + 1 * r.val = 512 * (t.val % 4) + r.val; omega) (h2 := by show win0_0.index t (2 : Fin 3) * 512 + 1 * l.val = l.val; omega))

theorem b1 (t : Fin cfg0.N) (l : Fin 256) : (iblk m c 1 t : X1) (ix2 0 l) = A1 m c (ix1 l) := by
  obtain ⟨e0, e1⟩ := at1 t
  show V m c main_v2 (((cfg0.win 1).blk t).view.emb (ix2 0 l)) = _
  have e : ((cfg0.win 1).blk t).view.emb (ix2 0 l) = (ix2 0 l : S1x256.Idx) := by
    exact ext2 (h0 := by show win0_1.index t (0 : Fin 2) * 1 + 1 * 0 = 0; omega) (h1 := by show win0_1.index t (1 : Fin 2) * 256 + 1 * l.val = l.val; omega)
  rw [V_gain, e]
  simp only [pointwise]

theorem b2 (t : Fin cfg0.N) (h : Fin 4) (r s : Fin 128) : (iblk m c 2 t : X2) (ix3 h r s) = A2 m c (ix3 h r s) := by
  obtain ⟨e0, e1, e2⟩ := at2 t
  show V m c main_arg2 (((cfg0.win 2).blk t).view.emb (ix3 h r s)) = _
  rw [V_main_arg2]
  refine congrArg (A2 m c) (ext3 (h0 := by show win0_2.index t (0 : Fin 3) * 4 + 1 * h.val = h.val; omega) (h1 := by show win0_2.index t (1 : Fin 3) * 128 + 1 * r.val = r.val; omega) (h2 := by show win0_2.index t (2 : Fin 3) * 128 + 1 * s.val = s.val; omega))

theorem b3 (t : Fin cfg0.N) (r : Fin 128) (h : Fin 4) : (iblk m c 3 t : X3) (ix2 r ⟨h.val, by omega⟩) = A3 m c (ix2 h r) := by
  obtain ⟨e0, e1⟩ := at3 t
  show V m c main_v1 (((cfg0.win 3).blk t).view.emb (ix2 r ⟨h.val, by omega⟩)) = _
  have e : ((cfg0.win 3).blk t).view.emb (ix2 r ⟨h.val, by omega⟩) = (ix2 r ⟨h.val, by omega⟩ : S128x128.Idx) := by
    exact ext2 (h0 := by show win0_3.index t (0 : Fin 2) * 128 + 1 * r.val = r.val; omega) (h1 := by show win0_3.index t (1 : Fin 2) * 128 + 1 * h.val = h.val; omega)
  rw [V_bias, e]
  refine (pad_apply_of_inside _ _ _ _ _ _ _ _ (ix2 r h : S128x4.Idx) (fun a => ?_)).trans ?_
  · match a with
    | ⟨0, _⟩ => show r.val = 0 + r.val * (0 + 1); omega
    | ⟨1, _⟩ => show h.val = 0 + h.val * (0 + 1); omega
  · simp only [pointwise]

/-- The gate's second half, as reals. -/
abbrev vf (a : Vec Ideal S2x2048x512 .bf16) (b : Fin 2) (s : Fin 2048) (l : Fin 256) : ℝ := (a (ix3 b s ⟨256 + l.val, by omega⟩) : EReal).toReal
abbrev vg (a : Vec Ideal S2x2048x512 .bf16) (b : Fin 2) (n : Fin 16) (h : Fin 4) : Fin 128 → Fin 64 → ℝ := fun t c => vf a b (sx n t) (lx h c)

abbrev val (a0 : Vec Ideal S2x2048x512 .bf16) (a1 : Vec Ideal S256 .f32) (a2 : Vec Ideal S4x128x128 .f32) (a3 : Vec Ideal S4x128 .f32)
    (b : Fin 2) (n : Fin 16) (t : Fin 128) (h : Fin 4) (q : Fin 64) : EReal :=
  gv (a0 (ix3 b (sx n t) ⟨64 * h.val + q.val, by omega⟩)) (vg a0 b n h) (fun s => a2 (ix3 h t s)) (a1 (ix1 (lx h q))) (a3 (ix2 h t)) t q

def VReal (a : Vec Ideal S2x2048x512 .bf16) : Prop := ∀ b s (l : Fin 256), a (ix3 b s ⟨256 + l.val, by omega⟩) = ((vf a b s l : ℝ) : EReal)

theorem final4_lo (b : Fin 2) (s : Fin 2048) (l : Fin 1024) (hl : l.val < 768) : (dats m 0 c).arrAt 4 cfg0.N (ix3 b s l) = A4 m c (ix3 b s l) := by
  refine (entry4 m c (ix3 b s l) (fun t _ hi => ?_)).trans (congrFun (V_wide m c) _)
  obtain ⟨e0, e1, e2⟩ := at4 t
  obtain ⟨j, hj⟩ := View.exists_emb_of_mem_set _ hi
  have hv := congrArg (fun i : S2x2048x1024.Idx => (i 2).val) hj
  have : win0_4.index t (2 : Fin 3) * 256 + 1 * (j 2).val = l.val := hv
  omega

variable {m c}

theorem final4_hi (hv : VReal (A0 m c)) (b : Fin 2) (n : Fin 16) (t : Fin 128) (h : Fin 4) (q : Fin 64) :
    (dats m 0 c).arrAt 4 cfg0.N (ix3 b (sx n t) ⟨768 + (64 * h.val + q.val), by omega⟩) = val (A0 m c) (A1 m c) (A2 m c) (A3 m c) b n t h q := by
  have hk : 4 * b.val + n.val / 4 < 8 := by omega
  let u : Fin cfg0.N := ⟨4 * b.val + n.val / 4, lt_of_lt_of_eq hk (show cfg0.N = 8 from N_0).symm⟩
  have hu : u.val = 4 * b.val + n.val / 4 := rfl
  obtain ⟨e0, e1, e2⟩ := at4 u
  have eb : (⟨u.val / 4, by omega⟩ : Fin 2) = b := Fin.ext (by show u.val / 4 = b.val; omega)
  have e := congrFun (blocks4 m c u (flush0_4 u)) (ix3 0 ⟨128 * (n.val % 4) + t.val, by omega⟩ (lx h q) : S1x512x256.Idx)
  rw [flushed4_A m c u, out_A_4] at e
  have H : ∀ r (l : Fin 256), (iblk m c 0 u : X0) (ix3 0 r ⟨256 + l.val, by omega⟩) = ((vf (A0 m c) b ⟨512 * (u.val % 4) + r.val, by omega⟩ l : ℝ) : EReal) := fun r l => by
    rw [b0 m c u hk, eb]; exact hv _ _ _
  refine Eq.trans (congrArg ((dats m 0 c).arrAt 4 cfg0.N) (funext fun a => Fin.ext ?_)) (e.trans ((canon4 H _).trans ((G4_at _ ⟨n.val % 4, by omega⟩ t h q rfl rfl).trans ?_)))
  · match a with
    | ⟨0, _⟩ => show b.val = win0_4.index u (0 : Fin 3) * 1 + 1 * 0; omega
    | ⟨1, _⟩ => show 128 * n.val + t.val = win0_4.index u (1 : Fin 3) * 512 + 1 * (128 * (n.val % 4) + t.val); omega
    | ⟨2, _⟩ => show 768 + (64 * h.val + q.val) = win0_4.index u (2 : Fin 3) * 256 + 1 * (64 * h.val + q.val); omega
  · have es (t : Fin 128) : (⟨512 * (u.val % 4) + (128 * (n.val % 4) + t.val), by omega⟩ : Fin 2048) = sx n t := Fin.ext (by show 512 * (u.val % 4) + (128 * (n.val % 4) + t.val) = 128 * n.val + t.val; omega)
    unfold gb
    rw [b0 m c u hk, b1, b3, eb]
    simp only [b2, es]

end

/-! ### The reference -/

section
open Cert.SgFwdRefIdeal Cert.SgFwdRefIdeal.Gen Cert.SgFwdRefIdeal.Read

variable {x0 : Vec Ideal S2x2048x512 .bf16} {x1 : Vec Ideal S256 .f32} {x2 : Vec Ideal S4x128x128 .f32} {x3 : Vec Ideal S4x128 .f32}

theorem rv16 (b : Fin 2) (n : Fin 16) (t : Fin 128) (h : Fin 4) (c : Fin 64) : val_main_v16 (F := Ideal) x0 (ix3 b (sx n t) (lx h c)) = ga (x0 (ix3 b (sx n t) ⟨64 * h.val + c.val, by omega⟩)) := by
  have e : val_main_v1 (F := Ideal) x0 (ix3 b (sx n t) (lx h c)) = x0 (ix3 b (sx n t) ⟨64 * h.val + c.val, by omega⟩) := by
    rw [val_main_v1_apply]
    exact congrArg x0 ext3
  rw [val_main_v16_apply, val_main_v15_apply, val_main_v14_apply, val_main_v13_apply, val_main_v12_apply, val_main_v11_apply, val_main_v10_apply, val_main_v9_apply,
    val_main_v8_apply, val_main_v7_apply, val_main_v6_apply, val_main_v5_apply, val_main_v4_apply, e]
  exact (mul_assoc _ _ _).symm.trans (congrArg (· * _) (mul_comm _ _))

section
variable (hv : VReal x0) (b : Fin 2) (n : Fin 16) (t : Fin 128) (h : Fin 4) (c : Fin 64)
include hv

theorem rv29 : val_main_v29 (F := Ideal) x0 (ix3 b (sx n t) (lx h c)) = ((Spec.gelu (vg x0 b n h t c) : ℝ) : EReal) := by
  have e : val_main_v2 (F := Ideal) x0 (ix3 b (sx n t) (lx h c)) = ((vg x0 b n h t c : ℝ) : EReal) := by
    rw [val_main_v2_apply]
    refine (congrArg x0 ext3).trans (hv b (sx n t) (lx h c))
  rw [val_main_v29_apply, val_main_v28_apply, val_main_v27_apply, val_main_v26_apply, val_main_v25_apply, val_main_v24_apply, val_main_v23_apply, val_main_v22_apply,
    val_main_v21_apply, val_main_v20_apply, val_main_v19_apply, val_main_v18_apply, val_main_v17_apply, e]
  refine (mul_assoc _ _ _).symm.trans ((congrArg (· * _) (mul_comm _ _)).trans (?_ : ga ((vg x0 b n h t c : ℝ) : EReal) = _))
  simp only [ga, word_half, word_one, word_cA, word_cB, ← EReal.coe_mul, ← EReal.coe_add, tanh_coe, Spec.gelu, Spec.th]

theorem rv30 : val_main_v30 (F := Ideal) x0 (ix4 b (sx n t) h c) = ((Spec.gelu (vg x0 b n h t c) : ℝ) : EReal) := by
  rw [val_main_v30_apply]
  refine (congrArg (val_main_v29 (F := Ideal) x0) (ext3 (h0 := by show (((b.val * 2048 + (128 * n.val + t.val)) * 4 + h.val) * 64 + c.val) / 524288 = b.val; omega) (h1 := by show (((b.val * 2048 + (128 * n.val + t.val)) * 4 + h.val) * 64 + c.val) / 256 % 2048 = 128 * n.val + t.val; omega) (h2 := by show (((b.val * 2048 + (128 * n.val + t.val)) * 4 + h.val) * 64 + c.val) % 256 = 64 * h.val + c.val; omega))).trans (rv29 hv b n t h c)

theorem rv39 (b : Fin 2) (n : Fin 16) (t : Fin 128) (h : Fin 4) (z : Fin 1) : val_main_v39 (F := Ideal) x0 (ix4 b (sx n t) h z) = ((Spec.r (vg x0 b n h) t : ℝ) : EReal) := by
  have e : val_main_v33 (F := Ideal) x0 (ix3 b (sx n t) h) = ((∑ c : Fin 64, Spec.gelu (vg x0 b n h t c) * Spec.gelu (vg x0 b n h t c) : ℝ) : EReal) := by
    rw [val_main_v33_apply, show val_main_cst_7 (F := Ideal) (Shape.Idx.first h_S_) = ((0 : ℝ) : EReal) from word_zero, EReal.coe_zero, zero_add]
    refine (Finset.sum_congr rfl fun c _ => (?_ : _ = ((Spec.gelu (vg x0 b n h t c) * Spec.gelu (vg x0 b n h t c) : ℝ) : EReal))).trans (coe_sum _ _).symm
    refine (congrArg (val_main_v32 (F := Ideal) x0) ext4 : _ = val_main_v32 (F := Ideal) x0 (ix4 b (sx n t) h c)).trans ?_
    rw [val_main_v32_apply, rv30 hv b n t h c]
    exact (EReal.coe_mul _ _).symm
  have e' : val_main_v34 (F := Ideal) x0 (ix4 b (sx n t) h z) = ((∑ c : Fin 64, Spec.gelu (vg x0 b n h t c) * Spec.gelu (vg x0 b n h t c) : ℝ) : EReal) := by
    rw [val_main_v34_apply]
    refine (congrArg (val_main_v33 (F := Ideal) x0) ext3).trans (e)
  have k1 : val_main_v35 (F := Ideal) (ix4 b (sx n t) h z) = ((64 : ℝ) : EReal) := (val_main_v35_apply _).trans word_64
  have k2 : val_main_v37 (F := Ideal) (ix4 b (sx n t) h z) = ((cE : ℝ) : EReal) := (val_main_v37_apply _).trans word_cE
  rw [val_main_v39_apply, val_main_v38_apply, val_main_v36_apply, e', k1, k2]
  refine (congrArg (fun y : EReal => Ideal.rsqrt (y + _)) (div_coe _ (by norm_num : (64 : ℝ) ≠ 0))).trans ?_
  rw [← EReal.coe_add]
  exact rsqrt_coe (Spec.ms_pos _ t)

theorem rv44 : val_main_v44 (F := Ideal) x0 x1 (ix4 b (sx n t) h c) = (((Spec.xh (vg x0 b n h) t c : ℝ) : EReal) * x1 (ix1 (lx h c))) := by
  have e : val_main_v40 (F := Ideal) x0 (ix4 b (sx n t) h c) = ((Spec.r (vg x0 b n h) t : ℝ) : EReal) := by
    rw [val_main_v40_apply]
    refine (congrArg (val_main_v39 (F := Ideal) x0) ext4).trans (rv39 hv b n t h 0)
  have g : val_main_v43 (F := Ideal) x1 (ix4 b (sx n t) h c) = x1 (ix1 (lx h c)) := by
    rw [val_main_v43_apply, val_main_v42_apply, val_main_v31_apply]
    exact congrArg x1 (ext1 (h0 := by show h.val * 64 + c.val = 64 * h.val + c.val; omega))
  rw [val_main_v44_apply, val_main_v41_apply, rv30 hv b n t h c, e, g]
  exact congrArg (· * _) (EReal.coe_mul _ _).symm

theorem rv45 : val_main_v45 (F := Ideal) x0 x1 (ix5 b n t h c) = (((Spec.xh (vg x0 b n h) t c : ℝ) : EReal) * x1 (ix1 (lx h c))) := by
  rw [val_main_v45_apply]
  refine (congrArg (val_main_v44 (F := Ideal) x0 x1) (ext4 (h0 := by show ((((b.val * 16 + n.val) * 128 + t.val) * 4 + h.val) * 64 + c.val) / 524288 = b.val; omega) (h1 := by show ((((b.val * 16 + n.val) * 128 + t.val) * 4 + h.val) * 64 + c.val) / 256 % 2048 = 128 * n.val + t.val; omega) (h2 := by show ((((b.val * 16 + n.val) * 128 + t.val) * 4 + h.val) * 64 + c.val) / 64 % 4 = h.val; omega) (h3 := by show ((((b.val * 16 + n.val) * 128 + t.val) * 4 + h.val) * 64 + c.val) % 64 = c.val; omega))).trans (rv44 hv b n t h c)

omit hv in
theorem rv48 (h : Fin 4) (t s : Fin 128) : val_main_v48 (F := Ideal) x2 (ix3 h t s) = if s.val ≤ t.val then x2 (ix3 h t s) else 0 := by
  have e : val_main_v47 (F := Ideal) (ix2 t s) = if s.val ≤ t.val then 1#1 else 0#1 := by
    rw [val_main_v47_apply]
    show (if IntOp.cmpi .sge (IntOp.addi (BitVec.ofNat 32 t.val) 0#32) (BitVec.ofNat 32 s.val) = 1#1 then (1#1 : BitVec 1) else 0#1) = _
    exact if_congr (Ref.ge_small t s) rfl rfl
  have e' : val_main_call1_v1 (F := Ideal) (ix3 h t s) = if s.val ≤ t.val then 1#1 else 0#1 := by
    rw [val_main_call1_v1_apply]
    refine (congrArg (val_main_v47 (F := Ideal)) ext2).trans (e)
  rw [val_main_v48_apply, e']
  show (if (if s.val ≤ t.val then 1#1 else 0#1 : BitVec 1) = 1#1 then x2 (ix3 h t s) else Ideal.ofBits .f32 0x00000000#32) = _
  rw [word_zero]
  by_cases e : s.val ≤ t.val
  · rw [if_pos e, if_pos e, if_pos rfl]
  · rw [if_neg e, if_neg e, if_neg (by decide)]
    rfl

theorem rv54 : val_main_v54 (F := Ideal) x0 x1 x2 x3 (ix5 b n t h c) = (∑ s : Fin 128, (if s.val ≤ t.val then x2 (ix3 h t s) else 0) * (((Spec.xh (vg x0 b n h) s c : ℝ) : EReal) * x1 (ix1 (lx h c)))) + x3 (ix2 h t) := by
  have e : val_main_v49 (F := Ideal) x0 x1 x2 (ix5 h b n c t) = (∑ s : Fin 128, (if s.val ≤ t.val then x2 (ix3 h t s) else 0) * (((Spec.xh (vg x0 b n h) s c : ℝ) : EReal) * x1 (ix1 (lx h c)))) := by
    rw [val_main_v49_apply]
    refine Finset.sum_congr rfl fun s _ => ?_
    have e1 : lidx_main_v49 (ix5 h b n c t) s = ix5 b n s h c := by
      exact ext5
    have e2 : ridx_main_v49 (ix5 h b n c t) s = ix3 h t s := by
      exact ext3
    rw [e1, e2, rv45 hv, rv48]
    exact mul_comm _ _
  have e' : val_main_v50 (F := Ideal) x0 x1 x2 (ix5 b n t h c) = (∑ s : Fin 128, (if s.val ≤ t.val then x2 (ix3 h t s) else 0) * (((Spec.xh (vg x0 b n h) s c : ℝ) : EReal) * x1 (ix1 (lx h c)))) := by
    rw [val_main_v50_apply]
    refine (congrArg (val_main_v49 (F := Ideal) x0 x1 x2) ext5).trans (e)
  have g : val_main_v53 (F := Ideal) x3 (ix5 b n t h c) = x3 (ix2 h t) := by
    rw [val_main_v53_apply, val_main_v52_apply, val_main_v51_apply]
    exact congrArg x3 ext2
  rw [val_main_v54_apply, e', g]
  rfl

theorem rv57 : val_main_v57 (F := Ideal) x0 x1 x2 x3 (ix3 b (sx n t) (lx h c)) = val x0 x1 x2 x3 b n t h c := by
  have e : idx_main_v55 (ix3 b (sx n t) (lx h c)) = ix5 b n t h c := by
    exact ext5 (h0 := by show ((b.val * 2048 + (128 * n.val + t.val)) * 256 + (64 * h.val + c.val)) / 524288 = b.val; omega) (h1 := by show ((b.val * 2048 + (128 * n.val + t.val)) * 256 + (64 * h.val + c.val)) / 32768 % 16 = n.val; omega) (h2 := by show ((b.val * 2048 + (128 * n.val + t.val)) * 256 + (64 * h.val + c.val)) / 256 % 128 = t.val; omega) (h3 := by show ((b.val * 2048 + (128 * n.val + t.val)) * 256 + (64 * h.val + c.val)) / 64 % 4 = h.val; omega) (h4 := by show ((b.val * 2048 + (128 * n.val + t.val)) * 256 + (64 * h.val + c.val)) % 64 = c.val; omega)
  rw [val_main_v57_apply, val_main_v56_apply, val_main_v55_apply, rv16, e, rv54 hv]
  rfl

end

variable (x4 : Vec Ideal S2x2048x1024 .bf16)

theorem rv58_lo (b : Fin 2) (s : Fin 2048) (l : Fin 1024) (hl : l.val < 768) : val_main_v58 (F := Ideal) x0 x1 x2 x3 x4 (ix3 b s l) = x4 (ix3 b s l) := by
  unfold val_main_v58
  rw [concatenate_cons_apply, concatenateAt_cons]
  refine (dif_pos (show (ix3 b s l 2 : Fin 1024).val < 768 from hl)).trans ?_
  exact (val_main_v3_apply x4 _).trans (congrArg x4 ext3)

theorem rv58_hi (hv : VReal x0) (b : Fin 2) (n : Fin 16) (t : Fin 128) (h : Fin 4) (c : Fin 64) : val_main_v58 (F := Ideal) x0 x1 x2 x3 x4 (ix3 b (sx n t) ⟨768 + (64 * h.val + c.val), by omega⟩) = val x0 x1 x2 x3 b n t h c := by
  unfold val_main_v58
  rw [concatenate_cons_apply, concatenateAt_cons]
  refine (dif_neg (show ¬ 768 + (64 * h.val + c.val) < 768 by omega)).trans ?_
  rw [concatenateAt_singleton]
  refine (congrArg (val_main_v57 (F := Ideal) x0 x1 x2 x3) (ext3 (h2 := by show 768 + (64 * h.val + c.val) - 768 = 64 * h.val + c.val; omega))).trans (rv57 hv b n t h c)

end

open Cert.SgFwdIdeal Cert.SgFwdIdeal.Gen Cert.SgFwdIdeal.Value

variable (m : (ℓ : Loc nD τ sig) → Buf (Elt Ideal) ℓ) (c : Dev nD)

theorem final4 (hp : Cert.Pre_SgFwdIdeal_v_finite m) :
    (dats m 0 c).arrAt 4 cfg0.N = Cert.SgFwdRefIdeal.Read.val_main_v58 (F := Ideal) (A0 m c) (A1 m c) (A2 m c) (A3 m c) (A4 m c) := by
  have hv : VReal (A0 m c) := fun b s l => by
    refine (finite_of ?_).symm
    refine Eq.trans (congrArg (fun x : EReal => Ideal.cmp .olt (max x (-x)) (Ideal.ofBits .f32 0x7F800000#32)) (congrArg (A0 m c) (ext3 (h0 := by show b.val = 0 + b.val; omega) (h1 := by show s.val = 0 + s.val; omega)))) (congrFun (hp c) (ix3 b s l))
  funext y
  rw [eq_ix3 y]
  have h0 : (y 1).val < 2048 := (y 1).isLt
  have h2 : (y 2).val < 1024 := (y 2).isLt
  by_cases hl : (y 2).val < 768
  · exact (final4_lo m c (y 0) (y 1) (y 2) hl).trans (rv58_lo (A4 m c) (y 0) (y 1) (y 2) hl).symm
  · have es : (y 1 : Fin 2048) = sx ⟨(y 1).val / 128, by omega⟩ ⟨(y 1).val % 128, by omega⟩ := Fin.ext (by show (y 1).val = 128 * ((y 1).val / 128) + (y 1).val % 128; omega)
    have el : (y 2 : Fin 1024) = ⟨768 + (64 * ((⟨((y 2).val - 768) / 64, by omega⟩ : Fin 4)).val + ((⟨((y 2).val - 768) % 64, by omega⟩ : Fin 64)).val), by show 768 + (64 * (((y 2).val - 768) / 64) + ((y 2).val - 768) % 64) < 1024; omega⟩ :=
      Fin.ext (by show (y 2).val = 768 + (64 * (((y 2).val - 768) / 64) + ((y 2).val - 768) % 64); omega)
    rw [es, el]
    exact (final4_hi hv (y 0) _ _ _ _).trans (rv58_hi (A4 m c) hv (y 0) _ _ _ _).symm

theorem frame_r : Cert.quiescent_SgFwdRefIdeal := by
  intro m ρ _
  exact (θ_run Cert.SgFwdRefIdeal.defs _ _).mono (fun r h => ⟨fun c => (h c).2, Idealize.ShloMosaic.sem_eq_zero_of_no_sems (by decide) r.2⟩)
    (Cert.SgFwdRefIdeal.Value.run (F := Ideal) m ρ)

theorem algebraic : Cert.algebraic_SgFwdIdeal_SgFwdRefIdeal_pre_v_finite := by
  intro m ρ m' ρ' hpre hag
  refine ⟨fun c => (dats m 0 c).arrAt 4 cfg0.N, run_blocks m ρ, ?_⟩
  refine (θ_run Cert.SgFwdRefIdeal.defs _ _).mono (fun r h c => ?_) (Cert.SgFwdRefIdeal.Value.run (F := Ideal) m' ρ')
  obtain ⟨r4, ra⟩ := h c
  obtain ⟨g0, g1, g2, g3, g4⟩ := hag c
  refine ⟨?_, ra⟩
  · refine (r4.trans (Cert.SgFwdRefIdeal.Read.val_main_v58_eq _ _)).trans ?_
    rw [g0, g1, g2, g3, g4]
    exact (final4 m c hpre).symm

end Cert.SgFwdVal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.FfnBwd
public import proofs.«01_k».proof.Proof.Gen.FfnBwd.Skeleton
public import proofs.«01_k».proof.Proof.Gen.FfnBwd.Launch
public import proofs.«01_k».proof.Proof.Gen.FfnBwd.Points
public import proofs.«01_k».proof.Proof.Gen.FfnBwd.Frame
public import proofs.«01_k».proof.Proof.Gen.FfnBwdIdeal
public import proofs.«01_k».proof.Proof.Gen.FfnBwdIdeal.Skeleton
public import proofs.«01_k».proof.Proof.Gen.FfnBwdIdeal.Launch
public import proofs.«01_k».proof.Proof.Gen.FfnBwdIdeal.Points
public import proofs.«01_k».proof.Proof.Gen.FfnBwdIdeal.Frame
public import proofs.«01_k».proof.Proof.Gen.FfnBwdRefIdeal
public import proofs.«01_k».proof.Proof.Gen.FfnFwd
public import proofs.«01_k».proof.Proof.Gen.FfnFwd.Skeleton
public import proofs.«01_k».proof.Proof.Gen.FfnFwd.Launch
public import proofs.«01_k».proof.Proof.Gen.FfnFwd.Points
public import proofs.«01_k».proof.Proof.Gen.FfnFwd.Frame
public import proofs.«01_k».proof.Proof.Gen.FfnFwdIdeal
public import proofs.«01_k».proof.Proof.Gen.FfnFwdIdeal.Skeleton
public import proofs.«01_k».proof.Proof.Gen.FfnFwdIdeal.Launch
public import proofs.«01_k».proof.Proof.Gen.FfnFwdIdeal.Points
public import proofs.«01_k».proof.Proof.Gen.FfnFwdIdeal.Frame
public import proofs.«01_k».proof.Proof.Gen.FfnFwdRefIdeal
public import proofs.«01_k».proof.Proof.Gen.FfnLoss
public import proofs.«01_k».proof.Proof.Gen.FfnLoss.Skeleton
public import proofs.«01_k».proof.Proof.Gen.FfnLoss.Launch
public import proofs.«01_k».proof.Proof.Gen.FfnLoss.Points
public import proofs.«01_k».proof.Proof.Gen.FfnLoss.Frame
public import proofs.«01_k».proof.Proof.Gen.FfnLossIdeal
public import proofs.«01_k».proof.Proof.Gen.FfnLossIdeal.Skeleton
public import proofs.«01_k».proof.Proof.Gen.FfnLossIdeal.Launch
public import proofs.«01_k».proof.Proof.Gen.FfnLossIdeal.Points
public import proofs.«01_k».proof.Proof.Gen.FfnLossIdeal.Frame
public import proofs.«01_k».proof.Proof.Gen.FfnLossRefIdeal
public import proofs.«01_k».proof.Proof.Gen.InBwd
public import proofs.«01_k».proof.Proof.Gen.InBwd.Skeleton
public import proofs.«01_k».proof.Proof.Gen.InBwd.Launch
public import proofs.«01_k».proof.Proof.Gen.InBwd.Points
public import proofs.«01_k».proof.Proof.Gen.InBwd.Frame
public import proofs.«01_k».proof.Proof.Gen.InBwdIdeal
public import proofs.«01_k».proof.Proof.Gen.InBwdIdeal.Skeleton
public import proofs.«01_k».proof.Proof.Gen.InBwdIdeal.Launch
public import proofs.«01_k».proof.Proof.Gen.InBwdIdeal.Points
public import proofs.«01_k».proof.Proof.Gen.InBwdIdeal.Frame
public import proofs.«01_k».proof.Proof.Gen.InBwdRefIdeal
public import proofs.«01_k».proof.Proof.Gen.InFwd
public import proofs.«01_k».proof.Proof.Gen.InFwd.Skeleton
public import proofs.«01_k».proof.Proof.Gen.InFwd.Launch
public import proofs.«01_k».proof.Proof.Gen.InFwd.Points
public import proofs.«01_k».proof.Proof.Gen.InFwd.Frame
public import proofs.«01_k».proof.Proof.Gen.InFwdIdeal
public import proofs.«01_k».proof.Proof.Gen.InFwdIdeal.Skeleton
public import proofs.«01_k».proof.Proof.Gen.InFwdIdeal.Launch
public import proofs.«01_k».proof.Proof.Gen.InFwdIdeal.Points
public import proofs.«01_k».proof.Proof.Gen.InFwdIdeal.Frame
public import proofs.«01_k».proof.Proof.Gen.InFwdRefIdeal
public import proofs.«01_k».proof.Proof.Gen.DwFf1
public import proofs.«01_k».proof.Proof.Gen.DwFf1.Skeleton
public import proofs.«01_k».proof.Proof.Gen.DwFf1.Launch
public import proofs.«01_k».proof.Proof.Gen.DwFf1.Points
public import proofs.«01_k».proof.Proof.Gen.DwFf1.Frame
public import proofs.«01_k».proof.Proof.Gen.DwFf1Ideal
public import proofs.«01_k».proof.Proof.Gen.DwFf1Ideal.Skeleton
public import proofs.«01_k».proof.Proof.Gen.DwFf1Ideal.Launch
public import proofs.«01_k».proof.Proof.Gen.DwFf1Ideal.Points
public import proofs.«01_k».proof.Proof.Gen.DwFf1Ideal.Frame
public import proofs.«01_k».proof.Proof.Gen.DwFf1RefIdeal
public import proofs.«01_k».proof.Proof.Gen.DwFf2
public import proofs.«01_k».proof.Proof.Gen.DwFf2.Skeleton
public import proofs.«01_k».proof.Proof.Gen.DwFf2.Launch
public import proofs.«01_k».proof.Proof.Gen.DwFf2.Points
public import proofs.«01_k».proof.Proof.Gen.DwFf2.Frame
public import proofs.«01_k».proof.Proof.Gen.DwFf2Ideal
public import proofs.«01_k».proof.Proof.Gen.DwFf2Ideal.Skeleton
public import proofs.«01_k».proof.Proof.Gen.DwFf2Ideal.Launch
public import proofs.«01_k».proof.Proof.Gen.DwFf2Ideal.Points
public import proofs.«01_k».proof.Proof.Gen.DwFf2Ideal.Frame
public import proofs.«01_k».proof.Proof.Gen.DwFf2RefIdeal
public import proofs.«01_k».proof.Proof.Gen.DwIn
public import proofs.«01_k».proof.Proof.Gen.DwIn.Skeleton
public import proofs.«01_k».proof.Proof.Gen.DwIn.Launch
public import proofs.«01_k».proof.Proof.Gen.DwIn.Points
public import proofs.«01_k».proof.Proof.Gen.DwIn.Frame
public import proofs.«01_k».proof.Proof.Gen.DwInIdeal
public import proofs.«01_k».proof.Proof.Gen.DwInIdeal.Skeleton
public import proofs.«01_k».proof.Proof.Gen.DwInIdeal.Launch
public import proofs.«01_k».proof.Proof.Gen.DwInIdeal.Points
public import proofs.«01_k».proof.Proof.Gen.DwInIdeal.Frame
public import proofs.«01_k».proof.Proof.Gen.DwInRefIdeal
public import proofs.«01_k».proof.Proof.Gen.DwOut
public import proofs.«01_k».proof.Proof.Gen.DwOut.Skeleton
public import proofs.«01_k».proof.Proof.Gen.DwOut.Launch
public import proofs.«01_k».proof.Proof.Gen.DwOut.Points
public import proofs.«01_k».proof.Proof.Gen.DwOut.Frame
public import proofs.«01_k».proof.Proof.Gen.DwOutIdeal
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.DwOutRefIdeal
public import proofs.«01_k».proof.Proof.Gen.OutBwd
public import proofs.«01_k».proof.Proof.Gen.OutBwd.Skeleton
public import proofs.«01_k».proof.Proof.Gen.OutBwd.Launch
public import proofs.«01_k».proof.Proof.Gen.OutBwd.Points
public import proofs.«01_k».proof.Proof.Gen.OutBwd.Frame
public import proofs.«01_k».proof.Proof.Gen.OutBwdIdeal
public import proofs.«01_k».proof.Proof.Gen.OutBwdIdeal.Skeleton
public import proofs.«01_k».proof.Proof.Gen.OutBwdIdeal.Launch
public import proofs.«01_k».proof.Proof.Gen.OutBwdIdeal.Points
public import proofs.«01_k».proof.Proof.Gen.OutBwdIdeal.Frame
public import proofs.«01_k».proof.Proof.Gen.OutBwdRefIdeal
public import proofs.«01_k».proof.Proof.Gen.OutFwd
public import proofs.«01_k».proof.Proof.Gen.OutFwd.Skeleton
public import proofs.«01_k».proof.Proof.Gen.OutFwd.Launch
public import proofs.«01_k».proof.Proof.Gen.OutFwd.Points
public import proofs.«01_k».proof.Proof.Gen.OutFwd.Frame
public import proofs.«01_k».proof.Proof.Gen.OutFwdIdeal
public import proofs.«01_k».proof.Proof.Gen.OutFwdIdeal.Skeleton
public import proofs.«01_k».proof.Proof.Gen.OutFwdIdeal.Launch
public import proofs.«01_k».proof.Proof.Gen.OutFwdIdeal.Points
public import proofs.«01_k».proof.Proof.Gen.OutFwdIdeal.Frame
public import proofs.«01_k».proof.Proof.Gen.OutFwdRefIdeal
public import proofs.«01_k».proof.Proof.Gen.SgFwd
public import proofs.«01_k».proof.Proof.Gen.SgFwd.Skeleton
public import proofs.«01_k».proof.Proof.Gen.SgFwd.Launch
public import proofs.«01_k».proof.Proof.Gen.SgFwd.Points
public import proofs.«01_k».proof.Proof.Gen.SgFwd.Frame
public import proofs.«01_k».proof.Proof.Gen.SgFwdIdeal
public import proofs.«01_k».proof.Proof.Gen.SgFwdIdeal.Skeleton
public import proofs.«01_k».proof.Proof.Gen.SgFwdIdeal.Launch
public import proofs.«01_k».proof.Proof.Gen.SgFwdIdeal.Points
public import proofs.«01_k».proof.Proof.Gen.SgFwdIdeal.Frame
public import proofs.«01_k».proof.Proof.Gen.SgFwdRefIdeal
public import proofs.«01_k».proof.Proof.Gen.Pre_all_finite
public import proofs.«01_k».proof.Proof.Gen.Pre_ffn_finite
public import proofs.«01_k».proof.Proof.Gen.Pre_in_finite
public import proofs.«01_k».proof.Proof.Gen.Pre_v_finite
public import proofs.«01_k».proof.Proof.Gen.FfnBwdIdeal.Value
public import proofs.«01_k».proof.Proof.Gen.FfnBwdRefIdeal.Run
public import proofs.«01_k».proof.Proof.Gen.FfnBwdRefIdeal.Read
public import proofs.«01_k».proof.Proof.Gen.FfnFwdIdeal.Value
public import proofs.«01_k».proof.Proof.Gen.FfnFwdRefIdeal.Run
public import proofs.«01_k».proof.Proof.Gen.FfnFwdRefIdeal.Read
public import proofs.«01_k».proof.Proof.Gen.InBwdIdeal.Value
public import proofs.«01_k».proof.Proof.Gen.InBwdRefIdeal.Run
public import proofs.«01_k».proof.Proof.Gen.InBwdRefIdeal.Read
public import proofs.«01_k».proof.Proof.Gen.InFwdIdeal.Value
public import proofs.«01_k».proof.Proof.Gen.InFwdRefIdeal.Run
public import proofs.«01_k».proof.Proof.Gen.InFwdRefIdeal.Read
public import proofs.«01_k».proof.Proof.Gen.DwFf1Ideal.Value
public import proofs.«01_k».proof.Proof.Gen.DwFf1RefIdeal.Run
public import proofs.«01_k».proof.Proof.Gen.DwFf1RefIdeal.Read
public import proofs.«01_k».proof.Proof.Gen.DwFf2Ideal.Value
public import proofs.«01_k».proof.Proof.Gen.DwFf2RefIdeal.Run
public import proofs.«01_k».proof.Proof.Gen.DwFf2RefIdeal.Read
public import proofs.«01_k».proof.Proof.Gen.DwInIdeal.Value
public import proofs.«01_k».proof.Proof.Gen.DwInRefIdeal.Run
public import proofs.«01_k».proof.Proof.Gen.DwInRefIdeal.Read
public import proofs.«01_k».proof.Proof.Gen.DwOutIdeal.Value
public import proofs.«01_k».proof.Proof.Gen.DwOutRefIdeal.Run
public import proofs.«01_k».proof.Proof.Gen.DwOutRefIdeal.Read
public import proofs.«01_k».proof.Proof.Gen.OutBwdIdeal.Value
public import proofs.«01_k».proof.Proof.Gen.OutBwdRefIdeal.Run
public import proofs.«01_k».proof.Proof.Gen.OutBwdRefIdeal.Read
public import proofs.«01_k».proof.Proof.Gen.OutFwdIdeal.Value
public import proofs.«01_k».proof.Proof.Gen.OutFwdRefIdeal.Run
public import proofs.«01_k».proof.Proof.Gen.OutFwdRefIdeal.Read
public import proofs.«01_k».proof.Proof.Gen.KernelIdeal.Value
public import proofs.«01_k».proof.Proof.Gen.ReferenceIdeal.Run
public import proofs.«01_k».proof.Proof.Gen.ReferenceIdeal.Read
public import proofs.«01_k».proof.Proof.Equal
public import proofs.«01_k».proof.Proof.Gen.FfnLossIdeal.Value
public import proofs.«01_k».proof.Proof.Gen.FfnLossRefIdeal.Run
public import proofs.«01_k».proof.Proof.Gen.FfnLossRefIdeal.Read
public import proofs.«01_k».proof.Proof.Gen.SgFwdIdeal.Value
public import proofs.«01_k».proof.Proof.Gen.SgFwdRefIdeal.Run
public import proofs.«01_k».proof.Proof.Gen.SgFwdRefIdeal.Read
public import proofs.«01_k».proof.Proof.FfnBwdVal
public import proofs.«01_k».proof.Proof.FfnFwdVal
public import proofs.«01_k».proof.Proof.FfnLossVal
public import proofs.«01_k».proof.Proof.InBwdVal
public import proofs.«01_k».proof.Proof.InFwdVal
public import proofs.«01_k».proof.Proof.DwFf1Val
public import proofs.«01_k».proof.Proof.DwFf2Val
public import proofs.«01_k».proof.Proof.DwInVal
public import proofs.«01_k».proof.Proof.DwOutVal
public import proofs.«01_k».proof.Proof.OutBwdVal
public import proofs.«01_k».proof.Proof.OutFwdVal
public import proofs.«01_k».proof.Proof.SgFwdVal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's frame: its run keeps the arguments, and it declares no semaphore. -/
theorem frame_r : Cert.quiescent_ReferenceIdeal := by
  intro m ρ _
  exact (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

/-- On finite arguments both programs end with the same four arrays. -/
theorem algebraic : Cert.algebraic_KernelIdeal_ReferenceIdeal_pre_all_finite := by
  intro m ρ m' ρ' hp hag
  refine ⟨fun c => (Cert.KernelIdeal.Gen.dats m 0 c).arrAt 5 Cert.KernelIdeal.cfg0.N, fun c => (Cert.KernelIdeal.Gen.dats m 0 c).arrAt 6 Cert.KernelIdeal.cfg0.N,
    fun c => (Cert.KernelIdeal.Gen.dats m 0 c).arrAt 7 Cert.KernelIdeal.cfg0.N, fun c => (Cert.KernelIdeal.Gen.dats m 0 c).arrAt 8 Cert.KernelIdeal.cfg0.N,
    Cert.KernelIdeal.Value.run_blocks m ρ, ?_⟩
  refine (θ_run Cert.ReferenceIdeal.defs _ _).mono (fun r h c => ?_) (Cert.ReferenceIdeal.Value.run (F := Ideal) m' ρ')
  obtain ⟨r0, r1, r2, r3, ra⟩ := h c
  obtain ⟨g0, g1, g2, g3, g4, g5⟩ := hag c
  have H := Cert.SgBwd.holds_of_pre hp c
  refine ⟨(r0.trans (Cert.ReferenceIdeal.Read.val_main_v137_eq _)).trans ?_, (r1.trans (Cert.ReferenceIdeal.Read.val_main_v138_eq _)).trans ?_,
    (r2.trans (Cert.ReferenceIdeal.Read.val_main_v86_eq _)).trans ?_, (r3.trans (Cert.ReferenceIdeal.Read.val_main_v140_eq _)).trans ?_, ra⟩
  · rw [StableHlo.launchContents_devRef, StableHlo.launchContents_devRef, StableHlo.launchContents_devRef, StableHlo.launchContents_devRef,
      StableHlo.launchContents_devRef, StableHlo.launchContents_devRef, g0, g1, g2, g3, g4, g5]
    exact (Cert.SgBwd.same5 H).symm
  · rw [StableHlo.launchContents_devRef, StableHlo.launchContents_devRef, StableHlo.launchContents_devRef, g0, g2, g4]
    exact (Cert.SgBwd.same6 H).symm
  · rw [StableHlo.launchContents_devRef, StableHlo.launchContents_devRef, StableHlo.launchContents_devRef, g0, g1, g4]
    exact (Cert.SgBwd.same7 H).symm
  · rw [StableHlo.launchContents_devRef, StableHlo.launchContents_devRef, g0, g4]
    exact (Cert.SgBwd.same8 H).symm

theorem claim : Cert.Claim := ⟨Cert.Kernel.Gen.facts, Cert.KernelIdeal.Gen.facts, Cert.ReferenceIdeal.Gen.facts, Cert.FfnBwd.Gen.facts, Cert.FfnBwdIdeal.Gen.facts, Cert.FfnBwdRefIdeal.Gen.facts, Cert.FfnFwd.Gen.facts, Cert.FfnFwdIdeal.Gen.facts, Cert.FfnFwdRefIdeal.Gen.facts, Cert.FfnLoss.Gen.facts, Cert.FfnLossIdeal.Gen.facts, Cert.FfnLossRefIdeal.Gen.facts, Cert.InBwd.Gen.facts, Cert.InBwdIdeal.Gen.facts, Cert.InBwdRefIdeal.Gen.facts, Cert.InFwd.Gen.facts, Cert.InFwdIdeal.Gen.facts, Cert.InFwdRefIdeal.Gen.facts, Cert.DwFf1.Gen.facts, Cert.DwFf1Ideal.Gen.facts, Cert.DwFf1RefIdeal.Gen.facts, Cert.DwFf2.Gen.facts, Cert.DwFf2Ideal.Gen.facts, Cert.DwFf2RefIdeal.Gen.facts, Cert.DwIn.Gen.facts, Cert.DwInIdeal.Gen.facts, Cert.DwInRefIdeal.Gen.facts, Cert.DwOut.Gen.facts, Cert.DwOutIdeal.Gen.facts, Cert.DwOutRefIdeal.Gen.facts, Cert.OutBwd.Gen.facts, Cert.OutBwdIdeal.Gen.facts, Cert.OutBwdRefIdeal.Gen.facts, Cert.OutFwd.Gen.facts, Cert.OutFwdIdeal.Gen.facts, Cert.OutFwdRefIdeal.Gen.facts, Cert.SgFwd.Gen.facts, Cert.SgFwdIdeal.Gen.facts, Cert.SgFwdRefIdeal.Gen.facts, Cert.Pre_all_finite.Gen.facts, Cert.Pre_ffn_finite.Gen.facts, Cert.Pre_in_finite.Gen.facts, Cert.Pre_v_finite.Gen.facts,
  fun m ρ _ => Cert.Kernel.Gen.frame m ρ, fun m ρ _ => Cert.KernelIdeal.Gen.frame m ρ, fun m ρ _ => Cert.KernelIdeal.Gen.frame m ρ, frame_r, fun m ρ _ => frame_r m ρ trivial,
  fun m ρ _ => Cert.FfnBwd.Gen.frame m ρ, fun m ρ _ => Cert.FfnBwdIdeal.Gen.frame m ρ, fun m ρ _ => Cert.FfnBwdIdeal.Gen.frame m ρ, Cert.FfnBwdVal.frame_r, fun m ρ _ => Cert.FfnBwdVal.frame_r m ρ trivial,
  fun m ρ _ => Cert.FfnFwd.Gen.frame m ρ, fun m ρ _ => Cert.FfnFwdIdeal.Gen.frame m ρ, Cert.FfnFwdVal.frame_r,
  fun m ρ _ => Cert.FfnLoss.Gen.frame m ρ, fun m ρ _ => Cert.FfnLossIdeal.Gen.frame m ρ, Cert.FfnLossVal.frame_r,
  fun m ρ _ => Cert.InBwd.Gen.frame m ρ, fun m ρ _ => Cert.InBwdIdeal.Gen.frame m ρ, fun m ρ _ => Cert.InBwdIdeal.Gen.frame m ρ, Cert.InBwdVal.frame_r, fun m ρ _ => Cert.InBwdVal.frame_r m ρ trivial,
  fun m ρ _ => Cert.InFwd.Gen.frame m ρ, fun m ρ _ => Cert.InFwdIdeal.Gen.frame m ρ, Cert.InFwdVal.frame_r,
  fun m ρ _ => Cert.DwFf1.Gen.frame m ρ, fun m ρ _ => Cert.DwFf1Ideal.Gen.frame m ρ, Cert.DwFf1Val.frame_r,
  fun m ρ _ => Cert.DwFf2.Gen.frame m ρ, fun m ρ _ => Cert.DwFf2Ideal.Gen.frame m ρ, Cert.DwFf2Val.frame_r,
  fun m ρ _ => Cert.DwIn.Gen.frame m ρ, fun m ρ _ => Cert.DwInIdeal.Gen.frame m ρ, Cert.DwInVal.frame_r,
  fun m ρ _ => Cert.DwOut.Gen.frame m ρ, fun m ρ _ => Cert.DwOutIdeal.Gen.frame m ρ, Cert.DwOutVal.frame_r,
  fun m ρ _ => Cert.OutBwd.Gen.frame m ρ, fun m ρ _ => Cert.OutBwdIdeal.Gen.frame m ρ, Cert.OutBwdVal.frame_r,
  fun m ρ _ => Cert.OutFwd.Gen.frame m ρ, fun m ρ _ => Cert.OutFwdIdeal.Gen.frame m ρ, Cert.OutFwdVal.frame_r,
  fun m ρ _ => Cert.SgFwd.Gen.frame m ρ, fun m ρ _ => Cert.SgFwdIdeal.Gen.frame m ρ, fun m ρ _ => Cert.SgFwdIdeal.Gen.frame m ρ, Cert.SgFwdVal.frame_r, fun m ρ _ => Cert.SgFwdVal.frame_r m ρ trivial,
  trivial, algebraic,
  trivial, Cert.FfnBwdVal.algebraic,
  trivial, Cert.FfnFwdVal.algebraic,
  trivial, Cert.FfnLossVal.algebraic,
  trivial, Cert.InBwdVal.algebraic,
  trivial, Cert.InFwdVal.algebraic,
  trivial, Cert.DwFf1Val.algebraic,
  trivial, Cert.DwFf2Val.algebraic,
  trivial, Cert.DwInVal.algebraic,
  trivial, Cert.DwOutVal.algebraic,
  trivial, Cert.OutBwdVal.algebraic,
  trivial, Cert.OutFwdVal.algebraic,
  trivial, Cert.SgFwdVal.algebraic⟩

end Cert.Proof

end
